-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S_ : Shape := ⟨0, ![]⟩
abbrev S1 : Shape := ⟨1, ![1]⟩
abbrev S2 : Shape := ⟨1, ![2]⟩
abbrev S32 : Shape := ⟨1, ![32]⟩
abbrev S32x1 : Shape := ⟨2, ![32, 1]⟩
abbrev S32x2 : Shape := ⟨2, ![32, 2]⟩
abbrev S1x2 : Shape := ⟨2, ![1, 2]⟩
abbrev S32x2x1 : Shape := ⟨3, ![32, 2, 1]⟩
abbrev S32x2x2 : Shape := ⟨3, ![32, 2, 2]⟩
abbrev S32x1x2 : Shape := ⟨3, ![32, 1, 2]⟩
abbrev S16384 : Shape := ⟨1, ![16384]⟩
abbrev S1x16384 : Shape := ⟨2, ![1, 16384]⟩
abbrev S32x16384 : Shape := ⟨2, ![32, 16384]⟩
abbrev S1x1 : Shape := ⟨2, ![1, 1]⟩
abbrev S32x128x128 : Shape := ⟨3, ![32, 128, 128]⟩
abbrev S32x4x128 : Shape := ⟨3, ![32, 4, 128]⟩
abbrev S4x128x128 : Shape := ⟨3, ![4, 128, 128]⟩
abbrev S2x128x128 : Shape := ⟨3, ![2, 128, 128]⟩
abbrev S1x128x128 : Shape := ⟨3, ![1, 128, 128]⟩
abbrev S128x128 : Shape := ⟨2, ![128, 128]⟩
abbrev S1x1x128 : Shape := ⟨3, ![1, 1, 128]⟩
abbrev S128 : Shape := ⟨1, ![128]⟩
abbrev S16384x128 : Shape := ⟨2, ![16384, 128]⟩
abbrev S1x1x16 : Shape := ⟨3, ![1, 1, 16]⟩
abbrev S16 : Shape := ⟨1, ![16]⟩

abbrev nBuf : Table → Nat
  | .hbm => 1043
  | .local .scVector .vmem => 3
  | _ => 0

abbrev hbmTy0_0 (i : Nat) : BufTy := match i % 128 with
  | 0 => ⟨S16384x2048, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S32, .i32⟩
  | 12 => ⟨S32, .i32⟩
  | 13 => ⟨S_, .i32⟩
  | 14 => ⟨S32, .i32⟩
  | 15 => ⟨S32, .i32⟩
  | 16 => ⟨S32x1, .i32⟩
  | 17 => ⟨S_, .i32⟩
  | 18 => ⟨S32, .i32⟩
  | 19 => ⟨S32, .i32⟩
  | 20 => ⟨S32x1, .i32⟩
  | 21 => ⟨S32x2, .i32⟩
  | 22 => ⟨S1, .i32⟩
  | 23 => ⟨S_, .i32⟩
  | 24 => ⟨S1, .i32⟩
  | 25 => ⟨S_, .i32⟩
  | 26 => ⟨S32x1, .i32⟩
  | 27 => ⟨S32x1, .i32⟩
  | 28 => ⟨S_, .i32⟩
  | 29 => ⟨S_, .i32⟩
  | 30 => ⟨S_, .i32⟩
  | 31 => ⟨S32x1, .i32⟩
  | 32 => ⟨S32x1, .i32⟩
  | 33 => ⟨S32x1, .i32⟩
  | 34 => ⟨S32x1, .i32⟩
  | 35 => ⟨S32x1, .i32⟩
  | 36 => ⟨S_, .i32⟩
  | 37 => ⟨S32x1, .i32⟩
  | 38 => ⟨S32x1, .i32⟩
  | 39 => ⟨S_, .i32⟩
  | 40 => ⟨S32x1, .i32⟩
  | 41 => ⟨S32x1, .i32⟩
  | 42 => ⟨S32x1, .i32⟩
  | 43 => ⟨S32x1, .i32⟩
  | 44 => ⟨S32x1, .i32⟩
  | 45 => ⟨S_, .i32⟩
  | 46 => ⟨S32x1, .i32⟩
  | 47 => ⟨S32x1, .i32⟩
  | 48 => ⟨S_, .i32⟩
  | 49 => ⟨S32x1, .i32⟩
  | 50 => ⟨S32x1, .i32⟩
  | 51 => ⟨S32x1, .i32⟩
  | 52 => ⟨S32x1, .i32⟩
  | 53 => ⟨S32x1, .i32⟩
  | 54 => ⟨S_, .i32⟩
  | 55 => ⟨S32x1, .i32⟩
  | 56 => ⟨S32x1, .i32⟩
  | 57 => ⟨S_, .i32⟩
  | 58 => ⟨S32x1, .i32⟩
  | 59 => ⟨S32x1, .i32⟩
  | 60 => ⟨S32x1, .i32⟩
  | 61 => ⟨S32x1, .i32⟩
  | 62 => ⟨S32x1, .i32⟩
  | 63 => ⟨S_, .i32⟩
  | 64 => ⟨S32x1, .i32⟩
  | 65 => ⟨S32x1, .i32⟩
  | 66 => ⟨S_, .i32⟩
  | 67 => ⟨S32x1, .i32⟩
  | 68 => ⟨S32x1, .i32⟩
  | 69 => ⟨S32x1, .i32⟩
  | 70 => ⟨S32x1, .i32⟩
  | 71 => ⟨S32x1, .i32⟩
  | 72 => ⟨S32x1, .i32⟩
  | 73 => ⟨S32x1, .i32⟩
  | 74 => ⟨S32x1, .i32⟩
  | 75 => ⟨S_, .i32⟩
  | 76 => ⟨S32x1, .i32⟩
  | 77 => ⟨S32x1, .i32⟩
  | 78 => ⟨S32x1, .i32⟩
  | 79 => ⟨S_, .i32⟩
  | 80 => ⟨S32x1, .i32⟩
  | 81 => ⟨S32x1, .i32⟩
  | 82 => ⟨S_, .i32⟩
  | 83 => ⟨S32x1, .i32⟩
  | 84 => ⟨S32x1, .i32⟩
  | 85 => ⟨S32x1, .i32⟩
  | 86 => ⟨S32x1, .i32⟩
  | 87 => ⟨S32x1, .i32⟩
  | 88 => ⟨S_, .i32⟩
  | 89 => ⟨S32x1, .i32⟩
  | 90 => ⟨S32x1, .i32⟩
  | 91 => ⟨S_, .i32⟩
  | 92 => ⟨S32x1, .i32⟩
  | 93 => ⟨S32x1, .i32⟩
  | 94 => ⟨S32x1, .i32⟩
  | 95 => ⟨S32x1, .i32⟩
  | 96 => ⟨S32x1, .i32⟩
  | 97 => ⟨S_, .i32⟩
  | 98 => ⟨S32x1, .i32⟩
  | 99 => ⟨S32x1, .i32⟩
  | 100 => ⟨S_, .i32⟩
  | 101 => ⟨S32x1, .i32⟩
  | 102 => ⟨S32x1, .i32⟩
  | 103 => ⟨S32x1, .i32⟩
  | 104 => ⟨S32x1, .i32⟩
  | 105 => ⟨S32x1, .i32⟩
  | 106 => ⟨S_, .i32⟩
  | 107 => ⟨S32x1, .i32⟩
  | 108 => ⟨S32x1, .i32⟩
  | 109 => ⟨S_, .i32⟩
  | 110 => ⟨S32x1, .i32⟩
  | 111 => ⟨S32x1, .i32⟩
  | 112 => ⟨S32x1, .i32⟩
  | 113 => ⟨S32x1, .i32⟩
  | 114 => ⟨S32x1, .i32⟩
  | 115 => ⟨S32x1, .i32⟩
  | 116 => ⟨S32x1, .i32⟩
  | 117 => ⟨S32x1, .i32⟩
  | 118 => ⟨S_, .i32⟩
  | 119 => ⟨S32x1, .i32⟩
  | 120 => ⟨S32x1, .i32⟩
  | 121 => ⟨S32x1, .i32⟩
  | 122 => ⟨S_, .i32⟩
  | 123 => ⟨S32x1, .i32⟩
  | 124 => ⟨S32x1, .i32⟩
  | 125 => ⟨S_, .i32⟩
  | 126 => ⟨S32x1, .i32⟩
  | 127 => ⟨S32x1, .i32⟩
  | _ => ⟨S16384x2048, .f32⟩

abbrev hbmTy0_1 (i : Nat) : BufTy := match i % 128 with
  | 0 => ⟨S32x1, .i32⟩
  | 1 => ⟨S32x1, .i32⟩
  | 2 => ⟨S32x1, .i32⟩
  | 3 => ⟨S_, .i32⟩
  | 4 => ⟨S32x1, .i32⟩
  | 5 => ⟨S32x1, .i32⟩
  | 6 => ⟨S_, .i32⟩
  | 7 => ⟨S32x1, .i32⟩
  | 8 => ⟨S32x1, .i32⟩
  | 9 => ⟨S32x1, .i32⟩
  | 10 => ⟨S32x1, .i32⟩
  | 11 => ⟨S32x1, .i32⟩
  | 12 => ⟨S_, .i32⟩
  | 13 => ⟨S32x1, .i32⟩
  | 14 => ⟨S32x1, .i32⟩
  | 15 => ⟨S_, .i32⟩
  | 16 => ⟨S32x1, .i32⟩
  | 17 => ⟨S32x1, .i32⟩
  | 18 => ⟨S32x1, .i32⟩
  | 19 => ⟨S32x1, .i32⟩
  | 20 => ⟨S32x1, .i32⟩
  | 21 => ⟨S_, .i32⟩
  | 22 => ⟨S32x1, .i32⟩
  | 23 => ⟨S32x1, .i32⟩
  | 24 => ⟨S_, .i32⟩
  | 25 => ⟨S32x1, .i32⟩
  | 26 => ⟨S32x1, .i32⟩
  | 27 => ⟨S32x1, .i32⟩
  | 28 => ⟨S32x1, .i32⟩
  | 29 => ⟨S32x1, .i32⟩
  | 30 => ⟨S32x1, .i32⟩
  | 31 => ⟨S32x1, .i32⟩
  | 32 => ⟨S32x1, .i32⟩
  | 33 => ⟨S_, .i32⟩
  | 34 => ⟨S32x1, .i32⟩
  | 35 => ⟨S32x1, .i32⟩
  | 36 => ⟨S32x1, .i32⟩
  | 37 => ⟨S_, .i32⟩
  | 38 => ⟨S32x1, .i32⟩
  | 39 => ⟨S32x1, .i32⟩
  | 40 => ⟨S_, .i32⟩
  | 41 => ⟨S32x1, .i32⟩
  | 42 => ⟨S32x1, .i32⟩
  | 43 => ⟨S32x1, .i32⟩
  | 44 => ⟨S32x1, .i32⟩
  | 45 => ⟨S32x1, .i32⟩
  | 46 => ⟨S_, .i32⟩
  | 47 => ⟨S32x1, .i32⟩
  | 48 => ⟨S32x1, .i32⟩
  | 49 => ⟨S_, .i32⟩
  | 50 => ⟨S32x1, .i32⟩
  | 51 => ⟨S32x1, .i32⟩
  | 52 => ⟨S32x1, .i32⟩
  | 53 => ⟨S32x1, .i32⟩
  | 54 => ⟨S32x1, .i32⟩
  | 55 => ⟨S_, .i32⟩
  | 56 => ⟨S32x1, .i32⟩
  | 57 => ⟨S32x1, .i32⟩
  | 58 => ⟨S_, .i32⟩
  | 59 => ⟨S32x1, .i32⟩
  | 60 => ⟨S32x1, .i32⟩
  | 61 => ⟨S32x1, .i32⟩
  | 62 => ⟨S32x1, .i32⟩
  | 63 => ⟨S32x1, .i32⟩
  | 64 => ⟨S_, .i32⟩
  | 65 => ⟨S32x1, .i32⟩
  | 66 => ⟨S32x1, .i32⟩
  | 67 => ⟨S_, .i32⟩
  | 68 => ⟨S32x1, .i32⟩
  | 69 => ⟨S32x1, .i32⟩
  | 70 => ⟨S32x1, .i32⟩
  | 71 => ⟨S32x1, .i32⟩
  | 72 => ⟨S32x1, .i32⟩
  | 73 => ⟨S32x1, .i32⟩
  | 74 => ⟨S32x1, .i32⟩
  | 75 => ⟨S32x1, .i32⟩
  | 76 => ⟨S_, .i32⟩
  | 77 => ⟨S32x1, .i32⟩
  | 78 => ⟨S32x1, .i32⟩
  | 79 => ⟨S32x1, .i32⟩
  | 80 => ⟨S_, .i32⟩
  | 81 => ⟨S32x1, .i32⟩
  | 82 => ⟨S32x1, .i32⟩
  | 83 => ⟨S_, .i32⟩
  | 84 => ⟨S32x1, .i32⟩
  | 85 => ⟨S32x1, .i32⟩
  | 86 => ⟨S32x1, .i32⟩
  | 87 => ⟨S32x1, .i32⟩
  | 88 => ⟨S32x1, .i32⟩
  | 89 => ⟨S_, .i32⟩
  | 90 => ⟨S32x1, .i32⟩
  | 91 => ⟨S32x1, .i32⟩
  | 92 => ⟨S_, .i32⟩
  | 93 => ⟨S32x1, .i32⟩
  | 94 => ⟨S32x1, .i32⟩
  | 95 => ⟨S32x1, .i32⟩
  | 96 => ⟨S32x1, .i32⟩
  | 97 => ⟨S32x1, .i32⟩
  | 98 => ⟨S_, .i32⟩
  | 99 => ⟨S32x1, .i32⟩
  | 100 => ⟨S32x1, .i32⟩
  | 101 => ⟨S_, .i32⟩
  | 102 => ⟨S32x1, .i32⟩
  | 103 => ⟨S32x1, .i32⟩
  | 104 => ⟨S32x1, .i32⟩
  | 105 => ⟨S32x1, .i32⟩
  | 106 => ⟨S32x1, .i32⟩
  | 107 => ⟨S_, .i32⟩
  | 108 => ⟨S32x1, .i32⟩
  | 109 => ⟨S32x1, .i32⟩
  | 110 => ⟨S_, .i32⟩
  | 111 => ⟨S32x1, .i32⟩
  | 112 => ⟨S32x1, .i32⟩
  | 113 => ⟨S32x1, .i32⟩
  | 114 => ⟨S32x1, .i32⟩
  | 115 => ⟨S32x1, .i32⟩
  | 116 => ⟨S32x1, .i32⟩
  | 117 => ⟨S32x1, .i32⟩
  | 118 => ⟨S32x1, .i32⟩
  | 119 => ⟨S_, .i32⟩
  | 120 => ⟨S32x1, .i32⟩
  | 121 => ⟨S32x1, .i32⟩
  | 122 => ⟨S32x2, .i32⟩
  | 123 => ⟨S_, .i32⟩
  | 124 => ⟨S_, .i32⟩
  | 125 => ⟨S_, .i32⟩
  | 126 => ⟨S_, .i32⟩
  | 127 => ⟨S_, .i32⟩
  | _ => ⟨S16384x2048, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1, .i32⟩
  | 14 => ⟨S1, .i32⟩
  | 15 => ⟨S32x1, .i32⟩
  | 16 => ⟨S32, .i32⟩
  | 17 => ⟨S32x1, .i32⟩
  | 18 => ⟨S32, .i32⟩
  | 19 => ⟨S2, .i64⟩
  | 20 => ⟨S_, .i64⟩
  | 21 => ⟨S2, .i64⟩
  | 22 => ⟨S2, .i64⟩
  | 23 => ⟨S_, .i64⟩
  | 24 => ⟨S2, .i64⟩
  | 25 => ⟨S2, .i64⟩
  | 26 => ⟨S2, .i32⟩
  | 27 => ⟨S2, .i32⟩
  | 28 => ⟨S1x2, .i32⟩
  | 29 => ⟨S1x2, .i32⟩
  | 30 => ⟨S32x1, .i32⟩
  | 31 => ⟨S32x1, .i32⟩
  | 32 => ⟨S32x1, .i32⟩
  | 33 => ⟨S_, .i32⟩
  | 34 => ⟨S32x1, .i32⟩
  | 35 => ⟨S32x1, .i32⟩
  | 36 => ⟨S32x2, .i32⟩
  | 37 => ⟨S32x2, .i32⟩
  | 38 => ⟨S32x2, .i32⟩
  | 39 => ⟨S32x2, .i32⟩
  | 40 => ⟨S32x2, .i32⟩
  | 41 => ⟨S32x2, .i32⟩
  | 42 => ⟨S32x2, .i32⟩
  | 43 => ⟨S_, .i32⟩
  | 44 => ⟨S32x2, .i32⟩
  | 45 => ⟨S32x2, .i32⟩
  | 46 => ⟨S_, .i32⟩
  | 47 => ⟨S32x2, .i32⟩
  | 48 => ⟨S32x2, .i32⟩
  | 49 => ⟨S32x2, .i32⟩
  | 50 => ⟨S32x2, .i32⟩
  | 51 => ⟨S32x2, .i32⟩
  | 52 => ⟨S_, .i32⟩
  | 53 => ⟨S32x2, .i32⟩
  | 54 => ⟨S32x2, .i32⟩
  | 55 => ⟨S_, .i32⟩
  | 56 => ⟨S32x2, .i32⟩
  | 57 => ⟨S32x2, .i32⟩
  | 58 => ⟨S32x2, .i32⟩
  | 59 => ⟨S32x2, .i32⟩
  | 60 => ⟨S32x2, .i32⟩
  | 61 => ⟨S_, .i32⟩
  | 62 => ⟨S32x2, .i32⟩
  | 63 => ⟨S32x2, .i32⟩
  | 64 => ⟨S_, .i32⟩
  | 65 => ⟨S32x2, .i32⟩
  | 66 => ⟨S32x2, .i32⟩
  | 67 => ⟨S32x2, .i32⟩
  | 68 => ⟨S32x2, .i32⟩
  | 69 => ⟨S32x2, .i32⟩
  | 70 => ⟨S_, .i32⟩
  | 71 => ⟨S32x2, .i32⟩
  | 72 => ⟨S32x2, .i32⟩
  | 73 => ⟨S_, .i32⟩
  | 74 => ⟨S32x2, .i32⟩
  | 75 => ⟨S32x2, .i32⟩
  | 76 => ⟨S32x2, .i32⟩
  | 77 => ⟨S32x2, .i32⟩
  | 78 => ⟨S32x2, .i32⟩
  | 79 => ⟨S32x2, .i32⟩
  | 80 => ⟨S32x2, .i32⟩
  | 81 => ⟨S32x2, .i32⟩
  | 82 => ⟨S_, .i32⟩
  | 83 => ⟨S32x2, .i32⟩
  | 84 => ⟨S32x2, .i32⟩
  | 85 => ⟨S32x2, .i32⟩
  | 86 => ⟨S_, .i32⟩
  | 87 => ⟨S32x2, .i32⟩
  | 88 => ⟨S32x2, .i32⟩
  | 89 => ⟨S_, .i32⟩
  | 90 => ⟨S32x2, .i32⟩
  | 91 => ⟨S32x2, .i32⟩
  | 92 => ⟨S32x2, .i32⟩
  | 93 => ⟨S32x2, .i32⟩
  | 94 => ⟨S32x2, .i32⟩
  | 95 => ⟨S_, .i32⟩
  | 96 => ⟨S32x2, .i32⟩
  | 97 => ⟨S32x2, .i32⟩
  | 98 => ⟨S_, .i32⟩
  | 99 => ⟨S32x2, .i32⟩
  | 100 => ⟨S32x2, .i32⟩
  | 101 => ⟨S32x2, .i32⟩
  | 102 => ⟨S32x2, .i32⟩
  | 103 => ⟨S32x2, .i32⟩
  | 104 => ⟨S_, .i32⟩
  | 105 => ⟨S32x2, .i32⟩
  | 106 => ⟨S32x2, .i32⟩
  | 107 => ⟨S_, .i32⟩
  | 108 => ⟨S32x2, .i32⟩
  | 109 => ⟨S32x2, .i32⟩
  | 110 => ⟨S32x2, .i32⟩
  | 111 => ⟨S32x2, .i32⟩
  | 112 => ⟨S32x2, .i32⟩
  | 113 => ⟨S_, .i32⟩
  | 114 => ⟨S32x2, .i32⟩
  | 115 => ⟨S32x2, .i32⟩
  | 116 => ⟨S_, .i32⟩
  | 117 => ⟨S32x2, .i32⟩
  | 118 => ⟨S32x2, .i32⟩
  | 119 => ⟨S32x2, .i32⟩
  | 120 => ⟨S32x2, .i32⟩
  | 121 => ⟨S32x2, .i32⟩
  | 122 => ⟨S32x2, .i32⟩
  | 123 => ⟨S32x2, .i32⟩
  | 124 => ⟨S32x2, .i32⟩
  | 125 => ⟨S_, .i32⟩
  | 126 => ⟨S32x2, .i32⟩
  | 127 => ⟨S32x2, .i32⟩
  | _ => ⟨S16384x2048, .f32⟩

abbrev hbmTy0_3 (i : Nat) : BufTy := match i % 128 with
  | 0 => ⟨S32x2, .i32⟩
  | 1 => ⟨S_, .i32⟩
  | 2 => ⟨S32x2, .i32⟩
  | 3 => ⟨S32x2, .i32⟩
  | 4 => ⟨S_, .i32⟩
  | 5 => ⟨S32x2, .i32⟩
  | 6 => ⟨S32x2, .i32⟩
  | 7 => ⟨S32x2, .i32⟩
  | 8 => ⟨S32x2, .i32⟩
  | 9 => ⟨S32x2, .i32⟩
  | 10 => ⟨S_, .i32⟩
  | 11 => ⟨S32x2, .i32⟩
  | 12 => ⟨S32x2, .i32⟩
  | 13 => ⟨S_, .i32⟩
  | 14 => ⟨S32x2, .i32⟩
  | 15 => ⟨S32x2, .i32⟩
  | 16 => ⟨S32x2, .i32⟩
  | 17 => ⟨S32x2, .i32⟩
  | 18 => ⟨S32x2, .i32⟩
  | 19 => ⟨S_, .i32⟩
  | 20 => ⟨S32x2, .i32⟩
  | 21 => ⟨S32x2, .i32⟩
  | 22 => ⟨S_, .i32⟩
  | 23 => ⟨S32x2, .i32⟩
  | 24 => ⟨S32x2, .i32⟩
  | 25 => ⟨S32x2, .i32⟩
  | 26 => ⟨S32x2, .i32⟩
  | 27 => ⟨S32x2, .i32⟩
  | 28 => ⟨S_, .i32⟩
  | 29 => ⟨S32x2, .i32⟩
  | 30 => ⟨S32x2, .i32⟩
  | 31 => ⟨S_, .i32⟩
  | 32 => ⟨S32x2, .i32⟩
  | 33 => ⟨S32x2, .i32⟩
  | 34 => ⟨S32x2, .i32⟩
  | 35 => ⟨S32x2, .i32⟩
  | 36 => ⟨S32x2, .i32⟩
  | 37 => ⟨S32x2, .i32⟩
  | 38 => ⟨S32x2, .i32⟩
  | 39 => ⟨S32x2, .i32⟩
  | 40 => ⟨S_, .i32⟩
  | 41 => ⟨S32x2, .i32⟩
  | 42 => ⟨S32x2, .i32⟩
  | 43 => ⟨S32x2, .i32⟩
  | 44 => ⟨S_, .i32⟩
  | 45 => ⟨S32x2, .i32⟩
  | 46 => ⟨S32x2, .i32⟩
  | 47 => ⟨S_, .i32⟩
  | 48 => ⟨S32x2, .i32⟩
  | 49 => ⟨S32x2, .i32⟩
  | 50 => ⟨S32x2, .i32⟩
  | 51 => ⟨S32x2, .i32⟩
  | 52 => ⟨S32x2, .i32⟩
  | 53 => ⟨S_, .i32⟩
  | 54 => ⟨S32x2, .i32⟩
  | 55 => ⟨S32x2, .i32⟩
  | 56 => ⟨S_, .i32⟩
  | 57 => ⟨S32x2, .i32⟩
  | 58 => ⟨S32x2, .i32⟩
  | 59 => ⟨S32x2, .i32⟩
  | 60 => ⟨S32x2, .i32⟩
  | 61 => ⟨S32x2, .i32⟩
  | 62 => ⟨S_, .i32⟩
  | 63 => ⟨S32x2, .i32⟩
  | 64 => ⟨S32x2, .i32⟩
  | 65 => ⟨S_, .i32⟩
  | 66 => ⟨S32x2, .i32⟩
  | 67 => ⟨S32x2, .i32⟩
  | 68 => ⟨S32x2, .i32⟩
  | 69 => ⟨S32x2, .i32⟩
  | 70 => ⟨S32x2, .i32⟩
  | 71 => ⟨S_, .i32⟩
  | 72 => ⟨S32x2, .i32⟩
  | 73 => ⟨S32x2, .i32⟩
  | 74 => ⟨S_, .i32⟩
  | 75 => ⟨S32x2, .i32⟩
  | 76 => ⟨S32x2, .i32⟩
  | 77 => ⟨S32x2, .i32⟩
  | 78 => ⟨S32x2, .i32⟩
  | 79 => ⟨S32x2, .i32⟩
  | 80 => ⟨S32x2, .i32⟩
  | 81 => ⟨S32x2, .i32⟩
  | 82 => ⟨S32x2, .i32⟩
  | 83 => ⟨S_, .i32⟩
  | 84 => ⟨S32x2, .i32⟩
  | 85 => ⟨S32x2, .i32⟩
  | 86 => ⟨S32x2, .i32⟩
  | 87 => ⟨S_, .i32⟩
  | 88 => ⟨S32x2, .i32⟩
  | 89 => ⟨S32x2, .i32⟩
  | 90 => ⟨S_, .i32⟩
  | 91 => ⟨S32x2, .i32⟩
  | 92 => ⟨S32x2, .i32⟩
  | 93 => ⟨S32x2, .i32⟩
  | 94 => ⟨S32x2, .i32⟩
  | 95 => ⟨S32x2, .i32⟩
  | 96 => ⟨S_, .i32⟩
  | 97 => ⟨S32x2, .i32⟩
  | 98 => ⟨S32x2, .i32⟩
  | 99 => ⟨S_, .i32⟩
  | 100 => ⟨S32x2, .i32⟩
  | 101 => ⟨S32x2, .i32⟩
  | 102 => ⟨S32x2, .i32⟩
  | 103 => ⟨S32x2, .i32⟩
  | 104 => ⟨S32x2, .i32⟩
  | 105 => ⟨S_, .i32⟩
  | 106 => ⟨S32x2, .i32⟩
  | 107 => ⟨S32x2, .i32⟩
  | 108 => ⟨S_, .i32⟩
  | 109 => ⟨S32x2, .i32⟩
  | 110 => ⟨S32x2, .i32⟩
  | 111 => ⟨S32x2, .i32⟩
  | 112 => ⟨S32x2, .i32⟩
  | 113 => ⟨S32x2, .i32⟩
  | 114 => ⟨S_, .i32⟩
  | 115 => ⟨S32x2, .i32⟩
  | 116 => ⟨S32x2, .i32⟩
  | 117 => ⟨S_, .i32⟩
  | 118 => ⟨S32x2, .i32⟩
  | 119 => ⟨S32x2, .i32⟩
  | 120 => ⟨S32x2, .i32⟩
  | 121 => ⟨S32x2, .i32⟩
  | 122 => ⟨S32x2, .i32⟩
  | 123 => ⟨S32x2, .i32⟩
  | 124 => ⟨S32x2, .i32⟩
  | 125 => ⟨S32x2, .i32⟩
  | 126 => ⟨S_, .i32⟩
  | 127 => ⟨S32x2, .i32⟩
  | _ => ⟨S16384x2048, .f32⟩

abbrev hbmTy0_4 (i : Nat) : BufTy := match i % 128 with
  | 0 => ⟨S32x2, .i32⟩
  | 1 => ⟨S32x2x1, .i32⟩
  | 2 => ⟨S32x2x1, .i32⟩
  | 3 => ⟨S32x2x2, .i32⟩
  | 4 => ⟨S32x1x2, .i32⟩
  | 5 => ⟨S32x2, .i32⟩
  | 6 => ⟨S32x1x2, .i32⟩
  | 7 => ⟨S32x2, .i32⟩
  | 8 => ⟨S32x1, .i32⟩
  | 9 => ⟨S32, .i32⟩
  | 10 => ⟨S32x1, .i32⟩
  | 11 => ⟨S32, .i32⟩
  | 12 => ⟨S16384, .i64⟩
  | 13 => ⟨S_, .i64⟩
  | 14 => ⟨S16384, .i64⟩
  | 15 => ⟨S16384, .i64⟩
  | 16 => ⟨S_, .i64⟩
  | 17 => ⟨S16384, .i64⟩
  | 18 => ⟨S16384, .i64⟩
  | 19 => ⟨S16384, .i32⟩
  | 20 => ⟨S16384, .i32⟩
  | 21 => ⟨S1x16384, .i32⟩
  | 22 => ⟨S1x16384, .i32⟩
  | 23 => ⟨S32x1, .i32⟩
  | 24 => ⟨S32x1, .i32⟩
  | 25 => ⟨S32x1, .i32⟩
  | 26 => ⟨S_, .i32⟩
  | 27 => ⟨S32x1, .i32⟩
  | 28 => ⟨S32x1, .i32⟩
  | 29 => ⟨S32x16384, .i32⟩
  | 30 => ⟨S32x16384, .i32⟩
  | 31 => ⟨S32x16384, .i32⟩
  | 32 => ⟨S32x16384, .i32⟩
  | 33 => ⟨S32x16384, .i32⟩
  | 34 => ⟨S32x16384, .i32⟩
  | 35 => ⟨S32x16384, .i32⟩
  | 36 => ⟨S_, .i32⟩
  | 37 => ⟨S32x16384, .i32⟩
  | 38 => ⟨S32x16384, .i32⟩
  | 39 => ⟨S_, .i32⟩
  | 40 => ⟨S32x16384, .i32⟩
  | 41 => ⟨S32x16384, .i32⟩
  | 42 => ⟨S32x16384, .i32⟩
  | 43 => ⟨S32x16384, .i32⟩
  | 44 => ⟨S32x16384, .i32⟩
  | 45 => ⟨S_, .i32⟩
  | 46 => ⟨S32x16384, .i32⟩
  | 47 => ⟨S32x16384, .i32⟩
  | 48 => ⟨S_, .i32⟩
  | 49 => ⟨S32x16384, .i32⟩
  | 50 => ⟨S32x16384, .i32⟩
  | 51 => ⟨S32x16384, .i32⟩
  | 52 => ⟨S32x16384, .i32⟩
  | 53 => ⟨S32x16384, .i32⟩
  | 54 => ⟨S_, .i32⟩
  | 55 => ⟨S32x16384, .i32⟩
  | 56 => ⟨S32x16384, .i32⟩
  | 57 => ⟨S_, .i32⟩
  | 58 => ⟨S32x16384, .i32⟩
  | 59 => ⟨S32x16384, .i32⟩
  | 60 => ⟨S32x16384, .i32⟩
  | 61 => ⟨S32x16384, .i32⟩
  | 62 => ⟨S32x16384, .i32⟩
  | 63 => ⟨S_, .i32⟩
  | 64 => ⟨S32x16384, .i32⟩
  | 65 => ⟨S32x16384, .i32⟩
  | 66 => ⟨S_, .i32⟩
  | 67 => ⟨S32x16384, .i32⟩
  | 68 => ⟨S32x16384, .i32⟩
  | 69 => ⟨S32x16384, .i32⟩
  | 70 => ⟨S32x16384, .i32⟩
  | 71 => ⟨S32x16384, .i32⟩
  | 72 => ⟨S32x16384, .i32⟩
  | 73 => ⟨S32x16384, .i32⟩
  | 74 => ⟨S32x16384, .i32⟩
  | 75 => ⟨S_, .i32⟩
  | 76 => ⟨S32x16384, .i32⟩
  | 77 => ⟨S32x16384, .i32⟩
  | 78 => ⟨S32x16384, .i32⟩
  | 79 => ⟨S_, .i32⟩
  | 80 => ⟨S32x16384, .i32⟩
  | 81 => ⟨S32x16384, .i32⟩
  | 82 => ⟨S_, .i32⟩
  | 83 => ⟨S32x16384, .i32⟩
  | 84 => ⟨S32x16384, .i32⟩
  | 85 => ⟨S32x16384, .i32⟩
  | 86 => ⟨S32x16384, .i32⟩
  | 87 => ⟨S32x16384, .i32⟩
  | 88 => ⟨S_, .i32⟩
  | 89 => ⟨S32x16384, .i32⟩
  | 90 => ⟨S32x16384, .i32⟩
  | 91 => ⟨S_, .i32⟩
  | 92 => ⟨S32x16384, .i32⟩
  | 93 => ⟨S32x16384, .i32⟩
  | 94 => ⟨S32x16384, .i32⟩
  | 95 => ⟨S32x16384, .i32⟩
  | 96 => ⟨S32x16384, .i32⟩
  | 97 => ⟨S_, .i32⟩
  | 98 => ⟨S32x16384, .i32⟩
  | 99 => ⟨S32x16384, .i32⟩
  | 100 => ⟨S_, .i32⟩
  | 101 => ⟨S32x16384, .i32⟩
  | 102 => ⟨S32x16384, .i32⟩
  | 103 => ⟨S32x16384, .i32⟩
  | 104 => ⟨S32x16384, .i32⟩
  | 105 => ⟨S32x16384, .i32⟩
  | 106 => ⟨S_, .i32⟩
  | 107 => ⟨S32x16384, .i32⟩
  | 108 => ⟨S32x16384, .i32⟩
  | 109 => ⟨S_, .i32⟩
  | 110 => ⟨S32x16384, .i32⟩
  | 111 => ⟨S32x16384, .i32⟩
  | 112 => ⟨S32x16384, .i32⟩
  | 113 => ⟨S32x16384, .i32⟩
  | 114 => ⟨S32x16384, .i32⟩
  | 115 => ⟨S32x16384, .i32⟩
  | 116 => ⟨S32x16384, .i32⟩
  | 117 => ⟨S32x16384, .i32⟩
  | 118 => ⟨S_, .i32⟩
  | 119 => ⟨S32x16384, .i32⟩
  | 120 => ⟨S32x16384, .i32⟩
  | 121 => ⟨S32x16384, .i32⟩
  | 122 => ⟨S_, .i32⟩
  | 123 => ⟨S32x16384, .i32⟩
  | 124 => ⟨S32x16384, .i32⟩
  | 125 => ⟨S_, .i32⟩
  | 126 => ⟨S32x16384, .i32⟩
  | 127 => ⟨S32x16384, .i32⟩
  | _ => ⟨S16384x2048, .f32⟩

abbrev hbmTy0_5 (i : Nat) : BufTy := match i % 128 with
  | 0 => ⟨S32x16384, .i32⟩
  | 1 => ⟨S32x16384, .i32⟩
  | 2 => ⟨S32x16384, .i32⟩
  | 3 => ⟨S_, .i32⟩
  | 4 => ⟨S32x16384, .i32⟩
  | 5 => ⟨S32x16384, .i32⟩
  | 6 => ⟨S_, .i32⟩
  | 7 => ⟨S32x16384, .i32⟩
  | 8 => ⟨S32x16384, .i32⟩
  | 9 => ⟨S32x16384, .i32⟩
  | 10 => ⟨S32x16384, .i32⟩
  | 11 => ⟨S32x16384, .i32⟩
  | 12 => ⟨S_, .i32⟩
  | 13 => ⟨S32x16384, .i32⟩
  | 14 => ⟨S32x16384, .i32⟩
  | 15 => ⟨S_, .i32⟩
  | 16 => ⟨S32x16384, .i32⟩
  | 17 => ⟨S32x16384, .i32⟩
  | 18 => ⟨S32x16384, .i32⟩
  | 19 => ⟨S32x16384, .i32⟩
  | 20 => ⟨S32x16384, .i32⟩
  | 21 => ⟨S_, .i32⟩
  | 22 => ⟨S32x16384, .i32⟩
  | 23 => ⟨S32x16384, .i32⟩
  | 24 => ⟨S_, .i32⟩
  | 25 => ⟨S32x16384, .i32⟩
  | 26 => ⟨S32x16384, .i32⟩
  | 27 => ⟨S32x16384, .i32⟩
  | 28 => ⟨S32x16384, .i32⟩
  | 29 => ⟨S32x16384, .i32⟩
  | 30 => ⟨S32x16384, .i32⟩
  | 31 => ⟨S32x16384, .i32⟩
  | 32 => ⟨S32x16384, .i32⟩
  | 33 => ⟨S_, .i32⟩
  | 34 => ⟨S32x16384, .i32⟩
  | 35 => ⟨S32x16384, .i32⟩
  | 36 => ⟨S32x16384, .i32⟩
  | 37 => ⟨S_, .i32⟩
  | 38 => ⟨S32x16384, .i32⟩
  | 39 => ⟨S32x16384, .i32⟩
  | 40 => ⟨S_, .i32⟩
  | 41 => ⟨S32x16384, .i32⟩
  | 42 => ⟨S32x16384, .i32⟩
  | 43 => ⟨S32x16384, .i32⟩
  | 44 => ⟨S32x16384, .i32⟩
  | 45 => ⟨S32x16384, .i32⟩
  | 46 => ⟨S_, .i32⟩
  | 47 => ⟨S32x16384, .i32⟩
  | 48 => ⟨S32x16384, .i32⟩
  | 49 => ⟨S_, .i32⟩
  | 50 => ⟨S32x16384, .i32⟩
  | 51 => ⟨S32x16384, .i32⟩
  | 52 => ⟨S32x16384, .i32⟩
  | 53 => ⟨S32x16384, .i32⟩
  | 54 => ⟨S32x16384, .i32⟩
  | 55 => ⟨S_, .i32⟩
  | 56 => ⟨S32x16384, .i32⟩
  | 57 => ⟨S32x16384, .i32⟩
  | 58 => ⟨S_, .i32⟩
  | 59 => ⟨S32x16384, .i32⟩
  | 60 => ⟨S32x16384, .i32⟩
  | 61 => ⟨S32x16384, .i32⟩
  | 62 => ⟨S32x16384, .i32⟩
  | 63 => ⟨S32x16384, .i32⟩
  | 64 => ⟨S_, .i32⟩
  | 65 => ⟨S32x16384, .i32⟩
  | 66 => ⟨S32x16384, .i32⟩
  | 67 => ⟨S_, .i32⟩
  | 68 => ⟨S32x16384, .i32⟩
  | 69 => ⟨S32x16384, .i32⟩
  | 70 => ⟨S32x16384, .i32⟩
  | 71 => ⟨S32x16384, .i32⟩
  | 72 => ⟨S32x16384, .i32⟩
  | 73 => ⟨S32x16384, .i32⟩
  | 74 => ⟨S32x16384, .i32⟩
  | 75 => ⟨S32x16384, .i32⟩
  | 76 => ⟨S_, .i32⟩
  | 77 => ⟨S32x16384, .i32⟩
  | 78 => ⟨S32x16384, .i32⟩
  | 79 => ⟨S32x16384, .i32⟩
  | 80 => ⟨S_, .i32⟩
  | 81 => ⟨S32x16384, .i32⟩
  | 82 => ⟨S32x16384, .i32⟩
  | 83 => ⟨S_, .i32⟩
  | 84 => ⟨S32x16384, .i32⟩
  | 85 => ⟨S32x16384, .i32⟩
  | 86 => ⟨S32x16384, .i32⟩
  | 87 => ⟨S32x16384, .i32⟩
  | 88 => ⟨S32x16384, .i32⟩
  | 89 => ⟨S_, .i32⟩
  | 90 => ⟨S32x16384, .i32⟩
  | 91 => ⟨S32x16384, .i32⟩
  | 92 => ⟨S_, .i32⟩
  | 93 => ⟨S32x16384, .i32⟩
  | 94 => ⟨S32x16384, .i32⟩
  | 95 => ⟨S32x16384, .i32⟩
  | 96 => ⟨S32x16384, .i32⟩
  | 97 => ⟨S32x16384, .i32⟩
  | 98 => ⟨S_, .i32⟩
  | 99 => ⟨S32x16384, .i32⟩
  | 100 => ⟨S32x16384, .i32⟩
  | 101 => ⟨S_, .i32⟩
  | 102 => ⟨S32x16384, .i32⟩
  | 103 => ⟨S32x16384, .i32⟩
  | 104 => ⟨S32x16384, .i32⟩
  | 105 => ⟨S32x16384, .i32⟩
  | 106 => ⟨S32x16384, .i32⟩
  | 107 => ⟨S_, .i32⟩
  | 108 => ⟨S32x16384, .i32⟩
  | 109 => ⟨S32x16384, .i32⟩
  | 110 => ⟨S_, .i32⟩
  | 111 => ⟨S32x16384, .i32⟩
  | 112 => ⟨S32x16384, .i32⟩
  | 113 => ⟨S32x16384, .i32⟩
  | 114 => ⟨S32x16384, .i32⟩
  | 115 => ⟨S32x16384, .i32⟩
  | 116 => ⟨S32x16384, .i32⟩
  | 117 => ⟨S32x16384, .i32⟩
  | 118 => ⟨S32x16384, .i32⟩
  | 119 => ⟨S_, .i32⟩
  | 120 => ⟨S32x16384, .i32⟩
  | 121 => ⟨S32x16384, .i32⟩
  | 122 => ⟨S32x16384, .i32⟩
  | 123 => ⟨S32x1, .i32⟩
  | 124 => ⟨S32, .i32⟩
  | 125 => ⟨S32x1, .i32⟩
  | 126 => ⟨S32, .i32⟩
  | 127 => ⟨S16384, .i64⟩
  | _ => ⟨S16384x2048, .f32⟩

abbrev hbmTy0_6 (i : Nat) : BufTy := match i % 128 with
  | 0 => ⟨S_, .i64⟩
  | 1 => ⟨S16384, .i64⟩
  | 2 => ⟨S16384, .i64⟩
  | 3 => ⟨S_, .i64⟩
  | 4 => ⟨S16384, .i64⟩
  | 5 => ⟨S16384, .i64⟩
  | 6 => ⟨S16384, .i32⟩
  | 7 => ⟨S16384, .i32⟩
  | 8 => ⟨S1x16384, .i32⟩
  | 9 => ⟨S1x16384, .i32⟩
  | 10 => ⟨S32x1, .i32⟩
  | 11 => ⟨S32x1, .i32⟩
  | 12 => ⟨S32x1, .i32⟩
  | 13 => ⟨S_, .i32⟩
  | 14 => ⟨S32x1, .i32⟩
  | 15 => ⟨S32x1, .i32⟩
  | 16 => ⟨S32x16384, .i32⟩
  | 17 => ⟨S32x16384, .i32⟩
  | 18 => ⟨S32x16384, .i32⟩
  | 19 => ⟨S32x16384, .i32⟩
  | 20 => ⟨S32x16384, .i32⟩
  | 21 => ⟨S32x16384, .i32⟩
  | 22 => ⟨S32x16384, .i32⟩
  | 23 => ⟨S_, .i32⟩
  | 24 => ⟨S32x16384, .i32⟩
  | 25 => ⟨S32x16384, .i32⟩
  | 26 => ⟨S_, .i32⟩
  | 27 => ⟨S32x16384, .i32⟩
  | 28 => ⟨S32x16384, .i32⟩
  | 29 => ⟨S32x16384, .i32⟩
  | 30 => ⟨S32x16384, .i32⟩
  | 31 => ⟨S32x16384, .i32⟩
  | 32 => ⟨S_, .i32⟩
  | 33 => ⟨S32x16384, .i32⟩
  | 34 => ⟨S32x16384, .i32⟩
  | 35 => ⟨S_, .i32⟩
  | 36 => ⟨S32x16384, .i32⟩
  | 37 => ⟨S32x16384, .i32⟩
  | 38 => ⟨S32x16384, .i32⟩
  | 39 => ⟨S32x16384, .i32⟩
  | 40 => ⟨S32x16384, .i32⟩
  | 41 => ⟨S_, .i32⟩
  | 42 => ⟨S32x16384, .i32⟩
  | 43 => ⟨S32x16384, .i32⟩
  | 44 => ⟨S_, .i32⟩
  | 45 => ⟨S32x16384, .i32⟩
  | 46 => ⟨S32x16384, .i32⟩
  | 47 => ⟨S32x16384, .i32⟩
  | 48 => ⟨S32x16384, .i32⟩
  | 49 => ⟨S32x16384, .i32⟩
  | 50 => ⟨S_, .i32⟩
  | 51 => ⟨S32x16384, .i32⟩
  | 52 => ⟨S32x16384, .i32⟩
  | 53 => ⟨S_, .i32⟩
  | 54 => ⟨S32x16384, .i32⟩
  | 55 => ⟨S32x16384, .i32⟩
  | 56 => ⟨S32x16384, .i32⟩
  | 57 => ⟨S32x16384, .i32⟩
  | 58 => ⟨S32x16384, .i32⟩
  | 59 => ⟨S32x16384, .i32⟩
  | 60 => ⟨S32x16384, .i32⟩
  | 61 => ⟨S32x16384, .i32⟩
  | 62 => ⟨S_, .i32⟩
  | 63 => ⟨S32x16384, .i32⟩
  | 64 => ⟨S32x16384, .i32⟩
  | 65 => ⟨S32x16384, .i32⟩
  | 66 => ⟨S_, .i32⟩
  | 67 => ⟨S32x16384, .i32⟩
  | 68 => ⟨S32x16384, .i32⟩
  | 69 => ⟨S_, .i32⟩
  | 70 => ⟨S32x16384, .i32⟩
  | 71 => ⟨S32x16384, .i32⟩
  | 72 => ⟨S32x16384, .i32⟩
  | 73 => ⟨S32x16384, .i32⟩
  | 74 => ⟨S32x16384, .i32⟩
  | 75 => ⟨S_, .i32⟩
  | 76 => ⟨S32x16384, .i32⟩
  | 77 => ⟨S32x16384, .i32⟩
  | 78 => ⟨S_, .i32⟩
  | 79 => ⟨S32x16384, .i32⟩
  | 80 => ⟨S32x16384, .i32⟩
  | 81 => ⟨S32x16384, .i32⟩
  | 82 => ⟨S32x16384, .i32⟩
  | 83 => ⟨S32x16384, .i32⟩
  | 84 => ⟨S_, .i32⟩
  | 85 => ⟨S32x16384, .i32⟩
  | 86 => ⟨S32x16384, .i32⟩
  | 87 => ⟨S_, .i32⟩
  | 88 => ⟨S32x16384, .i32⟩
  | 89 => ⟨S32x16384, .i32⟩
  | 90 => ⟨S32x16384, .i32⟩
  | 91 => ⟨S32x16384, .i32⟩
  | 92 => ⟨S32x16384, .i32⟩
  | 93 => ⟨S_, .i32⟩
  | 94 => ⟨S32x16384, .i32⟩
  | 95 => ⟨S32x16384, .i32⟩
  | 96 => ⟨S_, .i32⟩
  | 97 => ⟨S32x16384, .i32⟩
  | 98 => ⟨S32x16384, .i32⟩
  | 99 => ⟨S32x16384, .i32⟩
  | 100 => ⟨S32x16384, .i32⟩
  | 101 => ⟨S32x16384, .i32⟩
  | 102 => ⟨S32x16384, .i32⟩
  | 103 => ⟨S32x16384, .i32⟩
  | 104 => ⟨S32x16384, .i32⟩
  | 105 => ⟨S_, .i32⟩
  | 106 => ⟨S32x16384, .i32⟩
  | 107 => ⟨S32x16384, .i32⟩
  | 108 => ⟨S32x16384, .i32⟩
  | 109 => ⟨S_, .i32⟩
  | 110 => ⟨S32x16384, .i32⟩
  | 111 => ⟨S32x16384, .i32⟩
  | 112 => ⟨S_, .i32⟩
  | 113 => ⟨S32x16384, .i32⟩
  | 114 => ⟨S32x16384, .i32⟩
  | 115 => ⟨S32x16384, .i32⟩
  | 116 => ⟨S32x16384, .i32⟩
  | 117 => ⟨S32x16384, .i32⟩
  | 118 => ⟨S_, .i32⟩
  | 119 => ⟨S32x16384, .i32⟩
  | 120 => ⟨S32x16384, .i32⟩
  | 121 => ⟨S_, .i32⟩
  | 122 => ⟨S32x16384, .i32⟩
  | 123 => ⟨S32x16384, .i32⟩
  | 124 => ⟨S32x16384, .i32⟩
  | 125 => ⟨S32x16384, .i32⟩
  | 126 => ⟨S32x16384, .i32⟩
  | 127 => ⟨S_, .i32⟩
  | _ => ⟨S16384x2048, .f32⟩

abbrev hbmTy0_7 (i : Nat) : BufTy := match i % 128 with
  | 0 => ⟨S32x16384, .i32⟩
  | 1 => ⟨S32x16384, .i32⟩
  | 2 => ⟨S_, .i32⟩
  | 3 => ⟨S32x16384, .i32⟩
  | 4 => ⟨S32x16384, .i32⟩
  | 5 => ⟨S32x16384, .i32⟩
  | 6 => ⟨S32x16384, .i32⟩
  | 7 => ⟨S32x16384, .i32⟩
  | 8 => ⟨S_, .i32⟩
  | 9 => ⟨S32x16384, .i32⟩
  | 10 => ⟨S32x16384, .i32⟩
  | 11 => ⟨S_, .i32⟩
  | 12 => ⟨S32x16384, .i32⟩
  | 13 => ⟨S32x16384, .i32⟩
  | 14 => ⟨S32x16384, .i32⟩
  | 15 => ⟨S32x16384, .i32⟩
  | 16 => ⟨S32x16384, .i32⟩
  | 17 => ⟨S32x16384, .i32⟩
  | 18 => ⟨S32x16384, .i32⟩
  | 19 => ⟨S32x16384, .i32⟩
  | 20 => ⟨S_, .i32⟩
  | 21 => ⟨S32x16384, .i32⟩
  | 22 => ⟨S32x16384, .i32⟩
  | 23 => ⟨S32x16384, .i32⟩
  | 24 => ⟨S_, .i32⟩
  | 25 => ⟨S32x16384, .i32⟩
  | 26 => ⟨S32x16384, .i32⟩
  | 27 => ⟨S_, .i32⟩
  | 28 => ⟨S32x16384, .i32⟩
  | 29 => ⟨S32x16384, .i32⟩
  | 30 => ⟨S32x16384, .i32⟩
  | 31 => ⟨S32x16384, .i32⟩
  | 32 => ⟨S32x16384, .i32⟩
  | 33 => ⟨S_, .i32⟩
  | 34 => ⟨S32x16384, .i32⟩
  | 35 => ⟨S32x16384, .i32⟩
  | 36 => ⟨S_, .i32⟩
  | 37 => ⟨S32x16384, .i32⟩
  | 38 => ⟨S32x16384, .i32⟩
  | 39 => ⟨S32x16384, .i32⟩
  | 40 => ⟨S32x16384, .i32⟩
  | 41 => ⟨S32x16384, .i32⟩
  | 42 => ⟨S_, .i32⟩
  | 43 => ⟨S32x16384, .i32⟩
  | 44 => ⟨S32x16384, .i32⟩
  | 45 => ⟨S_, .i32⟩
  | 46 => ⟨S32x16384, .i32⟩
  | 47 => ⟨S32x16384, .i32⟩
  | 48 => ⟨S32x16384, .i32⟩
  | 49 => ⟨S32x16384, .i32⟩
  | 50 => ⟨S32x16384, .i32⟩
  | 51 => ⟨S_, .i32⟩
  | 52 => ⟨S32x16384, .i32⟩
  | 53 => ⟨S32x16384, .i32⟩
  | 54 => ⟨S_, .i32⟩
  | 55 => ⟨S32x16384, .i32⟩
  | 56 => ⟨S32x16384, .i32⟩
  | 57 => ⟨S32x16384, .i32⟩
  | 58 => ⟨S32x16384, .i32⟩
  | 59 => ⟨S32x16384, .i32⟩
  | 60 => ⟨S32x16384, .i32⟩
  | 61 => ⟨S32x16384, .i32⟩
  | 62 => ⟨S32x16384, .i32⟩
  | 63 => ⟨S_, .i32⟩
  | 64 => ⟨S32x16384, .i32⟩
  | 65 => ⟨S32x16384, .i32⟩
  | 66 => ⟨S32x16384, .i32⟩
  | 67 => ⟨S_, .i32⟩
  | 68 => ⟨S32x16384, .i32⟩
  | 69 => ⟨S32x16384, .i32⟩
  | 70 => ⟨S_, .i32⟩
  | 71 => ⟨S32x16384, .i32⟩
  | 72 => ⟨S32x16384, .i32⟩
  | 73 => ⟨S32x16384, .i32⟩
  | 74 => ⟨S32x16384, .i32⟩
  | 75 => ⟨S32x16384, .i32⟩
  | 76 => ⟨S_, .i32⟩
  | 77 => ⟨S32x16384, .i32⟩
  | 78 => ⟨S32x16384, .i32⟩
  | 79 => ⟨S_, .i32⟩
  | 80 => ⟨S32x16384, .i32⟩
  | 81 => ⟨S32x16384, .i32⟩
  | 82 => ⟨S32x16384, .i32⟩
  | 83 => ⟨S32x16384, .i32⟩
  | 84 => ⟨S32x16384, .i32⟩
  | 85 => ⟨S_, .i32⟩
  | 86 => ⟨S32x16384, .i32⟩
  | 87 => ⟨S32x16384, .i32⟩
  | 88 => ⟨S_, .i32⟩
  | 89 => ⟨S32x16384, .i32⟩
  | 90 => ⟨S32x16384, .i32⟩
  | 91 => ⟨S32x16384, .i32⟩
  | 92 => ⟨S32x16384, .i32⟩
  | 93 => ⟨S32x16384, .i32⟩
  | 94 => ⟨S_, .i32⟩
  | 95 => ⟨S32x16384, .i32⟩
  | 96 => ⟨S32x16384, .i32⟩
  | 97 => ⟨S_, .i32⟩
  | 98 => ⟨S32x16384, .i32⟩
  | 99 => ⟨S32x16384, .i32⟩
  | 100 => ⟨S32x16384, .i32⟩
  | 101 => ⟨S32x16384, .i32⟩
  | 102 => ⟨S32x16384, .i32⟩
  | 103 => ⟨S32x16384, .i32⟩
  | 104 => ⟨S32x16384, .i32⟩
  | 105 => ⟨S32x16384, .i32⟩
  | 106 => ⟨S_, .i32⟩
  | 107 => ⟨S32x16384, .i32⟩
  | 108 => ⟨S32x16384, .i32⟩
  | 109 => ⟨S32x16384, .i32⟩
  | 110 => ⟨S1, .i32⟩
  | 111 => ⟨S1, .i32⟩
  | 112 => ⟨S1, .i1⟩
  | 113 => ⟨S_, .i32⟩
  | 114 => ⟨S1, .i32⟩
  | 115 => ⟨S1, .i32⟩
  | 116 => ⟨S1, .i1⟩
  | 117 => ⟨S1, .i1⟩
  | 118 => ⟨S1, .i1⟩
  | 119 => ⟨S_, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S16384x2048, .f32⟩

abbrev hbmTy0_8 (i : Nat) : BufTy := match i % 128 with
  | 0 => ⟨S1x1, .i32⟩
  | 1 => ⟨S32x16384, .i32⟩
  | 2 => ⟨S32x16384, .i32⟩
  | 3 => ⟨S1x1, .i32⟩
  | 4 => ⟨S32x16384, .i32⟩
  | 5 => ⟨S32x16384, .i32⟩
  | 6 => ⟨S1x1, .i32⟩
  | 7 => ⟨S32x16384, .i32⟩
  | 8 => ⟨S32x16384, .i32⟩
  | 9 => ⟨S32x16384, .i32⟩
  | 10 => ⟨S1x1, .i32⟩
  | 11 => ⟨S32x16384, .i32⟩
  | 12 => ⟨S32x16384, .i32⟩
  | 13 => ⟨S32x16384, .i32⟩
  | 14 => ⟨S1x1, .i32⟩
  | 15 => ⟨S32x16384, .i32⟩
  | 16 => ⟨S32x16384, .i32⟩
  | 17 => ⟨S32x128x128, .i32⟩
  | 18 => ⟨S16384x2048, .f32⟩
  | _ => ⟨S16384x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x2048, .f32⟩

abbrev bufTy : (tb : Table) → Fin (nBuf tb) → BufTy
  | .hbm, ⟨i, _⟩ => hbmTy i
  | .local .scVector .vmem, ⟨0, _⟩ => ⟨S32x4x128, .i32⟩
  | .local .scVector .vmem, ⟨1, _⟩ => ⟨S4x128x128, .f32⟩
  | .local .scVector .vmem, ⟨2, _⟩ => ⟨S2x128x128, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c_0 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v13_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v13_1 : Ref sig .tc := ⟨.hbm, 249, rfl⟩
abbrev main_v9 : Ref sig .tc := ⟨.hbm, 250, rfl⟩
abbrev main_c_2 : Ref sig .tc := ⟨.hbm, 251, rfl⟩
abbrev main_c_3 : Ref sig .tc := ⟨.hbm, 252, rfl⟩
abbrev main_call1_c : Ref sig .tc := ⟨.hbm, 253, rfl⟩
abbrev main_call1_c_0 : Ref sig .tc := ⟨.hbm, 254, rfl⟩
abbrev main_call1_c_1 : Ref sig .tc := ⟨.hbm, 255, rfl⟩
abbrev main_call1_call0_v0 : Ref sig .tc := ⟨.hbm, 256, rfl⟩
abbrev main_call1_v0 : Ref sig .tc := ⟨.hbm, 257, rfl⟩
abbrev main_call1_v1 : Ref sig .tc := ⟨.hbm, 258, rfl⟩
abbrev main_call1_c_2 : Ref sig .tc := ⟨.hbm, 259, rfl⟩
abbrev main_call1_c_3 : Ref sig .tc := ⟨.hbm, 260, rfl⟩
abbrev main_call1_call1_v0 : Ref sig .tc := ⟨.hbm, 261, rfl⟩
abbrev main_call1_v2 : Ref sig .tc := ⟨.hbm, 262, rfl⟩
abbrev main_call1_v3 : Ref sig .tc := ⟨.hbm, 263, rfl⟩
abbrev main_call1_c_4 : Ref sig .tc := ⟨.hbm, 264, rfl⟩
abbrev main_call1_c_5 : Ref sig .tc := ⟨.hbm, 265, rfl⟩
abbrev main_call1_call2_v0 : Ref sig .tc := ⟨.hbm, 266, rfl⟩
abbrev main_call1_v4 : Ref sig .tc := ⟨.hbm, 267, rfl⟩
abbrev main_call1_v5 : Ref sig .tc := ⟨.hbm, 268, rfl⟩
abbrev main_call1_v6 : Ref sig .tc := ⟨.hbm, 269, rfl⟩
abbrev main_call1_v7 : Ref sig .tc := ⟨.hbm, 270, rfl⟩
abbrev main_call1_call3_v0 : Ref sig .tc := ⟨.hbm, 271, rfl⟩
abbrev main_call1_call3_v1 : Ref sig .tc := ⟨.hbm, 272, rfl⟩
abbrev main_call1_call3_v2 : Ref sig .tc := ⟨.hbm, 273, rfl⟩
abbrev main_call1_call3_v3 : Ref sig .tc := ⟨.hbm, 274, rfl⟩
abbrev main_call1_call3_v4 : Ref sig .tc := ⟨.hbm, 275, rfl⟩
abbrev main_call1_call3_c : Ref sig .tc := ⟨.hbm, 276, rfl⟩
abbrev main_call1_call3_v5 : Ref sig .tc := ⟨.hbm, 277, rfl⟩
abbrev main_call1_call3_v6 : Ref sig .tc := ⟨.hbm, 278, rfl⟩
abbrev main_call1_call3_c_0 : Ref sig .tc := ⟨.hbm, 279, rfl⟩
abbrev main_call1_call3_v7 : Ref sig .tc := ⟨.hbm, 280, rfl⟩
abbrev main_call1_call3_v8 : Ref sig .tc := ⟨.hbm, 281, rfl⟩
abbrev main_call1_call3_v9 : Ref sig .tc := ⟨.hbm, 282, rfl⟩
abbrev main_call1_call3_v10 : Ref sig .tc := ⟨.hbm, 283, rfl⟩
abbrev main_call1_call3_v11 : Ref sig .tc := ⟨.hbm, 284, rfl⟩
abbrev main_call1_call3_v12 : Ref sig .tc := ⟨.hbm, 285, rfl⟩
abbrev main_call1_call3_v13 : Ref sig .tc := ⟨.hbm, 286, rfl⟩
abbrev main_call1_call3_v14 : Ref sig .tc := ⟨.hbm, 287, rfl⟩
abbrev main_call1_call3_call0_v0 : Ref sig .tc := ⟨.hbm, 288, rfl⟩
abbrev main_call1_call3_call0_c : Ref sig .tc := ⟨.hbm, 289, rfl⟩
abbrev main_call1_call3_call0_v1 : Ref sig .tc := ⟨.hbm, 290, rfl⟩
abbrev main_call1_call3_call0_v2 : Ref sig .tc := ⟨.hbm, 291, rfl⟩
abbrev main_call1_call3_call0_v3 : Ref sig .tc := ⟨.hbm, 292, rfl⟩
abbrev main_call1_call3_call0_v4 : Ref sig .tc := ⟨.hbm, 293, rfl⟩
abbrev main_call1_call3_call0_v5 : Ref sig .tc := ⟨.hbm, 294, rfl⟩
abbrev main_call1_call3_call0_v6 : Ref sig .tc := ⟨.hbm, 295, rfl⟩
abbrev main_call1_call3_call0_v7 : Ref sig .tc := ⟨.hbm, 296, rfl⟩
abbrev main_call1_call3_call0_v8 : Ref sig .tc := ⟨.hbm, 297, rfl⟩
abbrev main_call1_call3_call0_v9 : Ref sig .tc := ⟨.hbm, 298, rfl⟩
abbrev main_call1_call3_call0_c_0 : Ref sig .tc := ⟨.hbm, 299, rfl⟩
abbrev main_call1_call3_call0_v10 : Ref sig .tc := ⟨.hbm, 300, rfl⟩
abbrev main_call1_call3_call0_v11 : Ref sig .tc := ⟨.hbm, 301, rfl⟩
abbrev main_call1_call3_call0_c_1 : Ref sig .tc := ⟨.hbm, 302, rfl⟩
abbrev main_call1_call3_call0_v12 : Ref sig .tc := ⟨.hbm, 303, rfl⟩
abbrev main_call1_call3_call0_v13 : Ref sig .tc := ⟨.hbm, 304, rfl⟩
abbrev main_call1_call3_call0_v14 : Ref sig .tc := ⟨.hbm, 305, rfl⟩
abbrev main_call1_call3_call0_v15 : Ref sig .tc := ⟨.hbm, 306, rfl⟩
abbrev main_call1_call3_call0_v16 : Ref sig .tc := ⟨.hbm, 307, rfl⟩
abbrev main_call1_call3_call0_c_2 : Ref sig .tc := ⟨.hbm, 308, rfl⟩
abbrev main_call1_call3_call0_v17 : Ref sig .tc := ⟨.hbm, 309, rfl⟩
abbrev main_call1_call3_call0_v18 : Ref sig .tc := ⟨.hbm, 310, rfl⟩
abbrev main_call1_call3_call0_c_3 : Ref sig .tc := ⟨.hbm, 311, rfl⟩
abbrev main_call1_call3_call0_v19 : Ref sig .tc := ⟨.hbm, 312, rfl⟩
abbrev main_call1_call3_call0_v20 : Ref sig .tc := ⟨.hbm, 313, rfl⟩
abbrev main_call1_call3_call0_v21 : Ref sig .tc := ⟨.hbm, 314, rfl⟩
abbrev main_call1_call3_call0_v22 : Ref sig .tc := ⟨.hbm, 315, rfl⟩
abbrev main_call1_call3_call0_v23 : Ref sig .tc := ⟨.hbm, 316, rfl⟩
abbrev main_call1_call3_call0_c_4 : Ref sig .tc := ⟨.hbm, 317, rfl⟩
abbrev main_call1_call3_call0_v24 : Ref sig .tc := ⟨.hbm, 318, rfl⟩
abbrev main_call1_call3_call0_v25 : Ref sig .tc := ⟨.hbm, 319, rfl⟩
abbrev main_call1_call3_call0_c_5 : Ref sig .tc := ⟨.hbm, 320, rfl⟩
abbrev main_call1_call3_call0_v26 : Ref sig .tc := ⟨.hbm, 321, rfl⟩
abbrev main_call1_call3_call0_v27 : Ref sig .tc := ⟨.hbm, 322, rfl⟩
abbrev main_call1_call3_call0_v28 : Ref sig .tc := ⟨.hbm, 323, rfl⟩
abbrev main_call1_call3_call0_v29 : Ref sig .tc := ⟨.hbm, 324, rfl⟩
abbrev main_call1_call3_call0_v30 : Ref sig .tc := ⟨.hbm, 325, rfl⟩
abbrev main_call1_call3_call0_c_6 : Ref sig .tc := ⟨.hbm, 326, rfl⟩
abbrev main_call1_call3_call0_v31 : Ref sig .tc := ⟨.hbm, 327, rfl⟩
abbrev main_call1_call3_call0_v32 : Ref sig .tc := ⟨.hbm, 328, rfl⟩
abbrev main_call1_call3_call0_c_7 : Ref sig .tc := ⟨.hbm, 329, rfl⟩
abbrev main_call1_call3_call0_v33 : Ref sig .tc := ⟨.hbm, 330, rfl⟩
abbrev main_call1_call3_call0_v34 : Ref sig .tc := ⟨.hbm, 331, rfl⟩
abbrev main_call1_call3_call0_v35 : Ref sig .tc := ⟨.hbm, 332, rfl⟩
abbrev main_call1_call3_call0_v36 : Ref sig .tc := ⟨.hbm, 333, rfl⟩
abbrev main_call1_call3_call0_v37 : Ref sig .tc := ⟨.hbm, 334, rfl⟩
abbrev main_call1_call3_call0_v38 : Ref sig .tc := ⟨.hbm, 335, rfl⟩
abbrev main_call1_call3_call0_v39 : Ref sig .tc := ⟨.hbm, 336, rfl⟩
abbrev main_call1_call3_call0_v40 : Ref sig .tc := ⟨.hbm, 337, rfl⟩
abbrev main_call1_call3_call0_c_8 : Ref sig .tc := ⟨.hbm, 338, rfl⟩
abbrev main_call1_call3_call0_v41 : Ref sig .tc := ⟨.hbm, 339, rfl⟩
abbrev main_call1_call3_call0_v42 : Ref sig .tc := ⟨.hbm, 340, rfl⟩
abbrev main_call1_call3_call0_v43 : Ref sig .tc := ⟨.hbm, 341, rfl⟩
abbrev main_call1_call3_call0_c_9 : Ref sig .tc := ⟨.hbm, 342, rfl⟩
abbrev main_call1_call3_call0_v44 : Ref sig .tc := ⟨.hbm, 343, rfl⟩
abbrev main_call1_call3_call0_v45 : Ref sig .tc := ⟨.hbm, 344, rfl⟩
abbrev main_call1_call3_call0_c_10 : Ref sig .tc := ⟨.hbm, 345, rfl⟩
abbrev main_call1_call3_call0_v46 : Ref sig .tc := ⟨.hbm, 346, rfl⟩
abbrev main_call1_call3_call0_v47 : Ref sig .tc := ⟨.hbm, 347, rfl⟩
abbrev main_call1_call3_call0_v48 : Ref sig .tc := ⟨.hbm, 348, rfl⟩
abbrev main_call1_call3_call0_v49 : Ref sig .tc := ⟨.hbm, 349, rfl⟩
abbrev main_call1_call3_call0_v50 : Ref sig .tc := ⟨.hbm, 350, rfl⟩
abbrev main_call1_call3_call0_c_11 : Ref sig .tc := ⟨.hbm, 351, rfl⟩
abbrev main_call1_call3_call0_v51 : Ref sig .tc := ⟨.hbm, 352, rfl⟩
abbrev main_call1_call3_call0_v52 : Ref sig .tc := ⟨.hbm, 353, rfl⟩
abbrev main_call1_call3_call0_c_12 : Ref sig .tc := ⟨.hbm, 354, rfl⟩
abbrev main_call1_call3_call0_v53 : Ref sig .tc := ⟨.hbm, 355, rfl⟩
abbrev main_call1_call3_call0_v54 : Ref sig .tc := ⟨.hbm, 356, rfl⟩
abbrev main_call1_call3_call0_v55 : Ref sig .tc := ⟨.hbm, 357, rfl⟩
abbrev main_call1_call3_call0_v56 : Ref sig .tc := ⟨.hbm, 358, rfl⟩
abbrev main_call1_call3_call0_v57 : Ref sig .tc := ⟨.hbm, 359, rfl⟩
abbrev main_call1_call3_call0_c_13 : Ref sig .tc := ⟨.hbm, 360, rfl⟩
abbrev main_call1_call3_call0_v58 : Ref sig .tc := ⟨.hbm, 361, rfl⟩
abbrev main_call1_call3_call0_v59 : Ref sig .tc := ⟨.hbm, 362, rfl⟩
abbrev main_call1_call3_call0_c_14 : Ref sig .tc := ⟨.hbm, 363, rfl⟩
abbrev main_call1_call3_call0_v60 : Ref sig .tc := ⟨.hbm, 364, rfl⟩
abbrev main_call1_call3_call0_v61 : Ref sig .tc := ⟨.hbm, 365, rfl⟩
abbrev main_call1_call3_call0_v62 : Ref sig .tc := ⟨.hbm, 366, rfl⟩
abbrev main_call1_call3_call0_v63 : Ref sig .tc := ⟨.hbm, 367, rfl⟩
abbrev main_call1_call3_call0_v64 : Ref sig .tc := ⟨.hbm, 368, rfl⟩
abbrev main_call1_call3_call0_c_15 : Ref sig .tc := ⟨.hbm, 369, rfl⟩
abbrev main_call1_call3_call0_v65 : Ref sig .tc := ⟨.hbm, 370, rfl⟩
abbrev main_call1_call3_call0_v66 : Ref sig .tc := ⟨.hbm, 371, rfl⟩
abbrev main_call1_call3_call0_c_16 : Ref sig .tc := ⟨.hbm, 372, rfl⟩
abbrev main_call1_call3_call0_v67 : Ref sig .tc := ⟨.hbm, 373, rfl⟩
abbrev main_call1_call3_call0_v68 : Ref sig .tc := ⟨.hbm, 374, rfl⟩
abbrev main_call1_call3_call0_v69 : Ref sig .tc := ⟨.hbm, 375, rfl⟩
abbrev main_call1_call3_call0_v70 : Ref sig .tc := ⟨.hbm, 376, rfl⟩
abbrev main_call1_call3_call0_v71 : Ref sig .tc := ⟨.hbm, 377, rfl⟩
abbrev main_call1_call3_call0_v72 : Ref sig .tc := ⟨.hbm, 378, rfl⟩
abbrev main_call1_call3_call0_v73 : Ref sig .tc := ⟨.hbm, 379, rfl⟩
abbrev main_call1_call3_call0_v74 : Ref sig .tc := ⟨.hbm, 380, rfl⟩
abbrev main_call1_call3_call0_c_17 : Ref sig .tc := ⟨.hbm, 381, rfl⟩
abbrev main_call1_call3_call0_v75 : Ref sig .tc := ⟨.hbm, 382, rfl⟩
abbrev main_call1_call3_call0_v76 : Ref sig .tc := ⟨.hbm, 383, rfl⟩
abbrev main_call1_call3_call0_v77 : Ref sig .tc := ⟨.hbm, 384, rfl⟩
abbrev main_call1_call3_call0_c_18 : Ref sig .tc := ⟨.hbm, 385, rfl⟩
abbrev main_call1_call3_call0_v78 : Ref sig .tc := ⟨.hbm, 386, rfl⟩
abbrev main_call1_call3_call0_v79 : Ref sig .tc := ⟨.hbm, 387, rfl⟩
abbrev main_call1_call3_call0_c_19 : Ref sig .tc := ⟨.hbm, 388, rfl⟩
abbrev main_call1_call3_call0_v80 : Ref sig .tc := ⟨.hbm, 389, rfl⟩
abbrev main_call1_call3_call0_v81 : Ref sig .tc := ⟨.hbm, 390, rfl⟩
abbrev main_call1_call3_call0_v82 : Ref sig .tc := ⟨.hbm, 391, rfl⟩
abbrev main_call1_call3_call0_v83 : Ref sig .tc := ⟨.hbm, 392, rfl⟩
abbrev main_call1_call3_call0_v84 : Ref sig .tc := ⟨.hbm, 393, rfl⟩
abbrev main_call1_call3_call0_c_20 : Ref sig .tc := ⟨.hbm, 394, rfl⟩
abbrev main_call1_call3_call0_v85 : Ref sig .tc := ⟨.hbm, 395, rfl⟩
abbrev main_call1_call3_call0_v86 : Ref sig .tc := ⟨.hbm, 396, rfl⟩
abbrev main_call1_call3_call0_c_21 : Ref sig .tc := ⟨.hbm, 397, rfl⟩
abbrev main_call1_call3_call0_v87 : Ref sig .tc := ⟨.hbm, 398, rfl⟩
abbrev main_call1_call3_call0_v88 : Ref sig .tc := ⟨.hbm, 399, rfl⟩
abbrev main_call1_call3_call0_v89 : Ref sig .tc := ⟨.hbm, 400, rfl⟩
abbrev main_call1_call3_call0_v90 : Ref sig .tc := ⟨.hbm, 401, rfl⟩
abbrev main_call1_call3_call0_v91 : Ref sig .tc := ⟨.hbm, 402, rfl⟩
abbrev main_call1_call3_call0_c_22 : Ref sig .tc := ⟨.hbm, 403, rfl⟩
abbrev main_call1_call3_call0_v92 : Ref sig .tc := ⟨.hbm, 404, rfl⟩
abbrev main_call1_call3_call0_v93 : Ref sig .tc := ⟨.hbm, 405, rfl⟩
abbrev main_call1_call3_call0_c_23 : Ref sig .tc := ⟨.hbm, 406, rfl⟩
abbrev main_call1_call3_call0_v94 : Ref sig .tc := ⟨.hbm, 407, rfl⟩
abbrev main_call1_call3_call0_v95 : Ref sig .tc := ⟨.hbm, 408, rfl⟩
abbrev main_call1_call3_call0_v96 : Ref sig .tc := ⟨.hbm, 409, rfl⟩
abbrev main_call1_call3_call0_v97 : Ref sig .tc := ⟨.hbm, 410, rfl⟩
abbrev main_call1_call3_call0_v98 : Ref sig .tc := ⟨.hbm, 411, rfl⟩
abbrev main_call1_call3_call0_c_24 : Ref sig .tc := ⟨.hbm, 412, rfl⟩
abbrev main_call1_call3_call0_v99 : Ref sig .tc := ⟨.hbm, 413, rfl⟩
abbrev main_call1_call3_call0_v100 : Ref sig .tc := ⟨.hbm, 414, rfl⟩
abbrev main_call1_call3_call0_c_25 : Ref sig .tc := ⟨.hbm, 415, rfl⟩
abbrev main_call1_call3_call0_v101 : Ref sig .tc := ⟨.hbm, 416, rfl⟩
abbrev main_call1_call3_call0_v102 : Ref sig .tc := ⟨.hbm, 417, rfl⟩
abbrev main_call1_call3_call0_v103 : Ref sig .tc := ⟨.hbm, 418, rfl⟩
abbrev main_call1_call3_call0_v104 : Ref sig .tc := ⟨.hbm, 419, rfl⟩
abbrev main_call1_call3_call0_v105 : Ref sig .tc := ⟨.hbm, 420, rfl⟩
abbrev main_call1_call3_call0_v106 : Ref sig .tc := ⟨.hbm, 421, rfl⟩
abbrev main_call1_call3_call0_v107 : Ref sig .tc := ⟨.hbm, 422, rfl⟩
abbrev main_call1_call3_call0_v108 : Ref sig .tc := ⟨.hbm, 423, rfl⟩
abbrev main_call1_call3_call0_c_26 : Ref sig .tc := ⟨.hbm, 424, rfl⟩
abbrev main_call1_call3_call0_v109 : Ref sig .tc := ⟨.hbm, 425, rfl⟩
abbrev main_call1_call3_call0_v110 : Ref sig .tc := ⟨.hbm, 426, rfl⟩
abbrev main_call1_call3_call0_v111 : Ref sig .tc := ⟨.hbm, 427, rfl⟩
abbrev main_call1_call3_call0_c_27 : Ref sig .tc := ⟨.hbm, 428, rfl⟩
abbrev main_call1_call3_call0_v112 : Ref sig .tc := ⟨.hbm, 429, rfl⟩
abbrev main_call1_call3_call0_v113 : Ref sig .tc := ⟨.hbm, 430, rfl⟩
abbrev main_call1_call3_call0_c_28 : Ref sig .tc := ⟨.hbm, 431, rfl⟩
abbrev main_call1_call3_call0_v114 : Ref sig .tc := ⟨.hbm, 432, rfl⟩
abbrev main_call1_call3_call0_v115 : Ref sig .tc := ⟨.hbm, 433, rfl⟩
abbrev main_call1_call3_call0_v116 : Ref sig .tc := ⟨.hbm, 434, rfl⟩
abbrev main_call1_call3_call0_v117 : Ref sig .tc := ⟨.hbm, 435, rfl⟩
abbrev main_call1_call3_call0_v118 : Ref sig .tc := ⟨.hbm, 436, rfl⟩
abbrev main_call1_call3_call0_c_29 : Ref sig .tc := ⟨.hbm, 437, rfl⟩
abbrev main_call1_call3_call0_v119 : Ref sig .tc := ⟨.hbm, 438, rfl⟩
abbrev main_call1_call3_call0_v120 : Ref sig .tc := ⟨.hbm, 439, rfl⟩
abbrev main_call1_call3_call0_c_30 : Ref sig .tc := ⟨.hbm, 440, rfl⟩
abbrev main_call1_call3_call0_v121 : Ref sig .tc := ⟨.hbm, 441, rfl⟩
abbrev main_call1_call3_call0_v122 : Ref sig .tc := ⟨.hbm, 442, rfl⟩
abbrev main_call1_call3_call0_v123 : Ref sig .tc := ⟨.hbm, 443, rfl⟩
abbrev main_call1_call3_call0_v124 : Ref sig .tc := ⟨.hbm, 444, rfl⟩
abbrev main_call1_call3_call0_v125 : Ref sig .tc := ⟨.hbm, 445, rfl⟩
abbrev main_call1_call3_call0_c_31 : Ref sig .tc := ⟨.hbm, 446, rfl⟩
abbrev main_call1_call3_call0_v126 : Ref sig .tc := ⟨.hbm, 447, rfl⟩
abbrev main_call1_call3_call0_v127 : Ref sig .tc := ⟨.hbm, 448, rfl⟩
abbrev main_call1_call3_call0_c_32 : Ref sig .tc := ⟨.hbm, 449, rfl⟩
abbrev main_call1_call3_call0_v128 : Ref sig .tc := ⟨.hbm, 450, rfl⟩
abbrev main_call1_call3_call0_v129 : Ref sig .tc := ⟨.hbm, 451, rfl⟩
abbrev main_call1_call3_call0_v130 : Ref sig .tc := ⟨.hbm, 452, rfl⟩
abbrev main_call1_call3_call0_v131 : Ref sig .tc := ⟨.hbm, 453, rfl⟩
abbrev main_call1_call3_call0_v132 : Ref sig .tc := ⟨.hbm, 454, rfl⟩
abbrev main_call1_call3_call0_c_33 : Ref sig .tc := ⟨.hbm, 455, rfl⟩
abbrev main_call1_call3_call0_v133 : Ref sig .tc := ⟨.hbm, 456, rfl⟩
abbrev main_call1_call3_call0_v134 : Ref sig .tc := ⟨.hbm, 457, rfl⟩
abbrev main_call1_call3_call0_c_34 : Ref sig .tc := ⟨.hbm, 458, rfl⟩
abbrev main_call1_call3_call0_v135 : Ref sig .tc := ⟨.hbm, 459, rfl⟩
abbrev main_call1_call3_call0_v136 : Ref sig .tc := ⟨.hbm, 460, rfl⟩
abbrev main_call1_call3_call0_v137 : Ref sig .tc := ⟨.hbm, 461, rfl⟩
abbrev main_call1_call3_call0_v138 : Ref sig .tc := ⟨.hbm, 462, rfl⟩
abbrev main_call1_call3_call0_v139 : Ref sig .tc := ⟨.hbm, 463, rfl⟩
abbrev main_call1_call3_call0_v140 : Ref sig .tc := ⟨.hbm, 464, rfl⟩
abbrev main_call1_call3_call0_v141 : Ref sig .tc := ⟨.hbm, 465, rfl⟩
abbrev main_call1_call3_call0_v142 : Ref sig .tc := ⟨.hbm, 466, rfl⟩
abbrev main_call1_call3_call0_c_35 : Ref sig .tc := ⟨.hbm, 467, rfl⟩
abbrev main_call1_call3_call0_v143 : Ref sig .tc := ⟨.hbm, 468, rfl⟩
abbrev main_call1_call3_call0_v144 : Ref sig .tc := ⟨.hbm, 469, rfl⟩
abbrev main_call1_call3_call0_v145 : Ref sig .tc := ⟨.hbm, 470, rfl⟩
abbrev main_call1_call3_call0_c_36 : Ref sig .tc := ⟨.hbm, 471, rfl⟩
abbrev main_call1_call3_call0_v146 : Ref sig .tc := ⟨.hbm, 472, rfl⟩
abbrev main_call1_call3_call0_v147 : Ref sig .tc := ⟨.hbm, 473, rfl⟩
abbrev main_call1_call3_call0_c_37 : Ref sig .tc := ⟨.hbm, 474, rfl⟩
abbrev main_call1_call3_call0_v148 : Ref sig .tc := ⟨.hbm, 475, rfl⟩
abbrev main_call1_call3_call0_v149 : Ref sig .tc := ⟨.hbm, 476, rfl⟩
abbrev main_call1_call3_call0_v150 : Ref sig .tc := ⟨.hbm, 477, rfl⟩
abbrev main_call1_call3_call0_v151 : Ref sig .tc := ⟨.hbm, 478, rfl⟩
abbrev main_call1_call3_call0_v152 : Ref sig .tc := ⟨.hbm, 479, rfl⟩
abbrev main_call1_call3_call0_c_38 : Ref sig .tc := ⟨.hbm, 480, rfl⟩
abbrev main_call1_call3_call0_v153 : Ref sig .tc := ⟨.hbm, 481, rfl⟩
abbrev main_call1_call3_call0_v154 : Ref sig .tc := ⟨.hbm, 482, rfl⟩
abbrev main_call1_call3_call0_c_39 : Ref sig .tc := ⟨.hbm, 483, rfl⟩
abbrev main_call1_call3_call0_v155 : Ref sig .tc := ⟨.hbm, 484, rfl⟩
abbrev main_call1_call3_call0_v156 : Ref sig .tc := ⟨.hbm, 485, rfl⟩
abbrev main_call1_call3_call0_v157 : Ref sig .tc := ⟨.hbm, 486, rfl⟩
abbrev main_call1_call3_call0_v158 : Ref sig .tc := ⟨.hbm, 487, rfl⟩
abbrev main_call1_call3_call0_v159 : Ref sig .tc := ⟨.hbm, 488, rfl⟩
abbrev main_call1_call3_call0_c_40 : Ref sig .tc := ⟨.hbm, 489, rfl⟩
abbrev main_call1_call3_call0_v160 : Ref sig .tc := ⟨.hbm, 490, rfl⟩
abbrev main_call1_call3_call0_v161 : Ref sig .tc := ⟨.hbm, 491, rfl⟩
abbrev main_call1_call3_call0_c_41 : Ref sig .tc := ⟨.hbm, 492, rfl⟩
abbrev main_call1_call3_call0_v162 : Ref sig .tc := ⟨.hbm, 493, rfl⟩
abbrev main_call1_call3_call0_v163 : Ref sig .tc := ⟨.hbm, 494, rfl⟩
abbrev main_call1_call3_call0_v164 : Ref sig .tc := ⟨.hbm, 495, rfl⟩
abbrev main_call1_call3_call0_v165 : Ref sig .tc := ⟨.hbm, 496, rfl⟩
abbrev main_call1_call3_call0_v166 : Ref sig .tc := ⟨.hbm, 497, rfl⟩
abbrev main_call1_call3_call0_c_42 : Ref sig .tc := ⟨.hbm, 498, rfl⟩
abbrev main_call1_call3_call0_v167 : Ref sig .tc := ⟨.hbm, 499, rfl⟩
abbrev main_call1_call3_call0_v168 : Ref sig .tc := ⟨.hbm, 500, rfl⟩
abbrev main_call1_call3_call0_c_43 : Ref sig .tc := ⟨.hbm, 501, rfl⟩
abbrev main_call1_call3_call0_v169 : Ref sig .tc := ⟨.hbm, 502, rfl⟩
abbrev main_call1_call3_call0_v170 : Ref sig .tc := ⟨.hbm, 503, rfl⟩
abbrev main_call1_call3_call0_v171 : Ref sig .tc := ⟨.hbm, 504, rfl⟩
abbrev main_call1_call3_call0_v172 : Ref sig .tc := ⟨.hbm, 505, rfl⟩
abbrev main_call1_call3_call0_v173 : Ref sig .tc := ⟨.hbm, 506, rfl⟩
abbrev main_call1_call3_v15_0 : Ref sig .tc := ⟨.hbm, 507, rfl⟩
abbrev main_call1_call3_call0_v175 : Ref sig .tc := ⟨.hbm, 508, rfl⟩
abbrev main_call1_call3_call0_v176 : Ref sig .tc := ⟨.hbm, 509, rfl⟩
abbrev main_call1_call3_call0_c_44 : Ref sig .tc := ⟨.hbm, 510, rfl⟩
abbrev main_call1_call3_call0_v177 : Ref sig .tc := ⟨.hbm, 511, rfl⟩
abbrev main_call1_call3_v15_1 : Ref sig .tc := ⟨.hbm, 512, rfl⟩
abbrev main_call1_call3_v16 : Ref sig .tc := ⟨.hbm, 513, rfl⟩
abbrev main_call1_call3_v17 : Ref sig .tc := ⟨.hbm, 514, rfl⟩
abbrev main_call1_v8 : Ref sig .tc := ⟨.hbm, 515, rfl⟩
abbrev main_call1_v9 : Ref sig .tc := ⟨.hbm, 516, rfl⟩
abbrev main_call1_v10 : Ref sig .tc := ⟨.hbm, 517, rfl⟩
abbrev main_call1_v11 : Ref sig .tc := ⟨.hbm, 518, rfl⟩
abbrev main_call1_v12 : Ref sig .tc := ⟨.hbm, 519, rfl⟩
abbrev main_call1_v13 : Ref sig .tc := ⟨.hbm, 520, rfl⟩
abbrev main_call1_v14 : Ref sig .tc := ⟨.hbm, 521, rfl⟩
abbrev main_call1_v15 : Ref sig .tc := ⟨.hbm, 522, rfl⟩
abbrev main_call1_v16 : Ref sig .tc := ⟨.hbm, 523, rfl⟩
abbrev main_call1_v17 : Ref sig .tc := ⟨.hbm, 524, rfl⟩
abbrev main_call1_c_6 : Ref sig .tc := ⟨.hbm, 525, rfl⟩
abbrev main_call1_v18 : Ref sig .tc := ⟨.hbm, 526, rfl⟩
abbrev main_call1_v19 : Ref sig .tc := ⟨.hbm, 527, rfl⟩
abbrev main_call1_c_7 : Ref sig .tc := ⟨.hbm, 528, rfl⟩
abbrev main_call1_v20 : Ref sig .tc := ⟨.hbm, 529, rfl⟩
abbrev main_call1_v21 : Ref sig .tc := ⟨.hbm, 530, rfl⟩
abbrev main_call1_v22 : Ref sig .tc := ⟨.hbm, 531, rfl⟩
abbrev main_call1_v23 : Ref sig .tc := ⟨.hbm, 532, rfl⟩
abbrev main_call1_v24 : Ref sig .tc := ⟨.hbm, 533, rfl⟩
abbrev main_call1_v25 : Ref sig .tc := ⟨.hbm, 534, rfl⟩
abbrev main_call1_v26 : Ref sig .tc := ⟨.hbm, 535, rfl⟩
abbrev main_call1_v27 : Ref sig .tc := ⟨.hbm, 536, rfl⟩
abbrev main_call1_call4_v0 : Ref sig .tc := ⟨.hbm, 537, rfl⟩
abbrev main_call1_call4_c : Ref sig .tc := ⟨.hbm, 538, rfl⟩
abbrev main_call1_call4_v1 : Ref sig .tc := ⟨.hbm, 539, rfl⟩
abbrev main_call1_call4_v2 : Ref sig .tc := ⟨.hbm, 540, rfl⟩
abbrev main_call1_call4_v3 : Ref sig .tc := ⟨.hbm, 541, rfl⟩
abbrev main_call1_call4_v4 : Ref sig .tc := ⟨.hbm, 542, rfl⟩
abbrev main_call1_call4_v5 : Ref sig .tc := ⟨.hbm, 543, rfl⟩
abbrev main_call1_call4_v6 : Ref sig .tc := ⟨.hbm, 544, rfl⟩
abbrev main_call1_call4_v7 : Ref sig .tc := ⟨.hbm, 545, rfl⟩
abbrev main_call1_call4_v8 : Ref sig .tc := ⟨.hbm, 546, rfl⟩
abbrev main_call1_call4_v9 : Ref sig .tc := ⟨.hbm, 547, rfl⟩
abbrev main_call1_call4_c_0 : Ref sig .tc := ⟨.hbm, 548, rfl⟩
abbrev main_call1_call4_v10 : Ref sig .tc := ⟨.hbm, 549, rfl⟩
abbrev main_call1_call4_v11 : Ref sig .tc := ⟨.hbm, 550, rfl⟩
abbrev main_call1_call4_c_1 : Ref sig .tc := ⟨.hbm, 551, rfl⟩
abbrev main_call1_call4_v12 : Ref sig .tc := ⟨.hbm, 552, rfl⟩
abbrev main_call1_call4_v13 : Ref sig .tc := ⟨.hbm, 553, rfl⟩
abbrev main_call1_call4_v14 : Ref sig .tc := ⟨.hbm, 554, rfl⟩
abbrev main_call1_call4_v15 : Ref sig .tc := ⟨.hbm, 555, rfl⟩
abbrev main_call1_call4_v16 : Ref sig .tc := ⟨.hbm, 556, rfl⟩
abbrev main_call1_call4_c_2 : Ref sig .tc := ⟨.hbm, 557, rfl⟩
abbrev main_call1_call4_v17 : Ref sig .tc := ⟨.hbm, 558, rfl⟩
abbrev main_call1_call4_v18 : Ref sig .tc := ⟨.hbm, 559, rfl⟩
abbrev main_call1_call4_c_3 : Ref sig .tc := ⟨.hbm, 560, rfl⟩
abbrev main_call1_call4_v19 : Ref sig .tc := ⟨.hbm, 561, rfl⟩
abbrev main_call1_call4_v20 : Ref sig .tc := ⟨.hbm, 562, rfl⟩
abbrev main_call1_call4_v21 : Ref sig .tc := ⟨.hbm, 563, rfl⟩
abbrev main_call1_call4_v22 : Ref sig .tc := ⟨.hbm, 564, rfl⟩
abbrev main_call1_call4_v23 : Ref sig .tc := ⟨.hbm, 565, rfl⟩
abbrev main_call1_call4_c_4 : Ref sig .tc := ⟨.hbm, 566, rfl⟩
abbrev main_call1_call4_v24 : Ref sig .tc := ⟨.hbm, 567, rfl⟩
abbrev main_call1_call4_v25 : Ref sig .tc := ⟨.hbm, 568, rfl⟩
abbrev main_call1_call4_c_5 : Ref sig .tc := ⟨.hbm, 569, rfl⟩
abbrev main_call1_call4_v26 : Ref sig .tc := ⟨.hbm, 570, rfl⟩
abbrev main_call1_call4_v27 : Ref sig .tc := ⟨.hbm, 571, rfl⟩
abbrev main_call1_call4_v28 : Ref sig .tc := ⟨.hbm, 572, rfl⟩
abbrev main_call1_call4_v29 : Ref sig .tc := ⟨.hbm, 573, rfl⟩
abbrev main_call1_call4_v30 : Ref sig .tc := ⟨.hbm, 574, rfl⟩
abbrev main_call1_call4_c_6 : Ref sig .tc := ⟨.hbm, 575, rfl⟩
abbrev main_call1_call4_v31 : Ref sig .tc := ⟨.hbm, 576, rfl⟩
abbrev main_call1_call4_v32 : Ref sig .tc := ⟨.hbm, 577, rfl⟩
abbrev main_call1_call4_c_7 : Ref sig .tc := ⟨.hbm, 578, rfl⟩
abbrev main_call1_call4_v33 : Ref sig .tc := ⟨.hbm, 579, rfl⟩
abbrev main_call1_call4_v34 : Ref sig .tc := ⟨.hbm, 580, rfl⟩
abbrev main_call1_call4_v35 : Ref sig .tc := ⟨.hbm, 581, rfl⟩
abbrev main_call1_call4_v36 : Ref sig .tc := ⟨.hbm, 582, rfl⟩
abbrev main_call1_call4_v37 : Ref sig .tc := ⟨.hbm, 583, rfl⟩
abbrev main_call1_call4_v38 : Ref sig .tc := ⟨.hbm, 584, rfl⟩
abbrev main_call1_call4_v39 : Ref sig .tc := ⟨.hbm, 585, rfl⟩
abbrev main_call1_call4_v40 : Ref sig .tc := ⟨.hbm, 586, rfl⟩
abbrev main_call1_call4_c_8 : Ref sig .tc := ⟨.hbm, 587, rfl⟩
abbrev main_call1_call4_v41 : Ref sig .tc := ⟨.hbm, 588, rfl⟩
abbrev main_call1_call4_v42 : Ref sig .tc := ⟨.hbm, 589, rfl⟩
abbrev main_call1_call4_v43 : Ref sig .tc := ⟨.hbm, 590, rfl⟩
abbrev main_call1_call4_c_9 : Ref sig .tc := ⟨.hbm, 591, rfl⟩
abbrev main_call1_call4_v44 : Ref sig .tc := ⟨.hbm, 592, rfl⟩
abbrev main_call1_call4_v45 : Ref sig .tc := ⟨.hbm, 593, rfl⟩
abbrev main_call1_call4_c_10 : Ref sig .tc := ⟨.hbm, 594, rfl⟩
abbrev main_call1_call4_v46 : Ref sig .tc := ⟨.hbm, 595, rfl⟩
abbrev main_call1_call4_v47 : Ref sig .tc := ⟨.hbm, 596, rfl⟩
abbrev main_call1_call4_v48 : Ref sig .tc := ⟨.hbm, 597, rfl⟩
abbrev main_call1_call4_v49 : Ref sig .tc := ⟨.hbm, 598, rfl⟩
abbrev main_call1_call4_v50 : Ref sig .tc := ⟨.hbm, 599, rfl⟩
abbrev main_call1_call4_c_11 : Ref sig .tc := ⟨.hbm, 600, rfl⟩
abbrev main_call1_call4_v51 : Ref sig .tc := ⟨.hbm, 601, rfl⟩
abbrev main_call1_call4_v52 : Ref sig .tc := ⟨.hbm, 602, rfl⟩
abbrev main_call1_call4_c_12 : Ref sig .tc := ⟨.hbm, 603, rfl⟩
abbrev main_call1_call4_v53 : Ref sig .tc := ⟨.hbm, 604, rfl⟩
abbrev main_call1_call4_v54 : Ref sig .tc := ⟨.hbm, 605, rfl⟩
abbrev main_call1_call4_v55 : Ref sig .tc := ⟨.hbm, 606, rfl⟩
abbrev main_call1_call4_v56 : Ref sig .tc := ⟨.hbm, 607, rfl⟩
abbrev main_call1_call4_v57 : Ref sig .tc := ⟨.hbm, 608, rfl⟩
abbrev main_call1_call4_c_13 : Ref sig .tc := ⟨.hbm, 609, rfl⟩
abbrev main_call1_call4_v58 : Ref sig .tc := ⟨.hbm, 610, rfl⟩
abbrev main_call1_call4_v59 : Ref sig .tc := ⟨.hbm, 611, rfl⟩
abbrev main_call1_call4_c_14 : Ref sig .tc := ⟨.hbm, 612, rfl⟩
abbrev main_call1_call4_v60 : Ref sig .tc := ⟨.hbm, 613, rfl⟩
abbrev main_call1_call4_v61 : Ref sig .tc := ⟨.hbm, 614, rfl⟩
abbrev main_call1_call4_v62 : Ref sig .tc := ⟨.hbm, 615, rfl⟩
abbrev main_call1_call4_v63 : Ref sig .tc := ⟨.hbm, 616, rfl⟩
abbrev main_call1_call4_v64 : Ref sig .tc := ⟨.hbm, 617, rfl⟩
abbrev main_call1_call4_c_15 : Ref sig .tc := ⟨.hbm, 618, rfl⟩
abbrev main_call1_call4_v65 : Ref sig .tc := ⟨.hbm, 619, rfl⟩
abbrev main_call1_call4_v66 : Ref sig .tc := ⟨.hbm, 620, rfl⟩
abbrev main_call1_call4_c_16 : Ref sig .tc := ⟨.hbm, 621, rfl⟩
abbrev main_call1_call4_v67 : Ref sig .tc := ⟨.hbm, 622, rfl⟩
abbrev main_call1_call4_v68 : Ref sig .tc := ⟨.hbm, 623, rfl⟩
abbrev main_call1_call4_v69 : Ref sig .tc := ⟨.hbm, 624, rfl⟩
abbrev main_call1_call4_v70 : Ref sig .tc := ⟨.hbm, 625, rfl⟩
abbrev main_call1_call4_v71 : Ref sig .tc := ⟨.hbm, 626, rfl⟩
abbrev main_call1_call4_v72 : Ref sig .tc := ⟨.hbm, 627, rfl⟩
abbrev main_call1_call4_v73 : Ref sig .tc := ⟨.hbm, 628, rfl⟩
abbrev main_call1_call4_v74 : Ref sig .tc := ⟨.hbm, 629, rfl⟩
abbrev main_call1_call4_c_17 : Ref sig .tc := ⟨.hbm, 630, rfl⟩
abbrev main_call1_call4_v75 : Ref sig .tc := ⟨.hbm, 631, rfl⟩
abbrev main_call1_call4_v76 : Ref sig .tc := ⟨.hbm, 632, rfl⟩
abbrev main_call1_call4_v77 : Ref sig .tc := ⟨.hbm, 633, rfl⟩
abbrev main_call1_call4_c_18 : Ref sig .tc := ⟨.hbm, 634, rfl⟩
abbrev main_call1_call4_v78 : Ref sig .tc := ⟨.hbm, 635, rfl⟩
abbrev main_call1_call4_v79 : Ref sig .tc := ⟨.hbm, 636, rfl⟩
abbrev main_call1_call4_c_19 : Ref sig .tc := ⟨.hbm, 637, rfl⟩
abbrev main_call1_call4_v80 : Ref sig .tc := ⟨.hbm, 638, rfl⟩
abbrev main_call1_call4_v81 : Ref sig .tc := ⟨.hbm, 639, rfl⟩
abbrev main_call1_call4_v82 : Ref sig .tc := ⟨.hbm, 640, rfl⟩
abbrev main_call1_call4_v83 : Ref sig .tc := ⟨.hbm, 641, rfl⟩
abbrev main_call1_call4_v84 : Ref sig .tc := ⟨.hbm, 642, rfl⟩
abbrev main_call1_call4_c_20 : Ref sig .tc := ⟨.hbm, 643, rfl⟩
abbrev main_call1_call4_v85 : Ref sig .tc := ⟨.hbm, 644, rfl⟩
abbrev main_call1_call4_v86 : Ref sig .tc := ⟨.hbm, 645, rfl⟩
abbrev main_call1_call4_c_21 : Ref sig .tc := ⟨.hbm, 646, rfl⟩
abbrev main_call1_call4_v87 : Ref sig .tc := ⟨.hbm, 647, rfl⟩
abbrev main_call1_call4_v88 : Ref sig .tc := ⟨.hbm, 648, rfl⟩
abbrev main_call1_call4_v89 : Ref sig .tc := ⟨.hbm, 649, rfl⟩
abbrev main_call1_call4_v90 : Ref sig .tc := ⟨.hbm, 650, rfl⟩
abbrev main_call1_call4_v91 : Ref sig .tc := ⟨.hbm, 651, rfl⟩
abbrev main_call1_call4_c_22 : Ref sig .tc := ⟨.hbm, 652, rfl⟩
abbrev main_call1_call4_v92 : Ref sig .tc := ⟨.hbm, 653, rfl⟩
abbrev main_call1_call4_v93 : Ref sig .tc := ⟨.hbm, 654, rfl⟩
abbrev main_call1_call4_c_23 : Ref sig .tc := ⟨.hbm, 655, rfl⟩
abbrev main_call1_call4_v94 : Ref sig .tc := ⟨.hbm, 656, rfl⟩
abbrev main_call1_call4_v95 : Ref sig .tc := ⟨.hbm, 657, rfl⟩
abbrev main_call1_call4_v96 : Ref sig .tc := ⟨.hbm, 658, rfl⟩
abbrev main_call1_call4_v97 : Ref sig .tc := ⟨.hbm, 659, rfl⟩
abbrev main_call1_call4_v98 : Ref sig .tc := ⟨.hbm, 660, rfl⟩
abbrev main_call1_call4_c_24 : Ref sig .tc := ⟨.hbm, 661, rfl⟩
abbrev main_call1_call4_v99 : Ref sig .tc := ⟨.hbm, 662, rfl⟩
abbrev main_call1_call4_v100 : Ref sig .tc := ⟨.hbm, 663, rfl⟩
abbrev main_call1_call4_c_25 : Ref sig .tc := ⟨.hbm, 664, rfl⟩
abbrev main_call1_call4_v101 : Ref sig .tc := ⟨.hbm, 665, rfl⟩
abbrev main_call1_call4_v102 : Ref sig .tc := ⟨.hbm, 666, rfl⟩
abbrev main_call1_call4_v103 : Ref sig .tc := ⟨.hbm, 667, rfl⟩
abbrev main_call1_call4_v104 : Ref sig .tc := ⟨.hbm, 668, rfl⟩
abbrev main_call1_call4_v105 : Ref sig .tc := ⟨.hbm, 669, rfl⟩
abbrev main_call1_call4_v106 : Ref sig .tc := ⟨.hbm, 670, rfl⟩
abbrev main_call1_call4_v107 : Ref sig .tc := ⟨.hbm, 671, rfl⟩
abbrev main_call1_call4_v108 : Ref sig .tc := ⟨.hbm, 672, rfl⟩
abbrev main_call1_call4_c_26 : Ref sig .tc := ⟨.hbm, 673, rfl⟩
abbrev main_call1_call4_v109 : Ref sig .tc := ⟨.hbm, 674, rfl⟩
abbrev main_call1_call4_v110 : Ref sig .tc := ⟨.hbm, 675, rfl⟩
abbrev main_call1_call4_v111 : Ref sig .tc := ⟨.hbm, 676, rfl⟩
abbrev main_call1_call4_c_27 : Ref sig .tc := ⟨.hbm, 677, rfl⟩
abbrev main_call1_call4_v112 : Ref sig .tc := ⟨.hbm, 678, rfl⟩
abbrev main_call1_call4_v113 : Ref sig .tc := ⟨.hbm, 679, rfl⟩
abbrev main_call1_call4_c_28 : Ref sig .tc := ⟨.hbm, 680, rfl⟩
abbrev main_call1_call4_v114 : Ref sig .tc := ⟨.hbm, 681, rfl⟩
abbrev main_call1_call4_v115 : Ref sig .tc := ⟨.hbm, 682, rfl⟩
abbrev main_call1_call4_v116 : Ref sig .tc := ⟨.hbm, 683, rfl⟩
abbrev main_call1_call4_v117 : Ref sig .tc := ⟨.hbm, 684, rfl⟩
abbrev main_call1_call4_v118 : Ref sig .tc := ⟨.hbm, 685, rfl⟩
abbrev main_call1_call4_c_29 : Ref sig .tc := ⟨.hbm, 686, rfl⟩
abbrev main_call1_call4_v119 : Ref sig .tc := ⟨.hbm, 687, rfl⟩
abbrev main_call1_call4_v120 : Ref sig .tc := ⟨.hbm, 688, rfl⟩
abbrev main_call1_call4_c_30 : Ref sig .tc := ⟨.hbm, 689, rfl⟩
abbrev main_call1_call4_v121 : Ref sig .tc := ⟨.hbm, 690, rfl⟩
abbrev main_call1_call4_v122 : Ref sig .tc := ⟨.hbm, 691, rfl⟩
abbrev main_call1_call4_v123 : Ref sig .tc := ⟨.hbm, 692, rfl⟩
abbrev main_call1_call4_v124 : Ref sig .tc := ⟨.hbm, 693, rfl⟩
abbrev main_call1_call4_v125 : Ref sig .tc := ⟨.hbm, 694, rfl⟩
abbrev main_call1_call4_c_31 : Ref sig .tc := ⟨.hbm, 695, rfl⟩
abbrev main_call1_call4_v126 : Ref sig .tc := ⟨.hbm, 696, rfl⟩
abbrev main_call1_call4_v127 : Ref sig .tc := ⟨.hbm, 697, rfl⟩
abbrev main_call1_call4_c_32 : Ref sig .tc := ⟨.hbm, 698, rfl⟩
abbrev main_call1_call4_v128 : Ref sig .tc := ⟨.hbm, 699, rfl⟩
abbrev main_call1_call4_v129 : Ref sig .tc := ⟨.hbm, 700, rfl⟩
abbrev main_call1_call4_v130 : Ref sig .tc := ⟨.hbm, 701, rfl⟩
abbrev main_call1_call4_v131 : Ref sig .tc := ⟨.hbm, 702, rfl⟩
abbrev main_call1_call4_v132 : Ref sig .tc := ⟨.hbm, 703, rfl⟩
abbrev main_call1_call4_c_33 : Ref sig .tc := ⟨.hbm, 704, rfl⟩
abbrev main_call1_call4_v133 : Ref sig .tc := ⟨.hbm, 705, rfl⟩
abbrev main_call1_call4_v134 : Ref sig .tc := ⟨.hbm, 706, rfl⟩
abbrev main_call1_call4_c_34 : Ref sig .tc := ⟨.hbm, 707, rfl⟩
abbrev main_call1_call4_v135 : Ref sig .tc := ⟨.hbm, 708, rfl⟩
abbrev main_call1_call4_v136 : Ref sig .tc := ⟨.hbm, 709, rfl⟩
abbrev main_call1_call4_v137 : Ref sig .tc := ⟨.hbm, 710, rfl⟩
abbrev main_call1_call4_v138 : Ref sig .tc := ⟨.hbm, 711, rfl⟩
abbrev main_call1_call4_v139 : Ref sig .tc := ⟨.hbm, 712, rfl⟩
abbrev main_call1_call4_v140 : Ref sig .tc := ⟨.hbm, 713, rfl⟩
abbrev main_call1_call4_v141 : Ref sig .tc := ⟨.hbm, 714, rfl⟩
abbrev main_call1_call4_v142 : Ref sig .tc := ⟨.hbm, 715, rfl⟩
abbrev main_call1_call4_c_35 : Ref sig .tc := ⟨.hbm, 716, rfl⟩
abbrev main_call1_call4_v143 : Ref sig .tc := ⟨.hbm, 717, rfl⟩
abbrev main_call1_call4_v144 : Ref sig .tc := ⟨.hbm, 718, rfl⟩
abbrev main_call1_call4_v145 : Ref sig .tc := ⟨.hbm, 719, rfl⟩
abbrev main_call1_call4_c_36 : Ref sig .tc := ⟨.hbm, 720, rfl⟩
abbrev main_call1_call4_v146 : Ref sig .tc := ⟨.hbm, 721, rfl⟩
abbrev main_call1_call4_v147 : Ref sig .tc := ⟨.hbm, 722, rfl⟩
abbrev main_call1_call4_c_37 : Ref sig .tc := ⟨.hbm, 723, rfl⟩
abbrev main_call1_call4_v148 : Ref sig .tc := ⟨.hbm, 724, rfl⟩
abbrev main_call1_call4_v149 : Ref sig .tc := ⟨.hbm, 725, rfl⟩
abbrev main_call1_call4_v150 : Ref sig .tc := ⟨.hbm, 726, rfl⟩
abbrev main_call1_call4_v151 : Ref sig .tc := ⟨.hbm, 727, rfl⟩
abbrev main_call1_call4_v152 : Ref sig .tc := ⟨.hbm, 728, rfl⟩
abbrev main_call1_call4_c_38 : Ref sig .tc := ⟨.hbm, 729, rfl⟩
abbrev main_call1_call4_v153 : Ref sig .tc := ⟨.hbm, 730, rfl⟩
abbrev main_call1_call4_v154 : Ref sig .tc := ⟨.hbm, 731, rfl⟩
abbrev main_call1_call4_c_39 : Ref sig .tc := ⟨.hbm, 732, rfl⟩
abbrev main_call1_call4_v155 : Ref sig .tc := ⟨.hbm, 733, rfl⟩
abbrev main_call1_call4_v156 : Ref sig .tc := ⟨.hbm, 734, rfl⟩
abbrev main_call1_call4_v157 : Ref sig .tc := ⟨.hbm, 735, rfl⟩
abbrev main_call1_call4_v158 : Ref sig .tc := ⟨.hbm, 736, rfl⟩
abbrev main_call1_call4_v159 : Ref sig .tc := ⟨.hbm, 737, rfl⟩
abbrev main_call1_call4_c_40 : Ref sig .tc := ⟨.hbm, 738, rfl⟩
abbrev main_call1_call4_v160 : Ref sig .tc := ⟨.hbm, 739, rfl⟩
abbrev main_call1_call4_v161 : Ref sig .tc := ⟨.hbm, 740, rfl⟩
abbrev main_call1_call4_c_41 : Ref sig .tc := ⟨.hbm, 741, rfl⟩
abbrev main_call1_call4_v162 : Ref sig .tc := ⟨.hbm, 742, rfl⟩
abbrev main_call1_call4_v163 : Ref sig .tc := ⟨.hbm, 743, rfl⟩
abbrev main_call1_call4_v164 : Ref sig .tc := ⟨.hbm, 744, rfl⟩
abbrev main_call1_call4_v165 : Ref sig .tc := ⟨.hbm, 745, rfl⟩
abbrev main_call1_call4_v166 : Ref sig .tc := ⟨.hbm, 746, rfl⟩
abbrev main_call1_call4_c_42 : Ref sig .tc := ⟨.hbm, 747, rfl⟩
abbrev main_call1_call4_v167 : Ref sig .tc := ⟨.hbm, 748, rfl⟩
abbrev main_call1_call4_v168 : Ref sig .tc := ⟨.hbm, 749, rfl⟩
abbrev main_call1_call4_c_43 : Ref sig .tc := ⟨.hbm, 750, rfl⟩
abbrev main_call1_call4_v169 : Ref sig .tc := ⟨.hbm, 751, rfl⟩
abbrev main_call1_call4_v170 : Ref sig .tc := ⟨.hbm, 752, rfl⟩
abbrev main_call1_call4_v171 : Ref sig .tc := ⟨.hbm, 753, rfl⟩
abbrev main_call1_call4_v172 : Ref sig .tc := ⟨.hbm, 754, rfl⟩
abbrev main_call1_call4_v173 : Ref sig .tc := ⟨.hbm, 755, rfl⟩
abbrev main_call1_v28_0 : Ref sig .tc := ⟨.hbm, 756, rfl⟩
abbrev main_call1_call4_v175 : Ref sig .tc := ⟨.hbm, 757, rfl⟩
abbrev main_call1_call4_v176 : Ref sig .tc := ⟨.hbm, 758, rfl⟩
abbrev main_call1_call4_c_44 : Ref sig .tc := ⟨.hbm, 759, rfl⟩
abbrev main_call1_call4_v177 : Ref sig .tc := ⟨.hbm, 760, rfl⟩
abbrev main_call1_v28_1 : Ref sig .tc := ⟨.hbm, 761, rfl⟩
abbrev main_call1_v29 : Ref sig .tc := ⟨.hbm, 762, rfl⟩
abbrev main_call1_v30 : Ref sig .tc := ⟨.hbm, 763, rfl⟩
abbrev main_call1_v31 : Ref sig .tc := ⟨.hbm, 764, rfl⟩
abbrev main_call1_v32 : Ref sig .tc := ⟨.hbm, 765, rfl⟩
abbrev main_call1_v33 : Ref sig .tc := ⟨.hbm, 766, rfl⟩
abbrev main_call1_v34 : Ref sig .tc := ⟨.hbm, 767, rfl⟩
abbrev main_call1_c_8 : Ref sig .tc := ⟨.hbm, 768, rfl⟩
abbrev main_call1_v35 : Ref sig .tc := ⟨.hbm, 769, rfl⟩
abbrev main_call1_v36 : Ref sig .tc := ⟨.hbm, 770, rfl⟩
abbrev main_call1_c_9 : Ref sig .tc := ⟨.hbm, 771, rfl⟩
abbrev main_call1_v37 : Ref sig .tc := ⟨.hbm, 772, rfl⟩
abbrev main_call1_v38 : Ref sig .tc := ⟨.hbm, 773, rfl⟩
abbrev main_call1_v39 : Ref sig .tc := ⟨.hbm, 774, rfl⟩
abbrev main_call1_v40 : Ref sig .tc := ⟨.hbm, 775, rfl⟩
abbrev main_call1_v41 : Ref sig .tc := ⟨.hbm, 776, rfl⟩
abbrev main_call1_v42 : Ref sig .tc := ⟨.hbm, 777, rfl⟩
abbrev main_call1_v43 : Ref sig .tc := ⟨.hbm, 778, rfl⟩
abbrev main_call1_v44 : Ref sig .tc := ⟨.hbm, 779, rfl⟩
abbrev main_call1_call5_v0 : Ref sig .tc := ⟨.hbm, 780, rfl⟩
abbrev main_call1_call5_c : Ref sig .tc := ⟨.hbm, 781, rfl⟩
abbrev main_call1_call5_v1 : Ref sig .tc := ⟨.hbm, 782, rfl⟩
abbrev main_call1_call5_v2 : Ref sig .tc := ⟨.hbm, 783, rfl⟩
abbrev main_call1_call5_v3 : Ref sig .tc := ⟨.hbm, 784, rfl⟩
abbrev main_call1_call5_v4 : Ref sig .tc := ⟨.hbm, 785, rfl⟩
abbrev main_call1_call5_v5 : Ref sig .tc := ⟨.hbm, 786, rfl⟩
abbrev main_call1_call5_v6 : Ref sig .tc := ⟨.hbm, 787, rfl⟩
abbrev main_call1_call5_v7 : Ref sig .tc := ⟨.hbm, 788, rfl⟩
abbrev main_call1_call5_v8 : Ref sig .tc := ⟨.hbm, 789, rfl⟩
abbrev main_call1_call5_v9 : Ref sig .tc := ⟨.hbm, 790, rfl⟩
abbrev main_call1_call5_c_0 : Ref sig .tc := ⟨.hbm, 791, rfl⟩
abbrev main_call1_call5_v10 : Ref sig .tc := ⟨.hbm, 792, rfl⟩
abbrev main_call1_call5_v11 : Ref sig .tc := ⟨.hbm, 793, rfl⟩
abbrev main_call1_call5_c_1 : Ref sig .tc := ⟨.hbm, 794, rfl⟩
abbrev main_call1_call5_v12 : Ref sig .tc := ⟨.hbm, 795, rfl⟩
abbrev main_call1_call5_v13 : Ref sig .tc := ⟨.hbm, 796, rfl⟩
abbrev main_call1_call5_v14 : Ref sig .tc := ⟨.hbm, 797, rfl⟩
abbrev main_call1_call5_v15 : Ref sig .tc := ⟨.hbm, 798, rfl⟩
abbrev main_call1_call5_v16 : Ref sig .tc := ⟨.hbm, 799, rfl⟩
abbrev main_call1_call5_c_2 : Ref sig .tc := ⟨.hbm, 800, rfl⟩
abbrev main_call1_call5_v17 : Ref sig .tc := ⟨.hbm, 801, rfl⟩
abbrev main_call1_call5_v18 : Ref sig .tc := ⟨.hbm, 802, rfl⟩
abbrev main_call1_call5_c_3 : Ref sig .tc := ⟨.hbm, 803, rfl⟩
abbrev main_call1_call5_v19 : Ref sig .tc := ⟨.hbm, 804, rfl⟩
abbrev main_call1_call5_v20 : Ref sig .tc := ⟨.hbm, 805, rfl⟩
abbrev main_call1_call5_v21 : Ref sig .tc := ⟨.hbm, 806, rfl⟩
abbrev main_call1_call5_v22 : Ref sig .tc := ⟨.hbm, 807, rfl⟩
abbrev main_call1_call5_v23 : Ref sig .tc := ⟨.hbm, 808, rfl⟩
abbrev main_call1_call5_c_4 : Ref sig .tc := ⟨.hbm, 809, rfl⟩
abbrev main_call1_call5_v24 : Ref sig .tc := ⟨.hbm, 810, rfl⟩
abbrev main_call1_call5_v25 : Ref sig .tc := ⟨.hbm, 811, rfl⟩
abbrev main_call1_call5_c_5 : Ref sig .tc := ⟨.hbm, 812, rfl⟩
abbrev main_call1_call5_v26 : Ref sig .tc := ⟨.hbm, 813, rfl⟩
abbrev main_call1_call5_v27 : Ref sig .tc := ⟨.hbm, 814, rfl⟩
abbrev main_call1_call5_v28 : Ref sig .tc := ⟨.hbm, 815, rfl⟩
abbrev main_call1_call5_v29 : Ref sig .tc := ⟨.hbm, 816, rfl⟩
abbrev main_call1_call5_v30 : Ref sig .tc := ⟨.hbm, 817, rfl⟩
abbrev main_call1_call5_c_6 : Ref sig .tc := ⟨.hbm, 818, rfl⟩
abbrev main_call1_call5_v31 : Ref sig .tc := ⟨.hbm, 819, rfl⟩
abbrev main_call1_call5_v32 : Ref sig .tc := ⟨.hbm, 820, rfl⟩
abbrev main_call1_call5_c_7 : Ref sig .tc := ⟨.hbm, 821, rfl⟩
abbrev main_call1_call5_v33 : Ref sig .tc := ⟨.hbm, 822, rfl⟩
abbrev main_call1_call5_v34 : Ref sig .tc := ⟨.hbm, 823, rfl⟩
abbrev main_call1_call5_v35 : Ref sig .tc := ⟨.hbm, 824, rfl⟩
abbrev main_call1_call5_v36 : Ref sig .tc := ⟨.hbm, 825, rfl⟩
abbrev main_call1_call5_v37 : Ref sig .tc := ⟨.hbm, 826, rfl⟩
abbrev main_call1_call5_v38 : Ref sig .tc := ⟨.hbm, 827, rfl⟩
abbrev main_call1_call5_v39 : Ref sig .tc := ⟨.hbm, 828, rfl⟩
abbrev main_call1_call5_v40 : Ref sig .tc := ⟨.hbm, 829, rfl⟩
abbrev main_call1_call5_c_8 : Ref sig .tc := ⟨.hbm, 830, rfl⟩
abbrev main_call1_call5_v41 : Ref sig .tc := ⟨.hbm, 831, rfl⟩
abbrev main_call1_call5_v42 : Ref sig .tc := ⟨.hbm, 832, rfl⟩
abbrev main_call1_call5_v43 : Ref sig .tc := ⟨.hbm, 833, rfl⟩
abbrev main_call1_call5_c_9 : Ref sig .tc := ⟨.hbm, 834, rfl⟩
abbrev main_call1_call5_v44 : Ref sig .tc := ⟨.hbm, 835, rfl⟩
abbrev main_call1_call5_v45 : Ref sig .tc := ⟨.hbm, 836, rfl⟩
abbrev main_call1_call5_c_10 : Ref sig .tc := ⟨.hbm, 837, rfl⟩
abbrev main_call1_call5_v46 : Ref sig .tc := ⟨.hbm, 838, rfl⟩
abbrev main_call1_call5_v47 : Ref sig .tc := ⟨.hbm, 839, rfl⟩
abbrev main_call1_call5_v48 : Ref sig .tc := ⟨.hbm, 840, rfl⟩
abbrev main_call1_call5_v49 : Ref sig .tc := ⟨.hbm, 841, rfl⟩
abbrev main_call1_call5_v50 : Ref sig .tc := ⟨.hbm, 842, rfl⟩
abbrev main_call1_call5_c_11 : Ref sig .tc := ⟨.hbm, 843, rfl⟩
abbrev main_call1_call5_v51 : Ref sig .tc := ⟨.hbm, 844, rfl⟩
abbrev main_call1_call5_v52 : Ref sig .tc := ⟨.hbm, 845, rfl⟩
abbrev main_call1_call5_c_12 : Ref sig .tc := ⟨.hbm, 846, rfl⟩
abbrev main_call1_call5_v53 : Ref sig .tc := ⟨.hbm, 847, rfl⟩
abbrev main_call1_call5_v54 : Ref sig .tc := ⟨.hbm, 848, rfl⟩
abbrev main_call1_call5_v55 : Ref sig .tc := ⟨.hbm, 849, rfl⟩
abbrev main_call1_call5_v56 : Ref sig .tc := ⟨.hbm, 850, rfl⟩
abbrev main_call1_call5_v57 : Ref sig .tc := ⟨.hbm, 851, rfl⟩
abbrev main_call1_call5_c_13 : Ref sig .tc := ⟨.hbm, 852, rfl⟩
abbrev main_call1_call5_v58 : Ref sig .tc := ⟨.hbm, 853, rfl⟩
abbrev main_call1_call5_v59 : Ref sig .tc := ⟨.hbm, 854, rfl⟩
abbrev main_call1_call5_c_14 : Ref sig .tc := ⟨.hbm, 855, rfl⟩
abbrev main_call1_call5_v60 : Ref sig .tc := ⟨.hbm, 856, rfl⟩
abbrev main_call1_call5_v61 : Ref sig .tc := ⟨.hbm, 857, rfl⟩
abbrev main_call1_call5_v62 : Ref sig .tc := ⟨.hbm, 858, rfl⟩
abbrev main_call1_call5_v63 : Ref sig .tc := ⟨.hbm, 859, rfl⟩
abbrev main_call1_call5_v64 : Ref sig .tc := ⟨.hbm, 860, rfl⟩
abbrev main_call1_call5_c_15 : Ref sig .tc := ⟨.hbm, 861, rfl⟩
abbrev main_call1_call5_v65 : Ref sig .tc := ⟨.hbm, 862, rfl⟩
abbrev main_call1_call5_v66 : Ref sig .tc := ⟨.hbm, 863, rfl⟩
abbrev main_call1_call5_c_16 : Ref sig .tc := ⟨.hbm, 864, rfl⟩
abbrev main_call1_call5_v67 : Ref sig .tc := ⟨.hbm, 865, rfl⟩
abbrev main_call1_call5_v68 : Ref sig .tc := ⟨.hbm, 866, rfl⟩
abbrev main_call1_call5_v69 : Ref sig .tc := ⟨.hbm, 867, rfl⟩
abbrev main_call1_call5_v70 : Ref sig .tc := ⟨.hbm, 868, rfl⟩
abbrev main_call1_call5_v71 : Ref sig .tc := ⟨.hbm, 869, rfl⟩
abbrev main_call1_call5_v72 : Ref sig .tc := ⟨.hbm, 870, rfl⟩
abbrev main_call1_call5_v73 : Ref sig .tc := ⟨.hbm, 871, rfl⟩
abbrev main_call1_call5_v74 : Ref sig .tc := ⟨.hbm, 872, rfl⟩
abbrev main_call1_call5_c_17 : Ref sig .tc := ⟨.hbm, 873, rfl⟩
abbrev main_call1_call5_v75 : Ref sig .tc := ⟨.hbm, 874, rfl⟩
abbrev main_call1_call5_v76 : Ref sig .tc := ⟨.hbm, 875, rfl⟩
abbrev main_call1_call5_v77 : Ref sig .tc := ⟨.hbm, 876, rfl⟩
abbrev main_call1_call5_c_18 : Ref sig .tc := ⟨.hbm, 877, rfl⟩
abbrev main_call1_call5_v78 : Ref sig .tc := ⟨.hbm, 878, rfl⟩
abbrev main_call1_call5_v79 : Ref sig .tc := ⟨.hbm, 879, rfl⟩
abbrev main_call1_call5_c_19 : Ref sig .tc := ⟨.hbm, 880, rfl⟩
abbrev main_call1_call5_v80 : Ref sig .tc := ⟨.hbm, 881, rfl⟩
abbrev main_call1_call5_v81 : Ref sig .tc := ⟨.hbm, 882, rfl⟩
abbrev main_call1_call5_v82 : Ref sig .tc := ⟨.hbm, 883, rfl⟩
abbrev main_call1_call5_v83 : Ref sig .tc := ⟨.hbm, 884, rfl⟩
abbrev main_call1_call5_v84 : Ref sig .tc := ⟨.hbm, 885, rfl⟩
abbrev main_call1_call5_c_20 : Ref sig .tc := ⟨.hbm, 886, rfl⟩
abbrev main_call1_call5_v85 : Ref sig .tc := ⟨.hbm, 887, rfl⟩
abbrev main_call1_call5_v86 : Ref sig .tc := ⟨.hbm, 888, rfl⟩
abbrev main_call1_call5_c_21 : Ref sig .tc := ⟨.hbm, 889, rfl⟩
abbrev main_call1_call5_v87 : Ref sig .tc := ⟨.hbm, 890, rfl⟩
abbrev main_call1_call5_v88 : Ref sig .tc := ⟨.hbm, 891, rfl⟩
abbrev main_call1_call5_v89 : Ref sig .tc := ⟨.hbm, 892, rfl⟩
abbrev main_call1_call5_v90 : Ref sig .tc := ⟨.hbm, 893, rfl⟩
abbrev main_call1_call5_v91 : Ref sig .tc := ⟨.hbm, 894, rfl⟩
abbrev main_call1_call5_c_22 : Ref sig .tc := ⟨.hbm, 895, rfl⟩
abbrev main_call1_call5_v92 : Ref sig .tc := ⟨.hbm, 896, rfl⟩
abbrev main_call1_call5_v93 : Ref sig .tc := ⟨.hbm, 897, rfl⟩
abbrev main_call1_call5_c_23 : Ref sig .tc := ⟨.hbm, 898, rfl⟩
abbrev main_call1_call5_v94 : Ref sig .tc := ⟨.hbm, 899, rfl⟩
abbrev main_call1_call5_v95 : Ref sig .tc := ⟨.hbm, 900, rfl⟩
abbrev main_call1_call5_v96 : Ref sig .tc := ⟨.hbm, 901, rfl⟩
abbrev main_call1_call5_v97 : Ref sig .tc := ⟨.hbm, 902, rfl⟩
abbrev main_call1_call5_v98 : Ref sig .tc := ⟨.hbm, 903, rfl⟩
abbrev main_call1_call5_c_24 : Ref sig .tc := ⟨.hbm, 904, rfl⟩
abbrev main_call1_call5_v99 : Ref sig .tc := ⟨.hbm, 905, rfl⟩
abbrev main_call1_call5_v100 : Ref sig .tc := ⟨.hbm, 906, rfl⟩
abbrev main_call1_call5_c_25 : Ref sig .tc := ⟨.hbm, 907, rfl⟩
abbrev main_call1_call5_v101 : Ref sig .tc := ⟨.hbm, 908, rfl⟩
abbrev main_call1_call5_v102 : Ref sig .tc := ⟨.hbm, 909, rfl⟩
abbrev main_call1_call5_v103 : Ref sig .tc := ⟨.hbm, 910, rfl⟩
abbrev main_call1_call5_v104 : Ref sig .tc := ⟨.hbm, 911, rfl⟩
abbrev main_call1_call5_v105 : Ref sig .tc := ⟨.hbm, 912, rfl⟩
abbrev main_call1_call5_v106 : Ref sig .tc := ⟨.hbm, 913, rfl⟩
abbrev main_call1_call5_v107 : Ref sig .tc := ⟨.hbm, 914, rfl⟩
abbrev main_call1_call5_v108 : Ref sig .tc := ⟨.hbm, 915, rfl⟩
abbrev main_call1_call5_c_26 : Ref sig .tc := ⟨.hbm, 916, rfl⟩
abbrev main_call1_call5_v109 : Ref sig .tc := ⟨.hbm, 917, rfl⟩
abbrev main_call1_call5_v110 : Ref sig .tc := ⟨.hbm, 918, rfl⟩
abbrev main_call1_call5_v111 : Ref sig .tc := ⟨.hbm, 919, rfl⟩
abbrev main_call1_call5_c_27 : Ref sig .tc := ⟨.hbm, 920, rfl⟩
abbrev main_call1_call5_v112 : Ref sig .tc := ⟨.hbm, 921, rfl⟩
abbrev main_call1_call5_v113 : Ref sig .tc := ⟨.hbm, 922, rfl⟩
abbrev main_call1_call5_c_28 : Ref sig .tc := ⟨.hbm, 923, rfl⟩
abbrev main_call1_call5_v114 : Ref sig .tc := ⟨.hbm, 924, rfl⟩
abbrev main_call1_call5_v115 : Ref sig .tc := ⟨.hbm, 925, rfl⟩
abbrev main_call1_call5_v116 : Ref sig .tc := ⟨.hbm, 926, rfl⟩
abbrev main_call1_call5_v117 : Ref sig .tc := ⟨.hbm, 927, rfl⟩
abbrev main_call1_call5_v118 : Ref sig .tc := ⟨.hbm, 928, rfl⟩
abbrev main_call1_call5_c_29 : Ref sig .tc := ⟨.hbm, 929, rfl⟩
abbrev main_call1_call5_v119 : Ref sig .tc := ⟨.hbm, 930, rfl⟩
abbrev main_call1_call5_v120 : Ref sig .tc := ⟨.hbm, 931, rfl⟩
abbrev main_call1_call5_c_30 : Ref sig .tc := ⟨.hbm, 932, rfl⟩
abbrev main_call1_call5_v121 : Ref sig .tc := ⟨.hbm, 933, rfl⟩
abbrev main_call1_call5_v122 : Ref sig .tc := ⟨.hbm, 934, rfl⟩
abbrev main_call1_call5_v123 : Ref sig .tc := ⟨.hbm, 935, rfl⟩
abbrev main_call1_call5_v124 : Ref sig .tc := ⟨.hbm, 936, rfl⟩
abbrev main_call1_call5_v125 : Ref sig .tc := ⟨.hbm, 937, rfl⟩
abbrev main_call1_call5_c_31 : Ref sig .tc := ⟨.hbm, 938, rfl⟩
abbrev main_call1_call5_v126 : Ref sig .tc := ⟨.hbm, 939, rfl⟩
abbrev main_call1_call5_v127 : Ref sig .tc := ⟨.hbm, 940, rfl⟩
abbrev main_call1_call5_c_32 : Ref sig .tc := ⟨.hbm, 941, rfl⟩
abbrev main_call1_call5_v128 : Ref sig .tc := ⟨.hbm, 942, rfl⟩
abbrev main_call1_call5_v129 : Ref sig .tc := ⟨.hbm, 943, rfl⟩
abbrev main_call1_call5_v130 : Ref sig .tc := ⟨.hbm, 944, rfl⟩
abbrev main_call1_call5_v131 : Ref sig .tc := ⟨.hbm, 945, rfl⟩
abbrev main_call1_call5_v132 : Ref sig .tc := ⟨.hbm, 946, rfl⟩
abbrev main_call1_call5_c_33 : Ref sig .tc := ⟨.hbm, 947, rfl⟩
abbrev main_call1_call5_v133 : Ref sig .tc := ⟨.hbm, 948, rfl⟩
abbrev main_call1_call5_v134 : Ref sig .tc := ⟨.hbm, 949, rfl⟩
abbrev main_call1_call5_c_34 : Ref sig .tc := ⟨.hbm, 950, rfl⟩
abbrev main_call1_call5_v135 : Ref sig .tc := ⟨.hbm, 951, rfl⟩
abbrev main_call1_call5_v136 : Ref sig .tc := ⟨.hbm, 952, rfl⟩
abbrev main_call1_call5_v137 : Ref sig .tc := ⟨.hbm, 953, rfl⟩
abbrev main_call1_call5_v138 : Ref sig .tc := ⟨.hbm, 954, rfl⟩
abbrev main_call1_call5_v139 : Ref sig .tc := ⟨.hbm, 955, rfl⟩
abbrev main_call1_call5_v140 : Ref sig .tc := ⟨.hbm, 956, rfl⟩
abbrev main_call1_call5_v141 : Ref sig .tc := ⟨.hbm, 957, rfl⟩
abbrev main_call1_call5_v142 : Ref sig .tc := ⟨.hbm, 958, rfl⟩
abbrev main_call1_call5_c_35 : Ref sig .tc := ⟨.hbm, 959, rfl⟩
abbrev main_call1_call5_v143 : Ref sig .tc := ⟨.hbm, 960, rfl⟩
abbrev main_call1_call5_v144 : Ref sig .tc := ⟨.hbm, 961, rfl⟩
abbrev main_call1_call5_v145 : Ref sig .tc := ⟨.hbm, 962, rfl⟩
abbrev main_call1_call5_c_36 : Ref sig .tc := ⟨.hbm, 963, rfl⟩
abbrev main_call1_call5_v146 : Ref sig .tc := ⟨.hbm, 964, rfl⟩
abbrev main_call1_call5_v147 : Ref sig .tc := ⟨.hbm, 965, rfl⟩
abbrev main_call1_call5_c_37 : Ref sig .tc := ⟨.hbm, 966, rfl⟩
abbrev main_call1_call5_v148 : Ref sig .tc := ⟨.hbm, 967, rfl⟩
abbrev main_call1_call5_v149 : Ref sig .tc := ⟨.hbm, 968, rfl⟩
abbrev main_call1_call5_v150 : Ref sig .tc := ⟨.hbm, 969, rfl⟩
abbrev main_call1_call5_v151 : Ref sig .tc := ⟨.hbm, 970, rfl⟩
abbrev main_call1_call5_v152 : Ref sig .tc := ⟨.hbm, 971, rfl⟩
abbrev main_call1_call5_c_38 : Ref sig .tc := ⟨.hbm, 972, rfl⟩
abbrev main_call1_call5_v153 : Ref sig .tc := ⟨.hbm, 973, rfl⟩
abbrev main_call1_call5_v154 : Ref sig .tc := ⟨.hbm, 974, rfl⟩
abbrev main_call1_call5_c_39 : Ref sig .tc := ⟨.hbm, 975, rfl⟩
abbrev main_call1_call5_v155 : Ref sig .tc := ⟨.hbm, 976, rfl⟩
abbrev main_call1_call5_v156 : Ref sig .tc := ⟨.hbm, 977, rfl⟩
abbrev main_call1_call5_v157 : Ref sig .tc := ⟨.hbm, 978, rfl⟩
abbrev main_call1_call5_v158 : Ref sig .tc := ⟨.hbm, 979, rfl⟩
abbrev main_call1_call5_v159 : Ref sig .tc := ⟨.hbm, 980, rfl⟩
abbrev main_call1_call5_c_40 : Ref sig .tc := ⟨.hbm, 981, rfl⟩
abbrev main_call1_call5_v160 : Ref sig .tc := ⟨.hbm, 982, rfl⟩
abbrev main_call1_call5_v161 : Ref sig .tc := ⟨.hbm, 983, rfl⟩
abbrev main_call1_call5_c_41 : Ref sig .tc := ⟨.hbm, 984, rfl⟩
abbrev main_call1_call5_v162 : Ref sig .tc := ⟨.hbm, 985, rfl⟩
abbrev main_call1_call5_v163 : Ref sig .tc := ⟨.hbm, 986, rfl⟩
abbrev main_call1_call5_v164 : Ref sig .tc := ⟨.hbm, 987, rfl⟩
abbrev main_call1_call5_v165 : Ref sig .tc := ⟨.hbm, 988, rfl⟩
abbrev main_call1_call5_v166 : Ref sig .tc := ⟨.hbm, 989, rfl⟩
abbrev main_call1_call5_c_42 : Ref sig .tc := ⟨.hbm, 990, rfl⟩
abbrev main_call1_call5_v167 : Ref sig .tc := ⟨.hbm, 991, rfl⟩
abbrev main_call1_call5_v168 : Ref sig .tc := ⟨.hbm, 992, rfl⟩
abbrev main_call1_call5_c_43 : Ref sig .tc := ⟨.hbm, 993, rfl⟩
abbrev main_call1_call5_v169 : Ref sig .tc := ⟨.hbm, 994, rfl⟩
abbrev main_call1_call5_v170 : Ref sig .tc := ⟨.hbm, 995, rfl⟩
abbrev main_call1_call5_v171 : Ref sig .tc := ⟨.hbm, 996, rfl⟩
abbrev main_call1_call5_v172 : Ref sig .tc := ⟨.hbm, 997, rfl⟩
abbrev main_call1_call5_v173 : Ref sig .tc := ⟨.hbm, 998, rfl⟩
abbrev main_call1_v45_0 : Ref sig .tc := ⟨.hbm, 999, rfl⟩
abbrev main_call1_call5_v175 : Ref sig .tc := ⟨.hbm, 1000, rfl⟩
abbrev main_call1_call5_v176 : Ref sig .tc := ⟨.hbm, 1001, rfl⟩
abbrev main_call1_call5_c_44 : Ref sig .tc := ⟨.hbm, 1002, rfl⟩
abbrev main_call1_call5_v177 : Ref sig .tc := ⟨.hbm, 1003, rfl⟩
abbrev main_call1_v45_1 : Ref sig .tc := ⟨.hbm, 1004, rfl⟩
abbrev main_call1_v46 : Ref sig .tc := ⟨.hbm, 1005, rfl⟩
abbrev main_call1_v47 : Ref sig .tc := ⟨.hbm, 1006, rfl⟩
abbrev main_call1_v48 : Ref sig .tc := ⟨.hbm, 1007, rfl⟩
abbrev main_call1_v49 : Ref sig .tc := ⟨.hbm, 1008, rfl⟩
abbrev main_call1_c_10 : Ref sig .tc := ⟨.hbm, 1009, rfl⟩
abbrev main_call1_v50 : Ref sig .tc := ⟨.hbm, 1010, rfl⟩
abbrev main_call1_v51 : Ref sig .tc := ⟨.hbm, 1011, rfl⟩
abbrev main_call1_v52 : Ref sig .tc := ⟨.hbm, 1012, rfl⟩
abbrev main_call1_v53 : Ref sig .tc := ⟨.hbm, 1013, rfl⟩
abbrev main_call1_v54 : Ref sig .tc := ⟨.hbm, 1014, rfl⟩
abbrev main_call1_c_11 : Ref sig .tc := ⟨.hbm, 1015, rfl⟩
abbrev main_call1_v55 : Ref sig .tc := ⟨.hbm, 1016, rfl⟩
abbrev main_call1_v56 : Ref sig .tc := ⟨.hbm, 1017, rfl⟩
abbrev main_call1_v57 : Ref sig .tc := ⟨.hbm, 1018, rfl⟩
abbrev main_call1_c_12 : Ref sig .tc := ⟨.hbm, 1019, rfl⟩
abbrev main_call1_v58 : Ref sig .tc := ⟨.hbm, 1020, rfl⟩
abbrev main_call1_v59 : Ref sig .tc := ⟨.hbm, 1021, rfl⟩
abbrev main_call1_v60 : Ref sig .tc := ⟨.hbm, 1022, rfl⟩
abbrev main_call1_v61 : Ref sig .tc := ⟨.hbm, 1023, rfl⟩
abbrev main_call1_v62 : Ref sig .tc := ⟨.hbm, 1024, rfl⟩
abbrev main_call1_v63 : Ref sig .tc := ⟨.hbm, 1025, rfl⟩
abbrev main_call1_v64 : Ref sig .tc := ⟨.hbm, 1026, rfl⟩
abbrev main_call1_v65 : Ref sig .tc := ⟨.hbm, 1027, rfl⟩
abbrev main_call1_v66 : Ref sig .tc := ⟨.hbm, 1028, rfl⟩
abbrev main_call1_v67 : Ref sig .tc := ⟨.hbm, 1029, rfl⟩
abbrev main_call1_v68 : Ref sig .tc := ⟨.hbm, 1030, rfl⟩
abbrev main_call1_v69 : Ref sig .tc := ⟨.hbm, 1031, rfl⟩
abbrev main_call1_v70 : Ref sig .tc := ⟨.hbm, 1032, rfl⟩
abbrev main_call1_v71 : Ref sig .tc := ⟨.hbm, 1033, rfl⟩
abbrev main_call1_v72 : Ref sig .tc := ⟨.hbm, 1034, rfl⟩
abbrev main_call1_v73 : Ref sig .tc := ⟨.hbm, 1035, rfl⟩
abbrev main_call1_v74 : Ref sig .tc := ⟨.hbm, 1036, rfl⟩
abbrev main_call1_v75 : Ref sig .tc := ⟨.hbm, 1037, rfl⟩
abbrev main_call1_v76 : Ref sig .tc := ⟨.hbm, 1038, rfl⟩
abbrev main_call1_v77 : Ref sig .tc := ⟨.hbm, 1039, rfl⟩
abbrev main_v10 : Ref sig .tc := ⟨.hbm, 1040, rfl⟩
abbrev main_v11 : Ref sig .tc := ⟨.hbm, 1041, rfl⟩
abbrev main_v12 : Ref sig .tc := ⟨.hbm, 1042, rfl⟩
abbrev main_arg0_scv : Ref sig .scVector := ⟨.hbm, 0, rfl⟩
abbrev main_v11_scv : Ref sig .scVector := ⟨.hbm, 1041, rfl⟩
abbrev main_v12_scv : Ref sig .scVector := ⟨.hbm, 1042, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_238_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_239_r0 : BitVec 32 := 0#32
  ![0, v3.toNat, 0]
@[reducible] def k0_t1_loop : Scf.Loop 32 :=
  let c0_i32_58 : BitVec 32 := 0#32
  let c15_i32 : BitVec 32 := 15#32
  let v40 : BitVec 32 := Scalar.addi c0_i32_58 c15_i32
  let c1_i32_59 : BitVec 32 := 1#32
  ⟨c0_i32_58, v40, c1_i32_59⟩
def k0_off2 (k0_t1 : Fin k0_t1_loop.trips) (c0_i32_239 : BitVec 32) : Fin 3 → Nat :=
  let c2_i32_261 : BitVec 32 := 2#32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let c0_i32_249 : BitVec 32 := 0#32
  let v182 : BitVec 1 := Scalar.cmpi .sgt v162 c0_i32_249
  let v183 : BitVec 32 := Scalar.extui v182
  let c0_i32_250 : BitVec 32 := 0#32
  let v184 : BitVec 1 := Scalar.cmpi .slt v162 c0_i32_250
  let v185 : BitVec 32 := Scalar.extui v184
  let v186 : BitVec 32 := Scalar.subi v183 v185
  let c4_i32_248 : BitVec 32 := 4#32
  let c0_i32_251 : BitVec 32 := 0#32
  let v187 : BitVec 1 := Scalar.cmpi .sgt c4_i32_248 c0_i32_251
  let v188 : BitVec 32 := Scalar.extui v187
  let c0_i32_252 : BitVec 32 := 0#32
  let v189 : BitVec 1 := Scalar.cmpi .slt c4_i32_248 c0_i32_252
  let v190 : BitVec 32 := Scalar.extui v189
  let v191 : BitVec 32 := Scalar.subi v188 v190
  let v192 : BitVec 1 := Scalar.cmpi .ne v186 v191
  let v193 : BitVec 32 := Scalar.remsi v162 c4_i32_248
  let c0_i32_253 : BitVec 32 := 0#32
  let v194 : BitVec 1 := Scalar.cmpi .ne v193 c0_i32_253
  let v195 : BitVec 1 := Scalar.andi v192 v194
  let v181 : BitVec 32 := Scalar.divsi v162 c4_i32_248
  let c1_i32_254 : BitVec 32 := 1#32
  let v196 : BitVec 32 := Scalar.subi v181 c1_i32_254
  let v197 : BitVec 32 := Scalar.select v195 v196 v181
  let v208 : BitVec 32 := Scalar.muli c2_i32_261 v197
  let c4_i32_255 : BitVec 32 := 4#32
  let c0_i32_256 : BitVec 32 := 0#32
  let v198 : BitVec 1 := Scalar.cmpi .eq c4_i32_255 c0_i32_256
  let c1_i32_257 : BitVec 32 := 1#32
  let v199 : BitVec 32 := Scalar.select v198 c1_i32_257 c4_i32_255
  let v200 : BitVec 32 := Scalar.remsi v162 v199
  let c0_i32_259 : BitVec 32 := 0#32
  let v202 : BitVec 1 := Scalar.cmpi .slt v200 c0_i32_259
  let c0_i32_260 : BitVec 32 := 0#32
  let v203 : BitVec 1 := Scalar.cmpi .slt v199 c0_i32_260
  let v204 : BitVec 1 := Scalar.xori v202 v203
  let c0_i32_258 : BitVec 32 := 0#32
  let v201 : BitVec 1 := Scalar.cmpi .ne v200 c0_i32_258
  let v205 : BitVec 1 := Scalar.andi v204 v201
  let v206 : BitVec 32 := Scalar.addi v200 v199
  let v207 : BitVec 32 := Scalar.select v205 v206 v200
  let c0_i32_267 : BitVec 32 := 0#32
  ![v208.toNat, v207.toNat, 0]
def k0_off3 (k0_t1 : Fin k0_t1_loop.trips) (c0_i32_239 : BitVec 32) : Fin 2 → Nat :=
  let c0_i32_268 : BitVec 32 := 0#32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let c0_i32_241 : BitVec 32 := 0#32
  let v164 : BitVec 1 := Scalar.cmpi .sgt v162 c0_i32_241
  let v165 : BitVec 32 := Scalar.extui v164
  let c0_i32_242 : BitVec 32 := 0#32
  let v166 : BitVec 1 := Scalar.cmpi .slt v162 c0_i32_242
  let v167 : BitVec 32 := Scalar.extui v166
  let v168 : BitVec 32 := Scalar.subi v165 v167
  let c4_i32_240 : BitVec 32 := 4#32
  let c0_i32_243 : BitVec 32 := 0#32
  let v169 : BitVec 1 := Scalar.cmpi .sgt c4_i32_240 c0_i32_243
  let v170 : BitVec 32 := Scalar.extui v169
  let c0_i32_244 : BitVec 32 := 0#32
  let v171 : BitVec 1 := Scalar.cmpi .slt c4_i32_240 c0_i32_244
  let v172 : BitVec 32 := Scalar.extui v171
  let v173 : BitVec 32 := Scalar.subi v170 v172
  let v174 : BitVec 1 := Scalar.cmpi .ne v168 v173
  let v175 : BitVec 32 := Scalar.remsi v162 c4_i32_240
  let c0_i32_245 : BitVec 32 := 0#32
  let v176 : BitVec 1 := Scalar.cmpi .ne v175 c0_i32_245
  let v177 : BitVec 1 := Scalar.andi v174 v176
  let v163 : BitVec 32 := Scalar.divsi v162 c4_i32_240
  let c1_i32_246 : BitVec 32 := 1#32
  let v178 : BitVec 32 := Scalar.subi v163 c1_i32_246
  let v179 : BitVec 32 := Scalar.select v177 v178 v163
  let c128_i32_247 : BitVec 32 := 128#32
  let v180 : BitVec 32 := Scalar.muli v179 c128_i32_247
  ![0, v180.toNat]
def k0_off4 (k0_t1 : Fin k0_t1_loop.trips) (c0_i32_239 : BitVec 32) : Fin 3 → Nat :=
  let c2_i32_293 : BitVec 32 := 2#32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let c0_i32_280 : BitVec 32 := 0#32
  let v236 : BitVec 1 := Scalar.cmpi .sgt v162 c0_i32_280
  let v237 : BitVec 32 := Scalar.extui v236
  let c0_i32_281 : BitVec 32 := 0#32
  let v238 : BitVec 1 := Scalar.cmpi .slt v162 c0_i32_281
  let v239 : BitVec 32 := Scalar.extui v238
  let v240 : BitVec 32 := Scalar.subi v237 v239
  let c4_i32_279 : BitVec 32 := 4#32
  let c0_i32_282 : BitVec 32 := 0#32
  let v241 : BitVec 1 := Scalar.cmpi .sgt c4_i32_279 c0_i32_282
  let v242 : BitVec 32 := Scalar.extui v241
  let c0_i32_283 : BitVec 32 := 0#32
  let v243 : BitVec 1 := Scalar.cmpi .slt c4_i32_279 c0_i32_283
  let v244 : BitVec 32 := Scalar.extui v243
  let v245 : BitVec 32 := Scalar.subi v242 v244
  let v246 : BitVec 1 := Scalar.cmpi .ne v240 v245
  let v247 : BitVec 32 := Scalar.remsi v162 c4_i32_279
  let c0_i32_284 : BitVec 32 := 0#32
  let v248 : BitVec 1 := Scalar.cmpi .ne v247 c0_i32_284
  let v249 : BitVec 1 := Scalar.andi v246 v248
  let v235 : BitVec 32 := Scalar.divsi v162 c4_i32_279
  let c1_i32_285 : BitVec 32 := 1#32
  let v250 : BitVec 32 := Scalar.subi v235 c1_i32_285
  let v251 : BitVec 32 := Scalar.select v249 v250 v235
  let v263 : BitVec 32 := Scalar.muli c2_i32_293 v251
  let c1_i32_294 : BitVec 32 := 1#32
  let v264 : BitVec 32 := Scalar.addi v263 c1_i32_294
  let c4_i32_286 : BitVec 32 := 4#32
  let c0_i32_287 : BitVec 32 := 0#32
  let v252 : BitVec 1 := Scalar.cmpi .eq c4_i32_286 c0_i32_287
  let c1_i32_288 : BitVec 32 := 1#32
  let v253 : BitVec 32 := Scalar.select v252 c1_i32_288 c4_i32_286
  let v254 : BitVec 32 := Scalar.remsi v162 v253
  let c0_i32_290 : BitVec 32 := 0#32
  let v256 : BitVec 1 := Scalar.cmpi .slt v254 c0_i32_290
  let c0_i32_291 : BitVec 32 := 0#32
  let v257 : BitVec 1 := Scalar.cmpi .slt v253 c0_i32_291
  let v258 : BitVec 1 := Scalar.xori v256 v257
  let c0_i32_289 : BitVec 32 := 0#32
  let v255 : BitVec 1 := Scalar.cmpi .ne v254 c0_i32_289
  let v259 : BitVec 1 := Scalar.andi v258 v255
  let v260 : BitVec 32 := Scalar.addi v254 v253
  let v261 : BitVec 32 := Scalar.select v259 v260 v254
  let c0_i32_298 : BitVec 32 := 0#32
  ![v264.toNat, v261.toNat, 0]
@[reducible] def k0_t2_loop : Scf.Loop 32 :=
  let c0_i32_303 : BitVec 32 := 0#32
  let c32_i32_304 : BitVec 32 := 32#32
  let v271 : BitVec 32 := Scalar.addi c0_i32_303 c32_i32_304
  let c1_i32_305 : BitVec 32 := 1#32
  ⟨c0_i32_303, v271, c1_i32_305⟩
def k0_off5 (k0_t2 : Fin k0_t2_loop.trips) (c0_i32_931 : BitVec 32) : Fin 3 → Nat :=
  let c0_i32_932 : BitVec 32 := 0#32
  let v1335 : Index := Scalar.indexCast c0_i32_932
  let c4_i32_930 : BitVec 32 := 4#32
  let c0_i32_303 : BitVec 32 := 0#32
  let c1_i32_305 : BitVec 32 := 1#32
  let arg19 : BitVec 32 := Scf.iv c0_i32_303 c1_i32_305 k0_t2
  let v1333 : BitVec 32 := Scalar.muli c4_i32_930 arg19
  let v1334 : BitVec 32 := Scalar.addi v1333 c0_i32_931
  let v1336 : Index := Scalar.indexCast v1334
  let c64 : Index := 64#32
  ![0, v1336.toNat, 64]
def k0_off6 (k0_t2 : Fin k0_t2_loop.trips) (c0_i32_934 : BitVec 32) : Fin 3 → Nat :=
  let c0_i32_935 : BitVec 32 := 0#32
  let v1341 : Index := Scalar.indexCast c0_i32_935
  let c4_i32_933 : BitVec 32 := 4#32
  let c0_i32_303 : BitVec 32 := 0#32
  let c1_i32_305 : BitVec 32 := 1#32
  let arg19 : BitVec 32 := Scf.iv c0_i32_303 c1_i32_305 k0_t2
  let v1339 : BitVec 32 := Scalar.muli c4_i32_933 arg19
  let v1340 : BitVec 32 := Scalar.addi v1339 c0_i32_934
  let v1342 : Index := Scalar.indexCast v1340
  let c64_936 : Index := 64#32
  ![0, v1342.toNat, 64]
def k0_off7 (k0_t2 : Fin k0_t2_loop.trips) (c0_i32_938 : BitVec 32) : Fin 3 → Nat :=
  let c0_i32_939 : BitVec 32 := 0#32
  let v1348 : Index := Scalar.indexCast c0_i32_939
  let c4_i32_937 : BitVec 32 := 4#32
  let c0_i32_303 : BitVec 32 := 0#32
  let c1_i32_305 : BitVec 32 := 1#32
  let arg19 : BitVec 32 := Scf.iv c0_i32_303 c1_i32_305 k0_t2
  let v1346 : BitVec 32 := Scalar.muli c4_i32_937 arg19
  let v1347 : BitVec 32 := Scalar.addi v1346 c0_i32_938
  let v1349 : Index := Scalar.indexCast v1347
  let c80 : Index := 80#32
  ![0, v1349.toNat, 80]
def k0_off8 (k0_t2 : Fin k0_t2_loop.trips) (c0_i32_941 : BitVec 32) : Fin 3 → Nat :=
  let c0_i32_942 : BitVec 32 := 0#32
  let v1354 : Index := Scalar.indexCast c0_i32_942
  let c4_i32_940 : BitVec 32 := 4#32
  let c0_i32_303 : BitVec 32 := 0#32
  let c1_i32_305 : BitVec 32 := 1#32
  let arg19 : BitVec 32 := Scf.iv c0_i32_303 c1_i32_305 k0_t2
  let v1352 : BitVec 32 := Scalar.muli c4_i32_940 arg19
  let v1353 : BitVec 32 := Scalar.addi v1352 c0_i32_941
  let v1355 : Index := Scalar.indexCast v1353
  let c80_943 : Index := 80#32
  ![0, v1355.toNat, 80]
def k0_off9 (k0_t2 : Fin k0_t2_loop.trips) (c0_i32_945 : BitVec 32) : Fin 3 → Nat :=
  let c0_i32_946 : BitVec 32 := 0#32
  let v1361 : Index := Scalar.indexCast c0_i32_946
  let c4_i32_944 : BitVec 32 := 4#32
  let c0_i32_303 : BitVec 32 := 0#32
  let c1_i32_305 : BitVec 32 := 1#32
  let arg19 : BitVec 32 := Scf.iv c0_i32_303 c1_i32_305 k0_t2
  let v1359 : BitVec 32 := Scalar.muli c4_i32_944 arg19
  let v1360 : BitVec 32 := Scalar.addi v1359 c0_i32_945
  let v1362 : Index := Scalar.indexCast v1360
  let c96 : Index := 96#32
  ![0, v1362.toNat, 96]
def k0_off10 (k0_t2 : Fin k0_t2_loop.trips) (c0_i32_948 : BitVec 32) : Fin 3 → Nat :=
  let c0_i32_949 : BitVec 32 := 0#32
  let v1367 : Index := Scalar.indexCast c0_i32_949
  let c4_i32_947 : BitVec 32 := 4#32
  let c0_i32_303 : BitVec 32 := 0#32
  let c1_i32_305 : BitVec 32 := 1#32
  let arg19 : BitVec 32 := Scf.iv c0_i32_303 c1_i32_305 k0_t2
  let v1365 : BitVec 32 := Scalar.muli c4_i32_947 arg19
  let v1366 : BitVec 32 := Scalar.addi v1365 c0_i32_948
  let v1368 : Index := Scalar.indexCast v1366
  let c96_950 : Index := 96#32
  ![0, v1368.toNat, 96]
def k0_off11 (k0_t2 : Fin k0_t2_loop.trips) (c0_i32_952 : BitVec 32) : Fin 3 → Nat :=
  let c0_i32_953 : BitVec 32 := 0#32
  let v1374 : Index := Scalar.indexCast c0_i32_953
  let c4_i32_951 : BitVec 32 := 4#32
  let c0_i32_303 : BitVec 32 := 0#32
  let c1_i32_305 : BitVec 32 := 1#32
  let arg19 : BitVec 32 := Scf.iv c0_i32_303 c1_i32_305 k0_t2
  let v1372 : BitVec 32 := Scalar.muli c4_i32_951 arg19
  let v1373 : BitVec 32 := Scalar.addi v1372 c0_i32_952
  let v1375 : Index := Scalar.indexCast v1373
  let c112 : Index := 112#32
  ![0, v1375.toNat, 112]
def k0_off12 (k0_t2 : Fin k0_t2_loop.trips) (c0_i32_955 : BitVec 32) : Fin 3 → Nat :=
  let c0_i32_956 : BitVec 32 := 0#32
  let v1380 : Index := Scalar.indexCast c0_i32_956
  let c4_i32_954 : BitVec 32 := 4#32
  let c0_i32_303 : BitVec 32 := 0#32
  let c1_i32_305 : BitVec 32 := 1#32
  let arg19 : BitVec 32 := Scf.iv c0_i32_303 c1_i32_305 k0_t2
  let v1378 : BitVec 32 := Scalar.muli c4_i32_954 arg19
  let v1379 : BitVec 32 := Scalar.addi v1378 c0_i32_955
  let v1381 : Index := Scalar.indexCast v1379
  let c112_957 : Index := 112#32
  ![0, v1381.toNat, 112]
def k0_off13 (k0_t1 : Fin k0_t1_loop.trips) (c0_i32_239 : BitVec 32) : Fin 3 → Nat :=
  let c2_i32_330 : BitVec 32 := 2#32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let c2_i32_307 : BitVec 32 := 2#32
  let v272 : BitVec 32 := Scalar.addi v162 c2_i32_307
  let c0_i32_317 : BitVec 32 := 0#32
  let v292 : BitVec 1 := Scalar.cmpi .sgt v272 c0_i32_317
  let v293 : BitVec 32 := Scalar.extui v292
  let c0_i32_318 : BitVec 32 := 0#32
  let v294 : BitVec 1 := Scalar.cmpi .slt v272 c0_i32_318
  let v295 : BitVec 32 := Scalar.extui v294
  let v296 : BitVec 32 := Scalar.subi v293 v295
  let c4_i32_316 : BitVec 32 := 4#32
  let c0_i32_319 : BitVec 32 := 0#32
  let v297 : BitVec 1 := Scalar.cmpi .sgt c4_i32_316 c0_i32_319
  let v298 : BitVec 32 := Scalar.extui v297
  let c0_i32_320 : BitVec 32 := 0#32
  let v299 : BitVec 1 := Scalar.cmpi .slt c4_i32_316 c0_i32_320
  let v300 : BitVec 32 := Scalar.extui v299
  let v301 : BitVec 32 := Scalar.subi v298 v300
  let v302 : BitVec 1 := Scalar.cmpi .ne v296 v301
  let v303 : BitVec 32 := Scalar.remsi v272 c4_i32_316
  let c0_i32_321 : BitVec 32 := 0#32
  let v304 : BitVec 1 := Scalar.cmpi .ne v303 c0_i32_321
  let v305 : BitVec 1 := Scalar.andi v302 v304
  let v291 : BitVec 32 := Scalar.divsi v272 c4_i32_316
  let c1_i32_322 : BitVec 32 := 1#32
  let v306 : BitVec 32 := Scalar.subi v291 c1_i32_322
  let v307 : BitVec 32 := Scalar.select v305 v306 v291
  let v319 : BitVec 32 := Scalar.muli c2_i32_330 v307
  let c1_i32_331 : BitVec 32 := 1#32
  let v320 : BitVec 32 := Scalar.addi v319 c1_i32_331
  let c4_i32_323 : BitVec 32 := 4#32
  let c0_i32_324 : BitVec 32 := 0#32
  let v308 : BitVec 1 := Scalar.cmpi .eq c4_i32_323 c0_i32_324
  let c1_i32_325 : BitVec 32 := 1#32
  let v309 : BitVec 32 := Scalar.select v308 c1_i32_325 c4_i32_323
  let v310 : BitVec 32 := Scalar.remsi v272 v309
  let c0_i32_327 : BitVec 32 := 0#32
  let v312 : BitVec 1 := Scalar.cmpi .slt v310 c0_i32_327
  let c0_i32_328 : BitVec 32 := 0#32
  let v313 : BitVec 1 := Scalar.cmpi .slt v309 c0_i32_328
  let v314 : BitVec 1 := Scalar.xori v312 v313
  let c0_i32_326 : BitVec 32 := 0#32
  let v311 : BitVec 1 := Scalar.cmpi .ne v310 c0_i32_326
  let v315 : BitVec 1 := Scalar.andi v314 v311
  let v316 : BitVec 32 := Scalar.addi v310 v309
  let v317 : BitVec 32 := Scalar.select v315 v316 v310
  let c0_i32_335 : BitVec 32 := 0#32
  ![v320.toNat, v317.toNat, 0]
def k0_off14 (k0_t1 : Fin k0_t1_loop.trips) (c0_i32_239 : BitVec 32) (c2_i32_307 : BitVec 32) : Fin 2 → Nat :=
  let c0_i32_336 : BitVec 32 := 0#32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let v272 : BitVec 32 := Scalar.addi v162 c2_i32_307
  let c0_i32_309 : BitVec 32 := 0#32
  let v274 : BitVec 1 := Scalar.cmpi .sgt v272 c0_i32_309
  let v275 : BitVec 32 := Scalar.extui v274
  let c0_i32_310 : BitVec 32 := 0#32
  let v276 : BitVec 1 := Scalar.cmpi .slt v272 c0_i32_310
  let v277 : BitVec 32 := Scalar.extui v276
  let v278 : BitVec 32 := Scalar.subi v275 v277
  let c4_i32_308 : BitVec 32 := 4#32
  let c0_i32_311 : BitVec 32 := 0#32
  let v279 : BitVec 1 := Scalar.cmpi .sgt c4_i32_308 c0_i32_311
  let v280 : BitVec 32 := Scalar.extui v279
  let c0_i32_312 : BitVec 32 := 0#32
  let v281 : BitVec 1 := Scalar.cmpi .slt c4_i32_308 c0_i32_312
  let v282 : BitVec 32 := Scalar.extui v281
  let v283 : BitVec 32 := Scalar.subi v280 v282
  let v284 : BitVec 1 := Scalar.cmpi .ne v278 v283
  let v285 : BitVec 32 := Scalar.remsi v272 c4_i32_308
  let c0_i32_313 : BitVec 32 := 0#32
  let v286 : BitVec 1 := Scalar.cmpi .ne v285 c0_i32_313
  let v287 : BitVec 1 := Scalar.andi v284 v286
  let v273 : BitVec 32 := Scalar.divsi v272 c4_i32_308
  let c1_i32_314 : BitVec 32 := 1#32
  let v288 : BitVec 32 := Scalar.subi v273 c1_i32_314
  let v289 : BitVec 32 := Scalar.select v287 v288 v273
  let c128_i32_315 : BitVec 32 := 128#32
  let v290 : BitVec 32 := Scalar.muli v289 c128_i32_315
  ![0, v290.toNat]
def k0_off15 (i : grid0.Coords) (k0_t1 : Fin k0_t1_loop.trips) (c0_i32_239 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let c4_i32_346 : BitVec 32 := 4#32
  let c0_i32_347 : BitVec 32 := 0#32
  let v344 : BitVec 1 := Scalar.cmpi .eq c4_i32_346 c0_i32_347
  let c1_i32_348 : BitVec 32 := 1#32
  let v345 : BitVec 32 := Scalar.select v344 c1_i32_348 c4_i32_346
  let v346 : BitVec 32 := Scalar.remsi v162 v345
  let c0_i32_350 : BitVec 32 := 0#32
  let v348 : BitVec 1 := Scalar.cmpi .slt v346 c0_i32_350
  let c0_i32_351 : BitVec 32 := 0#32
  let v349 : BitVec 1 := Scalar.cmpi .slt v345 c0_i32_351
  let v350 : BitVec 1 := Scalar.xori v348 v349
  let c0_i32_349 : BitVec 32 := 0#32
  let v347 : BitVec 1 := Scalar.cmpi .ne v346 c0_i32_349
  let v351 : BitVec 1 := Scalar.andi v350 v347
  let v352 : BitVec 32 := Scalar.addi v346 v345
  let v353 : BitVec 32 := Scalar.select v351 v352 v346
  let c128_i32_352 : BitVec 32 := 128#32
  let v354 : BitVec 32 := Scalar.muli v353 c128_i32_352
  let v355 : BitVec 32 := Scalar.addi v2 v354
  let c0_i32_340 : BitVec 32 := 0#32
  let v328 : BitVec 1 := Scalar.cmpi .sgt v162 c0_i32_340
  let v329 : BitVec 32 := Scalar.extui v328
  let c0_i32_341 : BitVec 32 := 0#32
  let v330 : BitVec 1 := Scalar.cmpi .slt v162 c0_i32_341
  let v331 : BitVec 32 := Scalar.extui v330
  let v332 : BitVec 32 := Scalar.subi v329 v331
  let c4_i32_339 : BitVec 32 := 4#32
  let c0_i32_342 : BitVec 32 := 0#32
  let v333 : BitVec 1 := Scalar.cmpi .sgt c4_i32_339 c0_i32_342
  let v334 : BitVec 32 := Scalar.extui v333
  let c0_i32_343 : BitVec 32 := 0#32
  let v335 : BitVec 1 := Scalar.cmpi .slt c4_i32_339 c0_i32_343
  let v336 : BitVec 32 := Scalar.extui v335
  let v337 : BitVec 32 := Scalar.subi v334 v336
  let v338 : BitVec 1 := Scalar.cmpi .ne v332 v337
  let v339 : BitVec 32 := Scalar.remsi v162 c4_i32_339
  let c0_i32_344 : BitVec 32 := 0#32
  let v340 : BitVec 1 := Scalar.cmpi .ne v339 c0_i32_344
  let v341 : BitVec 1 := Scalar.andi v338 v340
  let v327 : BitVec 32 := Scalar.divsi v162 c4_i32_339
  let c1_i32_345 : BitVec 32 := 1#32
  let v342 : BitVec 32 := Scalar.subi v327 c1_i32_345
  let v343 : BitVec 32 := Scalar.select v341 v342 v327
  let c128_i32_353 : BitVec 32 := 128#32
  let v356 : BitVec 32 := Scalar.muli v343 c128_i32_353
  ![v355.toNat, v356.toNat]
def k0_off16 (k0_t1 : Fin k0_t1_loop.trips) (c0_i32_239 : BitVec 32) : Fin 3 → Nat :=
  let c2_i32_401 : BitVec 32 := 2#32
  let c0_i32_58 : BitVec 32 := 0#32
  let c1_i32_59 : BitVec 32 := 1#32
  let arg18 : BitVec 32 := Scf.iv c0_i32_58 c1_i32_59 k0_t1
  let c4_i32_238 : BitVec 32 := 4#32
  let v161 : BitVec 32 := Scalar.muli arg18 c4_i32_238
  let v162 : BitVec 32 := Scalar.addi v161 c0_i32_239
  let c4_i32_379 : BitVec 32 := 4#32
  let v399 : BitVec 32 := Scalar.addi v162 c4_i32_379
  let c0_i32_389 : BitVec 32 := 0#32
  let v419 : BitVec 1 := Scalar.cmpi .sgt v399 c0_i32_389
  let v420 : BitVec 32 := Scalar.extui v419
  let c0_i32_390 : BitVec 32 := 0#32
  let v421 : BitVec 1 := Scalar.cmpi .slt v399 c0_i32_390
  let v422 : BitVec 32 := Scalar.extui v421
  let v423 : BitVec 32 := Scalar.subi v420 v422
  let c4_i32_388 : BitVec 32 := 4#32
  let c0_i32_391 : BitVec 32 := 0#32
  let v424 : BitVec 1 := Scalar.cmpi .sgt c4_i32_388 c0_i32_391
  let v425 : BitVec 32 := Scalar.extui v424
  let c0_i32_392 : BitVec 32 := 0#32
  let v426 : BitVec 1 := Scalar.cmpi .slt c4_i32_388 c0_i32_392
  let v427 : BitVec 32 := Scalar.extui v426
  let v428 : BitVec 32 := Scalar.subi v425 v427
  let v429 : BitVec 1 := Scalar.cmpi .ne v423 v428
  let v430 : BitVec 32 := Scalar.remsi v399 c4_i32_388
  let c0_i32_393 : BitVec 32 := 0#32
  let v431 : BitVec 1 := Scalar.cmpi .ne v430 c0_i32_393
  let v432 : BitVec 1 := Scalar.andi v429 v431
  let v418 : BitVec 32 := Scalar.divsi v399 c4_i32_388
  let c1_i32_394 : BitVec 32 := 1#32
  let v433 : BitVec 32 := Scalar.subi v418 c1_i32_394
  let v434 : BitVec 32 := Scalar.select v432 v433 v418
  let v445 : BitVec 32 := Scalar.muli c2_i32_401 v434
  let c4_i32_395 : BitVec 32 := 4#32
  let c0_i32_396 : BitVec 32 := 0#32
  let v435 : BitVec 1 := Scalar.cmpi .eq c4_i32_395 c0_i32_396
  let c1_i32_397 : BitVec 32 := 1#32
  let v436 : BitVec 32 := Scalar.select v435 c1_i32_397 c4_i32_395
  let v437 : BitVec 32 := Scalar.remsi v399 v436
  let c0_i32_399 : BitVec 32 := 0#32
  let v439 : BitVec 1 := Scalar.cmpi .slt v437 c0_i32_399
  let c0_i32_400 : BitVec 32 := 0#32
  let v440 : BitVec 1 := Scalar.cmpi .slt v436 c0_i32_400
  let v441 : BitVec 1 := Scalar.xori v439 v440
  let c0_i32_398 : BitVec 32 := 0#32
  let v438 : BitVec 1 := Scalar.cmpi .ne v437 c0_i32_398
  let v442 : BitVec 1 := Scalar.andi v441 v438
  let v443 : BitVec 32 := Scalar.addi v437 v436
  let v444 : BitVec 32 := Scalar.select v442 v443 v437
  let c0_i32_407 : BitVec 32 := 0#32
  ![v445.toNat, v444.toNat, 0]
@[reducible] def k0_t3_loop : Scf.Loop 32 :=
  let c0_i32_476 : BitVec 32 := 0#32
  let c32_i32_477 : BitVec 32 := 32#32
  let v564 : BitVec 32 := Scalar.addi c0_i32_476 c32_i32_477
  let c1_i32_478 : BitVec 32 := 1#32
  ⟨c0_i32_476, v564, c1_i32_478⟩
def k0_off17 (k0_t3 : Fin k0_t3_loop.trips) (c0_i32_931 : BitVec 32) : Fin 3 → Nat :=
  let c1_i32_932 : BitVec 32 := 1#32
  let v1335 : Index := Scalar.indexCast c1_i32_932
  let c4_i32_930 : BitVec 32 := 4#32
  let c0_i32_476 : BitVec 32 := 0#32
  let c1_i32_478 : BitVec 32 := 1#32
  let arg19 : BitVec 32 := Scf.iv c0_i32_476 c1_i32_478 k0_t3
  let v1333 : BitVec 32 := Scalar.muli c4_i32_930 arg19
  let v1334 : BitVec 32 := Scalar.addi v1333 c0_i32_931
  let v1336 : Index := Scalar.indexCast v1334
  let c64 : Index := 64#32
  ![1, v1336.toNat, 64]
def k0_off18 (k0_t3 : Fin k0_t3_loop.trips) (c0_i32_934 : BitVec 32) : Fin 3 → Nat :=
  let c1_i32_935 : BitVec 32 := 1#32
  let v1341 : Index := Scalar.indexCast c1_i32_935
  let c4_i32_933 : BitVec 32 := 4#32
  let c0_i32_476 : BitVec 32 := 0#32
  let c1_i32_478 : BitVec 32 := 1#32
  let arg19 : BitVec 32 := Scf.iv c0_i32_476 c1_i32_478 k0_t3
  let v1339 : BitVec 32 := Scalar.muli c4_i32_933 arg19
  let v1340 : BitVec 32 := Scalar.addi v1339 c0_i32_934
  let v1342 : Index := Scalar.indexCast v1340
  let c64_936 : Index := 64#32
  ![1, v1342.toNat, 64]
def k0_off19 (k0_t3 : Fin k0_t3_loop.trips) (c0_i32_938 : BitVec 32) : Fin 3 → Nat :=
  let c1_i32_939 : BitVec 32 := 1#32
  let v1348 : Index := Scalar.indexCast c1_i32_939
  let c4_i32_937 : BitVec 32 := 4#32
  let c0_i32_476 : BitVec 32 := 0#32
  let c1_i32_478 : BitVec 32 := 1#32
  let arg19 : BitVec 32 := Scf.iv c0_i32_476 c1_i32_478 k0_t3
  let v1346 : BitVec 32 := Scalar.muli c4_i32_937 arg19
  let v1347 : BitVec 32 := Scalar.addi v1346 c0_i32_938
  let v1349 : Index := Scalar.indexCast v1347
  let c80 : Index := 80#32
  ![1, v1349.toNat, 80]
def k0_off20 (k0_t3 : Fin k0_t3_loop.trips) (c0_i32_941 : BitVec 32) : Fin 3 → Nat :=
  let c1_i32_942 : BitVec 32 := 1#32
  let v1354 : Index := Scalar.indexCast c1_i32_942
  let c4_i32_940 : BitVec 32 := 4#32
  let c0_i32_476 : BitVec 32 := 0#32
  let c1_i32_478 : BitVec 32 := 1#32
  let arg19 : BitVec 32 := Scf.iv c0_i32_476 c1_i32_478 k0_t3
  let v1352 : BitVec 32 := Scalar.muli c4_i32_940 arg19
  let v1353 : BitVec 32 := Scalar.addi v1352 c0_i32_941
  let v1355 : Index := Scalar.indexCast v1353
  let c80_943 : Index := 80#32
  ![1, v1355.toNat, 80]
def k0_off21 (k0_t3 : Fin k0_t3_loop.trips) (c0_i32_945 : BitVec 32) : Fin 3 → Nat :=
  let c1_i32_946 : BitVec 32 := 1#32
  let v1361 : Index := Scalar.indexCast c1_i32_946
  let c4_i32_944 : BitVec 32 := 4#32
  let c0_i32_476 : BitVec 32 := 0#32
  let c1_i32_478 : BitVec 32 := 1#32
  let arg19 : BitVec 32 := Scf.iv c0_i32_476 c1_i32_478 k0_t3
  let v1359 : BitVec 32 := Scalar.muli c4_i32_944 arg19
  let v1360 : BitVec 32 := Scalar.addi v1359 c0_i32_945
  let v1362 : Index := Scalar.indexCast v1360
  let c96 : Index := 96#32
  ![1, v1362.toNat, 96]
def k0_off22 (k0_t3 : Fin k0_t3_loop.trips) (c0_i32_948 : BitVec 32) : Fin 3 → Nat :=
  let c1_i32_949 : BitVec 32 := 1#32
  let v1367 : Index := Scalar.indexCast c1_i32_949
  let c4_i32_947 : BitVec 32 := 4#32
  let c0_i32_476 : BitVec 32 := 0#32
  let c1_i32_478 : BitVec 32 := 1#32
  let arg19 : BitVec 32 := Scf.iv c0_i32_476 c1_i32_478 k0_t3
  let v1365 : BitVec 32 := Scalar.muli c4_i32_947 arg19
  let v1366 : BitVec 32 := Scalar.addi v1365 c0_i32_948
  let v1368 : Index := Scalar.indexCast v1366
  let c96_950 : Index := 96#32
  ![1, v1368.toNat, 96]
def k0_off23 (k0_t3 : Fin k0_t3_loop.trips) (c0_i32_952 : BitVec 32) : Fin 3 → Nat :=
  let c1_i32_953 : BitVec 32 := 1#32
  let v1374 : Index := Scalar.indexCast c1_i32_953
  let c4_i32_951 : BitVec 32 := 4#32
  let c0_i32_476 : BitVec 32 := 0#32
  let c1_i32_478 : BitVec 32 := 1#32
  let arg19 : BitVec 32 := Scf.iv c0_i32_476 c1_i32_478 k0_t3
  let v1372 : BitVec 32 := Scalar.muli c4_i32_951 arg19
  let v1373 : BitVec 32 := Scalar.addi v1372 c0_i32_952
  let v1375 : Index := Scalar.indexCast v1373
  let c112 : Index := 112#32
  ![1, v1375.toNat, 112]
def k0_off24 (k0_t3 : Fin k0_t3_loop.trips) (c0_i32_955 : BitVec 32) : Fin 3 → Nat :=
  let c1_i32_956 : BitVec 32 := 1#32
  let v1380 : Index := Scalar.indexCast c1_i32_956
  let c4_i32_954 : BitVec 32 := 4#32
  let c0_i32_476 : BitVec 32 := 0#32
  let c1_i32_478 : BitVec 32 := 1#32
  let arg19 : BitVec 32 := Scf.iv c0_i32_476 c1_i32_478 k0_t3
  let v1378 : BitVec 32 := Scalar.muli c4_i32_954 arg19
  let v1379 : BitVec 32 := Scalar.addi v1378 c0_i32_955
  let v1381 : Index := Scalar.indexCast v1379
  let c112_957 : Index := 112#32
  ![1, v1381.toNat, 112]
@[reducible] def k0_t4_loop : Scf.Loop 32 :=
  let c0_i32_649 : BitVec 32 := 0#32
  let c32_i32_650 : BitVec 32 := 32#32
  let v857 : BitVec 32 := Scalar.addi c0_i32_649 c32_i32_650
  let c1_i32_651 : BitVec 32 := 1#32
  ⟨c0_i32_649, v857, c1_i32_651⟩
def k0_off25 (k0_t4 : Fin k0_t4_loop.trips) (c0_i32_931 : BitVec 32) : Fin 3 → Nat :=
  let c0_i32_932 : BitVec 32 := 0#32
  let v1335 : Index := Scalar.indexCast c0_i32_932
  let c4_i32_930 : BitVec 32 := 4#32
  let c0_i32_649 : BitVec 32 := 0#32
  let c1_i32_651 : BitVec 32 := 1#32
  let arg19 : BitVec 32 := Scf.iv c0_i32_649 c1_i32_651 k0_t4
  let v1333 : BitVec 32 := Scalar.muli c4_i32_930 arg19
  let v1334 : BitVec 32 := Scalar.addi v1333 c0_i32_931
  let v1336 : Index := Scalar.indexCast v1334
  let c64 : Index := 64#32
  ![0, v1336.toNat, 64]
def k0_off26 (k0_t4 : Fin k0_t4_loop.trips) (c0_i32_934 : BitVec 32) : Fin 3 → Nat :=
  let c2_i32_935 : BitVec 32 := 2#32
  let v1341 : Index := Scalar.indexCast c2_i32_935
  let c4_i32_933 : BitVec 32 := 4#32
  let c0_i32_649 : BitVec 32 := 0#32
  let c1_i32_651 : BitVec 32 := 1#32
  let arg19 : BitVec 32 := Scf.iv c0_i32_649 c1_i32_651 k0_t4
  let v1339 : BitVec 32 := Scalar.muli c4_i32_933 arg19
  let v1340 : BitVec 32 := Scalar.addi v1339 c0_i32_934
  let v1342 : Index := Scalar.indexCast v1340
  let c64_936 : Index := 64#32
  ![2, v1342.toNat, 64]
def k0_off27 (k0_t4 : Fin k0_t4_loop.trips) (c0_i32_938 : BitVec 32) : Fin 3 → Nat :=
  let c0_i32_939 : BitVec 32 := 0#32
  let v1348 : Index := Scalar.indexCast c0_i32_939
  let c4_i32_937 : BitVec 32 := 4#32
  let c0_i32_649 : BitVec 32 := 0#32
  let c1_i32_651 : BitVec 32 := 1#32
  let arg19 : BitVec 32 := Scf.iv c0_i32_649 c1_i32_651 k0_t4
  let v1346 : BitVec 32 := Scalar.muli c4_i32_937 arg19
  let v1347 : BitVec 32 := Scalar.addi v1346 c0_i32_938
  let v1349 : Index := Scalar.indexCast v1347
  let c80 : Index := 80#32
  ![0, v1349.toNat, 80]
def k0_off28 (k0_t4 : Fin k0_t4_loop.trips) (c0_i32_941 : BitVec 32) : Fin 3 → Nat :=
  let c2_i32_942 : BitVec 32 := 2#32
  let v1354 : Index := Scalar.indexCast c2_i32_942
  let c4_i32_940 : BitVec 32 := 4#32
  let c0_i32_649 : BitVec 32 := 0#32
  let c1_i32_651 : BitVec 32 := 1#32
  let arg19 : BitVec 32 := Scf.iv c0_i32_649 c1_i32_651 k0_t4
  let v1352 : BitVec 32 := Scalar.muli c4_i32_940 arg19
  let v1353 : BitVec 32 := Scalar.addi v1352 c0_i32_941
  let v1355 : Index := Scalar.indexCast v1353
  let c80_943 : Index := 80#32
  ![2, v1355.toNat, 80]
def k0_off29 (k0_t4 : Fin k0_t4_loop.trips) (c0_i32_945 : BitVec 32) : Fin 3 → Nat :=
  let c0_i32_946 : BitVec 32 := 0#32
  let v1361 : Index := Scalar.indexCast c0_i32_946
  let c4_i32_944 : BitVec 32 := 4#32
  let c0_i32_649 : BitVec 32 := 0#32
  let c1_i32_651 : BitVec 32 := 1#32
  let arg19 : BitVec 32 := Scf.iv c0_i32_649 c1_i32_651 k0_t4
  let v1359 : BitVec 32 := Scalar.muli c4_i32_944 arg19
  let v1360 : BitVec 32 := Scalar.addi v1359 c0_i32_945
  let v1362 : Index := Scalar.indexCast v1360
  let c96 : Index := 96#32
  ![0, v1362.toNat, 96]
def k0_off30 (k0_t4 : Fin k0_t4_loop.trips) (c0_i32_948 : BitVec 32) : Fin 3 → Nat :=
  let c2_i32_949 : BitVec 32 := 2#32
  let v1367 : Index := Scalar.indexCast c2_i32_949
  let c4_i32_947 : BitVec 32 := 4#32
  let c0_i32_649 : BitVec 32 := 0#32
  let c1_i32_651 : BitVec 32 := 1#32
  let arg19 : BitVec 32 := Scf.iv c0_i32_649 c1_i32_651 k0_t4
  let v1365 : BitVec 32 := Scalar.muli c4_i32_947 arg19
  let v1366 : BitVec 32 := Scalar.addi v1365 c0_i32_948
  let v1368 : Index := Scalar.indexCast v1366
  let c96_950 : Index := 96#32
  ![2, v1368.toNat, 96]
def k0_off31 (k0_t4 : Fin k0_t4_loop.trips) (c0_i32_952 : BitVec 32) : Fin 3 → Nat :=
  let c0_i32_953 : BitVec 32 := 0#32
  let v1374 : Index := Scalar.indexCast c0_i32_953
  let c4_i32_951 : BitVec 32 := 4#32
  let c0_i32_649 : BitVec 32 := 0#32
  let c1_i32_651 : BitVec 32 := 1#32
  let arg19 : BitVec 32 := Scf.iv c0_i32_649 c1_i32_651 k0_t4
  let v1372 : BitVec 32 := Scalar.muli c4_i32_951 arg19
  let v1373 : BitVec 32 := Scalar.addi v1372 c0_i32_952
  let v1375 : Index := Scalar.indexCast v1373
  let c112 : Index := 112#32
  ![0, v1375.toNat, 112]
def k0_off32 (k0_t4 : Fin k0_t4_loop.trips) (c0_i32_955 : BitVec 32) : Fin 3 → Nat :=
  let c2_i32_956 : BitVec 32 := 2#32
  let v1380 : Index := Scalar.indexCast c2_i32_956
  let c4_i32_954 : BitVec 32 := 4#32
  let c0_i32_649 : BitVec 32 := 0#32
  let c1_i32_651 : BitVec 32 := 1#32
  let arg19 : BitVec 32 := Scf.iv c0_i32_649 c1_i32_651 k0_t4
  let v1378 : BitVec 32 := Scalar.muli c4_i32_954 arg19
  let v1379 : BitVec 32 := Scalar.addi v1378 c0_i32_955
  let v1381 : Index := Scalar.indexCast v1379
  let c112_957 : Index := 112#32
  ![2, v1381.toNat, 112]
@[reducible] def k0_t5_loop : Scf.Loop 32 :=
  let c0_i32_822 : BitVec 32 := 0#32
  let c32_i32_823 : BitVec 32 := 32#32
  let v1150 : BitVec 32 := Scalar.addi c0_i32_822 c32_i32_823
  let c1_i32_824 : BitVec 32 := 1#32
  ⟨c0_i32_822, v1150, c1_i32_824⟩
def k0_off33 (k0_t5 : Fin k0_t5_loop.trips) (c0_i32_931 : BitVec 32) : Fin 3 → Nat :=
  let c1_i32_932 : BitVec 32 := 1#32
  let v1335 : Index := Scalar.indexCast c1_i32_932
  let c4_i32_930 : BitVec 32 := 4#32
  let c0_i32_822 : BitVec 32 := 0#32
  let c1_i32_824 : BitVec 32 := 1#32
  let arg19 : BitVec 32 := Scf.iv c0_i32_822 c1_i32_824 k0_t5
  let v1333 : BitVec 32 := Scalar.muli c4_i32_930 arg19
  let v1334 : BitVec 32 := Scalar.addi v1333 c0_i32_931
  let v1336 : Index := Scalar.indexCast v1334
  let c64 : Index := 64#32
  ![1, v1336.toNat, 64]
def k0_off34 (k0_t5 : Fin k0_t5_loop.trips) (c0_i32_934 : BitVec 32) : Fin 3 → Nat :=
  let c3_i32_935 : BitVec 32 := 3#32
  let v1341 : Index := Scalar.indexCast c3_i32_935
  let c4_i32_933 : BitVec 32 := 4#32
  let c0_i32_822 : BitVec 32 := 0#32
  let c1_i32_824 : BitVec 32 := 1#32
  let arg19 : BitVec 32 := Scf.iv c0_i32_822 c1_i32_824 k0_t5
  let v1339 : BitVec 32 := Scalar.muli c4_i32_933 arg19
  let v1340 : BitVec 32 := Scalar.addi v1339 c0_i32_934
  let v1342 : Index := Scalar.indexCast v1340
  let c64_936 : Index := 64#32
  ![3, v1342.toNat, 64]
def k0_off35 (k0_t5 : Fin k0_t5_loop.trips) (c0_i32_938 : BitVec 32) : Fin 3 → Nat :=
  let c1_i32_939 : BitVec 32 := 1#32
  let v1348 : Index := Scalar.indexCast c1_i32_939
  let c4_i32_937 : BitVec 32 := 4#32
  let c0_i32_822 : BitVec 32 := 0#32
  let c1_i32_824 : BitVec 32 := 1#32
  let arg19 : BitVec 32 := Scf.iv c0_i32_822 c1_i32_824 k0_t5
  let v1346 : BitVec 32 := Scalar.muli c4_i32_937 arg19
  let v1347 : BitVec 32 := Scalar.addi v1346 c0_i32_938
  let v1349 : Index := Scalar.indexCast v1347
  let c80 : Index := 80#32
  ![1, v1349.toNat, 80]
def k0_off36 (k0_t5 : Fin k0_t5_loop.trips) (c0_i32_941 : BitVec 32) : Fin 3 → Nat :=
  let c3_i32_942 : BitVec 32 := 3#32
  let v1354 : Index := Scalar.indexCast c3_i32_942
  let c4_i32_940 : BitVec 32 := 4#32
  let c0_i32_822 : BitVec 32 := 0#32
  let c1_i32_824 : BitVec 32 := 1#32
  let arg19 : BitVec 32 := Scf.iv c0_i32_822 c1_i32_824 k0_t5
  let v1352 : BitVec 32 := Scalar.muli c4_i32_940 arg19
  let v1353 : BitVec 32 := Scalar.addi v1352 c0_i32_941
  let v1355 : Index := Scalar.indexCast v1353
  let c80_943 : Index := 80#32
  ![3, v1355.toNat, 80]
def k0_off37 (k0_t5 : Fin k0_t5_loop.trips) (c0_i32_945 : BitVec 32) : Fin 3 → Nat :=
  let c1_i32_946 : BitVec 32 := 1#32
  let v1361 : Index := Scalar.indexCast c1_i32_946
  let c4_i32_944 : BitVec 32 := 4#32
  let c0_i32_822 : BitVec 32 := 0#32
  let c1_i32_824 : BitVec 32 := 1#32
  let arg19 : BitVec 32 := Scf.iv c0_i32_822 c1_i32_824 k0_t5
  let v1359 : BitVec 32 := Scalar.muli c4_i32_944 arg19
  let v1360 : BitVec 32 := Scalar.addi v1359 c0_i32_945
  let v1362 : Index := Scalar.indexCast v1360
  let c96 : Index := 96#32
  ![1, v1362.toNat, 96]
def k0_off38 (k0_t5 : Fin k0_t5_loop.trips) (c0_i32_948 : BitVec 32) : Fin 3 → Nat :=
  let c3_i32_949 : BitVec 32 := 3#32
  let v1367 : Index := Scalar.indexCast c3_i32_949
  let c4_i32_947 : BitVec 32 := 4#32
  let c0_i32_822 : BitVec 32 := 0#32
  let c1_i32_824 : BitVec 32 := 1#32
  let arg19 : BitVec 32 := Scf.iv c0_i32_822 c1_i32_824 k0_t5
  let v1365 : BitVec 32 := Scalar.muli c4_i32_947 arg19
  let v1366 : BitVec 32 := Scalar.addi v1365 c0_i32_948
  let v1368 : Index := Scalar.indexCast v1366
  let c96_950 : Index := 96#32
  ![3, v1368.toNat, 96]
def k0_off39 (k0_t5 : Fin k0_t5_loop.trips) (c0_i32_952 : BitVec 32) : Fin 3 → Nat :=
  let c1_i32_953 : BitVec 32 := 1#32
  let v1374 : Index := Scalar.indexCast c1_i32_953
  let c4_i32_951 : BitVec 32 := 4#32
  let c0_i32_822 : BitVec 32 := 0#32
  let c1_i32_824 : BitVec 32 := 1#32
  let arg19 : BitVec 32 := Scf.iv c0_i32_822 c1_i32_824 k0_t5
  let v1372 : BitVec 32 := Scalar.muli c4_i32_951 arg19
  let v1373 : BitVec 32 := Scalar.addi v1372 c0_i32_952
  let v1375 : Index := Scalar.indexCast v1373
  let c112 : Index := 112#32
  ![1, v1375.toNat, 112]
def k0_off40 (k0_t5 : Fin k0_t5_loop.trips) (c0_i32_955 : BitVec 32) : Fin 3 → Nat :=
  let c3_i32_956 : BitVec 32 := 3#32
  let v1380 : Index := Scalar.indexCast c3_i32_956
  let c4_i32_954 : BitVec 32 := 4#32
  let c0_i32_822 : BitVec 32 := 0#32
  let c1_i32_824 : BitVec 32 := 1#32
  let arg19 : BitVec 32 := Scf.iv c0_i32_822 c1_i32_824 k0_t5
  let v1378 : BitVec 32 := Scalar.muli c4_i32_954 arg19
  let v1379 : BitVec 32 := Scalar.addi v1378 c0_i32_955
  let v1381 : Index := Scalar.indexCast v1379
  let c112_957 : Index := 112#32
  ![3, v1381.toNat, 112]
@[reducible] def k0_t6_loop : Scf.Loop 32 :=
  let c0_i32_79 : BitVec 32 := 0#32
  let c32_i32 : BitVec 32 := 32#32
  let v53 : BitVec 32 := Scalar.addi c0_i32_79 c32_i32
  let c1_i32_80 : BitVec 32 := 1#32
  ⟨c0_i32_79, v53, c1_i32_80⟩
def k0_off41 (k0_t6 : Fin k0_t6_loop.trips) (c0_i32_239 : BitVec 32) : Fin 3 → Nat :=
  let c0_i32_240 : BitVec 32 := 0#32
  let v163 : Index := Scalar.indexCast c0_i32_240
  let c4_i32_238 : BitVec 32 := 4#32
  let c0_i32_79 : BitVec 32 := 0#32
  let c1_i32_80 : BitVec 32 := 1#32
  let arg18 : BitVec 32 := Scf.iv c0_i32_79 c1_i32_80 k0_t6
  let v161 : BitVec 32 := Scalar.muli c4_i32_238 arg18
  let v162 : BitVec 32 := Scalar.addi v161 c0_i32_239
  let v164 : Index := Scalar.indexCast v162
  let c64 : Index := 64#32
  ![0, v164.toNat, 64]
def k0_off42 (k0_t6 : Fin k0_t6_loop.trips) (c0_i32_242 : BitVec 32) : Fin 3 → Nat :=
  let c0_i32_243 : BitVec 32 := 0#32
  let v169 : Index := Scalar.indexCast c0_i32_243
  let c4_i32_241 : BitVec 32 := 4#32
  let c0_i32_79 : BitVec 32 := 0#32
  let c1_i32_80 : BitVec 32 := 1#32
  let arg18 : BitVec 32 := Scf.iv c0_i32_79 c1_i32_80 k0_t6
  let v167 : BitVec 32 := Scalar.muli c4_i32_241 arg18
  let v168 : BitVec 32 := Scalar.addi v167 c0_i32_242
  let v170 : Index := Scalar.indexCast v168
  let c64_244 : Index := 64#32
  ![0, v170.toNat, 64]
def k0_off43 (k0_t6 : Fin k0_t6_loop.trips) (c0_i32_246 : BitVec 32) : Fin 3 → Nat :=
  let c0_i32_247 : BitVec 32 := 0#32
  let v176 : Index := Scalar.indexCast c0_i32_247
  let c4_i32_245 : BitVec 32 := 4#32
  let c0_i32_79 : BitVec 32 := 0#32
  let c1_i32_80 : BitVec 32 := 1#32
  let arg18 : BitVec 32 := Scf.iv c0_i32_79 c1_i32_80 k0_t6
  let v174 : BitVec 32 := Scalar.muli c4_i32_245 arg18
  let v175 : BitVec 32 := Scalar.addi v174 c0_i32_246
  let v177 : Index := Scalar.indexCast v175
  let c80 : Index := 80#32
  ![0, v177.toNat, 80]
def k0_off44 (k0_t6 : Fin k0_t6_loop.trips) (c0_i32_249 : BitVec 32) : Fin 3 → Nat :=
  let c0_i32_250 : BitVec 32 := 0#32
  let v182 : Index := Scalar.indexCast c0_i32_250
  let c4_i32_248 : BitVec 32 := 4#32
  let c0_i32_79 : BitVec 32 := 0#32
  let c1_i32_80 : BitVec 32 := 1#32
  let arg18 : BitVec 32 := Scf.iv c0_i32_79 c1_i32_80 k0_t6
  let v180 : BitVec 32 := Scalar.muli c4_i32_248 arg18
  let v181 : BitVec 32 := Scalar.addi v180 c0_i32_249
  let v183 : Index := Scalar.indexCast v181
  let c80_251 : Index := 80#32
  ![0, v183.toNat, 80]
def k0_off45 (k0_t6 : Fin k0_t6_loop.trips) (c0_i32_253 : BitVec 32) : Fin 3 → Nat :=
  let c0_i32_254 : BitVec 32 := 0#32
  let v189 : Index := Scalar.indexCast c0_i32_254
  let c4_i32_252 : BitVec 32 := 4#32
  let c0_i32_79 : BitVec 32 := 0#32
  let c1_i32_80 : BitVec 32 := 1#32
  let arg18 : BitVec 32 := Scf.iv c0_i32_79 c1_i32_80 k0_t6
  let v187 : BitVec 32 := Scalar.muli c4_i32_252 arg18
  let v188 : BitVec 32 := Scalar.addi v187 c0_i32_253
  let v190 : Index := Scalar.indexCast v188
  let c96 : Index := 96#32
  ![0, v190.toNat, 96]
def k0_off46 (k0_t6 : Fin k0_t6_loop.trips) (c0_i32_256 : BitVec 32) : Fin 3 → Nat :=
  let c0_i32_257 : BitVec 32 := 0#32
  let v195 : Index := Scalar.indexCast c0_i32_257
  let c4_i32_255 : BitVec 32 := 4#32
  let c0_i32_79 : BitVec 32 := 0#32
  let c1_i32_80 : BitVec 32 := 1#32
  let arg18 : BitVec 32 := Scf.iv c0_i32_79 c1_i32_80 k0_t6
  let v193 : BitVec 32 := Scalar.muli c4_i32_255 arg18
  let v194 : BitVec 32 := Scalar.addi v193 c0_i32_256
  let v196 : Index := Scalar.indexCast v194
  let c96_258 : Index := 96#32
  ![0, v196.toNat, 96]
def k0_off47 (k0_t6 : Fin k0_t6_loop.trips) (c0_i32_260 : BitVec 32) : Fin 3 → Nat :=
  let c0_i32_261 : BitVec 32 := 0#32
  let v202 : Index := Scalar.indexCast c0_i32_261
  let c4_i32_259 : BitVec 32 := 4#32
  let c0_i32_79 : BitVec 32 := 0#32
  let c1_i32_80 : BitVec 32 := 1#32
  let arg18 : BitVec 32 := Scf.iv c0_i32_79 c1_i32_80 k0_t6
  let v200 : BitVec 32 := Scalar.muli c4_i32_259 arg18
  let v201 : BitVec 32 := Scalar.addi v200 c0_i32_260
  let v203 : Index := Scalar.indexCast v201
  let c112 : Index := 112#32
  ![0, v203.toNat, 112]
def k0_off48 (k0_t6 : Fin k0_t6_loop.trips) (c0_i32_263 : BitVec 32) : Fin 3 → Nat :=
  let c0_i32_264 : BitVec 32 := 0#32
  let v208 : Index := Scalar.indexCast c0_i32_264
  let c4_i32_262 : BitVec 32 := 4#32
  let c0_i32_79 : BitVec 32 := 0#32
  let c1_i32_80 : BitVec 32 := 1#32
  let arg18 : BitVec 32 := Scf.iv c0_i32_79 c1_i32_80 k0_t6
  let v206 : BitVec 32 := Scalar.muli c4_i32_262 arg18
  let v207 : BitVec 32 := Scalar.addi v206 c0_i32_263
  let v209 : Index := Scalar.indexCast v207
  let c112_265 : Index := 112#32
  ![0, v209.toNat, 112]
def k0_off49 (i : grid0.Coords) (c0_i32_92 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v60 : BitVec 32 := Scalar.addi v2 c0_i32_92
  let c1920_i32_96 : BitVec 32 := 1920#32
  ![v60.toNat, 1920]
@[reducible] def k0_t7_loop : Scf.Loop 32 :=
  let c0_i32_129 : BitVec 32 := 0#32
  let c32_i32_130 : BitVec 32 := 32#32
  let v86 : BitVec 32 := Scalar.addi c0_i32_129 c32_i32_130
  let c1_i32_131 : BitVec 32 := 1#32
  ⟨c0_i32_129, v86, c1_i32_131⟩
def k0_off50 (k0_t7 : Fin k0_t7_loop.trips) (c0_i32_239 : BitVec 32) : Fin 3 → Nat :=
  let c1_i32_240 : BitVec 32 := 1#32
  let v163 : Index := Scalar.indexCast c1_i32_240
  let c4_i32_238 : BitVec 32 := 4#32
  let c0_i32_129 : BitVec 32 := 0#32
  let c1_i32_131 : BitVec 32 := 1#32
  let arg18 : BitVec 32 := Scf.iv c0_i32_129 c1_i32_131 k0_t7
  let v161 : BitVec 32 := Scalar.muli c4_i32_238 arg18
  let v162 : BitVec 32 := Scalar.addi v161 c0_i32_239
  let v164 : Index := Scalar.indexCast v162
  let c64 : Index := 64#32
  ![1, v164.toNat, 64]
def k0_off51 (k0_t7 : Fin k0_t7_loop.trips) (c0_i32_242 : BitVec 32) : Fin 3 → Nat :=
  let c1_i32_243 : BitVec 32 := 1#32
  let v169 : Index := Scalar.indexCast c1_i32_243
  let c4_i32_241 : BitVec 32 := 4#32
  let c0_i32_129 : BitVec 32 := 0#32
  let c1_i32_131 : BitVec 32 := 1#32
  let arg18 : BitVec 32 := Scf.iv c0_i32_129 c1_i32_131 k0_t7
  let v167 : BitVec 32 := Scalar.muli c4_i32_241 arg18
  let v168 : BitVec 32 := Scalar.addi v167 c0_i32_242
  let v170 : Index := Scalar.indexCast v168
  let c64_244 : Index := 64#32
  ![1, v170.toNat, 64]
def k0_off52 (k0_t7 : Fin k0_t7_loop.trips) (c0_i32_246 : BitVec 32) : Fin 3 → Nat :=
  let c1_i32_247 : BitVec 32 := 1#32
  let v176 : Index := Scalar.indexCast c1_i32_247
  let c4_i32_245 : BitVec 32 := 4#32
  let c0_i32_129 : BitVec 32 := 0#32
  let c1_i32_131 : BitVec 32 := 1#32
  let arg18 : BitVec 32 := Scf.iv c0_i32_129 c1_i32_131 k0_t7
  let v174 : BitVec 32 := Scalar.muli c4_i32_245 arg18
  let v175 : BitVec 32 := Scalar.addi v174 c0_i32_246
  let v177 : Index := Scalar.indexCast v175
  let c80 : Index := 80#32
  ![1, v177.toNat, 80]
def k0_off53 (k0_t7 : Fin k0_t7_loop.trips) (c0_i32_249 : BitVec 32) : Fin 3 → Nat :=
  let c1_i32_250 : BitVec 32 := 1#32
  let v182 : Index := Scalar.indexCast c1_i32_250
  let c4_i32_248 : BitVec 32 := 4#32
  let c0_i32_129 : BitVec 32 := 0#32
  let c1_i32_131 : BitVec 32 := 1#32
  let arg18 : BitVec 32 := Scf.iv c0_i32_129 c1_i32_131 k0_t7
  let v180 : BitVec 32 := Scalar.muli c4_i32_248 arg18
  let v181 : BitVec 32 := Scalar.addi v180 c0_i32_249
  let v183 : Index := Scalar.indexCast v181
  let c80_251 : Index := 80#32
  ![1, v183.toNat, 80]
def k0_off54 (k0_t7 : Fin k0_t7_loop.trips) (c0_i32_253 : BitVec 32) : Fin 3 → Nat :=
  let c1_i32_254 : BitVec 32 := 1#32
  let v189 : Index := Scalar.indexCast c1_i32_254
  let c4_i32_252 : BitVec 32 := 4#32
  let c0_i32_129 : BitVec 32 := 0#32
  let c1_i32_131 : BitVec 32 := 1#32
  let arg18 : BitVec 32 := Scf.iv c0_i32_129 c1_i32_131 k0_t7
  let v187 : BitVec 32 := Scalar.muli c4_i32_252 arg18
  let v188 : BitVec 32 := Scalar.addi v187 c0_i32_253
  let v190 : Index := Scalar.indexCast v188
  let c96 : Index := 96#32
  ![1, v190.toNat, 96]
def k0_off55 (k0_t7 : Fin k0_t7_loop.trips) (c0_i32_256 : BitVec 32) : Fin 3 → Nat :=
  let c1_i32_257 : BitVec 32 := 1#32
  let v195 : Index := Scalar.indexCast c1_i32_257
  let c4_i32_255 : BitVec 32 := 4#32
  let c0_i32_129 : BitVec 32 := 0#32
  let c1_i32_131 : BitVec 32 := 1#32
  let arg18 : BitVec 32 := Scf.iv c0_i32_129 c1_i32_131 k0_t7
  let v193 : BitVec 32 := Scalar.muli c4_i32_255 arg18
  let v194 : BitVec 32 := Scalar.addi v193 c0_i32_256
  let v196 : Index := Scalar.indexCast v194
  let c96_258 : Index := 96#32
  ![1, v196.toNat, 96]
def k0_off56 (k0_t7 : Fin k0_t7_loop.trips) (c0_i32_260 : BitVec 32) : Fin 3 → Nat :=
  let c1_i32_261 : BitVec 32 := 1#32
  let v202 : Index := Scalar.indexCast c1_i32_261
  let c4_i32_259 : BitVec 32 := 4#32
  let c0_i32_129 : BitVec 32 := 0#32
  let c1_i32_131 : BitVec 32 := 1#32
  let arg18 : BitVec 32 := Scf.iv c0_i32_129 c1_i32_131 k0_t7
  let v200 : BitVec 32 := Scalar.muli c4_i32_259 arg18
  let v201 : BitVec 32 := Scalar.addi v200 c0_i32_260
  let v203 : Index := Scalar.indexCast v201
  let c112 : Index := 112#32
  ![1, v203.toNat, 112]
def k0_off57 (k0_t7 : Fin k0_t7_loop.trips) (c0_i32_263 : BitVec 32) : Fin 3 → Nat :=
  let c1_i32_264 : BitVec 32 := 1#32
  let v208 : Index := Scalar.indexCast c1_i32_264
  let c4_i32_262 : BitVec 32 := 4#32
  let c0_i32_129 : BitVec 32 := 0#32
  let c1_i32_131 : BitVec 32 := 1#32
  let arg18 : BitVec 32 := Scf.iv c0_i32_129 c1_i32_131 k0_t7
  let v206 : BitVec 32 := Scalar.muli c4_i32_262 arg18
  let v207 : BitVec 32 := Scalar.addi v206 c0_i32_263
  let v209 : Index := Scalar.indexCast v207
  let c112_265 : Index := 112#32
  ![1, v209.toNat, 112]
@[reducible] def k0_t8_loop : Scf.Loop 32 :=
  let c0_i32_179 : BitVec 32 := 0#32
  let c32_i32_180 : BitVec 32 := 32#32
  let v119 : BitVec 32 := Scalar.addi c0_i32_179 c32_i32_180
  let c1_i32_181 : BitVec 32 := 1#32
  ⟨c0_i32_179, v119, c1_i32_181⟩
def k0_off58 (k0_t8 : Fin k0_t8_loop.trips) (c0_i32_239 : BitVec 32) : Fin 3 → Nat :=
  let c0_i32_240 : BitVec 32 := 0#32
  let v163 : Index := Scalar.indexCast c0_i32_240
  let c4_i32_238 : BitVec 32 := 4#32
  let c0_i32_179 : BitVec 32 := 0#32
  let c1_i32_181 : BitVec 32 := 1#32
  let arg18 : BitVec 32 := Scf.iv c0_i32_179 c1_i32_181 k0_t8
  let v161 : BitVec 32 := Scalar.muli c4_i32_238 arg18
  let v162 : BitVec 32 := Scalar.addi v161 c0_i32_239
  let v164 : Index := Scalar.indexCast v162
  let c64 : Index := 64#32
  ![0, v164.toNat, 64]
def k0_off59 (k0_t8 : Fin k0_t8_loop.trips) (c0_i32_242 : BitVec 32) : Fin 3 → Nat :=
  let c2_i32_243 : BitVec 32 := 2#32
  let v169 : Index := Scalar.indexCast c2_i32_243
  let c4_i32_241 : BitVec 32 := 4#32
  let c0_i32_179 : BitVec 32 := 0#32
  let c1_i32_181 : BitVec 32 := 1#32
  let arg18 : BitVec 32 := Scf.iv c0_i32_179 c1_i32_181 k0_t8
  let v167 : BitVec 32 := Scalar.muli c4_i32_241 arg18
  let v168 : BitVec 32 := Scalar.addi v167 c0_i32_242
  let v170 : Index := Scalar.indexCast v168
  let c64_244 : Index := 64#32
  ![2, v170.toNat, 64]
def k0_off60 (k0_t8 : Fin k0_t8_loop.trips) (c0_i32_246 : BitVec 32) : Fin 3 → Nat :=
  let c0_i32_247 : BitVec 32 := 0#32
  let v176 : Index := Scalar.indexCast c0_i32_247
  let c4_i32_245 : BitVec 32 := 4#32
  let c0_i32_179 : BitVec 32 := 0#32
  let c1_i32_181 : BitVec 32 := 1#32
  let arg18 : BitVec 32 := Scf.iv c0_i32_179 c1_i32_181 k0_t8
  let v174 : BitVec 32 := Scalar.muli c4_i32_245 arg18
  let v175 : BitVec 32 := Scalar.addi v174 c0_i32_246
  let v177 : Index := Scalar.indexCast v175
  let c80 : Index := 80#32
  ![0, v177.toNat, 80]
def k0_off61 (k0_t8 : Fin k0_t8_loop.trips) (c0_i32_249 : BitVec 32) : Fin 3 → Nat :=
  let c2_i32_250 : BitVec 32 := 2#32
  let v182 : Index := Scalar.indexCast c2_i32_250
  let c4_i32_248 : BitVec 32 := 4#32
  let c0_i32_179 : BitVec 32 := 0#32
  let c1_i32_181 : BitVec 32 := 1#32
  let arg18 : BitVec 32 := Scf.iv c0_i32_179 c1_i32_181 k0_t8
  let v180 : BitVec 32 := Scalar.muli c4_i32_248 arg18
  let v181 : BitVec 32 := Scalar.addi v180 c0_i32_249
  let v183 : Index := Scalar.indexCast v181
  let c80_251 : Index := 80#32
  ![2, v183.toNat, 80]
def k0_off62 (k0_t8 : Fin k0_t8_loop.trips) (c0_i32_253 : BitVec 32) : Fin 3 → Nat :=
  let c0_i32_254 : BitVec 32 := 0#32
  let v189 : Index := Scalar.indexCast c0_i32_254
  let c4_i32_252 : BitVec 32 := 4#32
  let c0_i32_179 : BitVec 32 := 0#32
  let c1_i32_181 : BitVec 32 := 1#32
  let arg18 : BitVec 32 := Scf.iv c0_i32_179 c1_i32_181 k0_t8
  let v187 : BitVec 32 := Scalar.muli c4_i32_252 arg18
  let v188 : BitVec 32 := Scalar.addi v187 c0_i32_253
  let v190 : Index := Scalar.indexCast v188
  let c96 : Index := 96#32
  ![0, v190.toNat, 96]
def k0_off63 (k0_t8 : Fin k0_t8_loop.trips) (c0_i32_256 : BitVec 32) : Fin 3 → Nat :=
  let c2_i32_257 : BitVec 32 := 2#32
  let v195 : Index := Scalar.indexCast c2_i32_257
  let c4_i32_255 : BitVec 32 := 4#32
  let c0_i32_179 : BitVec 32 := 0#32
  let c1_i32_181 : BitVec 32 := 1#32
  let arg18 : BitVec 32 := Scf.iv c0_i32_179 c1_i32_181 k0_t8
  let v193 : BitVec 32 := Scalar.muli c4_i32_255 arg18
  let v194 : BitVec 32 := Scalar.addi v193 c0_i32_256
  let v196 : Index := Scalar.indexCast v194
  let c96_258 : Index := 96#32
  ![2, v196.toNat, 96]
def k0_off64 (k0_t8 : Fin k0_t8_loop.trips) (c0_i32_260 : BitVec 32) : Fin 3 → Nat :=
  let c0_i32_261 : BitVec 32 := 0#32
  let v202 : Index := Scalar.indexCast c0_i32_261
  let c4_i32_259 : BitVec 32 := 4#32
  let c0_i32_179 : BitVec 32 := 0#32
  let c1_i32_181 : BitVec 32 := 1#32
  let arg18 : BitVec 32 := Scf.iv c0_i32_179 c1_i32_181 k0_t8
  let v200 : BitVec 32 := Scalar.muli c4_i32_259 arg18
  let v201 : BitVec 32 := Scalar.addi v200 c0_i32_260
  let v203 : Index := Scalar.indexCast v201
  let c112 : Index := 112#32
  ![0, v203.toNat, 112]
def k0_off65 (k0_t8 : Fin k0_t8_loop.trips) (c0_i32_263 : BitVec 32) : Fin 3 → Nat :=
  let c2_i32_264 : BitVec 32 := 2#32
  let v208 : Index := Scalar.indexCast c2_i32_264
  let c4_i32_262 : BitVec 32 := 4#32
  let c0_i32_179 : BitVec 32 := 0#32
  let c1_i32_181 : BitVec 32 := 1#32
  let arg18 : BitVec 32 := Scf.iv c0_i32_179 c1_i32_181 k0_t8
  let v206 : BitVec 32 := Scalar.muli c4_i32_262 arg18
  let v207 : BitVec 32 := Scalar.addi v206 c0_i32_263
  let v209 : Index := Scalar.indexCast v207
  let c112_265 : Index := 112#32
  ![2, v209.toNat, 112]
@[reducible] def k0_t9_loop : Scf.Loop 32 :=
  let c0_i32_219 : BitVec 32 := 0#32
  let c32_i32_220 : BitVec 32 := 32#32
  let v146 : BitVec 32 := Scalar.addi c0_i32_219 c32_i32_220
  let c1_i32_221 : BitVec 32 := 1#32
  ⟨c0_i32_219, v146, c1_i32_221⟩
def k0_off66 (k0_t9 : Fin k0_t9_loop.trips) (c0_i32_239 : BitVec 32) : Fin 3 → Nat :=
  let c1_i32_240 : BitVec 32 := 1#32
  let v163 : Index := Scalar.indexCast c1_i32_240
  let c4_i32_238 : BitVec 32 := 4#32
  let c0_i32_219 : BitVec 32 := 0#32
  let c1_i32_221 : BitVec 32 := 1#32
  let arg18 : BitVec 32 := Scf.iv c0_i32_219 c1_i32_221 k0_t9
  let v161 : BitVec 32 := Scalar.muli c4_i32_238 arg18
  let v162 : BitVec 32 := Scalar.addi v161 c0_i32_239
  let v164 : Index := Scalar.indexCast v162
  let c64 : Index := 64#32
  ![1, v164.toNat, 64]
def k0_off67 (k0_t9 : Fin k0_t9_loop.trips) (c0_i32_242 : BitVec 32) : Fin 3 → Nat :=
  let c3_i32_243 : BitVec 32 := 3#32
  let v169 : Index := Scalar.indexCast c3_i32_243
  let c4_i32_241 : BitVec 32 := 4#32
  let c0_i32_219 : BitVec 32 := 0#32
  let c1_i32_221 : BitVec 32 := 1#32
  let arg18 : BitVec 32 := Scf.iv c0_i32_219 c1_i32_221 k0_t9
  let v167 : BitVec 32 := Scalar.muli c4_i32_241 arg18
  let v168 : BitVec 32 := Scalar.addi v167 c0_i32_242
  let v170 : Index := Scalar.indexCast v168
  let c64_244 : Index := 64#32
  ![3, v170.toNat, 64]
def k0_off68 (k0_t9 : Fin k0_t9_loop.trips) (c0_i32_246 : BitVec 32) : Fin 3 → Nat :=
  let c1_i32_247 : BitVec 32 := 1#32
  let v176 : Index := Scalar.indexCast c1_i32_247
  let c4_i32_245 : BitVec 32 := 4#32
  let c0_i32_219 : BitVec 32 := 0#32
  let c1_i32_221 : BitVec 32 := 1#32
  let arg18 : BitVec 32 := Scf.iv c0_i32_219 c1_i32_221 k0_t9
  let v174 : BitVec 32 := Scalar.muli c4_i32_245 arg18
  let v175 : BitVec 32 := Scalar.addi v174 c0_i32_246
  let v177 : Index := Scalar.indexCast v175
  let c80 : Index := 80#32
  ![1, v177.toNat, 80]
def k0_off69 (k0_t9 : Fin k0_t9_loop.trips) (c0_i32_249 : BitVec 32) : Fin 3 → Nat :=
  let c3_i32_250 : BitVec 32 := 3#32
  let v182 : Index := Scalar.indexCast c3_i32_250
  let c4_i32_248 : BitVec 32 := 4#32
  let c0_i32_219 : BitVec 32 := 0#32
  let c1_i32_221 : BitVec 32 := 1#32
  let arg18 : BitVec 32 := Scf.iv c0_i32_219 c1_i32_221 k0_t9
  let v180 : BitVec 32 := Scalar.muli c4_i32_248 arg18
  let v181 : BitVec 32 := Scalar.addi v180 c0_i32_249
  let v183 : Index := Scalar.indexCast v181
  let c80_251 : Index := 80#32
  ![3, v183.toNat, 80]
def k0_off70 (k0_t9 : Fin k0_t9_loop.trips) (c0_i32_253 : BitVec 32) : Fin 3 → Nat :=
  let c1_i32_254 : BitVec 32 := 1#32
  let v189 : Index := Scalar.indexCast c1_i32_254
  let c4_i32_252 : BitVec 32 := 4#32
  let c0_i32_219 : BitVec 32 := 0#32
  let c1_i32_221 : BitVec 32 := 1#32
  let arg18 : BitVec 32 := Scf.iv c0_i32_219 c1_i32_221 k0_t9
  let v187 : BitVec 32 := Scalar.muli c4_i32_252 arg18
  let v188 : BitVec 32 := Scalar.addi v187 c0_i32_253
  let v190 : Index := Scalar.indexCast v188
  let c96 : Index := 96#32
  ![1, v190.toNat, 96]
def k0_off71 (k0_t9 : Fin k0_t9_loop.trips) (c0_i32_256 : BitVec 32) : Fin 3 → Nat :=
  let c3_i32_257 : BitVec 32 := 3#32
  let v195 : Index := Scalar.indexCast c3_i32_257
  let c4_i32_255 : BitVec 32 := 4#32
  let c0_i32_219 : BitVec 32 := 0#32
  let c1_i32_221 : BitVec 32 := 1#32
  let arg18 : BitVec 32 := Scf.iv c0_i32_219 c1_i32_221 k0_t9
  let v193 : BitVec 32 := Scalar.muli c4_i32_255 arg18
  let v194 : BitVec 32 := Scalar.addi v193 c0_i32_256
  let v196 : Index := Scalar.indexCast v194
  let c96_258 : Index := 96#32
  ![3, v196.toNat, 96]
def k0_off72 (k0_t9 : Fin k0_t9_loop.trips) (c0_i32_260 : BitVec 32) : Fin 3 → Nat :=
  let c1_i32_261 : BitVec 32 := 1#32
  let v202 : Index := Scalar.indexCast c1_i32_261
  let c4_i32_259 : BitVec 32 := 4#32
  let c0_i32_219 : BitVec 32 := 0#32
  let c1_i32_221 : BitVec 32 := 1#32
  let arg18 : BitVec 32 := Scf.iv c0_i32_219 c1_i32_221 k0_t9
  let v200 : BitVec 32 := Scalar.muli c4_i32_259 arg18
  let v201 : BitVec 32 := Scalar.addi v200 c0_i32_260
  let v203 : Index := Scalar.indexCast v201
  let c112 : Index := 112#32
  ![1, v203.toNat, 112]
def k0_off73 (k0_t9 : Fin k0_t9_loop.trips) (c0_i32_263 : BitVec 32) : Fin 3 → Nat :=
  let c3_i32_264 : BitVec 32 := 3#32
  let v208 : Index := Scalar.indexCast c3_i32_264
  let c4_i32_262 : BitVec 32 := 4#32
  let c0_i32_219 : BitVec 32 := 0#32
  let c1_i32_221 : BitVec 32 := 1#32
  let arg18 : BitVec 32 := Scf.iv c0_i32_219 c1_i32_221 k0_t9
  let v206 : BitVec 32 := Scalar.muli c4_i32_262 arg18
  let v207 : BitVec 32 := Scalar.addi v206 c0_i32_263
  let v209 : Index := Scalar.indexCast v207
  let c112_265 : Index := 112#32
  ![3, v209.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S8192x2048 : Shape := ⟨2, ![8192, 2048]⟩
abbrev S_ : Shape := ⟨0, ![]⟩
abbrev S1 : Shape := ⟨1, ![1]⟩
abbrev S2 : Shape := ⟨1, ![2]⟩
abbrev S32 : Shape := ⟨1, ![32]⟩
abbrev S32x1 : Shape := ⟨2, ![32, 1]⟩
abbrev S32x2 : Shape := ⟨2, ![32, 2]⟩
abbrev S1x2 : Shape := ⟨2, ![1, 2]⟩
abbrev S32x2x1 : Shape := ⟨3, ![32, 2, 1]⟩
abbrev S32x2x2 : Shape := ⟨3, ![32, 2, 2]⟩
abbrev S32x1x2 : Shape := ⟨3, ![32, 1, 2]⟩
abbrev S16384 : Shape := ⟨1, ![16384]⟩
abbrev S1x16384 : Shape := ⟨2, ![1, 16384]⟩
abbrev S32x16384 : Shape := ⟨2, ![32, 16384]⟩
abbrev S1x1 : Shape := ⟨2, ![1, 1]⟩
abbrev S8192x64 : Shape := ⟨2, ![8192, 64]⟩
abbrev S16384x1 : Shape := ⟨2, ![16384, 1]⟩
abbrev S16384x64 : Shape := ⟨2, ![16384, 64]⟩
abbrev S16384x1024 : Shape := ⟨2, ![16384, 1024]⟩

abbrev nBuf : Space → Nat
  | .hbm => 1877
  | .vmem => 0
  | .smem => 0
  | _ => 0

abbrev hbmTy0_0 (i : Nat) : BufTy := match i % 128 with
  | 0 => ⟨S16384x2048, .f32⟩
  | 1 => ⟨S8192x2048, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S32, .i32⟩
  | 13 => ⟨S32, .i32⟩
  | 14 => ⟨S_, .i32⟩
  | 15 => ⟨S32, .i32⟩
  | 16 => ⟨S32, .i32⟩
  | 17 => ⟨S32x1, .i32⟩
  | 18 => ⟨S_, .i32⟩
  | 19 => ⟨S32, .i32⟩
  | 20 => ⟨S32, .i32⟩
  | 21 => ⟨S32x1, .i32⟩
  | 22 => ⟨S32x2, .i32⟩
  | 23 => ⟨S1, .i32⟩
  | 24 => ⟨S_, .i32⟩
  | 25 => ⟨S1, .i32⟩
  | 26 => ⟨S_, .i32⟩
  | 27 => ⟨S32x1, .i32⟩
  | 28 => ⟨S32x1, .i32⟩
  | 29 => ⟨S_, .i32⟩
  | 30 => ⟨S_, .i32⟩
  | 31 => ⟨S_, .i32⟩
  | 32 => ⟨S32x1, .i32⟩
  | 33 => ⟨S32x1, .i32⟩
  | 34 => ⟨S32x1, .i32⟩
  | 35 => ⟨S32x1, .i32⟩
  | 36 => ⟨S32x1, .i32⟩
  | 37 => ⟨S_, .i32⟩
  | 38 => ⟨S32x1, .i32⟩
  | 39 => ⟨S32x1, .i32⟩
  | 40 => ⟨S_, .i32⟩
  | 41 => ⟨S32x1, .i32⟩
  | 42 => ⟨S32x1, .i32⟩
  | 43 => ⟨S32x1, .i32⟩
  | 44 => ⟨S32x1, .i32⟩
  | 45 => ⟨S32x1, .i32⟩
  | 46 => ⟨S_, .i32⟩
  | 47 => ⟨S32x1, .i32⟩
  | 48 => ⟨S32x1, .i32⟩
  | 49 => ⟨S_, .i32⟩
  | 50 => ⟨S32x1, .i32⟩
  | 51 => ⟨S32x1, .i32⟩
  | 52 => ⟨S32x1, .i32⟩
  | 53 => ⟨S32x1, .i32⟩
  | 54 => ⟨S32x1, .i32⟩
  | 55 => ⟨S_, .i32⟩
  | 56 => ⟨S32x1, .i32⟩
  | 57 => ⟨S32x1, .i32⟩
  | 58 => ⟨S_, .i32⟩
  | 59 => ⟨S32x1, .i32⟩
  | 60 => ⟨S32x1, .i32⟩
  | 61 => ⟨S32x1, .i32⟩
  | 62 => ⟨S32x1, .i32⟩
  | 63 => ⟨S32x1, .i32⟩
  | 64 => ⟨S_, .i32⟩
  | 65 => ⟨S32x1, .i32⟩
  | 66 => ⟨S32x1, .i32⟩
  | 67 => ⟨S_, .i32⟩
  | 68 => ⟨S32x1, .i32⟩
  | 69 => ⟨S32x1, .i32⟩
  | 70 => ⟨S32x1, .i32⟩
  | 71 => ⟨S32x1, .i32⟩
  | 72 => ⟨S32x1, .i32⟩
  | 73 => ⟨S32x1, .i32⟩
  | 74 => ⟨S32x1, .i32⟩
  | 75 => ⟨S32x1, .i32⟩
  | 76 => ⟨S_, .i32⟩
  | 77 => ⟨S32x1, .i32⟩
  | 78 => ⟨S32x1, .i32⟩
  | 79 => ⟨S32x1, .i32⟩
  | 80 => ⟨S_, .i32⟩
  | 81 => ⟨S32x1, .i32⟩
  | 82 => ⟨S32x1, .i32⟩
  | 83 => ⟨S_, .i32⟩
  | 84 => ⟨S32x1, .i32⟩
  | 85 => ⟨S32x1, .i32⟩
  | 86 => ⟨S32x1, .i32⟩
  | 87 => ⟨S32x1, .i32⟩
  | 88 => ⟨S32x1, .i32⟩
  | 89 => ⟨S_, .i32⟩
  | 90 => ⟨S32x1, .i32⟩
  | 91 => ⟨S32x1, .i32⟩
  | 92 => ⟨S_, .i32⟩
  | 93 => ⟨S32x1, .i32⟩
  | 94 => ⟨S32x1, .i32⟩
  | 95 => ⟨S32x1, .i32⟩
  | 96 => ⟨S32x1, .i32⟩
  | 97 => ⟨S32x1, .i32⟩
  | 98 => ⟨S_, .i32⟩
  | 99 => ⟨S32x1, .i32⟩
  | 100 => ⟨S32x1, .i32⟩
  | 101 => ⟨S_, .i32⟩
  | 102 => ⟨S32x1, .i32⟩
  | 103 => ⟨S32x1, .i32⟩
  | 104 => ⟨S32x1, .i32⟩
  | 105 => ⟨S32x1, .i32⟩
  | 106 => ⟨S32x1, .i32⟩
  | 107 => ⟨S_, .i32⟩
  | 108 => ⟨S32x1, .i32⟩
  | 109 => ⟨S32x1, .i32⟩
  | 110 => ⟨S_, .i32⟩
  | 111 => ⟨S32x1, .i32⟩
  | 112 => ⟨S32x1, .i32⟩
  | 113 => ⟨S32x1, .i32⟩
  | 114 => ⟨S32x1, .i32⟩
  | 115 => ⟨S32x1, .i32⟩
  | 116 => ⟨S32x1, .i32⟩
  | 117 => ⟨S32x1, .i32⟩
  | 118 => ⟨S32x1, .i32⟩
  | 119 => ⟨S_, .i32⟩
  | 120 => ⟨S32x1, .i32⟩
  | 121 => ⟨S32x1, .i32⟩
  | 122 => ⟨S32x1, .i32⟩
  | 123 => ⟨S_, .i32⟩
  | 124 => ⟨S32x1, .i32⟩
  | 125 => ⟨S32x1, .i32⟩
  | 126 => ⟨S_, .i32⟩
  | 127 => ⟨S32x1, .i32⟩
  | _ => ⟨S16384x2048, .f32⟩

abbrev hbmTy0_1 (i : Nat) : BufTy := match i % 128 with
  | 0 => ⟨S32x1, .i32⟩
  | 1 => ⟨S32x1, .i32⟩
  | 2 => ⟨S32x1, .i32⟩
  | 3 => ⟨S32x1, .i32⟩
  | 4 => ⟨S_, .i32⟩
  | 5 => ⟨S32x1, .i32⟩
  | 6 => ⟨S32x1, .i32⟩
  | 7 => ⟨S_, .i32⟩
  | 8 => ⟨S32x1, .i32⟩
  | 9 => ⟨S32x1, .i32⟩
  | 10 => ⟨S32x1, .i32⟩
  | 11 => ⟨S32x1, .i32⟩
  | 12 => ⟨S32x1, .i32⟩
  | 13 => ⟨S_, .i32⟩
  | 14 => ⟨S32x1, .i32⟩
  | 15 => ⟨S32x1, .i32⟩
  | 16 => ⟨S_, .i32⟩
  | 17 => ⟨S32x1, .i32⟩
  | 18 => ⟨S32x1, .i32⟩
  | 19 => ⟨S32x1, .i32⟩
  | 20 => ⟨S32x1, .i32⟩
  | 21 => ⟨S32x1, .i32⟩
  | 22 => ⟨S_, .i32⟩
  | 23 => ⟨S32x1, .i32⟩
  | 24 => ⟨S32x1, .i32⟩
  | 25 => ⟨S_, .i32⟩
  | 26 => ⟨S32x1, .i32⟩
  | 27 => ⟨S32x1, .i32⟩
  | 28 => ⟨S32x1, .i32⟩
  | 29 => ⟨S32x1, .i32⟩
  | 30 => ⟨S32x1, .i32⟩
  | 31 => ⟨S32x1, .i32⟩
  | 32 => ⟨S32x1, .i32⟩
  | 33 => ⟨S32x1, .i32⟩
  | 34 => ⟨S_, .i32⟩
  | 35 => ⟨S32x1, .i32⟩
  | 36 => ⟨S32x1, .i32⟩
  | 37 => ⟨S32x1, .i32⟩
  | 38 => ⟨S_, .i32⟩
  | 39 => ⟨S32x1, .i32⟩
  | 40 => ⟨S32x1, .i32⟩
  | 41 => ⟨S_, .i32⟩
  | 42 => ⟨S32x1, .i32⟩
  | 43 => ⟨S32x1, .i32⟩
  | 44 => ⟨S32x1, .i32⟩
  | 45 => ⟨S32x1, .i32⟩
  | 46 => ⟨S32x1, .i32⟩
  | 47 => ⟨S_, .i32⟩
  | 48 => ⟨S32x1, .i32⟩
  | 49 => ⟨S32x1, .i32⟩
  | 50 => ⟨S_, .i32⟩
  | 51 => ⟨S32x1, .i32⟩
  | 52 => ⟨S32x1, .i32⟩
  | 53 => ⟨S32x1, .i32⟩
  | 54 => ⟨S32x1, .i32⟩
  | 55 => ⟨S32x1, .i32⟩
  | 56 => ⟨S_, .i32⟩
  | 57 => ⟨S32x1, .i32⟩
  | 58 => ⟨S32x1, .i32⟩
  | 59 => ⟨S_, .i32⟩
  | 60 => ⟨S32x1, .i32⟩
  | 61 => ⟨S32x1, .i32⟩
  | 62 => ⟨S32x1, .i32⟩
  | 63 => ⟨S32x1, .i32⟩
  | 64 => ⟨S32x1, .i32⟩
  | 65 => ⟨S_, .i32⟩
  | 66 => ⟨S32x1, .i32⟩
  | 67 => ⟨S32x1, .i32⟩
  | 68 => ⟨S_, .i32⟩
  | 69 => ⟨S32x1, .i32⟩
  | 70 => ⟨S32x1, .i32⟩
  | 71 => ⟨S32x1, .i32⟩
  | 72 => ⟨S32x1, .i32⟩
  | 73 => ⟨S32x1, .i32⟩
  | 74 => ⟨S32x1, .i32⟩
  | 75 => ⟨S32x1, .i32⟩
  | 76 => ⟨S32x1, .i32⟩
  | 77 => ⟨S_, .i32⟩
  | 78 => ⟨S32x1, .i32⟩
  | 79 => ⟨S32x1, .i32⟩
  | 80 => ⟨S32x1, .i32⟩
  | 81 => ⟨S_, .i32⟩
  | 82 => ⟨S32x1, .i32⟩
  | 83 => ⟨S32x1, .i32⟩
  | 84 => ⟨S_, .i32⟩
  | 85 => ⟨S32x1, .i32⟩
  | 86 => ⟨S32x1, .i32⟩
  | 87 => ⟨S32x1, .i32⟩
  | 88 => ⟨S32x1, .i32⟩
  | 89 => ⟨S32x1, .i32⟩
  | 90 => ⟨S_, .i32⟩
  | 91 => ⟨S32x1, .i32⟩
  | 92 => ⟨S32x1, .i32⟩
  | 93 => ⟨S_, .i32⟩
  | 94 => ⟨S32x1, .i32⟩
  | 95 => ⟨S32x1, .i32⟩
  | 96 => ⟨S32x1, .i32⟩
  | 97 => ⟨S32x1, .i32⟩
  | 98 => ⟨S32x1, .i32⟩
  | 99 => ⟨S_, .i32⟩
  | 100 => ⟨S32x1, .i32⟩
  | 101 => ⟨S32x1, .i32⟩
  | 102 => ⟨S_, .i32⟩
  | 103 => ⟨S32x1, .i32⟩
  | 104 => ⟨S32x1, .i32⟩
  | 105 => ⟨S32x1, .i32⟩
  | 106 => ⟨S32x1, .i32⟩
  | 107 => ⟨S32x1, .i32⟩
  | 108 => ⟨S_, .i32⟩
  | 109 => ⟨S32x1, .i32⟩
  | 110 => ⟨S32x1, .i32⟩
  | 111 => ⟨S_, .i32⟩
  | 112 => ⟨S32x1, .i32⟩
  | 113 => ⟨S32x1, .i32⟩
  | 114 => ⟨S32x1, .i32⟩
  | 115 => ⟨S32x1, .i32⟩
  | 116 => ⟨S32x1, .i32⟩
  | 117 => ⟨S32x1, .i32⟩
  | 118 => ⟨S32x1, .i32⟩
  | 119 => ⟨S32x1, .i32⟩
  | 120 => ⟨S_, .i32⟩
  | 121 => ⟨S32x1, .i32⟩
  | 122 => ⟨S32x1, .i32⟩
  | 123 => ⟨S32x2, .i32⟩
  | 124 => ⟨S_, .i32⟩
  | 125 => ⟨S_, .i32⟩
  | 126 => ⟨S_, .i32⟩
  | 127 => ⟨S_, .i32⟩
  | _ => ⟨S16384x2048, .f32⟩

abbrev hbmTy0_2 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1, .i32⟩
  | 15 => ⟨S1, .i32⟩
  | 16 => ⟨S32x1, .i32⟩
  | 17 => ⟨S32, .i32⟩
  | 18 => ⟨S32x1, .i32⟩
  | 19 => ⟨S32, .i32⟩
  | 20 => ⟨S2, .i64⟩
  | 21 => ⟨S_, .i64⟩
  | 22 => ⟨S2, .i64⟩
  | 23 => ⟨S2, .i64⟩
  | 24 => ⟨S_, .i64⟩
  | 25 => ⟨S2, .i64⟩
  | 26 => ⟨S2, .i64⟩
  | 27 => ⟨S2, .i32⟩
  | 28 => ⟨S2, .i32⟩
  | 29 => ⟨S1x2, .i32⟩
  | 30 => ⟨S1x2, .i32⟩
  | 31 => ⟨S32x1, .i32⟩
  | 32 => ⟨S32x1, .i32⟩
  | 33 => ⟨S32x1, .i32⟩
  | 34 => ⟨S_, .i32⟩
  | 35 => ⟨S32x1, .i32⟩
  | 36 => ⟨S32x1, .i32⟩
  | 37 => ⟨S32x2, .i32⟩
  | 38 => ⟨S32x2, .i32⟩
  | 39 => ⟨S32x2, .i32⟩
  | 40 => ⟨S32x2, .i32⟩
  | 41 => ⟨S32x2, .i32⟩
  | 42 => ⟨S32x2, .i32⟩
  | 43 => ⟨S32x2, .i32⟩
  | 44 => ⟨S_, .i32⟩
  | 45 => ⟨S32x2, .i32⟩
  | 46 => ⟨S32x2, .i32⟩
  | 47 => ⟨S_, .i32⟩
  | 48 => ⟨S32x2, .i32⟩
  | 49 => ⟨S32x2, .i32⟩
  | 50 => ⟨S32x2, .i32⟩
  | 51 => ⟨S32x2, .i32⟩
  | 52 => ⟨S32x2, .i32⟩
  | 53 => ⟨S_, .i32⟩
  | 54 => ⟨S32x2, .i32⟩
  | 55 => ⟨S32x2, .i32⟩
  | 56 => ⟨S_, .i32⟩
  | 57 => ⟨S32x2, .i32⟩
  | 58 => ⟨S32x2, .i32⟩
  | 59 => ⟨S32x2, .i32⟩
  | 60 => ⟨S32x2, .i32⟩
  | 61 => ⟨S32x2, .i32⟩
  | 62 => ⟨S_, .i32⟩
  | 63 => ⟨S32x2, .i32⟩
  | 64 => ⟨S32x2, .i32⟩
  | 65 => ⟨S_, .i32⟩
  | 66 => ⟨S32x2, .i32⟩
  | 67 => ⟨S32x2, .i32⟩
  | 68 => ⟨S32x2, .i32⟩
  | 69 => ⟨S32x2, .i32⟩
  | 70 => ⟨S32x2, .i32⟩
  | 71 => ⟨S_, .i32⟩
  | 72 => ⟨S32x2, .i32⟩
  | 73 => ⟨S32x2, .i32⟩
  | 74 => ⟨S_, .i32⟩
  | 75 => ⟨S32x2, .i32⟩
  | 76 => ⟨S32x2, .i32⟩
  | 77 => ⟨S32x2, .i32⟩
  | 78 => ⟨S32x2, .i32⟩
  | 79 => ⟨S32x2, .i32⟩
  | 80 => ⟨S32x2, .i32⟩
  | 81 => ⟨S32x2, .i32⟩
  | 82 => ⟨S32x2, .i32⟩
  | 83 => ⟨S_, .i32⟩
  | 84 => ⟨S32x2, .i32⟩
  | 85 => ⟨S32x2, .i32⟩
  | 86 => ⟨S32x2, .i32⟩
  | 87 => ⟨S_, .i32⟩
  | 88 => ⟨S32x2, .i32⟩
  | 89 => ⟨S32x2, .i32⟩
  | 90 => ⟨S_, .i32⟩
  | 91 => ⟨S32x2, .i32⟩
  | 92 => ⟨S32x2, .i32⟩
  | 93 => ⟨S32x2, .i32⟩
  | 94 => ⟨S32x2, .i32⟩
  | 95 => ⟨S32x2, .i32⟩
  | 96 => ⟨S_, .i32⟩
  | 97 => ⟨S32x2, .i32⟩
  | 98 => ⟨S32x2, .i32⟩
  | 99 => ⟨S_, .i32⟩
  | 100 => ⟨S32x2, .i32⟩
  | 101 => ⟨S32x2, .i32⟩
  | 102 => ⟨S32x2, .i32⟩
  | 103 => ⟨S32x2, .i32⟩
  | 104 => ⟨S32x2, .i32⟩
  | 105 => ⟨S_, .i32⟩
  | 106 => ⟨S32x2, .i32⟩
  | 107 => ⟨S32x2, .i32⟩
  | 108 => ⟨S_, .i32⟩
  | 109 => ⟨S32x2, .i32⟩
  | 110 => ⟨S32x2, .i32⟩
  | 111 => ⟨S32x2, .i32⟩
  | 112 => ⟨S32x2, .i32⟩
  | 113 => ⟨S32x2, .i32⟩
  | 114 => ⟨S_, .i32⟩
  | 115 => ⟨S32x2, .i32⟩
  | 116 => ⟨S32x2, .i32⟩
  | 117 => ⟨S_, .i32⟩
  | 118 => ⟨S32x2, .i32⟩
  | 119 => ⟨S32x2, .i32⟩
  | 120 => ⟨S32x2, .i32⟩
  | 121 => ⟨S32x2, .i32⟩
  | 122 => ⟨S32x2, .i32⟩
  | 123 => ⟨S32x2, .i32⟩
  | 124 => ⟨S32x2, .i32⟩
  | 125 => ⟨S32x2, .i32⟩
  | 126 => ⟨S_, .i32⟩
  | 127 => ⟨S32x2, .i32⟩
  | _ => ⟨S16384x2048, .f32⟩

abbrev hbmTy0_3 (i : Nat) : BufTy := match i % 128 with
  | 0 => ⟨S32x2, .i32⟩
  | 1 => ⟨S32x2, .i32⟩
  | 2 => ⟨S_, .i32⟩
  | 3 => ⟨S32x2, .i32⟩
  | 4 => ⟨S32x2, .i32⟩
  | 5 => ⟨S_, .i32⟩
  | 6 => ⟨S32x2, .i32⟩
  | 7 => ⟨S32x2, .i32⟩
  | 8 => ⟨S32x2, .i32⟩
  | 9 => ⟨S32x2, .i32⟩
  | 10 => ⟨S32x2, .i32⟩
  | 11 => ⟨S_, .i32⟩
  | 12 => ⟨S32x2, .i32⟩
  | 13 => ⟨S32x2, .i32⟩
  | 14 => ⟨S_, .i32⟩
  | 15 => ⟨S32x2, .i32⟩
  | 16 => ⟨S32x2, .i32⟩
  | 17 => ⟨S32x2, .i32⟩
  | 18 => ⟨S32x2, .i32⟩
  | 19 => ⟨S32x2, .i32⟩
  | 20 => ⟨S_, .i32⟩
  | 21 => ⟨S32x2, .i32⟩
  | 22 => ⟨S32x2, .i32⟩
  | 23 => ⟨S_, .i32⟩
  | 24 => ⟨S32x2, .i32⟩
  | 25 => ⟨S32x2, .i32⟩
  | 26 => ⟨S32x2, .i32⟩
  | 27 => ⟨S32x2, .i32⟩
  | 28 => ⟨S32x2, .i32⟩
  | 29 => ⟨S_, .i32⟩
  | 30 => ⟨S32x2, .i32⟩
  | 31 => ⟨S32x2, .i32⟩
  | 32 => ⟨S_, .i32⟩
  | 33 => ⟨S32x2, .i32⟩
  | 34 => ⟨S32x2, .i32⟩
  | 35 => ⟨S32x2, .i32⟩
  | 36 => ⟨S32x2, .i32⟩
  | 37 => ⟨S32x2, .i32⟩
  | 38 => ⟨S32x2, .i32⟩
  | 39 => ⟨S32x2, .i32⟩
  | 40 => ⟨S32x2, .i32⟩
  | 41 => ⟨S_, .i32⟩
  | 42 => ⟨S32x2, .i32⟩
  | 43 => ⟨S32x2, .i32⟩
  | 44 => ⟨S32x2, .i32⟩
  | 45 => ⟨S_, .i32⟩
  | 46 => ⟨S32x2, .i32⟩
  | 47 => ⟨S32x2, .i32⟩
  | 48 => ⟨S_, .i32⟩
  | 49 => ⟨S32x2, .i32⟩
  | 50 => ⟨S32x2, .i32⟩
  | 51 => ⟨S32x2, .i32⟩
  | 52 => ⟨S32x2, .i32⟩
  | 53 => ⟨S32x2, .i32⟩
  | 54 => ⟨S_, .i32⟩
  | 55 => ⟨S32x2, .i32⟩
  | 56 => ⟨S32x2, .i32⟩
  | 57 => ⟨S_, .i32⟩
  | 58 => ⟨S32x2, .i32⟩
  | 59 => ⟨S32x2, .i32⟩
  | 60 => ⟨S32x2, .i32⟩
  | 61 => ⟨S32x2, .i32⟩
  | 62 => ⟨S32x2, .i32⟩
  | 63 => ⟨S_, .i32⟩
  | 64 => ⟨S32x2, .i32⟩
  | 65 => ⟨S32x2, .i32⟩
  | 66 => ⟨S_, .i32⟩
  | 67 => ⟨S32x2, .i32⟩
  | 68 => ⟨S32x2, .i32⟩
  | 69 => ⟨S32x2, .i32⟩
  | 70 => ⟨S32x2, .i32⟩
  | 71 => ⟨S32x2, .i32⟩
  | 72 => ⟨S_, .i32⟩
  | 73 => ⟨S32x2, .i32⟩
  | 74 => ⟨S32x2, .i32⟩
  | 75 => ⟨S_, .i32⟩
  | 76 => ⟨S32x2, .i32⟩
  | 77 => ⟨S32x2, .i32⟩
  | 78 => ⟨S32x2, .i32⟩
  | 79 => ⟨S32x2, .i32⟩
  | 80 => ⟨S32x2, .i32⟩
  | 81 => ⟨S32x2, .i32⟩
  | 82 => ⟨S32x2, .i32⟩
  | 83 => ⟨S32x2, .i32⟩
  | 84 => ⟨S_, .i32⟩
  | 85 => ⟨S32x2, .i32⟩
  | 86 => ⟨S32x2, .i32⟩
  | 87 => ⟨S32x2, .i32⟩
  | 88 => ⟨S_, .i32⟩
  | 89 => ⟨S32x2, .i32⟩
  | 90 => ⟨S32x2, .i32⟩
  | 91 => ⟨S_, .i32⟩
  | 92 => ⟨S32x2, .i32⟩
  | 93 => ⟨S32x2, .i32⟩
  | 94 => ⟨S32x2, .i32⟩
  | 95 => ⟨S32x2, .i32⟩
  | 96 => ⟨S32x2, .i32⟩
  | 97 => ⟨S_, .i32⟩
  | 98 => ⟨S32x2, .i32⟩
  | 99 => ⟨S32x2, .i32⟩
  | 100 => ⟨S_, .i32⟩
  | 101 => ⟨S32x2, .i32⟩
  | 102 => ⟨S32x2, .i32⟩
  | 103 => ⟨S32x2, .i32⟩
  | 104 => ⟨S32x2, .i32⟩
  | 105 => ⟨S32x2, .i32⟩
  | 106 => ⟨S_, .i32⟩
  | 107 => ⟨S32x2, .i32⟩
  | 108 => ⟨S32x2, .i32⟩
  | 109 => ⟨S_, .i32⟩
  | 110 => ⟨S32x2, .i32⟩
  | 111 => ⟨S32x2, .i32⟩
  | 112 => ⟨S32x2, .i32⟩
  | 113 => ⟨S32x2, .i32⟩
  | 114 => ⟨S32x2, .i32⟩
  | 115 => ⟨S_, .i32⟩
  | 116 => ⟨S32x2, .i32⟩
  | 117 => ⟨S32x2, .i32⟩
  | 118 => ⟨S_, .i32⟩
  | 119 => ⟨S32x2, .i32⟩
  | 120 => ⟨S32x2, .i32⟩
  | 121 => ⟨S32x2, .i32⟩
  | 122 => ⟨S32x2, .i32⟩
  | 123 => ⟨S32x2, .i32⟩
  | 124 => ⟨S32x2, .i32⟩
  | 125 => ⟨S32x2, .i32⟩
  | 126 => ⟨S32x2, .i32⟩
  | 127 => ⟨S_, .i32⟩
  | _ => ⟨S16384x2048, .f32⟩

abbrev hbmTy0_4 (i : Nat) : BufTy := match i % 128 with
  | 0 => ⟨S32x2, .i32⟩
  | 1 => ⟨S32x2, .i32⟩
  | 2 => ⟨S32x2x1, .i32⟩
  | 3 => ⟨S32x2x1, .i32⟩
  | 4 => ⟨S32x2x2, .i32⟩
  | 5 => ⟨S32x1x2, .i32⟩
  | 6 => ⟨S32x2, .i32⟩
  | 7 => ⟨S32x1x2, .i32⟩
  | 8 => ⟨S32x2, .i32⟩
  | 9 => ⟨S32x1, .i32⟩
  | 10 => ⟨S32, .i32⟩
  | 11 => ⟨S32x1, .i32⟩
  | 12 => ⟨S32, .i32⟩
  | 13 => ⟨S16384, .i64⟩
  | 14 => ⟨S_, .i64⟩
  | 15 => ⟨S16384, .i64⟩
  | 16 => ⟨S16384, .i64⟩
  | 17 => ⟨S_, .i64⟩
  | 18 => ⟨S16384, .i64⟩
  | 19 => ⟨S16384, .i64⟩
  | 20 => ⟨S16384, .i32⟩
  | 21 => ⟨S16384, .i32⟩
  | 22 => ⟨S1x16384, .i32⟩
  | 23 => ⟨S1x16384, .i32⟩
  | 24 => ⟨S32x1, .i32⟩
  | 25 => ⟨S32x1, .i32⟩
  | 26 => ⟨S32x1, .i32⟩
  | 27 => ⟨S_, .i32⟩
  | 28 => ⟨S32x1, .i32⟩
  | 29 => ⟨S32x1, .i32⟩
  | 30 => ⟨S32x16384, .i32⟩
  | 31 => ⟨S32x16384, .i32⟩
  | 32 => ⟨S32x16384, .i32⟩
  | 33 => ⟨S32x16384, .i32⟩
  | 34 => ⟨S32x16384, .i32⟩
  | 35 => ⟨S32x16384, .i32⟩
  | 36 => ⟨S32x16384, .i32⟩
  | 37 => ⟨S_, .i32⟩
  | 38 => ⟨S32x16384, .i32⟩
  | 39 => ⟨S32x16384, .i32⟩
  | 40 => ⟨S_, .i32⟩
  | 41 => ⟨S32x16384, .i32⟩
  | 42 => ⟨S32x16384, .i32⟩
  | 43 => ⟨S32x16384, .i32⟩
  | 44 => ⟨S32x16384, .i32⟩
  | 45 => ⟨S32x16384, .i32⟩
  | 46 => ⟨S_, .i32⟩
  | 47 => ⟨S32x16384, .i32⟩
  | 48 => ⟨S32x16384, .i32⟩
  | 49 => ⟨S_, .i32⟩
  | 50 => ⟨S32x16384, .i32⟩
  | 51 => ⟨S32x16384, .i32⟩
  | 52 => ⟨S32x16384, .i32⟩
  | 53 => ⟨S32x16384, .i32⟩
  | 54 => ⟨S32x16384, .i32⟩
  | 55 => ⟨S_, .i32⟩
  | 56 => ⟨S32x16384, .i32⟩
  | 57 => ⟨S32x16384, .i32⟩
  | 58 => ⟨S_, .i32⟩
  | 59 => ⟨S32x16384, .i32⟩
  | 60 => ⟨S32x16384, .i32⟩
  | 61 => ⟨S32x16384, .i32⟩
  | 62 => ⟨S32x16384, .i32⟩
  | 63 => ⟨S32x16384, .i32⟩
  | 64 => ⟨S_, .i32⟩
  | 65 => ⟨S32x16384, .i32⟩
  | 66 => ⟨S32x16384, .i32⟩
  | 67 => ⟨S_, .i32⟩
  | 68 => ⟨S32x16384, .i32⟩
  | 69 => ⟨S32x16384, .i32⟩
  | 70 => ⟨S32x16384, .i32⟩
  | 71 => ⟨S32x16384, .i32⟩
  | 72 => ⟨S32x16384, .i32⟩
  | 73 => ⟨S32x16384, .i32⟩
  | 74 => ⟨S32x16384, .i32⟩
  | 75 => ⟨S32x16384, .i32⟩
  | 76 => ⟨S_, .i32⟩
  | 77 => ⟨S32x16384, .i32⟩
  | 78 => ⟨S32x16384, .i32⟩
  | 79 => ⟨S32x16384, .i32⟩
  | 80 => ⟨S_, .i32⟩
  | 81 => ⟨S32x16384, .i32⟩
  | 82 => ⟨S32x16384, .i32⟩
  | 83 => ⟨S_, .i32⟩
  | 84 => ⟨S32x16384, .i32⟩
  | 85 => ⟨S32x16384, .i32⟩
  | 86 => ⟨S32x16384, .i32⟩
  | 87 => ⟨S32x16384, .i32⟩
  | 88 => ⟨S32x16384, .i32⟩
  | 89 => ⟨S_, .i32⟩
  | 90 => ⟨S32x16384, .i32⟩
  | 91 => ⟨S32x16384, .i32⟩
  | 92 => ⟨S_, .i32⟩
  | 93 => ⟨S32x16384, .i32⟩
  | 94 => ⟨S32x16384, .i32⟩
  | 95 => ⟨S32x16384, .i32⟩
  | 96 => ⟨S32x16384, .i32⟩
  | 97 => ⟨S32x16384, .i32⟩
  | 98 => ⟨S_, .i32⟩
  | 99 => ⟨S32x16384, .i32⟩
  | 100 => ⟨S32x16384, .i32⟩
  | 101 => ⟨S_, .i32⟩
  | 102 => ⟨S32x16384, .i32⟩
  | 103 => ⟨S32x16384, .i32⟩
  | 104 => ⟨S32x16384, .i32⟩
  | 105 => ⟨S32x16384, .i32⟩
  | 106 => ⟨S32x16384, .i32⟩
  | 107 => ⟨S_, .i32⟩
  | 108 => ⟨S32x16384, .i32⟩
  | 109 => ⟨S32x16384, .i32⟩
  | 110 => ⟨S_, .i32⟩
  | 111 => ⟨S32x16384, .i32⟩
  | 112 => ⟨S32x16384, .i32⟩
  | 113 => ⟨S32x16384, .i32⟩
  | 114 => ⟨S32x16384, .i32⟩
  | 115 => ⟨S32x16384, .i32⟩
  | 116 => ⟨S32x16384, .i32⟩
  | 117 => ⟨S32x16384, .i32⟩
  | 118 => ⟨S32x16384, .i32⟩
  | 119 => ⟨S_, .i32⟩
  | 120 => ⟨S32x16384, .i32⟩
  | 121 => ⟨S32x16384, .i32⟩
  | 122 => ⟨S32x16384, .i32⟩
  | 123 => ⟨S_, .i32⟩
  | 124 => ⟨S32x16384, .i32⟩
  | 125 => ⟨S32x16384, .i32⟩
  | 126 => ⟨S_, .i32⟩
  | 127 => ⟨S32x16384, .i32⟩
  | _ => ⟨S16384x2048, .f32⟩

abbrev hbmTy0_5 (i : Nat) : BufTy := match i % 128 with
  | 0 => ⟨S32x16384, .i32⟩
  | 1 => ⟨S32x16384, .i32⟩
  | 2 => ⟨S32x16384, .i32⟩
  | 3 => ⟨S32x16384, .i32⟩
  | 4 => ⟨S_, .i32⟩
  | 5 => ⟨S32x16384, .i32⟩
  | 6 => ⟨S32x16384, .i32⟩
  | 7 => ⟨S_, .i32⟩
  | 8 => ⟨S32x16384, .i32⟩
  | 9 => ⟨S32x16384, .i32⟩
  | 10 => ⟨S32x16384, .i32⟩
  | 11 => ⟨S32x16384, .i32⟩
  | 12 => ⟨S32x16384, .i32⟩
  | 13 => ⟨S_, .i32⟩
  | 14 => ⟨S32x16384, .i32⟩
  | 15 => ⟨S32x16384, .i32⟩
  | 16 => ⟨S_, .i32⟩
  | 17 => ⟨S32x16384, .i32⟩
  | 18 => ⟨S32x16384, .i32⟩
  | 19 => ⟨S32x16384, .i32⟩
  | 20 => ⟨S32x16384, .i32⟩
  | 21 => ⟨S32x16384, .i32⟩
  | 22 => ⟨S_, .i32⟩
  | 23 => ⟨S32x16384, .i32⟩
  | 24 => ⟨S32x16384, .i32⟩
  | 25 => ⟨S_, .i32⟩
  | 26 => ⟨S32x16384, .i32⟩
  | 27 => ⟨S32x16384, .i32⟩
  | 28 => ⟨S32x16384, .i32⟩
  | 29 => ⟨S32x16384, .i32⟩
  | 30 => ⟨S32x16384, .i32⟩
  | 31 => ⟨S32x16384, .i32⟩
  | 32 => ⟨S32x16384, .i32⟩
  | 33 => ⟨S32x16384, .i32⟩
  | 34 => ⟨S_, .i32⟩
  | 35 => ⟨S32x16384, .i32⟩
  | 36 => ⟨S32x16384, .i32⟩
  | 37 => ⟨S32x16384, .i32⟩
  | 38 => ⟨S_, .i32⟩
  | 39 => ⟨S32x16384, .i32⟩
  | 40 => ⟨S32x16384, .i32⟩
  | 41 => ⟨S_, .i32⟩
  | 42 => ⟨S32x16384, .i32⟩
  | 43 => ⟨S32x16384, .i32⟩
  | 44 => ⟨S32x16384, .i32⟩
  | 45 => ⟨S32x16384, .i32⟩
  | 46 => ⟨S32x16384, .i32⟩
  | 47 => ⟨S_, .i32⟩
  | 48 => ⟨S32x16384, .i32⟩
  | 49 => ⟨S32x16384, .i32⟩
  | 50 => ⟨S_, .i32⟩
  | 51 => ⟨S32x16384, .i32⟩
  | 52 => ⟨S32x16384, .i32⟩
  | 53 => ⟨S32x16384, .i32⟩
  | 54 => ⟨S32x16384, .i32⟩
  | 55 => ⟨S32x16384, .i32⟩
  | 56 => ⟨S_, .i32⟩
  | 57 => ⟨S32x16384, .i32⟩
  | 58 => ⟨S32x16384, .i32⟩
  | 59 => ⟨S_, .i32⟩
  | 60 => ⟨S32x16384, .i32⟩
  | 61 => ⟨S32x16384, .i32⟩
  | 62 => ⟨S32x16384, .i32⟩
  | 63 => ⟨S32x16384, .i32⟩
  | 64 => ⟨S32x16384, .i32⟩
  | 65 => ⟨S_, .i32⟩
  | 66 => ⟨S32x16384, .i32⟩
  | 67 => ⟨S32x16384, .i32⟩
  | 68 => ⟨S_, .i32⟩
  | 69 => ⟨S32x16384, .i32⟩
  | 70 => ⟨S32x16384, .i32⟩
  | 71 => ⟨S32x16384, .i32⟩
  | 72 => ⟨S32x16384, .i32⟩
  | 73 => ⟨S32x16384, .i32⟩
  | 74 => ⟨S32x16384, .i32⟩
  | 75 => ⟨S32x16384, .i32⟩
  | 76 => ⟨S32x16384, .i32⟩
  | 77 => ⟨S_, .i32⟩
  | 78 => ⟨S32x16384, .i32⟩
  | 79 => ⟨S32x16384, .i32⟩
  | 80 => ⟨S32x16384, .i32⟩
  | 81 => ⟨S_, .i32⟩
  | 82 => ⟨S32x16384, .i32⟩
  | 83 => ⟨S32x16384, .i32⟩
  | 84 => ⟨S_, .i32⟩
  | 85 => ⟨S32x16384, .i32⟩
  | 86 => ⟨S32x16384, .i32⟩
  | 87 => ⟨S32x16384, .i32⟩
  | 88 => ⟨S32x16384, .i32⟩
  | 89 => ⟨S32x16384, .i32⟩
  | 90 => ⟨S_, .i32⟩
  | 91 => ⟨S32x16384, .i32⟩
  | 92 => ⟨S32x16384, .i32⟩
  | 93 => ⟨S_, .i32⟩
  | 94 => ⟨S32x16384, .i32⟩
  | 95 => ⟨S32x16384, .i32⟩
  | 96 => ⟨S32x16384, .i32⟩
  | 97 => ⟨S32x16384, .i32⟩
  | 98 => ⟨S32x16384, .i32⟩
  | 99 => ⟨S_, .i32⟩
  | 100 => ⟨S32x16384, .i32⟩
  | 101 => ⟨S32x16384, .i32⟩
  | 102 => ⟨S_, .i32⟩
  | 103 => ⟨S32x16384, .i32⟩
  | 104 => ⟨S32x16384, .i32⟩
  | 105 => ⟨S32x16384, .i32⟩
  | 106 => ⟨S32x16384, .i32⟩
  | 107 => ⟨S32x16384, .i32⟩
  | 108 => ⟨S_, .i32⟩
  | 109 => ⟨S32x16384, .i32⟩
  | 110 => ⟨S32x16384, .i32⟩
  | 111 => ⟨S_, .i32⟩
  | 112 => ⟨S32x16384, .i32⟩
  | 113 => ⟨S32x16384, .i32⟩
  | 114 => ⟨S32x16384, .i32⟩
  | 115 => ⟨S32x16384, .i32⟩
  | 116 => ⟨S32x16384, .i32⟩
  | 117 => ⟨S32x16384, .i32⟩
  | 118 => ⟨S32x16384, .i32⟩
  | 119 => ⟨S32x16384, .i32⟩
  | 120 => ⟨S_, .i32⟩
  | 121 => ⟨S32x16384, .i32⟩
  | 122 => ⟨S32x16384, .i32⟩
  | 123 => ⟨S32x16384, .i32⟩
  | 124 => ⟨S32x1, .i32⟩
  | 125 => ⟨S32, .i32⟩
  | 126 => ⟨S32x1, .i32⟩
  | 127 => ⟨S32, .i32⟩
  | _ => ⟨S16384x2048, .f32⟩

abbrev hbmTy0_6 (i : Nat) : BufTy := match i % 128 with
  | 0 => ⟨S16384, .i64⟩
  | 1 => ⟨S_, .i64⟩
  | 2 => ⟨S16384, .i64⟩
  | 3 => ⟨S16384, .i64⟩
  | 4 => ⟨S_, .i64⟩
  | 5 => ⟨S16384, .i64⟩
  | 6 => ⟨S16384, .i64⟩
  | 7 => ⟨S16384, .i32⟩
  | 8 => ⟨S16384, .i32⟩
  | 9 => ⟨S1x16384, .i32⟩
  | 10 => ⟨S1x16384, .i32⟩
  | 11 => ⟨S32x1, .i32⟩
  | 12 => ⟨S32x1, .i32⟩
  | 13 => ⟨S32x1, .i32⟩
  | 14 => ⟨S_, .i32⟩
  | 15 => ⟨S32x1, .i32⟩
  | 16 => ⟨S32x1, .i32⟩
  | 17 => ⟨S32x16384, .i32⟩
  | 18 => ⟨S32x16384, .i32⟩
  | 19 => ⟨S32x16384, .i32⟩
  | 20 => ⟨S32x16384, .i32⟩
  | 21 => ⟨S32x16384, .i32⟩
  | 22 => ⟨S32x16384, .i32⟩
  | 23 => ⟨S32x16384, .i32⟩
  | 24 => ⟨S_, .i32⟩
  | 25 => ⟨S32x16384, .i32⟩
  | 26 => ⟨S32x16384, .i32⟩
  | 27 => ⟨S_, .i32⟩
  | 28 => ⟨S32x16384, .i32⟩
  | 29 => ⟨S32x16384, .i32⟩
  | 30 => ⟨S32x16384, .i32⟩
  | 31 => ⟨S32x16384, .i32⟩
  | 32 => ⟨S32x16384, .i32⟩
  | 33 => ⟨S_, .i32⟩
  | 34 => ⟨S32x16384, .i32⟩
  | 35 => ⟨S32x16384, .i32⟩
  | 36 => ⟨S_, .i32⟩
  | 37 => ⟨S32x16384, .i32⟩
  | 38 => ⟨S32x16384, .i32⟩
  | 39 => ⟨S32x16384, .i32⟩
  | 40 => ⟨S32x16384, .i32⟩
  | 41 => ⟨S32x16384, .i32⟩
  | 42 => ⟨S_, .i32⟩
  | 43 => ⟨S32x16384, .i32⟩
  | 44 => ⟨S32x16384, .i32⟩
  | 45 => ⟨S_, .i32⟩
  | 46 => ⟨S32x16384, .i32⟩
  | 47 => ⟨S32x16384, .i32⟩
  | 48 => ⟨S32x16384, .i32⟩
  | 49 => ⟨S32x16384, .i32⟩
  | 50 => ⟨S32x16384, .i32⟩
  | 51 => ⟨S_, .i32⟩
  | 52 => ⟨S32x16384, .i32⟩
  | 53 => ⟨S32x16384, .i32⟩
  | 54 => ⟨S_, .i32⟩
  | 55 => ⟨S32x16384, .i32⟩
  | 56 => ⟨S32x16384, .i32⟩
  | 57 => ⟨S32x16384, .i32⟩
  | 58 => ⟨S32x16384, .i32⟩
  | 59 => ⟨S32x16384, .i32⟩
  | 60 => ⟨S32x16384, .i32⟩
  | 61 => ⟨S32x16384, .i32⟩
  | 62 => ⟨S32x16384, .i32⟩
  | 63 => ⟨S_, .i32⟩
  | 64 => ⟨S32x16384, .i32⟩
  | 65 => ⟨S32x16384, .i32⟩
  | 66 => ⟨S32x16384, .i32⟩
  | 67 => ⟨S_, .i32⟩
  | 68 => ⟨S32x16384, .i32⟩
  | 69 => ⟨S32x16384, .i32⟩
  | 70 => ⟨S_, .i32⟩
  | 71 => ⟨S32x16384, .i32⟩
  | 72 => ⟨S32x16384, .i32⟩
  | 73 => ⟨S32x16384, .i32⟩
  | 74 => ⟨S32x16384, .i32⟩
  | 75 => ⟨S32x16384, .i32⟩
  | 76 => ⟨S_, .i32⟩
  | 77 => ⟨S32x16384, .i32⟩
  | 78 => ⟨S32x16384, .i32⟩
  | 79 => ⟨S_, .i32⟩
  | 80 => ⟨S32x16384, .i32⟩
  | 81 => ⟨S32x16384, .i32⟩
  | 82 => ⟨S32x16384, .i32⟩
  | 83 => ⟨S32x16384, .i32⟩
  | 84 => ⟨S32x16384, .i32⟩
  | 85 => ⟨S_, .i32⟩
  | 86 => ⟨S32x16384, .i32⟩
  | 87 => ⟨S32x16384, .i32⟩
  | 88 => ⟨S_, .i32⟩
  | 89 => ⟨S32x16384, .i32⟩
  | 90 => ⟨S32x16384, .i32⟩
  | 91 => ⟨S32x16384, .i32⟩
  | 92 => ⟨S32x16384, .i32⟩
  | 93 => ⟨S32x16384, .i32⟩
  | 94 => ⟨S_, .i32⟩
  | 95 => ⟨S32x16384, .i32⟩
  | 96 => ⟨S32x16384, .i32⟩
  | 97 => ⟨S_, .i32⟩
  | 98 => ⟨S32x16384, .i32⟩
  | 99 => ⟨S32x16384, .i32⟩
  | 100 => ⟨S32x16384, .i32⟩
  | 101 => ⟨S32x16384, .i32⟩
  | 102 => ⟨S32x16384, .i32⟩
  | 103 => ⟨S32x16384, .i32⟩
  | 104 => ⟨S32x16384, .i32⟩
  | 105 => ⟨S32x16384, .i32⟩
  | 106 => ⟨S_, .i32⟩
  | 107 => ⟨S32x16384, .i32⟩
  | 108 => ⟨S32x16384, .i32⟩
  | 109 => ⟨S32x16384, .i32⟩
  | 110 => ⟨S_, .i32⟩
  | 111 => ⟨S32x16384, .i32⟩
  | 112 => ⟨S32x16384, .i32⟩
  | 113 => ⟨S_, .i32⟩
  | 114 => ⟨S32x16384, .i32⟩
  | 115 => ⟨S32x16384, .i32⟩
  | 116 => ⟨S32x16384, .i32⟩
  | 117 => ⟨S32x16384, .i32⟩
  | 118 => ⟨S32x16384, .i32⟩
  | 119 => ⟨S_, .i32⟩
  | 120 => ⟨S32x16384, .i32⟩
  | 121 => ⟨S32x16384, .i32⟩
  | 122 => ⟨S_, .i32⟩
  | 123 => ⟨S32x16384, .i32⟩
  | 124 => ⟨S32x16384, .i32⟩
  | 125 => ⟨S32x16384, .i32⟩
  | 126 => ⟨S32x16384, .i32⟩
  | 127 => ⟨S32x16384, .i32⟩
  | _ => ⟨S16384x2048, .f32⟩

abbrev hbmTy0_7 (i : Nat) : BufTy := match i % 128 with
  | 0 => ⟨S_, .i32⟩
  | 1 => ⟨S32x16384, .i32⟩
  | 2 => ⟨S32x16384, .i32⟩
  | 3 => ⟨S_, .i32⟩
  | 4 => ⟨S32x16384, .i32⟩
  | 5 => ⟨S32x16384, .i32⟩
  | 6 => ⟨S32x16384, .i32⟩
  | 7 => ⟨S32x16384, .i32⟩
  | 8 => ⟨S32x16384, .i32⟩
  | 9 => ⟨S_, .i32⟩
  | 10 => ⟨S32x16384, .i32⟩
  | 11 => ⟨S32x16384, .i32⟩
  | 12 => ⟨S_, .i32⟩
  | 13 => ⟨S32x16384, .i32⟩
  | 14 => ⟨S32x16384, .i32⟩
  | 15 => ⟨S32x16384, .i32⟩
  | 16 => ⟨S32x16384, .i32⟩
  | 17 => ⟨S32x16384, .i32⟩
  | 18 => ⟨S32x16384, .i32⟩
  | 19 => ⟨S32x16384, .i32⟩
  | 20 => ⟨S32x16384, .i32⟩
  | 21 => ⟨S_, .i32⟩
  | 22 => ⟨S32x16384, .i32⟩
  | 23 => ⟨S32x16384, .i32⟩
  | 24 => ⟨S32x16384, .i32⟩
  | 25 => ⟨S_, .i32⟩
  | 26 => ⟨S32x16384, .i32⟩
  | 27 => ⟨S32x16384, .i32⟩
  | 28 => ⟨S_, .i32⟩
  | 29 => ⟨S32x16384, .i32⟩
  | 30 => ⟨S32x16384, .i32⟩
  | 31 => ⟨S32x16384, .i32⟩
  | 32 => ⟨S32x16384, .i32⟩
  | 33 => ⟨S32x16384, .i32⟩
  | 34 => ⟨S_, .i32⟩
  | 35 => ⟨S32x16384, .i32⟩
  | 36 => ⟨S32x16384, .i32⟩
  | 37 => ⟨S_, .i32⟩
  | 38 => ⟨S32x16384, .i32⟩
  | 39 => ⟨S32x16384, .i32⟩
  | 40 => ⟨S32x16384, .i32⟩
  | 41 => ⟨S32x16384, .i32⟩
  | 42 => ⟨S32x16384, .i32⟩
  | 43 => ⟨S_, .i32⟩
  | 44 => ⟨S32x16384, .i32⟩
  | 45 => ⟨S32x16384, .i32⟩
  | 46 => ⟨S_, .i32⟩
  | 47 => ⟨S32x16384, .i32⟩
  | 48 => ⟨S32x16384, .i32⟩
  | 49 => ⟨S32x16384, .i32⟩
  | 50 => ⟨S32x16384, .i32⟩
  | 51 => ⟨S32x16384, .i32⟩
  | 52 => ⟨S_, .i32⟩
  | 53 => ⟨S32x16384, .i32⟩
  | 54 => ⟨S32x16384, .i32⟩
  | 55 => ⟨S_, .i32⟩
  | 56 => ⟨S32x16384, .i32⟩
  | 57 => ⟨S32x16384, .i32⟩
  | 58 => ⟨S32x16384, .i32⟩
  | 59 => ⟨S32x16384, .i32⟩
  | 60 => ⟨S32x16384, .i32⟩
  | 61 => ⟨S32x16384, .i32⟩
  | 62 => ⟨S32x16384, .i32⟩
  | 63 => ⟨S32x16384, .i32⟩
  | 64 => ⟨S_, .i32⟩
  | 65 => ⟨S32x16384, .i32⟩
  | 66 => ⟨S32x16384, .i32⟩
  | 67 => ⟨S32x16384, .i32⟩
  | 68 => ⟨S_, .i32⟩
  | 69 => ⟨S32x16384, .i32⟩
  | 70 => ⟨S32x16384, .i32⟩
  | 71 => ⟨S_, .i32⟩
  | 72 => ⟨S32x16384, .i32⟩
  | 73 => ⟨S32x16384, .i32⟩
  | 74 => ⟨S32x16384, .i32⟩
  | 75 => ⟨S32x16384, .i32⟩
  | 76 => ⟨S32x16384, .i32⟩
  | 77 => ⟨S_, .i32⟩
  | 78 => ⟨S32x16384, .i32⟩
  | 79 => ⟨S32x16384, .i32⟩
  | 80 => ⟨S_, .i32⟩
  | 81 => ⟨S32x16384, .i32⟩
  | 82 => ⟨S32x16384, .i32⟩
  | 83 => ⟨S32x16384, .i32⟩
  | 84 => ⟨S32x16384, .i32⟩
  | 85 => ⟨S32x16384, .i32⟩
  | 86 => ⟨S_, .i32⟩
  | 87 => ⟨S32x16384, .i32⟩
  | 88 => ⟨S32x16384, .i32⟩
  | 89 => ⟨S_, .i32⟩
  | 90 => ⟨S32x16384, .i32⟩
  | 91 => ⟨S32x16384, .i32⟩
  | 92 => ⟨S32x16384, .i32⟩
  | 93 => ⟨S32x16384, .i32⟩
  | 94 => ⟨S32x16384, .i32⟩
  | 95 => ⟨S_, .i32⟩
  | 96 => ⟨S32x16384, .i32⟩
  | 97 => ⟨S32x16384, .i32⟩
  | 98 => ⟨S_, .i32⟩
  | 99 => ⟨S32x16384, .i32⟩
  | 100 => ⟨S32x16384, .i32⟩
  | 101 => ⟨S32x16384, .i32⟩
  | 102 => ⟨S32x16384, .i32⟩
  | 103 => ⟨S32x16384, .i32⟩
  | 104 => ⟨S32x16384, .i32⟩
  | 105 => ⟨S32x16384, .i32⟩
  | 106 => ⟨S32x16384, .i32⟩
  | 107 => ⟨S_, .i32⟩
  | 108 => ⟨S32x16384, .i32⟩
  | 109 => ⟨S32x16384, .i32⟩
  | 110 => ⟨S32x16384, .i32⟩
  | 111 => ⟨S1, .i32⟩
  | 112 => ⟨S1, .i32⟩
  | 113 => ⟨S1, .i1⟩
  | 114 => ⟨S_, .i32⟩
  | 115 => ⟨S1, .i32⟩
  | 116 => ⟨S1, .i32⟩
  | 117 => ⟨S1, .i1⟩
  | 118 => ⟨S1, .i1⟩
  | 119 => ⟨S1, .i1⟩
  | 120 => ⟨S_, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S16384x2048, .f32⟩

abbrev hbmTy0_8 (i : Nat) : BufTy := match i % 128 with
  | 0 => ⟨S1, .i32⟩
  | 1 => ⟨S1x1, .i32⟩
  | 2 => ⟨S32x16384, .i32⟩
  | 3 => ⟨S32x16384, .i32⟩
  | 4 => ⟨S1x1, .i32⟩
  | 5 => ⟨S32x16384, .i32⟩
  | 6 => ⟨S32x16384, .i32⟩
  | 7 => ⟨S1x1, .i32⟩
  | 8 => ⟨S32x16384, .i32⟩
  | 9 => ⟨S32x16384, .i32⟩
  | 10 => ⟨S32x16384, .i32⟩
  | 11 => ⟨S1x1, .i32⟩
  | 12 => ⟨S32x16384, .i32⟩
  | 13 => ⟨S32x16384, .i32⟩
  | 14 => ⟨S32x16384, .i32⟩
  | 15 => ⟨S1x1, .i32⟩
  | 16 => ⟨S32x16384, .i32⟩
  | 17 => ⟨S32x16384, .i32⟩
  | 18 => ⟨S8192x64, .f32⟩
  | 19 => ⟨S1x16384, .i32⟩
  | 20 => ⟨S16384, .i32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S1, .i32⟩
  | 30 => ⟨S_, .i32⟩
  | 31 => ⟨S16384x1, .i32⟩
  | 32 => ⟨S16384x1, .i1⟩
  | 33 => ⟨S1x1, .i32⟩
  | 34 => ⟨S16384x1, .i32⟩
  | 35 => ⟨S16384x1, .i1⟩
  | 36 => ⟨S16384x1, .i1⟩
  | 37 => ⟨S_, .i1⟩
  | 38 => ⟨S16384, .i1⟩
  | 39 => ⟨S16384x64, .f32⟩
  | 40 => ⟨S16384x64, .i1⟩
  | 41 => ⟨S_, .f32⟩
  | 42 => ⟨S16384x64, .f32⟩
  | 43 => ⟨S16384x64, .f32⟩
  | 44 => ⟨S8192x64, .f32⟩
  | 45 => ⟨S1x16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S16384x64, .f32⟩
  | 66 => ⟨S16384x64, .i1⟩
  | 67 => ⟨S_, .f32⟩
  | 68 => ⟨S16384x64, .f32⟩
  | 69 => ⟨S16384x64, .f32⟩
  | 70 => ⟨S8192x64, .f32⟩
  | 71 => ⟨S1x16384, .i32⟩
  | 72 => ⟨S16384, .i32⟩
  | 73 => ⟨S_, .i32⟩
  | 74 => ⟨S16384, .i32⟩
  | 75 => ⟨S16384, .i1⟩
  | 76 => ⟨S_, .i32⟩
  | 77 => ⟨S16384, .i32⟩
  | 78 => ⟨S16384, .i32⟩
  | 79 => ⟨S16384, .i32⟩
  | 80 => ⟨S16384x1, .i32⟩
  | 81 => ⟨S1, .i32⟩
  | 82 => ⟨S_, .i32⟩
  | 83 => ⟨S16384x1, .i32⟩
  | 84 => ⟨S16384x1, .i1⟩
  | 85 => ⟨S1x1, .i32⟩
  | 86 => ⟨S16384x1, .i32⟩
  | 87 => ⟨S16384x1, .i1⟩
  | 88 => ⟨S16384x1, .i1⟩
  | 89 => ⟨S_, .i1⟩
  | 90 => ⟨S16384, .i1⟩
  | 91 => ⟨S16384x64, .f32⟩
  | 92 => ⟨S16384x64, .i1⟩
  | 93 => ⟨S_, .f32⟩
  | 94 => ⟨S16384x64, .f32⟩
  | 95 => ⟨S16384x64, .f32⟩
  | 96 => ⟨S8192x64, .f32⟩
  | 97 => ⟨S1x16384, .i32⟩
  | 98 => ⟨S16384, .i32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S1, .i32⟩
  | 108 => ⟨S_, .i32⟩
  | 109 => ⟨S16384x1, .i32⟩
  | 110 => ⟨S16384x1, .i1⟩
  | 111 => ⟨S1x1, .i32⟩
  | 112 => ⟨S16384x1, .i32⟩
  | 113 => ⟨S16384x1, .i1⟩
  | 114 => ⟨S16384x1, .i1⟩
  | 115 => ⟨S_, .i1⟩
  | 116 => ⟨S16384, .i1⟩
  | 117 => ⟨S16384x64, .f32⟩
  | 118 => ⟨S16384x64, .i1⟩
  | 119 => ⟨S_, .f32⟩
  | 120 => ⟨S16384x64, .f32⟩
  | 121 => ⟨S16384x64, .f32⟩
  | 122 => ⟨S8192x64, .f32⟩
  | 123 => ⟨S1x16384, .i32⟩
  | 124 => ⟨S16384, .i32⟩
  | 125 => ⟨S_, .i32⟩
  | 126 => ⟨S16384, .i32⟩
  | 127 => ⟨S16384, .i1⟩
  | _ => ⟨S16384x2048, .f32⟩

abbrev hbmTy0_9 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S1, .i32⟩
  | 6 => ⟨S_, .i32⟩
  | 7 => ⟨S16384x1, .i32⟩
  | 8 => ⟨S16384x1, .i1⟩
  | 9 => ⟨S1x1, .i32⟩
  | 10 => ⟨S16384x1, .i32⟩
  | 11 => ⟨S16384x1, .i1⟩
  | 12 => ⟨S16384x1, .i1⟩
  | 13 => ⟨S_, .i1⟩
  | 14 => ⟨S16384, .i1⟩
  | 15 => ⟨S16384x64, .f32⟩
  | 16 => ⟨S16384x64, .i1⟩
  | 17 => ⟨S_, .f32⟩
  | 18 => ⟨S16384x64, .f32⟩
  | 19 => ⟨S16384x64, .f32⟩
  | 20 => ⟨S8192x64, .f32⟩
  | 21 => ⟨S1x16384, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S1, .i32⟩
  | 32 => ⟨S_, .i32⟩
  | 33 => ⟨S16384x1, .i32⟩
  | 34 => ⟨S16384x1, .i1⟩
  | 35 => ⟨S1x1, .i32⟩
  | 36 => ⟨S16384x1, .i32⟩
  | 37 => ⟨S16384x1, .i1⟩
  | 38 => ⟨S16384x1, .i1⟩
  | 39 => ⟨S_, .i1⟩
  | 40 => ⟨S16384, .i1⟩
  | 41 => ⟨S16384x64, .f32⟩
  | 42 => ⟨S16384x64, .i1⟩
  | 43 => ⟨S_, .f32⟩
  | 44 => ⟨S16384x64, .f32⟩
  | 45 => ⟨S16384x64, .f32⟩
  | 46 => ⟨S8192x64, .f32⟩
  | 47 => ⟨S1x16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x64, .f32⟩
  | 68 => ⟨S16384x64, .i1⟩
  | 69 => ⟨S_, .f32⟩
  | 70 => ⟨S16384x64, .f32⟩
  | 71 => ⟨S16384x64, .f32⟩
  | 72 => ⟨S8192x64, .f32⟩
  | 73 => ⟨S1x16384, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S1, .i32⟩
  | 84 => ⟨S_, .i32⟩
  | 85 => ⟨S16384x1, .i32⟩
  | 86 => ⟨S16384x1, .i1⟩
  | 87 => ⟨S1x1, .i32⟩
  | 88 => ⟨S16384x1, .i32⟩
  | 89 => ⟨S16384x1, .i1⟩
  | 90 => ⟨S16384x1, .i1⟩
  | 91 => ⟨S_, .i1⟩
  | 92 => ⟨S16384, .i1⟩
  | 93 => ⟨S16384x64, .f32⟩
  | 94 => ⟨S16384x64, .i1⟩
  | 95 => ⟨S_, .f32⟩
  | 96 => ⟨S16384x64, .f32⟩
  | 97 => ⟨S16384x64, .f32⟩
  | 98 => ⟨S8192x64, .f32⟩
  | 99 => ⟨S1x16384, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x64, .f32⟩
  | 120 => ⟨S16384x64, .i1⟩
  | 121 => ⟨S_, .f32⟩
  | 122 => ⟨S16384x64, .f32⟩
  | 123 => ⟨S16384x64, .f32⟩
  | 124 => ⟨S8192x64, .f32⟩
  | 125 => ⟨S1x16384, .i32⟩
  | 126 => ⟨S16384, .i32⟩
  | 127 => ⟨S_, .i32⟩
  | _ => ⟨S16384x2048, .f32⟩

abbrev hbmTy0_10 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S1, .i32⟩
  | 8 => ⟨S_, .i32⟩
  | 9 => ⟨S16384x1, .i32⟩
  | 10 => ⟨S16384x1, .i1⟩
  | 11 => ⟨S1x1, .i32⟩
  | 12 => ⟨S16384x1, .i32⟩
  | 13 => ⟨S16384x1, .i1⟩
  | 14 => ⟨S16384x1, .i1⟩
  | 15 => ⟨S_, .i1⟩
  | 16 => ⟨S16384, .i1⟩
  | 17 => ⟨S16384x64, .f32⟩
  | 18 => ⟨S16384x64, .i1⟩
  | 19 => ⟨S_, .f32⟩
  | 20 => ⟨S16384x64, .f32⟩
  | 21 => ⟨S16384x64, .f32⟩
  | 22 => ⟨S8192x64, .f32⟩
  | 23 => ⟨S1x16384, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x64, .f32⟩
  | 44 => ⟨S16384x64, .i1⟩
  | 45 => ⟨S_, .f32⟩
  | 46 => ⟨S16384x64, .f32⟩
  | 47 => ⟨S16384x64, .f32⟩
  | 48 => ⟨S8192x64, .f32⟩
  | 49 => ⟨S1x16384, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S1, .i32⟩
  | 60 => ⟨S_, .i32⟩
  | 61 => ⟨S16384x1, .i32⟩
  | 62 => ⟨S16384x1, .i1⟩
  | 63 => ⟨S1x1, .i32⟩
  | 64 => ⟨S16384x1, .i32⟩
  | 65 => ⟨S16384x1, .i1⟩
  | 66 => ⟨S16384x1, .i1⟩
  | 67 => ⟨S_, .i1⟩
  | 68 => ⟨S16384, .i1⟩
  | 69 => ⟨S16384x64, .f32⟩
  | 70 => ⟨S16384x64, .i1⟩
  | 71 => ⟨S_, .f32⟩
  | 72 => ⟨S16384x64, .f32⟩
  | 73 => ⟨S16384x64, .f32⟩
  | 74 => ⟨S8192x64, .f32⟩
  | 75 => ⟨S1x16384, .i32⟩
  | 76 => ⟨S16384, .i32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S1, .i32⟩
  | 86 => ⟨S_, .i32⟩
  | 87 => ⟨S16384x1, .i32⟩
  | 88 => ⟨S16384x1, .i1⟩
  | 89 => ⟨S1x1, .i32⟩
  | 90 => ⟨S16384x1, .i32⟩
  | 91 => ⟨S16384x1, .i1⟩
  | 92 => ⟨S16384x1, .i1⟩
  | 93 => ⟨S_, .i1⟩
  | 94 => ⟨S16384, .i1⟩
  | 95 => ⟨S16384x64, .f32⟩
  | 96 => ⟨S16384x64, .i1⟩
  | 97 => ⟨S_, .f32⟩
  | 98 => ⟨S16384x64, .f32⟩
  | 99 => ⟨S16384x64, .f32⟩
  | 100 => ⟨S8192x64, .f32⟩
  | 101 => ⟨S1x16384, .i32⟩
  | 102 => ⟨S16384, .i32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S1, .i32⟩
  | 112 => ⟨S_, .i32⟩
  | 113 => ⟨S16384x1, .i32⟩
  | 114 => ⟨S16384x1, .i1⟩
  | 115 => ⟨S1x1, .i32⟩
  | 116 => ⟨S16384x1, .i32⟩
  | 117 => ⟨S16384x1, .i1⟩
  | 118 => ⟨S16384x1, .i1⟩
  | 119 => ⟨S_, .i1⟩
  | 120 => ⟨S16384, .i1⟩
  | 121 => ⟨S16384x64, .f32⟩
  | 122 => ⟨S16384x64, .i1⟩
  | 123 => ⟨S_, .f32⟩
  | 124 => ⟨S16384x64, .f32⟩
  | 125 => ⟨S16384x64, .f32⟩
  | 126 => ⟨S8192x64, .f32⟩
  | 127 => ⟨S1x16384, .i32⟩
  | _ => ⟨S16384x2048, .f32⟩

abbrev hbmTy0_11 (i : Nat) : BufTy := match i % 128 with
  | 0 => ⟨S16384, .i32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S1, .i32⟩
  | 10 => ⟨S_, .i32⟩
  | 11 => ⟨S16384x1, .i32⟩
  | 12 => ⟨S16384x1, .i1⟩
  | 13 => ⟨S1x1, .i32⟩
  | 14 => ⟨S16384x1, .i32⟩
  | 15 => ⟨S16384x1, .i1⟩
  | 16 => ⟨S16384x1, .i1⟩
  | 17 => ⟨S_, .i1⟩
  | 18 => ⟨S16384, .i1⟩
  | 19 => ⟨S16384x64, .f32⟩
  | 20 => ⟨S16384x64, .i1⟩
  | 21 => ⟨S_, .f32⟩
  | 22 => ⟨S16384x64, .f32⟩
  | 23 => ⟨S16384x64, .f32⟩
  | 24 => ⟨S8192x64, .f32⟩
  | 25 => ⟨S1x16384, .i32⟩
  | 26 => ⟨S16384, .i32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x64, .f32⟩
  | 46 => ⟨S16384x64, .i1⟩
  | 47 => ⟨S_, .f32⟩
  | 48 => ⟨S16384x64, .f32⟩
  | 49 => ⟨S16384x64, .f32⟩
  | 50 => ⟨S8192x64, .f32⟩
  | 51 => ⟨S1x16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384x64, .f32⟩
  | 72 => ⟨S16384x64, .i1⟩
  | 73 => ⟨S_, .f32⟩
  | 74 => ⟨S16384x64, .f32⟩
  | 75 => ⟨S16384x64, .f32⟩
  | 76 => ⟨S8192x64, .f32⟩
  | 77 => ⟨S1x16384, .i32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S1, .i32⟩
  | 88 => ⟨S_, .i32⟩
  | 89 => ⟨S16384x1, .i32⟩
  | 90 => ⟨S16384x1, .i1⟩
  | 91 => ⟨S1x1, .i32⟩
  | 92 => ⟨S16384x1, .i32⟩
  | 93 => ⟨S16384x1, .i1⟩
  | 94 => ⟨S16384x1, .i1⟩
  | 95 => ⟨S_, .i1⟩
  | 96 => ⟨S16384, .i1⟩
  | 97 => ⟨S16384x64, .f32⟩
  | 98 => ⟨S16384x64, .i1⟩
  | 99 => ⟨S_, .f32⟩
  | 100 => ⟨S16384x64, .f32⟩
  | 101 => ⟨S16384x64, .f32⟩
  | 102 => ⟨S8192x64, .f32⟩
  | 103 => ⟨S1x16384, .i32⟩
  | 104 => ⟨S16384, .i32⟩
  | 105 => ⟨S_, .i32⟩
  | 106 => ⟨S16384, .i32⟩
  | 107 => ⟨S16384, .i1⟩
  | 108 => ⟨S_, .i32⟩
  | 109 => ⟨S16384, .i32⟩
  | 110 => ⟨S16384, .i32⟩
  | 111 => ⟨S16384, .i32⟩
  | 112 => ⟨S16384x1, .i32⟩
  | 113 => ⟨S1, .i32⟩
  | 114 => ⟨S_, .i32⟩
  | 115 => ⟨S16384x1, .i32⟩
  | 116 => ⟨S16384x1, .i1⟩
  | 117 => ⟨S1x1, .i32⟩
  | 118 => ⟨S16384x1, .i32⟩
  | 119 => ⟨S16384x1, .i1⟩
  | 120 => ⟨S16384x1, .i1⟩
  | 121 => ⟨S_, .i1⟩
  | 122 => ⟨S16384, .i1⟩
  | 123 => ⟨S16384x64, .f32⟩
  | 124 => ⟨S16384x64, .i1⟩
  | 125 => ⟨S_, .f32⟩
  | 126 => ⟨S16384x64, .f32⟩
  | 127 => ⟨S16384x64, .f32⟩
  | _ => ⟨S16384x2048, .f32⟩

abbrev hbmTy0_12 (i : Nat) : BufTy := match i % 128 with
  | 0 => ⟨S8192x64, .f32⟩
  | 1 => ⟨S1x16384, .i32⟩
  | 2 => ⟨S16384, .i32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S1, .i32⟩
  | 12 => ⟨S_, .i32⟩
  | 13 => ⟨S16384x1, .i32⟩
  | 14 => ⟨S16384x1, .i1⟩
  | 15 => ⟨S1x1, .i32⟩
  | 16 => ⟨S16384x1, .i32⟩
  | 17 => ⟨S16384x1, .i1⟩
  | 18 => ⟨S16384x1, .i1⟩
  | 19 => ⟨S_, .i1⟩
  | 20 => ⟨S16384, .i1⟩
  | 21 => ⟨S16384x64, .f32⟩
  | 22 => ⟨S16384x64, .i1⟩
  | 23 => ⟨S_, .f32⟩
  | 24 => ⟨S16384x64, .f32⟩
  | 25 => ⟨S16384x64, .f32⟩
  | 26 => ⟨S8192x64, .f32⟩
  | 27 => ⟨S1x16384, .i32⟩
  | 28 => ⟨S16384, .i32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S1, .i32⟩
  | 38 => ⟨S_, .i32⟩
  | 39 => ⟨S16384x1, .i32⟩
  | 40 => ⟨S16384x1, .i1⟩
  | 41 => ⟨S1x1, .i32⟩
  | 42 => ⟨S16384x1, .i32⟩
  | 43 => ⟨S16384x1, .i1⟩
  | 44 => ⟨S16384x1, .i1⟩
  | 45 => ⟨S_, .i1⟩
  | 46 => ⟨S16384, .i1⟩
  | 47 => ⟨S16384x64, .f32⟩
  | 48 => ⟨S16384x64, .i1⟩
  | 49 => ⟨S_, .f32⟩
  | 50 => ⟨S16384x64, .f32⟩
  | 51 => ⟨S16384x64, .f32⟩
  | 52 => ⟨S8192x64, .f32⟩
  | 53 => ⟨S1x16384, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x64, .f32⟩
  | 74 => ⟨S16384x64, .i1⟩
  | 75 => ⟨S_, .f32⟩
  | 76 => ⟨S16384x64, .f32⟩
  | 77 => ⟨S16384x64, .f32⟩
  | 78 => ⟨S8192x64, .f32⟩
  | 79 => ⟨S1x16384, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x64, .f32⟩
  | 100 => ⟨S16384x64, .i1⟩
  | 101 => ⟨S_, .f32⟩
  | 102 => ⟨S16384x64, .f32⟩
  | 103 => ⟨S16384x64, .f32⟩
  | 104 => ⟨S8192x64, .f32⟩
  | 105 => ⟨S1x16384, .i32⟩
  | 106 => ⟨S16384, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S1, .i32⟩
  | 116 => ⟨S_, .i32⟩
  | 117 => ⟨S16384x1, .i32⟩
  | 118 => ⟨S16384x1, .i1⟩
  | 119 => ⟨S1x1, .i32⟩
  | 120 => ⟨S16384x1, .i32⟩
  | 121 => ⟨S16384x1, .i1⟩
  | 122 => ⟨S16384x1, .i1⟩
  | 123 => ⟨S_, .i1⟩
  | 124 => ⟨S16384, .i1⟩
  | 125 => ⟨S16384x64, .f32⟩
  | 126 => ⟨S16384x64, .i1⟩
  | 127 => ⟨S_, .f32⟩
  | _ => ⟨S16384x2048, .f32⟩

abbrev hbmTy0_13 (i : Nat) : BufTy := match i % 128 with
  | 0 => ⟨S16384x64, .f32⟩
  | 1 => ⟨S16384x64, .f32⟩
  | 2 => ⟨S8192x64, .f32⟩
  | 3 => ⟨S1x16384, .i32⟩
  | 4 => ⟨S16384, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S1, .i32⟩
  | 14 => ⟨S_, .i32⟩
  | 15 => ⟨S16384x1, .i32⟩
  | 16 => ⟨S16384x1, .i1⟩
  | 17 => ⟨S1x1, .i32⟩
  | 18 => ⟨S16384x1, .i32⟩
  | 19 => ⟨S16384x1, .i1⟩
  | 20 => ⟨S16384x1, .i1⟩
  | 21 => ⟨S_, .i1⟩
  | 22 => ⟨S16384, .i1⟩
  | 23 => ⟨S16384x64, .f32⟩
  | 24 => ⟨S16384x64, .i1⟩
  | 25 => ⟨S_, .f32⟩
  | 26 => ⟨S16384x64, .f32⟩
  | 27 => ⟨S16384x64, .f32⟩
  | 28 => ⟨S8192x64, .f32⟩
  | 29 => ⟨S1x16384, .i32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x64, .f32⟩
  | 50 => ⟨S16384x64, .i1⟩
  | 51 => ⟨S_, .f32⟩
  | 52 => ⟨S16384x64, .f32⟩
  | 53 => ⟨S16384x64, .f32⟩
  | 54 => ⟨S8192x64, .f32⟩
  | 55 => ⟨S1x16384, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S1, .i32⟩
  | 66 => ⟨S_, .i32⟩
  | 67 => ⟨S16384x1, .i32⟩
  | 68 => ⟨S16384x1, .i1⟩
  | 69 => ⟨S1x1, .i32⟩
  | 70 => ⟨S16384x1, .i32⟩
  | 71 => ⟨S16384x1, .i1⟩
  | 72 => ⟨S16384x1, .i1⟩
  | 73 => ⟨S_, .i1⟩
  | 74 => ⟨S16384, .i1⟩
  | 75 => ⟨S16384x64, .f32⟩
  | 76 => ⟨S16384x64, .i1⟩
  | 77 => ⟨S_, .f32⟩
  | 78 => ⟨S16384x64, .f32⟩
  | 79 => ⟨S16384x64, .f32⟩
  | 80 => ⟨S8192x64, .f32⟩
  | 81 => ⟨S1x16384, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S1, .i32⟩
  | 92 => ⟨S_, .i32⟩
  | 93 => ⟨S16384x1, .i32⟩
  | 94 => ⟨S16384x1, .i1⟩
  | 95 => ⟨S1x1, .i32⟩
  | 96 => ⟨S16384x1, .i32⟩
  | 97 => ⟨S16384x1, .i1⟩
  | 98 => ⟨S16384x1, .i1⟩
  | 99 => ⟨S_, .i1⟩
  | 100 => ⟨S16384, .i1⟩
  | 101 => ⟨S16384x64, .f32⟩
  | 102 => ⟨S16384x64, .i1⟩
  | 103 => ⟨S_, .f32⟩
  | 104 => ⟨S16384x64, .f32⟩
  | 105 => ⟨S16384x64, .f32⟩
  | 106 => ⟨S8192x64, .f32⟩
  | 107 => ⟨S1x16384, .i32⟩
  | 108 => ⟨S16384, .i32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S1, .i32⟩
  | 118 => ⟨S_, .i32⟩
  | 119 => ⟨S16384x1, .i32⟩
  | 120 => ⟨S16384x1, .i1⟩
  | 121 => ⟨S1x1, .i32⟩
  | 122 => ⟨S16384x1, .i32⟩
  | 123 => ⟨S16384x1, .i1⟩
  | 124 => ⟨S16384x1, .i1⟩
  | 125 => ⟨S_, .i1⟩
  | 126 => ⟨S16384, .i1⟩
  | 127 => ⟨S16384x64, .f32⟩
  | _ => ⟨S16384x2048, .f32⟩

abbrev hbmTy0_14 (i : Nat) : BufTy := match i % 128 with
  | 0 => ⟨S16384x64, .i1⟩
  | 1 => ⟨S_, .f32⟩
  | 2 => ⟨S16384x64, .f32⟩
  | 3 => ⟨S16384x64, .f32⟩
  | 4 => ⟨S8192x64, .f32⟩
  | 5 => ⟨S1x16384, .i32⟩
  | 6 => ⟨S16384, .i32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x64, .f32⟩
  | 26 => ⟨S16384x64, .i1⟩
  | 27 => ⟨S_, .f32⟩
  | 28 => ⟨S16384x64, .f32⟩
  | 29 => ⟨S16384x64, .f32⟩
  | 30 => ⟨S8192x64, .f32⟩
  | 31 => ⟨S1x16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x64, .f32⟩
  | 52 => ⟨S16384x64, .i1⟩
  | 53 => ⟨S_, .f32⟩
  | 54 => ⟨S16384x64, .f32⟩
  | 55 => ⟨S16384x64, .f32⟩
  | 56 => ⟨S8192x64, .f32⟩
  | 57 => ⟨S1x16384, .i32⟩
  | 58 => ⟨S16384, .i32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x64, .f32⟩
  | 78 => ⟨S16384x64, .i1⟩
  | 79 => ⟨S_, .f32⟩
  | 80 => ⟨S16384x64, .f32⟩
  | 81 => ⟨S16384x64, .f32⟩
  | 82 => ⟨S16384x1024, .f32⟩
  | 83 => ⟨S16384x1024, .f32⟩
  | 84 => ⟨S16384x2048, .f32⟩
  | _ => ⟨S16384x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c_0 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_call0_v0 : Ref sig .tc := ⟨.hbm, 29, rfl⟩
abbrev main_call0_call0_c : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_c_0 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_c_1 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_v13 : Ref sig .tc := ⟨.hbm, 45, rfl⟩
abbrev main_call0_call0_c_2 : Ref sig .tc := ⟨.hbm, 46, rfl⟩
abbrev main_call0_call0_v14 : Ref sig .tc := ⟨.hbm, 47, rfl⟩
abbrev main_call0_call0_v15 : Ref sig .tc := ⟨.hbm, 48, rfl⟩
abbrev main_call0_call0_c_3 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_c_4 : Ref sig .tc := ⟨.hbm, 55, rfl⟩
abbrev main_call0_call0_v21 : Ref sig .tc := ⟨.hbm, 56, rfl⟩
abbrev main_call0_call0_v22 : Ref sig .tc := ⟨.hbm, 57, rfl⟩
abbrev main_call0_call0_c_5 : Ref sig .tc := ⟨.hbm, 58, rfl⟩
abbrev main_call0_call0_v23 : Ref sig .tc := ⟨.hbm, 59, rfl⟩
abbrev main_call0_call0_v24 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_v27 : Ref sig .tc := ⟨.hbm, 63, rfl⟩
abbrev main_call0_call0_c_6 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_c_7 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_v32 : Ref sig .tc := ⟨.hbm, 70, rfl⟩
abbrev main_call0_call0_v33 : Ref sig .tc := ⟨.hbm, 71, rfl⟩
abbrev main_call0_call0_v34 : Ref sig .tc := ⟨.hbm, 72, rfl⟩
abbrev main_call0_call0_v35 : Ref sig .tc := ⟨.hbm, 73, rfl⟩
abbrev main_call0_call0_v36 : Ref sig .tc := ⟨.hbm, 74, rfl⟩
abbrev main_call0_call0_v37 : Ref sig .tc := ⟨.hbm, 75, rfl⟩
abbrev main_call0_call0_c_8 : Ref sig .tc := ⟨.hbm, 76, rfl⟩
abbrev main_call0_call0_v38 : Ref sig .tc := ⟨.hbm, 77, rfl⟩
abbrev main_call0_call0_v39 : Ref sig .tc := ⟨.hbm, 78, rfl⟩
abbrev main_call0_call0_v40 : Ref sig .tc := ⟨.hbm, 79, rfl⟩
abbrev main_call0_call0_c_9 : Ref sig .tc := ⟨.hbm, 80, rfl⟩
abbrev main_call0_call0_v41 : Ref sig .tc := ⟨.hbm, 81, rfl⟩
abbrev main_call0_call0_v42 : Ref sig .tc := ⟨.hbm, 82, rfl⟩
abbrev main_call0_call0_c_10 : Ref sig .tc := ⟨.hbm, 83, rfl⟩
abbrev main_call0_call0_v43 : Ref sig .tc := ⟨.hbm, 84, rfl⟩
abbrev main_call0_call0_v44 : Ref sig .tc := ⟨.hbm, 85, rfl⟩
abbrev main_call0_call0_v45 : Ref sig .tc := ⟨.hbm, 86, rfl⟩
abbrev main_call0_call0_v46 : Ref sig .tc := ⟨.hbm, 87, rfl⟩
abbrev main_call0_call0_v47 : Ref sig .tc := ⟨.hbm, 88, rfl⟩
abbrev main_call0_call0_c_11 : Ref sig .tc := ⟨.hbm, 89, rfl⟩
abbrev main_call0_call0_v48 : Ref sig .tc := ⟨.hbm, 90, rfl⟩
abbrev main_call0_call0_v49 : Ref sig .tc := ⟨.hbm, 91, rfl⟩
abbrev main_call0_call0_c_12 : Ref sig .tc := ⟨.hbm, 92, rfl⟩
abbrev main_call0_call0_v50 : Ref sig .tc := ⟨.hbm, 93, rfl⟩
abbrev main_call0_call0_v51 : Ref sig .tc := ⟨.hbm, 94, rfl⟩
abbrev main_call0_call0_v52 : Ref sig .tc := ⟨.hbm, 95, rfl⟩
abbrev main_call0_call0_v53 : Ref sig .tc := ⟨.hbm, 96, rfl⟩
abbrev main_call0_call0_v54 : Ref sig .tc := ⟨.hbm, 97, rfl⟩
abbrev main_call0_call0_c_13 : Ref sig .tc := ⟨.hbm, 98, rfl⟩
abbrev main_call0_call0_v55 : Ref sig .tc := ⟨.hbm, 99, rfl⟩
abbrev main_call0_call0_v56 : Ref sig .tc := ⟨.hbm, 100, rfl⟩
abbrev main_call0_call0_c_14 : Ref sig .tc := ⟨.hbm, 101, rfl⟩
abbrev main_call0_call0_v57 : Ref sig .tc := ⟨.hbm, 102, rfl⟩
abbrev main_call0_call0_v58 : Ref sig .tc := ⟨.hbm, 103, rfl⟩
abbrev main_call0_call0_v59 : Ref sig .tc := ⟨.hbm, 104, rfl⟩
abbrev main_call0_call0_v60 : Ref sig .tc := ⟨.hbm, 105, rfl⟩
abbrev main_call0_call0_v61 : Ref sig .tc := ⟨.hbm, 106, rfl⟩
abbrev main_call0_call0_c_15 : Ref sig .tc := ⟨.hbm, 107, rfl⟩
abbrev main_call0_call0_v62 : Ref sig .tc := ⟨.hbm, 108, rfl⟩
abbrev main_call0_call0_v63 : Ref sig .tc := ⟨.hbm, 109, rfl⟩
abbrev main_call0_call0_c_16 : Ref sig .tc := ⟨.hbm, 110, rfl⟩
abbrev main_call0_call0_v64 : Ref sig .tc := ⟨.hbm, 111, rfl⟩
abbrev main_call0_call0_v65 : Ref sig .tc := ⟨.hbm, 112, rfl⟩
abbrev main_call0_call0_v66 : Ref sig .tc := ⟨.hbm, 113, rfl⟩
abbrev main_call0_call0_v67 : Ref sig .tc := ⟨.hbm, 114, rfl⟩
abbrev main_call0_call0_v68 : Ref sig .tc := ⟨.hbm, 115, rfl⟩
abbrev main_call0_call0_v69 : Ref sig .tc := ⟨.hbm, 116, rfl⟩
abbrev main_call0_call0_v70 : Ref sig .tc := ⟨.hbm, 117, rfl⟩
abbrev main_call0_call0_v71 : Ref sig .tc := ⟨.hbm, 118, rfl⟩
abbrev main_call0_call0_c_17 : Ref sig .tc := ⟨.hbm, 119, rfl⟩
abbrev main_call0_call0_v72 : Ref sig .tc := ⟨.hbm, 120, rfl⟩
abbrev main_call0_call0_v73 : Ref sig .tc := ⟨.hbm, 121, rfl⟩
abbrev main_call0_call0_v74 : Ref sig .tc := ⟨.hbm, 122, rfl⟩
abbrev main_call0_call0_c_18 : Ref sig .tc := ⟨.hbm, 123, rfl⟩
abbrev main_call0_call0_v75 : Ref sig .tc := ⟨.hbm, 124, rfl⟩
abbrev main_call0_call0_v76 : Ref sig .tc := ⟨.hbm, 125, rfl⟩
abbrev main_call0_call0_c_19 : Ref sig .tc := ⟨.hbm, 126, rfl⟩
abbrev main_call0_call0_v77 : Ref sig .tc := ⟨.hbm, 127, rfl⟩
abbrev main_call0_call0_v78 : Ref sig .tc := ⟨.hbm, 128, rfl⟩
abbrev main_call0_call0_v79 : Ref sig .tc := ⟨.hbm, 129, rfl⟩
abbrev main_call0_call0_v80 : Ref sig .tc := ⟨.hbm, 130, rfl⟩
abbrev main_call0_call0_v81 : Ref sig .tc := ⟨.hbm, 131, rfl⟩
abbrev main_call0_call0_c_20 : Ref sig .tc := ⟨.hbm, 132, rfl⟩
abbrev main_call0_call0_v82 : Ref sig .tc := ⟨.hbm, 133, rfl⟩
abbrev main_call0_call0_v83 : Ref sig .tc := ⟨.hbm, 134, rfl⟩
abbrev main_call0_call0_c_21 : Ref sig .tc := ⟨.hbm, 135, rfl⟩
abbrev main_call0_call0_v84 : Ref sig .tc := ⟨.hbm, 136, rfl⟩
abbrev main_call0_call0_v85 : Ref sig .tc := ⟨.hbm, 137, rfl⟩
abbrev main_call0_call0_v86 : Ref sig .tc := ⟨.hbm, 138, rfl⟩
abbrev main_call0_call0_v87 : Ref sig .tc := ⟨.hbm, 139, rfl⟩
abbrev main_call0_call0_v88 : Ref sig .tc := ⟨.hbm, 140, rfl⟩
abbrev main_call0_call0_c_22 : Ref sig .tc := ⟨.hbm, 141, rfl⟩
abbrev main_call0_call0_v89 : Ref sig .tc := ⟨.hbm, 142, rfl⟩
abbrev main_call0_call0_v90 : Ref sig .tc := ⟨.hbm, 143, rfl⟩
abbrev main_call0_call0_c_23 : Ref sig .tc := ⟨.hbm, 144, rfl⟩
abbrev main_call0_call0_v91 : Ref sig .tc := ⟨.hbm, 145, rfl⟩
abbrev main_call0_call0_v92 : Ref sig .tc := ⟨.hbm, 146, rfl⟩
abbrev main_call0_call0_v93 : Ref sig .tc := ⟨.hbm, 147, rfl⟩
abbrev main_call0_call0_v94 : Ref sig .tc := ⟨.hbm, 148, rfl⟩
abbrev main_call0_call0_v95 : Ref sig .tc := ⟨.hbm, 149, rfl⟩
abbrev main_call0_call0_c_24 : Ref sig .tc := ⟨.hbm, 150, rfl⟩
abbrev main_call0_call0_v96 : Ref sig .tc := ⟨.hbm, 151, rfl⟩
abbrev main_call0_call0_v97 : Ref sig .tc := ⟨.hbm, 152, rfl⟩
abbrev main_call0_call0_c_25 : Ref sig .tc := ⟨.hbm, 153, rfl⟩
abbrev main_call0_call0_v98 : Ref sig .tc := ⟨.hbm, 154, rfl⟩
abbrev main_call0_call0_v99 : Ref sig .tc := ⟨.hbm, 155, rfl⟩
abbrev main_call0_call0_v100 : Ref sig .tc := ⟨.hbm, 156, rfl⟩
abbrev main_call0_call0_v101 : Ref sig .tc := ⟨.hbm, 157, rfl⟩
abbrev main_call0_call0_v102 : Ref sig .tc := ⟨.hbm, 158, rfl⟩
abbrev main_call0_call0_v103 : Ref sig .tc := ⟨.hbm, 159, rfl⟩
abbrev main_call0_call0_v104 : Ref sig .tc := ⟨.hbm, 160, rfl⟩
abbrev main_call0_call0_v105 : Ref sig .tc := ⟨.hbm, 161, rfl⟩
abbrev main_call0_call0_c_26 : Ref sig .tc := ⟨.hbm, 162, rfl⟩
abbrev main_call0_call0_v106 : Ref sig .tc := ⟨.hbm, 163, rfl⟩
abbrev main_call0_call0_v107 : Ref sig .tc := ⟨.hbm, 164, rfl⟩
abbrev main_call0_call0_v108 : Ref sig .tc := ⟨.hbm, 165, rfl⟩
abbrev main_call0_call0_c_27 : Ref sig .tc := ⟨.hbm, 166, rfl⟩
abbrev main_call0_call0_v109 : Ref sig .tc := ⟨.hbm, 167, rfl⟩
abbrev main_call0_call0_v110 : Ref sig .tc := ⟨.hbm, 168, rfl⟩
abbrev main_call0_call0_c_28 : Ref sig .tc := ⟨.hbm, 169, rfl⟩
abbrev main_call0_call0_v111 : Ref sig .tc := ⟨.hbm, 170, rfl⟩
abbrev main_call0_call0_v112 : Ref sig .tc := ⟨.hbm, 171, rfl⟩
abbrev main_call0_call0_v113 : Ref sig .tc := ⟨.hbm, 172, rfl⟩
abbrev main_call0_call0_v114 : Ref sig .tc := ⟨.hbm, 173, rfl⟩
abbrev main_call0_call0_v115 : Ref sig .tc := ⟨.hbm, 174, rfl⟩
abbrev main_call0_call0_c_29 : Ref sig .tc := ⟨.hbm, 175, rfl⟩
abbrev main_call0_call0_v116 : Ref sig .tc := ⟨.hbm, 176, rfl⟩
abbrev main_call0_call0_v117 : Ref sig .tc := ⟨.hbm, 177, rfl⟩
abbrev main_call0_call0_c_30 : Ref sig .tc := ⟨.hbm, 178, rfl⟩
abbrev main_call0_call0_v118 : Ref sig .tc := ⟨.hbm, 179, rfl⟩
abbrev main_call0_call0_v119 : Ref sig .tc := ⟨.hbm, 180, rfl⟩
abbrev main_call0_call0_v120 : Ref sig .tc := ⟨.hbm, 181, rfl⟩
abbrev main_call0_call0_v121 : Ref sig .tc := ⟨.hbm, 182, rfl⟩
abbrev main_call0_call0_v122 : Ref sig .tc := ⟨.hbm, 183, rfl⟩
abbrev main_call0_call0_c_31 : Ref sig .tc := ⟨.hbm, 184, rfl⟩
abbrev main_call0_call0_v123 : Ref sig .tc := ⟨.hbm, 185, rfl⟩
abbrev main_call0_call0_v124 : Ref sig .tc := ⟨.hbm, 186, rfl⟩
abbrev main_call0_call0_c_32 : Ref sig .tc := ⟨.hbm, 187, rfl⟩
abbrev main_call0_call0_v125 : Ref sig .tc := ⟨.hbm, 188, rfl⟩
abbrev main_call0_call0_v126 : Ref sig .tc := ⟨.hbm, 189, rfl⟩
abbrev main_call0_call0_v127 : Ref sig .tc := ⟨.hbm, 190, rfl⟩
abbrev main_call0_call0_v128 : Ref sig .tc := ⟨.hbm, 191, rfl⟩
abbrev main_call0_call0_v129 : Ref sig .tc := ⟨.hbm, 192, rfl⟩
abbrev main_call0_call0_c_33 : Ref sig .tc := ⟨.hbm, 193, rfl⟩
abbrev main_call0_call0_v130 : Ref sig .tc := ⟨.hbm, 194, rfl⟩
abbrev main_call0_call0_v131 : Ref sig .tc := ⟨.hbm, 195, rfl⟩
abbrev main_call0_call0_c_34 : Ref sig .tc := ⟨.hbm, 196, rfl⟩
abbrev main_call0_call0_v132 : Ref sig .tc := ⟨.hbm, 197, rfl⟩
abbrev main_call0_call0_v133 : Ref sig .tc := ⟨.hbm, 198, rfl⟩
abbrev main_call0_call0_v134 : Ref sig .tc := ⟨.hbm, 199, rfl⟩
abbrev main_call0_call0_v135 : Ref sig .tc := ⟨.hbm, 200, rfl⟩
abbrev main_call0_call0_v136 : Ref sig .tc := ⟨.hbm, 201, rfl⟩
abbrev main_call0_call0_v137 : Ref sig .tc := ⟨.hbm, 202, rfl⟩
abbrev main_call0_call0_v138 : Ref sig .tc := ⟨.hbm, 203, rfl⟩
abbrev main_call0_call0_v139 : Ref sig .tc := ⟨.hbm, 204, rfl⟩
abbrev main_call0_call0_c_35 : Ref sig .tc := ⟨.hbm, 205, rfl⟩
abbrev main_call0_call0_v140 : Ref sig .tc := ⟨.hbm, 206, rfl⟩
abbrev main_call0_call0_v141 : Ref sig .tc := ⟨.hbm, 207, rfl⟩
abbrev main_call0_call0_v142 : Ref sig .tc := ⟨.hbm, 208, rfl⟩
abbrev main_call0_call0_c_36 : Ref sig .tc := ⟨.hbm, 209, rfl⟩
abbrev main_call0_call0_v143 : Ref sig .tc := ⟨.hbm, 210, rfl⟩
abbrev main_call0_call0_v144 : Ref sig .tc := ⟨.hbm, 211, rfl⟩
abbrev main_call0_call0_c_37 : Ref sig .tc := ⟨.hbm, 212, rfl⟩
abbrev main_call0_call0_v145 : Ref sig .tc := ⟨.hbm, 213, rfl⟩
abbrev main_call0_call0_v146 : Ref sig .tc := ⟨.hbm, 214, rfl⟩
abbrev main_call0_call0_v147 : Ref sig .tc := ⟨.hbm, 215, rfl⟩
abbrev main_call0_call0_v148 : Ref sig .tc := ⟨.hbm, 216, rfl⟩
abbrev main_call0_call0_v149 : Ref sig .tc := ⟨.hbm, 217, rfl⟩
abbrev main_call0_call0_c_38 : Ref sig .tc := ⟨.hbm, 218, rfl⟩
abbrev main_call0_call0_v150 : Ref sig .tc := ⟨.hbm, 219, rfl⟩
abbrev main_call0_call0_v151 : Ref sig .tc := ⟨.hbm, 220, rfl⟩
abbrev main_call0_call0_c_39 : Ref sig .tc := ⟨.hbm, 221, rfl⟩
abbrev main_call0_call0_v152 : Ref sig .tc := ⟨.hbm, 222, rfl⟩
abbrev main_call0_call0_v153 : Ref sig .tc := ⟨.hbm, 223, rfl⟩
abbrev main_call0_call0_v154 : Ref sig .tc := ⟨.hbm, 224, rfl⟩
abbrev main_call0_call0_v155 : Ref sig .tc := ⟨.hbm, 225, rfl⟩
abbrev main_call0_call0_v156 : Ref sig .tc := ⟨.hbm, 226, rfl⟩
abbrev main_call0_call0_c_40 : Ref sig .tc := ⟨.hbm, 227, rfl⟩
abbrev main_call0_call0_v157 : Ref sig .tc := ⟨.hbm, 228, rfl⟩
abbrev main_call0_call0_v158 : Ref sig .tc := ⟨.hbm, 229, rfl⟩
abbrev main_call0_call0_c_41 : Ref sig .tc := ⟨.hbm, 230, rfl⟩
abbrev main_call0_call0_v159 : Ref sig .tc := ⟨.hbm, 231, rfl⟩
abbrev main_call0_call0_v160 : Ref sig .tc := ⟨.hbm, 232, rfl⟩
abbrev main_call0_call0_v161 : Ref sig .tc := ⟨.hbm, 233, rfl⟩
abbrev main_call0_call0_v162 : Ref sig .tc := ⟨.hbm, 234, rfl⟩
abbrev main_call0_call0_v163 : Ref sig .tc := ⟨.hbm, 235, rfl⟩
abbrev main_call0_call0_c_42 : Ref sig .tc := ⟨.hbm, 236, rfl⟩
abbrev main_call0_call0_v164 : Ref sig .tc := ⟨.hbm, 237, rfl⟩
abbrev main_call0_call0_v165 : Ref sig .tc := ⟨.hbm, 238, rfl⟩
abbrev main_call0_call0_c_43 : Ref sig .tc := ⟨.hbm, 239, rfl⟩
abbrev main_call0_call0_v166 : Ref sig .tc := ⟨.hbm, 240, rfl⟩
abbrev main_call0_call0_v167 : Ref sig .tc := ⟨.hbm, 241, rfl⟩
abbrev main_call0_call0_v168 : Ref sig .tc := ⟨.hbm, 242, rfl⟩
abbrev main_call0_call0_v169 : Ref sig .tc := ⟨.hbm, 243, rfl⟩
abbrev main_call0_call0_v170 : Ref sig .tc := ⟨.hbm, 244, rfl⟩
abbrev main_call0_v13_0 : Ref sig .tc := ⟨.hbm, 245, rfl⟩
abbrev main_call0_call0_v172 : Ref sig .tc := ⟨.hbm, 246, rfl⟩
abbrev main_call0_call0_v173 : Ref sig .tc := ⟨.hbm, 247, rfl⟩
abbrev main_call0_call0_c_44 : Ref sig .tc := ⟨.hbm, 248, rfl⟩
abbrev main_call0_call0_v174 : Ref sig .tc := ⟨.hbm, 249, rfl⟩
abbrev main_call0_v13_1 : Ref sig .tc := ⟨.hbm, 250, rfl⟩
abbrev main_v10 : Ref sig .tc := ⟨.hbm, 251, rfl⟩
abbrev main_c_2 : Ref sig .tc := ⟨.hbm, 252, rfl⟩
abbrev main_c_3 : Ref sig .tc := ⟨.hbm, 253, rfl⟩
abbrev main_call1_c : Ref sig .tc := ⟨.hbm, 254, rfl⟩
abbrev main_call1_c_0 : Ref sig .tc := ⟨.hbm, 255, rfl⟩
abbrev main_call1_c_1 : Ref sig .tc := ⟨.hbm, 256, rfl⟩
abbrev main_call1_call0_v0 : Ref sig .tc := ⟨.hbm, 257, rfl⟩
abbrev main_call1_v0 : Ref sig .tc := ⟨.hbm, 258, rfl⟩
abbrev main_call1_v1 : Ref sig .tc := ⟨.hbm, 259, rfl⟩
abbrev main_call1_c_2 : Ref sig .tc := ⟨.hbm, 260, rfl⟩
abbrev main_call1_c_3 : Ref sig .tc := ⟨.hbm, 261, rfl⟩
abbrev main_call1_call1_v0 : Ref sig .tc := ⟨.hbm, 262, rfl⟩
abbrev main_call1_v2 : Ref sig .tc := ⟨.hbm, 263, rfl⟩
abbrev main_call1_v3 : Ref sig .tc := ⟨.hbm, 264, rfl⟩
abbrev main_call1_c_4 : Ref sig .tc := ⟨.hbm, 265, rfl⟩
abbrev main_call1_c_5 : Ref sig .tc := ⟨.hbm, 266, rfl⟩
abbrev main_call1_call2_v0 : Ref sig .tc := ⟨.hbm, 267, rfl⟩
abbrev main_call1_v4 : Ref sig .tc := ⟨.hbm, 268, rfl⟩
abbrev main_call1_v5 : Ref sig .tc := ⟨.hbm, 269, rfl⟩
abbrev main_call1_v6 : Ref sig .tc := ⟨.hbm, 270, rfl⟩
abbrev main_call1_v7 : Ref sig .tc := ⟨.hbm, 271, rfl⟩
abbrev main_call1_call3_v0 : Ref sig .tc := ⟨.hbm, 272, rfl⟩
abbrev main_call1_call3_v1 : Ref sig .tc := ⟨.hbm, 273, rfl⟩
abbrev main_call1_call3_v2 : Ref sig .tc := ⟨.hbm, 274, rfl⟩
abbrev main_call1_call3_v3 : Ref sig .tc := ⟨.hbm, 275, rfl⟩
abbrev main_call1_call3_v4 : Ref sig .tc := ⟨.hbm, 276, rfl⟩
abbrev main_call1_call3_c : Ref sig .tc := ⟨.hbm, 277, rfl⟩
abbrev main_call1_call3_v5 : Ref sig .tc := ⟨.hbm, 278, rfl⟩
abbrev main_call1_call3_v6 : Ref sig .tc := ⟨.hbm, 279, rfl⟩
abbrev main_call1_call3_c_0 : Ref sig .tc := ⟨.hbm, 280, rfl⟩
abbrev main_call1_call3_v7 : Ref sig .tc := ⟨.hbm, 281, rfl⟩
abbrev main_call1_call3_v8 : Ref sig .tc := ⟨.hbm, 282, rfl⟩
abbrev main_call1_call3_v9 : Ref sig .tc := ⟨.hbm, 283, rfl⟩
abbrev main_call1_call3_v10 : Ref sig .tc := ⟨.hbm, 284, rfl⟩
abbrev main_call1_call3_v11 : Ref sig .tc := ⟨.hbm, 285, rfl⟩
abbrev main_call1_call3_v12 : Ref sig .tc := ⟨.hbm, 286, rfl⟩
abbrev main_call1_call3_v13 : Ref sig .tc := ⟨.hbm, 287, rfl⟩
abbrev main_call1_call3_v14 : Ref sig .tc := ⟨.hbm, 288, rfl⟩
abbrev main_call1_call3_call0_v0 : Ref sig .tc := ⟨.hbm, 289, rfl⟩
abbrev main_call1_call3_call0_c : Ref sig .tc := ⟨.hbm, 290, rfl⟩
abbrev main_call1_call3_call0_v1 : Ref sig .tc := ⟨.hbm, 291, rfl⟩
abbrev main_call1_call3_call0_v2 : Ref sig .tc := ⟨.hbm, 292, rfl⟩
abbrev main_call1_call3_call0_v3 : Ref sig .tc := ⟨.hbm, 293, rfl⟩
abbrev main_call1_call3_call0_v4 : Ref sig .tc := ⟨.hbm, 294, rfl⟩
abbrev main_call1_call3_call0_v5 : Ref sig .tc := ⟨.hbm, 295, rfl⟩
abbrev main_call1_call3_call0_v6 : Ref sig .tc := ⟨.hbm, 296, rfl⟩
abbrev main_call1_call3_call0_v7 : Ref sig .tc := ⟨.hbm, 297, rfl⟩
abbrev main_call1_call3_call0_v8 : Ref sig .tc := ⟨.hbm, 298, rfl⟩
abbrev main_call1_call3_call0_v9 : Ref sig .tc := ⟨.hbm, 299, rfl⟩
abbrev main_call1_call3_call0_c_0 : Ref sig .tc := ⟨.hbm, 300, rfl⟩
abbrev main_call1_call3_call0_v10 : Ref sig .tc := ⟨.hbm, 301, rfl⟩
abbrev main_call1_call3_call0_v11 : Ref sig .tc := ⟨.hbm, 302, rfl⟩
abbrev main_call1_call3_call0_c_1 : Ref sig .tc := ⟨.hbm, 303, rfl⟩
abbrev main_call1_call3_call0_v12 : Ref sig .tc := ⟨.hbm, 304, rfl⟩
abbrev main_call1_call3_call0_v13 : Ref sig .tc := ⟨.hbm, 305, rfl⟩
abbrev main_call1_call3_call0_v14 : Ref sig .tc := ⟨.hbm, 306, rfl⟩
abbrev main_call1_call3_call0_v15 : Ref sig .tc := ⟨.hbm, 307, rfl⟩
abbrev main_call1_call3_call0_v16 : Ref sig .tc := ⟨.hbm, 308, rfl⟩
abbrev main_call1_call3_call0_c_2 : Ref sig .tc := ⟨.hbm, 309, rfl⟩
abbrev main_call1_call3_call0_v17 : Ref sig .tc := ⟨.hbm, 310, rfl⟩
abbrev main_call1_call3_call0_v18 : Ref sig .tc := ⟨.hbm, 311, rfl⟩
abbrev main_call1_call3_call0_c_3 : Ref sig .tc := ⟨.hbm, 312, rfl⟩
abbrev main_call1_call3_call0_v19 : Ref sig .tc := ⟨.hbm, 313, rfl⟩
abbrev main_call1_call3_call0_v20 : Ref sig .tc := ⟨.hbm, 314, rfl⟩
abbrev main_call1_call3_call0_v21 : Ref sig .tc := ⟨.hbm, 315, rfl⟩
abbrev main_call1_call3_call0_v22 : Ref sig .tc := ⟨.hbm, 316, rfl⟩
abbrev main_call1_call3_call0_v23 : Ref sig .tc := ⟨.hbm, 317, rfl⟩
abbrev main_call1_call3_call0_c_4 : Ref sig .tc := ⟨.hbm, 318, rfl⟩
abbrev main_call1_call3_call0_v24 : Ref sig .tc := ⟨.hbm, 319, rfl⟩
abbrev main_call1_call3_call0_v25 : Ref sig .tc := ⟨.hbm, 320, rfl⟩
abbrev main_call1_call3_call0_c_5 : Ref sig .tc := ⟨.hbm, 321, rfl⟩
abbrev main_call1_call3_call0_v26 : Ref sig .tc := ⟨.hbm, 322, rfl⟩
abbrev main_call1_call3_call0_v27 : Ref sig .tc := ⟨.hbm, 323, rfl⟩
abbrev main_call1_call3_call0_v28 : Ref sig .tc := ⟨.hbm, 324, rfl⟩
abbrev main_call1_call3_call0_v29 : Ref sig .tc := ⟨.hbm, 325, rfl⟩
abbrev main_call1_call3_call0_v30 : Ref sig .tc := ⟨.hbm, 326, rfl⟩
abbrev main_call1_call3_call0_c_6 : Ref sig .tc := ⟨.hbm, 327, rfl⟩
abbrev main_call1_call3_call0_v31 : Ref sig .tc := ⟨.hbm, 328, rfl⟩
abbrev main_call1_call3_call0_v32 : Ref sig .tc := ⟨.hbm, 329, rfl⟩
abbrev main_call1_call3_call0_c_7 : Ref sig .tc := ⟨.hbm, 330, rfl⟩
abbrev main_call1_call3_call0_v33 : Ref sig .tc := ⟨.hbm, 331, rfl⟩
abbrev main_call1_call3_call0_v34 : Ref sig .tc := ⟨.hbm, 332, rfl⟩
abbrev main_call1_call3_call0_v35 : Ref sig .tc := ⟨.hbm, 333, rfl⟩
abbrev main_call1_call3_call0_v36 : Ref sig .tc := ⟨.hbm, 334, rfl⟩
abbrev main_call1_call3_call0_v37 : Ref sig .tc := ⟨.hbm, 335, rfl⟩
abbrev main_call1_call3_call0_v38 : Ref sig .tc := ⟨.hbm, 336, rfl⟩
abbrev main_call1_call3_call0_v39 : Ref sig .tc := ⟨.hbm, 337, rfl⟩
abbrev main_call1_call3_call0_v40 : Ref sig .tc := ⟨.hbm, 338, rfl⟩
abbrev main_call1_call3_call0_c_8 : Ref sig .tc := ⟨.hbm, 339, rfl⟩
abbrev main_call1_call3_call0_v41 : Ref sig .tc := ⟨.hbm, 340, rfl⟩
abbrev main_call1_call3_call0_v42 : Ref sig .tc := ⟨.hbm, 341, rfl⟩
abbrev main_call1_call3_call0_v43 : Ref sig .tc := ⟨.hbm, 342, rfl⟩
abbrev main_call1_call3_call0_c_9 : Ref sig .tc := ⟨.hbm, 343, rfl⟩
abbrev main_call1_call3_call0_v44 : Ref sig .tc := ⟨.hbm, 344, rfl⟩
abbrev main_call1_call3_call0_v45 : Ref sig .tc := ⟨.hbm, 345, rfl⟩
abbrev main_call1_call3_call0_c_10 : Ref sig .tc := ⟨.hbm, 346, rfl⟩
abbrev main_call1_call3_call0_v46 : Ref sig .tc := ⟨.hbm, 347, rfl⟩
abbrev main_call1_call3_call0_v47 : Ref sig .tc := ⟨.hbm, 348, rfl⟩
abbrev main_call1_call3_call0_v48 : Ref sig .tc := ⟨.hbm, 349, rfl⟩
abbrev main_call1_call3_call0_v49 : Ref sig .tc := ⟨.hbm, 350, rfl⟩
abbrev main_call1_call3_call0_v50 : Ref sig .tc := ⟨.hbm, 351, rfl⟩
abbrev main_call1_call3_call0_c_11 : Ref sig .tc := ⟨.hbm, 352, rfl⟩
abbrev main_call1_call3_call0_v51 : Ref sig .tc := ⟨.hbm, 353, rfl⟩
abbrev main_call1_call3_call0_v52 : Ref sig .tc := ⟨.hbm, 354, rfl⟩
abbrev main_call1_call3_call0_c_12 : Ref sig .tc := ⟨.hbm, 355, rfl⟩
abbrev main_call1_call3_call0_v53 : Ref sig .tc := ⟨.hbm, 356, rfl⟩
abbrev main_call1_call3_call0_v54 : Ref sig .tc := ⟨.hbm, 357, rfl⟩
abbrev main_call1_call3_call0_v55 : Ref sig .tc := ⟨.hbm, 358, rfl⟩
abbrev main_call1_call3_call0_v56 : Ref sig .tc := ⟨.hbm, 359, rfl⟩
abbrev main_call1_call3_call0_v57 : Ref sig .tc := ⟨.hbm, 360, rfl⟩
abbrev main_call1_call3_call0_c_13 : Ref sig .tc := ⟨.hbm, 361, rfl⟩
abbrev main_call1_call3_call0_v58 : Ref sig .tc := ⟨.hbm, 362, rfl⟩
abbrev main_call1_call3_call0_v59 : Ref sig .tc := ⟨.hbm, 363, rfl⟩
abbrev main_call1_call3_call0_c_14 : Ref sig .tc := ⟨.hbm, 364, rfl⟩
abbrev main_call1_call3_call0_v60 : Ref sig .tc := ⟨.hbm, 365, rfl⟩
abbrev main_call1_call3_call0_v61 : Ref sig .tc := ⟨.hbm, 366, rfl⟩
abbrev main_call1_call3_call0_v62 : Ref sig .tc := ⟨.hbm, 367, rfl⟩
abbrev main_call1_call3_call0_v63 : Ref sig .tc := ⟨.hbm, 368, rfl⟩
abbrev main_call1_call3_call0_v64 : Ref sig .tc := ⟨.hbm, 369, rfl⟩
abbrev main_call1_call3_call0_c_15 : Ref sig .tc := ⟨.hbm, 370, rfl⟩
abbrev main_call1_call3_call0_v65 : Ref sig .tc := ⟨.hbm, 371, rfl⟩
abbrev main_call1_call3_call0_v66 : Ref sig .tc := ⟨.hbm, 372, rfl⟩
abbrev main_call1_call3_call0_c_16 : Ref sig .tc := ⟨.hbm, 373, rfl⟩
abbrev main_call1_call3_call0_v67 : Ref sig .tc := ⟨.hbm, 374, rfl⟩
abbrev main_call1_call3_call0_v68 : Ref sig .tc := ⟨.hbm, 375, rfl⟩
abbrev main_call1_call3_call0_v69 : Ref sig .tc := ⟨.hbm, 376, rfl⟩
abbrev main_call1_call3_call0_v70 : Ref sig .tc := ⟨.hbm, 377, rfl⟩
abbrev main_call1_call3_call0_v71 : Ref sig .tc := ⟨.hbm, 378, rfl⟩
abbrev main_call1_call3_call0_v72 : Ref sig .tc := ⟨.hbm, 379, rfl⟩
abbrev main_call1_call3_call0_v73 : Ref sig .tc := ⟨.hbm, 380, rfl⟩
abbrev main_call1_call3_call0_v74 : Ref sig .tc := ⟨.hbm, 381, rfl⟩
abbrev main_call1_call3_call0_c_17 : Ref sig .tc := ⟨.hbm, 382, rfl⟩
abbrev main_call1_call3_call0_v75 : Ref sig .tc := ⟨.hbm, 383, rfl⟩
abbrev main_call1_call3_call0_v76 : Ref sig .tc := ⟨.hbm, 384, rfl⟩
abbrev main_call1_call3_call0_v77 : Ref sig .tc := ⟨.hbm, 385, rfl⟩
abbrev main_call1_call3_call0_c_18 : Ref sig .tc := ⟨.hbm, 386, rfl⟩
abbrev main_call1_call3_call0_v78 : Ref sig .tc := ⟨.hbm, 387, rfl⟩
abbrev main_call1_call3_call0_v79 : Ref sig .tc := ⟨.hbm, 388, rfl⟩
abbrev main_call1_call3_call0_c_19 : Ref sig .tc := ⟨.hbm, 389, rfl⟩
abbrev main_call1_call3_call0_v80 : Ref sig .tc := ⟨.hbm, 390, rfl⟩
abbrev main_call1_call3_call0_v81 : Ref sig .tc := ⟨.hbm, 391, rfl⟩
abbrev main_call1_call3_call0_v82 : Ref sig .tc := ⟨.hbm, 392, rfl⟩
abbrev main_call1_call3_call0_v83 : Ref sig .tc := ⟨.hbm, 393, rfl⟩
abbrev main_call1_call3_call0_v84 : Ref sig .tc := ⟨.hbm, 394, rfl⟩
abbrev main_call1_call3_call0_c_20 : Ref sig .tc := ⟨.hbm, 395, rfl⟩
abbrev main_call1_call3_call0_v85 : Ref sig .tc := ⟨.hbm, 396, rfl⟩
abbrev main_call1_call3_call0_v86 : Ref sig .tc := ⟨.hbm, 397, rfl⟩
abbrev main_call1_call3_call0_c_21 : Ref sig .tc := ⟨.hbm, 398, rfl⟩
abbrev main_call1_call3_call0_v87 : Ref sig .tc := ⟨.hbm, 399, rfl⟩
abbrev main_call1_call3_call0_v88 : Ref sig .tc := ⟨.hbm, 400, rfl⟩
abbrev main_call1_call3_call0_v89 : Ref sig .tc := ⟨.hbm, 401, rfl⟩
abbrev main_call1_call3_call0_v90 : Ref sig .tc := ⟨.hbm, 402, rfl⟩
abbrev main_call1_call3_call0_v91 : Ref sig .tc := ⟨.hbm, 403, rfl⟩
abbrev main_call1_call3_call0_c_22 : Ref sig .tc := ⟨.hbm, 404, rfl⟩
abbrev main_call1_call3_call0_v92 : Ref sig .tc := ⟨.hbm, 405, rfl⟩
abbrev main_call1_call3_call0_v93 : Ref sig .tc := ⟨.hbm, 406, rfl⟩
abbrev main_call1_call3_call0_c_23 : Ref sig .tc := ⟨.hbm, 407, rfl⟩
abbrev main_call1_call3_call0_v94 : Ref sig .tc := ⟨.hbm, 408, rfl⟩
abbrev main_call1_call3_call0_v95 : Ref sig .tc := ⟨.hbm, 409, rfl⟩
abbrev main_call1_call3_call0_v96 : Ref sig .tc := ⟨.hbm, 410, rfl⟩
abbrev main_call1_call3_call0_v97 : Ref sig .tc := ⟨.hbm, 411, rfl⟩
abbrev main_call1_call3_call0_v98 : Ref sig .tc := ⟨.hbm, 412, rfl⟩
abbrev main_call1_call3_call0_c_24 : Ref sig .tc := ⟨.hbm, 413, rfl⟩
abbrev main_call1_call3_call0_v99 : Ref sig .tc := ⟨.hbm, 414, rfl⟩
abbrev main_call1_call3_call0_v100 : Ref sig .tc := ⟨.hbm, 415, rfl⟩
abbrev main_call1_call3_call0_c_25 : Ref sig .tc := ⟨.hbm, 416, rfl⟩
abbrev main_call1_call3_call0_v101 : Ref sig .tc := ⟨.hbm, 417, rfl⟩
abbrev main_call1_call3_call0_v102 : Ref sig .tc := ⟨.hbm, 418, rfl⟩
abbrev main_call1_call3_call0_v103 : Ref sig .tc := ⟨.hbm, 419, rfl⟩
abbrev main_call1_call3_call0_v104 : Ref sig .tc := ⟨.hbm, 420, rfl⟩
abbrev main_call1_call3_call0_v105 : Ref sig .tc := ⟨.hbm, 421, rfl⟩
abbrev main_call1_call3_call0_v106 : Ref sig .tc := ⟨.hbm, 422, rfl⟩
abbrev main_call1_call3_call0_v107 : Ref sig .tc := ⟨.hbm, 423, rfl⟩
abbrev main_call1_call3_call0_v108 : Ref sig .tc := ⟨.hbm, 424, rfl⟩
abbrev main_call1_call3_call0_c_26 : Ref sig .tc := ⟨.hbm, 425, rfl⟩
abbrev main_call1_call3_call0_v109 : Ref sig .tc := ⟨.hbm, 426, rfl⟩
abbrev main_call1_call3_call0_v110 : Ref sig .tc := ⟨.hbm, 427, rfl⟩
abbrev main_call1_call3_call0_v111 : Ref sig .tc := ⟨.hbm, 428, rfl⟩
abbrev main_call1_call3_call0_c_27 : Ref sig .tc := ⟨.hbm, 429, rfl⟩
abbrev main_call1_call3_call0_v112 : Ref sig .tc := ⟨.hbm, 430, rfl⟩
abbrev main_call1_call3_call0_v113 : Ref sig .tc := ⟨.hbm, 431, rfl⟩
abbrev main_call1_call3_call0_c_28 : Ref sig .tc := ⟨.hbm, 432, rfl⟩
abbrev main_call1_call3_call0_v114 : Ref sig .tc := ⟨.hbm, 433, rfl⟩
abbrev main_call1_call3_call0_v115 : Ref sig .tc := ⟨.hbm, 434, rfl⟩
abbrev main_call1_call3_call0_v116 : Ref sig .tc := ⟨.hbm, 435, rfl⟩
abbrev main_call1_call3_call0_v117 : Ref sig .tc := ⟨.hbm, 436, rfl⟩
abbrev main_call1_call3_call0_v118 : Ref sig .tc := ⟨.hbm, 437, rfl⟩
abbrev main_call1_call3_call0_c_29 : Ref sig .tc := ⟨.hbm, 438, rfl⟩
abbrev main_call1_call3_call0_v119 : Ref sig .tc := ⟨.hbm, 439, rfl⟩
abbrev main_call1_call3_call0_v120 : Ref sig .tc := ⟨.hbm, 440, rfl⟩
abbrev main_call1_call3_call0_c_30 : Ref sig .tc := ⟨.hbm, 441, rfl⟩
abbrev main_call1_call3_call0_v121 : Ref sig .tc := ⟨.hbm, 442, rfl⟩
abbrev main_call1_call3_call0_v122 : Ref sig .tc := ⟨.hbm, 443, rfl⟩
abbrev main_call1_call3_call0_v123 : Ref sig .tc := ⟨.hbm, 444, rfl⟩
abbrev main_call1_call3_call0_v124 : Ref sig .tc := ⟨.hbm, 445, rfl⟩
abbrev main_call1_call3_call0_v125 : Ref sig .tc := ⟨.hbm, 446, rfl⟩
abbrev main_call1_call3_call0_c_31 : Ref sig .tc := ⟨.hbm, 447, rfl⟩
abbrev main_call1_call3_call0_v126 : Ref sig .tc := ⟨.hbm, 448, rfl⟩
abbrev main_call1_call3_call0_v127 : Ref sig .tc := ⟨.hbm, 449, rfl⟩
abbrev main_call1_call3_call0_c_32 : Ref sig .tc := ⟨.hbm, 450, rfl⟩
abbrev main_call1_call3_call0_v128 : Ref sig .tc := ⟨.hbm, 451, rfl⟩
abbrev main_call1_call3_call0_v129 : Ref sig .tc := ⟨.hbm, 452, rfl⟩
abbrev main_call1_call3_call0_v130 : Ref sig .tc := ⟨.hbm, 453, rfl⟩
abbrev main_call1_call3_call0_v131 : Ref sig .tc := ⟨.hbm, 454, rfl⟩
abbrev main_call1_call3_call0_v132 : Ref sig .tc := ⟨.hbm, 455, rfl⟩
abbrev main_call1_call3_call0_c_33 : Ref sig .tc := ⟨.hbm, 456, rfl⟩
abbrev main_call1_call3_call0_v133 : Ref sig .tc := ⟨.hbm, 457, rfl⟩
abbrev main_call1_call3_call0_v134 : Ref sig .tc := ⟨.hbm, 458, rfl⟩
abbrev main_call1_call3_call0_c_34 : Ref sig .tc := ⟨.hbm, 459, rfl⟩
abbrev main_call1_call3_call0_v135 : Ref sig .tc := ⟨.hbm, 460, rfl⟩
abbrev main_call1_call3_call0_v136 : Ref sig .tc := ⟨.hbm, 461, rfl⟩
abbrev main_call1_call3_call0_v137 : Ref sig .tc := ⟨.hbm, 462, rfl⟩
abbrev main_call1_call3_call0_v138 : Ref sig .tc := ⟨.hbm, 463, rfl⟩
abbrev main_call1_call3_call0_v139 : Ref sig .tc := ⟨.hbm, 464, rfl⟩
abbrev main_call1_call3_call0_v140 : Ref sig .tc := ⟨.hbm, 465, rfl⟩
abbrev main_call1_call3_call0_v141 : Ref sig .tc := ⟨.hbm, 466, rfl⟩
abbrev main_call1_call3_call0_v142 : Ref sig .tc := ⟨.hbm, 467, rfl⟩
abbrev main_call1_call3_call0_c_35 : Ref sig .tc := ⟨.hbm, 468, rfl⟩
abbrev main_call1_call3_call0_v143 : Ref sig .tc := ⟨.hbm, 469, rfl⟩
abbrev main_call1_call3_call0_v144 : Ref sig .tc := ⟨.hbm, 470, rfl⟩
abbrev main_call1_call3_call0_v145 : Ref sig .tc := ⟨.hbm, 471, rfl⟩
abbrev main_call1_call3_call0_c_36 : Ref sig .tc := ⟨.hbm, 472, rfl⟩
abbrev main_call1_call3_call0_v146 : Ref sig .tc := ⟨.hbm, 473, rfl⟩
abbrev main_call1_call3_call0_v147 : Ref sig .tc := ⟨.hbm, 474, rfl⟩
abbrev main_call1_call3_call0_c_37 : Ref sig .tc := ⟨.hbm, 475, rfl⟩
abbrev main_call1_call3_call0_v148 : Ref sig .tc := ⟨.hbm, 476, rfl⟩
abbrev main_call1_call3_call0_v149 : Ref sig .tc := ⟨.hbm, 477, rfl⟩
abbrev main_call1_call3_call0_v150 : Ref sig .tc := ⟨.hbm, 478, rfl⟩
abbrev main_call1_call3_call0_v151 : Ref sig .tc := ⟨.hbm, 479, rfl⟩
abbrev main_call1_call3_call0_v152 : Ref sig .tc := ⟨.hbm, 480, rfl⟩
abbrev main_call1_call3_call0_c_38 : Ref sig .tc := ⟨.hbm, 481, rfl⟩
abbrev main_call1_call3_call0_v153 : Ref sig .tc := ⟨.hbm, 482, rfl⟩
abbrev main_call1_call3_call0_v154 : Ref sig .tc := ⟨.hbm, 483, rfl⟩
abbrev main_call1_call3_call0_c_39 : Ref sig .tc := ⟨.hbm, 484, rfl⟩
abbrev main_call1_call3_call0_v155 : Ref sig .tc := ⟨.hbm, 485, rfl⟩
abbrev main_call1_call3_call0_v156 : Ref sig .tc := ⟨.hbm, 486, rfl⟩
abbrev main_call1_call3_call0_v157 : Ref sig .tc := ⟨.hbm, 487, rfl⟩
abbrev main_call1_call3_call0_v158 : Ref sig .tc := ⟨.hbm, 488, rfl⟩
abbrev main_call1_call3_call0_v159 : Ref sig .tc := ⟨.hbm, 489, rfl⟩
abbrev main_call1_call3_call0_c_40 : Ref sig .tc := ⟨.hbm, 490, rfl⟩
abbrev main_call1_call3_call0_v160 : Ref sig .tc := ⟨.hbm, 491, rfl⟩
abbrev main_call1_call3_call0_v161 : Ref sig .tc := ⟨.hbm, 492, rfl⟩
abbrev main_call1_call3_call0_c_41 : Ref sig .tc := ⟨.hbm, 493, rfl⟩
abbrev main_call1_call3_call0_v162 : Ref sig .tc := ⟨.hbm, 494, rfl⟩
abbrev main_call1_call3_call0_v163 : Ref sig .tc := ⟨.hbm, 495, rfl⟩
abbrev main_call1_call3_call0_v164 : Ref sig .tc := ⟨.hbm, 496, rfl⟩
abbrev main_call1_call3_call0_v165 : Ref sig .tc := ⟨.hbm, 497, rfl⟩
abbrev main_call1_call3_call0_v166 : Ref sig .tc := ⟨.hbm, 498, rfl⟩
abbrev main_call1_call3_call0_c_42 : Ref sig .tc := ⟨.hbm, 499, rfl⟩
abbrev main_call1_call3_call0_v167 : Ref sig .tc := ⟨.hbm, 500, rfl⟩
abbrev main_call1_call3_call0_v168 : Ref sig .tc := ⟨.hbm, 501, rfl⟩
abbrev main_call1_call3_call0_c_43 : Ref sig .tc := ⟨.hbm, 502, rfl⟩
abbrev main_call1_call3_call0_v169 : Ref sig .tc := ⟨.hbm, 503, rfl⟩
abbrev main_call1_call3_call0_v170 : Ref sig .tc := ⟨.hbm, 504, rfl⟩
abbrev main_call1_call3_call0_v171 : Ref sig .tc := ⟨.hbm, 505, rfl⟩
abbrev main_call1_call3_call0_v172 : Ref sig .tc := ⟨.hbm, 506, rfl⟩
abbrev main_call1_call3_call0_v173 : Ref sig .tc := ⟨.hbm, 507, rfl⟩
abbrev main_call1_call3_v15_0 : Ref sig .tc := ⟨.hbm, 508, rfl⟩
abbrev main_call1_call3_call0_v175 : Ref sig .tc := ⟨.hbm, 509, rfl⟩
abbrev main_call1_call3_call0_v176 : Ref sig .tc := ⟨.hbm, 510, rfl⟩
abbrev main_call1_call3_call0_c_44 : Ref sig .tc := ⟨.hbm, 511, rfl⟩
abbrev main_call1_call3_call0_v177 : Ref sig .tc := ⟨.hbm, 512, rfl⟩
abbrev main_call1_call3_v15_1 : Ref sig .tc := ⟨.hbm, 513, rfl⟩
abbrev main_call1_call3_v16 : Ref sig .tc := ⟨.hbm, 514, rfl⟩
abbrev main_call1_call3_v17 : Ref sig .tc := ⟨.hbm, 515, rfl⟩
abbrev main_call1_v8 : Ref sig .tc := ⟨.hbm, 516, rfl⟩
abbrev main_call1_v9 : Ref sig .tc := ⟨.hbm, 517, rfl⟩
abbrev main_call1_v10 : Ref sig .tc := ⟨.hbm, 518, rfl⟩
abbrev main_call1_v11 : Ref sig .tc := ⟨.hbm, 519, rfl⟩
abbrev main_call1_v12 : Ref sig .tc := ⟨.hbm, 520, rfl⟩
abbrev main_call1_v13 : Ref sig .tc := ⟨.hbm, 521, rfl⟩
abbrev main_call1_v14 : Ref sig .tc := ⟨.hbm, 522, rfl⟩
abbrev main_call1_v15 : Ref sig .tc := ⟨.hbm, 523, rfl⟩
abbrev main_call1_v16 : Ref sig .tc := ⟨.hbm, 524, rfl⟩
abbrev main_call1_v17 : Ref sig .tc := ⟨.hbm, 525, rfl⟩
abbrev main_call1_c_6 : Ref sig .tc := ⟨.hbm, 526, rfl⟩
abbrev main_call1_v18 : Ref sig .tc := ⟨.hbm, 527, rfl⟩
abbrev main_call1_v19 : Ref sig .tc := ⟨.hbm, 528, rfl⟩
abbrev main_call1_c_7 : Ref sig .tc := ⟨.hbm, 529, rfl⟩
abbrev main_call1_v20 : Ref sig .tc := ⟨.hbm, 530, rfl⟩
abbrev main_call1_v21 : Ref sig .tc := ⟨.hbm, 531, rfl⟩
abbrev main_call1_v22 : Ref sig .tc := ⟨.hbm, 532, rfl⟩
abbrev main_call1_v23 : Ref sig .tc := ⟨.hbm, 533, rfl⟩
abbrev main_call1_v24 : Ref sig .tc := ⟨.hbm, 534, rfl⟩
abbrev main_call1_v25 : Ref sig .tc := ⟨.hbm, 535, rfl⟩
abbrev main_call1_v26 : Ref sig .tc := ⟨.hbm, 536, rfl⟩
abbrev main_call1_v27 : Ref sig .tc := ⟨.hbm, 537, rfl⟩
abbrev main_call1_call4_v0 : Ref sig .tc := ⟨.hbm, 538, rfl⟩
abbrev main_call1_call4_c : Ref sig .tc := ⟨.hbm, 539, rfl⟩
abbrev main_call1_call4_v1 : Ref sig .tc := ⟨.hbm, 540, rfl⟩
abbrev main_call1_call4_v2 : Ref sig .tc := ⟨.hbm, 541, rfl⟩
abbrev main_call1_call4_v3 : Ref sig .tc := ⟨.hbm, 542, rfl⟩
abbrev main_call1_call4_v4 : Ref sig .tc := ⟨.hbm, 543, rfl⟩
abbrev main_call1_call4_v5 : Ref sig .tc := ⟨.hbm, 544, rfl⟩
abbrev main_call1_call4_v6 : Ref sig .tc := ⟨.hbm, 545, rfl⟩
abbrev main_call1_call4_v7 : Ref sig .tc := ⟨.hbm, 546, rfl⟩
abbrev main_call1_call4_v8 : Ref sig .tc := ⟨.hbm, 547, rfl⟩
abbrev main_call1_call4_v9 : Ref sig .tc := ⟨.hbm, 548, rfl⟩
abbrev main_call1_call4_c_0 : Ref sig .tc := ⟨.hbm, 549, rfl⟩
abbrev main_call1_call4_v10 : Ref sig .tc := ⟨.hbm, 550, rfl⟩
abbrev main_call1_call4_v11 : Ref sig .tc := ⟨.hbm, 551, rfl⟩
abbrev main_call1_call4_c_1 : Ref sig .tc := ⟨.hbm, 552, rfl⟩
abbrev main_call1_call4_v12 : Ref sig .tc := ⟨.hbm, 553, rfl⟩
abbrev main_call1_call4_v13 : Ref sig .tc := ⟨.hbm, 554, rfl⟩
abbrev main_call1_call4_v14 : Ref sig .tc := ⟨.hbm, 555, rfl⟩
abbrev main_call1_call4_v15 : Ref sig .tc := ⟨.hbm, 556, rfl⟩
abbrev main_call1_call4_v16 : Ref sig .tc := ⟨.hbm, 557, rfl⟩
abbrev main_call1_call4_c_2 : Ref sig .tc := ⟨.hbm, 558, rfl⟩
abbrev main_call1_call4_v17 : Ref sig .tc := ⟨.hbm, 559, rfl⟩
abbrev main_call1_call4_v18 : Ref sig .tc := ⟨.hbm, 560, rfl⟩
abbrev main_call1_call4_c_3 : Ref sig .tc := ⟨.hbm, 561, rfl⟩
abbrev main_call1_call4_v19 : Ref sig .tc := ⟨.hbm, 562, rfl⟩
abbrev main_call1_call4_v20 : Ref sig .tc := ⟨.hbm, 563, rfl⟩
abbrev main_call1_call4_v21 : Ref sig .tc := ⟨.hbm, 564, rfl⟩
abbrev main_call1_call4_v22 : Ref sig .tc := ⟨.hbm, 565, rfl⟩
abbrev main_call1_call4_v23 : Ref sig .tc := ⟨.hbm, 566, rfl⟩
abbrev main_call1_call4_c_4 : Ref sig .tc := ⟨.hbm, 567, rfl⟩
abbrev main_call1_call4_v24 : Ref sig .tc := ⟨.hbm, 568, rfl⟩
abbrev main_call1_call4_v25 : Ref sig .tc := ⟨.hbm, 569, rfl⟩
abbrev main_call1_call4_c_5 : Ref sig .tc := ⟨.hbm, 570, rfl⟩
abbrev main_call1_call4_v26 : Ref sig .tc := ⟨.hbm, 571, rfl⟩
abbrev main_call1_call4_v27 : Ref sig .tc := ⟨.hbm, 572, rfl⟩
abbrev main_call1_call4_v28 : Ref sig .tc := ⟨.hbm, 573, rfl⟩
abbrev main_call1_call4_v29 : Ref sig .tc := ⟨.hbm, 574, rfl⟩
abbrev main_call1_call4_v30 : Ref sig .tc := ⟨.hbm, 575, rfl⟩
abbrev main_call1_call4_c_6 : Ref sig .tc := ⟨.hbm, 576, rfl⟩
abbrev main_call1_call4_v31 : Ref sig .tc := ⟨.hbm, 577, rfl⟩
abbrev main_call1_call4_v32 : Ref sig .tc := ⟨.hbm, 578, rfl⟩
abbrev main_call1_call4_c_7 : Ref sig .tc := ⟨.hbm, 579, rfl⟩
abbrev main_call1_call4_v33 : Ref sig .tc := ⟨.hbm, 580, rfl⟩
abbrev main_call1_call4_v34 : Ref sig .tc := ⟨.hbm, 581, rfl⟩
abbrev main_call1_call4_v35 : Ref sig .tc := ⟨.hbm, 582, rfl⟩
abbrev main_call1_call4_v36 : Ref sig .tc := ⟨.hbm, 583, rfl⟩
abbrev main_call1_call4_v37 : Ref sig .tc := ⟨.hbm, 584, rfl⟩
abbrev main_call1_call4_v38 : Ref sig .tc := ⟨.hbm, 585, rfl⟩
abbrev main_call1_call4_v39 : Ref sig .tc := ⟨.hbm, 586, rfl⟩
abbrev main_call1_call4_v40 : Ref sig .tc := ⟨.hbm, 587, rfl⟩
abbrev main_call1_call4_c_8 : Ref sig .tc := ⟨.hbm, 588, rfl⟩
abbrev main_call1_call4_v41 : Ref sig .tc := ⟨.hbm, 589, rfl⟩
abbrev main_call1_call4_v42 : Ref sig .tc := ⟨.hbm, 590, rfl⟩
abbrev main_call1_call4_v43 : Ref sig .tc := ⟨.hbm, 591, rfl⟩
abbrev main_call1_call4_c_9 : Ref sig .tc := ⟨.hbm, 592, rfl⟩
abbrev main_call1_call4_v44 : Ref sig .tc := ⟨.hbm, 593, rfl⟩
abbrev main_call1_call4_v45 : Ref sig .tc := ⟨.hbm, 594, rfl⟩
abbrev main_call1_call4_c_10 : Ref sig .tc := ⟨.hbm, 595, rfl⟩
abbrev main_call1_call4_v46 : Ref sig .tc := ⟨.hbm, 596, rfl⟩
abbrev main_call1_call4_v47 : Ref sig .tc := ⟨.hbm, 597, rfl⟩
abbrev main_call1_call4_v48 : Ref sig .tc := ⟨.hbm, 598, rfl⟩
abbrev main_call1_call4_v49 : Ref sig .tc := ⟨.hbm, 599, rfl⟩
abbrev main_call1_call4_v50 : Ref sig .tc := ⟨.hbm, 600, rfl⟩
abbrev main_call1_call4_c_11 : Ref sig .tc := ⟨.hbm, 601, rfl⟩
abbrev main_call1_call4_v51 : Ref sig .tc := ⟨.hbm, 602, rfl⟩
abbrev main_call1_call4_v52 : Ref sig .tc := ⟨.hbm, 603, rfl⟩
abbrev main_call1_call4_c_12 : Ref sig .tc := ⟨.hbm, 604, rfl⟩
abbrev main_call1_call4_v53 : Ref sig .tc := ⟨.hbm, 605, rfl⟩
abbrev main_call1_call4_v54 : Ref sig .tc := ⟨.hbm, 606, rfl⟩
abbrev main_call1_call4_v55 : Ref sig .tc := ⟨.hbm, 607, rfl⟩
abbrev main_call1_call4_v56 : Ref sig .tc := ⟨.hbm, 608, rfl⟩
abbrev main_call1_call4_v57 : Ref sig .tc := ⟨.hbm, 609, rfl⟩
abbrev main_call1_call4_c_13 : Ref sig .tc := ⟨.hbm, 610, rfl⟩
abbrev main_call1_call4_v58 : Ref sig .tc := ⟨.hbm, 611, rfl⟩
abbrev main_call1_call4_v59 : Ref sig .tc := ⟨.hbm, 612, rfl⟩
abbrev main_call1_call4_c_14 : Ref sig .tc := ⟨.hbm, 613, rfl⟩
abbrev main_call1_call4_v60 : Ref sig .tc := ⟨.hbm, 614, rfl⟩
abbrev main_call1_call4_v61 : Ref sig .tc := ⟨.hbm, 615, rfl⟩
abbrev main_call1_call4_v62 : Ref sig .tc := ⟨.hbm, 616, rfl⟩
abbrev main_call1_call4_v63 : Ref sig .tc := ⟨.hbm, 617, rfl⟩
abbrev main_call1_call4_v64 : Ref sig .tc := ⟨.hbm, 618, rfl⟩
abbrev main_call1_call4_c_15 : Ref sig .tc := ⟨.hbm, 619, rfl⟩
abbrev main_call1_call4_v65 : Ref sig .tc := ⟨.hbm, 620, rfl⟩
abbrev main_call1_call4_v66 : Ref sig .tc := ⟨.hbm, 621, rfl⟩
abbrev main_call1_call4_c_16 : Ref sig .tc := ⟨.hbm, 622, rfl⟩
abbrev main_call1_call4_v67 : Ref sig .tc := ⟨.hbm, 623, rfl⟩
abbrev main_call1_call4_v68 : Ref sig .tc := ⟨.hbm, 624, rfl⟩
abbrev main_call1_call4_v69 : Ref sig .tc := ⟨.hbm, 625, rfl⟩
abbrev main_call1_call4_v70 : Ref sig .tc := ⟨.hbm, 626, rfl⟩
abbrev main_call1_call4_v71 : Ref sig .tc := ⟨.hbm, 627, rfl⟩
abbrev main_call1_call4_v72 : Ref sig .tc := ⟨.hbm, 628, rfl⟩
abbrev main_call1_call4_v73 : Ref sig .tc := ⟨.hbm, 629, rfl⟩
abbrev main_call1_call4_v74 : Ref sig .tc := ⟨.hbm, 630, rfl⟩
abbrev main_call1_call4_c_17 : Ref sig .tc := ⟨.hbm, 631, rfl⟩
abbrev main_call1_call4_v75 : Ref sig .tc := ⟨.hbm, 632, rfl⟩
abbrev main_call1_call4_v76 : Ref sig .tc := ⟨.hbm, 633, rfl⟩
abbrev main_call1_call4_v77 : Ref sig .tc := ⟨.hbm, 634, rfl⟩
abbrev main_call1_call4_c_18 : Ref sig .tc := ⟨.hbm, 635, rfl⟩
abbrev main_call1_call4_v78 : Ref sig .tc := ⟨.hbm, 636, rfl⟩
abbrev main_call1_call4_v79 : Ref sig .tc := ⟨.hbm, 637, rfl⟩
abbrev main_call1_call4_c_19 : Ref sig .tc := ⟨.hbm, 638, rfl⟩
abbrev main_call1_call4_v80 : Ref sig .tc := ⟨.hbm, 639, rfl⟩
abbrev main_call1_call4_v81 : Ref sig .tc := ⟨.hbm, 640, rfl⟩
abbrev main_call1_call4_v82 : Ref sig .tc := ⟨.hbm, 641, rfl⟩
abbrev main_call1_call4_v83 : Ref sig .tc := ⟨.hbm, 642, rfl⟩
abbrev main_call1_call4_v84 : Ref sig .tc := ⟨.hbm, 643, rfl⟩
abbrev main_call1_call4_c_20 : Ref sig .tc := ⟨.hbm, 644, rfl⟩
abbrev main_call1_call4_v85 : Ref sig .tc := ⟨.hbm, 645, rfl⟩
abbrev main_call1_call4_v86 : Ref sig .tc := ⟨.hbm, 646, rfl⟩
abbrev main_call1_call4_c_21 : Ref sig .tc := ⟨.hbm, 647, rfl⟩
abbrev main_call1_call4_v87 : Ref sig .tc := ⟨.hbm, 648, rfl⟩
abbrev main_call1_call4_v88 : Ref sig .tc := ⟨.hbm, 649, rfl⟩
abbrev main_call1_call4_v89 : Ref sig .tc := ⟨.hbm, 650, rfl⟩
abbrev main_call1_call4_v90 : Ref sig .tc := ⟨.hbm, 651, rfl⟩
abbrev main_call1_call4_v91 : Ref sig .tc := ⟨.hbm, 652, rfl⟩
abbrev main_call1_call4_c_22 : Ref sig .tc := ⟨.hbm, 653, rfl⟩
abbrev main_call1_call4_v92 : Ref sig .tc := ⟨.hbm, 654, rfl⟩
abbrev main_call1_call4_v93 : Ref sig .tc := ⟨.hbm, 655, rfl⟩
abbrev main_call1_call4_c_23 : Ref sig .tc := ⟨.hbm, 656, rfl⟩
abbrev main_call1_call4_v94 : Ref sig .tc := ⟨.hbm, 657, rfl⟩
abbrev main_call1_call4_v95 : Ref sig .tc := ⟨.hbm, 658, rfl⟩
abbrev main_call1_call4_v96 : Ref sig .tc := ⟨.hbm, 659, rfl⟩
abbrev main_call1_call4_v97 : Ref sig .tc := ⟨.hbm, 660, rfl⟩
abbrev main_call1_call4_v98 : Ref sig .tc := ⟨.hbm, 661, rfl⟩
abbrev main_call1_call4_c_24 : Ref sig .tc := ⟨.hbm, 662, rfl⟩
abbrev main_call1_call4_v99 : Ref sig .tc := ⟨.hbm, 663, rfl⟩
abbrev main_call1_call4_v100 : Ref sig .tc := ⟨.hbm, 664, rfl⟩
abbrev main_call1_call4_c_25 : Ref sig .tc := ⟨.hbm, 665, rfl⟩
abbrev main_call1_call4_v101 : Ref sig .tc := ⟨.hbm, 666, rfl⟩
abbrev main_call1_call4_v102 : Ref sig .tc := ⟨.hbm, 667, rfl⟩
abbrev main_call1_call4_v103 : Ref sig .tc := ⟨.hbm, 668, rfl⟩
abbrev main_call1_call4_v104 : Ref sig .tc := ⟨.hbm, 669, rfl⟩
abbrev main_call1_call4_v105 : Ref sig .tc := ⟨.hbm, 670, rfl⟩
abbrev main_call1_call4_v106 : Ref sig .tc := ⟨.hbm, 671, rfl⟩
abbrev main_call1_call4_v107 : Ref sig .tc := ⟨.hbm, 672, rfl⟩
abbrev main_call1_call4_v108 : Ref sig .tc := ⟨.hbm, 673, rfl⟩
abbrev main_call1_call4_c_26 : Ref sig .tc := ⟨.hbm, 674, rfl⟩
abbrev main_call1_call4_v109 : Ref sig .tc := ⟨.hbm, 675, rfl⟩
abbrev main_call1_call4_v110 : Ref sig .tc := ⟨.hbm, 676, rfl⟩
abbrev main_call1_call4_v111 : Ref sig .tc := ⟨.hbm, 677, rfl⟩
abbrev main_call1_call4_c_27 : Ref sig .tc := ⟨.hbm, 678, rfl⟩
abbrev main_call1_call4_v112 : Ref sig .tc := ⟨.hbm, 679, rfl⟩
abbrev main_call1_call4_v113 : Ref sig .tc := ⟨.hbm, 680, rfl⟩
abbrev main_call1_call4_c_28 : Ref sig .tc := ⟨.hbm, 681, rfl⟩
abbrev main_call1_call4_v114 : Ref sig .tc := ⟨.hbm, 682, rfl⟩
abbrev main_call1_call4_v115 : Ref sig .tc := ⟨.hbm, 683, rfl⟩
abbrev main_call1_call4_v116 : Ref sig .tc := ⟨.hbm, 684, rfl⟩
abbrev main_call1_call4_v117 : Ref sig .tc := ⟨.hbm, 685, rfl⟩
abbrev main_call1_call4_v118 : Ref sig .tc := ⟨.hbm, 686, rfl⟩
abbrev main_call1_call4_c_29 : Ref sig .tc := ⟨.hbm, 687, rfl⟩
abbrev main_call1_call4_v119 : Ref sig .tc := ⟨.hbm, 688, rfl⟩
abbrev main_call1_call4_v120 : Ref sig .tc := ⟨.hbm, 689, rfl⟩
abbrev main_call1_call4_c_30 : Ref sig .tc := ⟨.hbm, 690, rfl⟩
abbrev main_call1_call4_v121 : Ref sig .tc := ⟨.hbm, 691, rfl⟩
abbrev main_call1_call4_v122 : Ref sig .tc := ⟨.hbm, 692, rfl⟩
abbrev main_call1_call4_v123 : Ref sig .tc := ⟨.hbm, 693, rfl⟩
abbrev main_call1_call4_v124 : Ref sig .tc := ⟨.hbm, 694, rfl⟩
abbrev main_call1_call4_v125 : Ref sig .tc := ⟨.hbm, 695, rfl⟩
abbrev main_call1_call4_c_31 : Ref sig .tc := ⟨.hbm, 696, rfl⟩
abbrev main_call1_call4_v126 : Ref sig .tc := ⟨.hbm, 697, rfl⟩
abbrev main_call1_call4_v127 : Ref sig .tc := ⟨.hbm, 698, rfl⟩
abbrev main_call1_call4_c_32 : Ref sig .tc := ⟨.hbm, 699, rfl⟩
abbrev main_call1_call4_v128 : Ref sig .tc := ⟨.hbm, 700, rfl⟩
abbrev main_call1_call4_v129 : Ref sig .tc := ⟨.hbm, 701, rfl⟩
abbrev main_call1_call4_v130 : Ref sig .tc := ⟨.hbm, 702, rfl⟩
abbrev main_call1_call4_v131 : Ref sig .tc := ⟨.hbm, 703, rfl⟩
abbrev main_call1_call4_v132 : Ref sig .tc := ⟨.hbm, 704, rfl⟩
abbrev main_call1_call4_c_33 : Ref sig .tc := ⟨.hbm, 705, rfl⟩
abbrev main_call1_call4_v133 : Ref sig .tc := ⟨.hbm, 706, rfl⟩
abbrev main_call1_call4_v134 : Ref sig .tc := ⟨.hbm, 707, rfl⟩
abbrev main_call1_call4_c_34 : Ref sig .tc := ⟨.hbm, 708, rfl⟩
abbrev main_call1_call4_v135 : Ref sig .tc := ⟨.hbm, 709, rfl⟩
abbrev main_call1_call4_v136 : Ref sig .tc := ⟨.hbm, 710, rfl⟩
abbrev main_call1_call4_v137 : Ref sig .tc := ⟨.hbm, 711, rfl⟩
abbrev main_call1_call4_v138 : Ref sig .tc := ⟨.hbm, 712, rfl⟩
abbrev main_call1_call4_v139 : Ref sig .tc := ⟨.hbm, 713, rfl⟩
abbrev main_call1_call4_v140 : Ref sig .tc := ⟨.hbm, 714, rfl⟩
abbrev main_call1_call4_v141 : Ref sig .tc := ⟨.hbm, 715, rfl⟩
abbrev main_call1_call4_v142 : Ref sig .tc := ⟨.hbm, 716, rfl⟩
abbrev main_call1_call4_c_35 : Ref sig .tc := ⟨.hbm, 717, rfl⟩
abbrev main_call1_call4_v143 : Ref sig .tc := ⟨.hbm, 718, rfl⟩
abbrev main_call1_call4_v144 : Ref sig .tc := ⟨.hbm, 719, rfl⟩
abbrev main_call1_call4_v145 : Ref sig .tc := ⟨.hbm, 720, rfl⟩
abbrev main_call1_call4_c_36 : Ref sig .tc := ⟨.hbm, 721, rfl⟩
abbrev main_call1_call4_v146 : Ref sig .tc := ⟨.hbm, 722, rfl⟩
abbrev main_call1_call4_v147 : Ref sig .tc := ⟨.hbm, 723, rfl⟩
abbrev main_call1_call4_c_37 : Ref sig .tc := ⟨.hbm, 724, rfl⟩
abbrev main_call1_call4_v148 : Ref sig .tc := ⟨.hbm, 725, rfl⟩
abbrev main_call1_call4_v149 : Ref sig .tc := ⟨.hbm, 726, rfl⟩
abbrev main_call1_call4_v150 : Ref sig .tc := ⟨.hbm, 727, rfl⟩
abbrev main_call1_call4_v151 : Ref sig .tc := ⟨.hbm, 728, rfl⟩
abbrev main_call1_call4_v152 : Ref sig .tc := ⟨.hbm, 729, rfl⟩
abbrev main_call1_call4_c_38 : Ref sig .tc := ⟨.hbm, 730, rfl⟩
abbrev main_call1_call4_v153 : Ref sig .tc := ⟨.hbm, 731, rfl⟩
abbrev main_call1_call4_v154 : Ref sig .tc := ⟨.hbm, 732, rfl⟩
abbrev main_call1_call4_c_39 : Ref sig .tc := ⟨.hbm, 733, rfl⟩
abbrev main_call1_call4_v155 : Ref sig .tc := ⟨.hbm, 734, rfl⟩
abbrev main_call1_call4_v156 : Ref sig .tc := ⟨.hbm, 735, rfl⟩
abbrev main_call1_call4_v157 : Ref sig .tc := ⟨.hbm, 736, rfl⟩
abbrev main_call1_call4_v158 : Ref sig .tc := ⟨.hbm, 737, rfl⟩
abbrev main_call1_call4_v159 : Ref sig .tc := ⟨.hbm, 738, rfl⟩
abbrev main_call1_call4_c_40 : Ref sig .tc := ⟨.hbm, 739, rfl⟩
abbrev main_call1_call4_v160 : Ref sig .tc := ⟨.hbm, 740, rfl⟩
abbrev main_call1_call4_v161 : Ref sig .tc := ⟨.hbm, 741, rfl⟩
abbrev main_call1_call4_c_41 : Ref sig .tc := ⟨.hbm, 742, rfl⟩
abbrev main_call1_call4_v162 : Ref sig .tc := ⟨.hbm, 743, rfl⟩
abbrev main_call1_call4_v163 : Ref sig .tc := ⟨.hbm, 744, rfl⟩
abbrev main_call1_call4_v164 : Ref sig .tc := ⟨.hbm, 745, rfl⟩
abbrev main_call1_call4_v165 : Ref sig .tc := ⟨.hbm, 746, rfl⟩
abbrev main_call1_call4_v166 : Ref sig .tc := ⟨.hbm, 747, rfl⟩
abbrev main_call1_call4_c_42 : Ref sig .tc := ⟨.hbm, 748, rfl⟩
abbrev main_call1_call4_v167 : Ref sig .tc := ⟨.hbm, 749, rfl⟩
abbrev main_call1_call4_v168 : Ref sig .tc := ⟨.hbm, 750, rfl⟩
abbrev main_call1_call4_c_43 : Ref sig .tc := ⟨.hbm, 751, rfl⟩
abbrev main_call1_call4_v169 : Ref sig .tc := ⟨.hbm, 752, rfl⟩
abbrev main_call1_call4_v170 : Ref sig .tc := ⟨.hbm, 753, rfl⟩
abbrev main_call1_call4_v171 : Ref sig .tc := ⟨.hbm, 754, rfl⟩
abbrev main_call1_call4_v172 : Ref sig .tc := ⟨.hbm, 755, rfl⟩
abbrev main_call1_call4_v173 : Ref sig .tc := ⟨.hbm, 756, rfl⟩
abbrev main_call1_v28_0 : Ref sig .tc := ⟨.hbm, 757, rfl⟩
abbrev main_call1_call4_v175 : Ref sig .tc := ⟨.hbm, 758, rfl⟩
abbrev main_call1_call4_v176 : Ref sig .tc := ⟨.hbm, 759, rfl⟩
abbrev main_call1_call4_c_44 : Ref sig .tc := ⟨.hbm, 760, rfl⟩
abbrev main_call1_call4_v177 : Ref sig .tc := ⟨.hbm, 761, rfl⟩
abbrev main_call1_v28_1 : Ref sig .tc := ⟨.hbm, 762, rfl⟩
abbrev main_call1_v29 : Ref sig .tc := ⟨.hbm, 763, rfl⟩
abbrev main_call1_v30 : Ref sig .tc := ⟨.hbm, 764, rfl⟩
abbrev main_call1_v31 : Ref sig .tc := ⟨.hbm, 765, rfl⟩
abbrev main_call1_v32 : Ref sig .tc := ⟨.hbm, 766, rfl⟩
abbrev main_call1_v33 : Ref sig .tc := ⟨.hbm, 767, rfl⟩
abbrev main_call1_v34 : Ref sig .tc := ⟨.hbm, 768, rfl⟩
abbrev main_call1_c_8 : Ref sig .tc := ⟨.hbm, 769, rfl⟩
abbrev main_call1_v35 : Ref sig .tc := ⟨.hbm, 770, rfl⟩
abbrev main_call1_v36 : Ref sig .tc := ⟨.hbm, 771, rfl⟩
abbrev main_call1_c_9 : Ref sig .tc := ⟨.hbm, 772, rfl⟩
abbrev main_call1_v37 : Ref sig .tc := ⟨.hbm, 773, rfl⟩
abbrev main_call1_v38 : Ref sig .tc := ⟨.hbm, 774, rfl⟩
abbrev main_call1_v39 : Ref sig .tc := ⟨.hbm, 775, rfl⟩
abbrev main_call1_v40 : Ref sig .tc := ⟨.hbm, 776, rfl⟩
abbrev main_call1_v41 : Ref sig .tc := ⟨.hbm, 777, rfl⟩
abbrev main_call1_v42 : Ref sig .tc := ⟨.hbm, 778, rfl⟩
abbrev main_call1_v43 : Ref sig .tc := ⟨.hbm, 779, rfl⟩
abbrev main_call1_v44 : Ref sig .tc := ⟨.hbm, 780, rfl⟩
abbrev main_call1_call5_v0 : Ref sig .tc := ⟨.hbm, 781, rfl⟩
abbrev main_call1_call5_c : Ref sig .tc := ⟨.hbm, 782, rfl⟩
abbrev main_call1_call5_v1 : Ref sig .tc := ⟨.hbm, 783, rfl⟩
abbrev main_call1_call5_v2 : Ref sig .tc := ⟨.hbm, 784, rfl⟩
abbrev main_call1_call5_v3 : Ref sig .tc := ⟨.hbm, 785, rfl⟩
abbrev main_call1_call5_v4 : Ref sig .tc := ⟨.hbm, 786, rfl⟩
abbrev main_call1_call5_v5 : Ref sig .tc := ⟨.hbm, 787, rfl⟩
abbrev main_call1_call5_v6 : Ref sig .tc := ⟨.hbm, 788, rfl⟩
abbrev main_call1_call5_v7 : Ref sig .tc := ⟨.hbm, 789, rfl⟩
abbrev main_call1_call5_v8 : Ref sig .tc := ⟨.hbm, 790, rfl⟩
abbrev main_call1_call5_v9 : Ref sig .tc := ⟨.hbm, 791, rfl⟩
abbrev main_call1_call5_c_0 : Ref sig .tc := ⟨.hbm, 792, rfl⟩
abbrev main_call1_call5_v10 : Ref sig .tc := ⟨.hbm, 793, rfl⟩
abbrev main_call1_call5_v11 : Ref sig .tc := ⟨.hbm, 794, rfl⟩
abbrev main_call1_call5_c_1 : Ref sig .tc := ⟨.hbm, 795, rfl⟩
abbrev main_call1_call5_v12 : Ref sig .tc := ⟨.hbm, 796, rfl⟩
abbrev main_call1_call5_v13 : Ref sig .tc := ⟨.hbm, 797, rfl⟩
abbrev main_call1_call5_v14 : Ref sig .tc := ⟨.hbm, 798, rfl⟩
abbrev main_call1_call5_v15 : Ref sig .tc := ⟨.hbm, 799, rfl⟩
abbrev main_call1_call5_v16 : Ref sig .tc := ⟨.hbm, 800, rfl⟩
abbrev main_call1_call5_c_2 : Ref sig .tc := ⟨.hbm, 801, rfl⟩
abbrev main_call1_call5_v17 : Ref sig .tc := ⟨.hbm, 802, rfl⟩
abbrev main_call1_call5_v18 : Ref sig .tc := ⟨.hbm, 803, rfl⟩
abbrev main_call1_call5_c_3 : Ref sig .tc := ⟨.hbm, 804, rfl⟩
abbrev main_call1_call5_v19 : Ref sig .tc := ⟨.hbm, 805, rfl⟩
abbrev main_call1_call5_v20 : Ref sig .tc := ⟨.hbm, 806, rfl⟩
abbrev main_call1_call5_v21 : Ref sig .tc := ⟨.hbm, 807, rfl⟩
abbrev main_call1_call5_v22 : Ref sig .tc := ⟨.hbm, 808, rfl⟩
abbrev main_call1_call5_v23 : Ref sig .tc := ⟨.hbm, 809, rfl⟩
abbrev main_call1_call5_c_4 : Ref sig .tc := ⟨.hbm, 810, rfl⟩
abbrev main_call1_call5_v24 : Ref sig .tc := ⟨.hbm, 811, rfl⟩
abbrev main_call1_call5_v25 : Ref sig .tc := ⟨.hbm, 812, rfl⟩
abbrev main_call1_call5_c_5 : Ref sig .tc := ⟨.hbm, 813, rfl⟩
abbrev main_call1_call5_v26 : Ref sig .tc := ⟨.hbm, 814, rfl⟩
abbrev main_call1_call5_v27 : Ref sig .tc := ⟨.hbm, 815, rfl⟩
abbrev main_call1_call5_v28 : Ref sig .tc := ⟨.hbm, 816, rfl⟩
abbrev main_call1_call5_v29 : Ref sig .tc := ⟨.hbm, 817, rfl⟩
abbrev main_call1_call5_v30 : Ref sig .tc := ⟨.hbm, 818, rfl⟩
abbrev main_call1_call5_c_6 : Ref sig .tc := ⟨.hbm, 819, rfl⟩
abbrev main_call1_call5_v31 : Ref sig .tc := ⟨.hbm, 820, rfl⟩
abbrev main_call1_call5_v32 : Ref sig .tc := ⟨.hbm, 821, rfl⟩
abbrev main_call1_call5_c_7 : Ref sig .tc := ⟨.hbm, 822, rfl⟩
abbrev main_call1_call5_v33 : Ref sig .tc := ⟨.hbm, 823, rfl⟩
abbrev main_call1_call5_v34 : Ref sig .tc := ⟨.hbm, 824, rfl⟩
abbrev main_call1_call5_v35 : Ref sig .tc := ⟨.hbm, 825, rfl⟩
abbrev main_call1_call5_v36 : Ref sig .tc := ⟨.hbm, 826, rfl⟩
abbrev main_call1_call5_v37 : Ref sig .tc := ⟨.hbm, 827, rfl⟩
abbrev main_call1_call5_v38 : Ref sig .tc := ⟨.hbm, 828, rfl⟩
abbrev main_call1_call5_v39 : Ref sig .tc := ⟨.hbm, 829, rfl⟩
abbrev main_call1_call5_v40 : Ref sig .tc := ⟨.hbm, 830, rfl⟩
abbrev main_call1_call5_c_8 : Ref sig .tc := ⟨.hbm, 831, rfl⟩
abbrev main_call1_call5_v41 : Ref sig .tc := ⟨.hbm, 832, rfl⟩
abbrev main_call1_call5_v42 : Ref sig .tc := ⟨.hbm, 833, rfl⟩
abbrev main_call1_call5_v43 : Ref sig .tc := ⟨.hbm, 834, rfl⟩
abbrev main_call1_call5_c_9 : Ref sig .tc := ⟨.hbm, 835, rfl⟩
abbrev main_call1_call5_v44 : Ref sig .tc := ⟨.hbm, 836, rfl⟩
abbrev main_call1_call5_v45 : Ref sig .tc := ⟨.hbm, 837, rfl⟩
abbrev main_call1_call5_c_10 : Ref sig .tc := ⟨.hbm, 838, rfl⟩
abbrev main_call1_call5_v46 : Ref sig .tc := ⟨.hbm, 839, rfl⟩
abbrev main_call1_call5_v47 : Ref sig .tc := ⟨.hbm, 840, rfl⟩
abbrev main_call1_call5_v48 : Ref sig .tc := ⟨.hbm, 841, rfl⟩
abbrev main_call1_call5_v49 : Ref sig .tc := ⟨.hbm, 842, rfl⟩
abbrev main_call1_call5_v50 : Ref sig .tc := ⟨.hbm, 843, rfl⟩
abbrev main_call1_call5_c_11 : Ref sig .tc := ⟨.hbm, 844, rfl⟩
abbrev main_call1_call5_v51 : Ref sig .tc := ⟨.hbm, 845, rfl⟩
abbrev main_call1_call5_v52 : Ref sig .tc := ⟨.hbm, 846, rfl⟩
abbrev main_call1_call5_c_12 : Ref sig .tc := ⟨.hbm, 847, rfl⟩
abbrev main_call1_call5_v53 : Ref sig .tc := ⟨.hbm, 848, rfl⟩
abbrev main_call1_call5_v54 : Ref sig .tc := ⟨.hbm, 849, rfl⟩
abbrev main_call1_call5_v55 : Ref sig .tc := ⟨.hbm, 850, rfl⟩
abbrev main_call1_call5_v56 : Ref sig .tc := ⟨.hbm, 851, rfl⟩
abbrev main_call1_call5_v57 : Ref sig .tc := ⟨.hbm, 852, rfl⟩
abbrev main_call1_call5_c_13 : Ref sig .tc := ⟨.hbm, 853, rfl⟩
abbrev main_call1_call5_v58 : Ref sig .tc := ⟨.hbm, 854, rfl⟩
abbrev main_call1_call5_v59 : Ref sig .tc := ⟨.hbm, 855, rfl⟩
abbrev main_call1_call5_c_14 : Ref sig .tc := ⟨.hbm, 856, rfl⟩
abbrev main_call1_call5_v60 : Ref sig .tc := ⟨.hbm, 857, rfl⟩
abbrev main_call1_call5_v61 : Ref sig .tc := ⟨.hbm, 858, rfl⟩
abbrev main_call1_call5_v62 : Ref sig .tc := ⟨.hbm, 859, rfl⟩
abbrev main_call1_call5_v63 : Ref sig .tc := ⟨.hbm, 860, rfl⟩
abbrev main_call1_call5_v64 : Ref sig .tc := ⟨.hbm, 861, rfl⟩
abbrev main_call1_call5_c_15 : Ref sig .tc := ⟨.hbm, 862, rfl⟩
abbrev main_call1_call5_v65 : Ref sig .tc := ⟨.hbm, 863, rfl⟩
abbrev main_call1_call5_v66 : Ref sig .tc := ⟨.hbm, 864, rfl⟩
abbrev main_call1_call5_c_16 : Ref sig .tc := ⟨.hbm, 865, rfl⟩
abbrev main_call1_call5_v67 : Ref sig .tc := ⟨.hbm, 866, rfl⟩
abbrev main_call1_call5_v68 : Ref sig .tc := ⟨.hbm, 867, rfl⟩
abbrev main_call1_call5_v69 : Ref sig .tc := ⟨.hbm, 868, rfl⟩
abbrev main_call1_call5_v70 : Ref sig .tc := ⟨.hbm, 869, rfl⟩
abbrev main_call1_call5_v71 : Ref sig .tc := ⟨.hbm, 870, rfl⟩
abbrev main_call1_call5_v72 : Ref sig .tc := ⟨.hbm, 871, rfl⟩
abbrev main_call1_call5_v73 : Ref sig .tc := ⟨.hbm, 872, rfl⟩
abbrev main_call1_call5_v74 : Ref sig .tc := ⟨.hbm, 873, rfl⟩
abbrev main_call1_call5_c_17 : Ref sig .tc := ⟨.hbm, 874, rfl⟩
abbrev main_call1_call5_v75 : Ref sig .tc := ⟨.hbm, 875, rfl⟩
abbrev main_call1_call5_v76 : Ref sig .tc := ⟨.hbm, 876, rfl⟩
abbrev main_call1_call5_v77 : Ref sig .tc := ⟨.hbm, 877, rfl⟩
abbrev main_call1_call5_c_18 : Ref sig .tc := ⟨.hbm, 878, rfl⟩
abbrev main_call1_call5_v78 : Ref sig .tc := ⟨.hbm, 879, rfl⟩
abbrev main_call1_call5_v79 : Ref sig .tc := ⟨.hbm, 880, rfl⟩
abbrev main_call1_call5_c_19 : Ref sig .tc := ⟨.hbm, 881, rfl⟩
abbrev main_call1_call5_v80 : Ref sig .tc := ⟨.hbm, 882, rfl⟩
abbrev main_call1_call5_v81 : Ref sig .tc := ⟨.hbm, 883, rfl⟩
abbrev main_call1_call5_v82 : Ref sig .tc := ⟨.hbm, 884, rfl⟩
abbrev main_call1_call5_v83 : Ref sig .tc := ⟨.hbm, 885, rfl⟩
abbrev main_call1_call5_v84 : Ref sig .tc := ⟨.hbm, 886, rfl⟩
abbrev main_call1_call5_c_20 : Ref sig .tc := ⟨.hbm, 887, rfl⟩
abbrev main_call1_call5_v85 : Ref sig .tc := ⟨.hbm, 888, rfl⟩
abbrev main_call1_call5_v86 : Ref sig .tc := ⟨.hbm, 889, rfl⟩
abbrev main_call1_call5_c_21 : Ref sig .tc := ⟨.hbm, 890, rfl⟩
abbrev main_call1_call5_v87 : Ref sig .tc := ⟨.hbm, 891, rfl⟩
abbrev main_call1_call5_v88 : Ref sig .tc := ⟨.hbm, 892, rfl⟩
abbrev main_call1_call5_v89 : Ref sig .tc := ⟨.hbm, 893, rfl⟩
abbrev main_call1_call5_v90 : Ref sig .tc := ⟨.hbm, 894, rfl⟩
abbrev main_call1_call5_v91 : Ref sig .tc := ⟨.hbm, 895, rfl⟩
abbrev main_call1_call5_c_22 : Ref sig .tc := ⟨.hbm, 896, rfl⟩
abbrev main_call1_call5_v92 : Ref sig .tc := ⟨.hbm, 897, rfl⟩
abbrev main_call1_call5_v93 : Ref sig .tc := ⟨.hbm, 898, rfl⟩
abbrev main_call1_call5_c_23 : Ref sig .tc := ⟨.hbm, 899, rfl⟩
abbrev main_call1_call5_v94 : Ref sig .tc := ⟨.hbm, 900, rfl⟩
abbrev main_call1_call5_v95 : Ref sig .tc := ⟨.hbm, 901, rfl⟩
abbrev main_call1_call5_v96 : Ref sig .tc := ⟨.hbm, 902, rfl⟩
abbrev main_call1_call5_v97 : Ref sig .tc := ⟨.hbm, 903, rfl⟩
abbrev main_call1_call5_v98 : Ref sig .tc := ⟨.hbm, 904, rfl⟩
abbrev main_call1_call5_c_24 : Ref sig .tc := ⟨.hbm, 905, rfl⟩
abbrev main_call1_call5_v99 : Ref sig .tc := ⟨.hbm, 906, rfl⟩
abbrev main_call1_call5_v100 : Ref sig .tc := ⟨.hbm, 907, rfl⟩
abbrev main_call1_call5_c_25 : Ref sig .tc := ⟨.hbm, 908, rfl⟩
abbrev main_call1_call5_v101 : Ref sig .tc := ⟨.hbm, 909, rfl⟩
abbrev main_call1_call5_v102 : Ref sig .tc := ⟨.hbm, 910, rfl⟩
abbrev main_call1_call5_v103 : Ref sig .tc := ⟨.hbm, 911, rfl⟩
abbrev main_call1_call5_v104 : Ref sig .tc := ⟨.hbm, 912, rfl⟩
abbrev main_call1_call5_v105 : Ref sig .tc := ⟨.hbm, 913, rfl⟩
abbrev main_call1_call5_v106 : Ref sig .tc := ⟨.hbm, 914, rfl⟩
abbrev main_call1_call5_v107 : Ref sig .tc := ⟨.hbm, 915, rfl⟩
abbrev main_call1_call5_v108 : Ref sig .tc := ⟨.hbm, 916, rfl⟩
abbrev main_call1_call5_c_26 : Ref sig .tc := ⟨.hbm, 917, rfl⟩
abbrev main_call1_call5_v109 : Ref sig .tc := ⟨.hbm, 918, rfl⟩
abbrev main_call1_call5_v110 : Ref sig .tc := ⟨.hbm, 919, rfl⟩
abbrev main_call1_call5_v111 : Ref sig .tc := ⟨.hbm, 920, rfl⟩
abbrev main_call1_call5_c_27 : Ref sig .tc := ⟨.hbm, 921, rfl⟩
abbrev main_call1_call5_v112 : Ref sig .tc := ⟨.hbm, 922, rfl⟩
abbrev main_call1_call5_v113 : Ref sig .tc := ⟨.hbm, 923, rfl⟩
abbrev main_call1_call5_c_28 : Ref sig .tc := ⟨.hbm, 924, rfl⟩
abbrev main_call1_call5_v114 : Ref sig .tc := ⟨.hbm, 925, rfl⟩
abbrev main_call1_call5_v115 : Ref sig .tc := ⟨.hbm, 926, rfl⟩
abbrev main_call1_call5_v116 : Ref sig .tc := ⟨.hbm, 927, rfl⟩
abbrev main_call1_call5_v117 : Ref sig .tc := ⟨.hbm, 928, rfl⟩
abbrev main_call1_call5_v118 : Ref sig .tc := ⟨.hbm, 929, rfl⟩
abbrev main_call1_call5_c_29 : Ref sig .tc := ⟨.hbm, 930, rfl⟩
abbrev main_call1_call5_v119 : Ref sig .tc := ⟨.hbm, 931, rfl⟩
abbrev main_call1_call5_v120 : Ref sig .tc := ⟨.hbm, 932, rfl⟩
abbrev main_call1_call5_c_30 : Ref sig .tc := ⟨.hbm, 933, rfl⟩
abbrev main_call1_call5_v121 : Ref sig .tc := ⟨.hbm, 934, rfl⟩
abbrev main_call1_call5_v122 : Ref sig .tc := ⟨.hbm, 935, rfl⟩
abbrev main_call1_call5_v123 : Ref sig .tc := ⟨.hbm, 936, rfl⟩
abbrev main_call1_call5_v124 : Ref sig .tc := ⟨.hbm, 937, rfl⟩
abbrev main_call1_call5_v125 : Ref sig .tc := ⟨.hbm, 938, rfl⟩
abbrev main_call1_call5_c_31 : Ref sig .tc := ⟨.hbm, 939, rfl⟩
abbrev main_call1_call5_v126 : Ref sig .tc := ⟨.hbm, 940, rfl⟩
abbrev main_call1_call5_v127 : Ref sig .tc := ⟨.hbm, 941, rfl⟩
abbrev main_call1_call5_c_32 : Ref sig .tc := ⟨.hbm, 942, rfl⟩
abbrev main_call1_call5_v128 : Ref sig .tc := ⟨.hbm, 943, rfl⟩
abbrev main_call1_call5_v129 : Ref sig .tc := ⟨.hbm, 944, rfl⟩
abbrev main_call1_call5_v130 : Ref sig .tc := ⟨.hbm, 945, rfl⟩
abbrev main_call1_call5_v131 : Ref sig .tc := ⟨.hbm, 946, rfl⟩
abbrev main_call1_call5_v132 : Ref sig .tc := ⟨.hbm, 947, rfl⟩
abbrev main_call1_call5_c_33 : Ref sig .tc := ⟨.hbm, 948, rfl⟩
abbrev main_call1_call5_v133 : Ref sig .tc := ⟨.hbm, 949, rfl⟩
abbrev main_call1_call5_v134 : Ref sig .tc := ⟨.hbm, 950, rfl⟩
abbrev main_call1_call5_c_34 : Ref sig .tc := ⟨.hbm, 951, rfl⟩
abbrev main_call1_call5_v135 : Ref sig .tc := ⟨.hbm, 952, rfl⟩
abbrev main_call1_call5_v136 : Ref sig .tc := ⟨.hbm, 953, rfl⟩
abbrev main_call1_call5_v137 : Ref sig .tc := ⟨.hbm, 954, rfl⟩
abbrev main_call1_call5_v138 : Ref sig .tc := ⟨.hbm, 955, rfl⟩
abbrev main_call1_call5_v139 : Ref sig .tc := ⟨.hbm, 956, rfl⟩
abbrev main_call1_call5_v140 : Ref sig .tc := ⟨.hbm, 957, rfl⟩
abbrev main_call1_call5_v141 : Ref sig .tc := ⟨.hbm, 958, rfl⟩
abbrev main_call1_call5_v142 : Ref sig .tc := ⟨.hbm, 959, rfl⟩
abbrev main_call1_call5_c_35 : Ref sig .tc := ⟨.hbm, 960, rfl⟩
abbrev main_call1_call5_v143 : Ref sig .tc := ⟨.hbm, 961, rfl⟩
abbrev main_call1_call5_v144 : Ref sig .tc := ⟨.hbm, 962, rfl⟩
abbrev main_call1_call5_v145 : Ref sig .tc := ⟨.hbm, 963, rfl⟩
abbrev main_call1_call5_c_36 : Ref sig .tc := ⟨.hbm, 964, rfl⟩
abbrev main_call1_call5_v146 : Ref sig .tc := ⟨.hbm, 965, rfl⟩
abbrev main_call1_call5_v147 : Ref sig .tc := ⟨.hbm, 966, rfl⟩
abbrev main_call1_call5_c_37 : Ref sig .tc := ⟨.hbm, 967, rfl⟩
abbrev main_call1_call5_v148 : Ref sig .tc := ⟨.hbm, 968, rfl⟩
abbrev main_call1_call5_v149 : Ref sig .tc := ⟨.hbm, 969, rfl⟩
abbrev main_call1_call5_v150 : Ref sig .tc := ⟨.hbm, 970, rfl⟩
abbrev main_call1_call5_v151 : Ref sig .tc := ⟨.hbm, 971, rfl⟩
abbrev main_call1_call5_v152 : Ref sig .tc := ⟨.hbm, 972, rfl⟩
abbrev main_call1_call5_c_38 : Ref sig .tc := ⟨.hbm, 973, rfl⟩
abbrev main_call1_call5_v153 : Ref sig .tc := ⟨.hbm, 974, rfl⟩
abbrev main_call1_call5_v154 : Ref sig .tc := ⟨.hbm, 975, rfl⟩
abbrev main_call1_call5_c_39 : Ref sig .tc := ⟨.hbm, 976, rfl⟩
abbrev main_call1_call5_v155 : Ref sig .tc := ⟨.hbm, 977, rfl⟩
abbrev main_call1_call5_v156 : Ref sig .tc := ⟨.hbm, 978, rfl⟩
abbrev main_call1_call5_v157 : Ref sig .tc := ⟨.hbm, 979, rfl⟩
abbrev main_call1_call5_v158 : Ref sig .tc := ⟨.hbm, 980, rfl⟩
abbrev main_call1_call5_v159 : Ref sig .tc := ⟨.hbm, 981, rfl⟩
abbrev main_call1_call5_c_40 : Ref sig .tc := ⟨.hbm, 982, rfl⟩
abbrev main_call1_call5_v160 : Ref sig .tc := ⟨.hbm, 983, rfl⟩
abbrev main_call1_call5_v161 : Ref sig .tc := ⟨.hbm, 984, rfl⟩
abbrev main_call1_call5_c_41 : Ref sig .tc := ⟨.hbm, 985, rfl⟩
abbrev main_call1_call5_v162 : Ref sig .tc := ⟨.hbm, 986, rfl⟩
abbrev main_call1_call5_v163 : Ref sig .tc := ⟨.hbm, 987, rfl⟩
abbrev main_call1_call5_v164 : Ref sig .tc := ⟨.hbm, 988, rfl⟩
abbrev main_call1_call5_v165 : Ref sig .tc := ⟨.hbm, 989, rfl⟩
abbrev main_call1_call5_v166 : Ref sig .tc := ⟨.hbm, 990, rfl⟩
abbrev main_call1_call5_c_42 : Ref sig .tc := ⟨.hbm, 991, rfl⟩
abbrev main_call1_call5_v167 : Ref sig .tc := ⟨.hbm, 992, rfl⟩
abbrev main_call1_call5_v168 : Ref sig .tc := ⟨.hbm, 993, rfl⟩
abbrev main_call1_call5_c_43 : Ref sig .tc := ⟨.hbm, 994, rfl⟩
abbrev main_call1_call5_v169 : Ref sig .tc := ⟨.hbm, 995, rfl⟩
abbrev main_call1_call5_v170 : Ref sig .tc := ⟨.hbm, 996, rfl⟩
abbrev main_call1_call5_v171 : Ref sig .tc := ⟨.hbm, 997, rfl⟩
abbrev main_call1_call5_v172 : Ref sig .tc := ⟨.hbm, 998, rfl⟩
abbrev main_call1_call5_v173 : Ref sig .tc := ⟨.hbm, 999, rfl⟩
abbrev main_call1_v45_0 : Ref sig .tc := ⟨.hbm, 1000, rfl⟩
abbrev main_call1_call5_v175 : Ref sig .tc := ⟨.hbm, 1001, rfl⟩
abbrev main_call1_call5_v176 : Ref sig .tc := ⟨.hbm, 1002, rfl⟩
abbrev main_call1_call5_c_44 : Ref sig .tc := ⟨.hbm, 1003, rfl⟩
abbrev main_call1_call5_v177 : Ref sig .tc := ⟨.hbm, 1004, rfl⟩
abbrev main_call1_v45_1 : Ref sig .tc := ⟨.hbm, 1005, rfl⟩
abbrev main_call1_v46 : Ref sig .tc := ⟨.hbm, 1006, rfl⟩
abbrev main_call1_v47 : Ref sig .tc := ⟨.hbm, 1007, rfl⟩
abbrev main_call1_v48 : Ref sig .tc := ⟨.hbm, 1008, rfl⟩
abbrev main_call1_v49 : Ref sig .tc := ⟨.hbm, 1009, rfl⟩
abbrev main_call1_c_10 : Ref sig .tc := ⟨.hbm, 1010, rfl⟩
abbrev main_call1_v50 : Ref sig .tc := ⟨.hbm, 1011, rfl⟩
abbrev main_call1_v51 : Ref sig .tc := ⟨.hbm, 1012, rfl⟩
abbrev main_call1_v52 : Ref sig .tc := ⟨.hbm, 1013, rfl⟩
abbrev main_call1_v53 : Ref sig .tc := ⟨.hbm, 1014, rfl⟩
abbrev main_call1_v54 : Ref sig .tc := ⟨.hbm, 1015, rfl⟩
abbrev main_call1_c_11 : Ref sig .tc := ⟨.hbm, 1016, rfl⟩
abbrev main_call1_v55 : Ref sig .tc := ⟨.hbm, 1017, rfl⟩
abbrev main_call1_v56 : Ref sig .tc := ⟨.hbm, 1018, rfl⟩
abbrev main_call1_v57 : Ref sig .tc := ⟨.hbm, 1019, rfl⟩
abbrev main_call1_c_12 : Ref sig .tc := ⟨.hbm, 1020, rfl⟩
abbrev main_call1_v58 : Ref sig .tc := ⟨.hbm, 1021, rfl⟩
abbrev main_call1_v59 : Ref sig .tc := ⟨.hbm, 1022, rfl⟩
abbrev main_call1_v60 : Ref sig .tc := ⟨.hbm, 1023, rfl⟩
abbrev main_call1_v61 : Ref sig .tc := ⟨.hbm, 1024, rfl⟩
abbrev main_call1_v62 : Ref sig .tc := ⟨.hbm, 1025, rfl⟩
abbrev main_call1_v63 : Ref sig .tc := ⟨.hbm, 1026, rfl⟩
abbrev main_call1_v64 : Ref sig .tc := ⟨.hbm, 1027, rfl⟩
abbrev main_call1_v65 : Ref sig .tc := ⟨.hbm, 1028, rfl⟩
abbrev main_call1_v66 : Ref sig .tc := ⟨.hbm, 1029, rfl⟩
abbrev main_call1_v67 : Ref sig .tc := ⟨.hbm, 1030, rfl⟩
abbrev main_call1_v68 : Ref sig .tc := ⟨.hbm, 1031, rfl⟩
abbrev main_call1_v69 : Ref sig .tc := ⟨.hbm, 1032, rfl⟩
abbrev main_call1_v70 : Ref sig .tc := ⟨.hbm, 1033, rfl⟩
abbrev main_call1_v71 : Ref sig .tc := ⟨.hbm, 1034, rfl⟩
abbrev main_call1_v72 : Ref sig .tc := ⟨.hbm, 1035, rfl⟩
abbrev main_call1_v73 : Ref sig .tc := ⟨.hbm, 1036, rfl⟩
abbrev main_call1_v74 : Ref sig .tc := ⟨.hbm, 1037, rfl⟩
abbrev main_call1_v75 : Ref sig .tc := ⟨.hbm, 1038, rfl⟩
abbrev main_call1_v76 : Ref sig .tc := ⟨.hbm, 1039, rfl⟩
abbrev main_call1_v77 : Ref sig .tc := ⟨.hbm, 1040, rfl⟩
abbrev main_v11 : Ref sig .tc := ⟨.hbm, 1041, rfl⟩
abbrev main_v12 : Ref sig .tc := ⟨.hbm, 1042, rfl⟩
abbrev main_v13 : Ref sig .tc := ⟨.hbm, 1043, rfl⟩
abbrev main_v14 : Ref sig .tc := ⟨.hbm, 1044, rfl⟩
abbrev main_call2_c : Ref sig .tc := ⟨.hbm, 1045, rfl⟩
abbrev main_call2_v0 : Ref sig .tc := ⟨.hbm, 1046, rfl⟩
abbrev main_call2_v1 : Ref sig .tc := ⟨.hbm, 1047, rfl⟩
abbrev main_call2_c_0 : Ref sig .tc := ⟨.hbm, 1048, rfl⟩
abbrev main_call2_v2 : Ref sig .tc := ⟨.hbm, 1049, rfl⟩
abbrev main_call2_v3 : Ref sig .tc := ⟨.hbm, 1050, rfl⟩
abbrev main_call2_v4 : Ref sig .tc := ⟨.hbm, 1051, rfl⟩
abbrev main_call2_v5 : Ref sig .tc := ⟨.hbm, 1052, rfl⟩
abbrev main_call2_c_1 : Ref sig .tc := ⟨.hbm, 1053, rfl⟩
abbrev main_call2_c_2 : Ref sig .tc := ⟨.hbm, 1054, rfl⟩
abbrev main_call2_v6 : Ref sig .tc := ⟨.hbm, 1055, rfl⟩
abbrev main_call2_v7 : Ref sig .tc := ⟨.hbm, 1056, rfl⟩
abbrev main_call2_v8 : Ref sig .tc := ⟨.hbm, 1057, rfl⟩
abbrev main_call2_v9 : Ref sig .tc := ⟨.hbm, 1058, rfl⟩
abbrev main_call2_v10 : Ref sig .tc := ⟨.hbm, 1059, rfl⟩
abbrev main_call2_v11 : Ref sig .tc := ⟨.hbm, 1060, rfl⟩
abbrev main_call2_c_3 : Ref sig .tc := ⟨.hbm, 1061, rfl⟩
abbrev main_call2_v12 : Ref sig .tc := ⟨.hbm, 1062, rfl⟩
abbrev main_call2_v13 : Ref sig .tc := ⟨.hbm, 1063, rfl⟩
abbrev main_call2_v14 : Ref sig .tc := ⟨.hbm, 1064, rfl⟩
abbrev main_call2_cst : Ref sig .tc := ⟨.hbm, 1065, rfl⟩
abbrev main_call2_v15 : Ref sig .tc := ⟨.hbm, 1066, rfl⟩
abbrev main_v15 : Ref sig .tc := ⟨.hbm, 1067, rfl⟩
abbrev main_v16 : Ref sig .tc := ⟨.hbm, 1068, rfl⟩
abbrev main_v17 : Ref sig .tc := ⟨.hbm, 1069, rfl⟩
abbrev main_v18 : Ref sig .tc := ⟨.hbm, 1070, rfl⟩
abbrev main_call3_c : Ref sig .tc := ⟨.hbm, 1071, rfl⟩
abbrev main_call3_v0 : Ref sig .tc := ⟨.hbm, 1072, rfl⟩
abbrev main_call3_v1 : Ref sig .tc := ⟨.hbm, 1073, rfl⟩
abbrev main_call3_c_0 : Ref sig .tc := ⟨.hbm, 1074, rfl⟩
abbrev main_call3_v2 : Ref sig .tc := ⟨.hbm, 1075, rfl⟩
abbrev main_call3_v3 : Ref sig .tc := ⟨.hbm, 1076, rfl⟩
abbrev main_call3_v4 : Ref sig .tc := ⟨.hbm, 1077, rfl⟩
abbrev main_call3_v5 : Ref sig .tc := ⟨.hbm, 1078, rfl⟩
abbrev main_call3_c_1 : Ref sig .tc := ⟨.hbm, 1079, rfl⟩
abbrev main_call3_c_2 : Ref sig .tc := ⟨.hbm, 1080, rfl⟩
abbrev main_call3_v6 : Ref sig .tc := ⟨.hbm, 1081, rfl⟩
abbrev main_call3_v7 : Ref sig .tc := ⟨.hbm, 1082, rfl⟩
abbrev main_call3_v8 : Ref sig .tc := ⟨.hbm, 1083, rfl⟩
abbrev main_call3_v9 : Ref sig .tc := ⟨.hbm, 1084, rfl⟩
abbrev main_call3_v10 : Ref sig .tc := ⟨.hbm, 1085, rfl⟩
abbrev main_call3_v11 : Ref sig .tc := ⟨.hbm, 1086, rfl⟩
abbrev main_call3_c_3 : Ref sig .tc := ⟨.hbm, 1087, rfl⟩
abbrev main_call3_v12 : Ref sig .tc := ⟨.hbm, 1088, rfl⟩
abbrev main_call3_v13 : Ref sig .tc := ⟨.hbm, 1089, rfl⟩
abbrev main_call3_v14 : Ref sig .tc := ⟨.hbm, 1090, rfl⟩
abbrev main_call3_cst : Ref sig .tc := ⟨.hbm, 1091, rfl⟩
abbrev main_call3_v15 : Ref sig .tc := ⟨.hbm, 1092, rfl⟩
abbrev main_v19 : Ref sig .tc := ⟨.hbm, 1093, rfl⟩
abbrev main_v20 : Ref sig .tc := ⟨.hbm, 1094, rfl⟩
abbrev main_v21 : Ref sig .tc := ⟨.hbm, 1095, rfl⟩
abbrev main_v22 : Ref sig .tc := ⟨.hbm, 1096, rfl⟩
abbrev main_call4_c : Ref sig .tc := ⟨.hbm, 1097, rfl⟩
abbrev main_call4_v0 : Ref sig .tc := ⟨.hbm, 1098, rfl⟩
abbrev main_call4_v1 : Ref sig .tc := ⟨.hbm, 1099, rfl⟩
abbrev main_call4_c_0 : Ref sig .tc := ⟨.hbm, 1100, rfl⟩
abbrev main_call4_v2 : Ref sig .tc := ⟨.hbm, 1101, rfl⟩
abbrev main_call4_v3 : Ref sig .tc := ⟨.hbm, 1102, rfl⟩
abbrev main_call4_v4 : Ref sig .tc := ⟨.hbm, 1103, rfl⟩
abbrev main_call4_v5 : Ref sig .tc := ⟨.hbm, 1104, rfl⟩
abbrev main_call4_c_1 : Ref sig .tc := ⟨.hbm, 1105, rfl⟩
abbrev main_call4_c_2 : Ref sig .tc := ⟨.hbm, 1106, rfl⟩
abbrev main_call4_v6 : Ref sig .tc := ⟨.hbm, 1107, rfl⟩
abbrev main_call4_v7 : Ref sig .tc := ⟨.hbm, 1108, rfl⟩
abbrev main_call4_v8 : Ref sig .tc := ⟨.hbm, 1109, rfl⟩
abbrev main_call4_v9 : Ref sig .tc := ⟨.hbm, 1110, rfl⟩
abbrev main_call4_v10 : Ref sig .tc := ⟨.hbm, 1111, rfl⟩
abbrev main_call4_v11 : Ref sig .tc := ⟨.hbm, 1112, rfl⟩
abbrev main_call4_c_3 : Ref sig .tc := ⟨.hbm, 1113, rfl⟩
abbrev main_call4_v12 : Ref sig .tc := ⟨.hbm, 1114, rfl⟩
abbrev main_call4_v13 : Ref sig .tc := ⟨.hbm, 1115, rfl⟩
abbrev main_call4_v14 : Ref sig .tc := ⟨.hbm, 1116, rfl⟩
abbrev main_call4_cst : Ref sig .tc := ⟨.hbm, 1117, rfl⟩
abbrev main_call4_v15 : Ref sig .tc := ⟨.hbm, 1118, rfl⟩
abbrev main_v23 : Ref sig .tc := ⟨.hbm, 1119, rfl⟩
abbrev main_v24 : Ref sig .tc := ⟨.hbm, 1120, rfl⟩
abbrev main_v25 : Ref sig .tc := ⟨.hbm, 1121, rfl⟩
abbrev main_v26 : Ref sig .tc := ⟨.hbm, 1122, rfl⟩
abbrev main_call5_c : Ref sig .tc := ⟨.hbm, 1123, rfl⟩
abbrev main_call5_v0 : Ref sig .tc := ⟨.hbm, 1124, rfl⟩
abbrev main_call5_v1 : Ref sig .tc := ⟨.hbm, 1125, rfl⟩
abbrev main_call5_c_0 : Ref sig .tc := ⟨.hbm, 1126, rfl⟩
abbrev main_call5_v2 : Ref sig .tc := ⟨.hbm, 1127, rfl⟩
abbrev main_call5_v3 : Ref sig .tc := ⟨.hbm, 1128, rfl⟩
abbrev main_call5_v4 : Ref sig .tc := ⟨.hbm, 1129, rfl⟩
abbrev main_call5_v5 : Ref sig .tc := ⟨.hbm, 1130, rfl⟩
abbrev main_call5_c_1 : Ref sig .tc := ⟨.hbm, 1131, rfl⟩
abbrev main_call5_c_2 : Ref sig .tc := ⟨.hbm, 1132, rfl⟩
abbrev main_call5_v6 : Ref sig .tc := ⟨.hbm, 1133, rfl⟩
abbrev main_call5_v7 : Ref sig .tc := ⟨.hbm, 1134, rfl⟩
abbrev main_call5_v8 : Ref sig .tc := ⟨.hbm, 1135, rfl⟩
abbrev main_call5_v9 : Ref sig .tc := ⟨.hbm, 1136, rfl⟩
abbrev main_call5_v10 : Ref sig .tc := ⟨.hbm, 1137, rfl⟩
abbrev main_call5_v11 : Ref sig .tc := ⟨.hbm, 1138, rfl⟩
abbrev main_call5_c_3 : Ref sig .tc := ⟨.hbm, 1139, rfl⟩
abbrev main_call5_v12 : Ref sig .tc := ⟨.hbm, 1140, rfl⟩
abbrev main_call5_v13 : Ref sig .tc := ⟨.hbm, 1141, rfl⟩
abbrev main_call5_v14 : Ref sig .tc := ⟨.hbm, 1142, rfl⟩
abbrev main_call5_cst : Ref sig .tc := ⟨.hbm, 1143, rfl⟩
abbrev main_call5_v15 : Ref sig .tc := ⟨.hbm, 1144, rfl⟩
abbrev main_v27 : Ref sig .tc := ⟨.hbm, 1145, rfl⟩
abbrev main_v28 : Ref sig .tc := ⟨.hbm, 1146, rfl⟩
abbrev main_v29 : Ref sig .tc := ⟨.hbm, 1147, rfl⟩
abbrev main_v30 : Ref sig .tc := ⟨.hbm, 1148, rfl⟩
abbrev main_call6_c : Ref sig .tc := ⟨.hbm, 1149, rfl⟩
abbrev main_call6_v0 : Ref sig .tc := ⟨.hbm, 1150, rfl⟩
abbrev main_call6_v1 : Ref sig .tc := ⟨.hbm, 1151, rfl⟩
abbrev main_call6_c_0 : Ref sig .tc := ⟨.hbm, 1152, rfl⟩
abbrev main_call6_v2 : Ref sig .tc := ⟨.hbm, 1153, rfl⟩
abbrev main_call6_v3 : Ref sig .tc := ⟨.hbm, 1154, rfl⟩
abbrev main_call6_v4 : Ref sig .tc := ⟨.hbm, 1155, rfl⟩
abbrev main_call6_v5 : Ref sig .tc := ⟨.hbm, 1156, rfl⟩
abbrev main_call6_c_1 : Ref sig .tc := ⟨.hbm, 1157, rfl⟩
abbrev main_call6_c_2 : Ref sig .tc := ⟨.hbm, 1158, rfl⟩
abbrev main_call6_v6 : Ref sig .tc := ⟨.hbm, 1159, rfl⟩
abbrev main_call6_v7 : Ref sig .tc := ⟨.hbm, 1160, rfl⟩
abbrev main_call6_v8 : Ref sig .tc := ⟨.hbm, 1161, rfl⟩
abbrev main_call6_v9 : Ref sig .tc := ⟨.hbm, 1162, rfl⟩
abbrev main_call6_v10 : Ref sig .tc := ⟨.hbm, 1163, rfl⟩
abbrev main_call6_v11 : Ref sig .tc := ⟨.hbm, 1164, rfl⟩
abbrev main_call6_c_3 : Ref sig .tc := ⟨.hbm, 1165, rfl⟩
abbrev main_call6_v12 : Ref sig .tc := ⟨.hbm, 1166, rfl⟩
abbrev main_call6_v13 : Ref sig .tc := ⟨.hbm, 1167, rfl⟩
abbrev main_call6_v14 : Ref sig .tc := ⟨.hbm, 1168, rfl⟩
abbrev main_call6_cst : Ref sig .tc := ⟨.hbm, 1169, rfl⟩
abbrev main_call6_v15 : Ref sig .tc := ⟨.hbm, 1170, rfl⟩
abbrev main_v31 : Ref sig .tc := ⟨.hbm, 1171, rfl⟩
abbrev main_v32 : Ref sig .tc := ⟨.hbm, 1172, rfl⟩
abbrev main_v33 : Ref sig .tc := ⟨.hbm, 1173, rfl⟩
abbrev main_v34 : Ref sig .tc := ⟨.hbm, 1174, rfl⟩
abbrev main_call7_c : Ref sig .tc := ⟨.hbm, 1175, rfl⟩
abbrev main_call7_v0 : Ref sig .tc := ⟨.hbm, 1176, rfl⟩
abbrev main_call7_v1 : Ref sig .tc := ⟨.hbm, 1177, rfl⟩
abbrev main_call7_c_0 : Ref sig .tc := ⟨.hbm, 1178, rfl⟩
abbrev main_call7_v2 : Ref sig .tc := ⟨.hbm, 1179, rfl⟩
abbrev main_call7_v3 : Ref sig .tc := ⟨.hbm, 1180, rfl⟩
abbrev main_call7_v4 : Ref sig .tc := ⟨.hbm, 1181, rfl⟩
abbrev main_call7_v5 : Ref sig .tc := ⟨.hbm, 1182, rfl⟩
abbrev main_call7_c_1 : Ref sig .tc := ⟨.hbm, 1183, rfl⟩
abbrev main_call7_c_2 : Ref sig .tc := ⟨.hbm, 1184, rfl⟩
abbrev main_call7_v6 : Ref sig .tc := ⟨.hbm, 1185, rfl⟩
abbrev main_call7_v7 : Ref sig .tc := ⟨.hbm, 1186, rfl⟩
abbrev main_call7_v8 : Ref sig .tc := ⟨.hbm, 1187, rfl⟩
abbrev main_call7_v9 : Ref sig .tc := ⟨.hbm, 1188, rfl⟩
abbrev main_call7_v10 : Ref sig .tc := ⟨.hbm, 1189, rfl⟩
abbrev main_call7_v11 : Ref sig .tc := ⟨.hbm, 1190, rfl⟩
abbrev main_call7_c_3 : Ref sig .tc := ⟨.hbm, 1191, rfl⟩
abbrev main_call7_v12 : Ref sig .tc := ⟨.hbm, 1192, rfl⟩
abbrev main_call7_v13 : Ref sig .tc := ⟨.hbm, 1193, rfl⟩
abbrev main_call7_v14 : Ref sig .tc := ⟨.hbm, 1194, rfl⟩
abbrev main_call7_cst : Ref sig .tc := ⟨.hbm, 1195, rfl⟩
abbrev main_call7_v15 : Ref sig .tc := ⟨.hbm, 1196, rfl⟩
abbrev main_v35 : Ref sig .tc := ⟨.hbm, 1197, rfl⟩
abbrev main_v36 : Ref sig .tc := ⟨.hbm, 1198, rfl⟩
abbrev main_v37 : Ref sig .tc := ⟨.hbm, 1199, rfl⟩
abbrev main_v38 : Ref sig .tc := ⟨.hbm, 1200, rfl⟩
abbrev main_call8_c : Ref sig .tc := ⟨.hbm, 1201, rfl⟩
abbrev main_call8_v0 : Ref sig .tc := ⟨.hbm, 1202, rfl⟩
abbrev main_call8_v1 : Ref sig .tc := ⟨.hbm, 1203, rfl⟩
abbrev main_call8_c_0 : Ref sig .tc := ⟨.hbm, 1204, rfl⟩
abbrev main_call8_v2 : Ref sig .tc := ⟨.hbm, 1205, rfl⟩
abbrev main_call8_v3 : Ref sig .tc := ⟨.hbm, 1206, rfl⟩
abbrev main_call8_v4 : Ref sig .tc := ⟨.hbm, 1207, rfl⟩
abbrev main_call8_v5 : Ref sig .tc := ⟨.hbm, 1208, rfl⟩
abbrev main_call8_c_1 : Ref sig .tc := ⟨.hbm, 1209, rfl⟩
abbrev main_call8_c_2 : Ref sig .tc := ⟨.hbm, 1210, rfl⟩
abbrev main_call8_v6 : Ref sig .tc := ⟨.hbm, 1211, rfl⟩
abbrev main_call8_v7 : Ref sig .tc := ⟨.hbm, 1212, rfl⟩
abbrev main_call8_v8 : Ref sig .tc := ⟨.hbm, 1213, rfl⟩
abbrev main_call8_v9 : Ref sig .tc := ⟨.hbm, 1214, rfl⟩
abbrev main_call8_v10 : Ref sig .tc := ⟨.hbm, 1215, rfl⟩
abbrev main_call8_v11 : Ref sig .tc := ⟨.hbm, 1216, rfl⟩
abbrev main_call8_c_3 : Ref sig .tc := ⟨.hbm, 1217, rfl⟩
abbrev main_call8_v12 : Ref sig .tc := ⟨.hbm, 1218, rfl⟩
abbrev main_call8_v13 : Ref sig .tc := ⟨.hbm, 1219, rfl⟩
abbrev main_call8_v14 : Ref sig .tc := ⟨.hbm, 1220, rfl⟩
abbrev main_call8_cst : Ref sig .tc := ⟨.hbm, 1221, rfl⟩
abbrev main_call8_v15 : Ref sig .tc := ⟨.hbm, 1222, rfl⟩
abbrev main_v39 : Ref sig .tc := ⟨.hbm, 1223, rfl⟩
abbrev main_v40 : Ref sig .tc := ⟨.hbm, 1224, rfl⟩
abbrev main_v41 : Ref sig .tc := ⟨.hbm, 1225, rfl⟩
abbrev main_v42 : Ref sig .tc := ⟨.hbm, 1226, rfl⟩
abbrev main_call9_c : Ref sig .tc := ⟨.hbm, 1227, rfl⟩
abbrev main_call9_v0 : Ref sig .tc := ⟨.hbm, 1228, rfl⟩
abbrev main_call9_v1 : Ref sig .tc := ⟨.hbm, 1229, rfl⟩
abbrev main_call9_c_0 : Ref sig .tc := ⟨.hbm, 1230, rfl⟩
abbrev main_call9_v2 : Ref sig .tc := ⟨.hbm, 1231, rfl⟩
abbrev main_call9_v3 : Ref sig .tc := ⟨.hbm, 1232, rfl⟩
abbrev main_call9_v4 : Ref sig .tc := ⟨.hbm, 1233, rfl⟩
abbrev main_call9_v5 : Ref sig .tc := ⟨.hbm, 1234, rfl⟩
abbrev main_call9_c_1 : Ref sig .tc := ⟨.hbm, 1235, rfl⟩
abbrev main_call9_c_2 : Ref sig .tc := ⟨.hbm, 1236, rfl⟩
abbrev main_call9_v6 : Ref sig .tc := ⟨.hbm, 1237, rfl⟩
abbrev main_call9_v7 : Ref sig .tc := ⟨.hbm, 1238, rfl⟩
abbrev main_call9_v8 : Ref sig .tc := ⟨.hbm, 1239, rfl⟩
abbrev main_call9_v9 : Ref sig .tc := ⟨.hbm, 1240, rfl⟩
abbrev main_call9_v10 : Ref sig .tc := ⟨.hbm, 1241, rfl⟩
abbrev main_call9_v11 : Ref sig .tc := ⟨.hbm, 1242, rfl⟩
abbrev main_call9_c_3 : Ref sig .tc := ⟨.hbm, 1243, rfl⟩
abbrev main_call9_v12 : Ref sig .tc := ⟨.hbm, 1244, rfl⟩
abbrev main_call9_v13 : Ref sig .tc := ⟨.hbm, 1245, rfl⟩
abbrev main_call9_v14 : Ref sig .tc := ⟨.hbm, 1246, rfl⟩
abbrev main_call9_cst : Ref sig .tc := ⟨.hbm, 1247, rfl⟩
abbrev main_call9_v15 : Ref sig .tc := ⟨.hbm, 1248, rfl⟩
abbrev main_v43 : Ref sig .tc := ⟨.hbm, 1249, rfl⟩
abbrev main_v44 : Ref sig .tc := ⟨.hbm, 1250, rfl⟩
abbrev main_v45 : Ref sig .tc := ⟨.hbm, 1251, rfl⟩
abbrev main_v46 : Ref sig .tc := ⟨.hbm, 1252, rfl⟩
abbrev main_call10_c : Ref sig .tc := ⟨.hbm, 1253, rfl⟩
abbrev main_call10_v0 : Ref sig .tc := ⟨.hbm, 1254, rfl⟩
abbrev main_call10_v1 : Ref sig .tc := ⟨.hbm, 1255, rfl⟩
abbrev main_call10_c_0 : Ref sig .tc := ⟨.hbm, 1256, rfl⟩
abbrev main_call10_v2 : Ref sig .tc := ⟨.hbm, 1257, rfl⟩
abbrev main_call10_v3 : Ref sig .tc := ⟨.hbm, 1258, rfl⟩
abbrev main_call10_v4 : Ref sig .tc := ⟨.hbm, 1259, rfl⟩
abbrev main_call10_v5 : Ref sig .tc := ⟨.hbm, 1260, rfl⟩
abbrev main_call10_c_1 : Ref sig .tc := ⟨.hbm, 1261, rfl⟩
abbrev main_call10_c_2 : Ref sig .tc := ⟨.hbm, 1262, rfl⟩
abbrev main_call10_v6 : Ref sig .tc := ⟨.hbm, 1263, rfl⟩
abbrev main_call10_v7 : Ref sig .tc := ⟨.hbm, 1264, rfl⟩
abbrev main_call10_v8 : Ref sig .tc := ⟨.hbm, 1265, rfl⟩
abbrev main_call10_v9 : Ref sig .tc := ⟨.hbm, 1266, rfl⟩
abbrev main_call10_v10 : Ref sig .tc := ⟨.hbm, 1267, rfl⟩
abbrev main_call10_v11 : Ref sig .tc := ⟨.hbm, 1268, rfl⟩
abbrev main_call10_c_3 : Ref sig .tc := ⟨.hbm, 1269, rfl⟩
abbrev main_call10_v12 : Ref sig .tc := ⟨.hbm, 1270, rfl⟩
abbrev main_call10_v13 : Ref sig .tc := ⟨.hbm, 1271, rfl⟩
abbrev main_call10_v14 : Ref sig .tc := ⟨.hbm, 1272, rfl⟩
abbrev main_call10_cst : Ref sig .tc := ⟨.hbm, 1273, rfl⟩
abbrev main_call10_v15 : Ref sig .tc := ⟨.hbm, 1274, rfl⟩
abbrev main_v47 : Ref sig .tc := ⟨.hbm, 1275, rfl⟩
abbrev main_v48 : Ref sig .tc := ⟨.hbm, 1276, rfl⟩
abbrev main_v49 : Ref sig .tc := ⟨.hbm, 1277, rfl⟩
abbrev main_v50 : Ref sig .tc := ⟨.hbm, 1278, rfl⟩
abbrev main_call11_c : Ref sig .tc := ⟨.hbm, 1279, rfl⟩
abbrev main_call11_v0 : Ref sig .tc := ⟨.hbm, 1280, rfl⟩
abbrev main_call11_v1 : Ref sig .tc := ⟨.hbm, 1281, rfl⟩
abbrev main_call11_c_0 : Ref sig .tc := ⟨.hbm, 1282, rfl⟩
abbrev main_call11_v2 : Ref sig .tc := ⟨.hbm, 1283, rfl⟩
abbrev main_call11_v3 : Ref sig .tc := ⟨.hbm, 1284, rfl⟩
abbrev main_call11_v4 : Ref sig .tc := ⟨.hbm, 1285, rfl⟩
abbrev main_call11_v5 : Ref sig .tc := ⟨.hbm, 1286, rfl⟩
abbrev main_call11_c_1 : Ref sig .tc := ⟨.hbm, 1287, rfl⟩
abbrev main_call11_c_2 : Ref sig .tc := ⟨.hbm, 1288, rfl⟩
abbrev main_call11_v6 : Ref sig .tc := ⟨.hbm, 1289, rfl⟩
abbrev main_call11_v7 : Ref sig .tc := ⟨.hbm, 1290, rfl⟩
abbrev main_call11_v8 : Ref sig .tc := ⟨.hbm, 1291, rfl⟩
abbrev main_call11_v9 : Ref sig .tc := ⟨.hbm, 1292, rfl⟩
abbrev main_call11_v10 : Ref sig .tc := ⟨.hbm, 1293, rfl⟩
abbrev main_call11_v11 : Ref sig .tc := ⟨.hbm, 1294, rfl⟩
abbrev main_call11_c_3 : Ref sig .tc := ⟨.hbm, 1295, rfl⟩
abbrev main_call11_v12 : Ref sig .tc := ⟨.hbm, 1296, rfl⟩
abbrev main_call11_v13 : Ref sig .tc := ⟨.hbm, 1297, rfl⟩
abbrev main_call11_v14 : Ref sig .tc := ⟨.hbm, 1298, rfl⟩
abbrev main_call11_cst : Ref sig .tc := ⟨.hbm, 1299, rfl⟩
abbrev main_call11_v15 : Ref sig .tc := ⟨.hbm, 1300, rfl⟩
abbrev main_v51 : Ref sig .tc := ⟨.hbm, 1301, rfl⟩
abbrev main_v52 : Ref sig .tc := ⟨.hbm, 1302, rfl⟩
abbrev main_v53 : Ref sig .tc := ⟨.hbm, 1303, rfl⟩
abbrev main_v54 : Ref sig .tc := ⟨.hbm, 1304, rfl⟩
abbrev main_call12_c : Ref sig .tc := ⟨.hbm, 1305, rfl⟩
abbrev main_call12_v0 : Ref sig .tc := ⟨.hbm, 1306, rfl⟩
abbrev main_call12_v1 : Ref sig .tc := ⟨.hbm, 1307, rfl⟩
abbrev main_call12_c_0 : Ref sig .tc := ⟨.hbm, 1308, rfl⟩
abbrev main_call12_v2 : Ref sig .tc := ⟨.hbm, 1309, rfl⟩
abbrev main_call12_v3 : Ref sig .tc := ⟨.hbm, 1310, rfl⟩
abbrev main_call12_v4 : Ref sig .tc := ⟨.hbm, 1311, rfl⟩
abbrev main_call12_v5 : Ref sig .tc := ⟨.hbm, 1312, rfl⟩
abbrev main_call12_c_1 : Ref sig .tc := ⟨.hbm, 1313, rfl⟩
abbrev main_call12_c_2 : Ref sig .tc := ⟨.hbm, 1314, rfl⟩
abbrev main_call12_v6 : Ref sig .tc := ⟨.hbm, 1315, rfl⟩
abbrev main_call12_v7 : Ref sig .tc := ⟨.hbm, 1316, rfl⟩
abbrev main_call12_v8 : Ref sig .tc := ⟨.hbm, 1317, rfl⟩
abbrev main_call12_v9 : Ref sig .tc := ⟨.hbm, 1318, rfl⟩
abbrev main_call12_v10 : Ref sig .tc := ⟨.hbm, 1319, rfl⟩
abbrev main_call12_v11 : Ref sig .tc := ⟨.hbm, 1320, rfl⟩
abbrev main_call12_c_3 : Ref sig .tc := ⟨.hbm, 1321, rfl⟩
abbrev main_call12_v12 : Ref sig .tc := ⟨.hbm, 1322, rfl⟩
abbrev main_call12_v13 : Ref sig .tc := ⟨.hbm, 1323, rfl⟩
abbrev main_call12_v14 : Ref sig .tc := ⟨.hbm, 1324, rfl⟩
abbrev main_call12_cst : Ref sig .tc := ⟨.hbm, 1325, rfl⟩
abbrev main_call12_v15 : Ref sig .tc := ⟨.hbm, 1326, rfl⟩
abbrev main_v55 : Ref sig .tc := ⟨.hbm, 1327, rfl⟩
abbrev main_v56 : Ref sig .tc := ⟨.hbm, 1328, rfl⟩
abbrev main_v57 : Ref sig .tc := ⟨.hbm, 1329, rfl⟩
abbrev main_v58 : Ref sig .tc := ⟨.hbm, 1330, rfl⟩
abbrev main_call13_c : Ref sig .tc := ⟨.hbm, 1331, rfl⟩
abbrev main_call13_v0 : Ref sig .tc := ⟨.hbm, 1332, rfl⟩
abbrev main_call13_v1 : Ref sig .tc := ⟨.hbm, 1333, rfl⟩
abbrev main_call13_c_0 : Ref sig .tc := ⟨.hbm, 1334, rfl⟩
abbrev main_call13_v2 : Ref sig .tc := ⟨.hbm, 1335, rfl⟩
abbrev main_call13_v3 : Ref sig .tc := ⟨.hbm, 1336, rfl⟩
abbrev main_call13_v4 : Ref sig .tc := ⟨.hbm, 1337, rfl⟩
abbrev main_call13_v5 : Ref sig .tc := ⟨.hbm, 1338, rfl⟩
abbrev main_call13_c_1 : Ref sig .tc := ⟨.hbm, 1339, rfl⟩
abbrev main_call13_c_2 : Ref sig .tc := ⟨.hbm, 1340, rfl⟩
abbrev main_call13_v6 : Ref sig .tc := ⟨.hbm, 1341, rfl⟩
abbrev main_call13_v7 : Ref sig .tc := ⟨.hbm, 1342, rfl⟩
abbrev main_call13_v8 : Ref sig .tc := ⟨.hbm, 1343, rfl⟩
abbrev main_call13_v9 : Ref sig .tc := ⟨.hbm, 1344, rfl⟩
abbrev main_call13_v10 : Ref sig .tc := ⟨.hbm, 1345, rfl⟩
abbrev main_call13_v11 : Ref sig .tc := ⟨.hbm, 1346, rfl⟩
abbrev main_call13_c_3 : Ref sig .tc := ⟨.hbm, 1347, rfl⟩
abbrev main_call13_v12 : Ref sig .tc := ⟨.hbm, 1348, rfl⟩
abbrev main_call13_v13 : Ref sig .tc := ⟨.hbm, 1349, rfl⟩
abbrev main_call13_v14 : Ref sig .tc := ⟨.hbm, 1350, rfl⟩
abbrev main_call13_cst : Ref sig .tc := ⟨.hbm, 1351, rfl⟩
abbrev main_call13_v15 : Ref sig .tc := ⟨.hbm, 1352, rfl⟩
abbrev main_v59 : Ref sig .tc := ⟨.hbm, 1353, rfl⟩
abbrev main_v60 : Ref sig .tc := ⟨.hbm, 1354, rfl⟩
abbrev main_v61 : Ref sig .tc := ⟨.hbm, 1355, rfl⟩
abbrev main_v62 : Ref sig .tc := ⟨.hbm, 1356, rfl⟩
abbrev main_call14_c : Ref sig .tc := ⟨.hbm, 1357, rfl⟩
abbrev main_call14_v0 : Ref sig .tc := ⟨.hbm, 1358, rfl⟩
abbrev main_call14_v1 : Ref sig .tc := ⟨.hbm, 1359, rfl⟩
abbrev main_call14_c_0 : Ref sig .tc := ⟨.hbm, 1360, rfl⟩
abbrev main_call14_v2 : Ref sig .tc := ⟨.hbm, 1361, rfl⟩
abbrev main_call14_v3 : Ref sig .tc := ⟨.hbm, 1362, rfl⟩
abbrev main_call14_v4 : Ref sig .tc := ⟨.hbm, 1363, rfl⟩
abbrev main_call14_v5 : Ref sig .tc := ⟨.hbm, 1364, rfl⟩
abbrev main_call14_c_1 : Ref sig .tc := ⟨.hbm, 1365, rfl⟩
abbrev main_call14_c_2 : Ref sig .tc := ⟨.hbm, 1366, rfl⟩
abbrev main_call14_v6 : Ref sig .tc := ⟨.hbm, 1367, rfl⟩
abbrev main_call14_v7 : Ref sig .tc := ⟨.hbm, 1368, rfl⟩
abbrev main_call14_v8 : Ref sig .tc := ⟨.hbm, 1369, rfl⟩
abbrev main_call14_v9 : Ref sig .tc := ⟨.hbm, 1370, rfl⟩
abbrev main_call14_v10 : Ref sig .tc := ⟨.hbm, 1371, rfl⟩
abbrev main_call14_v11 : Ref sig .tc := ⟨.hbm, 1372, rfl⟩
abbrev main_call14_c_3 : Ref sig .tc := ⟨.hbm, 1373, rfl⟩
abbrev main_call14_v12 : Ref sig .tc := ⟨.hbm, 1374, rfl⟩
abbrev main_call14_v13 : Ref sig .tc := ⟨.hbm, 1375, rfl⟩
abbrev main_call14_v14 : Ref sig .tc := ⟨.hbm, 1376, rfl⟩
abbrev main_call14_cst : Ref sig .tc := ⟨.hbm, 1377, rfl⟩
abbrev main_call14_v15 : Ref sig .tc := ⟨.hbm, 1378, rfl⟩
abbrev main_v63 : Ref sig .tc := ⟨.hbm, 1379, rfl⟩
abbrev main_v64 : Ref sig .tc := ⟨.hbm, 1380, rfl⟩
abbrev main_v65 : Ref sig .tc := ⟨.hbm, 1381, rfl⟩
abbrev main_v66 : Ref sig .tc := ⟨.hbm, 1382, rfl⟩
abbrev main_call15_c : Ref sig .tc := ⟨.hbm, 1383, rfl⟩
abbrev main_call15_v0 : Ref sig .tc := ⟨.hbm, 1384, rfl⟩
abbrev main_call15_v1 : Ref sig .tc := ⟨.hbm, 1385, rfl⟩
abbrev main_call15_c_0 : Ref sig .tc := ⟨.hbm, 1386, rfl⟩
abbrev main_call15_v2 : Ref sig .tc := ⟨.hbm, 1387, rfl⟩
abbrev main_call15_v3 : Ref sig .tc := ⟨.hbm, 1388, rfl⟩
abbrev main_call15_v4 : Ref sig .tc := ⟨.hbm, 1389, rfl⟩
abbrev main_call15_v5 : Ref sig .tc := ⟨.hbm, 1390, rfl⟩
abbrev main_call15_c_1 : Ref sig .tc := ⟨.hbm, 1391, rfl⟩
abbrev main_call15_c_2 : Ref sig .tc := ⟨.hbm, 1392, rfl⟩
abbrev main_call15_v6 : Ref sig .tc := ⟨.hbm, 1393, rfl⟩
abbrev main_call15_v7 : Ref sig .tc := ⟨.hbm, 1394, rfl⟩
abbrev main_call15_v8 : Ref sig .tc := ⟨.hbm, 1395, rfl⟩
abbrev main_call15_v9 : Ref sig .tc := ⟨.hbm, 1396, rfl⟩
abbrev main_call15_v10 : Ref sig .tc := ⟨.hbm, 1397, rfl⟩
abbrev main_call15_v11 : Ref sig .tc := ⟨.hbm, 1398, rfl⟩
abbrev main_call15_c_3 : Ref sig .tc := ⟨.hbm, 1399, rfl⟩
abbrev main_call15_v12 : Ref sig .tc := ⟨.hbm, 1400, rfl⟩
abbrev main_call15_v13 : Ref sig .tc := ⟨.hbm, 1401, rfl⟩
abbrev main_call15_v14 : Ref sig .tc := ⟨.hbm, 1402, rfl⟩
abbrev main_call15_cst : Ref sig .tc := ⟨.hbm, 1403, rfl⟩
abbrev main_call15_v15 : Ref sig .tc := ⟨.hbm, 1404, rfl⟩
abbrev main_v67 : Ref sig .tc := ⟨.hbm, 1405, rfl⟩
abbrev main_v68 : Ref sig .tc := ⟨.hbm, 1406, rfl⟩
abbrev main_v69 : Ref sig .tc := ⟨.hbm, 1407, rfl⟩
abbrev main_v70 : Ref sig .tc := ⟨.hbm, 1408, rfl⟩
abbrev main_call16_c : Ref sig .tc := ⟨.hbm, 1409, rfl⟩
abbrev main_call16_v0 : Ref sig .tc := ⟨.hbm, 1410, rfl⟩
abbrev main_call16_v1 : Ref sig .tc := ⟨.hbm, 1411, rfl⟩
abbrev main_call16_c_0 : Ref sig .tc := ⟨.hbm, 1412, rfl⟩
abbrev main_call16_v2 : Ref sig .tc := ⟨.hbm, 1413, rfl⟩
abbrev main_call16_v3 : Ref sig .tc := ⟨.hbm, 1414, rfl⟩
abbrev main_call16_v4 : Ref sig .tc := ⟨.hbm, 1415, rfl⟩
abbrev main_call16_v5 : Ref sig .tc := ⟨.hbm, 1416, rfl⟩
abbrev main_call16_c_1 : Ref sig .tc := ⟨.hbm, 1417, rfl⟩
abbrev main_call16_c_2 : Ref sig .tc := ⟨.hbm, 1418, rfl⟩
abbrev main_call16_v6 : Ref sig .tc := ⟨.hbm, 1419, rfl⟩
abbrev main_call16_v7 : Ref sig .tc := ⟨.hbm, 1420, rfl⟩
abbrev main_call16_v8 : Ref sig .tc := ⟨.hbm, 1421, rfl⟩
abbrev main_call16_v9 : Ref sig .tc := ⟨.hbm, 1422, rfl⟩
abbrev main_call16_v10 : Ref sig .tc := ⟨.hbm, 1423, rfl⟩
abbrev main_call16_v11 : Ref sig .tc := ⟨.hbm, 1424, rfl⟩
abbrev main_call16_c_3 : Ref sig .tc := ⟨.hbm, 1425, rfl⟩
abbrev main_call16_v12 : Ref sig .tc := ⟨.hbm, 1426, rfl⟩
abbrev main_call16_v13 : Ref sig .tc := ⟨.hbm, 1427, rfl⟩
abbrev main_call16_v14 : Ref sig .tc := ⟨.hbm, 1428, rfl⟩
abbrev main_call16_cst : Ref sig .tc := ⟨.hbm, 1429, rfl⟩
abbrev main_call16_v15 : Ref sig .tc := ⟨.hbm, 1430, rfl⟩
abbrev main_v71 : Ref sig .tc := ⟨.hbm, 1431, rfl⟩
abbrev main_v72 : Ref sig .tc := ⟨.hbm, 1432, rfl⟩
abbrev main_v73 : Ref sig .tc := ⟨.hbm, 1433, rfl⟩
abbrev main_v74 : Ref sig .tc := ⟨.hbm, 1434, rfl⟩
abbrev main_call17_c : Ref sig .tc := ⟨.hbm, 1435, rfl⟩
abbrev main_call17_v0 : Ref sig .tc := ⟨.hbm, 1436, rfl⟩
abbrev main_call17_v1 : Ref sig .tc := ⟨.hbm, 1437, rfl⟩
abbrev main_call17_c_0 : Ref sig .tc := ⟨.hbm, 1438, rfl⟩
abbrev main_call17_v2 : Ref sig .tc := ⟨.hbm, 1439, rfl⟩
abbrev main_call17_v3 : Ref sig .tc := ⟨.hbm, 1440, rfl⟩
abbrev main_call17_v4 : Ref sig .tc := ⟨.hbm, 1441, rfl⟩
abbrev main_call17_v5 : Ref sig .tc := ⟨.hbm, 1442, rfl⟩
abbrev main_call17_c_1 : Ref sig .tc := ⟨.hbm, 1443, rfl⟩
abbrev main_call17_c_2 : Ref sig .tc := ⟨.hbm, 1444, rfl⟩
abbrev main_call17_v6 : Ref sig .tc := ⟨.hbm, 1445, rfl⟩
abbrev main_call17_v7 : Ref sig .tc := ⟨.hbm, 1446, rfl⟩
abbrev main_call17_v8 : Ref sig .tc := ⟨.hbm, 1447, rfl⟩
abbrev main_call17_v9 : Ref sig .tc := ⟨.hbm, 1448, rfl⟩
abbrev main_call17_v10 : Ref sig .tc := ⟨.hbm, 1449, rfl⟩
abbrev main_call17_v11 : Ref sig .tc := ⟨.hbm, 1450, rfl⟩
abbrev main_call17_c_3 : Ref sig .tc := ⟨.hbm, 1451, rfl⟩
abbrev main_call17_v12 : Ref sig .tc := ⟨.hbm, 1452, rfl⟩
abbrev main_call17_v13 : Ref sig .tc := ⟨.hbm, 1453, rfl⟩
abbrev main_call17_v14 : Ref sig .tc := ⟨.hbm, 1454, rfl⟩
abbrev main_call17_cst : Ref sig .tc := ⟨.hbm, 1455, rfl⟩
abbrev main_call17_v15 : Ref sig .tc := ⟨.hbm, 1456, rfl⟩
abbrev main_v75 : Ref sig .tc := ⟨.hbm, 1457, rfl⟩
abbrev main_v76 : Ref sig .tc := ⟨.hbm, 1458, rfl⟩
abbrev main_v77 : Ref sig .tc := ⟨.hbm, 1459, rfl⟩
abbrev main_v78 : Ref sig .tc := ⟨.hbm, 1460, rfl⟩
abbrev main_call18_c : Ref sig .tc := ⟨.hbm, 1461, rfl⟩
abbrev main_call18_v0 : Ref sig .tc := ⟨.hbm, 1462, rfl⟩
abbrev main_call18_v1 : Ref sig .tc := ⟨.hbm, 1463, rfl⟩
abbrev main_call18_c_0 : Ref sig .tc := ⟨.hbm, 1464, rfl⟩
abbrev main_call18_v2 : Ref sig .tc := ⟨.hbm, 1465, rfl⟩
abbrev main_call18_v3 : Ref sig .tc := ⟨.hbm, 1466, rfl⟩
abbrev main_call18_v4 : Ref sig .tc := ⟨.hbm, 1467, rfl⟩
abbrev main_call18_v5 : Ref sig .tc := ⟨.hbm, 1468, rfl⟩
abbrev main_call18_c_1 : Ref sig .tc := ⟨.hbm, 1469, rfl⟩
abbrev main_call18_c_2 : Ref sig .tc := ⟨.hbm, 1470, rfl⟩
abbrev main_call18_v6 : Ref sig .tc := ⟨.hbm, 1471, rfl⟩
abbrev main_call18_v7 : Ref sig .tc := ⟨.hbm, 1472, rfl⟩
abbrev main_call18_v8 : Ref sig .tc := ⟨.hbm, 1473, rfl⟩
abbrev main_call18_v9 : Ref sig .tc := ⟨.hbm, 1474, rfl⟩
abbrev main_call18_v10 : Ref sig .tc := ⟨.hbm, 1475, rfl⟩
abbrev main_call18_v11 : Ref sig .tc := ⟨.hbm, 1476, rfl⟩
abbrev main_call18_c_3 : Ref sig .tc := ⟨.hbm, 1477, rfl⟩
abbrev main_call18_v12 : Ref sig .tc := ⟨.hbm, 1478, rfl⟩
abbrev main_call18_v13 : Ref sig .tc := ⟨.hbm, 1479, rfl⟩
abbrev main_call18_v14 : Ref sig .tc := ⟨.hbm, 1480, rfl⟩
abbrev main_call18_cst : Ref sig .tc := ⟨.hbm, 1481, rfl⟩
abbrev main_call18_v15 : Ref sig .tc := ⟨.hbm, 1482, rfl⟩
abbrev main_v79 : Ref sig .tc := ⟨.hbm, 1483, rfl⟩
abbrev main_v80 : Ref sig .tc := ⟨.hbm, 1484, rfl⟩
abbrev main_v81 : Ref sig .tc := ⟨.hbm, 1485, rfl⟩
abbrev main_v82 : Ref sig .tc := ⟨.hbm, 1486, rfl⟩
abbrev main_call19_c : Ref sig .tc := ⟨.hbm, 1487, rfl⟩
abbrev main_call19_v0 : Ref sig .tc := ⟨.hbm, 1488, rfl⟩
abbrev main_call19_v1 : Ref sig .tc := ⟨.hbm, 1489, rfl⟩
abbrev main_call19_c_0 : Ref sig .tc := ⟨.hbm, 1490, rfl⟩
abbrev main_call19_v2 : Ref sig .tc := ⟨.hbm, 1491, rfl⟩
abbrev main_call19_v3 : Ref sig .tc := ⟨.hbm, 1492, rfl⟩
abbrev main_call19_v4 : Ref sig .tc := ⟨.hbm, 1493, rfl⟩
abbrev main_call19_v5 : Ref sig .tc := ⟨.hbm, 1494, rfl⟩
abbrev main_call19_c_1 : Ref sig .tc := ⟨.hbm, 1495, rfl⟩
abbrev main_call19_c_2 : Ref sig .tc := ⟨.hbm, 1496, rfl⟩
abbrev main_call19_v6 : Ref sig .tc := ⟨.hbm, 1497, rfl⟩
abbrev main_call19_v7 : Ref sig .tc := ⟨.hbm, 1498, rfl⟩
abbrev main_call19_v8 : Ref sig .tc := ⟨.hbm, 1499, rfl⟩
abbrev main_call19_v9 : Ref sig .tc := ⟨.hbm, 1500, rfl⟩
abbrev main_call19_v10 : Ref sig .tc := ⟨.hbm, 1501, rfl⟩
abbrev main_call19_v11 : Ref sig .tc := ⟨.hbm, 1502, rfl⟩
abbrev main_call19_c_3 : Ref sig .tc := ⟨.hbm, 1503, rfl⟩
abbrev main_call19_v12 : Ref sig .tc := ⟨.hbm, 1504, rfl⟩
abbrev main_call19_v13 : Ref sig .tc := ⟨.hbm, 1505, rfl⟩
abbrev main_call19_v14 : Ref sig .tc := ⟨.hbm, 1506, rfl⟩
abbrev main_call19_cst : Ref sig .tc := ⟨.hbm, 1507, rfl⟩
abbrev main_call19_v15 : Ref sig .tc := ⟨.hbm, 1508, rfl⟩
abbrev main_v83 : Ref sig .tc := ⟨.hbm, 1509, rfl⟩
abbrev main_v84 : Ref sig .tc := ⟨.hbm, 1510, rfl⟩
abbrev main_v85 : Ref sig .tc := ⟨.hbm, 1511, rfl⟩
abbrev main_v86 : Ref sig .tc := ⟨.hbm, 1512, rfl⟩
abbrev main_call20_c : Ref sig .tc := ⟨.hbm, 1513, rfl⟩
abbrev main_call20_v0 : Ref sig .tc := ⟨.hbm, 1514, rfl⟩
abbrev main_call20_v1 : Ref sig .tc := ⟨.hbm, 1515, rfl⟩
abbrev main_call20_c_0 : Ref sig .tc := ⟨.hbm, 1516, rfl⟩
abbrev main_call20_v2 : Ref sig .tc := ⟨.hbm, 1517, rfl⟩
abbrev main_call20_v3 : Ref sig .tc := ⟨.hbm, 1518, rfl⟩
abbrev main_call20_v4 : Ref sig .tc := ⟨.hbm, 1519, rfl⟩
abbrev main_call20_v5 : Ref sig .tc := ⟨.hbm, 1520, rfl⟩
abbrev main_call20_c_1 : Ref sig .tc := ⟨.hbm, 1521, rfl⟩
abbrev main_call20_c_2 : Ref sig .tc := ⟨.hbm, 1522, rfl⟩
abbrev main_call20_v6 : Ref sig .tc := ⟨.hbm, 1523, rfl⟩
abbrev main_call20_v7 : Ref sig .tc := ⟨.hbm, 1524, rfl⟩
abbrev main_call20_v8 : Ref sig .tc := ⟨.hbm, 1525, rfl⟩
abbrev main_call20_v9 : Ref sig .tc := ⟨.hbm, 1526, rfl⟩
abbrev main_call20_v10 : Ref sig .tc := ⟨.hbm, 1527, rfl⟩
abbrev main_call20_v11 : Ref sig .tc := ⟨.hbm, 1528, rfl⟩
abbrev main_call20_c_3 : Ref sig .tc := ⟨.hbm, 1529, rfl⟩
abbrev main_call20_v12 : Ref sig .tc := ⟨.hbm, 1530, rfl⟩
abbrev main_call20_v13 : Ref sig .tc := ⟨.hbm, 1531, rfl⟩
abbrev main_call20_v14 : Ref sig .tc := ⟨.hbm, 1532, rfl⟩
abbrev main_call20_cst : Ref sig .tc := ⟨.hbm, 1533, rfl⟩
abbrev main_call20_v15 : Ref sig .tc := ⟨.hbm, 1534, rfl⟩
abbrev main_v87 : Ref sig .tc := ⟨.hbm, 1535, rfl⟩
abbrev main_v88 : Ref sig .tc := ⟨.hbm, 1536, rfl⟩
abbrev main_v89 : Ref sig .tc := ⟨.hbm, 1537, rfl⟩
abbrev main_v90 : Ref sig .tc := ⟨.hbm, 1538, rfl⟩
abbrev main_call21_c : Ref sig .tc := ⟨.hbm, 1539, rfl⟩
abbrev main_call21_v0 : Ref sig .tc := ⟨.hbm, 1540, rfl⟩
abbrev main_call21_v1 : Ref sig .tc := ⟨.hbm, 1541, rfl⟩
abbrev main_call21_c_0 : Ref sig .tc := ⟨.hbm, 1542, rfl⟩
abbrev main_call21_v2 : Ref sig .tc := ⟨.hbm, 1543, rfl⟩
abbrev main_call21_v3 : Ref sig .tc := ⟨.hbm, 1544, rfl⟩
abbrev main_call21_v4 : Ref sig .tc := ⟨.hbm, 1545, rfl⟩
abbrev main_call21_v5 : Ref sig .tc := ⟨.hbm, 1546, rfl⟩
abbrev main_call21_c_1 : Ref sig .tc := ⟨.hbm, 1547, rfl⟩
abbrev main_call21_c_2 : Ref sig .tc := ⟨.hbm, 1548, rfl⟩
abbrev main_call21_v6 : Ref sig .tc := ⟨.hbm, 1549, rfl⟩
abbrev main_call21_v7 : Ref sig .tc := ⟨.hbm, 1550, rfl⟩
abbrev main_call21_v8 : Ref sig .tc := ⟨.hbm, 1551, rfl⟩
abbrev main_call21_v9 : Ref sig .tc := ⟨.hbm, 1552, rfl⟩
abbrev main_call21_v10 : Ref sig .tc := ⟨.hbm, 1553, rfl⟩
abbrev main_call21_v11 : Ref sig .tc := ⟨.hbm, 1554, rfl⟩
abbrev main_call21_c_3 : Ref sig .tc := ⟨.hbm, 1555, rfl⟩
abbrev main_call21_v12 : Ref sig .tc := ⟨.hbm, 1556, rfl⟩
abbrev main_call21_v13 : Ref sig .tc := ⟨.hbm, 1557, rfl⟩
abbrev main_call21_v14 : Ref sig .tc := ⟨.hbm, 1558, rfl⟩
abbrev main_call21_cst : Ref sig .tc := ⟨.hbm, 1559, rfl⟩
abbrev main_call21_v15 : Ref sig .tc := ⟨.hbm, 1560, rfl⟩
abbrev main_v91 : Ref sig .tc := ⟨.hbm, 1561, rfl⟩
abbrev main_v92 : Ref sig .tc := ⟨.hbm, 1562, rfl⟩
abbrev main_v93 : Ref sig .tc := ⟨.hbm, 1563, rfl⟩
abbrev main_v94 : Ref sig .tc := ⟨.hbm, 1564, rfl⟩
abbrev main_call22_c : Ref sig .tc := ⟨.hbm, 1565, rfl⟩
abbrev main_call22_v0 : Ref sig .tc := ⟨.hbm, 1566, rfl⟩
abbrev main_call22_v1 : Ref sig .tc := ⟨.hbm, 1567, rfl⟩
abbrev main_call22_c_0 : Ref sig .tc := ⟨.hbm, 1568, rfl⟩
abbrev main_call22_v2 : Ref sig .tc := ⟨.hbm, 1569, rfl⟩
abbrev main_call22_v3 : Ref sig .tc := ⟨.hbm, 1570, rfl⟩
abbrev main_call22_v4 : Ref sig .tc := ⟨.hbm, 1571, rfl⟩
abbrev main_call22_v5 : Ref sig .tc := ⟨.hbm, 1572, rfl⟩
abbrev main_call22_c_1 : Ref sig .tc := ⟨.hbm, 1573, rfl⟩
abbrev main_call22_c_2 : Ref sig .tc := ⟨.hbm, 1574, rfl⟩
abbrev main_call22_v6 : Ref sig .tc := ⟨.hbm, 1575, rfl⟩
abbrev main_call22_v7 : Ref sig .tc := ⟨.hbm, 1576, rfl⟩
abbrev main_call22_v8 : Ref sig .tc := ⟨.hbm, 1577, rfl⟩
abbrev main_call22_v9 : Ref sig .tc := ⟨.hbm, 1578, rfl⟩
abbrev main_call22_v10 : Ref sig .tc := ⟨.hbm, 1579, rfl⟩
abbrev main_call22_v11 : Ref sig .tc := ⟨.hbm, 1580, rfl⟩
abbrev main_call22_c_3 : Ref sig .tc := ⟨.hbm, 1581, rfl⟩
abbrev main_call22_v12 : Ref sig .tc := ⟨.hbm, 1582, rfl⟩
abbrev main_call22_v13 : Ref sig .tc := ⟨.hbm, 1583, rfl⟩
abbrev main_call22_v14 : Ref sig .tc := ⟨.hbm, 1584, rfl⟩
abbrev main_call22_cst : Ref sig .tc := ⟨.hbm, 1585, rfl⟩
abbrev main_call22_v15 : Ref sig .tc := ⟨.hbm, 1586, rfl⟩
abbrev main_v95 : Ref sig .tc := ⟨.hbm, 1587, rfl⟩
abbrev main_v96 : Ref sig .tc := ⟨.hbm, 1588, rfl⟩
abbrev main_v97 : Ref sig .tc := ⟨.hbm, 1589, rfl⟩
abbrev main_v98 : Ref sig .tc := ⟨.hbm, 1590, rfl⟩
abbrev main_call23_c : Ref sig .tc := ⟨.hbm, 1591, rfl⟩
abbrev main_call23_v0 : Ref sig .tc := ⟨.hbm, 1592, rfl⟩
abbrev main_call23_v1 : Ref sig .tc := ⟨.hbm, 1593, rfl⟩
abbrev main_call23_c_0 : Ref sig .tc := ⟨.hbm, 1594, rfl⟩
abbrev main_call23_v2 : Ref sig .tc := ⟨.hbm, 1595, rfl⟩
abbrev main_call23_v3 : Ref sig .tc := ⟨.hbm, 1596, rfl⟩
abbrev main_call23_v4 : Ref sig .tc := ⟨.hbm, 1597, rfl⟩
abbrev main_call23_v5 : Ref sig .tc := ⟨.hbm, 1598, rfl⟩
abbrev main_call23_c_1 : Ref sig .tc := ⟨.hbm, 1599, rfl⟩
abbrev main_call23_c_2 : Ref sig .tc := ⟨.hbm, 1600, rfl⟩
abbrev main_call23_v6 : Ref sig .tc := ⟨.hbm, 1601, rfl⟩
abbrev main_call23_v7 : Ref sig .tc := ⟨.hbm, 1602, rfl⟩
abbrev main_call23_v8 : Ref sig .tc := ⟨.hbm, 1603, rfl⟩
abbrev main_call23_v9 : Ref sig .tc := ⟨.hbm, 1604, rfl⟩
abbrev main_call23_v10 : Ref sig .tc := ⟨.hbm, 1605, rfl⟩
abbrev main_call23_v11 : Ref sig .tc := ⟨.hbm, 1606, rfl⟩
abbrev main_call23_c_3 : Ref sig .tc := ⟨.hbm, 1607, rfl⟩
abbrev main_call23_v12 : Ref sig .tc := ⟨.hbm, 1608, rfl⟩
abbrev main_call23_v13 : Ref sig .tc := ⟨.hbm, 1609, rfl⟩
abbrev main_call23_v14 : Ref sig .tc := ⟨.hbm, 1610, rfl⟩
abbrev main_call23_cst : Ref sig .tc := ⟨.hbm, 1611, rfl⟩
abbrev main_call23_v15 : Ref sig .tc := ⟨.hbm, 1612, rfl⟩
abbrev main_v99 : Ref sig .tc := ⟨.hbm, 1613, rfl⟩
abbrev main_v100 : Ref sig .tc := ⟨.hbm, 1614, rfl⟩
abbrev main_v101 : Ref sig .tc := ⟨.hbm, 1615, rfl⟩
abbrev main_v102 : Ref sig .tc := ⟨.hbm, 1616, rfl⟩
abbrev main_call24_c : Ref sig .tc := ⟨.hbm, 1617, rfl⟩
abbrev main_call24_v0 : Ref sig .tc := ⟨.hbm, 1618, rfl⟩
abbrev main_call24_v1 : Ref sig .tc := ⟨.hbm, 1619, rfl⟩
abbrev main_call24_c_0 : Ref sig .tc := ⟨.hbm, 1620, rfl⟩
abbrev main_call24_v2 : Ref sig .tc := ⟨.hbm, 1621, rfl⟩
abbrev main_call24_v3 : Ref sig .tc := ⟨.hbm, 1622, rfl⟩
abbrev main_call24_v4 : Ref sig .tc := ⟨.hbm, 1623, rfl⟩
abbrev main_call24_v5 : Ref sig .tc := ⟨.hbm, 1624, rfl⟩
abbrev main_call24_c_1 : Ref sig .tc := ⟨.hbm, 1625, rfl⟩
abbrev main_call24_c_2 : Ref sig .tc := ⟨.hbm, 1626, rfl⟩
abbrev main_call24_v6 : Ref sig .tc := ⟨.hbm, 1627, rfl⟩
abbrev main_call24_v7 : Ref sig .tc := ⟨.hbm, 1628, rfl⟩
abbrev main_call24_v8 : Ref sig .tc := ⟨.hbm, 1629, rfl⟩
abbrev main_call24_v9 : Ref sig .tc := ⟨.hbm, 1630, rfl⟩
abbrev main_call24_v10 : Ref sig .tc := ⟨.hbm, 1631, rfl⟩
abbrev main_call24_v11 : Ref sig .tc := ⟨.hbm, 1632, rfl⟩
abbrev main_call24_c_3 : Ref sig .tc := ⟨.hbm, 1633, rfl⟩
abbrev main_call24_v12 : Ref sig .tc := ⟨.hbm, 1634, rfl⟩
abbrev main_call24_v13 : Ref sig .tc := ⟨.hbm, 1635, rfl⟩
abbrev main_call24_v14 : Ref sig .tc := ⟨.hbm, 1636, rfl⟩
abbrev main_call24_cst : Ref sig .tc := ⟨.hbm, 1637, rfl⟩
abbrev main_call24_v15 : Ref sig .tc := ⟨.hbm, 1638, rfl⟩
abbrev main_v103 : Ref sig .tc := ⟨.hbm, 1639, rfl⟩
abbrev main_v104 : Ref sig .tc := ⟨.hbm, 1640, rfl⟩
abbrev main_v105 : Ref sig .tc := ⟨.hbm, 1641, rfl⟩
abbrev main_v106 : Ref sig .tc := ⟨.hbm, 1642, rfl⟩
abbrev main_call25_c : Ref sig .tc := ⟨.hbm, 1643, rfl⟩
abbrev main_call25_v0 : Ref sig .tc := ⟨.hbm, 1644, rfl⟩
abbrev main_call25_v1 : Ref sig .tc := ⟨.hbm, 1645, rfl⟩
abbrev main_call25_c_0 : Ref sig .tc := ⟨.hbm, 1646, rfl⟩
abbrev main_call25_v2 : Ref sig .tc := ⟨.hbm, 1647, rfl⟩
abbrev main_call25_v3 : Ref sig .tc := ⟨.hbm, 1648, rfl⟩
abbrev main_call25_v4 : Ref sig .tc := ⟨.hbm, 1649, rfl⟩
abbrev main_call25_v5 : Ref sig .tc := ⟨.hbm, 1650, rfl⟩
abbrev main_call25_c_1 : Ref sig .tc := ⟨.hbm, 1651, rfl⟩
abbrev main_call25_c_2 : Ref sig .tc := ⟨.hbm, 1652, rfl⟩
abbrev main_call25_v6 : Ref sig .tc := ⟨.hbm, 1653, rfl⟩
abbrev main_call25_v7 : Ref sig .tc := ⟨.hbm, 1654, rfl⟩
abbrev main_call25_v8 : Ref sig .tc := ⟨.hbm, 1655, rfl⟩
abbrev main_call25_v9 : Ref sig .tc := ⟨.hbm, 1656, rfl⟩
abbrev main_call25_v10 : Ref sig .tc := ⟨.hbm, 1657, rfl⟩
abbrev main_call25_v11 : Ref sig .tc := ⟨.hbm, 1658, rfl⟩
abbrev main_call25_c_3 : Ref sig .tc := ⟨.hbm, 1659, rfl⟩
abbrev main_call25_v12 : Ref sig .tc := ⟨.hbm, 1660, rfl⟩
abbrev main_call25_v13 : Ref sig .tc := ⟨.hbm, 1661, rfl⟩
abbrev main_call25_v14 : Ref sig .tc := ⟨.hbm, 1662, rfl⟩
abbrev main_call25_cst : Ref sig .tc := ⟨.hbm, 1663, rfl⟩
abbrev main_call25_v15 : Ref sig .tc := ⟨.hbm, 1664, rfl⟩
abbrev main_v107 : Ref sig .tc := ⟨.hbm, 1665, rfl⟩
abbrev main_v108 : Ref sig .tc := ⟨.hbm, 1666, rfl⟩
abbrev main_v109 : Ref sig .tc := ⟨.hbm, 1667, rfl⟩
abbrev main_v110 : Ref sig .tc := ⟨.hbm, 1668, rfl⟩
abbrev main_call26_c : Ref sig .tc := ⟨.hbm, 1669, rfl⟩
abbrev main_call26_v0 : Ref sig .tc := ⟨.hbm, 1670, rfl⟩
abbrev main_call26_v1 : Ref sig .tc := ⟨.hbm, 1671, rfl⟩
abbrev main_call26_c_0 : Ref sig .tc := ⟨.hbm, 1672, rfl⟩
abbrev main_call26_v2 : Ref sig .tc := ⟨.hbm, 1673, rfl⟩
abbrev main_call26_v3 : Ref sig .tc := ⟨.hbm, 1674, rfl⟩
abbrev main_call26_v4 : Ref sig .tc := ⟨.hbm, 1675, rfl⟩
abbrev main_call26_v5 : Ref sig .tc := ⟨.hbm, 1676, rfl⟩
abbrev main_call26_c_1 : Ref sig .tc := ⟨.hbm, 1677, rfl⟩
abbrev main_call26_c_2 : Ref sig .tc := ⟨.hbm, 1678, rfl⟩
abbrev main_call26_v6 : Ref sig .tc := ⟨.hbm, 1679, rfl⟩
abbrev main_call26_v7 : Ref sig .tc := ⟨.hbm, 1680, rfl⟩
abbrev main_call26_v8 : Ref sig .tc := ⟨.hbm, 1681, rfl⟩
abbrev main_call26_v9 : Ref sig .tc := ⟨.hbm, 1682, rfl⟩
abbrev main_call26_v10 : Ref sig .tc := ⟨.hbm, 1683, rfl⟩
abbrev main_call26_v11 : Ref sig .tc := ⟨.hbm, 1684, rfl⟩
abbrev main_call26_c_3 : Ref sig .tc := ⟨.hbm, 1685, rfl⟩
abbrev main_call26_v12 : Ref sig .tc := ⟨.hbm, 1686, rfl⟩
abbrev main_call26_v13 : Ref sig .tc := ⟨.hbm, 1687, rfl⟩
abbrev main_call26_v14 : Ref sig .tc := ⟨.hbm, 1688, rfl⟩
abbrev main_call26_cst : Ref sig .tc := ⟨.hbm, 1689, rfl⟩
abbrev main_call26_v15 : Ref sig .tc := ⟨.hbm, 1690, rfl⟩
abbrev main_v111 : Ref sig .tc := ⟨.hbm, 1691, rfl⟩
abbrev main_v112 : Ref sig .tc := ⟨.hbm, 1692, rfl⟩
abbrev main_v113 : Ref sig .tc := ⟨.hbm, 1693, rfl⟩
abbrev main_v114 : Ref sig .tc := ⟨.hbm, 1694, rfl⟩
abbrev main_call27_c : Ref sig .tc := ⟨.hbm, 1695, rfl⟩
abbrev main_call27_v0 : Ref sig .tc := ⟨.hbm, 1696, rfl⟩
abbrev main_call27_v1 : Ref sig .tc := ⟨.hbm, 1697, rfl⟩
abbrev main_call27_c_0 : Ref sig .tc := ⟨.hbm, 1698, rfl⟩
abbrev main_call27_v2 : Ref sig .tc := ⟨.hbm, 1699, rfl⟩
abbrev main_call27_v3 : Ref sig .tc := ⟨.hbm, 1700, rfl⟩
abbrev main_call27_v4 : Ref sig .tc := ⟨.hbm, 1701, rfl⟩
abbrev main_call27_v5 : Ref sig .tc := ⟨.hbm, 1702, rfl⟩
abbrev main_call27_c_1 : Ref sig .tc := ⟨.hbm, 1703, rfl⟩
abbrev main_call27_c_2 : Ref sig .tc := ⟨.hbm, 1704, rfl⟩
abbrev main_call27_v6 : Ref sig .tc := ⟨.hbm, 1705, rfl⟩
abbrev main_call27_v7 : Ref sig .tc := ⟨.hbm, 1706, rfl⟩
abbrev main_call27_v8 : Ref sig .tc := ⟨.hbm, 1707, rfl⟩
abbrev main_call27_v9 : Ref sig .tc := ⟨.hbm, 1708, rfl⟩
abbrev main_call27_v10 : Ref sig .tc := ⟨.hbm, 1709, rfl⟩
abbrev main_call27_v11 : Ref sig .tc := ⟨.hbm, 1710, rfl⟩
abbrev main_call27_c_3 : Ref sig .tc := ⟨.hbm, 1711, rfl⟩
abbrev main_call27_v12 : Ref sig .tc := ⟨.hbm, 1712, rfl⟩
abbrev main_call27_v13 : Ref sig .tc := ⟨.hbm, 1713, rfl⟩
abbrev main_call27_v14 : Ref sig .tc := ⟨.hbm, 1714, rfl⟩
abbrev main_call27_cst : Ref sig .tc := ⟨.hbm, 1715, rfl⟩
abbrev main_call27_v15 : Ref sig .tc := ⟨.hbm, 1716, rfl⟩
abbrev main_v115 : Ref sig .tc := ⟨.hbm, 1717, rfl⟩
abbrev main_v116 : Ref sig .tc := ⟨.hbm, 1718, rfl⟩
abbrev main_v117 : Ref sig .tc := ⟨.hbm, 1719, rfl⟩
abbrev main_v118 : Ref sig .tc := ⟨.hbm, 1720, rfl⟩
abbrev main_call28_c : Ref sig .tc := ⟨.hbm, 1721, rfl⟩
abbrev main_call28_v0 : Ref sig .tc := ⟨.hbm, 1722, rfl⟩
abbrev main_call28_v1 : Ref sig .tc := ⟨.hbm, 1723, rfl⟩
abbrev main_call28_c_0 : Ref sig .tc := ⟨.hbm, 1724, rfl⟩
abbrev main_call28_v2 : Ref sig .tc := ⟨.hbm, 1725, rfl⟩
abbrev main_call28_v3 : Ref sig .tc := ⟨.hbm, 1726, rfl⟩
abbrev main_call28_v4 : Ref sig .tc := ⟨.hbm, 1727, rfl⟩
abbrev main_call28_v5 : Ref sig .tc := ⟨.hbm, 1728, rfl⟩
abbrev main_call28_c_1 : Ref sig .tc := ⟨.hbm, 1729, rfl⟩
abbrev main_call28_c_2 : Ref sig .tc := ⟨.hbm, 1730, rfl⟩
abbrev main_call28_v6 : Ref sig .tc := ⟨.hbm, 1731, rfl⟩
abbrev main_call28_v7 : Ref sig .tc := ⟨.hbm, 1732, rfl⟩
abbrev main_call28_v8 : Ref sig .tc := ⟨.hbm, 1733, rfl⟩
abbrev main_call28_v9 : Ref sig .tc := ⟨.hbm, 1734, rfl⟩
abbrev main_call28_v10 : Ref sig .tc := ⟨.hbm, 1735, rfl⟩
abbrev main_call28_v11 : Ref sig .tc := ⟨.hbm, 1736, rfl⟩
abbrev main_call28_c_3 : Ref sig .tc := ⟨.hbm, 1737, rfl⟩
abbrev main_call28_v12 : Ref sig .tc := ⟨.hbm, 1738, rfl⟩
abbrev main_call28_v13 : Ref sig .tc := ⟨.hbm, 1739, rfl⟩
abbrev main_call28_v14 : Ref sig .tc := ⟨.hbm, 1740, rfl⟩
abbrev main_call28_cst : Ref sig .tc := ⟨.hbm, 1741, rfl⟩
abbrev main_call28_v15 : Ref sig .tc := ⟨.hbm, 1742, rfl⟩
abbrev main_v119 : Ref sig .tc := ⟨.hbm, 1743, rfl⟩
abbrev main_v120 : Ref sig .tc := ⟨.hbm, 1744, rfl⟩
abbrev main_v121 : Ref sig .tc := ⟨.hbm, 1745, rfl⟩
abbrev main_v122 : Ref sig .tc := ⟨.hbm, 1746, rfl⟩
abbrev main_call29_c : Ref sig .tc := ⟨.hbm, 1747, rfl⟩
abbrev main_call29_v0 : Ref sig .tc := ⟨.hbm, 1748, rfl⟩
abbrev main_call29_v1 : Ref sig .tc := ⟨.hbm, 1749, rfl⟩
abbrev main_call29_c_0 : Ref sig .tc := ⟨.hbm, 1750, rfl⟩
abbrev main_call29_v2 : Ref sig .tc := ⟨.hbm, 1751, rfl⟩
abbrev main_call29_v3 : Ref sig .tc := ⟨.hbm, 1752, rfl⟩
abbrev main_call29_v4 : Ref sig .tc := ⟨.hbm, 1753, rfl⟩
abbrev main_call29_v5 : Ref sig .tc := ⟨.hbm, 1754, rfl⟩
abbrev main_call29_c_1 : Ref sig .tc := ⟨.hbm, 1755, rfl⟩
abbrev main_call29_c_2 : Ref sig .tc := ⟨.hbm, 1756, rfl⟩
abbrev main_call29_v6 : Ref sig .tc := ⟨.hbm, 1757, rfl⟩
abbrev main_call29_v7 : Ref sig .tc := ⟨.hbm, 1758, rfl⟩
abbrev main_call29_v8 : Ref sig .tc := ⟨.hbm, 1759, rfl⟩
abbrev main_call29_v9 : Ref sig .tc := ⟨.hbm, 1760, rfl⟩
abbrev main_call29_v10 : Ref sig .tc := ⟨.hbm, 1761, rfl⟩
abbrev main_call29_v11 : Ref sig .tc := ⟨.hbm, 1762, rfl⟩
abbrev main_call29_c_3 : Ref sig .tc := ⟨.hbm, 1763, rfl⟩
abbrev main_call29_v12 : Ref sig .tc := ⟨.hbm, 1764, rfl⟩
abbrev main_call29_v13 : Ref sig .tc := ⟨.hbm, 1765, rfl⟩
abbrev main_call29_v14 : Ref sig .tc := ⟨.hbm, 1766, rfl⟩
abbrev main_call29_cst : Ref sig .tc := ⟨.hbm, 1767, rfl⟩
abbrev main_call29_v15 : Ref sig .tc := ⟨.hbm, 1768, rfl⟩
abbrev main_v123 : Ref sig .tc := ⟨.hbm, 1769, rfl⟩
abbrev main_v124 : Ref sig .tc := ⟨.hbm, 1770, rfl⟩
abbrev main_v125 : Ref sig .tc := ⟨.hbm, 1771, rfl⟩
abbrev main_v126 : Ref sig .tc := ⟨.hbm, 1772, rfl⟩
abbrev main_call30_c : Ref sig .tc := ⟨.hbm, 1773, rfl⟩
abbrev main_call30_v0 : Ref sig .tc := ⟨.hbm, 1774, rfl⟩
abbrev main_call30_v1 : Ref sig .tc := ⟨.hbm, 1775, rfl⟩
abbrev main_call30_c_0 : Ref sig .tc := ⟨.hbm, 1776, rfl⟩
abbrev main_call30_v2 : Ref sig .tc := ⟨.hbm, 1777, rfl⟩
abbrev main_call30_v3 : Ref sig .tc := ⟨.hbm, 1778, rfl⟩
abbrev main_call30_v4 : Ref sig .tc := ⟨.hbm, 1779, rfl⟩
abbrev main_call30_v5 : Ref sig .tc := ⟨.hbm, 1780, rfl⟩
abbrev main_call30_c_1 : Ref sig .tc := ⟨.hbm, 1781, rfl⟩
abbrev main_call30_c_2 : Ref sig .tc := ⟨.hbm, 1782, rfl⟩
abbrev main_call30_v6 : Ref sig .tc := ⟨.hbm, 1783, rfl⟩
abbrev main_call30_v7 : Ref sig .tc := ⟨.hbm, 1784, rfl⟩
abbrev main_call30_v8 : Ref sig .tc := ⟨.hbm, 1785, rfl⟩
abbrev main_call30_v9 : Ref sig .tc := ⟨.hbm, 1786, rfl⟩
abbrev main_call30_v10 : Ref sig .tc := ⟨.hbm, 1787, rfl⟩
abbrev main_call30_v11 : Ref sig .tc := ⟨.hbm, 1788, rfl⟩
abbrev main_call30_c_3 : Ref sig .tc := ⟨.hbm, 1789, rfl⟩
abbrev main_call30_v12 : Ref sig .tc := ⟨.hbm, 1790, rfl⟩
abbrev main_call30_v13 : Ref sig .tc := ⟨.hbm, 1791, rfl⟩
abbrev main_call30_v14 : Ref sig .tc := ⟨.hbm, 1792, rfl⟩
abbrev main_call30_cst : Ref sig .tc := ⟨.hbm, 1793, rfl⟩
abbrev main_call30_v15 : Ref sig .tc := ⟨.hbm, 1794, rfl⟩
abbrev main_v127 : Ref sig .tc := ⟨.hbm, 1795, rfl⟩
abbrev main_v128 : Ref sig .tc := ⟨.hbm, 1796, rfl⟩
abbrev main_v129 : Ref sig .tc := ⟨.hbm, 1797, rfl⟩
abbrev main_v130 : Ref sig .tc := ⟨.hbm, 1798, rfl⟩
abbrev main_call31_c : Ref sig .tc := ⟨.hbm, 1799, rfl⟩
abbrev main_call31_v0 : Ref sig .tc := ⟨.hbm, 1800, rfl⟩
abbrev main_call31_v1 : Ref sig .tc := ⟨.hbm, 1801, rfl⟩
abbrev main_call31_c_0 : Ref sig .tc := ⟨.hbm, 1802, rfl⟩
abbrev main_call31_v2 : Ref sig .tc := ⟨.hbm, 1803, rfl⟩
abbrev main_call31_v3 : Ref sig .tc := ⟨.hbm, 1804, rfl⟩
abbrev main_call31_v4 : Ref sig .tc := ⟨.hbm, 1805, rfl⟩
abbrev main_call31_v5 : Ref sig .tc := ⟨.hbm, 1806, rfl⟩
abbrev main_call31_c_1 : Ref sig .tc := ⟨.hbm, 1807, rfl⟩
abbrev main_call31_c_2 : Ref sig .tc := ⟨.hbm, 1808, rfl⟩
abbrev main_call31_v6 : Ref sig .tc := ⟨.hbm, 1809, rfl⟩
abbrev main_call31_v7 : Ref sig .tc := ⟨.hbm, 1810, rfl⟩
abbrev main_call31_v8 : Ref sig .tc := ⟨.hbm, 1811, rfl⟩
abbrev main_call31_v9 : Ref sig .tc := ⟨.hbm, 1812, rfl⟩
abbrev main_call31_v10 : Ref sig .tc := ⟨.hbm, 1813, rfl⟩
abbrev main_call31_v11 : Ref sig .tc := ⟨.hbm, 1814, rfl⟩
abbrev main_call31_c_3 : Ref sig .tc := ⟨.hbm, 1815, rfl⟩
abbrev main_call31_v12 : Ref sig .tc := ⟨.hbm, 1816, rfl⟩
abbrev main_call31_v13 : Ref sig .tc := ⟨.hbm, 1817, rfl⟩
abbrev main_call31_v14 : Ref sig .tc := ⟨.hbm, 1818, rfl⟩
abbrev main_call31_cst : Ref sig .tc := ⟨.hbm, 1819, rfl⟩
abbrev main_call31_v15 : Ref sig .tc := ⟨.hbm, 1820, rfl⟩
abbrev main_v131 : Ref sig .tc := ⟨.hbm, 1821, rfl⟩
abbrev main_v132 : Ref sig .tc := ⟨.hbm, 1822, rfl⟩
abbrev main_v133 : Ref sig .tc := ⟨.hbm, 1823, rfl⟩
abbrev main_v134 : Ref sig .tc := ⟨.hbm, 1824, rfl⟩
abbrev main_call32_c : Ref sig .tc := ⟨.hbm, 1825, rfl⟩
abbrev main_call32_v0 : Ref sig .tc := ⟨.hbm, 1826, rfl⟩
abbrev main_call32_v1 : Ref sig .tc := ⟨.hbm, 1827, rfl⟩
abbrev main_call32_c_0 : Ref sig .tc := ⟨.hbm, 1828, rfl⟩
abbrev main_call32_v2 : Ref sig .tc := ⟨.hbm, 1829, rfl⟩
abbrev main_call32_v3 : Ref sig .tc := ⟨.hbm, 1830, rfl⟩
abbrev main_call32_v4 : Ref sig .tc := ⟨.hbm, 1831, rfl⟩
abbrev main_call32_v5 : Ref sig .tc := ⟨.hbm, 1832, rfl⟩
abbrev main_call32_c_1 : Ref sig .tc := ⟨.hbm, 1833, rfl⟩
abbrev main_call32_c_2 : Ref sig .tc := ⟨.hbm, 1834, rfl⟩
abbrev main_call32_v6 : Ref sig .tc := ⟨.hbm, 1835, rfl⟩
abbrev main_call32_v7 : Ref sig .tc := ⟨.hbm, 1836, rfl⟩
abbrev main_call32_v8 : Ref sig .tc := ⟨.hbm, 1837, rfl⟩
abbrev main_call32_v9 : Ref sig .tc := ⟨.hbm, 1838, rfl⟩
abbrev main_call32_v10 : Ref sig .tc := ⟨.hbm, 1839, rfl⟩
abbrev main_call32_v11 : Ref sig .tc := ⟨.hbm, 1840, rfl⟩
abbrev main_call32_c_3 : Ref sig .tc := ⟨.hbm, 1841, rfl⟩
abbrev main_call32_v12 : Ref sig .tc := ⟨.hbm, 1842, rfl⟩
abbrev main_call32_v13 : Ref sig .tc := ⟨.hbm, 1843, rfl⟩
abbrev main_call32_v14 : Ref sig .tc := ⟨.hbm, 1844, rfl⟩
abbrev main_call32_cst : Ref sig .tc := ⟨.hbm, 1845, rfl⟩
abbrev main_call32_v15 : Ref sig .tc := ⟨.hbm, 1846, rfl⟩
abbrev main_v135 : Ref sig .tc := ⟨.hbm, 1847, rfl⟩
abbrev main_v136 : Ref sig .tc := ⟨.hbm, 1848, rfl⟩
abbrev main_v137 : Ref sig .tc := ⟨.hbm, 1849, rfl⟩
abbrev main_v138 : Ref sig .tc := ⟨.hbm, 1850, rfl⟩
abbrev main_call33_c : Ref sig .tc := ⟨.hbm, 1851, rfl⟩
abbrev main_call33_v0 : Ref sig .tc := ⟨.hbm, 1852, rfl⟩
abbrev main_call33_v1 : Ref sig .tc := ⟨.hbm, 1853, rfl⟩
abbrev main_call33_c_0 : Ref sig .tc := ⟨.hbm, 1854, rfl⟩
abbrev main_call33_v2 : Ref sig .tc := ⟨.hbm, 1855, rfl⟩
abbrev main_call33_v3 : Ref sig .tc := ⟨.hbm, 1856, rfl⟩
abbrev main_call33_v4 : Ref sig .tc := ⟨.hbm, 1857, rfl⟩
abbrev main_call33_v5 : Ref sig .tc := ⟨.hbm, 1858, rfl⟩
abbrev main_call33_c_1 : Ref sig .tc := ⟨.hbm, 1859, rfl⟩
abbrev main_call33_c_2 : Ref sig .tc := ⟨.hbm, 1860, rfl⟩
abbrev main_call33_v6 : Ref sig .tc := ⟨.hbm, 1861, rfl⟩
abbrev main_call33_v7 : Ref sig .tc := ⟨.hbm, 1862, rfl⟩
abbrev main_call33_v8 : Ref sig .tc := ⟨.hbm, 1863, rfl⟩
abbrev main_call33_v9 : Ref sig .tc := ⟨.hbm, 1864, rfl⟩
abbrev main_call33_v10 : Ref sig .tc := ⟨.hbm, 1865, rfl⟩
abbrev main_call33_v11 : Ref sig .tc := ⟨.hbm, 1866, rfl⟩
abbrev main_call33_c_3 : Ref sig .tc := ⟨.hbm, 1867, rfl⟩
abbrev main_call33_v12 : Ref sig .tc := ⟨.hbm, 1868, rfl⟩
abbrev main_call33_v13 : Ref sig .tc := ⟨.hbm, 1869, rfl⟩
abbrev main_call33_v14 : Ref sig .tc := ⟨.hbm, 1870, rfl⟩
abbrev main_call33_cst : Ref sig .tc := ⟨.hbm, 1871, rfl⟩
abbrev main_call33_v15 : Ref sig .tc := ⟨.hbm, 1872, rfl⟩
abbrev main_v139 : Ref sig .tc := ⟨.hbm, 1873, rfl⟩
abbrev main_v140 : Ref sig .tc := ⟨.hbm, 1874, rfl⟩
abbrev main_v141 : Ref sig .tc := ⟨.hbm, 1875, rfl⟩
abbrev main_v142 : Ref sig .tc := ⟨.hbm, 1876, rfl⟩

abbrev nD : Nat := 1
abbrev τ : Topo := Topo.v7x

variable {F : FTy → Type} [FloatOps F]
-- ==== Proof.Rules.lean ====
/-
  Rules for the tiles' transfers, over any signature: a transfer in flight that brings back an assertion (`Landing`),
  the issue of an indirect gather and of a plain copy as such, and the wait for one. Nothing here names the kernel.
-/
module

public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.Proof.Rules

open Idealize.ShloMosaic
open Idealize.ShloMosaic.SparseCore (S V T gatherPayload rows enqueueIndirectGather waitIndirectGather)
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp sp' : Space} {s₀ s si : Shape} {e : EltTy} {a : Nat} {α : Type} {Q : α → sProp (MT nD τ sig Ix (Elt F) Name U Lvl)}

local notation "𝕄" => MT nD τ sig Ix (Elt F) Name U Lvl

/-- A transfer in flight on cell `sm` of `c`, worth `N`, after whose wait `D` holds. -/
def Landing (sm : SemLoc sig) (ι : Ix) (N : ℕ) (D : sProp 𝕄) : sProp 𝕄 :=
  iprop(∃ D', Transfers.Flight EC c sm ι N D' ∗ (D' -∗ D))

/-- What `c` owes, its waits those of `W` and further ones at `ι`. -/
def Owing (ι : Ix) (O : CellTallies nD τ sig Ix) (W : Waits sig Ix) : sProp 𝕄 :=
  iprop(∃ W', ⌜∀ p ∈ W', p ∈ W ∨ p.2 = ι⌝ ∗ owes c O W')

theorem owing_intro (ι : Ix) (O : CellTallies nD τ sig Ix) (W : Waits sig Ix) : (owes c O W : sProp 𝕄) ⊢ Owing c ι O W := by
  unfold Owing
  iintro H
  iexists W
  isplitr
  · ipureintro; exact fun p hp => Or.inl hp
  · iexact H

/-- What lands may be weakened. -/
theorem landing_mono {sm : SemLoc sig} {ι : Ix} {N : ℕ} {D D₁ : sProp 𝕄} (h : D ⊢ D₁) :
    (Landing EC c sm ι N D : sProp 𝕄) ⊢ Landing EC c sm ι N D₁ := by
  unfold Landing
  iintro ⟨%D', HF, HD⟩
  iexists D'
  isplitl [HF]; · iexact HF
  iintro H
  iapply h
  iapply HD
  iexact H

/-- The wait for a landing. -/
theorem wp_wait [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Transfers.MayWaits c ι O ∗ Landing EC c (.dma sem) ι N D ∗ Owing c ι O W)
      ⊢ iprop((iprop(D ∗ semVal (c, .dma sem) 0 ∗ Owing c ι O W) -∗ wp frame (wpE defs 𝒱 c bd) Set.univ (k ⟨⟩) Q)
          -∗ wp frame (wpE defs 𝒱 c bd) Set.univ (Prog.lift (.waitDma2 sem srcw dstw hsrc hdst) >>= k) Q) := by
  show _ ⊢ iprop(_ -∗ wp frame (wpE defs 𝒱 c bd) Set.univ (.op (.waitDma2 sem srcw dstw hsrc hdst) k) Q)
  unfold Landing Owing
  iintro ⟨#Hmw, ⟨%D', HF, HD⟩, ⟨%W', %hW, HO⟩⟩ Hk
  iapply (Transfers.wp_waitLocalO EC 𝒱 c bd ι hN) $$ [HF HO]
  · isplitl [HF]; · iexact HF
    isplitl [HO]; · iexact HO
    iapply (Transfers.MayWaits.elim (SemLoc.dma sem)) $$ Hmw
  iintro ⟨HD', Hv, HO⟩
  iapply Hk
  isplitl [HD HD']
  · iapply HD; iexact HD'
  isplitl [Hv]; · iexact Hv
  iexists (insert (SemLoc.dma sem, ι) W')
  isplitr
  · ipureintro
    intro p hp
    rcases Finset.mem_insert.mp hp with rfl | h
    · exact Or.inr rfl
    · exact hW p h
  · iexact HO

/-- The issue of a plain copy into elements `Sd` held outright, from a source held outright: what lands is the
    destination at `g`, given to be what the copy writes on `Sd`, and the source. -/
theorem wp_copy [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {fs : Buf (Elt F) (src.view.loc c)}
    {Ss : Finset (Idx (src.view.loc c))} {Sd : Finset (Idx (dst.view.loc c))} {fd : Buf (Elt F) (dst.view.loc c)}
    (ι : Ix) (N : ℕ) (hN : dst.view.amount sm = N) (hN0 : 0 < N) (hSs : src.view.set ⊆ Ss) (hSd : dst.view.set ⊆ Sd)
    (g : Buf (Elt F) (dst.view.loc c)) (hg : ∀ i ∈ Sd, dst.view.write (Elt F) fd (src.view.read (Elt F) fs) Finset.univ i = g i) :
    iprop((src.view.loc c ↦[Ss]{q} fs) ∗ (dst.view.loc c ↦[Sd]{fullShare} fd) ∗ semVal (c, sm) 0)
      ⊢ iprop((Landing EC c sm ι N iprop((dst.view.loc c ↦[Sd]{fullShare} g) ∗ (src.view.loc c ↦[Ss]{q} fs))
              -∗ wp frame (wpE defs 𝒱 c bd) Set.univ (k ⟨⟩) Q)
          -∗ wp frame (wpE defs 𝒱 c bd) Set.univ (Prog.lift (.enqueueDma src (.here dst) sm hsrc hdst hsem) >>= k) Q) := by
  show _ ⊢ iprop(_ -∗ wp frame (wpE defs 𝒱 c bd) Set.univ (.op (.enqueueDma src (.here dst) sm hsrc hdst hsem) k) Q)
  have hs := pointsTo_split_subset (nD := nD) (τ := τ) (sig := sig) (Ix := Ix) (Val := Elt F) (Name := Name) (U := U) (Lvl := Lvl) (ℓ := src.view.loc c) (q := q) (f := fs) hSs
  rw [BI.Entails.antisymm hs.1 hs.2]
  iintro ⟨⟨Hs, Hr⟩, Hd, Hv⟩ Hk
  iapply (Transfers.wp_dmaLocal EC 𝒱 c bd ι N hN hN0 hSd) $$ [Hs Hd Hv]
  · isplitl [Hs]; · iexact Hs
    isplitl [Hd] <;> iassumption
  iintro HF
  iapply Hk
  unfold Landing
  iexists _
  isplitl [HF]; · iexact HF
  iintro ⟨Hd, Hs⟩
  isplitl [Hd]
  · iapply (Entails.of_eq (pointsTo_congr hg))
    iexact Hd
  isplitl [Hs] <;> iassumption

/-- The issue of an indirect gather: from a share of the whole source, the destination's elements outright and a share
    of the whole offset buffer, what lands is the destination at `g`, given to be what the gather writes, and the two
    shares. -/
theorem wp_gather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {Sd : Finset (Idx (dst.view.loc c))}
    (ι : Ix) (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis) (hSd : dst.view.set = Sd)
    (g : Buf (Elt F) (dst.view.loc c))
    (hgw : ∀ i ∈ Sd, dst.view.write (Elt F) fd (gatherPayload hg (src.view.read (Elt F) fs) (rows (offs.view.read (Elt F) fo) hn hin)) Finset.univ i = g i) :
    iprop((src.view.loc c ↦{q} fs) ∗ (dst.view.loc c ↦[Sd]{fullShare} fd) ∗ (offs.view.loc c ↦{qo} fo) ∗ semVal (c, SemLoc.dma sem) 0)
      ⊢ iprop((Landing EC c (.dma sem) ι N
                iprop((dst.view.loc c ↦[Sd]{fullShare} g) ∗ (src.view.loc c ↦{q} fs) ∗ (offs.view.loc c ↦{qo} fo))
              -∗ wp frame (wpE defs 𝒱 c bd) Set.univ (k ⟨⟩) Q)
          -∗ wp frame (wpE defs 𝒱 c bd) Set.univ (enqueueIndirectGather hp src dst hg offs hn sem hsrc he hsp hr >>= k) Q) := by
  subst hSd
  have h1 := pointsTo_split_subset (nD := nD) (τ := τ) (sig := sig) (Ix := Ix) (Val := Elt F) (Name := Name) (U := U) (Lvl := Lvl) (ℓ := src.view.loc c) (q := q) (f := fs) (Finset.subset_univ src.view.set)
  have h2 := pointsTo_split_subset (nD := nD) (τ := τ) (sig := sig) (Ix := Ix) (Val := Elt F) (Name := Name) (U := U) (Lvl := Lvl) (ℓ := offs.view.loc c) (q := qo) (f := fo) (Finset.subset_univ offs.view.set)
  rw [BI.Entails.antisymm h1.1 h1.2, BI.Entails.antisymm h2.1 h2.2]
  iintro ⟨⟨Hs, Hsr⟩, Hd, ⟨Ho, Hor⟩, Hv⟩ Hk
  iapply (SparseCore.wp_indirectGatherLocal EC 𝒱 c bd (hg := hg) ι N hN hs hin) $$ [Hs Hd Ho Hv]
  · isplitl [Hs]; · iexact Hs
    isplitl [Hd]; · iexact Hd
    isplitl [Ho] <;> iassumption
  iintro HF
  iapply Hk
  unfold Landing
  iexists _
  isplitl [HF]; · iexact HF
  iintro ⟨Hd, Hs, Ho⟩
  isplitl [Hd]
  · iapply (Entails.of_eq (pointsTo_congr hgw))
    iexact Hd
  isplitl [Hs Hsr]
  · isplitl [Hs] <;> iassumption
  isplitl [Ho] <;> iassumption

/-- The wait for an indirect gather. -/
theorem wp_gatherWait [EC.LandsIn (upEmb : UEmb _ 𝕄)] {s' : Shape} {e' : EltTy} {sem : DmaSem sig}
    {srcw : Memref sig c.2.kind sp' s' e'} {dstw : Memref sig c.2.kind .vmem s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Transfers.MayWaits c ι O ∗ Landing EC c (.dma sem) ι N D ∗ Owing c ι O W)
      ⊢ iprop((iprop(D ∗ semVal (c, .dma sem) 0 ∗ Owing c ι O W) -∗ wp frame (wpE defs 𝒱 c bd) Set.univ (k ⟨⟩) Q)
          -∗ wp frame (wpE defs 𝒱 c bd) Set.univ (waitIndirectGather sem srcw dstw hsrc hdst >>= k) Q) :=
  wp_wait EC 𝒱 c bd ι hN

end Cert.Proof.Rules
-- ==== Proof.Base.lean ====
/-
  The set-up of the kernel's proof: the program as the launch theorem sees it, the resource algebra, the tile's
  buffers, the values the buffers hold (`X`, `I`, `val`), and the gathers, copies and patch steps of a tile at those
  values.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Rules
public import proofs.«01_k».proof.Proof.Gen.KernelIdeal
public import proofs.«01_k».proof.Proof.Gen.KernelIdeal.Skeleton

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The buffers -/

abbrev xM : Memref sig .scVector .hbm S16384x2048 .f32 := Memref.whole main_arg0_scv
abbrev jM : Memref sig .scVector .hbm S32x128x128 .i32 := Memref.whole main_v11_scv
abbrev uM : Memref sig .scVector .hbm S16384x2048 .f32 := Memref.whole main_v12_scv
abbrev iM : Memref sig .scVector .vmem S32x4x128 .i32 := Memref.whole cc0_scratch0
abbrev aM : Memref sig .scVector .vmem S4x128x128 .f32 := Memref.whole cc0_scratch1
abbrev oM : Memref sig .scVector .vmem S2x128x128 .f32 := Memref.whole cc0_scratch2

abbrev cV (L : grid0.Coords) : Fin τ.nSC := (L 0).castLE hcore0
abbrev jV (L : grid0.Coords) : Fin τ.nSub := (L 1).castLE hsub0
/-- The thread of the task at grid coordinates `L`. -/
abbrev tile (d : Dev nD) (L : grid0.Coords) : Thread nD τ := V d (cV L) (jV L)
/-- The task's number: which 512 rows of the result it makes. -/
abbrev wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## The values -/

section Values

variable (x : S16384x2048.Idx → Elt F .f32) (J : S32x128x128.Idx → Elt F .i32)

/-- The table at row `r`, column `c`. -/
def X (r c : ℕ) : Elt F .f32 := x (ix2 (Fin.ofNat 16384 r) (Fin.ofNat 2048 c))
/-- The row number drawn for column group `m` and output row `128 b + k`. -/
def I (m b k : ℕ) : ℕ := (J (ix3 (Fin.ofNat 32 m) (Fin.ofNat 128 b) (Fin.ofNat 128 k))).toNat
/-- A block of 128 gathered rows: row `k` of the block is the table's row drawn for column group `m`, from column `c0`. -/
def blk (m b c0 k c : ℕ) : Elt F .f32 := X x (I J m b k) (c0 + c)
/-- The block of column groups `2 r` and `2 r + 1` when `n` runs of sixteen words of the second have been put in. -/
def val (r b n k c : ℕ) : Elt F .f32 :=
  if 64 ≤ c ∧ 4 * k + (c - 64) / 16 < n then blk x J (2 * r + 1) b (128 * r) k c else blk x J (2 * r) b (128 * r) k c
/-- The result at row `p`, column `q`. -/
def out (p q : ℕ) : Elt F .f32 := X x (I J (q / 64) (p / 128) (p % 128)) q

/-- A finished block is the result's. -/
theorem val_512 {r b k c : ℕ} (hk : k < 128) (hc : c < 128) : val x J r b 512 k c = out x J (128 * b + k) (128 * r + c) := by
  unfold val out blk
  have h1 : (128 * b + k) / 128 = b := by omega
  have h2 : (128 * b + k) % 128 = k := by omega
  rw [h1, h2]
  by_cases h : 64 ≤ c
  · rw [if_pos ⟨h, by omega⟩, show (128 * r + c) / 64 = 2 * r + 1 by omega]
  · rw [if_neg (fun e => h e.1), show (128 * r + c) / 64 = 2 * r by omega]

/-- What the task's copy of its row numbers holds. -/
def idxC (w : ℕ) : S32x4x128.Idx → Elt F .i32 := fun i => J (ix3 (i 0) (Fin.ofNat 128 (4 * w + (i 1).val)) (i 2))
/-- A block of gathered rows as contents of a scratch of `p` blocks. -/
def blkC {p : ℕ} (m b c0 : ℕ) : (⟨3, ![p, 128, 128]⟩ : Shape).Idx → Elt F .f32 := fun i => blk x J m b c0 (i 1).val (i 2).val
/-- A partly patched block as contents of the scratch. -/
def valC (r b n : ℕ) : S4x128x128.Idx → Elt F .f32 := fun i => val x J r b n (i 1).val (i 2).val
/-- The task's part of the result when `n` blocks have been copied out. -/
def outC (w n : ℕ) (o : S16384x2048.Idx → Elt F .f32) : S16384x2048.Idx → Elt F .f32 :=
  fun i => if 4 * ((i 1).val / 128) + ((i 0).val - 512 * w) / 128 < n then out x J (i 0).val (i 1).val else o i

end Values

/-- Block `b` of a scratch of `p` blocks. -/
def reg (p b : ℕ) : Finset (⟨3, ![p, 128, 128]⟩ : Shape).Idx := Finset.univ.filter fun i => (i 0).val = b
/-- The rows of the result that task `w` makes. -/
def rowsOf (w : ℕ) : Finset S16384x2048.Idx := Finset.univ.filter fun i => (i 0).val / 512 = w

theorem mem_reg {p b : ℕ} {i : (⟨3, ![p, 128, 128]⟩ : Shape).Idx} : i ∈ reg p b ↔ (i 0).val = b := by simp [reg]
theorem mem_rowsOf {w : ℕ} {i : S16384x2048.Idx} : i ∈ rowsOf w ↔ (i 0).val / 512 = w := by simp [rowsOf]

/-! ## Where the views lie -/

/-- A block of a scratch is its region. -/
theorem set_block {p b : ℕ} (off : Fin 3 → ℕ) (ho : off = ![b, 0, 0]) (inb : ∀ a, off a + S1x128x128.size a ≤ (⟨3, ![p, 128, 128]⟩ : Shape).size a) :
    (Rect.unit (s := ⟨3, ![p, 128, 128]⟩) off S1x128x128.size inb).set = reg p b := by
  subst ho
  ext i
  rw [Rect.mem_set_unit, mem_reg]
  constructor
  · intro h
    have h0 := h 0
    change b ≤ (i 0).val ∧ (i 0).val < b + 1 at h0
    omega
  · intro h a
    match a with
    | 0 => change b ≤ (i 0).val ∧ (i 0).val < b + 1; omega
    | 1 => change 0 ≤ (i 1).val ∧ (i 1).val < 0 + 128; have : (i 1).val < 128 := (i 1).isLt; omega
    | 2 => change 0 ≤ (i 2).val ∧ (i 2).val < 0 + 128; have : (i 2).val < 128 := (i 2).isLt; omega

end Cert.Proof.K
-- ==== Proof.Gath.lean ====
/-
  A tile's gathers at their values.
-/
module

public import proofs.«01_k».proof.Proof.Base

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The block of a scratch that a transfer addresses. -/
abbrev blockOf {p : ℕ} (m : Memref sig .scVector .vmem ⟨3, ![p, 128, 128]⟩ .f32) (off : Fin 3 → ℕ)
    (inb : ∀ a, off a + S1x128x128.size a ≤ (⟨3, ![p, 128, 128]⟩ : Shape).size a) : Memref sig .scVector .vmem S128x128 .f32 :=
  (m.slice (Rect.unit (s := ⟨3, ![p, 128, 128]⟩) off S1x128x128.size inb) (fun _ => rfl)).squeeze S128x128 squeezes_S1x128x128_S128x128
/-- A row-number list of the tile's copy. -/
abbrev listOf (off : Fin 3 → ℕ) (inb : ∀ a, off a + S1x1x128.size a ≤ S32x4x128.size a) : Memref sig .scVector .vmem S128 .i32 :=
  (iM.slice (Rect.unit (s := S32x4x128) off S1x1x128.size inb) (fun _ => rfl)).squeeze S128 squeezes_S1x1x128_S128
/-- The columns of the table that a gather reads. -/
abbrev srcOf (off : Fin 2 → ℕ) (inb : ∀ a, off a + S16384x128.size a ≤ S16384x2048.size a) : Memref sig .scVector .hbm S16384x128 .f32 :=
  (xM.slice (Rect.unit (s := S16384x2048) off S16384x128.size inb) (fun _ => rfl)).slice
    (Rect.unit (s := S16384x128) ![0, 0] S16384x128.size inb_S16384x128_S16384x128_0_0) (fun _ => rfl)

/-- Where element `(k, c)` of a block lies. -/
theorem emb_blockOf {p b : ℕ} (hb : b < p) (m : Ref sig .scVector) (off : Fin 3 → ℕ) (ho : off = ![b, 0, 0])
    (inb : ∀ a, off a + S1x128x128.size a ≤ (⟨3, ![p, 128, 128]⟩ : Shape).size a) (k c : Fin 128) :
    (Rect.unit (s := ⟨3, ![p, 128, 128]⟩) off S1x128x128.size inb).emb (Shape.reshapeEquiv squeezes_S1x128x128_S128x128.numel_eq (ix2 k c)) = ix3 (⟨b, hb⟩ : Fin p) k c := by
  subst ho
  rw [show (Shape.reshapeEquiv squeezes_S1x128x128_S128x128.numel_eq (ix2 k c)) = ix3 (⟨0, Nat.one_pos⟩ : Fin 1) k c from reshapeEquiv_ix2_1ab _ k c]
  funext a
  apply Fin.ext
  match a with
  | 0 => show b + 1 * 0 = b; omega
  | 1 => show 0 + 1 * k.val = k.val; omega
  | 2 => show 0 + 1 * c.val = c.val; omega

/-- Where entry `k` of a list lies. -/
theorem emb_listOf {m b : ℕ} (hm : m < 32) (hb : b < 4) (off : Fin 3 → ℕ) (ho : off = ![m, b, 0])
    (inb : ∀ a, off a + S1x1x128.size a ≤ S32x4x128.size a) (k : Fin 128) :
    (listOf off inb).view.emb (ix1 k) = ix3 (⟨m, hm⟩ : Fin 32) (⟨b, hb⟩ : Fin 4) k := by
  subst ho
  show (Rect.unit (s := S32x4x128) _ S1x1x128.size inb).emb (Shape.reshapeEquiv squeezes_S1x1x128_S128.numel_eq (ix1 k)) = _
  rw [show (Shape.reshapeEquiv squeezes_S1x1x128_S128.numel_eq (ix1 k)) = ix3 (⟨0, Nat.one_pos⟩ : Fin 1) (⟨0, Nat.one_pos⟩ : Fin 1) k from
    Shape.reshapeEquiv_eq_of_rowMajor _ (by
      rw [Shape.rowMajor_val_three, Shape.rowMajor_val_one]
      show ((0 * 1 + 0) * 128 + k.val) = k.val
      omega)]
  funext a
  apply Fin.ext
  match a with
  | 0 => show m + 1 * 0 = m; omega
  | 1 => show b + 1 * 0 = b; omega
  | 2 => show 0 + 1 * k.val = k.val; omega

/-- Where element `(r, c)` of a gather's source lies. -/
theorem emb_srcOf {c0 : ℕ} (hc : c0 + 128 ≤ 2048) (off : Fin 2 → ℕ) (ho : off = ![0, c0])
    (inb : ∀ a, off a + S16384x128.size a ≤ S16384x2048.size a) (r : Fin 16384) (c : Fin 128) :
    (srcOf off inb).view.emb (ix2 r c) = ix2 r (⟨c0 + c.val, by omega⟩ : Fin 2048) := by
  subst ho
  show (Rect.unit (s := S16384x2048) _ S16384x128.size inb).emb
    ((Rect.unit (s := S16384x128) ![0, 0] S16384x128.size inb_S16384x128_S16384x128_0_0).emb (ix2 r c)) = _
  funext a
  apply Fin.ext
  match a with
  | 0 => show 0 + 1 * (0 + 1 * r.val) = r.val; omega
  | 1 => show c0 + 1 * (0 + 1 * c.val) = c0 + c.val; omega

variable (x : S16384x2048.Idx → Elt F .f32) (J : S32x128x128.Idx → Elt F .i32)

/-- Every row number is a row of the table. -/
def InRows : Prop := ∀ i, (J i).toNat < 8192

/-- The word at entry `k` of a list is the row number drawn. -/
theorem list_word {m b w : ℕ} (hm : m < 32) (hb : b < 4) (hw : w < 32) (off : Fin 3 → ℕ) (ho : off = ![m, b, 0])
    (inb : ∀ a, off a + S1x1x128.size a ≤ S32x4x128.size a) (k : Fin 128) :
    ((listOf off inb).view.read (Elt F) (idxC J w) (ix1 k)).toNat = I J m (4 * w + b) k.val := by
  show (idxC J w ((listOf off inb).view.emb (ix1 k))).toNat = _
  rw [emb_listOf hm hb off ho inb k]
  unfold idxC I
  congr 2
  funext a
  apply Fin.ext
  match a with
  | 0 => show m = m % 32; omega
  | 1 => rfl
  | 2 => show k.val = k.val % 128; omega

theorem I_lt (hJ : InRows J) (m b k : ℕ) : I J m b k < 8192 := hJ _

/-- What a gather brings is a block. -/
theorem gather_payload {m b w c0 : ℕ} (hJ : InRows J) (hm : m < 32) (hb : b < 4) (hw : w < 32) (hc : c0 + 128 ≤ 2048) (lo : Fin 3 → ℕ) (hlo : lo = ![m, b, 0])
    (linb : ∀ a, lo a + S1x1x128.size a ≤ S32x4x128.size a) (so : Fin 2 → ℕ) (hso : so = ![0, c0])
    (sinb : ∀ a, so a + S16384x128.size a ≤ S16384x2048.size a)
    (hin : ∀ y, ((listOf lo linb).view.read (Elt F) (idxC J w) y).toNat < S16384x128.size gathers_S16384x128_S128x128.axis) (k c : Fin 128) :
    SparseCore.gatherPayload gathers_S16384x128_S128x128 ((srcOf so sinb).view.read (Elt F) x)
      (SparseCore.rows ((listOf lo linb).view.read (Elt F) (idxC J w)) (si := S128) rfl hin) (ix2 k c) = blk x J m (4 * w + b) c0 k.val c.val := by
  have hlt := I_lt J hJ m (4 * w + b) k.val
  have hr : S128.rowMajor.symm (k.cast (show 128 = S128.numel from rfl)) = ix1 k := by
    rw [Equiv.symm_apply_eq]
    exact Fin.ext (Shape.rowMajor_val_one (d := ![128]) (ix1 k)).symm
  have hrow : (gathers_S16384x128_S128x128.idx (SparseCore.rows ((listOf lo linb).view.read (Elt F) (idxC J w)) (si := S128) rfl hin) (ix2 k c))
      = ix2 (⟨I J m (4 * w + b) k.val, by omega⟩ : Fin 16384) c := by
    funext a
    apply Fin.ext
    match a with
    | 0 =>
      show ((listOf lo linb).view.read (Elt F) (idxC J w) (S128.rowMajor.symm (k.cast (show 128 = S128.numel from rfl)))).toNat = _
      rw [hr, list_word J hm hb hw lo hlo linb k]
    | 1 => rfl
  show x ((srcOf so sinb).view.emb (gathers_S16384x128_S128x128.idx _ (ix2 k c))) = _
  rw [hrow, emb_srcOf hc so hso sinb]
  unfold blk X
  congr 1
  funext a
  apply Fin.ext
  match a with
  | 0 => show I J m (4 * w + b) k.val = I J m (4 * w + b) k.val % 16384; omega
  | 1 => show c0 + c.val = (c0 + c.val) % 2048; omega

/-- A list's words are in range. -/
theorem list_in {m b w : ℕ} (hJ : InRows J) (hm : m < 32) (hb : b < 4) (hw : w < 32) (lo : Fin 3 → ℕ) (hlo : lo = ![m, b, 0])
    (linb : ∀ a, lo a + S1x1x128.size a ≤ S32x4x128.size a) (y : S128.Idx) :
    ((listOf lo linb).view.read (Elt F) (idxC J w) y).toNat < S16384x128.size gathers_S16384x128_S128x128.axis := by
  obtain ⟨k, rfl⟩ : ∃ k, y = ix1 k := ⟨y 0, eq_ix1 y⟩
  have h := list_word J hm hb hw lo hlo linb k
  have := I_lt J hJ m (4 * w + b) k.val
  show ((listOf lo linb).view.read (Elt F) (idxC J w) (ix1 k)).toNat < 16384
  omega

section Tile

variable [FloatOps F] (d : Dev nD) (L : grid0.Coords)

/-- The share of the table and of the row numbers that one chain of gathers uses. -/
def tok (q qo : PosShare TreeShare) : sProp 𝕄 :=
  iprop(((xM).view.loc (tile d L) ↦{q} x) ∗ ((iM).view.loc (tile d L) ↦{qo} (idxC J (wid L))))

/-- The credit of a block of the table rows' scratch is its rows'. -/
theorem credit_a (off : Fin 3 → ℕ) (inb : ∀ a, off a + S1x128x128.size a ≤ S4x128x128.size a) :
    ∑ j, ((blockOf aM off inb).slice (S128x128.rowRect gathers_S16384x128_S128x128.axis' j) (S128x128.stride_rowRect gathers_S16384x128_S128x128.axis' j)).view.dmaCredit
      = (blockOf aM off inb).view.dmaCredit :=
  SparseCore.sum_rowCredit_eq_dmaCredit (blockOf aM off inb) gathers_S16384x128_S128x128.axis' (fun _ => rfl)

/-- The same of the other scratch. -/
theorem credit_o (off : Fin 3 → ℕ) (inb : ∀ a, off a + S1x128x128.size a ≤ S2x128x128.size a) :
    ∑ j, ((blockOf oM off inb).slice (S128x128.rowRect gathers_S16384x128_S128x128.axis' j) (S128x128.stride_rowRect gathers_S16384x128_S128x128.axis' j)).view.dmaCredit
      = (blockOf oM off inb).view.dmaCredit :=
  SparseCore.sum_rowCredit_eq_dmaCredit (blockOf oM off inb) gathers_S16384x128_S128x128.axis' (fun _ => rfl)

omit [FloatOps F] in
/-- A block is not empty. -/
theorem numel_pos : 0 < S128x128.numel :=
  Finset.prod_pos fun a _ => match a with
    | 0 => (by decide : 0 < 128)
    | 1 => (by decide : 0 < 128)

/-- What a block's transfers are worth. -/
abbrev bN : ℕ := (blockOf aM ![0, 0, 0] inb_S4x128x128_S1x128x128_0_0_0).view.dmaCredit

/-- A gather on its way into block `b'` of the first scratch. -/
def LandA (sem : DmaSem sig) (b' m b c0 : ℕ) (q qo : PosShare TreeShare) : sProp 𝕄 :=
  Landing EC (tile d L) (.dma sem) default bN iprop(((aM).view.loc (tile d L) ↦[reg 4 b']{fullShare} (blkC x J m b c0 : S4x128x128.Idx → Elt F .f32)) ∗ tok x J d L q qo)
/-- A gather on its way into block `b'` of the second scratch. -/
def LandO (sem : DmaSem sig) (b' m b c0 : ℕ) (q qo : PosShare TreeShare) : sProp 𝕄 :=
  Landing EC (tile d L) (.dma sem) default bN iprop(((oM).view.loc (tile d L) ↦[reg 2 b']{fullShare} (blkC x J m b c0 : S2x128x128.Idx → Elt F .f32)) ∗ tok x J d L q qo)

variable {α : Type} {Q : α → sProp (MT nD τ sig (HIx 1) (Elt F) ℕ UU ℕ)} {k : PUnit → Prog (TpuEff nD τ sig (Elt F) Λ₀ (tile d L).2) α}

/-- What a transfer writes into a block of the first scratch, read element by element. -/
theorem write_a {b' : ℕ} (hb' : b' < 4) (off : Fin 3 → ℕ) (ho : off = ![b', 0, 0]) (inb : ∀ a, off a + S1x128x128.size a ≤ S4x128x128.size a)
    (fd : S4x128x128.Idx → Elt F .f32) (w : S128x128.Idx → Elt F .f32) (g : ℕ → ℕ → Elt F .f32) (hw : ∀ k c : Fin 128, w (ix2 k c) = g k.val c.val)
    (i : S4x128x128.Idx) (hi : i ∈ reg 4 b') : (blockOf aM off inb).view.write (Elt F) fd w Finset.univ i = g (i 1).val (i 2).val := by
  rw [mem_reg] at hi
  have e : i = (blockOf aM off inb).view.emb (ix2 (i 1) (i 2)) := by
    refine (Eq.trans ?_ (emb_blockOf hb' cc0_scratch1 off ho inb (i 1) (i 2)).symm)
    refine (eq_ix3 i).trans ?_
    congr 1
    exact Fin.ext hi
  conv_lhs => rw [e]
  rw [View.write_emb_of_mem _ _ (Finset.mem_univ _)]
  exact hw (i 1) (i 2)

/-- What a transfer writes into a block of the second scratch, read element by element. -/
theorem write_o {b' : ℕ} (hb' : b' < 2) (off : Fin 3 → ℕ) (ho : off = ![b', 0, 0]) (inb : ∀ a, off a + S1x128x128.size a ≤ S2x128x128.size a)
    (fd : S2x128x128.Idx → Elt F .f32) (w : S128x128.Idx → Elt F .f32) (g : ℕ → ℕ → Elt F .f32) (hw : ∀ k c : Fin 128, w (ix2 k c) = g k.val c.val)
    (i : S2x128x128.Idx) (hi : i ∈ reg 2 b') : (blockOf oM off inb).view.write (Elt F) fd w Finset.univ i = g (i 1).val (i 2).val := by
  rw [mem_reg] at hi
  have e : i = (blockOf oM off inb).view.emb (ix2 (i 1) (i 2)) := by
    refine (Eq.trans ?_ (emb_blockOf hb' cc0_scratch2 off ho inb (i 1) (i 2)).symm)
    refine (eq_ix3 i).trans ?_
    congr 1
    exact Fin.ext hi
  conv_lhs => rw [e]
  rw [View.write_emb_of_mem _ _ (Finset.mem_univ _)]
  exact hw (i 1) (i 2)

/-- The issue of a gather into the first scratch. -/
theorem wp_gatherA {b' m b c0 : ℕ} (hJ : InRows J) (hb' : b' < 4) (hm : m < 32) (hb : b < 4) (hc : c0 + 128 ≤ 2048)
    (lo : Fin 3 → ℕ) (hlo : lo = ![m, b, 0]) {linb : ∀ a, lo a + S1x1x128.size a ≤ S32x4x128.size a}
    (so : Fin 2 → ℕ) (hso : so = ![0, c0]) {sinb : ∀ a, so a + S16384x128.size a ≤ S16384x2048.size a}
    (off : Fin 3 → ℕ) (ho : off = ![b', 0, 0]) {inb : ∀ a, off a + S1x128x128.size a ≤ S4x128x128.size a}
    {sem : DmaSem sig} {hp : (tile d L).2.kind = .scVector} {hsrc : (srcOf so sinb).view.WordExact} {he : EltTy.bits .f32 = 32} {hsp : Space.hbm = .hbm ∨ Space.hbm = .shared}
    {hr : S16384x128.StreamRows 0} {hn : S128.numel = S128x128.size gathers_S16384x128_S128x128.axis'}
    {q qo : PosShare TreeShare} {fd : S4x128x128.Idx → Elt F .f32} :
    iprop(tok x J d L q qo ∗ ((aM).view.loc (tile d L) ↦[reg 4 b']{fullShare} fd) ∗ semVal (tile d L, SemLoc.dma sem) 0)
      ⊢ iprop((LandA x J d L sem b' m (4 * wid L + b) c0 q qo -∗ wp frame (wpE (defs₀ (F := F)) 𝒱₀ (tile d L) none) Set.univ (k ⟨⟩) Q)
          -∗ wp frame (wpE (defs₀ (F := F)) 𝒱₀ (tile d L) none) Set.univ (SparseCore.enqueueIndirectGather hp (srcOf so sinb) (blockOf aM off inb)
            gathers_S16384x128_S128x128 (listOf lo linb) hn sem hsrc he hsp hr >>= k) Q) := by
  have hpos : 0 < S128x128.numel := numel_pos
  have hin := list_in (F := F) J hJ hm hb (wid_lt L) lo hlo linb
  have hgw := write_a hb' off ho inb fd _ (blk x J m (4 * wid L + b) c0) (gather_payload x J hJ hm hb (wid_lt L) hc lo hlo linb so hso sinb hin)
  have H := wp_gather EC 𝒱₀ (tile d L) none (src := srcOf so sinb) (dst := blockOf aM off inb) (offs := listOf lo linb) (hg := gathers_S16384x128_S128x128)
    (fs := x) (fo := idxC J (wid L)) (fd := fd) (Sd := reg 4 b') (q := q) (qo := qo) (defs := defs₀ (F := F)) (hp := hp) (hsrc := hsrc) (he := he) (hsp := hsp) (hr := hr) (hn := hn) (sem := sem) (k := k) (Q := Q) default bN (credit_a off inb) hpos hin
    ((View.set_reshape _ _).trans ((View.set_slice_whole _ _).trans (set_block off ho inb)))
    (blkC x J m (4 * wid L + b) c0 : S4x128x128.Idx → Elt F .f32) hgw
  unfold tok LandA
  iintro ⟨⟨Hx, Hi⟩, Hd, Hv⟩ Hk
  iapply H $$ [Hx Hi Hd Hv]
  · isplitl [Hx]; · iexact Hx
    isplitl [Hd]; · iexact Hd
    isplitl [Hi] <;> iassumption
  iintro HF
  iapply Hk
  unfold tok
  iexact HF

/-- The issue of a gather into the second scratch. -/
theorem wp_gatherO {b' m b c0 : ℕ} (hJ : InRows J) (hb' : b' < 2) (hm : m < 32) (hb : b < 4) (hc : c0 + 128 ≤ 2048)
    (lo : Fin 3 → ℕ) (hlo : lo = ![m, b, 0]) {linb : ∀ a, lo a + S1x1x128.size a ≤ S32x4x128.size a}
    (so : Fin 2 → ℕ) (hso : so = ![0, c0]) {sinb : ∀ a, so a + S16384x128.size a ≤ S16384x2048.size a}
    (off : Fin 3 → ℕ) (ho : off = ![b', 0, 0]) {inb : ∀ a, off a + S1x128x128.size a ≤ S2x128x128.size a}
    {sem : DmaSem sig} {hp : (tile d L).2.kind = .scVector} {hsrc : (srcOf so sinb).view.WordExact} {he : EltTy.bits .f32 = 32} {hsp : Space.hbm = .hbm ∨ Space.hbm = .shared}
    {hr : S16384x128.StreamRows 0} {hn : S128.numel = S128x128.size gathers_S16384x128_S128x128.axis'}
    {q qo : PosShare TreeShare} {fd : S2x128x128.Idx → Elt F .f32} :
    iprop(tok x J d L q qo ∗ ((oM).view.loc (tile d L) ↦[reg 2 b']{fullShare} fd) ∗ semVal (tile d L, SemLoc.dma sem) 0)
      ⊢ iprop((LandO x J d L sem b' m (4 * wid L + b) c0 q qo -∗ wp frame (wpE (defs₀ (F := F)) 𝒱₀ (tile d L) none) Set.univ (k ⟨⟩) Q)
          -∗ wp frame (wpE (defs₀ (F := F)) 𝒱₀ (tile d L) none) Set.univ (SparseCore.enqueueIndirectGather hp (srcOf so sinb) (blockOf oM off inb)
            gathers_S16384x128_S128x128 (listOf lo linb) hn sem hsrc he hsp hr >>= k) Q) := by
  have hpos : 0 < S128x128.numel := numel_pos
  have hin := list_in (F := F) J hJ hm hb (wid_lt L) lo hlo linb
  have hgw := write_o hb' off ho inb fd _ (blk x J m (4 * wid L + b) c0) (gather_payload x J hJ hm hb (wid_lt L) hc lo hlo linb so hso sinb hin)
  have H := wp_gather EC 𝒱₀ (tile d L) none (src := srcOf so sinb) (dst := blockOf oM off inb) (offs := listOf lo linb) (hg := gathers_S16384x128_S128x128)
    (fs := x) (fo := idxC J (wid L)) (fd := fd) (Sd := reg 2 b') (q := q) (qo := qo) (defs := defs₀ (F := F)) (hp := hp) (hsrc := hsrc) (he := he) (hsp := hsp) (hr := hr) (hn := hn) (sem := sem) (k := k) (Q := Q) default bN (credit_o off inb) hpos hin
    ((View.set_reshape _ _).trans ((View.set_slice_whole _ _).trans (set_block off ho inb)))
    (blkC x J m (4 * wid L + b) c0 : S2x128x128.Idx → Elt F .f32) hgw
  unfold tok LandO
  iintro ⟨⟨Hx, Hi⟩, Hd, Hv⟩ Hk
  iapply H $$ [Hx Hi Hd Hv]
  · isplitl [Hx]; · iexact Hx
    isplitl [Hd]; · iexact Hd
    isplitl [Hi] <;> iassumption
  iintro HF
  iapply Hk
  unfold tok
  iexact HF

end Tile

end Cert.Proof.K
-- ==== Proof.Patch.lean ====
/-
  A tile's patch steps, copies out and fetch of its row numbers, at their values.
-/
module

public import proofs.«01_k».proof.Proof.Gath

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (x : S16384x2048.Idx → Elt F .f32) (J : S32x128x128.Idx → Elt F .i32) (d : Dev nD) (L : grid0.Coords)
variable {α : Type} {Q : α → sProp (MT nD τ sig (HIx 1) (Elt F) ℕ UU ℕ)} {k : PUnit → Prog (TpuEff nD τ sig (Elt F) Λ₀ (tile d L).2) α}

/-- Sixteen words of a scratch. -/
abbrev run {p : ℕ} (off : Fin 3 → ℕ) (inb : ∀ a, off a + S1x1x16.size a ≤ (⟨3, ![p, 128, 128]⟩ : Shape).size a) : Rect ⟨3, ![p, 128, 128]⟩ :=
  Rect.unit (s := ⟨3, ![p, 128, 128]⟩) off S1x1x16.size inb

omit [FloatOps F] in
theorem mem_run {p b row col : ℕ} {off : Fin 3 → ℕ} (ho : off = ![b, row, col]) (inb : ∀ a, off a + S1x1x16.size a ≤ (⟨3, ![p, 128, 128]⟩ : Shape).size a)
    {i : (⟨3, ![p, 128, 128]⟩ : Shape).Idx} : i ∈ (run off inb).set ↔ (i 0).val = b ∧ (i 1).val = row ∧ col ≤ (i 2).val ∧ (i 2).val < col + 16 := by
  subst ho
  rw [Rect.mem_set_unit]
  constructor
  · intro h
    have h0 := h 0; have h1 := h 1; have h2 := h 2
    change b ≤ (i 0).val ∧ (i 0).val < b + 1 at h0
    change row ≤ (i 1).val ∧ (i 1).val < row + 1 at h1
    change col ≤ (i 2).val ∧ (i 2).val < col + 16 at h2
    omega
  · rintro ⟨h0, h1, h2, h3⟩ a
    match a with
    | 0 => change b ≤ (i 0).val ∧ (i 0).val < b + 1; omega
    | 1 => change row ≤ (i 1).val ∧ (i 1).val < row + 1; omega
    | 2 => change col ≤ (i 2).val ∧ (i 2).val < col + 16; omega

omit [FloatOps F] in
theorem run_emb {p b row col : ℕ} {off : Fin 3 → ℕ} (ho : off = ![b, row, col]) (inb : ∀ a, off a + S1x1x16.size a ≤ (⟨3, ![p, 128, 128]⟩ : Shape).size a)
    (j : S1x1x16.Idx) : (((run off inb).emb j) 1).val = row ∧ (((run off inb).emb j) 2).val = col + (j 2).val := by
  subst ho
  constructor
  · show row + 1 * (j 1).val = row
    have : (j 1).val < 1 := (j 1).isLt
    omega
  · show col + 1 * (j 2).val = _
    omega

/-- One patch step: sixteen words of the second block go into the first, the next of its 512 runs of sixteen. -/
theorem wp_patch {r B b p n : ℕ} (hb : b < 4) (hp : p < 2) (hn : n < 512)
    {oo ao : Fin 3 → ℕ} {oinb : ∀ a, oo a + S1x1x16.size a ≤ S2x128x128.size a} {ainb : ∀ a, ao a + S1x1x16.size a ≤ S4x128x128.size a}
    {pay : (S1x1x16.Idx → Elt F .f32) → (S1x1x16.Idx → Elt F .f32)} (hpay : ∀ v, pay v = v)
    {hl1 : (oM).view.LoadsAt (run (p := 2) oo oinb).toLoadRect} {hl2 : (aM).view.LoadsAt (run (p := 4) ao ainb).toLoadRect}
    {hst : ((aM).access (run (p := 4) ao ainb)).Stores Finset.univ} {hm : (Finset.univ : Finset S1x1x16.Idx) = Finset.univ ∨ ∀ a, (run (p := 4) ao ainb).stride a = 1}
    (hoo : oo = ![p, n / 4, 64 + 16 * (n % 4)]) (hao : ao = ![b, n / 4, 64 + 16 * (n % 4)]) :
    iprop(((oM).view.loc (tile d L) ↦[reg 2 p]{fullShare} (blkC x J (2 * r + 1) B (128 * r) : S2x128x128.Idx → Elt F .f32))
        ∗ ((aM).view.loc (tile d L) ↦[reg 4 b]{fullShare} (valC x J r B n)))
      ⊢ iprop((iprop(((oM).view.loc (tile d L) ↦[reg 2 p]{fullShare} (blkC x J (2 * r + 1) B (128 * r) : S2x128x128.Idx → Elt F .f32))
                ∗ ((aM).view.loc (tile d L) ↦[reg 4 b]{fullShare} (valC x J r B (n + 1))))
              -∗ wp frame (wpE (defs₀ (F := F)) 𝒱₀ (tile d L) none) Set.univ (k ⟨⟩) Q)
          -∗ wp frame (wpE (defs₀ (F := F)) 𝒱₀ (tile d L) none) Set.univ
            (Prog.lift (.load oM (run (p := 2) oo oinb).toLoadRect hl1) >>= fun v =>
              Prog.lift (.load aM (run (p := 4) ao ainb).toLoadRect hl2) >>= fun _ =>
              Prog.lift (.store aM (run (p := 4) ao ainb) (pay v) Finset.univ hst hm) >>= k) Q) := by
  show _ ⊢ iprop(_ -∗ wp frame (wpE (defs₀ (F := F)) 𝒱₀ (tile d L) none) Set.univ
    (.op (.load oM (run (p := 2) oo oinb).toLoadRect hl1) fun v => .op (.load aM (run (p := 4) ao ainb).toLoadRect hl2) fun _ =>
      .op (.store aM (run (p := 4) ao ainb) (pay v) Finset.univ hst hm) k) Q)
  have hso : ((oM).access (run (p := 2) oo oinb)).set ⊆ reg 2 p := by
    rw [show ((oM).access (run (p := 2) oo oinb)).set = (run (p := 2) oo oinb).set from View.set_slice_whole _ _]
    intro i hi
    rw [mem_reg]; exact ((mem_run hoo oinb).mp hi).1
  have hsa : ((aM).access (run (p := 4) ao ainb)).set ⊆ reg 4 b := by
    rw [show ((aM).access (run (p := 4) ao ainb)).set = (run (p := 4) ao ainb).set from View.set_slice_whole _ _]
    intro i hi
    rw [mem_reg]; exact ((mem_run hao ainb).mp hi).1
  have hw : ∀ i ∈ reg 4 b, ((aM).access (run (p := 4) ao ainb)).write (Elt F) (valC x J r B n)
      (pay (((oM).access (run (p := 2) oo oinb)).read (Elt F) (blkC x J (2 * r + 1) B (128 * r) : S2x128x128.Idx → Elt F .f32))) Finset.univ i = valC x J r B (n + 1) i := by
    intro i hi
    rw [hpay]
    rw [mem_reg] at hi
    have h2 : (i 2).val < 128 := (i 2).isLt
    by_cases hin : i ∈ (run (p := 4) ao ainb).set
    · obtain ⟨h0, h1, h3, h4⟩ := (mem_run hao ainb).mp hin
      obtain ⟨j, rfl⟩ : ∃ j, (run (p := 4) ao ainb).emb j = i := by
        rw [← Rect.map_emb_univ] at hin
        simpa using hin
      obtain ⟨e1, e2⟩ := run_emb hao ainb j
      obtain ⟨f1, f2⟩ := run_emb hoo oinb j
      have hE := View.write_emb_of_mem (Val := Elt F) (v := (aM).access (run (p := 4) ao ainb)) (valC x J r B n)
        (((oM).access (run (p := 2) oo oinb)).read (Elt F) (blkC x J (2 * r + 1) B (128 * r) : S2x128x128.Idx → Elt F .f32)) (Finset.mem_univ j)
      refine Eq.trans hE ?_
      show blk x J (2 * r + 1) B (128 * r) (((run (p := 2) oo oinb).emb j) 1).val (((run (p := 2) oo oinb).emb j) 2).val = _
      unfold valC val
      rw [f1, f2, e1, e2, if_pos]
      have : (j 2).val < 16 := (j 2).isLt
      omega
    · have hE : ((aM).access (run (p := 4) ao ainb)).write (Elt F) (valC x J r B n)
        (((oM).access (run (p := 2) oo oinb)).read (Elt F) (blkC x J (2 * r + 1) B (128 * r) : S2x128x128.Idx → Elt F .f32)) Finset.univ i = valC x J r B n i :=
        View.write_of_not_mem _ _ _ (by
          rw [View.setOn_univ, show ((aM).access (run (p := 4) ao ainb)).set = (run (p := 4) ao ainb).set from View.set_slice_whole _ _]
          exact hin)
      rw [hE]
      unfold valC val
      have hne : ¬((i 1).val = n / 4 ∧ 64 + 16 * (n % 4) ≤ (i 2).val ∧ (i 2).val < 64 + 16 * (n % 4) + 16) :=
        fun h => hin ((mem_run hao ainb).mpr ⟨hi, h⟩)
      by_cases hc : 64 ≤ (i 2).val ∧ 4 * (i 1).val + ((i 2).val - 64) / 16 < n
      · rw [if_pos hc, if_pos ⟨hc.1, by omega⟩]
      · rw [if_neg hc, if_neg]
        intro h
        apply hne
        have : 4 * (i 1).val + ((i 2).val - 64) / 16 = n := by omega
        omega
  iintro ⟨Ho, Ha⟩ Hk
  iapply (wp_load_rect 𝒱₀ (tile d L) none Set.univ (m := oM) (r := run (p := 2) oo oinb) hso) $$ Ho
  iintro Ho
  iapply (wp_load_rect 𝒱₀ (tile d L) none Set.univ (m := aM) (r := run (p := 4) ao ainb) hsa) $$ Ha
  iintro Ha
  iapply (wp_store 𝒱₀ (tile d L) none Set.univ (m := aM) (r := run (p := 4) ao ainb) (by rw [View.setOn_univ]; exact hsa)) $$ Ha
  iintro Ha
  iapply Hk
  isplitl [Ho]; · iexact Ho
  iapply (Entails.of_eq (pointsTo_congr hw))
  iexact Ha

/-! ## The copy of a finished block out, and the fetch of the row numbers -/

/-- A block of the result. -/
abbrev outOf (off : Fin 2 → ℕ) (inb : ∀ a, off a + S128x128.size a ≤ S16384x2048.size a) : Memref sig .scVector .hbm S128x128 .f32 :=
  uM.slice (Rect.unit (s := S16384x2048) off S128x128.size inb) (fun _ => rfl)

omit [FloatOps F] in
theorem mem_outOf {row col : ℕ} {off : Fin 2 → ℕ} (ho : off = ![row, col]) (inb : ∀ a, off a + S128x128.size a ≤ S16384x2048.size a)
    {i : S16384x2048.Idx} : i ∈ (Rect.unit (s := S16384x2048) off S128x128.size inb).set
      ↔ (row ≤ (i 0).val ∧ (i 0).val < row + 128) ∧ col ≤ (i 1).val ∧ (i 1).val < col + 128 := by
  subst ho
  rw [Rect.mem_set_unit]
  constructor
  · intro h
    exact ⟨h 0, h 1⟩
  · rintro ⟨h0, h1⟩ a
    match a with
    | 0 => exact h0
    | 1 => exact h1

omit [FloatOps F] in
theorem emb_outOf {row col : ℕ} {off : Fin 2 → ℕ} (ho : off = ![row, col]) (inb : ∀ a, off a + S128x128.size a ≤ S16384x2048.size a)
    (k c : Fin 128) : (((Rect.unit (s := S16384x2048) off S128x128.size inb).emb (ix2 k c)) 0).val = row + k.val
      ∧ (((Rect.unit (s := S16384x2048) off S128x128.size inb).emb (ix2 k c)) 1).val = col + c.val := by
  subst ho
  constructor
  · show row + 1 * k.val = _; omega
  · show col + 1 * c.val = _; omega

/-- What the transfer of a finished block out is worth. -/
abbrev uN : ℕ := (outOf ![0, 0] (by decide)).view.dmaCredit

/-- A copy of block `b` of the first scratch out, as block `n` of the task's blocks of the result. -/
def LandU (sem : DmaSem sig) (r b n : ℕ) (o : S16384x2048.Idx → Elt F .f32) : sProp 𝕄 :=
  Landing EC (tile d L) (.dma sem) default uN iprop(((uM).view.loc (tile d L) ↦[rowsOf (wid L)]{fullShare} (outC x J (wid L) n o))
    ∗ ((aM).view.loc (tile d L) ↦[reg 4 b]{fullShare} (valC x J r (4 * wid L + b) 512)))

/-- The issue of that copy. -/
theorem wp_out {r b : ℕ} (hr : r < 16) (hb : b < 4) {o : S16384x2048.Idx → Elt F .f32}
    (off : Fin 3 → ℕ) (ho : off = ![b, 0, 0]) {inb : ∀ a, off a + S1x128x128.size a ≤ S4x128x128.size a}
    (uo : Fin 2 → ℕ) (huo : uo = ![512 * wid L + 128 * b, 128 * r]) {uinb : ∀ a, uo a + S128x128.size a ≤ S16384x2048.size a}
    {sem : DmaSem sig} {hsrc : (blockOf aM off inb).view.WordExact} {hdst : (outOf uo uinb).view.WordExact}
    {hsem : DmaTarget.Typed (nD := nD) .vmem (SemLoc.dma sem) (DmaTarget.here (p := (tile d L).2) (outOf uo uinb))} :
    iprop(((aM).view.loc (tile d L) ↦[reg 4 b]{fullShare} (valC x J r (4 * wid L + b) 512))
        ∗ ((uM).view.loc (tile d L) ↦[rowsOf (wid L)]{fullShare} (outC x J (wid L) (4 * r + b) o)) ∗ semVal (tile d L, SemLoc.dma sem) 0)
      ⊢ iprop((LandU x J d L sem r b (4 * r + b + 1) o -∗ wp frame (wpE (defs₀ (F := F)) 𝒱₀ (tile d L) none) Set.univ (k ⟨⟩) Q)
          -∗ wp frame (wpE (defs₀ (F := F)) 𝒱₀ (tile d L) none) Set.univ
            (Prog.lift (.enqueueDma (blockOf aM off inb) (.here (outOf uo uinb)) (.dma sem) hsrc hdst hsem) >>= k) Q) := by
  have hSs : (blockOf aM off inb).view.set ⊆ reg 4 b := by
    rw [show (blockOf aM off inb).view.set = reg 4 b from (View.set_reshape _ _).trans ((View.set_slice_whole _ _).trans (set_block off ho inb))]
  have hset : (outOf uo uinb).view.set = (Rect.unit (s := S16384x2048) uo S128x128.size uinb).set := View.set_slice_whole _ _
  have hSd : (outOf uo uinb).view.set ⊆ rowsOf (wid L) := by
    rw [hset]
    intro i hi
    have h := (mem_outOf huo uinb).mp hi
    rw [mem_rowsOf]
    omega
  have hg : ∀ i ∈ rowsOf (wid L), (outOf uo uinb).view.write (Elt F) (outC x J (wid L) (4 * r + b) o)
      ((blockOf aM off inb).view.read (Elt F) (valC x J r (4 * wid L + b) 512)) Finset.univ i = outC x J (wid L) (4 * r + b + 1) o i := by
    intro i hi
    rw [mem_rowsOf] at hi
    have hi1 : (i 1).val < 2048 := (i 1).isLt
    by_cases hin : i ∈ (Rect.unit (s := S16384x2048) uo S128x128.size uinb).set
    · have hm := (mem_outOf huo uinb).mp hin
      obtain ⟨j, rfl⟩ : ∃ j, (Rect.unit (s := S16384x2048) uo S128x128.size uinb).emb j = i := by
        rw [← Rect.map_emb_univ] at hin
        simpa using hin
      obtain ⟨k', c', rfl⟩ : ∃ k' c' : Fin 128, j = ix2 k' c' := ⟨j 0, j 1, eq_ix2 j⟩
      obtain ⟨e0, e1⟩ := emb_outOf huo uinb k' c'
      have hE := View.write_emb_of_mem (Val := Elt F) (v := (outOf uo uinb).view) (outC x J (wid L) (4 * r + b) o)
        ((blockOf aM off inb).view.read (Elt F) (valC x J r (4 * wid L + b) 512)) (Finset.mem_univ (ix2 k' c'))
      refine Eq.trans hE ?_
      have hb' := emb_blockOf hb cc0_scratch1 off ho inb k' c'
      show valC x J r (4 * wid L + b) 512 ((Rect.unit (s := S4x128x128) off S1x128x128.size inb).emb (Shape.reshapeEquiv squeezes_S1x128x128_S128x128.numel_eq (ix2 k' c'))) = _
      rw [hb']
      show val x J r (4 * wid L + b) 512 k'.val c'.val = _
      rw [val_512 x J k'.isLt c'.isLt]
      unfold outC
      rw [e0, e1, if_pos (by have := k'.isLt; have := c'.isLt; omega)]
      congr 1
      omega
    · have hE : (outOf uo uinb).view.write (Elt F) (outC x J (wid L) (4 * r + b) o)
        ((blockOf aM off inb).view.read (Elt F) (valC x J r (4 * wid L + b) 512)) Finset.univ i = outC x J (wid L) (4 * r + b) o i :=
        View.write_of_not_mem _ _ _ (by rw [View.setOn_univ, hset]; exact hin)
      rw [hE]
      have hne : ¬(((512 * wid L + 128 * b) ≤ (i 0).val ∧ (i 0).val < 512 * wid L + 128 * b + 128) ∧ 128 * r ≤ (i 1).val ∧ (i 1).val < 128 * r + 128) :=
        fun h => hin ((mem_outOf huo uinb).mpr h)
      unfold outC
      by_cases hc : 4 * ((i 1).val / 128) + ((i 0).val - 512 * wid L) / 128 < 4 * r + b
      · rw [if_pos hc, if_pos (by omega)]
      · rw [if_neg hc, if_neg]
        intro h
        apply hne
        omega
  have H := wp_copy EC 𝒱₀ (tile d L) none (src := blockOf aM off inb) (dst := outOf uo uinb) (defs := defs₀ (F := F)) (hsrc := hsrc) (hdst := hdst) (hsem := hsem)
    (fs := valC x J r (4 * wid L + b) 512) (fd := outC x J (wid L) (4 * r + b) o) (q := fullShare) (sm := SemLoc.dma sem) (k := k) (Q := Q) default uN rfl
    (View.dmaCredit_pos _ numel_pos) hSs hSd (outC x J (wid L) (4 * r + b + 1) o) hg
  unfold LandU
  exact H

/-- The fetch of the task's row numbers. -/
def LandI (sem : DmaSem sig) (q : PosShare TreeShare) : sProp 𝕄 :=
  Landing EC (tile d L) (.dma sem) default (iM).view.dmaCredit iprop(((iM).view.loc (tile d L) ↦{fullShare} (idxC J (wid L)))
    ∗ ((jM).view.loc (tile d L) ↦{q} J))

/-- The issue of that fetch. -/
theorem wp_fetch {q : PosShare TreeShare} {f0 : S32x4x128.Idx → Elt F .i32}
    (jo : Fin 3 → ℕ) (hjo : jo = ![0, 4 * wid L, 0]) {jinb : ∀ a, jo a + S32x4x128.size a ≤ S32x128x128.size a}
    {sem : DmaSem sig} {hsrc : (jM.slice (Rect.unit (s := S32x128x128) jo S32x4x128.size jinb) (fun _ => rfl)).view.WordExact} {hdst : (iM).view.WordExact}
    {hsem : DmaTarget.Typed (nD := nD) .hbm (SemLoc.dma sem) (DmaTarget.here (p := (tile d L).2) iM)} :
    iprop(((jM).view.loc (tile d L) ↦{q} J) ∗ ((iM).view.loc (tile d L) ↦{fullShare} f0) ∗ semVal (tile d L, SemLoc.dma sem) 0)
      ⊢ iprop((LandI J d L sem q -∗ wp frame (wpE (defs₀ (F := F)) 𝒱₀ (tile d L) none) Set.univ (k ⟨⟩) Q)
          -∗ wp frame (wpE (defs₀ (F := F)) 𝒱₀ (tile d L) none) Set.univ
            (Prog.lift (.enqueueDma (jM.slice (Rect.unit (s := S32x128x128) jo S32x4x128.size jinb) (fun _ => rfl)) (.here iM) (.dma sem) hsrc hdst hsem) >>= k) Q) := by
  have hpos : 0 < S32x4x128.numel := Finset.prod_pos fun a _ => match a with
    | 0 => (by decide : 0 < 32)
    | 1 => (by decide : 0 < 4)
    | 2 => (by decide : 0 < 128)
  have hg : ∀ i ∈ (Finset.univ : Finset S32x4x128.Idx), (iM).view.write (Elt F) f0
      ((jM.slice (Rect.unit (s := S32x128x128) jo S32x4x128.size jinb) (fun _ => rfl)).view.read (Elt F) J) Finset.univ i = idxC J (wid L) i := by
    intro i _
    have hw := wid_lt L
    have hE := View.write_emb_of_mem (Val := Elt F) (v := (iM).view) f0
      ((jM.slice (Rect.unit (s := S32x128x128) jo S32x4x128.size jinb) (fun _ => rfl)).view.read (Elt F) J) (Finset.mem_univ i)
    refine Eq.trans hE ?_
    show J ((Rect.unit (s := S32x128x128) jo S32x4x128.size jinb).emb i) = _
    unfold idxC
    congr 1
    subst hjo
    have h1 : (i 1).val < 4 := (i 1).isLt
    funext a
    apply Fin.ext
    match a with
    | 0 => show 0 + 1 * (i 0).val = (i 0).val; omega
    | 1 => show 4 * wid L + 1 * (i 1).val = (4 * wid L + (i 1).val) % 128; omega
    | 2 => show 0 + 1 * (i 2).val = (i 2).val; omega
  have H := wp_copy EC 𝒱₀ (tile d L) none (src := jM.slice (Rect.unit (s := S32x128x128) jo S32x4x128.size jinb) (fun _ => rfl)) (dst := iM) (defs := defs₀ (F := F))
    (hsrc := hsrc) (hdst := hdst) (hsem := hsem)
    (fs := J) (fd := f0) (q := q) (sm := SemLoc.dma sem) (k := k) (Q := Q) default (iM).view.dmaCredit rfl
    (View.dmaCredit_pos _ hpos) (Finset.subset_univ _) (Finset.subset_univ _) (idxC J (wid L)) hg
  unfold LandI
  exact H

end Tile

end Cert.Proof.K
-- ==== Proof.Loops.lean ====
/-
  The patch loops of a tile: 32 trips of sixteen patch steps each put the second block's 512 runs into the first.
-/
module

public import proofs.«01_k».proof.Proof.Patch

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Loops

variable [FloatOps F] (x : S16384x2048.Idx → Elt F .f32) (J : S32x128x128.Idx → Elt F .i32) (d : Dev nD) (L : grid0.Coords)

/-- Block `p` of the second scratch at column group `2 r + 1`, and block `b` of the first with `n` runs of it put in. -/
def PI (r B b p n : ℕ) : sProp 𝕄 :=
  iprop(((oM).view.loc (tile d L) ↦[reg 2 p]{fullShare} (blkC x J (2 * r + 1) B (128 * r) : S2x128x128.Idx → Elt F .f32))
    ∗ ((aM).view.loc (tile d L) ↦[reg 4 b]{fullShare} (valC x J r B n)))

variable {x J d L}
variable {α : Type} {Q : α → sProp (MT nD τ sig (HIx 1) (Elt F) ℕ UU ℕ)} {k : PUnit → Prog (TpuEff nD τ sig (Elt F) Λ₀ (tile d L).2) α}

omit [FloatOps F] in
/-- A vector cast to sixteen lanes and back is itself. -/
theorem cast_cast (v : Vec F S1x1x16 .f32) : shapeCast S1x1x16 (shapeCast S16 v shapeCasts_S1x1x16_S16) shapeCasts_S16_S1x1x16 = v := by
  funext i
  show v (Shape.reshapeEquiv _ (Shape.reshapeEquiv _ i)) = v i
  rw [Shape.reshapeEquiv_reshapeEquiv, Shape.reshapeEquiv_self]

/-- One patch step, from the pair of blocks to the pair of blocks. -/
theorem step {r B b p n : ℕ} {oo ao : Fin 3 → ℕ} {oinb : ∀ a, oo a + S1x1x16.size a ≤ S2x128x128.size a} {ainb : ∀ a, ao a + S1x1x16.size a ≤ S4x128x128.size a}
    {pay : (S1x1x16.Idx → Elt F .f32) → (S1x1x16.Idx → Elt F .f32)}
    {hl1 : (oM).view.LoadsAt (run (p := 2) oo oinb).toLoadRect} {hl2 : (aM).view.LoadsAt (run (p := 4) ao ainb).toLoadRect}
    {hst : ((aM).access (run (p := 4) ao ainb)).Stores Finset.univ} {hm : (Finset.univ : Finset S1x1x16.Idx) = Finset.univ ∨ ∀ a, (run (p := 4) ao ainb).stride a = 1}
    (hb : b < 4) (hp : p < 2) (hpay : ∀ v, pay v = v) (hn : n < 512)
    (hoo : oo = ![p, n / 4, 64 + 16 * (n % 4)]) (hao : ao = ![b, n / 4, 64 + 16 * (n % 4)])
    (hk : PI x J d L r B b p (n + 1) ⊢ wp frame (wpE (defs₀ (F := F)) 𝒱₀ (tile d L) none) Set.univ (k ⟨⟩) Q) :
    PI x J d L r B b p n ⊢ wp frame (wpE (defs₀ (F := F)) 𝒱₀ (tile d L) none) Set.univ
      (Prog.lift (.load oM (run (p := 2) oo oinb).toLoadRect hl1) >>= fun v =>
              Prog.lift (.load aM (run (p := 4) ao ainb).toLoadRect hl2) >>= fun _ =>
              Prog.lift (.store aM (run (p := 4) ao ainb) (pay v) Finset.univ hst hm) >>= k) Q := by
  have H := wp_patch x J d L (r := r) (B := B) (Q := Q) (k := k) (hl1 := hl1) (hl2 := hl2) (hst := hst) (hm := hm) hb hp hn hpay hoo hao
  unfold PI at hk ⊢
  iintro HP
  iapply H $$ HP
  iintro HP
  iapply hk
  iexact HP

/-- A program that only returns. -/
theorem wp_done {P : sProp 𝕄} {a : α} (h : P ⊢ Q a) : P ⊢ wp frame (wpE (defs₀ (F := F)) 𝒱₀ (tile d L) none) Set.univ (pure a : Prog (TpuEff nD τ sig (Elt F) Λ₀ (tile d L).2) α) Q := by
  show P ⊢ wp frame (wpE (defs₀ (F := F)) 𝒱₀ (tile d L) none) Set.univ (.ret a) Q
  rw [wp_ret]
  iintro HP
  imodintro
  iapply h
  iexact HP

/-- 32 trips of sixteen steps put the whole block in. -/
theorem patch_loop {r B b p : ℕ} (l : Scf.Loop 32) (hok : l.OK) (htr : l.trips = 32) (body : Fin l.trips → Unit → Prog (TpuEff nD τ sig (Elt F) Λ₀ (tile d L).2) Unit)
    (hbody : ∀ t u, PI x J d L r B b p (16 * t.val) ⊢ wp frame (wpE (defs₀ (F := F)) 𝒱₀ (tile d L) none) Set.univ (body t u)
      fun _ => PI x J d L r B b p (16 * t.val + 16)) :
    PI x J d L r B b p 0 ⊢ iprop((PI x J d L r B b p 512 -∗ wp frame (wpE (defs₀ (F := F)) 𝒱₀ (tile d L) none) Set.univ (k ⟨⟩) Q)
      -∗ wp frame (wpE (defs₀ (F := F)) 𝒱₀ (tile d L) none) Set.univ (Scf.Loop.for l hok ⟨⟩ body >>= k) Q) := by
  have H := Scf.wp_for_bind frame (wpE (defs₀ (F := F)) 𝒱₀ (tile d L) none) Set.univ l.lb l.ub l.st hok ⟨⟩ body (fun n _ => PI x J d L r B b p (16 * n))
    (fun t u => hbody t u) (kk := k) (Q := Q)
  iintro H0 Hk
  iapply H $$ H0
  iintro %u H1
  rw [show Scf.trips l.lb l.ub l.st = 32 from htr]
  iapply Hk
  iexact H1

variable {h2 : (xM).IsWhole} {h3 : (jM).IsWhole} {h4 : (uM).IsWhole} {h5 : (iM).IsWhole} {h6 : (aM).IsWhole} {h7 : (oM).IsWhole}

/-- One trip of the loop over block 0 (the rounds'). -/
theorem trip2 {r B : ℕ} (v162 : BitVec 32) (c0_i32_303 : BitVec 32) (c32_i32_304 : BitVec 32) (t : Fin k0_t2_loop.trips) (u : Unit) :
    PI x J d L r B 0 0 (16 * t.val) ⊢ wp frame (wpE (defs₀ (F := F)) 𝒱₀ (tile d L) none) Set.univ
      (k0_t2_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v162 c0_i32_303 c32_i32_304 t u) fun _ => PI x J d L r B 0 0 (16 * t.val + 16) := by
  have ht : t.val < 32 := lt_of_lt_of_eq t.isLt (by decide)
  simp only [k0_t2_body, k0_part1_eq_skeleton, k0_part1_skel, k0_part2_eq_skeleton, k0_part2_skel, k0_part3_eq_skeleton, k0_part3_skel, k0_part4_eq_skeleton, k0_part4_skel, k0_part5_eq_skeleton, k0_part5_skel, bind_assoc, pure_bind]
  iterate 16
    refine step (by decide) (by decide) (fun v => cast_cast v) (by omega) (by clear * -; revert t; decide +kernel) (by clear * -; revert t; decide +kernel) ?_
  exact wp_done .rfl

/-- One trip of the loop over block 1 (the rounds'). -/
theorem trip3 {r B : ℕ} (k0_t1 : Fin k0_t1_loop.trips) (v455 : BitVec 32) (c4_i32_452 : BitVec 32) (v528 : BitVec 32) (v533 : BitVec 32) (c0_i32_455 : BitVec 32) (t : Fin k0_t3_loop.trips) (u : Unit) :
    PI x J d L r B 1 1 (16 * t.val) ⊢ wp frame (wpE (defs₀ (F := F)) 𝒱₀ (tile d L) none) Set.univ
      (k0_t3_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 k0_t1 v455 c4_i32_452 v528 v533 c0_i32_455 t u) fun _ => PI x J d L r B 1 1 (16 * t.val + 16) := by
  have ht : t.val < 32 := lt_of_lt_of_eq t.isLt (by decide)
  simp only [k0_t3_body, k0_part6_eq_skeleton, k0_part6_skel, k0_part7_eq_skeleton, k0_part7_skel, k0_part8_eq_skeleton, k0_part8_skel, k0_part9_eq_skeleton, k0_part9_skel, k0_part10_eq_skeleton, k0_part10_skel, bind_assoc, pure_bind]
  iterate 16
    refine step (by decide) (by decide) (fun v => cast_cast v) (by omega) (by clear * -; revert t; decide +kernel) (by clear * -; revert t; decide +kernel) ?_
  exact wp_done .rfl

/-- One trip of the loop over block 2 (the rounds'). -/
theorem trip4 {r B : ℕ} (k0_t1 : Fin k0_t1_loop.trips) (v748 : BitVec 32) (c4_i32_625 : BitVec 32) (v821 : BitVec 32) (v832 : BitVec 1) (t : Fin k0_t4_loop.trips) (u : Unit) :
    PI x J d L r B 2 0 (16 * t.val) ⊢ wp frame (wpE (defs₀ (F := F)) 𝒱₀ (tile d L) none) Set.univ
      (k0_t4_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 k0_t1 v748 c4_i32_625 v821 v832 t u) fun _ => PI x J d L r B 2 0 (16 * t.val + 16) := by
  have ht : t.val < 32 := lt_of_lt_of_eq t.isLt (by decide)
  simp only [k0_t4_body, k0_part11_eq_skeleton, k0_part11_skel, k0_part12_eq_skeleton, k0_part12_skel, k0_part13_eq_skeleton, k0_part13_skel, k0_part14_eq_skeleton, k0_part14_skel, k0_part15_eq_skeleton, k0_part15_skel, bind_assoc, pure_bind]
  iterate 16
    refine step (by decide) (by decide) (fun v => cast_cast v) (by omega) (by clear * -; revert t; decide +kernel) (by clear * -; revert t; decide +kernel) ?_
  exact wp_done .rfl

/-- One trip of the loop over block 3 (the rounds'). -/
theorem trip5 {r B : ℕ} (k0_t1 : Fin k0_t1_loop.trips) (v1041 : BitVec 32) (v1130 : BitVec 32) (t : Fin k0_t5_loop.trips) (u : Unit) :
    PI x J d L r B 3 1 (16 * t.val) ⊢ wp frame (wpE (defs₀ (F := F)) 𝒱₀ (tile d L) none) Set.univ
      (k0_t5_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 k0_t1 v1041 v1130 t u) fun _ => PI x J d L r B 3 1 (16 * t.val + 16) := by
  have ht : t.val < 32 := lt_of_lt_of_eq t.isLt (by decide)
  simp only [k0_t5_body, k0_part16_eq_skeleton, k0_part16_skel, k0_part17_eq_skeleton, k0_part17_skel, k0_part18_eq_skeleton, k0_part18_skel, k0_part19_eq_skeleton, k0_part19_skel, k0_part20_eq_skeleton, k0_part20_skel, bind_assoc, pure_bind]
  iterate 16
    refine step (by decide) (by decide) (fun v => cast_cast v) (by omega) (by clear * -; revert t; decide +kernel) (by clear * -; revert t; decide +kernel) ?_
  exact wp_done .rfl

/-- One trip of the loop over block 0 (the last round's). -/
theorem trip6 {r B : ℕ} (v2 : BitVec 32) (t : Fin k0_t6_loop.trips) (u : Unit) :
    PI x J d L r B 0 0 (16 * t.val) ⊢ wp frame (wpE (defs₀ (F := F)) 𝒱₀ (tile d L) none) Set.univ
      (k0_t6_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v2 t u) fun _ => PI x J d L r B 0 0 (16 * t.val + 16) := by
  have ht : t.val < 32 := lt_of_lt_of_eq t.isLt (by decide)
  simp only [k0_t6_body, k0_part53_eq_skeleton, k0_part53_skel, k0_part54_eq_skeleton, k0_part54_skel, k0_part55_eq_skeleton, k0_part55_skel, k0_part56_eq_skeleton, k0_part56_skel, k0_part57_eq_skeleton, k0_part57_skel, bind_assoc, pure_bind]
  iterate 16
    refine step (by decide) (by decide) (fun v => cast_cast v) (by omega) (by clear * -; revert t; decide +kernel) (by clear * -; revert t; decide +kernel) ?_
  exact wp_done .rfl

/-- One trip of the loop over block 1 (the last round's). -/
theorem trip7 {r B : ℕ} (v2 : BitVec 32) (t : Fin k0_t7_loop.trips) (u : Unit) :
    PI x J d L r B 1 1 (16 * t.val) ⊢ wp frame (wpE (defs₀ (F := F)) 𝒱₀ (tile d L) none) Set.univ
      (k0_t7_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v2 t u) fun _ => PI x J d L r B 1 1 (16 * t.val + 16) := by
  have ht : t.val < 32 := lt_of_lt_of_eq t.isLt (by decide)
  simp only [k0_t7_body, k0_part58_eq_skeleton, k0_part58_skel, k0_part59_eq_skeleton, k0_part59_skel, k0_part60_eq_skeleton, k0_part60_skel, k0_part61_eq_skeleton, k0_part61_skel, k0_part62_eq_skeleton, k0_part62_skel, bind_assoc, pure_bind]
  iterate 16
    refine step (by decide) (by decide) (fun v => cast_cast v) (by omega) (by clear * -; revert t; decide +kernel) (by clear * -; revert t; decide +kernel) ?_
  exact wp_done .rfl

/-- One trip of the loop over block 2 (the last round's). -/
theorem trip8 {r B : ℕ} (v2 : BitVec 32) (t : Fin k0_t8_loop.trips) (u : Unit) :
    PI x J d L r B 2 0 (16 * t.val) ⊢ wp frame (wpE (defs₀ (F := F)) 𝒱₀ (tile d L) none) Set.univ
      (k0_t8_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v2 t u) fun _ => PI x J d L r B 2 0 (16 * t.val + 16) := by
  have ht : t.val < 32 := lt_of_lt_of_eq t.isLt (by decide)
  simp only [k0_t8_body, k0_part63_eq_skeleton, k0_part63_skel, k0_part64_eq_skeleton, k0_part64_skel, k0_part65_eq_skeleton, k0_part65_skel, k0_part66_eq_skeleton, k0_part66_skel, k0_part67_eq_skeleton, k0_part67_skel, bind_assoc, pure_bind]
  iterate 16
    refine step (by decide) (by decide) (fun v => cast_cast v) (by omega) (by clear * -; revert t; decide +kernel) (by clear * -; revert t; decide +kernel) ?_
  exact wp_done .rfl

/-- One trip of the loop over block 3 (the last round's). -/
theorem trip9 {r B : ℕ} (t : Fin k0_t9_loop.trips) (u : Unit) :
    PI x J d L r B 3 1 (16 * t.val) ⊢ wp frame (wpE (defs₀ (F := F)) 𝒱₀ (tile d L) none) Set.univ
      (k0_t9_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 t u) fun _ => PI x J d L r B 3 1 (16 * t.val + 16) := by
  have ht : t.val < 32 := lt_of_lt_of_eq t.isLt (by decide)
  simp only [k0_t9_body, k0_part68_eq_skeleton, k0_part68_skel, k0_part69_eq_skeleton, k0_part69_skel, k0_part70_eq_skeleton, k0_part70_skel, k0_part71_eq_skeleton, k0_part71_skel, k0_part72_eq_skeleton, k0_part72_skel, bind_assoc, pure_bind]
  iterate 16
    refine step (by decide) (by decide) (fun v => cast_cast v) (by omega) (by clear * -; revert t; decide +kernel) (by clear * -; revert t; decide +kernel) ?_
  exact wp_done .rfl

end Loops

end Cert.Proof.K
-- ==== Proof.Slots.lean ====
/-
  The slots of a tile: the steps of one block, from the arrival of its two gathers to the issue of the next ones.
-/
module

public import proofs.«01_k».proof.Proof.Loops

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Slots

variable [FloatOps F] (x : S16384x2048.Idx → Elt F .f32) (J : S32x128x128.Idx → Elt F .i32) (d : Dev nD) (L : grid0.Coords)

/-- What the tile owes, and that it may wait. -/
def Duty (O : CellTallies nD τ sig (HIx 1)) (W : Waits sig (HIx 1)) : sProp 𝕄 :=
  iprop(Transfers.MayWaits (tile d L) default O ∗ Owing (tile d L) default O W)

/-- Block `b` of the first scratch, at rest with contents `f`, with its chain's token and cell. -/
def RestA (sem : DmaSem sig) (b : ℕ) (q qo : PosShare TreeShare) (f : S4x128x128.Idx → Elt F .f32) : sProp 𝕄 :=
  iprop(tok x J d L q qo ∗ ((aM).view.loc (tile d L) ↦[reg 4 b]{fullShare} f) ∗ semVal (tile d L, SemLoc.dma sem) 0)
/-- The same of the second scratch. -/
def RestO (sem : DmaSem sig) (b : ℕ) (q qo : PosShare TreeShare) (f : S2x128x128.Idx → Elt F .f32) : sProp 𝕄 :=
  iprop(tok x J d L q qo ∗ ((oM).view.loc (tile d L) ↦[reg 2 b]{fullShare} f) ∗ semVal (tile d L, SemLoc.dma sem) 0)
/-- The task's part of the result with `n` blocks copied out. -/
def Res (o : S16384x2048.Idx → Elt F .f32) (n : ℕ) : sProp 𝕄 :=
  iprop((uM).view.loc (tile d L) ↦[rowsOf (wid L)]{fullShare} (outC x J (wid L) n o))

variable {x J d L}
variable {α : Type} {Q : α → sProp (MT nD τ sig (HIx 1) (Elt F) ℕ UU ℕ)} {k : PUnit → Prog (TpuEff nD τ sig (Elt F) Λ₀ (tile d L).2) α}
variable {O : CellTallies nD τ sig (HIx 1)} {W : Waits sig (HIx 1)} {R : sProp (MT nD τ sig (HIx 1) (Elt F) ℕ UU ℕ)}

/-- The wait for a gather into the first scratch. -/
theorem waitA {sem : DmaSem sig} {b' m b c0 : ℕ} {q qo : PosShare TreeShare} {s' : Shape} {e' : EltTy} {sp' : Space}
    {srcw : Memref sig .scVector sp' s' e'} {off : Fin 3 → ℕ} {inb : ∀ a, off a + S1x128x128.size a ≤ S4x128x128.size a}
    {hsrc : srcw.view.WordExact} {hdst : (blockOf aM off inb).view.WordExact}
    (hk : iprop(RestA x J d L sem b' q qo (blkC x J m b c0) ∗ Duty d L O W ∗ R) ⊢ wp frame (wpE (defs₀ (F := F)) 𝒱₀ (tile d L) none) Set.univ (k ⟨⟩) Q) :
    iprop(LandA x J d L sem b' m b c0 q qo ∗ Duty d L O W ∗ R) ⊢ wp frame (wpE (defs₀ (F := F)) 𝒱₀ (tile d L) none) Set.univ (SparseCore.waitIndirectGather sem srcw (blockOf aM off inb) hsrc hdst >>= k) Q := by
  have H := wp_gatherWait EC 𝒱₀ (tile d L) none (defs := defs₀ (F := F)) (srcw := srcw) (dstw := blockOf aM off inb) (hsrc := hsrc) (hdst := hdst) (sem := sem) (k := k) (Q := Q)
    default (N := bN) rfl (D := iprop(((aM).view.loc (tile d L) ↦[reg 4 b']{fullShare} (blkC x J m b c0 : S4x128x128.Idx → Elt F .f32)) ∗ tok x J d L q qo)) (O := O) (W := W)
  unfold LandA Duty
  unfold RestA Duty at hk
  iintro ⟨HA, ⟨#Hm, HW⟩, HR⟩
  iapply H $$ [HA HW]
  · isplitr; · iexact Hm
    isplitl [HA] <;> iassumption
  iintro ⟨⟨Hb, Ht⟩, Hs, HW⟩
  iapply hk
  isplitl [Hb Ht Hs]
  · isplitl [Ht]; · iexact Ht
    isplitl [Hb] <;> iassumption
  isplitl [HW]
  · isplitr; · iexact Hm
    iexact HW
  iexact HR

/-- The wait for a gather into the second scratch. -/
theorem waitO {sem : DmaSem sig} {b' m b c0 : ℕ} {q qo : PosShare TreeShare} {s' : Shape} {e' : EltTy} {sp' : Space}
    {srcw : Memref sig .scVector sp' s' e'} {off : Fin 3 → ℕ} {inb : ∀ a, off a + S1x128x128.size a ≤ S2x128x128.size a}
    {hsrc : srcw.view.WordExact} {hdst : (blockOf oM off inb).view.WordExact}
    (hk : iprop(RestO x J d L sem b' q qo (blkC x J m b c0) ∗ Duty d L O W ∗ R) ⊢ wp frame (wpE (defs₀ (F := F)) 𝒱₀ (tile d L) none) Set.univ (k ⟨⟩) Q) :
    iprop(LandO x J d L sem b' m b c0 q qo ∗ Duty d L O W ∗ R) ⊢ wp frame (wpE (defs₀ (F := F)) 𝒱₀ (tile d L) none) Set.univ (SparseCore.waitIndirectGather sem srcw (blockOf oM off inb) hsrc hdst >>= k) Q := by
  have H := wp_gatherWait EC 𝒱₀ (tile d L) none (defs := defs₀ (F := F)) (srcw := srcw) (dstw := blockOf oM off inb) (hsrc := hsrc) (hdst := hdst) (sem := sem) (k := k) (Q := Q)
    default (N := bN) rfl (D := iprop(((oM).view.loc (tile d L) ↦[reg 2 b']{fullShare} (blkC x J m b c0 : S2x128x128.Idx → Elt F .f32)) ∗ tok x J d L q qo)) (O := O) (W := W)
  unfold LandO Duty
  unfold RestO Duty at hk
  iintro ⟨HA, ⟨#Hm, HW⟩, HR⟩
  iapply H $$ [HA HW]
  · isplitr; · iexact Hm
    isplitl [HA] <;> iassumption
  iintro ⟨⟨Hb, Ht⟩, Hs, HW⟩
  iapply hk
  isplitl [Hb Ht Hs]
  · isplitl [Ht]; · iexact Ht
    isplitl [Hb] <;> iassumption
  isplitl [HW]
  · isplitr; · iexact Hm
    iexact HW
  iexact HR

omit [FloatOps F] in
/-- A block with nothing put in is the gathered one. -/
theorem valC_zero (r B : ℕ) : valC x J r B 0 = (blkC x J (2 * r) B (128 * r) : S4x128x128.Idx → Elt F .f32) := by
  funext i
  unfold valC val blkC
  rw [if_neg (by omega)]

/-- The loop over a block at rest. -/
theorem loopAO {semA semO : DmaSem sig} {r B b p : ℕ} {q qo q' qo' : PosShare TreeShare} {l : Scf.Loop 32} {hok : l.OK} (htr : l.trips = 32)
    {body : Fin l.trips → Unit → Prog (TpuEff nD τ sig (Elt F) Λ₀ (tile d L).2) Unit}
    (hbody : ∀ t u, PI x J d L r B b p (16 * t.val) ⊢ wp frame (wpE (defs₀ (F := F)) 𝒱₀ (tile d L) none) Set.univ (body t u)
      fun _ => PI x J d L r B b p (16 * t.val + 16))
    (hk : iprop(RestO x J d L semO p q' qo' (blkC x J (2 * r + 1) B (128 * r)) ∗ RestA x J d L semA b q qo (valC x J r B 512) ∗ R) ⊢ wp frame (wpE (defs₀ (F := F)) 𝒱₀ (tile d L) none) Set.univ (k ⟨⟩) Q) :
    iprop(RestO x J d L semO p q' qo' (blkC x J (2 * r + 1) B (128 * r)) ∗ RestA x J d L semA b q qo (blkC x J (2 * r) B (128 * r)) ∗ R)
      ⊢ wp frame (wpE (defs₀ (F := F)) 𝒱₀ (tile d L) none) Set.univ (Scf.Loop.for l hok ⟨⟩ body >>= k) Q := by
  have H := patch_loop (k := k) (Q := Q) l hok htr body hbody
  rw [← valC_zero r B]
  unfold RestA RestO at hk ⊢
  unfold PI at H
  iintro ⟨⟨Ht', Ho, Hs'⟩, ⟨Ht, Ha, Hs⟩, HR⟩
  iapply H $$ [Ho Ha]
  · isplitl [Ho] <;> iassumption
  iintro ⟨Ho, Ha⟩
  iapply hk
  isplitl [Ht' Ho Hs']
  · isplitl [Ht']; · iexact Ht'
    isplitl [Ho] <;> iassumption
  isplitl [Ht Ha Hs]
  · isplitl [Ht]; · iexact Ht
    isplitl [Ha] <;> iassumption
  iexact HR

/-- The issue of a gather into a block of the first scratch at rest. -/
theorem gatherA {b' m b c0 : ℕ} (hJ : InRows J) (hb' : b' < 4) (hm : m < 32) (hb : b < 4) (hc : c0 + 128 ≤ 2048)
    {lo : Fin 3 → ℕ} (hlo : lo = ![m, b, 0]) {linb : ∀ a, lo a + S1x1x128.size a ≤ S32x4x128.size a}
    {so : Fin 2 → ℕ} (hso : so = ![0, c0]) {sinb : ∀ a, so a + S16384x128.size a ≤ S16384x2048.size a}
    {off : Fin 3 → ℕ} (ho : off = ![b', 0, 0]) {inb : ∀ a, off a + S1x128x128.size a ≤ S4x128x128.size a}
    {sem : DmaSem sig} {hp : (tile d L).2.kind = .scVector} {hsrc : (srcOf so sinb).view.WordExact} {he : EltTy.bits .f32 = 32} {hsp : Space.hbm = .hbm ∨ Space.hbm = .shared}
    {hr : S16384x128.StreamRows 0} {hn : S128.numel = S128x128.size gathers_S16384x128_S128x128.axis'}
    {q qo : PosShare TreeShare} {fd : S4x128x128.Idx → Elt F .f32}
    (hk : iprop(LandA x J d L sem b' m (4 * wid L + b) c0 q qo ∗ R) ⊢ wp frame (wpE (defs₀ (F := F)) 𝒱₀ (tile d L) none) Set.univ (k ⟨⟩) Q) :
    iprop(RestA x J d L sem b' q qo fd ∗ R) ⊢ wp frame (wpE (defs₀ (F := F)) 𝒱₀ (tile d L) none) Set.univ (SparseCore.enqueueIndirectGather hp (srcOf so sinb) (blockOf aM off inb)
            gathers_S16384x128_S128x128 (listOf lo linb) hn sem hsrc he hsp hr >>= k) Q := by
  have H := wp_gatherA x J d L hJ hb' hm hb hc lo hlo (linb := linb) so hso (sinb := sinb) off ho (inb := inb) (sem := sem) (hp := hp) (hsrc := hsrc) (he := he) (hsp := hsp)
    (hr := hr) (hn := hn) (q := q) (qo := qo) (fd := fd) (k := k) (Q := Q)
  unfold RestA
  iintro ⟨HA, HR⟩
  iapply H $$ HA
  iintro HA
  iapply hk
  isplitl [HA] <;> iassumption

/-- The issue of a gather into a block of the second scratch at rest. -/
theorem gatherO {b' m b c0 : ℕ} (hJ : InRows J) (hb' : b' < 2) (hm : m < 32) (hb : b < 4) (hc : c0 + 128 ≤ 2048)
    {lo : Fin 3 → ℕ} (hlo : lo = ![m, b, 0]) {linb : ∀ a, lo a + S1x1x128.size a ≤ S32x4x128.size a}
    {so : Fin 2 → ℕ} (hso : so = ![0, c0]) {sinb : ∀ a, so a + S16384x128.size a ≤ S16384x2048.size a}
    {off : Fin 3 → ℕ} (ho : off = ![b', 0, 0]) {inb : ∀ a, off a + S1x128x128.size a ≤ S2x128x128.size a}
    {sem : DmaSem sig} {hp : (tile d L).2.kind = .scVector} {hsrc : (srcOf so sinb).view.WordExact} {he : EltTy.bits .f32 = 32} {hsp : Space.hbm = .hbm ∨ Space.hbm = .shared}
    {hr : S16384x128.StreamRows 0} {hn : S128.numel = S128x128.size gathers_S16384x128_S128x128.axis'}
    {q qo : PosShare TreeShare} {fd : S2x128x128.Idx → Elt F .f32}
    (hk : iprop(LandO x J d L sem b' m (4 * wid L + b) c0 q qo ∗ R) ⊢ wp frame (wpE (defs₀ (F := F)) 𝒱₀ (tile d L) none) Set.univ (k ⟨⟩) Q) :
    iprop(RestO x J d L sem b' q qo fd ∗ R) ⊢ wp frame (wpE (defs₀ (F := F)) 𝒱₀ (tile d L) none) Set.univ (SparseCore.enqueueIndirectGather hp (srcOf so sinb) (blockOf oM off inb)
            gathers_S16384x128_S128x128 (listOf lo linb) hn sem hsrc he hsp hr >>= k) Q := by
  have H := wp_gatherO x J d L hJ hb' hm hb hc lo hlo (linb := linb) so hso (sinb := sinb) off ho (inb := inb) (sem := sem) (hp := hp) (hsrc := hsrc) (he := he) (hsp := hsp)
    (hr := hr) (hn := hn) (q := q) (qo := qo) (fd := fd) (k := k) (Q := Q)
  unfold RestO
  iintro ⟨HA, HR⟩
  iapply H $$ HA
  iintro HA
  iapply hk
  isplitl [HA] <;> iassumption

/-- A finished block copied out, and the wait for that. -/
theorem flush {r b : ℕ} (hr : r < 16) (hb : b < 4) {o : S16384x2048.Idx → Elt F .f32} {semA sem : DmaSem sig} {q qo : PosShare TreeShare}
    {off : Fin 3 → ℕ} (ho : off = ![b, 0, 0]) {inb : ∀ a, off a + S1x128x128.size a ≤ S4x128x128.size a}
    {uo : Fin 2 → ℕ} (huo : uo = ![512 * wid L + 128 * b, 128 * r]) {uinb : ∀ a, uo a + S128x128.size a ≤ S16384x2048.size a}
    {hsrc : (blockOf aM off inb).view.WordExact} {hdst : (outOf uo uinb).view.WordExact}
    {hsem : DmaTarget.Typed (nD := nD) .vmem (SemLoc.dma sem) (DmaTarget.here (p := (tile d L).2) (outOf uo uinb))}
    {s' : Shape} {e' : EltTy} {sp' : Space} {srcw : Memref sig .scVector sp' s' e'} {hsrc' : srcw.view.WordExact}
    {uo' : Fin 2 → ℕ} {uinb' : ∀ a, uo' a + S128x128.size a ≤ S16384x2048.size a} {hdst' : (outOf uo' uinb').view.WordExact}
    (hk : iprop(RestA x J d L semA b q qo (valC x J r (4 * wid L + b) 512) ∗ Res x J d L o (4 * r + b + 1) ∗ semVal (tile d L, SemLoc.dma sem) 0 ∗ Duty d L O W ∗ R) ⊢ wp frame (wpE (defs₀ (F := F)) 𝒱₀ (tile d L) none) Set.univ (k ⟨⟩) Q) :
    iprop(RestA x J d L semA b q qo (valC x J r (4 * wid L + b) 512) ∗ Res x J d L o (4 * r + b) ∗ semVal (tile d L, SemLoc.dma sem) 0 ∗ Duty d L O W ∗ R)
      ⊢ wp frame (wpE (defs₀ (F := F)) 𝒱₀ (tile d L) none) Set.univ (Prog.lift (.enqueueDma (blockOf aM off inb) (.here (outOf uo uinb)) (.dma sem) hsrc hdst hsem) >>= fun _ =>
          Prog.lift (.waitDma2 sem srcw (outOf uo' uinb') hsrc' hdst') >>= k) Q := by
  have H1 := wp_out x J d L hr hb (o := o) off ho (inb := inb) uo huo (uinb := uinb) (sem := sem) (hsrc := hsrc) (hdst := hdst) (hsem := hsem)
    (k := fun _ => Prog.lift (.waitDma2 sem srcw (outOf uo' uinb') hsrc' hdst') >>= k) (Q := Q)
  have H2 := wp_wait EC 𝒱₀ (tile d L) none (defs := defs₀ (F := F)) (srcw := srcw) (dstw := outOf uo' uinb') (hsrc := hsrc') (hdst := hdst') (sem := sem) (k := k) (Q := Q)
    default (N := uN) rfl (D := iprop(((uM).view.loc (tile d L) ↦[rowsOf (wid L)]{fullShare} (outC x J (wid L) (4 * r + b + 1) o))
    ∗ ((aM).view.loc (tile d L) ↦[reg 4 b]{fullShare} (valC x J r (4 * wid L + b) 512)))) (O := O) (W := W)
  unfold RestA Res Duty at hk ⊢
  unfold LandU at H1
  iintro ⟨⟨Ht, Ha, Hs⟩, HU, Hv, ⟨#Hm, HW⟩, HR⟩
  iapply H1 $$ [Ha HU Hv]
  · isplitl [Ha]; · iexact Ha
    isplitl [HU] <;> iassumption
  iintro HL
  iapply H2 $$ [HL HW]
  · isplitr; · iexact Hm
    isplitl [HL] <;> iassumption
  iintro ⟨⟨HU, Ha⟩, Hv, HW⟩
  iapply hk
  isplitl [Ht Ha Hs]
  · isplitl [Ht]; · iexact Ht
    isplitl [Ha] <;> iassumption
  isplitl [HU]; · iexact HU
  isplitl [Hv]; · iexact Hv
  isplitl [HW]
  · isplitr; · iexact Hm
    iexact HW
  iexact HR

end Slots

end Cert.Proof.K
-- ==== Proof.Round.lean ====
/-
  The rounds of a tile: fifteen rounds of four slots each.
-/
module

public import proofs.«01_k».proof.Proof.Slots

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Round

variable [FloatOps F] (x : S16384x2048.Idx → Elt F .f32) (J : S32x128x128.Idx → Elt F .i32) (d : Dev nD) (L : grid0.Coords)

/-- The shares that the six chains of gathers use. -/
structure Shares where
  x : Fin 6 → PosShare TreeShare
  i : Fin 6 → PosShare TreeShare

/-- The tile before slot `4 r`: the gathers of round `r` on their way, the first `4 r` blocks copied out. -/
def St (S : Shares) (O : CellTallies nD τ sig (HIx 1)) (W : Waits sig (HIx 1)) (o : S16384x2048.Idx → Elt F .f32) (r : ℕ) : sProp 𝕄 :=
  iprop(LandA x J d L cc0_scratch3.sem 0 (2 * r) (4 * wid L + 0) (128 * r) (S.x 0) (S.i 0)
    ∗ LandO x J d L cc0_scratch7.sem 0 (2 * r + 1) (4 * wid L + 0) (128 * r) (S.x 4) (S.i 4)
    ∗ Res x J d L o (4 * r + 0) ∗ semVal (tile d L, SemLoc.dma cc0_scratch9.sem) 0 ∗ Duty d L O W
    ∗ LandA x J d L cc0_scratch4.sem 1 (2 * r) (4 * wid L + 1) (128 * r) (S.x 1) (S.i 1) ∗ semVal (tile d L, SemLoc.dma cc0_scratch10.sem) 0
    ∗ LandA x J d L cc0_scratch5.sem 2 (2 * r) (4 * wid L + 2) (128 * r) (S.x 2) (S.i 2) ∗ semVal (tile d L, SemLoc.dma cc0_scratch11.sem) 0
    ∗ LandA x J d L cc0_scratch6.sem 3 (2 * r) (4 * wid L + 3) (128 * r) (S.x 3) (S.i 3) ∗ semVal (tile d L, SemLoc.dma cc0_scratch12.sem) 0
    ∗ LandO x J d L cc0_scratch8.sem 1 (2 * r + 1) (4 * wid L + 1) (128 * r) (S.x 5) (S.i 5))

variable {x J d L}
variable {α : Type} {Q : α → sProp (MT nD τ sig (HIx 1) (Elt F) ℕ UU ℕ)} {k : PUnit → Prog (TpuEff nD τ sig (Elt F) Λ₀ (tile d L).2) α}
variable {O : CellTallies nD τ sig (HIx 1)} {W : Waits sig (HIx 1)} {R : sProp (MT nD τ sig (HIx 1) (Elt F) ℕ UU ℕ)}

/-- The head of a slot: both gathers awaited and the second put into the first. -/
theorem head {semA semO : DmaSem sig} {r B b p : ℕ} {q qo q' qo' : PosShare TreeShare}
    {sA sO : Shape} {eA eO : EltTy} {spA spO : Space} {srcA : Memref sig .scVector spA sA eA} {srcO : Memref sig .scVector spO sO eO}
    {offA : Fin 3 → ℕ} {inbA : ∀ a, offA a + S1x128x128.size a ≤ S4x128x128.size a} {offO : Fin 3 → ℕ} {inbO : ∀ a, offO a + S1x128x128.size a ≤ S2x128x128.size a}
    {hsA : srcA.view.WordExact} {hdA : (blockOf aM offA inbA).view.WordExact} {hsO : srcO.view.WordExact} {hdO : (blockOf oM offO inbO).view.WordExact}
    {l : Scf.Loop 32} {hok : l.OK} {body : Fin l.trips → Unit → Prog (TpuEff nD τ sig (Elt F) Λ₀ (tile d L).2) Unit}
    {U s : sProp (MT nD τ sig (HIx 1) (Elt F) ℕ UU ℕ)}
    (htr : l.trips = 32)
    (hbody : ∀ t u, PI x J d L r B b p (16 * t.val) ⊢ wp frame (wpE (defs₀ (F := F)) 𝒱₀ (tile d L) none) Set.univ (body t u)
      fun _ => PI x J d L r B b p (16 * t.val + 16))
    (hk : iprop(RestO x J d L semO p q' qo' (blkC x J (2 * r + 1) B (128 * r)) ∗ RestA x J d L semA b q qo (valC x J r B 512) ∗ U ∗ s ∗ Duty d L O W ∗ R)
      ⊢ wp frame (wpE (defs₀ (F := F)) 𝒱₀ (tile d L) none) Set.univ (k ⟨⟩) Q) :
    iprop(LandA x J d L semA b (2 * r) B (128 * r) q qo ∗ LandO x J d L semO p (2 * r + 1) B (128 * r) q' qo' ∗ U ∗ s ∗ Duty d L O W ∗ R)
      ⊢ wp frame (wpE (defs₀ (F := F)) 𝒱₀ (tile d L) none) Set.univ (SparseCore.waitIndirectGather semA srcA (blockOf aM offA inbA) hsA hdA >>= fun _ =>
          SparseCore.waitIndirectGather semO srcO (blockOf oM offO inbO) hsO hdO >>= fun _ =>
          Scf.Loop.for l hok ⟨⟩ body >>= k) Q := by
  refine BIBase.Entails.trans (Q := iprop(LandA x J d L semA b (2 * r) B (128 * r) q qo ∗ Duty d L O W ∗ LandO x J d L semO p (2 * r + 1) B (128 * r) q' qo' ∗ U ∗ s ∗ R)) ?_ (waitA ?_)
  · iintro ⟨HA, HO, HU, Hs, HD, HR⟩
    isplitl [HA]; · iexact HA
    isplitl [HD]; · iexact HD
    isplitl [HO]; · iexact HO
    isplitl [HU]; · iexact HU
    isplitl [Hs] <;> iassumption
  refine BIBase.Entails.trans (Q := iprop(LandO x J d L semO p (2 * r + 1) B (128 * r) q' qo' ∗ Duty d L O W
      ∗ RestA x J d L semA b q qo (blkC x J (2 * r) B (128 * r)) ∗ U ∗ s ∗ R)) ?_ (waitO ?_)
  · iintro ⟨HA, HD, HO, HR⟩
    isplitl [HO]; · iexact HO
    isplitl [HD]; · iexact HD
    isplitl [HA] <;> iassumption
  refine BIBase.Entails.trans (Q := iprop(RestO x J d L semO p q' qo' (blkC x J (2 * r + 1) B (128 * r))
      ∗ RestA x J d L semA b q qo (blkC x J (2 * r) B (128 * r)) ∗ U ∗ s ∗ Duty d L O W ∗ R)) ?_ (loopAO htr hbody hk)
  iintro ⟨HO, HD, HA, HU, Hs, HR⟩
  isplitl [HO]; · iexact HO
  isplitl [HA]; · iexact HA
  isplitl [HU]; · iexact HU
  isplitl [Hs]; · iexact Hs
  isplitl [HD] <;> iassumption

/-- From the second scratch's step to the copying out. -/
theorem toFlush {P A U s D' : sProp 𝕄} : iprop(P ∗ A ∗ U ∗ s ∗ D' ∗ R) ⊢ iprop(A ∗ U ∗ s ∗ D' ∗ P ∗ R) := by
  iintro ⟨HP, HA, HU, Hs, HD, HR⟩
  isplitl [HA]; · iexact HA
  isplitl [HU]; · iexact HU
  isplitl [Hs]; · iexact Hs
  isplitl [HD]; · iexact HD
  isplitl [HP] <;> iassumption

/-- From the end of one slot to the head of the next. -/
theorem turn {A0 U s0 D' P0 A1 s1 A2 s2 A3 s3 P1 : sProp 𝕄} :
    iprop(A0 ∗ U ∗ s0 ∗ D' ∗ P0 ∗ A1 ∗ s1 ∗ A2 ∗ s2 ∗ A3 ∗ s3 ∗ P1) ⊢ iprop(A1 ∗ P1 ∗ U ∗ s1 ∗ D' ∗ A2 ∗ s2 ∗ A3 ∗ s3 ∗ A0 ∗ s0 ∗ P0) := by
  iintro ⟨HA0, HU, Hs0, HD, HP0, HA1, Hs1, HA2, Hs2, HA3, Hs3, HP1⟩
  isplitl [HA1]; · iexact HA1
  isplitl [HP1]; · iexact HP1
  isplitl [HU]; · iexact HU
  isplitl [Hs1]; · iexact Hs1
  isplitl [HD]; · iexact HD
  isplitl [HA2]; · iexact HA2
  isplitl [Hs2]; · iexact Hs2
  isplitl [HA3]; · iexact HA3
  isplitl [Hs3]; · iexact Hs3
  isplitl [HA0]; · iexact HA0
  isplitl [Hs0] <;> iassumption

variable {h2 : (xM).IsWhole} {h3 : (jM).IsWhole} {h4 : (uM).IsWhole} {h5 : (iM).IsWhole} {h6 : (aM).IsWhole} {h7 : (oM).IsWhole}

set_option maxHeartbeats 1000000 in
/-- One round. -/
theorem round (hJ : InRows J) (S : Shares) (o : S16384x2048.Idx → Elt F .f32) (v2 : BitVec 32) (t : Fin k0_t1_loop.trips) (u : Unit) :
    St x J d L S O W o t.val ⊢ wp frame (wpE (defs₀ (F := F)) 𝒱₀ (tile d L) none) Set.univ (k0_t1_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v2 t u) fun _ => St x J d L S O W o (t.val + 1) := by
  have ht : t.val < 15 := lt_of_lt_of_eq t.isLt (by decide)
  simp only [k0_t1_body, k0_part52_eq_skeleton, k0_part52_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, bind_assoc, pure_bind]
  unfold St
  refine head (by decide) (fun t u => by apply trip2) ?_
  refine gatherO (m := 2 * t.val + 1) (b := 2) (c0 := 128 * t.val) hJ (by decide) (by omega) (by decide) (by omega) (by clear * -; revert t; decide +kernel) (by clear * -; revert t; decide +kernel) rfl ?_
  refine toFlush.trans (flush (by omega) (by decide) rfl (by clear * -; revert t L; decide +kernel) ?_)
  refine gatherA (m := 2 * (t.val + 1)) (b := 0) (c0 := 128 * (t.val + 1)) hJ (by decide) (by omega) (by decide) (by omega) (by clear * -; revert t; decide +kernel) (by clear * -; revert t; decide +kernel) rfl ?_
  refine turn.trans ?_
  refine head (by decide) (fun t u => by apply trip3) ?_
  refine gatherO (m := 2 * t.val + 1) (b := 3) (c0 := 128 * t.val) hJ (by decide) (by omega) (by decide) (by omega) (by clear * -; revert t; decide +kernel) (by clear * -; revert t; decide +kernel) rfl ?_
  refine toFlush.trans (flush (by omega) (by decide) rfl (by clear * -; revert t L; decide +kernel) ?_)
  refine gatherA (m := 2 * (t.val + 1)) (b := 1) (c0 := 128 * (t.val + 1)) hJ (by decide) (by omega) (by decide) (by omega) (by clear * -; revert t; decide +kernel) (by clear * -; revert t; decide +kernel) rfl ?_
  refine turn.trans ?_
  refine head (by decide) (fun t u => by apply trip4) ?_
  refine gatherO (m := 2 * (t.val + 1) + 1) (b := 0) (c0 := 128 * (t.val + 1)) hJ (by decide) (by omega) (by decide) (by omega) (by clear * -; revert t; decide +kernel) (by clear * -; revert t; decide +kernel) rfl ?_
  refine toFlush.trans (flush (by omega) (by decide) rfl (by clear * -; revert t L; decide +kernel) ?_)
  refine gatherA (m := 2 * (t.val + 1)) (b := 2) (c0 := 128 * (t.val + 1)) hJ (by decide) (by omega) (by decide) (by omega) (by clear * -; revert t; decide +kernel) (by clear * -; revert t; decide +kernel) rfl ?_
  refine turn.trans ?_
  refine head (by decide) (fun t u => by apply trip5) ?_
  refine gatherO (m := 2 * (t.val + 1) + 1) (b := 1) (c0 := 128 * (t.val + 1)) hJ (by decide) (by omega) (by decide) (by omega) (by clear * -; revert t; decide +kernel) (by clear * -; revert t; decide +kernel) rfl ?_
  refine toFlush.trans (flush (by omega) (by decide) rfl (by clear * -; revert t L; decide +kernel) ?_)
  refine gatherA (m := 2 * (t.val + 1)) (b := 3) (c0 := 128 * (t.val + 1)) hJ (by decide) (by omega) (by decide) (by omega) (by clear * -; revert t; decide +kernel) (by clear * -; revert t; decide +kernel) rfl ?_
  refine turn.trans ?_
  exact wp_done .rfl

end Round

end Cert.Proof.K
-- ==== Proof.Tile.lean ====
/-
  A tile's whole task: the fetch of its row numbers, the first gathers, the rounds, the last four slots.
-/
module

public import proofs.«01_k».proof.Proof.Round

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Whole

variable [FloatOps F] (x : S16384x2048.Idx → Elt F .f32) (J : S32x128x128.Idx → Elt F .i32) (d : Dev nD) (L : grid0.Coords)

/-- The shares cut from a share `q` of the table and from the whole list buffer. -/
def cut (q : PosShare TreeShare) : Shares := ⟨pieceOf q 6 (by decide), pieceOf fullShare 6 (by decide)⟩

/-- The table's share and the whole list buffer are the six chains' tokens. -/
theorem toks_eq (q : PosShare TreeShare) :
    (iprop(((xM).view.loc (tile d L) ↦{q} x) ∗ ((iM).view.loc (tile d L) ↦{fullShare} (idxC J (wid L)))) : sProp 𝕄)
      = iprop(tok x J d L ((cut q).x 0) ((cut q).i 0) ∗ tok x J d L ((cut q).x 1) ((cut q).i 1) ∗ tok x J d L ((cut q).x 2) ((cut q).i 2)
        ∗ tok x J d L ((cut q).x 3) ((cut q).i 3) ∗ tok x J d L ((cut q).x 4) ((cut q).i 4) ∗ tok x J d L ((cut q).x 5) ((cut q).i 5)) := by
  have h1 := pointsTo_piecesOf (ℓ := (xM).view.loc (tile d L)) (Ix := HIx 1) (Val := Elt F) (Name := ℕ) (U := UU) (Lvl := ℕ) Finset.univ x (o := 6) (by decide) q
  have h2 := pointsTo_piecesOf (ℓ := (iM).view.loc (tile d L)) (Ix := HIx 1) (Val := Elt F) (Name := ℕ) (U := UU) (Lvl := ℕ) Finset.univ (idxC J (wid L)) (o := 6) (by decide) fullShare
  rw [h1, h2, ← bigSep_sep']
  exact bigSep_univ_eq_bigSepL [0, 1, 2, 3, 4, 5] (by decide) (by decide) (fun j : Fin 6 => tok x J d L ((cut q).x j) ((cut q).i j))

omit [FloatOps F] in
theorem reg_disjoint (p : ℕ) : ∀ a ∈ (Finset.univ : Finset (Fin p)), ∀ b ∈ (Finset.univ : Finset (Fin p)), a ≠ b → Disjoint (reg p a.val) (reg p b.val) := by
  intro a _ b _ hab
  rw [Finset.disjoint_left]
  intro i ha hb
  rw [mem_reg] at ha hb
  exact hab (Fin.ext (ha.symm.trans hb))

omit [FloatOps F] in
theorem reg_cover (p : ℕ) : (Finset.univ : Finset (Fin p)).biUnion (fun b => reg p b.val) = Finset.univ := by
  ext i
  simp only [Finset.mem_biUnion, Finset.mem_univ, true_and, iff_true]
  exact ⟨i 0, mem_reg.mpr rfl⟩

/-- The first scratch is its four blocks. -/
theorem blocks_a (f : S4x128x128.Idx → Elt F .f32) :
    ((aM).view.loc (tile d L) ↦{fullShare} f : sProp 𝕄)
      = iprop(((aM).view.loc (tile d L) ↦[reg 4 0]{fullShare} f) ∗ ((aM).view.loc (tile d L) ↦[reg 4 1]{fullShare} f)
        ∗ ((aM).view.loc (tile d L) ↦[reg 4 2]{fullShare} f) ∗ ((aM).view.loc (tile d L) ↦[reg 4 3]{fullShare} f)) := by
  have h := pointsTo_biUnion (ℓ := (aM).view.loc (tile d L)) (q := fullShare) (f := f) (Ix := HIx 1) (Val := Elt F) (Name := ℕ) (U := UU) (Lvl := ℕ)
    Finset.univ (fun b : Fin 4 => reg 4 b.val) (reg_disjoint 4)
  rw [show (Finset.univ : Finset (Fin 4)).biUnion (fun b => reg 4 b.val) = Finset.univ from reg_cover 4] at h
  exact h.trans (bigSep_univ_eq_bigSepL [0, 1, 2, 3] (by decide) (by decide) (fun b : Fin 4 => ((aM).view.loc (tile d L) ↦[reg 4 b.val]{fullShare} f)))

/-- The second scratch is its two blocks. -/
theorem blocks_o (f : S2x128x128.Idx → Elt F .f32) :
    ((oM).view.loc (tile d L) ↦{fullShare} f : sProp 𝕄)
      = iprop(((oM).view.loc (tile d L) ↦[reg 2 0]{fullShare} f) ∗ ((oM).view.loc (tile d L) ↦[reg 2 1]{fullShare} f)) := by
  have h := pointsTo_biUnion (ℓ := (oM).view.loc (tile d L)) (q := fullShare) (f := f) (Ix := HIx 1) (Val := Elt F) (Name := ℕ) (U := UU) (Lvl := ℕ)
    Finset.univ (fun b : Fin 2 => reg 2 b.val) (reg_disjoint 2)
  rw [show (Finset.univ : Finset (Fin 2)).biUnion (fun b => reg 2 b.val) = Finset.univ from reg_cover 2] at h
  exact h.trans (bigSep_univ_eq_bigSepL [0, 1] (by decide) (by decide) (fun b : Fin 2 => ((oM).view.loc (tile d L) ↦[reg 2 b.val]{fullShare} f)))

/-- Four blocks of the first scratch, whatever they hold, are the scratch. -/
theorem join_a (f0 f1 f2 f3 : S4x128x128.Idx → Elt F .f32) :
    (iprop(((aM).view.loc (tile d L) ↦[reg 4 0]{fullShare} f0) ∗ ((aM).view.loc (tile d L) ↦[reg 4 1]{fullShare} f1)
        ∗ ((aM).view.loc (tile d L) ↦[reg 4 2]{fullShare} f2) ∗ ((aM).view.loc (tile d L) ↦[reg 4 3]{fullShare} f3)) : sProp 𝕄)
      ⊢ iprop(∃ f, (aM).view.loc (tile d L) ↦{fullShare} f) := by
  have h := pointsTo_biUnion_join (ℓ := (aM).view.loc (tile d L)) (q := fullShare) (Ix := HIx 1) (Val := Elt F) (Name := ℕ) (U := UU) (Lvl := ℕ)
    Finset.univ (fun b : Fin 4 => reg 4 b.val) (fun b => ![f0, f1, f2, f3] b) f0 (reg_disjoint 4)
  rw [show (Finset.univ : Finset (Fin 4)).biUnion (fun b => reg 4 b.val) = Finset.univ from reg_cover 4,
    bigSep_univ_eq_bigSepL [0, 1, 2, 3] (by decide) (by decide)] at h
  refine BIBase.Entails.trans h ?_
  iintro ⟨%g, -, H⟩
  iexists g
  iexact H

/-- Two blocks of the second scratch, whatever they hold, are the scratch. -/
theorem join_o (f0 f1 : S2x128x128.Idx → Elt F .f32) :
    (iprop(((oM).view.loc (tile d L) ↦[reg 2 0]{fullShare} f0) ∗ ((oM).view.loc (tile d L) ↦[reg 2 1]{fullShare} f1)) : sProp 𝕄)
      ⊢ iprop(∃ f, (oM).view.loc (tile d L) ↦{fullShare} f) := by
  have h := pointsTo_biUnion_join (ℓ := (oM).view.loc (tile d L)) (q := fullShare) (Ix := HIx 1) (Val := Elt F) (Name := ℕ) (U := UU) (Lvl := ℕ)
    Finset.univ (fun b : Fin 2 => reg 2 b.val) (fun b => ![f0, f1] b) f0 (reg_disjoint 2)
  rw [show (Finset.univ : Finset (Fin 2)).biUnion (fun b => reg 2 b.val) = Finset.univ from reg_cover 2,
    bigSep_univ_eq_bigSepL [0, 1] (by decide) (by decide)] at h
  refine BIBase.Entails.trans h ?_
  iintro ⟨%g, -, H⟩
  iexists g
  iexact H

/-- The tile's own cells at zero. -/
def Sems : sProp 𝕄 :=
  iprop(semVal (tile d L, SemLoc.dma cc0_scratch3.sem) 0 ∗ semVal (tile d L, SemLoc.dma cc0_scratch4.sem) 0 ∗ semVal (tile d L, SemLoc.dma cc0_scratch5.sem) 0
    ∗ semVal (tile d L, SemLoc.dma cc0_scratch6.sem) 0 ∗ semVal (tile d L, SemLoc.dma cc0_scratch7.sem) 0 ∗ semVal (tile d L, SemLoc.dma cc0_scratch8.sem) 0
    ∗ semVal (tile d L, SemLoc.dma cc0_scratch9.sem) 0 ∗ semVal (tile d L, SemLoc.dma cc0_scratch10.sem) 0 ∗ semVal (tile d L, SemLoc.dma cc0_scratch11.sem) 0
    ∗ semVal (tile d L, SemLoc.dma cc0_scratch12.sem) 0 ∗ semVal (tile d L, SemLoc.dma cc0_scoped0.sem) 0)

variable {x J d L}
variable {α : Type} {Q : α → sProp (MT nD τ sig (HIx 1) (Elt F) ℕ UU ℕ)} {k : PUnit → Prog (TpuEff nD τ sig (Elt F) Λ₀ (tile d L).2) α}
variable {O : CellTallies nD τ sig (HIx 1)} {W : Waits sig (HIx 1)} {R : sProp (MT nD τ sig (HIx 1) (Elt F) ℕ UU ℕ)}

/-- Six props turned once. -/
theorem turn6 {A0 A1 A2 A3 A4 A5 : sProp 𝕄} : iprop(A0 ∗ A1 ∗ A2 ∗ A3 ∗ A4 ∗ A5 ∗ R) ⊢ iprop(A1 ∗ A2 ∗ A3 ∗ A4 ∗ A5 ∗ A0 ∗ R) := by
  iintro ⟨H0, H1, H2, H3, H4, H5, HR⟩
  isplitl [H1]; · iexact H1
  isplitl [H2]; · iexact H2
  isplitl [H3]; · iexact H3
  isplitl [H4]; · iexact H4
  isplitl [H5]; · iexact H5
  isplitl [H0] <;> iassumption

/-- From the end of one slot to the head of the next, beside a frame. -/
theorem turnF {A0 U s0 D' P0 A1 s1 A2 s2 A3 s3 P1 : sProp 𝕄} :
    iprop(A0 ∗ U ∗ s0 ∗ D' ∗ P0 ∗ A1 ∗ s1 ∗ A2 ∗ s2 ∗ A3 ∗ s3 ∗ P1 ∗ R) ⊢ iprop(A1 ∗ P1 ∗ U ∗ s1 ∗ D' ∗ A2 ∗ s2 ∗ A3 ∗ s3 ∗ A0 ∗ s0 ∗ P0 ∗ R) := by
  iintro ⟨HA0, HU, Hs0, HD, HP0, HA1, Hs1, HA2, Hs2, HA3, Hs3, HP1, HR⟩
  isplitl [HA1]; · iexact HA1
  isplitl [HP1]; · iexact HP1
  isplitl [HU]; · iexact HU
  isplitl [Hs1]; · iexact Hs1
  isplitl [HD]; · iexact HD
  isplitl [HA2]; · iexact HA2
  isplitl [Hs2]; · iexact Hs2
  isplitl [HA3]; · iexact HA3
  isplitl [Hs3]; · iexact Hs3
  isplitl [HA0]; · iexact HA0
  isplitl [Hs0]; · iexact Hs0
  isplitl [HP0] <;> iassumption

variable {h2 : (xM).IsWhole} {h3 : (jM).IsWhole} {h4 : (uM).IsWhole} {h5 : (iM).IsWhole} {h6 : (aM).IsWhole} {h7 : (oM).IsWhole}

omit [FloatOps F] in
/-- Before the first block is copied out the result is as it was. -/
theorem outC_zero (w : ℕ) (o : S16384x2048.Idx → Elt F .f32) : outC x J w 0 o = o := by
  funext i
  unfold outC
  rw [if_neg (by omega)]

/-- The tile's task after the fetch. -/
theorem rounds_loop (hJ : InRows J) (S : Shares) (o : S16384x2048.Idx → Elt F .f32) (v2 : BitVec 32) {k : Unit → Prog (TpuEff nD τ sig (Elt F) Λ₀ (tile d L).2) α}
    (hk : iprop(St x J d L S O W o 15 ∗ R) ⊢ wp frame (wpE (defs₀ (F := F)) 𝒱₀ (tile d L) none) Set.univ (k ⟨⟩) Q) :
    iprop(St x J d L S O W o 0 ∗ R) ⊢ wp frame (wpE (defs₀ (F := F)) 𝒱₀ (tile d L) none) Set.univ (Scf.Loop.for k0_t1_loop k0_t1_ok ⟨⟩ (k0_t1_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v2) >>= k) Q := by
  have H := Scf.wp_for_bind frame (wpE (defs₀ (F := F)) 𝒱₀ (tile d L) none) Set.univ k0_t1_loop.lb k0_t1_loop.ub k0_t1_loop.st k0_t1_ok ⟨⟩
    (k0_t1_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0 v2) (fun n _ => St x J d L S O W o n) (fun t u => round hJ S o v2 t u) (kk := k) (Q := Q)
  iintro ⟨H0, HR⟩
  iapply H $$ H0
  iintro %u H1
  rw [show Scf.trips k0_t1_loop.lb k0_t1_loop.ub k0_t1_loop.st = 15 from by decide]
  iapply hk
  isplitl [H1] <;> iassumption

/-- The fetch, and the resources laid out for the gathers. -/
theorem fetch {q qj : PosShare TreeShare} {o : S16384x2048.Idx → Elt F .f32}
    {f0 : S32x4x128.Idx → Elt F .i32} {fa : S4x128x128.Idx → Elt F .f32} {fo : S2x128x128.Idx → Elt F .f32}
    {jo : Fin 3 → ℕ} (hjo : jo = ![0, 4 * wid L, 0]) {jinb : ∀ a, jo a + S32x4x128.size a ≤ S32x128x128.size a}
    {hsrc : (jM.slice (Rect.unit (s := S32x128x128) jo S32x4x128.size jinb) (fun _ => rfl)).view.WordExact} {hdst : (iM).view.WordExact}
    {hsem : DmaTarget.Typed (nD := nD) .hbm (SemLoc.dma cc0_scoped0.sem) (DmaTarget.here (p := (tile d L).2) iM)}
    {s' : Shape} {e' : EltTy} {sp' : Space} {srcw : Memref sig .scVector sp' s' e'} {hsrc' : srcw.view.WordExact} {hdst' : (iM).view.WordExact}
    (hk : iprop(RestA x J d L cc0_scratch3.sem 0 ((cut q).x 0) ((cut q).i 0) fa ∗ RestA x J d L cc0_scratch4.sem 1 ((cut q).x 1) ((cut q).i 1) fa
        ∗ RestA x J d L cc0_scratch5.sem 2 ((cut q).x 2) ((cut q).i 2) fa ∗ RestA x J d L cc0_scratch6.sem 3 ((cut q).x 3) ((cut q).i 3) fa
        ∗ RestO x J d L cc0_scratch7.sem 0 ((cut q).x 4) ((cut q).i 4) fo ∗ RestO x J d L cc0_scratch8.sem 1 ((cut q).x 5) ((cut q).i 5) fo
        ∗ Res x J d L o 0 ∗ semVal (tile d L, SemLoc.dma cc0_scratch9.sem) 0 ∗ semVal (tile d L, SemLoc.dma cc0_scratch10.sem) 0
        ∗ semVal (tile d L, SemLoc.dma cc0_scratch11.sem) 0 ∗ semVal (tile d L, SemLoc.dma cc0_scratch12.sem) 0 ∗ Duty d L O W
        ∗ ((jM).view.loc (tile d L) ↦{qj} J) ∗ semVal (tile d L, SemLoc.dma cc0_scoped0.sem) 0) ⊢ wp frame (wpE (defs₀ (F := F)) 𝒱₀ (tile d L) none) Set.univ (k ⟨⟩) Q) :
    iprop(((xM).view.loc (tile d L) ↦{q} x) ∗ ((jM).view.loc (tile d L) ↦{qj} J) ∗ ((uM).view.loc (tile d L) ↦[rowsOf (wid L)]{fullShare} o)
        ∗ ((iM).view.loc (tile d L) ↦{fullShare} f0) ∗ ((aM).view.loc (tile d L) ↦{fullShare} fa) ∗ ((oM).view.loc (tile d L) ↦{fullShare} fo)
        ∗ Sems d L ∗ Duty d L O W)
      ⊢ wp frame (wpE (defs₀ (F := F)) 𝒱₀ (tile d L) none) Set.univ (Prog.lift (.enqueueDma (jM.slice (Rect.unit (s := S32x128x128) jo S32x4x128.size jinb) (fun _ => rfl)) (.here iM) (.dma cc0_scoped0.sem) hsrc hdst hsem) >>= fun _ =>
          Prog.lift (.waitDma2 cc0_scoped0.sem srcw iM hsrc' hdst') >>= k) Q := by
  have H1 := wp_fetch J d L (q := qj) (f0 := f0) jo hjo (jinb := jinb) (sem := cc0_scoped0.sem) (hsrc := hsrc) (hdst := hdst) (hsem := hsem)
    (k := fun _ => Prog.lift (.waitDma2 cc0_scoped0.sem srcw iM hsrc' hdst') >>= k) (Q := Q)
  have H2 := wp_wait EC 𝒱₀ (tile d L) none (defs := defs₀ (F := F)) (srcw := srcw) (dstw := iM) (hsrc := hsrc') (hdst := hdst') (sem := cc0_scoped0.sem) (k := k) (Q := Q)
    default (N := (iM).view.dmaCredit) rfl (D := iprop(((iM).view.loc (tile d L) ↦{fullShare} (idxC J (wid L))) ∗ ((jM).view.loc (tile d L) ↦{qj} J))) (O := O) (W := W)
  unfold Sems Duty
  unfold RestA RestO Res Duty at hk
  unfold LandI at H1
  rw [outC_zero] at hk
  iintro ⟨Hx, Hj, Hu, Hi, Ha, Ho, ⟨s3, s4, s5, s6, s7, s8, s9, s10, s11, s12, s0⟩, ⟨#Hm, HW⟩⟩
  iapply H1 $$ [Hj Hi s0]
  · isplitl [Hj]; · iexact Hj
    isplitl [Hi] <;> iassumption
  iintro HI
  iapply H2 $$ [HI HW]
  · isplitr; · iexact Hm
    isplitl [HI] <;> iassumption
  iintro ⟨⟨Hi, Hj⟩, s0, HW⟩
  ihave HT := (Entails.of_eq (toks_eq x J d L q)) $$ [Hx Hi]
  · isplitl [Hx] <;> iassumption
  icases HT with ⟨t0, t1, t2, t3, t4, t5⟩
  ihave HA := (Entails.of_eq (blocks_a d L fa)) $$ Ha
  icases HA with ⟨a0, a1, a2, a3⟩
  ihave HO := (Entails.of_eq (blocks_o d L fo)) $$ Ho
  icases HO with ⟨o0, o1⟩
  iapply hk
  isplitl [t0 a0 s3]
  · isplitl [t0]; · iexact t0
    isplitl [a0] <;> iassumption
  isplitl [t1 a1 s4]
  · isplitl [t1]; · iexact t1
    isplitl [a1] <;> iassumption
  isplitl [t2 a2 s5]
  · isplitl [t2]; · iexact t2
    isplitl [a2] <;> iassumption
  isplitl [t3 a3 s6]
  · isplitl [t3]; · iexact t3
    isplitl [a3] <;> iassumption
  isplitl [t4 o0 s7]
  · isplitl [t4]; · iexact t4
    isplitl [o0] <;> iassumption
  isplitl [t5 o1 s8]
  · isplitl [t5]; · iexact t5
    isplitl [o1] <;> iassumption
  isplitl [Hu]; · iexact Hu
  isplitl [s9]; · iexact s9
  isplitl [s10]; · iexact s10
  isplitl [s11]; · iexact s11
  isplitl [s12]; · iexact s12
  isplitl [HW]
  · isplitr; · iexact Hm
    iexact HW
  isplitl [Hj] <;> iassumption

/-- The gathers of the first round laid out as the rounds' state. -/
theorem toSt {S : Shares} {o : S16384x2048.Idx → Elt F .f32} {J' s' : sProp 𝕄} :
    iprop(LandA x J d L cc0_scratch3.sem 0 (2 * 0) (4 * wid L + 0) (128 * 0) (S.x 0) (S.i 0)
        ∗ LandA x J d L cc0_scratch4.sem 1 (2 * 0) (4 * wid L + 1) (128 * 0) (S.x 1) (S.i 1)
        ∗ LandA x J d L cc0_scratch5.sem 2 (2 * 0) (4 * wid L + 2) (128 * 0) (S.x 2) (S.i 2)
        ∗ LandA x J d L cc0_scratch6.sem 3 (2 * 0) (4 * wid L + 3) (128 * 0) (S.x 3) (S.i 3)
        ∗ LandO x J d L cc0_scratch7.sem 0 (2 * 0 + 1) (4 * wid L + 0) (128 * 0) (S.x 4) (S.i 4)
        ∗ LandO x J d L cc0_scratch8.sem 1 (2 * 0 + 1) (4 * wid L + 1) (128 * 0) (S.x 5) (S.i 5)
        ∗ Res x J d L o 0 ∗ semVal (tile d L, SemLoc.dma cc0_scratch9.sem) 0 ∗ semVal (tile d L, SemLoc.dma cc0_scratch10.sem) 0
        ∗ semVal (tile d L, SemLoc.dma cc0_scratch11.sem) 0 ∗ semVal (tile d L, SemLoc.dma cc0_scratch12.sem) 0 ∗ Duty d L O W ∗ J' ∗ s')
      ⊢ iprop(St x J d L S O W o 0 ∗ J' ∗ s') := by
  unfold St
  iintro ⟨A0, A1, A2, A3, O0, O1, HU, s9, s10, s11, s12, HD, HJ, Hs⟩
  isplitr [HJ Hs]
  · isplitl [A0]; · iexact A0
    isplitl [O0]; · iexact O0
    isplitl [HU]; · iexact HU
    isplitl [s9]; · iexact s9
    isplitl [HD]; · iexact HD
    isplitl [A1]; · iexact A1
    isplitl [s10]; · iexact s10
    isplitl [A2]; · iexact A2
    isplitl [s11]; · iexact s11
    isplitl [A3]; · iexact A3
    isplitl [s12] <;> iassumption
  isplitl [HJ] <;> iassumption

/-- The state before the last slots, opened beside a frame. -/
theorem openSt {S : Shares} {o : S16384x2048.Idx → Elt F .f32} : iprop(St x J d L S O W o 15 ∗ R) ⊢
    iprop(LandA x J d L cc0_scratch3.sem 0 (2 * 15) (4 * wid L + 0) (128 * 15) (S.x 0) (S.i 0)
    ∗ LandO x J d L cc0_scratch7.sem 0 (2 * 15 + 1) (4 * wid L + 0) (128 * 15) (S.x 4) (S.i 4)
    ∗ Res x J d L o (4 * 15 + 0) ∗ semVal (tile d L, SemLoc.dma cc0_scratch9.sem) 0 ∗ Duty d L O W
    ∗ LandA x J d L cc0_scratch4.sem 1 (2 * 15) (4 * wid L + 1) (128 * 15) (S.x 1) (S.i 1) ∗ semVal (tile d L, SemLoc.dma cc0_scratch10.sem) 0
    ∗ LandA x J d L cc0_scratch5.sem 2 (2 * 15) (4 * wid L + 2) (128 * 15) (S.x 2) (S.i 2) ∗ semVal (tile d L, SemLoc.dma cc0_scratch11.sem) 0
    ∗ LandA x J d L cc0_scratch6.sem 3 (2 * 15) (4 * wid L + 3) (128 * 15) (S.x 3) (S.i 3) ∗ semVal (tile d L, SemLoc.dma cc0_scratch12.sem) 0
    ∗ LandO x J d L cc0_scratch8.sem 1 (2 * 15 + 1) (4 * wid L + 1) (128 * 15) (S.x 5) (S.i 5) ∗ R) := by
  unfold St
  iintro ⟨⟨A0, O0, HU, s9, HD, A1, s10, A2, s11, A3, s12, O1⟩, HR⟩
  isplitl [A0]; · iexact A0
  isplitl [O0]; · iexact O0
  isplitl [HU]; · iexact HU
  isplitl [s9]; · iexact s9
  isplitl [HD]; · iexact HD
  isplitl [A1]; · iexact A1
  isplitl [s10]; · iexact s10
  isplitl [A2]; · iexact A2
  isplitl [s11]; · iexact s11
  isplitl [A3]; · iexact A3
  isplitl [s12]; · iexact s12
  isplitl [O1] <;> iassumption

set_option maxHeartbeats 2000000 in
/-- The tile's whole task: its share of the table, its share of the row numbers, its rows of the result, its scratches
    and its cells; the rows come back as the result's. -/
theorem tile_core (hJ : InRows J) (q qj : PosShare TreeShare) (o : S16384x2048.Idx → Elt F .f32)
    (f0 : S32x4x128.Idx → Elt F .i32) (fa : S4x128x128.Idx → Elt F .f32) (fo : S2x128x128.Idx → Elt F .f32) :
    iprop(((xM).view.loc (tile d L) ↦{q} x) ∗ ((jM).view.loc (tile d L) ↦{qj} J) ∗ ((uM).view.loc (tile d L) ↦[rowsOf (wid L)]{fullShare} o)
        ∗ ((iM).view.loc (tile d L) ↦{fullShare} f0) ∗ ((aM).view.loc (tile d L) ↦{fullShare} fa) ∗ ((oM).view.loc (tile d L) ↦{fullShare} fo)
        ∗ Sems d L ∗ Duty d L O W)
      ⊢ wp frame (wpE (defs₀ (F := F)) 𝒱₀ (tile d L) none) Set.univ (cc0__gather_body (F := F) L xM h2 jM h3 uM h4 iM h5 aM h6 oM h7 cc0_scratch3 cc0_scratch4 cc0_scratch5 cc0_scratch6 cc0_scratch7 cc0_scratch8 cc0_scratch9 cc0_scratch10 cc0_scratch11 cc0_scratch12 cc0_scoped0) fun _ =>
        iprop(((xM).view.loc (tile d L) ↦{q} x) ∗ ((jM).view.loc (tile d L) ↦{qj} J)
          ∗ ((uM).view.loc (tile d L) ↦[rowsOf (wid L)]{fullShare} (outC x J (wid L) 64 o))
          ∗ (∃ f, (iM).view.loc (tile d L) ↦{fullShare} f) ∗ (∃ f, (aM).view.loc (tile d L) ↦{fullShare} f) ∗ (∃ f, (oM).view.loc (tile d L) ↦{fullShare} f)
          ∗ Sems d L ∗ Duty d L O W) := by
  have hw := wid_lt L
  simp only [cc0__gather_body_eq_skeleton, cc0__gather_body_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, bind_assoc, pure_bind]
  refine fetch (by clear * -; revert L; decide +kernel) ?_
  refine gatherA (m := 2 * 0) (b := 0) (c0 := 128 * 0) hJ (by decide) (by decide) (by decide) (by decide) rfl rfl rfl ?_
  refine turn6.trans ?_
  refine gatherA (m := 2 * 0) (b := 1) (c0 := 128 * 0) hJ (by decide) (by decide) (by decide) (by decide) rfl rfl rfl ?_
  refine turn6.trans ?_
  refine gatherA (m := 2 * 0) (b := 2) (c0 := 128 * 0) hJ (by decide) (by decide) (by decide) (by decide) rfl rfl rfl ?_
  refine turn6.trans ?_
  refine gatherA (m := 2 * 0) (b := 3) (c0 := 128 * 0) hJ (by decide) (by decide) (by decide) (by decide) rfl rfl rfl ?_
  refine turn6.trans ?_
  refine gatherO (m := 2 * 0 + 1) (b := 0) (c0 := 128 * 0) hJ (by decide) (by decide) (by decide) (by decide) rfl rfl rfl ?_
  refine turn6.trans ?_
  refine gatherO (m := 2 * 0 + 1) (b := 1) (c0 := 128 * 0) hJ (by decide) (by decide) (by decide) (by decide) rfl rfl rfl ?_
  refine turn6.trans ?_
  refine toSt.trans ?_
  refine rounds_loop hJ (cut q) o _ ?_
  refine openSt.trans ?_
  refine head (by decide) (fun t u => by apply trip6) ?_
  refine gatherO (m := 2 * 15 + 1) (b := 2) (c0 := 128 * 15) hJ (by decide) (by decide) (by decide) (by decide) rfl rfl rfl ?_
  refine toFlush.trans (flush (by decide) (by decide) rfl (by clear * -; revert L; decide +kernel) ?_)
  refine turnF.trans ?_
  refine head (by decide) (fun t u => by apply trip7) ?_
  refine gatherO (m := 2 * 15 + 1) (b := 3) (c0 := 128 * 15) hJ (by decide) (by decide) (by decide) (by decide) rfl rfl rfl ?_
  refine toFlush.trans (flush (by decide) (by decide) rfl (by clear * -; revert L; decide +kernel) ?_)
  refine turnF.trans ?_
  refine head (by decide) (fun t u => by apply trip8) ?_
  refine toFlush.trans (flush (by decide) (by decide) rfl (by clear * -; revert L; decide +kernel) ?_)
  refine turnF.trans ?_
  refine head (by decide) (fun t u => by apply trip9) ?_
  refine toFlush.trans (flush (by decide) (by decide) rfl (by clear * -; revert L; decide +kernel) ?_)
  refine turnF.trans ?_
  refine wp_done ?_
  have hx := Entails.of_eq (toks_eq x J d L q).symm
  unfold RestA RestO Res Sems
  iintro ⟨⟨t0, a0, s3⟩, ⟨t4, o0, s7⟩, HU, s9, HD, ⟨t1, a1, s4⟩, s10, ⟨t2, a2, s5⟩, s11, ⟨t3, a3, s6⟩, s12, ⟨t5, o1, s8⟩, Hj, s0⟩
  ihave HT := hx $$ [t0 t1 t2 t3 t4 t5]
  · isplitl [t0]; · iexact t0
    isplitl [t1]; · iexact t1
    isplitl [t2]; · iexact t2
    isplitl [t3]; · iexact t3
    isplitl [t4] <;> iassumption
  icases HT with ⟨Hx, Hi⟩
  isplitl [Hx]; · iexact Hx
  isplitl [Hj]; · iexact Hj
  isplitl [HU]; · iexact HU
  isplitl [Hi]
  · iexists _; iexact Hi
  isplitl [a0 a1 a2 a3]
  · iapply (join_a d L)
    isplitl [a0]; · iexact a0
    isplitl [a1]; · iexact a1
    isplitl [a2] <;> iassumption
  isplitl [o0 o1]
  · iapply (join_o d L)
    isplitl [o0] <;> iassumption
  isplitr [HD]
  · isplitl [s3]; · iexact s3
    isplitl [s4]; · iexact s4
    isplitl [s5]; · iexact s5
    isplitl [s6]; · iexact s6
    isplitl [s7]; · iexact s7
    isplitl [s8]; · iexact s8
    isplitl [s9]; · iexact s9
    isplitl [s10]; · iexact s10
    isplitl [s11]; · iexact s11
    isplitl [s12] <;> iassumption
  iexact HD

end Whole

end Cert.Proof.K
-- ==== Proof.Launch.lean ====
/-
  The launch: what the TensorCore hands each core, each core each of its subcores, and what comes back; a subcore's
  obligation from the tile's task.
-/
module

public import proofs.«01_k».proof.Proof.Tile

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Launch

variable [FloatOps F]
-- What the table, the row numbers and the result's buffer hold when the call begins.
variable (x : Dev nD → S16384x2048.Idx → Elt F .f32) (J : Dev nD → S32x128x128.Idx → Elt F .i32)
  (o : Dev nD → S16384x2048.Idx → Elt F .f32)

omit [FloatOps F] in
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    fun _ _ _ => rfl,
    fun _ => rfl⟩

abbrev xLoc (d : Dev nD) : Loc nD τ sig := (d.tc : Thread nD τ).loc main_arg0
abbrev jLoc (d : Dev nD) : Loc nD τ sig := (d.tc : Thread nD τ).loc main_v11
abbrev uLoc (d : Dev nD) : Loc nD τ sig := (d.tc : Thread nD τ).loc main_v12

/-- The result. -/
def res (d : Dev nD) : S16384x2048.Idx → Elt F .f32 := fun i => out (x d) (J d) (i 0).val (i 1).val

/-- A core's share, and a subcore's share of its core's. -/
abbrev cs (c : Fin 2) : PosShare TreeShare := pieceOf fullShare 2 (by decide) c
abbrev ts (c : Fin 2) (s : Fin 16) : PosShare TreeShare := pieceOf (cs c) 16 (by decide) s
/-- The rows a subcore makes, and the rows a core makes. -/
abbrev tRows (c : Fin 2) (s : Fin 16) : Finset S16384x2048.Idx := rowsOf (2 * s.val + c.val)
def cRows (c : Fin 2) : Finset S16384x2048.Idx := Finset.univ.biUnion (tRows c)

/-- What a core is handed, and a subcore: a share of the table and of the row numbers, and its rows of the result. -/
abbrev cPts (d : Dev nD) (c : Fin 2) (u : S16384x2048.Idx → Elt F .f32) : sProp 𝕄 :=
  iprop((xLoc d ↦{cs c} x d) ∗ (jLoc d ↦{cs c} J d) ∗ (uLoc d ↦[cRows c]{fullShare} u))
abbrev tPts (d : Dev nD) (c : Fin 2) (s : Fin 16) (u : S16384x2048.Idx → Elt F .f32) : sProp 𝕄 :=
  iprop((xLoc d ↦{ts c s} x d) ∗ (jLoc d ↦{ts c s} J d) ∗ (uLoc d ↦[tRows c s]{fullShare} u))

omit [FloatOps F] in
theorem nCore_zero : (K (F := F)).nCore 0 = 2 := rfl

/-- The one call's payloads. -/
def P : (K (F := F)).Pay (nD := nD) (Val := Elt F) (Name := ℕ) (U := UU) where
  st := fun q d c => match q with | 0 => cPts x J d (Fin.cast nCore_zero c) (o d)
  dn := fun q d c => match q with | 0 => cPts x J d (Fin.cast nCore_zero c) (res x J d)
  go := fun q d c i => match q with | 0 => tPts x J d (Fin.cast nCore_zero c) (Fin.cast nSub_zero i) (o d)
  td := fun q d c i => match q with | 0 => tPts x J d (Fin.cast nCore_zero c) (Fin.cast nSub_zero i) (res x J d)
  x := fun _ _ => iprop(emp)

instance P_storable : (P (F := F) x J o).IsStorable where
  st q d c := match q with
    | 0 => (inferInstance : BI.Storable (upEmb : UEmb _ 𝕄) (cPts x J d (Fin.cast nCore_zero c) (o d)))
  dn q d c := match q with
    | 0 => (inferInstance : BI.Storable (upEmb : UEmb _ 𝕄) (cPts x J d (Fin.cast nCore_zero c) (res x J d)))
  go q d c i := match q with
    | 0 => (inferInstance : BI.Storable (upEmb : UEmb _ 𝕄) (tPts x J d (Fin.cast nCore_zero c) (Fin.cast nSub_zero i) (o d)))
  td q d c i := match q with
    | 0 => (inferInstance : BI.Storable (upEmb : UEmb _ 𝕄) (tPts x J d (Fin.cast nCore_zero c) (Fin.cast nSub_zero i) (res x J d)))

/-- A run beside what it does not touch. -/
theorem wp_beside {Q Q' : PUnit → sProp 𝕄} {A R : sProp 𝕄} {thr : Thread nD τ} {p : Prog (TpuEff nD τ sig (Elt F) Λ₀ thr.2) PUnit}
    (H : A ⊢ wp frame (wpE (defs₀ (F := F)) 𝒱₀ thr none) Set.univ p Q) (h : ∀ a, iprop(Q a ∗ R) ⊢ Q' a) :
    iprop(A ∗ R) ⊢ wp frame (wpE (defs₀ (F := F)) 𝒱₀ thr none) Set.univ p Q' :=
  (sep_mono H .rfl).trans ((wp_frame_r frame _ _).trans (wp_mono frame _ _ h))

/-! ## A subcore's own cells and buffers -/

section Tile

variable (d : Dev nD) (L : grid0.Coords)

/-- The kernel's semaphores. -/
def semOf : Fin 11 → DmaSem sig :=
  ![cc0_scratch3.sem, cc0_scratch4.sem, cc0_scratch5.sem, cc0_scratch6.sem, cc0_scratch7.sem, cc0_scratch8.sem, cc0_scratch9.sem,
    cc0_scratch10.sem, cc0_scratch11.sem, cc0_scratch12.sem, cc0_scoped0.sem]

theorem semOf_inj : Function.Injective semOf := by decide
theorem semOf_scoped : ∀ k, (SemLoc.dma (semOf k) : SemLoc sig).isScoped .scVector = true := by decide

/-- The cells of a subcore. -/
def cellOf : Fin 11 ↪ GSem nD τ sig :=
  ⟨fun k => (tile d L, .dma (semOf k)), fun a b h => semOf_inj (SemLoc.dma.inj (congrArg Prod.snd h))⟩

theorem cells_sub : Finset.univ.map (cellOf d L) ⊆ ownCells (tile d L) := fun g hg => by
  obtain ⟨k, -, rfl⟩ := Finset.mem_map.mp hg
  exact mem_ownCells.mpr ⟨rfl, semOf_scoped k⟩

abbrev restS : sProp 𝕄 := bigSep (ownCells (tile d L) \ Finset.univ.map (cellOf d L)) fun g => semVal g 0

omit [FloatOps F] in
/-- The kernel's cells are among the subcore's own. -/
theorem ownSems0_tile :
    (ownSems0 (tile d L) : sProp 𝕄) = iprop(Sems d L ∗ restS d L) := by
  unfold SparseCore.Cfg.ownSems0
  rw [SparseCore.bigSep_sdiff_split' (cells_sub d L), bigSep_map]
  congr 1
  exact bigSep_univ_eq_bigSepL [0, 1, 2, 3, 4, 5, 6, 7, 8, 9, 10] (by decide) (by decide) _

abbrev restB : sProp 𝕄 :=
  bigSep ((((ownRefs (τ := τ) (.scVector (cV L) (jV L))).erase ((Proc.scVector (cV L) (jV L)).devRef cc0_scratch0)).erase
                ((Proc.scVector (cV L) (jV L)).devRef cc0_scratch1)).erase ((Proc.scVector (cV L) (jV L)).devRef cc0_scratch2))
              fun b => iprop(∃ f, ((d, b) : Loc nD τ sig) ↦{fullShare} f)

omit [FloatOps F] in
set_option maxRecDepth 16384 in
/-- The kernel's scratches are among the subcore's own buffers. -/
theorem ownBufs_tile :
    (ownBufs (tile d L) : sProp 𝕄)
      = iprop((∃ f : S32x4x128.Idx → Elt F .i32, (iM).view.loc (tile d L) ↦{fullShare} f)
          ∗ (∃ f : S4x128x128.Idx → Elt F .f32, (aM).view.loc (tile d L) ↦{fullShare} f)
          ∗ (∃ f : S2x128x128.Idx → Elt F .f32, (oM).view.loc (tile d L) ↦{fullShare} f)
          ∗ restB d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e)
      (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e)
      (show (cc0_scratch2 : Ref sig .scVector) ≠ cc0_scratch1 by decide),
      Finset.mem_erase.mpr ⟨fun e => absurd (Proc.devRef_injective _ e)
      (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]
  rfl

/-! ## A subcore's obligation -/

abbrev cL : Fin 2 := Fin.cast (show grid0.bound 0 = 2 from rfl) (L 0)
abbrev sL : Fin 16 := Fin.cast (show grid0.bound 1 = 16 from rfl) (L 1)

omit [FloatOps F] in
/-- On a subcore's rows, all its blocks copied out are the result. -/
theorem outC_res (u : S16384x2048.Idx → Elt F .f32) :
    ((uLoc d ↦[rowsOf (wid L)]{fullShare} outC (x d) (J d) (wid L) 64 u : sProp 𝕄)) = (uLoc d ↦[rowsOf (wid L)]{fullShare} res x J d) := by
  have h : ∀ i : S16384x2048.Idx, i ∈ rowsOf (wid L) → outC (x d) (J d) (wid L) 64 u i = res x J d i := by
    intro i hi
    have h := mem_rowsOf.mp hi
    have h1 : (i 1).val < 2048 := (i 1).isLt
    unfold outC res
    rw [if_pos (by omega)]
  exact BI.Region.is_congr h

omit [FloatOps F] in
/-- What the task leaves and what it did not touch make up what the subcore hands back. -/
theorem tile_end (O : CellTallies nD τ sig (HIx 1)) (W : Waits sig (HIx 1)) :
    iprop((((xM).view.loc (tile d L) ↦{ts (cL L) (sL L)} x d) ∗ ((jM).view.loc (tile d L) ↦{ts (cL L) (sL L)} J d)
          ∗ ((uM).view.loc (tile d L) ↦[rowsOf (wid L)]{fullShare} outC (x d) (J d) (wid L) 64 (o d)) ∗ (∃ f, (iM).view.loc (tile d L) ↦{fullShare} f)
          ∗ (∃ f, (aM).view.loc (tile d L) ↦{fullShare} f) ∗ (∃ f, (oM).view.loc (tile d L) ↦{fullShare} f) ∗ Sems d L ∗ Duty d L O W)
        ∗ restB d L ∗ restS d L)
      ⊢ iprop(tPts x J d (cL L) (sL L) (res x J d) ∗ ownBufs (tile d L) ∗ ownSems0 (tile d L)
          ∗ ∃ W', ⌜∀ p ∈ W', p ∈ W ∨ p.2 = none⌝ ∗ owes (tile d L) O W') := by
  rw [ownSems0_tile, ownBufs_tile]
  unfold Duty Owing
  iintro ⟨⟨Hx, Hj, Hu, Hi, Ha, Ho, Hs, -, HO⟩, Hbufs, Hsems⟩
  isplitl [Hx Hj Hu]
  · isplitl [Hx]; · iexact Hx
    isplitl [Hj]; · iexact Hj
    iapply (Entails.of_eq (outC_res x J d L (o d)))
    iexact Hu
  isplitl [Hi Ha Ho Hbufs]
  · isplitl [Hi]; · iexact Hi
    isplitl [Ha]; · iexact Ha
    isplitl [Ho]; · iexact Ho
    iexact Hbufs
  isplitl [Hs Hsems]
  · isplitl [Hs]; · iexact Hs
    iexact Hsems
  iexact HO

set_option maxRecDepth 16384 in
/-- The task on a subcore, from what the launch hands it. -/
theorem tile_body (hF : (K (F := F)).Facts) (hJ : InRows (J d)) (O : CellTallies nD τ sig (HIx 1)) (W : Waits sig (HIx 1)) (hO : ∀ g, O g none = 0) :
    iprop(levAts (K (F := F)).L (K (F := F)).lev ∗ emp ∗ tPts x J d (cL L) (sL L) (o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body (F := F) L xM (Memref.isWhole_whole _) jM (Memref.isWhole_whole _) uM (Memref.isWhole_whole _) iM (Memref.isWhole_whole _)
            aM (Memref.isWhole_whole _) oM (Memref.isWhole_whole _) cc0_scratch3 cc0_scratch4 cc0_scratch5 cc0_scratch6 cc0_scratch7 cc0_scratch8
            cc0_scratch9 cc0_scratch10 cc0_scratch11 cc0_scratch12 cc0_scoped0)
          fun _ => iprop(tPts x J d (cL L) (sL L) (res x J d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L)]
  iintro ⟨#Hlv, -, ⟨Hx, Hj, Hu⟩, Hb, Hss, HO⟩
  ihave Hb := (Entails.of_eq (ownBufs_tile (F := F) d L)) $$ Hb
  ihave Hss := (Entails.of_eq (ownSems0_tile (F := F) d L)) $$ Hss
  icases Hb with ⟨⟨%f0, Hi⟩, ⟨%fa, Ha⟩, ⟨%fo, Ho⟩, Hbufs⟩
  icases Hss with ⟨Hs, Hsems⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HO := (owing_intro (c := tile d L) default O W) $$ HO
  have H := tile_core (F := F) (x := x d) (J := J d) (d := d) (L := L) (O := O) (W := W) (h2 := Memref.isWhole_whole main_arg0_scv)
    (h3 := Memref.isWhole_whole main_v11_scv) (h4 := Memref.isWhole_whole main_v12_scv) (h5 := Memref.isWhole_whole cc0_scratch0)
    (h6 := Memref.isWhole_whole cc0_scratch1) (h7 := Memref.isWhole_whole cc0_scratch2) hJ (ts (cL L) (sL L)) (ts (cL L) (sL L)) (o d) f0 fa fo
  iapply (wp_beside H (fun _ => tile_end x J o d L O W))
  isplitr [Hbufs Hsems]
  · isplitl [Hx]; · iexact Hx
    isplitl [Hj]; · iexact Hj
    isplitl [Hu]; · iexact Hu
    isplitl [Hi]; · iexact Hi
    isplitl [Ha]; · iexact Ha
    isplitl [Ho]; · iexact Ho
    isplitl [Hs]; · iexact Hs
    unfold Duty
    isplitl [Hmw]; · iexact Hmw
    iexact HO
  · isplitl [Hbufs]; · iexact Hbufs
    iexact Hsems

/-- The launch's coordinates on a subcore. -/
def coordsV (c : Fin (grid0.bound 0)) (s : Fin (grid0.bound 1)) : grid0.Coords := fun
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (F := F) (coordsV c s) xM (Memref.isWhole_whole _) jM (Memref.isWhole_whole _)
          uM (Memref.isWhole_whole _) iM (Memref.isWhole_whole _) aM (Memref.isWhole_whole _) oM (Memref.isWhole_whole _) cc0_scratch3 cc0_scratch4
          cc0_scratch5 cc0_scratch6 cc0_scratch7 cc0_scratch8 cc0_scratch9 cc0_scratch10 cc0_scratch11 cc0_scratch12 cc0_scoped0) ⟨⟩ c s := rfl

omit [FloatOps F] in
/-- A wait's record, weakened to what the launch asks. -/
theorem obl_post {R B S : sProp 𝕄} {thr : Thread nD τ} {O : CellTallies nD τ sig (HIx 1)} {W : Waits sig (HIx 1)} {q : Fin 1} :
    iprop(R ∗ B ∗ S ∗ ∃ W', ⌜∀ p ∈ W', p ∈ W ∨ p.2 = none⌝ ∗ owes thr O W')
      ⊢ iprop(R ∗ B ∗ S ∗ ∃ W', ⌜∀ p ∈ W', p ∈ W ∨ p.2 = none ∨ p.2 = some q⌝ ∗ owes thr O W') := by
  iintro ⟨HR, HB, HS, %W', %hW', HO⟩
  isplitl [HR]; · iexact HR
  isplitl [HB]; · iexact HB
  isplitl [HS]; · iexact HS
  iexists W'; isplitr
  · ipureintro; exact fun p hp => (hW' p hp).imp_right Or.inl
  · iexact HO

set_option maxRecDepth 16384 in
/-- Every subcore's obligation. -/
theorem tileObl (hF : (K (F := F)).Facts) (hJ : ∀ d, InRows (J d)) : (K (F := F)).TileObl (D (F := F)) 𝒱 (P x J o) v₀ 0 := by
  intro d c i O W hO _ _
  simp only [show (P x J o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body x J o d (coordsV ⟨_, hci.1⟩ ⟨_, hci.2⟩) hF (hJ d) O W hO).trans (wp_mono frame _ _ fun _ => obl_post)

end Tile

/-! ## The shares and the rows, split and joined -/

omit [FloatOps F] in
theorem tRows_disjoint (c : Fin 2) (s : Fin 16) (c' : Fin 2) (s' : Fin 16) (h : (c, s) ≠ (c', s')) : Disjoint (tRows c s) (tRows c' s') :=
  Finset.disjoint_left.mpr fun i hi hi' => h (by
    have h1 := mem_rowsOf.mp hi
    have h2 := mem_rowsOf.mp hi'
    have hc : c = c' := Fin.ext (by omega)
    have hs : s = s' := Fin.ext (by omega)
    rw [hc, hs])

omit [FloatOps F] in
theorem mem_cRows {c : Fin 2} {i : S16384x2048.Idx} : i ∈ cRows c ↔ ∃ s, i ∈ tRows c s := by
  unfold cRows
  rw [Finset.mem_biUnion]
  exact ⟨fun ⟨s, _, h⟩ => ⟨s, h⟩, fun ⟨s, h⟩ => ⟨s, Finset.mem_univ _, h⟩⟩

omit [FloatOps F] in
theorem cRows_disjoint (c c' : Fin 2) (h : c ≠ c') : Disjoint (cRows c) (cRows c') :=
  Finset.disjoint_left.mpr fun i hi hi' => by
    obtain ⟨s, hs⟩ := mem_cRows.mp hi
    obtain ⟨s', hs'⟩ := mem_cRows.mp hi'
    exact Finset.disjoint_left.mp (tRows_disjoint c s c' s' fun e => h (congrArg Prod.fst e)) hs hs'

omit [FloatOps F] in
theorem cRows_cover : (Finset.univ : Finset (Fin 2)).biUnion cRows = Finset.univ := by
  ext i
  refine ⟨fun _ => Finset.mem_univ _, fun _ => Finset.mem_biUnion.mpr ?_⟩
  have h0 : (i 0).val < 16384 := (i 0).isLt
  refine ⟨⟨(i 0).val / 512 % 2, by omega⟩, Finset.mem_univ _, mem_cRows.mpr ⟨⟨(i 0).val / 1024, by omega⟩, mem_rowsOf.mpr ?_⟩⟩
  show (i 0).val / 512 = 2 * ((i 0).val / 1024) + (i 0).val / 512 % 2
  omega

/-- The whole table, the row numbers and the result's buffer. -/
abbrev dPts (d : Dev nD) (u : S16384x2048.Idx → Elt F .f32) : sProp 𝕄 :=
  iprop((xLoc d ↦{fullShare} x d) ∗ (jLoc d ↦{fullShare} J d) ∗ (uLoc d ↦{fullShare} u))

omit [FloatOps F] in
/-- A core's part is its subcores' parts. -/
theorem cPts_split (d : Dev nD) (c : Fin 2) (u : S16384x2048.Idx → Elt F .f32) :
    cPts x J d c u = bigSep Finset.univ fun s : Fin 16 => tPts x J d c s u := by
  have h1 := pointsTo_piecesOf (ℓ := xLoc d) (Ix := HIx 1) (Val := Elt F) (Name := ℕ) (U := UU) (Lvl := ℕ) Finset.univ (x d) (o := 16) (by decide) (cs c)
  have h2 := pointsTo_piecesOf (ℓ := jLoc d) (Ix := HIx 1) (Val := Elt F) (Name := ℕ) (U := UU) (Lvl := ℕ) Finset.univ (J d) (o := 16) (by decide) (cs c)
  have h3 := pointsTo_biUnion (ℓ := uLoc d) (Ix := HIx 1) (Val := Elt F) (Name := ℕ) (U := UU) (Lvl := ℕ) (q := fullShare) (f := u) Finset.univ (tRows c)
    (fun s _ s' _ h => tRows_disjoint c s c s' fun e => h (congrArg Prod.snd e))
  rw [bigSep_sep', bigSep_sep', ← h1, ← h2, ← h3]
  rfl

omit [FloatOps F] in
/-- The whole is the cores' parts. -/
theorem dPts_split (d : Dev nD) (u : S16384x2048.Idx → Elt F .f32) :
    dPts x J d u = bigSep Finset.univ fun c : Fin 2 => cPts x J d c u := by
  have h1 := pointsTo_piecesOf (ℓ := xLoc d) (Ix := HIx 1) (Val := Elt F) (Name := ℕ) (U := UU) (Lvl := ℕ) Finset.univ (x d) (o := 2) (by decide) fullShare
  have h2 := pointsTo_piecesOf (ℓ := jLoc d) (Ix := HIx 1) (Val := Elt F) (Name := ℕ) (U := UU) (Lvl := ℕ) Finset.univ (J d) (o := 2) (by decide) fullShare
  have h3 := pointsTo_biUnion (ℓ := uLoc d) (Ix := HIx 1) (Val := Elt F) (Name := ℕ) (U := UU) (Lvl := ℕ) (q := fullShare) (f := u) Finset.univ cRows
    (fun c _ c' _ h => cRows_disjoint c c' h)
  rw [cRows_cover] at h3
  rw [bigSep_sep', bigSep_sep', ← h1, ← h2, ← h3]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core splits what it is handed among its subcores and joins what they hand back. -/
theorem vecSplit : (K (F := F)).VecSplit' (P x J o) 0 := by
  intro d c
  show cPts x J d (Fin.cast nCore_zero c) (o d) ⊢ |={Set.univ}=> iprop(
      (bigSep Finset.univ fun i : Fin ((K (F := F)).nSub 0) => tPts x J d (Fin.cast nCore_zero c) (Fin.cast nSub_zero i) (o d))
      ∗ ((bigSep Finset.univ fun i : Fin ((K (F := F)).nSub 0) => tPts x J d (Fin.cast nCore_zero c) (Fin.cast nSub_zero i) (res x J d))
          -∗ cPts x J d (Fin.cast nCore_zero c) (res x J d)))
  rw [bigSep_tasks (F := F) (fun i => tPts x J d (Fin.cast nCore_zero c) i (o d)),
    bigSep_tasks (F := F) (fun i => tPts x J d (Fin.cast nCore_zero c) i (res x J d)), ← cPts_split, ← cPts_split]
  iintro H; imodintro
  isplitl [H]; · iexact H
  iintro H; iexact H

end Launch

end Cert.Proof.K
-- ==== Proof.Sim.lean ====
/-
  Straight lines of host operations run side by side: what one operation does to a typed buffer, and when the buffers
  of two programs agree, buffer by buffer, from one operation to the next.
-/
module

public import Idealize.ShloMosaic.Lib.StableHlo.Run

@[expose] public section

noncomputable section

namespace Cert.Proof.Sim

open Idealize.ShloMosaic Idealize.ShloMosaic.StableHlo
open Idealize.SL Idealize.SL.Sem

variable {Val : EltTy → Type}

section One

variable {nD : Nat} {τ : Topo} {sig : RefSig} {Λ : Labels}

/-- A buffer's place among the buffers of the device's memory, counted from one; zero for a buffer elsewhere. -/
def rk (r : Ref sig .tc) : ℕ := if r.space = .hbm then r.idx.val + 1 else 0

/-- Two buffers at the same place are the same buffer. -/
theorem rk_inj {r s : Ref sig .tc} (h : rk r = rk s) (h0 : 0 < rk r) : r = s := by
  obtain ⟨sp, i, hi⟩ := r
  obtain ⟨sp', i', hi'⟩ := s
  unfold rk at h h0
  simp only at h h0
  by_cases e : sp = .hbm
  · by_cases e' : sp' = .hbm
    · subst e; subst e'
      simp only [if_true] at h
      have : i = i' := Fin.ext (by omega)
      subst this; rfl
    · rw [if_pos e, if_neg e'] at h; omega
  · rw [if_neg e] at h0; omega

variable {T Tx Ta Tb Tc Ty : BufTy}

/-- The contents that a valuation gives a typed buffer. -/
def get (a : TRef sig T) (V : Valuation τ sig Val) : T.Contents Val := a.ofBuf (V (Proc.devRef .tc a.ref))

/-- The operation writes the buffer `y`, with the value `g` of the contents before it, and nothing else. -/
structure Does (op : HloOp τ sig Val) (y : TRef sig T) (g : Valuation τ sig Val → T.Contents Val) : Prop where
  bufs : op.bufs ⊆ tcRefs τ sig
  fresh : op.fresh = ∅
  here : ∀ V, get y (op.result V) = g V
  off : ∀ {T' : BufTy} (a : TRef sig T') (V : Valuation τ sig Val), a.ref ≠ y.ref → get a (op.result V) = get a V

theorem does_nullary (y : TRef sig Ty) (v : Ty.Contents Val) :
    Does (τ := τ) (TRef.nullary y v) y fun _ => v :=
  ⟨nullary_bufs_sub .., rfl, fun V => by
      unfold get TRef.nullary; rw [nullary_result, TRef.ofBuf_toBuf],
    fun a V h => by unfold get TRef.nullary; rw [nullary_result_ne _ _ _ _ h]⟩

theorem does_unary (x : TRef sig Tx) (y : TRef sig Ty) (f : Tx.Contents Val → Ty.Contents Val) :
    Does (τ := τ) (TRef.unary x y f) y fun V => f (get x V) :=
  ⟨unary_bufs_sub .., rfl, fun V => by
      unfold get TRef.unary; rw [unary_result, TRef.ofBuf_toBuf],
    fun a V h => by unfold get TRef.unary; rw [unary_result_ne _ _ _ _ _ _ h]⟩

theorem does_binary (a : TRef sig Ta) (b : TRef sig Tb) (y : TRef sig Ty)
    (f : Ta.Contents Val → Tb.Contents Val → Ty.Contents Val) :
    Does (τ := τ) (TRef.binary a b y f) y fun V => f (get a V) (get b V) :=
  ⟨binary_bufs_sub .., rfl, fun V => by
      unfold get TRef.binary; rw [binary_result, TRef.ofBuf_toBuf],
    fun a V h => by unfold get TRef.binary; rw [binary_result_ne _ _ _ _ _ _ _ _ h]⟩

theorem does_ternary (c : TRef sig Tc) (a : TRef sig Ta) (b : TRef sig Tb) (y : TRef sig Ty)
    (f : Tc.Contents Val → Ta.Contents Val → Tb.Contents Val → Ty.Contents Val) :
    Does (τ := τ) (TRef.ternary c a b y f) y fun V => f (get c V) (get a V) (get b V) :=
  ⟨ternary_bufs_sub .., rfl, fun V => by
      unfold get TRef.ternary; rw [ternary_result, TRef.ofBuf_toBuf],
    fun a V h => by unfold get TRef.ternary; rw [ternary_result_ne _ _ _ _ _ _ _ _ _ _ h]⟩

/-- The contents of a buffer, reshaped. -/
def recast (he : Tx.elt = Ty.elt) (hn : Tx.shape.ShapeCasts Ty.shape) (v : Tx.Contents Val) : Ty.Contents Val :=
  fun i => he ▸ shapeCast Ty.shape v hn i

theorem does_reshape (x : TRef sig Tx) (y : TRef sig Ty) (he : Tx.elt = Ty.elt) (hn : Tx.shape.ShapeCasts Ty.shape) :
    Does (τ := τ) (Val := Val) (TRef.reshape x y he hn) y fun V => recast he hn (get x V) := by
  refine ⟨reshape_bufs_sub .., rfl, fun V => ?_, fun a V h => ?_⟩
  · obtain ⟨x, hx, hx1, hx2⟩ := x
    obtain ⟨y, hy, hy1, hy2⟩ := y
    subst hx; subst hy
    unfold get TRef.reshape
    exact reshape_result _ _ _ _ _ _ _
  · unfold get TRef.reshape; rw [reshape_result_ne _ _ _ _ _ _ _ h]

/-- The program is the straight line of the operations `ops`, all on the TensorCore's buffers. -/
structure Line (p : Prog (TpuEff nD τ sig Val Λ .tc) PUnit) (ops : List (HloOp τ sig Val)) : Prop where
  eq : p = seq ops
  bufs : ∀ op ∈ ops, op.bufs ⊆ tcRefs τ sig
  fresh : ∀ op ∈ ops, op.fresh = ∅

theorem line_nil : Line (nD := nD) (τ := τ) (sig := sig) (Val := Val) (Λ := Λ) (pure ⟨⟩) [] :=
  { eq := rfl, bufs := List.forall_mem_nil _, fresh := List.forall_mem_nil _ }

theorem line_cons {op : HloOp τ sig Val} {k : Prog (TpuEff nD τ sig Val Λ .tc) PUnit} {ops : List (HloOp τ sig Val)}
    (hb : op.bufs ⊆ tcRefs τ sig) (hf : op.fresh = ∅) (h : Line k ops) :
    Line ((hlo rfl op fun _ => .ret (⟨⟩ : PUnit) : Prog (TpuEff nD τ sig Val Λ .tc) PUnit) >>= fun _ => k) (op :: ops) :=
  { eq := by rw [h.eq]; rfl
    bufs := List.forall_mem_cons.2 ⟨hb, h.bufs⟩
    fresh := List.forall_mem_cons.2 ⟨hf, h.fresh⟩ }

theorem line_append {p q : Prog (TpuEff nD τ sig Val Λ .tc) PUnit} {l l' : List (HloOp τ sig Val)}
    (h : Line p l) (h' : Line q l') : Line (p >>= fun _ => q) (l ++ l') :=
  { eq := by rw [h.eq, h'.eq, seq_append]
    bufs := List.forall_mem_append.2 ⟨h.bufs, h'.bufs⟩
    fresh := List.forall_mem_append.2 ⟨h.fresh, h'.fresh⟩ }

theorem after_append (l l' : List (HloOp τ sig Val)) (V : Valuation τ sig Val) :
    after (l ++ l') V = after l' (after l V) := by
  induction l generalizing V with
  | nil => rfl
  | cons op l ih => exact ih _

/-- The property `G` reads only the buffers placed before `n`. -/
def Below (n : ℕ) (G : Valuation τ sig Val → Prop) : Prop :=
  ∀ V V' : Valuation τ sig Val, (∀ {T : BufTy} (a : TRef sig T), rk a.ref < n → get a V' = get a V) → G V → G V'

theorem Below.mono {n m : ℕ} {G : Valuation τ sig Val → Prop} (h : Below n G) (hm : n ≤ m) : Below m G :=
  fun V V' hv hg => h V V' (fun a ha => hv a (ha.trans_le hm)) hg

/-- One program, run from a valuation with `P`, ends at one with `Q`. -/
def Run (p : Prog (TpuEff nD τ sig Val Λ .tc) PUnit) (P Q : Valuation τ sig Val → Prop) : Prop :=
  ∃ l, Line p l ∧ ∀ V, P V → Q (after l V)

end One

section Two

variable {nD nD' : Nat} {τ τ' : Topo} {sig sig' : RefSig} {Λ Λ' : Labels}
variable {T Tx Ta Tb Tc Ty : BufTy}

/-- Two programs are straight lines, and from valuations with `P` they end at valuations with `Q`. -/
def Sim (p : Prog (TpuEff nD τ sig Val Λ .tc) PUnit) (q : Prog (TpuEff nD' τ' sig' Val Λ' .tc) PUnit)
    (P Q : Valuation τ sig Val → Valuation τ' sig' Val → Prop) : Prop :=
  ∃ l l', Line p l ∧ Line q l' ∧ ∀ V W, P V W → Q (after l V) (after l' W)

/-- The buffers placed before `n` (from the second on) hold what the next placed buffers of the other program hold. -/
def Rel (n : ℕ) (V : Valuation τ sig Val) (W : Valuation τ' sig' Val) : Prop :=
  ∀ {T : BufTy} (a : TRef sig T) (b : TRef sig' T), rk b.ref = rk a.ref + 1 → 2 ≤ rk a.ref → rk a.ref < n →
    get a V = get b W

/-- Between two operations: the first buffers are as they were, those before `n` agree, and `G` holds. -/
structure Inv (V0 : Valuation τ sig Val) (W0 : Valuation τ' sig' Val) (n : ℕ) (G : Valuation τ sig Val → Prop)
    (V : Valuation τ sig Val) (W : Valuation τ' sig' Val) : Prop where
  left : ∀ {T : BufTy} (a : TRef sig T), rk a.ref < 2 → get a V = get a V0
  right : ∀ {T : BufTy} (a : TRef sig' T), rk a.ref < 3 → get a W = get a W0
  rel : Rel n V W
  holds : G V

/-- The two programs keep the agreement from place `n` to place `m`, where `G` becomes `G'`. -/
def Step (n m : ℕ) (G G' : Valuation τ sig Val → Prop) (p : Prog (TpuEff nD τ sig Val Λ .tc) PUnit)
    (q : Prog (TpuEff nD' τ' sig' Val Λ' .tc) PUnit) : Prop :=
  Below n G → Below m G' ∧ ∀ V0 W0, Sim p q (Inv V0 W0 n G) (Inv V0 W0 m G')

variable {n m l : ℕ} {G G' G'' : Valuation τ sig Val → Prop}
variable {p k : Prog (TpuEff nD τ sig Val Λ .tc) PUnit} {q k' : Prog (TpuEff nD' τ' sig' Val Λ' .tc) PUnit}

theorem step_pure :
    Step (nD := nD) (nD' := nD') (Λ := Λ) (Λ' := Λ') (τ' := τ') (sig' := sig') n n G G (pure ⟨⟩) (pure ⟨⟩) :=
  fun hB => ⟨hB, fun _ _ => ⟨[], [], line_nil, line_nil, fun _ _ h => h⟩⟩

theorem step_done (h : Nat.beq n m = true) :
    Step (nD := nD) (nD' := nD') (Λ := Λ) (Λ' := Λ') (τ' := τ') (sig' := sig') n m G G (pure ⟨⟩) (pure ⟨⟩) := by
  obtain rfl := Nat.eq_of_beq_eq_true h
  exact step_pure

theorem step_bind (h : Step n l G G' p q) (h' : Step l m G' G'' k k') :
    Step n m G G'' (p >>= fun _ => k) (q >>= fun _ => k') := fun hB => by
  obtain ⟨h1, h2⟩ := h hB
  obtain ⟨h3, h4⟩ := h' h1
  refine ⟨h3, fun V0 W0 => ?_⟩
  obtain ⟨a, a', ha, ha', hs⟩ := h2 V0 W0
  obtain ⟨b, b', hb, hb', ht⟩ := h4 V0 W0
  refine ⟨a ++ b, a' ++ b', line_append ha hb, line_append ha' hb', fun V W hi => ?_⟩
  rw [after_append, after_append]
  exact ht _ _ (hs _ _ hi)

/-- A program known to keep the agreement from the place it begins at, then the rest. -/
theorem step_call {n0 : ℕ} (h : Step n0 l G G' p q) (hn : Nat.beq n n0 = true) (h' : Step l m G' G'' k k') :
    Step n m G G'' (p >>= fun _ => k) (q >>= fun _ => k') := by
  obtain rfl := Nat.eq_of_beq_eq_true hn
  exact step_bind h h'

/-- Four programs in a row, the first three of sixty operations each. -/
theorem step_four {p1 p2 p3 p4 : Prog (TpuEff nD τ sig Val Λ .tc) PUnit}
    {q1 q2 q3 q4 : Prog (TpuEff nD' τ' sig' Val Λ' .tc) PUnit} (h1 : Step n (n + 60) G G p1 q1)
    (h2 : Step (n + 60) (n + 120) G G p2 q2) (h3 : Step (n + 120) (n + 180) G G p3 q3) (h4 : Step (n + 180) m G G p4 q4) :
    Step n m G G (p1 >>= fun _ => p2 >>= fun _ => p3 >>= fun _ => p4) (q1 >>= fun _ => q2 >>= fun _ => q3 >>= fun _ => q4) :=
  step_bind h1 (step_bind h2 (step_bind h3 h4))

theorem step_last (h : Step n m G G' (p >>= fun _ => pure ⟨⟩) (q >>= fun _ => pure ⟨⟩)) : Step n m G G' p q := by
  rw [show (p >>= fun _ => pure ⟨⟩) = p from bind_pure p, show (q >>= fun _ => pure ⟨⟩) = q from bind_pure q] at h
  exact h

/-- Where the results of two operations are placed. -/
def At (n : ℕ) (y : TRef sig T) (y' : TRef sig' T) : Bool :=
  (rk y.ref == n && rk y'.ref == n + 1) && Nat.ble 2 n

/-- Where the operands of two operations are placed. -/
def Under (n : ℕ) (a : TRef sig T) (b : TRef sig' T) : Bool :=
  (rk b.ref == rk a.ref + 1 && Nat.ble 2 (rk a.ref)) && Nat.blt (rk a.ref) n

theorem Under.lt {a : TRef sig T} {b : TRef sig' T} (h : Under n a b = true) : rk a.ref < n := by
  unfold Under at h
  simp only [Bool.and_eq_true, beq_iff_eq, Nat.ble_eq, Nat.blt_eq] at h
  exact h.2

theorem Under.eq {a : TRef sig T} {b : TRef sig' T} (h : Under n a b = true) {V : Valuation τ sig Val}
    {W : Valuation τ' sig' Val} (hr : Rel n V W) : get a V = get b W := by
  unfold Under at h
  simp only [Bool.and_eq_true, beq_iff_eq, Nat.ble_eq, Nat.blt_eq] at h
  exact hr a b h.1.1 h.1.2 h.2

/-- One operation of each program, writing buffers at the same place with equal values. -/
theorem step_op {op : HloOp τ sig Val} {op' : HloOp τ' sig' Val} {y : TRef sig T} {y' : TRef sig' T}
    {g : Valuation τ sig Val → T.Contents Val} {g' : Valuation τ' sig' Val → T.Contents Val}
    (hd : Does op y g) (hd' : Does op' y' g') (hy : At n y y' = true)
    (hg : ∀ V W, Rel n V W → g V = g' W)
    (hB : Below n G → Below (n + 1) G')
    (hG : ∀ V V1, G V → (∀ {T : BufTy} (a : TRef sig T), rk a.ref < n → get a V1 = get a V) → get y V1 = g V →
      Below n G → G' V1)
    (hk : Step (n + 1) m G' G'' k k') :
    Step n m G G'' ((hlo rfl op fun _ => .ret (⟨⟩ : PUnit) : Prog (TpuEff nD τ sig Val Λ .tc) PUnit) >>= fun _ => k)
      ((hlo rfl op' fun _ => .ret (⟨⟩ : PUnit) : Prog (TpuEff nD' τ' sig' Val Λ' .tc) PUnit) >>= fun _ => k') := fun hb => by
  obtain ⟨h3, h4⟩ := hk (hB hb)
  refine ⟨h3, fun V0 W0 => ?_⟩
  obtain ⟨b, b', hb1, hb', ht⟩ := h4 V0 W0
  refine ⟨op :: b, op' :: b', line_cons hd.bufs hd.fresh hb1, line_cons hd'.bufs hd'.fresh hb', fun V W hi => ?_⟩
  unfold At at hy
  simp only [Bool.and_eq_true, beq_iff_eq, Nat.ble_eq] at hy
  obtain ⟨⟨hy, hy'⟩, h2⟩ := hy
  have hoff : ∀ {T : BufTy} (a : TRef sig T), rk a.ref < n → get a (op.result V) = get a V :=
    fun a ha => hd.off a V fun e => by rw [e, hy] at ha; omega
  have hoff' : ∀ {T : BufTy} (a : TRef sig' T), rk a.ref < n + 1 → get a (op'.result W) = get a W :=
    fun a ha => hd'.off a W fun e => by rw [e, hy'] at ha; omega
  refine ht _ _ ⟨fun a ha => (hoff a (by omega)).trans (hi.left a ha),
    fun a ha => (hoff' a (by omega)).trans (hi.right a ha), fun {T'} a c hc ha1 ha2 => ?_,
    hG V _ hi.holds hoff (hd.here V) hb⟩
  by_cases e : rk a.ref = n
  · have ea : a.ref = y.ref := rk_inj (e.trans hy.symm) (by omega)
    have ec : c.ref = y'.ref := rk_inj (by omega) (by omega)
    obtain ⟨a, hat, _, _⟩ := a
    obtain ⟨c, hct, _, _⟩ := c
    obtain ⟨y, hyt, _, _⟩ := y
    obtain ⟨y', hyt', _, _⟩ := y'
    simp only at ea ec
    subst ea; subst ec
    subst hat
    have hT : a.ty = T := hyt
    subst hT
    exact (hd.here V).trans ((hg V W hi.rel).trans (hd'.here W).symm)
  · rw [hoff a (by omega), hoff' c (by omega)]
    exact hi.rel a c hc ha1 (by omega)

theorem keep (G : Valuation τ sig Val → Prop) {y : TRef sig T} {g : Valuation τ sig Val → T.Contents Val} :
    ∀ V V1, G V → (∀ {T : BufTy} (a : TRef sig T), rk a.ref < n → get a V1 = get a V) → get y V1 = g V →
      Below n G → G V1 := fun V V1 hG h _ hB => hB V V1 h hG

theorem nullary_keep {y : TRef sig Ty} {y' : TRef sig' Ty} {v : Ty.Contents Val} (hy : At n y y' = true)
    (hk : Step (n + 1) m G G'' k k') :
    Step n m G G'' ((hlo rfl (TRef.nullary y v) fun _ => .ret (⟨⟩ : PUnit) : Prog (TpuEff nD τ sig Val Λ .tc) PUnit) >>= fun _ => k)
      ((hlo rfl (TRef.nullary y' v) fun _ => .ret (⟨⟩ : PUnit) : Prog (TpuEff nD' τ' sig' Val Λ' .tc) PUnit) >>= fun _ => k') :=
  step_op (does_nullary y v) (does_nullary y' v) hy (fun _ _ _ => rfl) (fun h => h.mono (Nat.le_succ n)) (keep G) hk

theorem unary_keep {x : TRef sig Tx} {x' : TRef sig' Tx} {y : TRef sig Ty} {y' : TRef sig' Ty}
    {f : Tx.Contents Val → Ty.Contents Val} (hy : At n y y' = true) (hx : Under n x x' = true)
    (hk : Step (n + 1) m G G'' k k') :
    Step n m G G'' ((hlo rfl (TRef.unary x y f) fun _ => .ret (⟨⟩ : PUnit) : Prog (TpuEff nD τ sig Val Λ .tc) PUnit) >>= fun _ => k)
      ((hlo rfl (TRef.unary x' y' f) fun _ => .ret (⟨⟩ : PUnit) : Prog (TpuEff nD' τ' sig' Val Λ' .tc) PUnit) >>= fun _ => k') :=
  step_op (does_unary x y f) (does_unary x' y' f) hy (fun V W h => by rw [Under.eq hx h])
    (fun h => h.mono (Nat.le_succ n)) (keep G) hk

theorem binary_keep {a : TRef sig Ta} {a' : TRef sig' Ta} {b : TRef sig Tb} {b' : TRef sig' Tb} {y : TRef sig Ty}
    {y' : TRef sig' Ty} {f : Ta.Contents Val → Tb.Contents Val → Ty.Contents Val} (hy : At n y y' = true)
    (ha : Under n a a' = true) (hb : Under n b b' = true) (hk : Step (n + 1) m G G'' k k') :
    Step n m G G'' ((hlo rfl (TRef.binary a b y f) fun _ => .ret (⟨⟩ : PUnit) : Prog (TpuEff nD τ sig Val Λ .tc) PUnit) >>= fun _ => k)
      ((hlo rfl (TRef.binary a' b' y' f) fun _ => .ret (⟨⟩ : PUnit) : Prog (TpuEff nD' τ' sig' Val Λ' .tc) PUnit) >>= fun _ => k') :=
  step_op (does_binary a b y f) (does_binary a' b' y' f) hy (fun V W h => by rw [Under.eq ha h, Under.eq hb h])
    (fun h => h.mono (Nat.le_succ n)) (keep G) hk

theorem ternary_keep {c : TRef sig Tc} {c' : TRef sig' Tc} {a : TRef sig Ta} {a' : TRef sig' Ta} {b : TRef sig Tb}
    {b' : TRef sig' Tb} {y : TRef sig Ty} {y' : TRef sig' Ty}
    {f : Tc.Contents Val → Ta.Contents Val → Tb.Contents Val → Ty.Contents Val} (hy : At n y y' = true)
    (hc : Under n c c' = true) (ha : Under n a a' = true) (hb : Under n b b' = true)
    (hk : Step (n + 1) m G G'' k k') :
    Step n m G G'' ((hlo rfl (TRef.ternary c a b y f) fun _ => .ret (⟨⟩ : PUnit) : Prog (TpuEff nD τ sig Val Λ .tc) PUnit) >>= fun _ => k)
      ((hlo rfl (TRef.ternary c' a' b' y' f) fun _ => .ret (⟨⟩ : PUnit) : Prog (TpuEff nD' τ' sig' Val Λ' .tc) PUnit) >>= fun _ => k') :=
  step_op (does_ternary c a b y f) (does_ternary c' a' b' y' f) hy
    (fun V W h => by rw [Under.eq hc h, Under.eq ha h, Under.eq hb h]) (fun h => h.mono (Nat.le_succ n)) (keep G) hk

theorem reshape_keep {x : TRef sig Tx} {x' : TRef sig' Tx} {y : TRef sig Ty} {y' : TRef sig' Ty}
    {he : Tx.elt = Ty.elt} {hn : Tx.shape.ShapeCasts Ty.shape} (hy : At n y y' = true) (hx : Under n x x' = true)
    (hk : Step (n + 1) m G G'' k k') :
    Step n m G G'' ((hlo rfl (TRef.reshape x y he hn) fun _ => .ret (⟨⟩ : PUnit) : Prog (TpuEff nD τ sig Val Λ .tc) PUnit) >>= fun _ => k)
      ((hlo rfl (TRef.reshape x' y' he hn) fun _ => .ret (⟨⟩ : PUnit) : Prog (TpuEff nD' τ' sig' Val Λ' .tc) PUnit) >>= fun _ => k') :=
  step_op (does_reshape x y he hn) (does_reshape x' y' he hn) hy (fun V W h => by rw [Under.eq hx h])
    (fun h => h.mono (Nat.le_succ n)) (keep G) hk

theorem Below.and {H : Valuation τ sig Val → Prop} (h : Below n G) (h' : Below n H) : Below n fun V => G V ∧ H V :=
  fun V V' hv hg => ⟨h V V' hv hg.1, h' V V' hv hg.2⟩

theorem At.eq {y : TRef sig T} {y' : TRef sig' T} (h : At n y y' = true) : rk y.ref = n := by
  unfold At at h
  simp only [Bool.and_eq_true, beq_iff_eq, Nat.ble_eq] at h
  exact h.1.1

theorem below_eq {y : TRef sig T} {v : T.Contents Val} (h : rk y.ref < n) :
    Below (τ := τ) n fun V => get y V = v :=
  fun V V' hv hg => (hv y h).trans hg

/-- The property `G` weakened to `G'`. -/
theorem step_weaken (h : ∀ V, G V → G' V) (hB : Below n G → Below n G') (hk : Step n m G' G'' p q) :
    Step n m G G'' p q := fun hb => by
  obtain ⟨h3, h4⟩ := hk (hB hb)
  refine ⟨h3, fun V0 W0 => ?_⟩
  obtain ⟨l, l', h1, h2, hs⟩ := h4 V0 W0
  exact ⟨l, l', h1, h2, fun V W hi => hs V W ⟨hi.left, hi.right, hi.rel, h V hi.holds⟩⟩

theorem nullary_learn {y : TRef sig Ty} {y' : TRef sig' Ty} {v : Ty.Contents Val}
    (hy : At n y y' = true)
    (hk : Step (n + 1) m (fun V => G V ∧ get y V = v) G'' k k') :
    Step n m G G'' ((hlo rfl (TRef.nullary y v) fun _ => .ret (⟨⟩ : PUnit) : Prog (TpuEff nD τ sig Val Λ .tc) PUnit) >>= fun _ => k)
      ((hlo rfl (TRef.nullary y' v) fun _ => .ret (⟨⟩ : PUnit) : Prog (TpuEff nD' τ' sig' Val Λ' .tc) PUnit) >>= fun _ => k') :=
  step_op (does_nullary y v) (does_nullary y' v) hy (fun V W h => by rfl)
    (fun h => (h.mono (Nat.le_succ n)).and fun V V1 hv hg => by
      have hg : get y V = v := hg
      show get y V1 = v
      rw [hv y (by rw [At.eq hy]; exact Nat.lt_succ_self n)]; exact hg)
    (fun V V1 hG h hh hB => ⟨hB V V1 h hG, by rw [hh]⟩) hk

theorem unary_learn {x : TRef sig Tx} {x' : TRef sig' Tx} {y : TRef sig Ty} {y' : TRef sig' Ty} {f : Tx.Contents Val → Ty.Contents Val}
    (hy : At n y y' = true) (hx : Under n x x' = true)
    (hk : Step (n + 1) m (fun V => G V ∧ get y V = f (get x V)) G'' k k') :
    Step n m G G'' ((hlo rfl (TRef.unary x y f) fun _ => .ret (⟨⟩ : PUnit) : Prog (TpuEff nD τ sig Val Λ .tc) PUnit) >>= fun _ => k)
      ((hlo rfl (TRef.unary x' y' f) fun _ => .ret (⟨⟩ : PUnit) : Prog (TpuEff nD' τ' sig' Val Λ' .tc) PUnit) >>= fun _ => k') :=
  step_op (does_unary x y f) (does_unary x' y' f) hy (fun V W h => by rw [Under.eq hx h])
    (fun h => (h.mono (Nat.le_succ n)).and fun V V1 hv hg => by
      have hg : get y V = f (get x V) := hg
      show get y V1 = f (get x V1)
      rw [hv y (by rw [At.eq hy]; exact Nat.lt_succ_self n), hv x ((Under.lt hx).trans (Nat.lt_succ_self n))]; exact hg)
    (fun V V1 hG h hh hB => ⟨hB V V1 h hG, by rw [hh]; rw [h x (Under.lt hx)]⟩) hk

theorem binary_learn {a : TRef sig Ta} {a' : TRef sig' Ta} {b : TRef sig Tb} {b' : TRef sig' Tb} {y : TRef sig Ty} {y' : TRef sig' Ty} {f : Ta.Contents Val → Tb.Contents Val → Ty.Contents Val}
    (hy : At n y y' = true) (ha : Under n a a' = true) (hb : Under n b b' = true)
    (hk : Step (n + 1) m (fun V => G V ∧ get y V = f (get a V) (get b V)) G'' k k') :
    Step n m G G'' ((hlo rfl (TRef.binary a b y f) fun _ => .ret (⟨⟩ : PUnit) : Prog (TpuEff nD τ sig Val Λ .tc) PUnit) >>= fun _ => k)
      ((hlo rfl (TRef.binary a' b' y' f) fun _ => .ret (⟨⟩ : PUnit) : Prog (TpuEff nD' τ' sig' Val Λ' .tc) PUnit) >>= fun _ => k') :=
  step_op (does_binary a b y f) (does_binary a' b' y' f) hy (fun V W h => by rw [Under.eq ha h, Under.eq hb h])
    (fun h => (h.mono (Nat.le_succ n)).and fun V V1 hv hg => by
      have hg : get y V = f (get a V) (get b V) := hg
      show get y V1 = f (get a V1) (get b V1)
      rw [hv y (by rw [At.eq hy]; exact Nat.lt_succ_self n), hv a ((Under.lt ha).trans (Nat.lt_succ_self n)), hv b ((Under.lt hb).trans (Nat.lt_succ_self n))]; exact hg)
    (fun V V1 hG h hh hB => ⟨hB V V1 h hG, by rw [hh]; rw [h a (Under.lt ha), h b (Under.lt hb)]⟩) hk

theorem ternary_learn {c : TRef sig Tc} {c' : TRef sig' Tc} {a : TRef sig Ta} {a' : TRef sig' Ta} {b : TRef sig Tb} {b' : TRef sig' Tb} {y : TRef sig Ty} {y' : TRef sig' Ty} {f : Tc.Contents Val → Ta.Contents Val → Tb.Contents Val → Ty.Contents Val}
    (hy : At n y y' = true) (hc : Under n c c' = true) (ha : Under n a a' = true) (hb : Under n b b' = true)
    (hk : Step (n + 1) m (fun V => G V ∧ get y V = f (get c V) (get a V) (get b V)) G'' k k') :
    Step n m G G'' ((hlo rfl (TRef.ternary c a b y f) fun _ => .ret (⟨⟩ : PUnit) : Prog (TpuEff nD τ sig Val Λ .tc) PUnit) >>= fun _ => k)
      ((hlo rfl (TRef.ternary c' a' b' y' f) fun _ => .ret (⟨⟩ : PUnit) : Prog (TpuEff nD' τ' sig' Val Λ' .tc) PUnit) >>= fun _ => k') :=
  step_op (does_ternary c a b y f) (does_ternary c' a' b' y' f) hy (fun V W h => by rw [Under.eq hc h, Under.eq ha h, Under.eq hb h])
    (fun h => (h.mono (Nat.le_succ n)).and fun V V1 hv hg => by
      have hg : get y V = f (get c V) (get a V) (get b V) := hg
      show get y V1 = f (get c V1) (get a V1) (get b V1)
      rw [hv y (by rw [At.eq hy]; exact Nat.lt_succ_self n), hv c ((Under.lt hc).trans (Nat.lt_succ_self n)), hv a ((Under.lt ha).trans (Nat.lt_succ_self n)), hv b ((Under.lt hb).trans (Nat.lt_succ_self n))]; exact hg)
    (fun V V1 hG h hh hB => ⟨hB V V1 h hG, by rw [hh]; rw [h c (Under.lt hc), h a (Under.lt ha), h b (Under.lt hb)]⟩) hk

theorem reshape_learn {x : TRef sig Tx} {x' : TRef sig' Tx} {y : TRef sig Ty} {y' : TRef sig' Ty} {he : Tx.elt = Ty.elt} {hn : Tx.shape.ShapeCasts Ty.shape}
    (hy : At n y y' = true) (hx : Under n x x' = true)
    (hk : Step (n + 1) m (fun V => G V ∧ get y V = recast he hn (get x V)) G'' k k') :
    Step n m G G'' ((hlo rfl (TRef.reshape x y he hn) fun _ => .ret (⟨⟩ : PUnit) : Prog (TpuEff nD τ sig Val Λ .tc) PUnit) >>= fun _ => k)
      ((hlo rfl (TRef.reshape x' y' he hn) fun _ => .ret (⟨⟩ : PUnit) : Prog (TpuEff nD' τ' sig' Val Λ' .tc) PUnit) >>= fun _ => k') :=
  step_op (does_reshape x y he hn) (does_reshape x' y' he hn) hy (fun V W h => by rw [Under.eq hx h])
    (fun h => (h.mono (Nat.le_succ n)).and fun V V1 hv hg => by
      have hg : get y V = recast he hn (get x V) := hg
      show get y V1 = recast he hn (get x V1)
      rw [hv y (by rw [At.eq hy]; exact Nat.lt_succ_self n), hv x ((Under.lt hx).trans (Nat.lt_succ_self n))]; exact hg)
    (fun V V1 hG h hh hB => ⟨hB V V1 h hG, by rw [hh]; rw [h x (Under.lt hx)]⟩) hk

end Two

end Cert.Proof.Sim
-- ==== Proof.Prefix.lean ====
/-
  The kernel's host lines before its SparseCore call, and the reference's host lines that draw the same indices, run side
  by side: the two write equal contents line by line.
-/
module

public import proofs.«01_k».proof.Proof.Sim
public import proofs.«01_k».proof.Defs
public import proofs.«01_k».proof.Proof.Gen.KernelIdeal
public import proofs.«01_k».proof.Proof.Gen.ReferenceIdeal

@[expose] public section

noncomputable section

namespace Cert.Proof.Pre

open Cert.Proof.Sim Cert.KernelIdeal.Gen Cert.ReferenceIdeal.Gen
open Idealize.ShloMosaic Idealize.ShloMosaic.StableHlo

variable {F : FTy → Type} [FloatOps F]
variable {G : Valuation KernelIdeal.τ KernelIdeal.sig (Elt F) → Prop}

set_option maxHeartbeats 8000000 in
/-- The hash functions that the two programs call, buffer for buffer the same. -/
theorem calls : (Step 29 251 G G (KernelIdeal.fn_threefry2x32.body (F := F) KernelIdeal.main_call0.v8 KernelIdeal.main_call0.v10 KernelIdeal.main_call0.v11 KernelIdeal.main_call0.v12 KernelIdeal.main_call0.call0)
      (ReferenceIdeal.fn_threefry2x32.body (F := F) ReferenceIdeal.main_call0.v8 ReferenceIdeal.main_call0.v10 ReferenceIdeal.main_call0.v11 ReferenceIdeal.main_call0.v12 ReferenceIdeal.main_call0.call0))
    ∧ (Step 289 514 G G (KernelIdeal.fn_threefry2x32_1.body (F := F) KernelIdeal.main_call1.call3.v13 KernelIdeal.main_call1.call3.v14 KernelIdeal.main_call1.call3.v11 KernelIdeal.main_call1.call3.v12 KernelIdeal.main_call1.call3.call0)
      (ReferenceIdeal.fn_threefry2x32_1.body (F := F) ReferenceIdeal.main_call1.call3.v13 ReferenceIdeal.main_call1.call3.v14 ReferenceIdeal.main_call1.call3.v11 ReferenceIdeal.main_call1.call3.v12 ReferenceIdeal.main_call1.call3.call0))
    ∧ (Step 538 763 G G (KernelIdeal.fn_threefry2x32_2.body (F := F) KernelIdeal.main_call1.v26 KernelIdeal.main_call1.v27 KernelIdeal.main_call1.v24 KernelIdeal.main_call1.v25 KernelIdeal.main_call1.call4)
      (ReferenceIdeal.fn_threefry2x32_2.body (F := F) ReferenceIdeal.main_call1.v26 ReferenceIdeal.main_call1.v27 ReferenceIdeal.main_call1.v24 ReferenceIdeal.main_call1.v25 ReferenceIdeal.main_call1.call4))
    ∧ (Step 781 1006 G G (KernelIdeal.fn_threefry2x32_2.body (F := F) KernelIdeal.main_call1.v43 KernelIdeal.main_call1.v44 KernelIdeal.main_call1.v41 KernelIdeal.main_call1.v42 KernelIdeal.main_call1.call5)
      (ReferenceIdeal.fn_threefry2x32_2.body (F := F) ReferenceIdeal.main_call1.v43 ReferenceIdeal.main_call1.v44 ReferenceIdeal.main_call1.v41 ReferenceIdeal.main_call1.v42 ReferenceIdeal.main_call1.call5)) := by
  refine ⟨?_, ?_, ?_, ?_⟩
  all_goals
    (first
    | unfold KernelIdeal.fn_threefry2x32.body ReferenceIdeal.fn_threefry2x32.body
    | unfold KernelIdeal.fn_threefry2x32_1.body ReferenceIdeal.fn_threefry2x32_1.body
    | unfold KernelIdeal.fn_threefry2x32_2.body ReferenceIdeal.fn_threefry2x32_2.body)
    refine step_four ?_ ?_ ?_ ?_
  all_goals
    first
    | unfold KernelIdeal.fn_threefry2x32.body_part0 ReferenceIdeal.fn_threefry2x32.body_part0
    | unfold KernelIdeal.fn_threefry2x32.body_part1 ReferenceIdeal.fn_threefry2x32.body_part1
    | unfold KernelIdeal.fn_threefry2x32.body_part2 ReferenceIdeal.fn_threefry2x32.body_part2
    | unfold KernelIdeal.fn_threefry2x32.body_part3 ReferenceIdeal.fn_threefry2x32.body_part3
    | unfold KernelIdeal.fn_threefry2x32_1.body_part0 ReferenceIdeal.fn_threefry2x32_1.body_part0
    | unfold KernelIdeal.fn_threefry2x32_1.body_part1 ReferenceIdeal.fn_threefry2x32_1.body_part1
    | unfold KernelIdeal.fn_threefry2x32_1.body_part2 ReferenceIdeal.fn_threefry2x32_1.body_part2
    | unfold KernelIdeal.fn_threefry2x32_1.body_part3 ReferenceIdeal.fn_threefry2x32_1.body_part3
    | unfold KernelIdeal.fn_threefry2x32_2.body_part0 ReferenceIdeal.fn_threefry2x32_2.body_part0
    | unfold KernelIdeal.fn_threefry2x32_2.body_part1 ReferenceIdeal.fn_threefry2x32_2.body_part1
    | unfold KernelIdeal.fn_threefry2x32_2.body_part2 ReferenceIdeal.fn_threefry2x32_2.body_part2
    | unfold KernelIdeal.fn_threefry2x32_2.body_part3 ReferenceIdeal.fn_threefry2x32_2.body_part3
  repeat'
    (first
    | with_reducible refine nullary_keep ?_ ?_
    | with_reducible refine unary_keep ?_ ?_ ?_
    | with_reducible refine binary_keep ?_ ?_ ?_ ?_
    | with_reducible refine ternary_keep ?_ ?_ ?_ ?_ ?_
    | with_reducible refine reshape_keep ?_ ?_ ?_
    | with_reducible refine step_done ?_
    | with_reducible refine step_last (nullary_keep ?_ (step_done ?_))
    | with_reducible refine step_last (unary_keep ?_ ?_ (step_done ?_))
    | with_reducible refine step_last (binary_keep ?_ ?_ ?_ (step_done ?_)))
  all_goals exact Eq.refl true
end Cert.Proof.Pre
-- ==== Proof.Draw.lean ====
/-
  The drawing of the indices in the kernel's host lines and in the reference's, run side by side, and the range of the
  indices drawn.
-/
module

public import proofs.«01_k».proof.Proof.Prefix
public import proofs.«01_k».proof.Defs
public import proofs.«01_k».proof.Proof.Gen.KernelIdeal
public import proofs.«01_k».proof.Proof.Gen.ReferenceIdeal

@[expose] public section

noncomputable section

namespace Cert.Proof.Pre

open Cert.Proof.Sim Cert.KernelIdeal.Gen Cert.ReferenceIdeal.Gen
open Idealize.ShloMosaic Idealize.ShloMosaic.StableHlo

variable {F : FTy → Type} [FloatOps F]
variable {G : Valuation KernelIdeal.τ KernelIdeal.sig (Elt F) → Prop}

set_option maxHeartbeats 1000000 in
/-- The fold of the row numbers into the key, and the split of the keys, buffer for buffer the same. -/
theorem folds :
    (Step 14 252 G G
      (KernelIdeal.fn_threefry_fold_in.body (F := F) (.of KernelIdeal.main_v6) (.of KernelIdeal.main_v8) KernelIdeal.main_call0)
      (ReferenceIdeal.fn_threefry_fold_in.body (F := F) (.of ReferenceIdeal.main_v7) (.of ReferenceIdeal.main_v9)
        ReferenceIdeal.main_call0))
    ∧ (Step 272 517 G G
      (KernelIdeal.fn_threefry_split.body (F := F) (.of KernelIdeal.main_v9) KernelIdeal.main_call1.call3)
      (ReferenceIdeal.fn_threefry_split.body (F := F) (.of ReferenceIdeal.main_v10) ReferenceIdeal.main_call1.call3)) := by
  refine ⟨?_, ?_⟩
  all_goals
    first
    | unfold KernelIdeal.fn_threefry_fold_in.body ReferenceIdeal.fn_threefry_fold_in.body
    | unfold KernelIdeal.fn_threefry_split.body ReferenceIdeal.fn_threefry_split.body
  repeat'
    (first
    | with_reducible refine nullary_keep ?_ ?_
    | with_reducible refine unary_keep ?_ ?_ ?_
    | with_reducible refine binary_keep ?_ ?_ ?_ ?_
    | with_reducible refine ternary_keep ?_ ?_ ?_ ?_ ?_
    | with_reducible refine reshape_keep ?_ ?_ ?_
    | with_reducible refine step_call calls.1 ?_ ?_
    | with_reducible refine step_call calls.2.1 ?_ ?_
    | with_reducible refine step_done ?_)
  all_goals exact Eq.refl true

/-- What the host knows before it draws: the two ends of the range. -/
def Ends (G : Valuation KernelIdeal.τ KernelIdeal.sig (Elt F) → Prop) (V : Valuation KernelIdeal.τ KernelIdeal.sig (Elt F)) : Prop :=
  (G V ∧ get (.of KernelIdeal.main_c_2 : TRef KernelIdeal.sig ⟨KernelIdeal.S_, .i32⟩) V = constantI KernelIdeal.S_ 32 0#32)
    ∧ get (.of KernelIdeal.main_c_3 : TRef KernelIdeal.sig ⟨KernelIdeal.S_, .i32⟩) V = constantI KernelIdeal.S_ 32 8192#32

/-- What it knows once the two ends are clipped. -/
def Span (G : Valuation KernelIdeal.τ KernelIdeal.sig (Elt F) → Prop) (V : Valuation KernelIdeal.τ KernelIdeal.sig (Elt F)) : Prop :=
  ((G V ∧ get KernelIdeal.main_call1.v1 V = constantI KernelIdeal.S_ 1 0#1)
    ∧ get KernelIdeal.main_call1.v6 V = constantI KernelIdeal.S1 32 0#32)
    ∧ get KernelIdeal.main_call1.v7 V = constantI KernelIdeal.S1 32 8192#32

/-- What it knows once the width of the range is computed. -/
def Width (G : Valuation KernelIdeal.τ KernelIdeal.sig (Elt F) → Prop) (V : Valuation KernelIdeal.τ KernelIdeal.sig (Elt F)) : Prop :=
  Span G V ∧ get KernelIdeal.main_call1.v48 V = constantI KernelIdeal.S1 32 8192#32

/-- What it knows once the width is corrected. -/
def Modulus (G : Valuation KernelIdeal.τ KernelIdeal.sig (Elt F) → Prop) (V : Valuation KernelIdeal.τ KernelIdeal.sig (Elt F)) : Prop :=
  (G V ∧ get KernelIdeal.main_call1.v6 V = constantI KernelIdeal.S1 32 0#32)
    ∧ get KernelIdeal.main_call1.v57 V = constantI KernelIdeal.S1 32 8192#32

/-- What it knows of the indices drawn: every one is below 8192. -/
def Drawn (G : Valuation KernelIdeal.τ KernelIdeal.sig (Elt F) → Prop) (V : Valuation KernelIdeal.τ KernelIdeal.sig (Elt F)) : Prop :=
  G V ∧ ∀ i, (get KernelIdeal.main_call1.v78 V i : BitVec 32).toNat < 8192

/-- The words the host computes of the two ends 0 and 8192: clipping keeps them, the upper end is not above the largest word,
and the width is 8192. -/
theorem word_facts :
    IntOp.minsi (2147483647#32) (IntOp.maxsi 2147483648#32 0#32) = 0#32
      ∧ IntOp.minsi (2147483647#32) (IntOp.maxsi 2147483648#32 8192#32) = 8192#32
      ∧ IntOp.cmpi .sgt 8192#32 (IntOp.minsi (2147483647#32) (IntOp.maxsi 2147483648#32 2147483647#32)) = 0#1
      ∧ IntOp.subi 8192#32 0#32 = 8192#32 := by decide +kernel

theorem Span.below {n : ℕ} (hn : Nat.ble 272 n = true) (h : Below n G) : Below n (Span (F := F) G) := by
  have hn := Nat.ble_eq.mp hn
  refine ((h.and (below_eq ?_)).and (below_eq ?_)).and (below_eq ?_) <;>
  exact lt_of_lt_of_le (b := 272) (Nat.blt_eq.mp (Eq.refl true)) hn

set_option maxHeartbeats 2000000 in
/-- The draw's first part keeps the two programs in step, and computes the width of the range. -/
theorem draw0 (hB : Below 254 G) :
    Step 254 1009 (Ends (F := F) G) (Width (F := F) G)
      (KernelIdeal.fn_randint.body_part0 (F := F) (.of KernelIdeal.main_v9) (.of KernelIdeal.main_c_2) (.of KernelIdeal.main_c_3) KernelIdeal.main_call1)
      (ReferenceIdeal.fn_randint.body_part0 (F := F) (.of ReferenceIdeal.main_v10) (.of ReferenceIdeal.main_c_2) (.of ReferenceIdeal.main_c_3) ReferenceIdeal.main_call1) := by
  unfold KernelIdeal.fn_randint.body_part0 ReferenceIdeal.fn_randint.body_part0
    KernelIdeal.fn_clip.body ReferenceIdeal.fn_clip.body KernelIdeal.fn_clip_0.body ReferenceIdeal.fn_clip_0.body Ends
  repeat'
    (first
    | with_reducible refine nullary_learn ?_ ?_
    | with_reducible refine unary_learn ?_ ?_ ?_
    | with_reducible refine binary_learn ?_ ?_ ?_ ?_
    | with_reducible refine ternary_learn ?_ ?_ ?_ ?_ ?_
    | with_reducible refine step_bind (binary_learn ?_ ?_ ?_ (binary_learn ?_ ?_ ?_ step_pure)) ?_)
  any_goals exact Eq.refl true
  refine step_weaken (G' := Span G) ?_ ?_ ?_
  · rintro V ⟨⟨⟨⟨⟨⟨⟨⟨⟨⟨⟨⟨⟨⟨⟨⟨⟨⟨⟨⟨hG, hlo⟩, hhi⟩, hc⟩, hc0⟩, hc1⟩, ha⟩, hb⟩, hv1⟩, hc2⟩, hc3⟩, ha1⟩, hb1⟩, hv3⟩, hc4⟩, hc5⟩, ha2⟩, hb2⟩, hv5⟩, hv6⟩, hv7⟩
    have e6 : get KernelIdeal.main_call1.call1.v1 V = constantI KernelIdeal.S_ 32 0#32 := by
      rw [hb1, ha1, hlo, hc2, hc3]
      exact funext fun _ => word_facts.1
    have e7 : get KernelIdeal.main_call1.call2.v1 V = constantI KernelIdeal.S_ 32 8192#32 := by
      rw [hb2, ha2, hhi, hc4, hc5]
      exact funext fun _ => word_facts.2.1
    rw [hv3, e6] at hv6
    rw [hv5, e7] at hv7
    rw [hb, ha, hc, hc0, hc1, hhi] at hv1
    exact ⟨⟨⟨hG, hv1.trans (funext fun _ => word_facts.2.2.1)⟩, hv6.trans (by funext i; rfl)⟩, hv7.trans (by funext i; rfl)⟩
  · refine fun _ => Span.below ?_ (hB.mono ?_)
    all_goals first | exact Nat.ble_eq.mp (Eq.refl true) | exact Nat.blt_eq.mp (Eq.refl true) | exact Eq.refl true
  refine step_call folds.2 (Eq.refl true) ?_
  repeat'
    (first
    | with_reducible refine nullary_keep ?_ ?_
    | with_reducible refine unary_keep ?_ ?_ ?_
    | with_reducible refine binary_keep ?_ ?_ ?_ ?_
    | with_reducible refine reshape_keep ?_ ?_ ?_
    | with_reducible refine step_call calls.2.2.1 ?_ ?_
    | with_reducible refine step_call calls.2.2.2 ?_ (binary_keep ?_ ?_ ?_ (binary_learn ?_ ?_ ?_ (step_last (unary_learn ?_ ?_ (step_weaken (G' := Width G) ?_ ?_ (step_done ?_)))))))
  any_goals exact Eq.refl true
  · rintro V ⟨⟨hS, h47⟩, h48⟩
    rw [h47, hS.2, hS.1.2] at h48
    exact ⟨hS, h48.trans (funext fun _ => word_facts.2.2.2)⟩
  · refine fun _ => (Span.below ?_ (hB.mono ?_)).and (below_eq ?_)
    all_goals first | exact Nat.ble_eq.mp (Eq.refl true) | exact Nat.blt_eq.mp (Eq.refl true) | exact Eq.refl true

set_option maxHeartbeats 2000000 in
/-- The draw's second part keeps the two programs in step, and leaves every index below 8192. -/
theorem draw1 (hB : Below 254 G) :
    Step 1009 1042 (Width (F := F) G) (Drawn (F := F) G)
      (KernelIdeal.fn_randint.body_part1 (F := F) (.of KernelIdeal.main_v9) (.of KernelIdeal.main_c_2) (.of KernelIdeal.main_c_3) KernelIdeal.main_call1)
      (ReferenceIdeal.fn_randint.body_part1 (F := F) (.of ReferenceIdeal.main_v10) (.of ReferenceIdeal.main_c_2) (.of ReferenceIdeal.main_c_3) ReferenceIdeal.main_call1) := by
  unfold KernelIdeal.fn_randint.body_part1 ReferenceIdeal.fn_randint.body_part1
  refine binary_learn ?_ ?_ ?_ (nullary_learn ?_ (unary_learn ?_ ?_ (ternary_learn ?_ ?_ ?_ ?_ (binary_learn ?_ ?_ ?_
    (unary_learn ?_ ?_ (binary_learn ?_ ?_ ?_ (nullary_learn ?_ (unary_learn ?_ ?_ (binary_learn ?_ ?_ ?_
    (ternary_learn ?_ ?_ ?_ ?_ (step_weaken (G' := Modulus G) ?_ ?_ ?_)))))))))))
  any_goals exact Eq.refl true
  · rintro V ⟨⟨⟨⟨⟨⟨⟨⟨⟨⟨⟨⟨⟨⟨⟨hG, h1⟩, h6⟩, h7⟩, h48⟩, h49⟩, hc10⟩, h50⟩, h51⟩, h52⟩, h53⟩, h54⟩, hc11⟩, h55⟩, h56⟩, h57⟩
    rw [h49, h48, h7, h6] at h51
    have h51 := h51.trans (show _ = constantI KernelIdeal.S1 32 8192#32 by funext i; rfl)
    rw [h53, h52, h1, h7, h6] at h54
    have h54 := h54.trans (show _ = constantI KernelIdeal.S1 1 0#1 from funext fun i => BitVec.zero_and)
    rw [h54, h51] at h57
    exact ⟨⟨hG, h6⟩, h57.trans (by funext i; rfl)⟩
  · refine fun _ => ((hB.mono ?_).and (below_eq ?_)).and (below_eq ?_)
    all_goals first | exact Nat.ble_eq.mp (Eq.refl true) | exact Nat.blt_eq.mp (Eq.refl true) | exact Eq.refl true
  refine nullary_keep ?_ (unary_keep ?_ ?_ (binary_keep ?_ ?_ ?_ (binary_keep ?_ ?_ ?_ (binary_keep ?_ ?_ ?_
    (unary_keep ?_ ?_ (unary_keep ?_ ?_ (binary_keep ?_ ?_ ?_ (unary_keep ?_ ?_ (unary_keep ?_ ?_ (binary_keep ?_ ?_ ?_
    (unary_keep ?_ ?_ (unary_keep ?_ ?_ (binary_keep ?_ ?_ ?_ (binary_keep ?_ ?_ ?_
    (unary_learn ?_ ?_ (unary_learn ?_ ?_ (binary_learn ?_ ?_ ?_ (unary_learn ?_ ?_ (unary_learn ?_ ?_ (unary_learn ?_ ?_
    (binary_learn ?_ ?_ ?_ (step_weaken (G' := Drawn G) ?_ ?_ (step_done ?_)))))))))))))))))))))))
  any_goals exact Eq.refl true
  · rintro V ⟨⟨⟨⟨⟨⟨⟨⟨⟨hG, h6⟩, h57⟩, h72⟩, h73⟩, h74⟩, h75⟩, h76⟩, h77⟩, h78⟩
    refine ⟨hG, fun i => ?_⟩
    rw [h72, h57] at h73
    rw [h73] at h74
    rw [h76, h6] at h77
    rw [h77, h75, h74] at h78
    rw [h78]
    show (0#32 + IntOp.remui .host (get KernelIdeal.main_call1.v71 V i) 8192#32 : BitVec 32).toNat < 8192
    rw [IntOp.remui, if_neg (by decide), BitVec.zero_add, BitVec.toNat_umod]
    exact Nat.mod_lt _ (by decide)
  · refine fun _ => (hB.mono ?_).and fun V V' hv h i => ?_
    · exact Nat.ble_eq.mp (Eq.refl true)
    · rw [hv KernelIdeal.main_call1.v78 (Nat.blt_eq.mp (Eq.refl true))]; exact h i

/-- The draw keeps the two programs in step, and leaves every index below 8192. -/
theorem randint (hB : Below 254 G) :
    Step 254 1042 (Ends (F := F) G) (Drawn (F := F) G)
      (KernelIdeal.fn_randint.body (F := F) (.of KernelIdeal.main_v9) (.of KernelIdeal.main_c_2) (.of KernelIdeal.main_c_3) KernelIdeal.main_call1)
      (ReferenceIdeal.fn_randint.body (F := F) (.of ReferenceIdeal.main_v10) (.of ReferenceIdeal.main_c_2) (.of ReferenceIdeal.main_c_3) ReferenceIdeal.main_call1) :=
  step_bind (draw0 hB) (draw1 hB)

end Cert.Proof.Pre
-- ==== Proof.Head.lean ====
/-
  The kernel's host lines up to its SparseCore call, and the reference's up to the same place: run from contents with the
  same argument they draw the same indices, all below 8192.
-/
module

public import proofs.«01_k».proof.Proof.Draw
public import proofs.«01_k».proof.Defs
public import proofs.«01_k».proof.Proof.Gen.KernelIdeal
public import proofs.«01_k».proof.Proof.Gen.ReferenceIdeal

@[expose] public section

noncomputable section

namespace Cert.Proof.Pre

open Cert.Proof.Sim
open Idealize.ShloMosaic Idealize.ShloMosaic.StableHlo Idealize.SL.Sem

variable {F : FTy → Type} [FloatOps F]

section preK

open Cert.KernelIdeal Cert.KernelIdeal.Gen

/-- The kernel's host lines that draw the indices. -/
def preK : Prog (TpuEff nD τ sig (Elt F) (SparseCore.Sig (Pipeline.Sig Λ₀ (Fin 0) fun p => (pcfgs (F := F) p).Adm) 1) .tc) PUnit := do
  hlo rfl (StableHlo.TRef.nullary (.of main_c : StableHlo.TRef sig ⟨S_, .i32⟩) (constantI S_ 32 1#32)) (fun _ => .ret ⟨⟩)
  hlo rfl (StableHlo.TRef.nullary (.of main_c_0 : StableHlo.TRef sig ⟨S_, .i32⟩) (constantI S_ 32 32#32)) (fun _ => .ret ⟨⟩)
  hlo rfl (StableHlo.TRef.binary (.of main_c : StableHlo.TRef sig ⟨S_, .i32⟩) (.of main_c_0 : StableHlo.TRef sig ⟨S_, .i32⟩) (.of main_v0 : StableHlo.TRef sig ⟨S_, .i32⟩) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v0 : StableHlo.TRef sig ⟨S_, .i32⟩) (.of main_v1 : StableHlo.TRef sig ⟨S_, .i32⟩) (id : (⟨S_, .i32⟩ : BufTy).Contents (Elt F) → (⟨S_, .i32⟩ : BufTy).Contents (Elt F))) (fun _ => .ret ⟨⟩)
  hlo rfl (StableHlo.TRef.unary (.of main_v1 : StableHlo.TRef sig ⟨S_, .i32⟩) (.of main_v2 : StableHlo.TRef sig ⟨S1, .i32⟩) (broadcastInDim S1 ![] bcast_S_S1 : (⟨S_, .i32⟩ : BufTy).Contents (Elt F) → (⟨S1, .i32⟩ : BufTy).Contents (Elt F))) (fun _ => .ret ⟨⟩)
  hlo rfl (StableHlo.TRef.nullary (.of main_c_1 : StableHlo.TRef sig ⟨S_, .i32⟩) (constantI S_ 32 4294967295#32)) (fun _ => .ret ⟨⟩)
  hlo rfl (StableHlo.TRef.binary (.of main_c : StableHlo.TRef sig ⟨S_, .i32⟩) (.of main_c_1 : StableHlo.TRef sig ⟨S_, .i32⟩) (.of main_v3 : StableHlo.TRef sig ⟨S_, .i32⟩) (andi : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v3 : StableHlo.TRef sig ⟨S_, .i32⟩) (.of main_v4 : StableHlo.TRef sig ⟨S_, .i32⟩) (id : (⟨S_, .i32⟩ : BufTy).Contents (Elt F) → (⟨S_, .i32⟩ : BufTy).Contents (Elt F))) (fun _ => .ret ⟨⟩)
  hlo rfl (StableHlo.TRef.unary (.of main_v4 : StableHlo.TRef sig ⟨S_, .i32⟩) (.of main_v5 : StableHlo.TRef sig ⟨S1, .i32⟩) (broadcastInDim S1 ![] bcast_S_S1 : (⟨S_, .i32⟩ : BufTy).Contents (Elt F) → (⟨S1, .i32⟩ : BufTy).Contents (Elt F))) (fun _ => .ret ⟨⟩)
  hlo rfl (StableHlo.TRef.binary (.of main_v2 : StableHlo.TRef sig ⟨S1, .i32⟩) (.of main_v5 : StableHlo.TRef sig ⟨S1, .i32⟩) (.of main_v6 : StableHlo.TRef sig ⟨S2, .i32⟩) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (StableHlo.TRef.nullary (.of main_v7 : StableHlo.TRef sig ⟨S32, .i32⟩) (iotaInDim S32 32 0)) (fun _ => .ret ⟨⟩)
  hlo rfl (StableHlo.TRef.unary (.of main_v7 : StableHlo.TRef sig ⟨S32, .i32⟩) (.of main_v8 : StableHlo.TRef sig ⟨S32, .i32⟩) (id : (⟨S32, .i32⟩ : BufTy).Contents (Elt F) → (⟨S32, .i32⟩ : BufTy).Contents (Elt F))) (fun _ => .ret ⟨⟩)
  fn_threefry_fold_in.body (.of main_v6) (.of main_v8) main_call0
  hlo rfl (StableHlo.TRef.nullary (.of main_c_2 : StableHlo.TRef sig ⟨S_, .i32⟩) (constantI S_ 32 0#32)) (fun _ => .ret ⟨⟩)
  hlo rfl (StableHlo.TRef.nullary (.of main_c_3 : StableHlo.TRef sig ⟨S_, .i32⟩) (constantI S_ 32 8192#32)) (fun _ => .ret ⟨⟩)
  fn_randint.body (.of main_v9) (.of main_c_2) (.of main_c_3) main_call1
  pure ⟨⟩

/-- These lines, followed by anything. -/
theorem preK_bind (k : Prog (TpuEff nD τ sig (Elt F) (SparseCore.Sig (Pipeline.Sig Λ₀ (Fin 0) fun p => (pcfgs (F := F) p).Adm) 1) .tc) PUnit) :
    (do
      hlo rfl (StableHlo.nullary main_c (constantI S_ 32 1#32)) (fun _ => .ret ⟨⟩)
      hlo rfl (StableHlo.nullary main_c_0 (constantI S_ 32 32#32)) (fun _ => .ret ⟨⟩)
      hlo rfl (StableHlo.binary main_c main_c_0 main_v0 (Host.shrui : (⟨S_, .i32⟩ : BufTy).Contents (Elt F) → (⟨S_, .i32⟩ : BufTy).Contents (Elt F) → (⟨S_, .i32⟩ : BufTy).Contents (Elt F))) (fun _ => .ret ⟨⟩)
      hlo rfl (StableHlo.unary main_v0 main_v1 (id : (⟨S_, .i32⟩ : BufTy).Contents (Elt F) → (⟨S_, .i32⟩ : BufTy).Contents (Elt F))) (fun _ => .ret ⟨⟩)
      hlo rfl (StableHlo.unary main_v1 main_v2 (broadcastInDim S1 ![] bcast_S_S1 : (⟨S_, .i32⟩ : BufTy).Contents (Elt F) → (⟨S1, .i32⟩ : BufTy).Contents (Elt F))) (fun _ => .ret ⟨⟩)
      hlo rfl (StableHlo.nullary main_c_1 (constantI S_ 32 4294967295#32)) (fun _ => .ret ⟨⟩)
      hlo rfl (StableHlo.binary main_c main_c_1 main_v3 (andi : (⟨S_, .i32⟩ : BufTy).Contents (Elt F) → (⟨S_, .i32⟩ : BufTy).Contents (Elt F) → (⟨S_, .i32⟩ : BufTy).Contents (Elt F))) (fun _ => .ret ⟨⟩)
      hlo rfl (StableHlo.unary main_v3 main_v4 (id : (⟨S_, .i32⟩ : BufTy).Contents (Elt F) → (⟨S_, .i32⟩ : BufTy).Contents (Elt F))) (fun _ => .ret ⟨⟩)
      hlo rfl (StableHlo.unary main_v4 main_v5 (broadcastInDim S1 ![] bcast_S_S1 : (⟨S_, .i32⟩ : BufTy).Contents (Elt F) → (⟨S1, .i32⟩ : BufTy).Contents (Elt F))) (fun _ => .ret ⟨⟩)
      hlo rfl (StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
      hlo rfl (StableHlo.nullary main_v7 (iotaInDim S32 32 0)) (fun _ => .ret ⟨⟩)
      hlo rfl (StableHlo.unary main_v7 main_v8 (id : (⟨S32, .i32⟩ : BufTy).Contents (Elt F) → (⟨S32, .i32⟩ : BufTy).Contents (Elt F))) (fun _ => .ret ⟨⟩)
      fn_threefry_fold_in.body (.of main_v6) (.of main_v8) main_call0
      hlo rfl (StableHlo.nullary main_c_2 (constantI S_ 32 0#32)) (fun _ => .ret ⟨⟩)
      hlo rfl (StableHlo.nullary main_c_3 (constantI S_ 32 8192#32)) (fun _ => .ret ⟨⟩)
      fn_randint.body (.of main_v9) (.of main_c_2) (.of main_c_3) main_call1
      k : Prog (TpuEff nD τ sig (Elt F) (SparseCore.Sig (Pipeline.Sig Λ₀ (Fin 0) fun p => (pcfgs (F := F) p).Adm) 1) .tc) PUnit) = (preK (F := F) >>= fun _ => k) := by
  unfold preK
  simp only [bind_assoc, pure_bind]
  rfl

end preK

section preR

open Cert.ReferenceIdeal Cert.ReferenceIdeal.Gen

/-- The reference's host lines that draw the indices. -/
def preR : Prog (TpuEff nD τ sig (Elt F) (Pipeline.Sig Λ₀ (Fin 0) fun p => (pcfgs (F := F) p).Adm) .tc) PUnit := do
  hlo rfl (StableHlo.TRef.nullary (.of main_c : StableHlo.TRef sig ⟨S_, .i32⟩) (constantI S_ 32 1#32)) (fun _ => .ret ⟨⟩)
  hlo rfl (StableHlo.TRef.nullary (.of main_c_0 : StableHlo.TRef sig ⟨S_, .i32⟩) (constantI S_ 32 32#32)) (fun _ => .ret ⟨⟩)
  hlo rfl (StableHlo.TRef.binary (.of main_c : StableHlo.TRef sig ⟨S_, .i32⟩) (.of main_c_0 : StableHlo.TRef sig ⟨S_, .i32⟩) (.of main_v1 : StableHlo.TRef sig ⟨S_, .i32⟩) (Host.shrui : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v1 : StableHlo.TRef sig ⟨S_, .i32⟩) (.of main_v2 : StableHlo.TRef sig ⟨S_, .i32⟩) (id : (⟨S_, .i32⟩ : BufTy).Contents (Elt F) → (⟨S_, .i32⟩ : BufTy).Contents (Elt F))) (fun _ => .ret ⟨⟩)
  hlo rfl (StableHlo.TRef.unary (.of main_v2 : StableHlo.TRef sig ⟨S_, .i32⟩) (.of main_v3 : StableHlo.TRef sig ⟨S1, .i32⟩) (broadcastInDim S1 ![] bcast_S_S1 : (⟨S_, .i32⟩ : BufTy).Contents (Elt F) → (⟨S1, .i32⟩ : BufTy).Contents (Elt F))) (fun _ => .ret ⟨⟩)
  hlo rfl (StableHlo.TRef.nullary (.of main_c_1 : StableHlo.TRef sig ⟨S_, .i32⟩) (constantI S_ 32 4294967295#32)) (fun _ => .ret ⟨⟩)
  hlo rfl (StableHlo.TRef.binary (.of main_c : StableHlo.TRef sig ⟨S_, .i32⟩) (.of main_c_1 : StableHlo.TRef sig ⟨S_, .i32⟩) (.of main_v4 : StableHlo.TRef sig ⟨S_, .i32⟩) (andi : (⟨S_, .i32⟩ : BufTy).Contents (Elt F) → (⟨S_, .i32⟩ : BufTy).Contents (Elt F) → (⟨S_, .i32⟩ : BufTy).Contents (Elt F))) (fun _ => .ret ⟨⟩)
  hlo rfl (StableHlo.TRef.unary (.of main_v4 : StableHlo.TRef sig ⟨S_, .i32⟩) (.of main_v5 : StableHlo.TRef sig ⟨S_, .i32⟩) (id : (⟨S_, .i32⟩ : BufTy).Contents (Elt F) → (⟨S_, .i32⟩ : BufTy).Contents (Elt F))) (fun _ => .ret ⟨⟩)
  hlo rfl (StableHlo.TRef.unary (.of main_v5 : StableHlo.TRef sig ⟨S_, .i32⟩) (.of main_v6 : StableHlo.TRef sig ⟨S1, .i32⟩) (broadcastInDim S1 ![] bcast_S_S1 : (⟨S_, .i32⟩ : BufTy).Contents (Elt F) → (⟨S1, .i32⟩ : BufTy).Contents (Elt F))) (fun _ => .ret ⟨⟩)
  hlo rfl (StableHlo.TRef.binary (.of main_v3 : StableHlo.TRef sig ⟨S1, .i32⟩) (.of main_v6 : StableHlo.TRef sig ⟨S1, .i32⟩) (.of main_v7 : StableHlo.TRef sig ⟨S2, .i32⟩) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
  hlo rfl (StableHlo.TRef.nullary (.of main_v8 : StableHlo.TRef sig ⟨S32, .i32⟩) (iotaInDim S32 32 0)) (fun _ => .ret ⟨⟩)
  hlo rfl (StableHlo.TRef.unary (.of main_v8 : StableHlo.TRef sig ⟨S32, .i32⟩) (.of main_v9 : StableHlo.TRef sig ⟨S32, .i32⟩) (id : (⟨S32, .i32⟩ : BufTy).Contents (Elt F) → (⟨S32, .i32⟩ : BufTy).Contents (Elt F))) (fun _ => .ret ⟨⟩)
  fn_threefry_fold_in.body (.of main_v7) (.of main_v9) main_call0
  hlo rfl (StableHlo.TRef.nullary (.of main_c_2 : StableHlo.TRef sig ⟨S_, .i32⟩) (constantI S_ 32 0#32)) (fun _ => .ret ⟨⟩)
  hlo rfl (StableHlo.TRef.nullary (.of main_c_3 : StableHlo.TRef sig ⟨S_, .i32⟩) (constantI S_ 32 8192#32)) (fun _ => .ret ⟨⟩)
  fn_randint.body (.of main_v10) (.of main_c_2) (.of main_c_3) main_call1
  pure ⟨⟩

/-- These lines, followed by anything. -/
theorem preR_bind (k : Prog (TpuEff nD τ sig (Elt F) (Pipeline.Sig Λ₀ (Fin 0) fun p => (pcfgs (F := F) p).Adm) .tc) PUnit) :
    (do
      hlo rfl (StableHlo.nullary main_c (constantI S_ 32 1#32)) (fun _ => .ret ⟨⟩)
      hlo rfl (StableHlo.nullary main_c_0 (constantI S_ 32 32#32)) (fun _ => .ret ⟨⟩)
      hlo rfl (StableHlo.binary main_c main_c_0 main_v1 (Host.shrui : (⟨S_, .i32⟩ : BufTy).Contents (Elt F) → (⟨S_, .i32⟩ : BufTy).Contents (Elt F) → (⟨S_, .i32⟩ : BufTy).Contents (Elt F))) (fun _ => .ret ⟨⟩)
      hlo rfl (StableHlo.unary main_v1 main_v2 (id : (⟨S_, .i32⟩ : BufTy).Contents (Elt F) → (⟨S_, .i32⟩ : BufTy).Contents (Elt F))) (fun _ => .ret ⟨⟩)
      hlo rfl (StableHlo.unary main_v2 main_v3 (broadcastInDim S1 ![] bcast_S_S1 : (⟨S_, .i32⟩ : BufTy).Contents (Elt F) → (⟨S1, .i32⟩ : BufTy).Contents (Elt F))) (fun _ => .ret ⟨⟩)
      hlo rfl (StableHlo.nullary main_c_1 (constantI S_ 32 4294967295#32)) (fun _ => .ret ⟨⟩)
      hlo rfl (StableHlo.binary main_c main_c_1 main_v4 (andi : (⟨S_, .i32⟩ : BufTy).Contents (Elt F) → (⟨S_, .i32⟩ : BufTy).Contents (Elt F) → (⟨S_, .i32⟩ : BufTy).Contents (Elt F))) (fun _ => .ret ⟨⟩)
      hlo rfl (StableHlo.unary main_v4 main_v5 (id : (⟨S_, .i32⟩ : BufTy).Contents (Elt F) → (⟨S_, .i32⟩ : BufTy).Contents (Elt F))) (fun _ => .ret ⟨⟩)
      hlo rfl (StableHlo.unary main_v5 main_v6 (broadcastInDim S1 ![] bcast_S_S1 : (⟨S_, .i32⟩ : BufTy).Contents (Elt F) → (⟨S1, .i32⟩ : BufTy).Contents (Elt F))) (fun _ => .ret ⟨⟩)
      hlo rfl (StableHlo.binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))) (fun _ => .ret ⟨⟩)
      hlo rfl (StableHlo.nullary main_v8 (iotaInDim S32 32 0)) (fun _ => .ret ⟨⟩)
      hlo rfl (StableHlo.unary main_v8 main_v9 (id : (⟨S32, .i32⟩ : BufTy).Contents (Elt F) → (⟨S32, .i32⟩ : BufTy).Contents (Elt F))) (fun _ => .ret ⟨⟩)
      fn_threefry_fold_in.body (.of main_v7) (.of main_v9) main_call0
      hlo rfl (StableHlo.nullary main_c_2 (constantI S_ 32 0#32)) (fun _ => .ret ⟨⟩)
      hlo rfl (StableHlo.nullary main_c_3 (constantI S_ 32 8192#32)) (fun _ => .ret ⟨⟩)
      fn_randint.body (.of main_v10) (.of main_c_2) (.of main_c_3) main_call1
      k : Prog (TpuEff nD τ sig (Elt F) (Pipeline.Sig Λ₀ (Fin 0) fun p => (pcfgs (F := F) p).Adm) .tc) PUnit) = (preR (F := F) >>= fun _ => k) := by
  unfold preR
  simp only [bind_assoc, pure_bind]
  rfl

end preR

open Cert.KernelIdeal.Gen Cert.ReferenceIdeal.Gen

/-- Nothing known. -/
def Any (_ : Valuation KernelIdeal.τ KernelIdeal.sig (Elt F)) : Prop := True

set_option maxHeartbeats 2000000 in
/-- The two draws, side by side: the same indices, all below 8192. -/
theorem heads : Step 2 1042 (Any (F := F)) (Drawn Any) preK preR := by
  have hA : ∀ n, Below n (Any (F := F)) := fun _ _ _ _ _ => trivial
  have hr := randint (hA 254)
  unfold Ends at hr
  unfold preK preR
  repeat'
    (first
    | with_reducible refine nullary_keep ?_ ?_
    | with_reducible refine unary_keep ?_ ?_ ?_
    | with_reducible refine binary_keep ?_ ?_ ?_ ?_
    | with_reducible refine step_call folds.1 ?_ (nullary_learn ?_ (nullary_learn ?_ (step_call hr ?_ (step_done ?_)))))
  all_goals exact Eq.refl true

/-- The two draws' operations, and what they leave behind. -/
theorem heads_run (V : Valuation KernelIdeal.τ KernelIdeal.sig (Elt F)) (W : Valuation ReferenceIdeal.τ ReferenceIdeal.sig (Elt F)) :
    ∃ l l', Line (preK (F := F)) l ∧ Line (preR (F := F)) l' ∧ Inv V W 1042 (Drawn Any) (after l V) (after l' W) := by
  obtain ⟨l, l', h, h', hs⟩ := (heads (F := F) fun _ _ _ _ => trivial).2 V W
  exact ⟨l, l', h, h', hs V W ⟨fun _ _ => rfl, fun _ _ => rfl, fun _ _ _ h2 h3 => absurd h3 (Nat.not_lt.2 h2), trivial⟩⟩

end Cert.Proof.Pre
-- ==== Proof.Main.lean ====
/-
  The whole kernel's run: its host lines draw the indices, the one call gathers, and the machine comes to rest with the
  gathered table in the result's buffer and the argument as it was.
-/
module

public import proofs.«01_k».proof.Proof.Launch
public import proofs.«01_k».proof.Proof.Head
public import Idealize.ShloMosaic.Lib.Pipeline.Frame

@[expose] public section

noncomputable section

namespace Cert.Proof.K

open Cert.KernelIdeal Cert.KernelIdeal.Gen Cert.Proof.Rules

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after launchContents held tcRefs wp_seq held_sub_split seq_append)
open Idealize.ShloMosaic.Pipeline (ucRefs unscopedBufs_held sub_ucRefs)
open Cert.Proof.Sim (Line)

variable {F : FTy → Type}

local notation "𝕄" => MT nD τ sig (HIx 1) (Elt F) ℕ UU ℕ

section Main

variable [FloatOps F]
variable (m : (ℓ : Loc nD τ sig) → Buf (Elt F) ℓ) (ρ : Dev nD → PrngReg)
-- The host lines' operations.
variable (ops : Dev nD → List (HloOp τ sig (Elt F)))

/-- The reshape of the indices that the call reads. -/
abbrev rop : HloOp τ sig (Elt F) := StableHlo.reshape main_v10 main_v11 (rfl : (.i32 : EltTy) = .i32) shapeCasts_S32x16384_S32x128x128

/-- What the buffers hold when the call begins. -/
def VF (d : Dev nD) : Valuation τ sig (Elt F) := after (ops d ++ [rop]) (launchContents m d)

abbrev xV (d : Dev nD) : S16384x2048.Idx → Elt F .f32 := m (xLoc d)
abbrev jV' (d : Dev nD) : S32x128x128.Idx → Elt F .i32 := VF m ops d (Proc.devRef .tc main_v11)
abbrev oV (d : Dev nD) : S16384x2048.Idx → Elt F .f32 := VF m ops d (Proc.devRef .tc main_v12)

/-- The call, after the host lines. -/
abbrev callK (d : Dev nD) : Prog (TpuEff nD τ sig (Elt F) (SparseCore.Sig (ΛP (F := F)) 1) .tc) PUnit := do
  (K (F := F)).run d 0
  Pure.pure PUnit.unit
abbrev tailK (d : Dev nD) : Prog (TpuEff nD τ sig (Elt F) (SparseCore.Sig (ΛP (F := F)) 1) .tc) PUnit := do
  hlo rfl (rop (F := F)) (fun _ => .ret ⟨⟩)
  callK d

/-- The kernel's @main: the host lines, then the call. -/
theorem main_eq (hl : ∀ d, Line (Pre.preK (F := F)) (ops d)) (d : Dev nD) :
    main (F := F) d = seq (ops d ++ [rop]) >>= fun _ => callK d := by
  refine Eq.trans (b := Pre.preK (F := F) >>= fun _ => tailK d) (Pre.preK_bind (F := F) (tailK d)) ?_
  rw [seq_append, (hl d).eq, bind_assoc]
  rfl

theorem ops_bufs (hl : ∀ d, Line (Pre.preK (F := F)) (ops d)) (d : Dev nD) : ∀ op ∈ ops d ++ [rop], op.bufs ⊆ ucRefs τ sig := by
  intro op h
  rcases List.mem_append.mp h with h | h
  · exact sub_ucRefs op ((hl d).bufs op h)
  · rw [List.mem_singleton.mp h]
    exact sub_ucRefs _ (StableHlo.reshape_bufs_sub ..)

theorem ops_fresh (hl : ∀ d, Line (Pre.preK (F := F)) (ops d)) (d : Dev nD) : ∀ op ∈ ops d ++ [rop], op.fresh = ∅ := by
  intro op h
  rcases List.mem_append.mp h with h | h
  · exact (hl d).fresh op h
  · rw [List.mem_singleton.mp h]; rfl

/-! ## The launch element of the certificate's ghost state -/

def u₀ : UU := (initOf (K (F := F)).hsCells (K (F := F)).hsToks, 1)

abbrev PP : (K (F := F)).Pay (nD := nD) (Val := Elt F) (Name := ℕ) (U := UU) := P (xV m) (jV' m ops) (oV m ops)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m ops).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (PP m ops).x q thr) = bigSep Finset.univ fun _ => iprop(emp) from
    bigSep_congr fun _ _ => bigSep_univ_of_subsingleton (0 : Fin 1), bigSep_emp']
  iempintro

/-! ## @main on the TensorCore -/

/-- The three buffers the call is handed. -/
def callRefs : Finset (DevRef τ sig) := {Proc.devRef .tc main_arg0, Proc.devRef .tc main_v11, Proc.devRef .tc main_v12}

theorem callRefs_sub : callRefs ⊆ ucRefs τ sig := fun b hb => by
  unfold callRefs at hb
  rw [Finset.mem_insert, Finset.mem_insert, Finset.mem_singleton] at hb
  refine Finset.mem_filter.mpr ⟨?_, ?_⟩
  · rcases hb with h | h | h <;> rw [h] <;> exact Finset.mem_map_of_mem _ (Finset.mem_univ _)
  · rcases hb with h | h | h <;> rw [h] <;> exact Bool.false_ne_true

theorem ref_ne {a b : Ref sig .tc} (h : a ≠ b) : (Proc.devRef .tc a : DevRef τ sig) ≠ Proc.devRef .tc b :=
  fun e => h (Proc.devRef_injective _ e)

set_option maxRecDepth 16384 in
theorem arg0_ne_v11 : (main_arg0 : Ref sig .tc) ≠ main_v11 := by decide
set_option maxRecDepth 16384 in
theorem arg0_ne_v12 : (main_arg0 : Ref sig .tc) ≠ main_v12 := by decide
set_option maxRecDepth 16384 in
theorem v11_ne_v12 : (main_v11 : Ref sig .tc) ≠ main_v12 := by decide

/-- The call's buffers, out of all that is held. -/
theorem held_call (hx : ∀ d, VF m ops d (Proc.devRef .tc main_arg0) = m (xLoc d)) (d : Dev nD) :
    (held (d.tc : Thread nD τ) callRefs (VF m ops d) : sProp 𝕄) = dPts (xV m) (jV' m ops) d (oV m ops d) := by
  unfold held callRefs
  rw [SparseCore.bigSep_insert' (by
      rw [Finset.mem_insert, Finset.mem_singleton]
      rintro (h | h)
      · exact ref_ne arg0_ne_v11 h
      · exact ref_ne arg0_ne_v12 h),
    SparseCore.bigSep_insert' (by
      rw [Finset.mem_singleton]
      exact ref_ne v11_ne_v12), bigSep_singleton, hx]

abbrev FIN (d : Dev nD) : sProp 𝕄 :=
  iprop((xLoc d ↦{fullShare} xV m d) ∗ (uLoc d ↦{fullShare} res (xV m) (jV' m ops) d))

/-- @main on a device's TensorCore: the argument kept, the result made. -/
theorem hmain (hl : ∀ d, Line (Pre.preK (F := F)) (ops d)) (hx : ∀ d, VF m ops d (Proc.devRef .tc main_arg0) = m (xLoc d))
    (κ : GSem nD τ sig → ℕ) (d : Dev nD) :
    iprop((K (F := F)).ctx EH (PP m ops) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m ops d ∗ (K (F := F)).tcEnd d) := by
  unfold SparseCore.Cfg.tcRes SparseCore.Cfg.tcEnd
  rw [main_eq ops hl]
  iintro ⟨#Hctx, Hst, ⟨Hb, Hbufs, Hts, -⟩, -⟩
  ihave Hbufs := (Entails.of_eq (unscopedBufs_held (Ix := HIx 1) (Name := ℕ) (U := UU) (Lvl := ℕ) d (launchContents m d))) $$ Hbufs
  iapply (wp_seq 𝒱 none Set.univ d (ucRefs τ sig) (fun _ => callK d) (ops d ++ [rop]) (ops_bufs ops hl d) (ops_fresh ops hl d) (launchContents m d)) $$ [Hb Hbufs]
  · isplitl [Hb]; · iexact Hb
    iexact Hbufs
  iintro ⟨Hb, Hbufs⟩
  ihave Hbufs := (Entails.of_eq (show (held (d.tc : Thread nD τ) (ucRefs τ sig) (after (ops d ++ [rop]) (launchContents m d)) : sProp 𝕄)
      = iprop(held (d.tc : Thread nD τ) callRefs (VF m ops d) ∗ held (d.tc : Thread nD τ) (ucRefs τ sig \ callRefs) (VF m ops d)) from held_sub_split (Ix := HIx 1) (Name := ℕ) (U := UU) (Lvl := ℕ) (d.tc : Thread nD τ) callRefs_sub (VF m ops d))) $$ Hbufs
  icases Hbufs with ⟨Hc, -⟩
  ihave Hc := (Entails.of_eq ((held_call m ops hx d).trans (dPts_split (xV m) (jV' m ops) d (oV m ops d)))) $$ Hc
  simp only [callK, wp_bind, wp_pure]
  iapply ((K (F := F)).wp_run (D (F := F)) 𝒱 (EH := EH) (P := PP m ops) κ d 0) $$ [Hst Hc Hb Hts]
  isplitr; · iexact Hctx
  isplitl [Hst]; · iexact Hst
  isplitl [Hc]
  · iapply (Entails.of_eq (bigSep_cores (F := F) fun c => cPts (xV m) (jV' m ops) d c (oV m ops d)).symm)
    iexact Hc
  iintro ⟨Hst, Hdn⟩
  ihave Hdn := (Entails.of_eq (show (bigSep Finset.univ fun c : Fin ((K (F := F)).nCore 0) => (PP m ops).dn 0 d c)
      = dPts (xV m) (jV' m ops) d (res (xV m) (jV' m ops) d) from (bigSep_cores (F := F) fun c => cPts (xV m) (jV' m ops) d c (res (xV m) (jV' m ops) d)).trans
    (dPts_split (xV m) (jV' m ops) d (res (xV m) (jV' m ops) d)).symm)) $$ Hdn
  icases Hdn with ⟨Hx, -, Hu⟩
  imodintro
  isplitl [Hst]; · iexact Hst
  isplitr [Hb Hts]
  · isplitl [Hx]; · iexact Hx
    iexact Hu
  isplitl [Hb] <;> iassumption

def fq (d : Dev nD) (s' : Phys nD τ sig (Elt F)) : Prop :=
  s'.mem.mem (xLoc d) = m (xLoc d) ∧ s'.mem.mem (uLoc d) = res (xV m) (jV' m ops) d

set_option maxRecDepth 16384 in
theorem hfin (d : Dev nD) (s' : Phys nD τ sig (Elt F)) : iprop(FIN m ops d ∗ SI s') ⊢ (⌜fq m ops d s'⌝ : sProp 𝕄) := by
  iintro ⟨⟨Hx, Hu⟩, HSI⟩
  ihave H := (persistent_entails_right (SI_pointsTo_agree (st := s') (ℓ := xLoc d) (I := Finset.univ) (q := fullShare) (f := xV m d))) $$ [HSI Hx]
  · isplitl [HSI] <;> iassumption
  icases H with ⟨%h1, HSI, -⟩
  ihave H := (SI_pointsTo_agree (st := s') (ℓ := uLoc d) (I := Finset.univ) (q := fullShare) (f := res (xV m) (jV' m ops) d)) $$ [HSI Hu]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (xLoc c) = m (xLoc c) ∧ r.2.mem (uLoc c) = res (xV m) (jV' m ops) c) ∧ r.2.sem = fun _ => 0

/-- The kernel's run, from the host lines' operations, which leave the argument as it is and draw indices in range. -/
theorem run_main [∀ e, Nonempty (Elt F e)] (hl : ∀ d, Line (Pre.preK (F := F)) (ops d))
    (hx : ∀ d, VF m ops d (Proc.devRef .tc main_arg0) = m (xLoc d)) (hJ : ∀ d, InRows (jV' m ops d)) :
    θ_run (Cert.KernelIdeal.defs (F := F)) (Cert.KernelIdeal.threads (F := F)) ⟨m, fun _ => 0, ρ⟩ (QC m ops) :=
  SparseCore.Cfg.θ_run_sc_quiescent (K := K (F := F)) (D := D (F := F)) (𝒱 := 𝒱) (EH := EH) (P := PP m ops) (A := ∅) facts v₀
    (fun q hq => match q with | 0 => nomatch hq)
    (fun q _ => match q with | 0 => tileObl (xV m) (jV' m ops) (oV m ops) facts hJ)
    (fun q _ => match q with | 0 => SparseCore.Cfg.VecSplit.of_plain (vecSplit (xV m) (jV' m ops) (oV m ops)))
    m ρ main (fun _ => iprop(emp)) (FIN m ops) (u₀ (F := F)) (sep_elim_left.trans (hu₀ m ops)) (hmain m ρ ops hl hx) (fq m ops) (hfin m ops) (QC m ops)
    (fun _ h hz => ⟨h, hz⟩)

end Main

end Cert.Proof.K
-- ==== Proof.Solo.lean ====
/-
  One straight line of host operations alone: each writes the buffer next in place, so what was known of the buffers
  placed before stays known, and the value written is learnt.
-/
module

public import proofs.«01_k».proof.Proof.Sim

@[expose] public section

noncomputable section

namespace Cert.Proof.Sim

open Idealize.ShloMosaic Idealize.ShloMosaic.StableHlo Idealize.SL.Sem

variable {Val : EltTy → Type}
variable {nD : Nat} {τ : Topo} {sig : RefSig} {Λ : Labels}
variable {T Tx Ta Tb Tc Ty : BufTy}

/-- The program is a straight line that writes buffers from place `n` to place `m`, and turns `G` into `G'`. -/
def Solo (n m : ℕ) (G G' : Valuation τ sig Val → Prop) (p : Prog (TpuEff nD τ sig Val Λ .tc) PUnit) : Prop :=
  Below n G → Below m G' ∧ Run p G G'

/-- The buffer is placed at `n`; before `n`. -/
def Pl (n : ℕ) (y : TRef sig T) : Bool := Nat.beq (rk y.ref) n
def Lo (n : ℕ) (y : TRef sig T) : Bool := Nat.blt (rk y.ref) n

theorem Pl.eq {n : ℕ} {y : TRef sig T} (h : Pl n y = true) : rk y.ref = n := Nat.eq_of_beq_eq_true h
theorem Lo.lt {n : ℕ} {y : TRef sig T} (h : Lo n y = true) : rk y.ref < n := Nat.blt_eq.mp h

variable {n m l : ℕ} {G G' G'' : Valuation τ sig Val → Prop}
variable {p k : Prog (TpuEff nD τ sig Val Λ .tc) PUnit}

theorem solo_pure : Solo (nD := nD) (Λ := Λ) n n G G (pure ⟨⟩) := fun hB => ⟨hB, [], line_nil, fun _ h => h⟩

theorem solo_done (h : Nat.beq n m = true) : Solo (nD := nD) (Λ := Λ) n m G G (pure ⟨⟩) := by
  obtain rfl := Nat.eq_of_beq_eq_true h
  exact solo_pure

/-- A program, then the rest. -/
theorem solo_bind (h : Solo n l G G' p) (h' : Solo l m G' G'' k) : Solo n m G G'' (p >>= fun _ => k) := fun hB => by
  obtain ⟨h1, a, ha, hs⟩ := h hB
  obtain ⟨h3, b, hb, ht⟩ := h' h1
  refine ⟨h3, a ++ b, line_append ha hb, fun V hi => ?_⟩
  rw [after_append]
  exact ht _ (hs _ hi)

/-- What is known at the end, weakened. -/
theorem solo_post (h : Solo n m G G' p) (hB : Below m G' → Below m G'') (hG : ∀ V, G' V → G'' V) : Solo n m G G'' p := fun hb => by
  obtain ⟨h1, a, ha, hs⟩ := h hb
  exact ⟨hB h1, a, ha, fun V hi => hG _ (hs V hi)⟩

/-- One operation, whose value of the contents before it is learnt. -/
theorem solo_op {op : HloOp τ sig Val} {y : TRef sig T} {g : Valuation τ sig Val → T.Contents Val} (hd : Does op y g) (hy : Pl n y = true)
    (hg : ∀ V V' : Valuation τ sig Val, (∀ {T : BufTy} (a : TRef sig T), rk a.ref < n → get a V' = get a V) → g V' = g V)
    (hk : Solo (n + 1) m (fun V => G V ∧ get y V = g V) G'' k) :
    Solo n m G G'' ((hlo rfl op fun _ => .ret (⟨⟩ : PUnit) : Prog (TpuEff nD τ sig Val Λ .tc) PUnit) >>= fun _ => k) := fun hb => by
  have hy := Pl.eq hy
  obtain ⟨h3, b, hb1, ht⟩ := hk ((hb.mono (Nat.le_succ n)).and fun V V1 hv hq => by
    have hq : get y V = g V := hq
    show get y V1 = g V1
    rw [hv y (by rw [hy]; exact Nat.lt_succ_self n), hq]
    exact (hg V V1 fun a ha => hv a (ha.trans (Nat.lt_succ_self n))).symm)
  refine ⟨h3, op :: b, line_cons hd.bufs hd.fresh hb1, fun V hi => ?_⟩
  have hoff : ∀ {T : BufTy} (a : TRef sig T), rk a.ref < n → get a (op.result V) = get a V :=
    fun a ha => hd.off a V fun e => by rw [e, hy] at ha; exact Nat.lt_irrefl _ ha
  exact ht _ ⟨hb V _ hoff hi, (hd.here V).trans (hg V _ hoff).symm⟩

theorem solo_nullary {y : TRef sig Ty} {v : Ty.Contents Val} (hy : Pl n y = true)
    (hk : Solo (n + 1) m (fun V => G V ∧ get y V = v) G'' k) :
    Solo n m G G'' ((hlo rfl (TRef.nullary y v) fun _ => .ret (⟨⟩ : PUnit) : Prog (TpuEff nD τ sig Val Λ .tc) PUnit) >>= fun _ => k) :=
  solo_op (does_nullary y v) hy (fun _ _ _ => rfl) hk

theorem solo_unary {x : TRef sig Tx} {y : TRef sig Ty} {f : Tx.Contents Val → Ty.Contents Val} (hy : Pl n y = true) (hx : Lo n x = true)
    (hk : Solo (n + 1) m (fun V => G V ∧ get y V = f (get x V)) G'' k) :
    Solo n m G G'' ((hlo rfl (TRef.unary x y f) fun _ => .ret (⟨⟩ : PUnit) : Prog (TpuEff nD τ sig Val Λ .tc) PUnit) >>= fun _ => k) :=
  solo_op (does_unary x y f) hy (fun _ _ h => by rw [h x (Lo.lt hx)]) hk

theorem solo_binary {a : TRef sig Ta} {b : TRef sig Tb} {y : TRef sig Ty} {f : Ta.Contents Val → Tb.Contents Val → Ty.Contents Val}
    (hy : Pl n y = true) (ha : Lo n a = true) (hb : Lo n b = true)
    (hk : Solo (n + 1) m (fun V => G V ∧ get y V = f (get a V) (get b V)) G'' k) :
    Solo n m G G'' ((hlo rfl (TRef.binary a b y f) fun _ => .ret (⟨⟩ : PUnit) : Prog (TpuEff nD τ sig Val Λ .tc) PUnit) >>= fun _ => k) :=
  solo_op (does_binary a b y f) hy (fun _ _ h => by rw [h a (Lo.lt ha), h b (Lo.lt hb)]) hk

theorem solo_ternary {c : TRef sig Tc} {a : TRef sig Ta} {b : TRef sig Tb} {y : TRef sig Ty}
    {f : Tc.Contents Val → Ta.Contents Val → Tb.Contents Val → Ty.Contents Val}
    (hy : Pl n y = true) (hc : Lo n c = true) (ha : Lo n a = true) (hb : Lo n b = true)
    (hk : Solo (n + 1) m (fun V => G V ∧ get y V = f (get c V) (get a V) (get b V)) G'' k) :
    Solo n m G G'' ((hlo rfl (TRef.ternary c a b y f) fun _ => .ret (⟨⟩ : PUnit) : Prog (TpuEff nD τ sig Val Λ .tc) PUnit) >>= fun _ => k) :=
  solo_op (does_ternary c a b y f) hy (fun _ _ h => by rw [h c (Lo.lt hc), h a (Lo.lt ha), h b (Lo.lt hb)]) hk

theorem solo_reshape {x : TRef sig Tx} {y : TRef sig Ty} {he : Tx.elt = Ty.elt} {hn : Tx.shape.ShapeCasts Ty.shape}
    (hy : Pl n y = true) (hx : Lo n x = true) (hk : Solo (n + 1) m (fun V => G V ∧ get y V = recast he hn (get x V)) G'' k) :
    Solo n m G G'' ((hlo rfl (TRef.reshape x y he hn) fun _ => .ret (⟨⟩ : PUnit) : Prog (TpuEff nD τ sig Val Λ .tc) PUnit) >>= fun _ => k) :=
  solo_op (does_reshape x y he hn) hy (fun _ _ h => by rw [h x (Lo.lt hx)]) hk

/-- A buffer of its own type. -/
def own (r : Ref sig .tc) (h : r.space ≠ .host ∧ (Proc.devRef (τ := τ) .tc r).isScoped = false) : TRef sig r.ty := ⟨r, rfl, h.1, h.2⟩

/-- An operation on a family of buffers. -/
theorem does_nary {j : ℕ} (xs : Fin j → Ref sig .tc) (y : TRef sig Ty) (f : ((i : Fin j) → (xs i).ty.Contents Val) → Ty.Contents Val) (hxs hy) :
    Does (τ := τ) (nary xs y.ref (fun u => y.toBuf (f u)) hxs hy) y fun V => f fun i => get (own (τ := τ) (xs i) (hxs i)) V :=
  ⟨nary_bufs_sub .., rfl, fun V => by unfold get; rw [nary_result, TRef.ofBuf_toBuf]; rfl,
    fun a V h => by unfold get; exact congrArg _ (HloOp.result_of_not_mem _ _ (by rw [nary_writes, Finset.mem_singleton]; exact devRef_ne_of_ne h))⟩

theorem solo_nary {j : ℕ} {xs : Fin j → Ref sig .tc} {y : TRef sig Ty} {f : ((i : Fin j) → (xs i).ty.Contents Val) → Ty.Contents Val} {hxs hy}
    (hp : Pl n y = true) (hx : ∀ i, Nat.blt (rk (xs i)) n = true)
    (hk : Solo (n + 1) m (fun V => G V ∧ get y V = f fun i => get (own (τ := τ) (xs i) (hxs i)) V) G'' k) :
    Solo n m G G'' ((hlo rfl (nary xs y.ref (fun u => y.toBuf (f u)) hxs hy) fun _ => .ret (⟨⟩ : PUnit) :
      Prog (TpuEff nD τ sig Val Λ .tc) PUnit) >>= fun _ => k) :=
  solo_op (does_nary xs y f hxs hy) hp
    (fun _ _ h => congrArg f (funext fun i => h (own (τ := τ) (xs i) (hxs i)) (Nat.blt_eq.mp (hx i)))) hk

end Cert.Proof.Sim
-- ==== Proof.Take.lean ====
/-
  One chunk of the reference: 64 columns of the table sliced off, one row of the indices, and `jnp.take` of the one by the
  other. With every index below 8192 it fills no row, so the chunk's entry `(p, q)` is the table's entry at the row that
  index `p` names.
-/
module

public import proofs.«01_k».proof.Proof.Solo
public import proofs.«01_k».proof.ReferenceIdeal
public import proofs.«01_k».proof.Proof.Gen.ReferenceIdeal
public import Idealize.ShloMosaic.Lib.Routing.Ops
public import Idealize.ShloMosaic.Lib.ReduceAll
public import Idealize.ShloMosaic.Lib.WordCmp

@[expose] public section

noncomputable section

namespace Cert.Proof.Ref

open Cert.ReferenceIdeal Cert.ReferenceIdeal.Gen Cert.Proof.Sim
open Idealize.ShloMosaic Idealize.ShloMosaic.StableHlo Idealize.ShloMosaic.ValueIdx Idealize.SL.Sem

variable {F : FTy → Type} [FloatOps F]

/-- A program of the reference's. -/
abbrev PR (F : FTy → Type) [FloatOps F] : Type 1 :=
  Prog (TpuEff nD τ sig (Elt F) (Pipeline.Sig Λ₀ (Fin 0) fun p => (pcfgs (F := F) p).Adm) .tc) PUnit

/-! ## What `jnp.take` computes -/

/-- Indices below zero counted from the end. -/
def wrap (k : IVec S16384 32) : IVec S16384 32 :=
  select (cmpi .slt k (broadcastInDim S16384 ![] bcast_S_S16384 (constantI S_ 32 0#32)))
    (addi k (broadcastInDim S16384 ![] bcast_S_S16384 (constantI S_ 32 8192#32))) k

/-- They, as a column. -/
def colOf (k : IVec S16384 32) : IVec S16384x1 32 := broadcastInDim S16384x1 ![0] bcast_S16384_S16384x1_0 (wrap k)

/-- Which of them name a row. -/
def okOf (k : IVec S16384 32) : IVec S16384 1 :=
  Host.reduce IntOp.andi
    (andi (cmpi .sge (colOf k) (broadcastInDim S16384x1 ![] bcast_S_S16384x1 (constantI S_ 32 0#32)))
      (cmpi .sle (colOf k)
        (broadcastInDim S16384x1 ![0, 1] bcast_S1x1_S16384x1_0_1 (broadcastInDim S1x1 ![1] bcast_S1_S1x1_1 (constantI S1 32 8191#32)))))
    (constantI S_ 1 1#1) reducesTo_S16384x1_S16384_d1 h_S_

/-- `jnp.take(x, k, axis=0)`. -/
def takeOf (x : FVec F S8192x64 .f32) (k : IVec S16384 32) : FVec F S16384x64 .f32 :=
  select (broadcastInDim S16384x64 ![0] bcast_S16384_S16384x64_0 (okOf k))
    (Host.gather gather_S8192x64_S16384x1_S16384x64_1_0_n_n_0_1_164 x (colOf k))
    (broadcastInDim S16384x64 ![] bcast_S_S16384x64 (constant S_ .f32 0x7FC00000#32))

variable {k : IVec S16384 32}

/-- An index that names a row is left as it is. -/
theorem wrap_eq (h : ∀ i, (k i).toNat < 8192) : wrap k = k := by
  funext i
  show Scalar.select (IntOp.cmpi .slt (k i) 0#32) (IntOp.addi (k i) 8192#32) (k i) = k i
  rw [WordCmp.cmpi_slt_of_lt (by have := h i; show (k i).toNat < 2 ^ 31; omega) (by decide), decide_eq_false (by simp)]
  rfl

theorem colOf_eq (h : ∀ i, (k i).toNat < 8192) (j : S16384x1.Idx) : colOf k j = k (ix1 (j 0)) := by
  unfold colOf
  rw [wrap_eq h]
  refine congrArg k (funext fun a => ?_)
  match a with
  | ⟨0, _⟩ => rfl

/-- All of them name a row. -/
theorem okOf_eq (h : ∀ i, (k i).toNat < 8192) (i : S16384.Idx) : okOf k i = 1#1 := by
  refine Host.reduce_andi_one _ _ _ _ _ rfl fun j => ?_
  show IntOp.andi (IntOp.cmpi .sge (colOf k j) 0#32) (IntOp.cmpi .sle (colOf k j) 8191#32) = 1#1
  rw [colOf_eq h]
  have hk := h (ix1 (j 0))
  rw [WordCmp.cmpi_sge_of_lt (by show (k _).toNat < 2 ^ 31; omega) (by decide),
    WordCmp.cmpi_sle_of_lt (by show (k _).toNat < 2 ^ 31; omega) (by decide), decide_eq_true (by simp),
    decide_eq_true (by show (k _).toNat ≤ 8191; omega)]
  rfl

/-- The rows that the indices name. -/
theorem takeOf_eq (x : FVec F S8192x64 .f32) (h : ∀ i, (k i).toNat < 8192) (j : S16384x64.Idx) :
    takeOf x k j = x (ix2 (Fin.ofNat 8192 (k (ix1 (j 0))).toNat) (j 1)) := by
  have hc : broadcastInDim S16384x64 ![0] bcast_S16384_S16384x64_0 (okOf k) j = 1#1 := by
    unfold broadcastInDim
    exact okOf_eq h _
  unfold takeOf select
  rw [hc]
  refine (if_pos rfl).trans ?_
  rw [eq_ix2 j]
  refine Routing.gather_row gather_S8192x64_S16384x1_S16384x64_1_0_n_n_0_1_164 rfl rfl rfl rfl rfl x (colOf k) (j 0) (j 1) _ ?_ (by decide)
  rw [colOf_eq h]
  have hk := h (ix1 (j 0))
  refine BitVec.eq_of_toNat_eq ?_
  show (k (ix1 (j 0))).toNat = _
  rw [BitVec.toNat_ofNat, Fin.val_ofNat, Nat.mod_eq_of_lt hk, Nat.mod_eq_of_lt (by omega)]

/-! ## Its run -/

/-- The buffers of one call of `jnp.take` lie from place `n` on. -/
def AtTake (n : ℕ) (φ : fn_take.Bufs) : Bool :=
  Pl n φ.c && (Pl (n + 1) φ.v0 && (Pl (n + 2) φ.v1 && (Pl (n + 3) φ.c_0 && (Pl (n + 4) φ.v2 && (Pl (n + 5) φ.v3
    && (Pl (n + 6) φ.call0.v0 && (Pl (n + 7) φ.v5 && (Pl (n + 8) φ.c_1 && (Pl (n + 9) φ.c_2 && (Pl (n + 10) φ.v6
    && (Pl (n + 11) φ.v7 && (Pl (n + 12) φ.v8 && (Pl (n + 13) φ.v9 && (Pl (n + 14) φ.v10 && (Pl (n + 15) φ.v11
    && (Pl (n + 16) φ.c_3 && (Pl (n + 17) φ.v12 && (Pl (n + 18) φ.v13 && (Pl (n + 19) φ.v14 && (Pl (n + 20) φ.cst
    && (Pl (n + 21) φ.v15 && Pl (n + 22) φ.v16)))))))))))))))))))))

variable {n m : ℕ} {G G'' : Valuation τ sig (Elt F) → Prop}

theorem lo_of_pl {T : BufTy} {y : TRef sig T} {a b : ℕ} (h : Pl a y = true) (hl : a < b) : Lo b y = true := by
  have h := Pl.eq h
  exact Nat.blt_eq.mpr (by omega)

theorem lo_mono {T : BufTy} {y : TRef sig T} {a b : ℕ} (h : Lo a y = true) (hl : a ≤ b) : Lo b y = true :=
  Nat.blt_eq.mpr ((Lo.lt h).trans_le hl)

set_option maxHeartbeats 1000000 in
/-- One call of `jnp.take`. -/
theorem take_solo {a0 : TRef sig ⟨S8192x64, .f32⟩} {a1 : TRef sig ⟨S16384, .i32⟩} {φ : fn_take.Bufs} (h : AtTake n φ = true)
    (h0 : Lo n a0 = true) (h1 : Lo n a1 = true) :
    Solo n (n + 23) G (fun V => G V ∧ get φ.v16 V = takeOf (get a0 V) (get a1 V)) (fn_take.body (F := F) a0 a1 φ) := by
  unfold AtTake at h
  simp only [Bool.and_eq_true] at h
  obtain ⟨p0, p1, p2, p3, p4, p5, p6, p7, p8, p9, p10, p11, p12, p13, p14, p15, p16, p17, p18, p19, p20, p21, p22⟩ := h
  intro hB
  refine (?_ : Solo n (n + 23) G (fun V => G V ∧ get φ.v16 V = takeOf (get a0 V) (get a1 V)) (fn_take.body (F := F) a0 a1 φ)) hB
  have hend : Below (n + 23) G → Below (n + 23) fun V => G V ∧ get φ.v16 V = takeOf (get a0 V) (get a1 V) := fun _ V V' hv hg => by
    refine ⟨hB V V' (fun a ha => hv a (by omega)) hg.1, ?_⟩
    rw [hv _ (by rw [Pl.eq p22]; omega), hv _ (by have := Lo.lt h0; omega), hv _ (by have := Lo.lt h1; omega)]
    exact hg.2
  unfold fn_take.body fn_where.body
  simp only [bind_assoc, pure_bind]
  refine solo_nullary p0 (solo_unary p1 (lo_of_pl p0 (by omega)) (solo_binary p2 (lo_mono h1 (by omega)) (lo_of_pl p1 (by omega)) ?_))
  refine solo_nullary p3 (solo_unary p4 (lo_of_pl p3 (by omega)) (solo_binary p5 (lo_mono h1 (by omega)) (lo_of_pl p4 (by omega)) ?_))
  refine solo_ternary p6 (lo_of_pl p2 (by omega)) (lo_of_pl p5 (by omega)) (lo_mono h1 (by omega)) ?_
  refine solo_unary p7 (lo_of_pl p6 (by omega)) (solo_nullary p8 (solo_nullary p9 (solo_unary p10 (lo_of_pl p9 (by omega)) ?_)))
  refine solo_binary p11 (lo_of_pl p7 (by omega)) (lo_of_pl p10 (by omega)) (solo_unary p12 (lo_of_pl p8 (by omega)) ?_)
  refine solo_unary p13 (lo_of_pl p12 (by omega)) (solo_binary p14 (lo_of_pl p7 (by omega)) (lo_of_pl p13 (by omega)) ?_)
  refine solo_binary p15 (lo_of_pl p11 (by omega)) (lo_of_pl p14 (by omega)) (solo_nullary p16 ?_)
  refine solo_binary p17 (lo_of_pl p15 (by omega)) (lo_of_pl p16 (by omega)) ?_
  refine solo_binary p18 (lo_mono h0 (by omega)) (lo_of_pl p7 (by omega)) (solo_unary p19 (lo_of_pl p17 (by omega)) ?_)
  refine solo_nullary p20 (solo_unary p21 (lo_of_pl p20 (by omega)) ?_)
  refine solo_ternary p22 (lo_of_pl p19 (by omega)) (lo_of_pl p18 (by omega)) (lo_of_pl p21 (by omega)) (solo_post solo_pure (fun _ => hend (hB.mono (by omega))) ?_)
  rintro V ⟨⟨⟨⟨⟨⟨⟨⟨⟨⟨⟨⟨⟨⟨⟨⟨⟨⟨⟨⟨⟨⟨⟨hg, e0⟩, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩
  refine ⟨hg, ?_⟩
  rw [e0] at e1
  rw [e1] at e2
  rw [e3] at e4
  rw [e4] at e5
  rw [e2, e5] at e6
  rw [e6] at e7
  rw [e9] at e10
  rw [e7, e10] at e11
  rw [e8] at e12
  rw [e12] at e13
  rw [e7, e13] at e14
  rw [e11, e14] at e15
  rw [e15, e16] at e17
  rw [e7] at e18
  rw [e17] at e19
  rw [e20] at e21
  rw [e19, e18, e21] at e22
  exact e22

end Cert.Proof.Ref
-- ==== Proof.Chunk.lean ====
/-
  One chunk of the reference, its four lines as printed: what is known of the chunks made so far, and one more.
-/
module

public import proofs.«01_k».proof.Proof.Take

@[expose] public section

noncomputable section

namespace Cert.Proof.Ref

open Cert.ReferenceIdeal Cert.ReferenceIdeal.Gen Cert.Proof.Sim
open Idealize.ShloMosaic Idealize.ShloMosaic.StableHlo Idealize.ShloMosaic.ValueIdx Idealize.SL.Sem

variable {F : FTy → Type} [FloatOps F]

/-- Column `q` of the result at row `p`: the table's entry in that column, at the row that the index names. -/
def entry (X : FVec F S8192x2048 .f32) (J : IVec S32x16384 32) (p : Fin 16384) (q : ℕ) : F .f32 :=
  X (ix2 (Fin.ofNat 8192 (J (ix2 (Fin.ofNat 32 (q / 64)) p)).toNat) (Fin.ofNat 2048 q))

/-- Chunk `i` of the result. -/
def piece (X : FVec F S8192x2048 .f32) (J : IVec S32x16384 32) (i : ℕ) : FVec F S16384x64 .f32 :=
  fun j => entry X J (j 0) (64 * i + (j 1).val)

/-- What `jnp.take` makes of chunk `i` of the table and row `i` of the indices. -/
theorem take_slices (X : FVec F S8192x2048 .f32) (J : IVec S32x16384 32) (hJ : ∀ i, (J i).toNat < 8192) {i p q : ℕ} (hi : i < 32)
    (hp : p = 64 * i) (hq : q = i) (hs : S8192x2048.Slices ![0, p] S8192x64) (hs' : S32x16384.Slices ![q, 0] S1x16384)
    (hc : S1x16384.ShapeCasts S16384) :
    takeOf (extractStridedSlice S8192x64 ![0, p] X hs) (shapeCast S16384 (extractStridedSlice S1x16384 ![q, 0] J hs') hc) = piece X J i := by
  subst hp
  subst hq
  funext j
  rw [takeOf_eq _ (show ∀ r, ((shapeCast S16384 (extractStridedSlice S1x16384 ![q, 0] J hs') hc : IVec S16384 32) r).toNat < 8192 from
    fun r => by unfold shapeCast extractStridedSlice; exact hJ _)]
  have h1 : (j 1).val < 64 := (j 1).isLt
  have e : shapeCast S16384 (extractStridedSlice S1x16384 ![q, 0] J hs') hc (ix1 (j 0)) = J (ix2 (Fin.ofNat 32 q) (j 0)) := by
    rw [Routing.cast21 (a := 1) (b := 16384) (n := 16384) (extractStridedSlice S1x16384 ![q, 0] J hs') hc 0 (j 0) (j 0) (by simp)]
    unfold extractStridedSlice
    refine congrArg J (funext fun a => Fin.ext ?_)
    match a with
    | ⟨0, _⟩ => show q + 0 = q % 32; omega
    | ⟨1, _⟩ => show 0 + (j 0).val = (j 0).val; omega
  rw [e]
  unfold piece entry
  rw [show (64 * q + (j 1).val) / 64 = q by omega]
  unfold extractStridedSlice
  refine congrArg X (funext fun a => Fin.ext ?_)
  match a with
  | ⟨0, _⟩ => exact Nat.zero_add _
  | ⟨1, _⟩ => show 64 * q + (j 1).val = (64 * q + (j 1).val) % 2048; omega

/-! ## What is known after `i` chunks -/

abbrev rArg : TRef sig ⟨S16384x2048, .f32⟩ := .of main_arg0
abbrev rX : TRef sig ⟨S8192x2048, .f32⟩ := .of main_v0
abbrev rJ : TRef sig ⟨S32x16384, .i32⟩ := .of main_v11

/-- The argument, the table and the indices are as they were, and `i` chunks are made. -/
structure Made (A : FVec F S16384x2048 .f32) (X : FVec F S8192x2048 .f32) (J : IVec S32x16384 32) (i : ℕ)
    (V : Valuation τ sig (Elt F)) : Prop where
  arg : get rArg V = A
  table : get rX V = X
  index : get rJ V = J
  pieces : ∀ (k : ℕ) (a : TRef sig ⟨S16384x64, .f32⟩), k < i → rk a.ref = 1068 + 26 * k → get a V = piece X J k

variable {A : FVec F S16384x2048 .f32} {X : FVec F S8192x2048 .f32} {J : IVec S32x16384 32}

theorem rk_arg : rk rArg.ref = 1 := rfl
theorem rk_X : rk rX.ref = 2 := rfl
theorem rk_J : rk rJ.ref = 1042 := rfl

theorem made_below {n i : ℕ} (h : 1043 + 26 * i ≤ n) : Below n (Made (F := F) A X J i) := fun V V' hv hg =>
  { arg := by rw [hv _ (by rw [rk_arg]; omega), hg.arg]
    table := by rw [hv _ (by rw [rk_X]; omega), hg.table]
    index := by rw [hv _ (by rw [rk_J]; omega), hg.index]
    pieces := fun k a hk ha => by rw [hv _ (by omega), hg.pieces k a hk ha] }

/-- Two buffers of one type at one place are one. -/
theorem tref_eq {T : BufTy} {a b : TRef sig T} (h : rk a.ref = rk b.ref) (h0 : 0 < rk a.ref) : a = b := by
  have e := rk_inj h h0
  obtain ⟨a, _, _, _⟩ := a
  obtain ⟨b, _, _, _⟩ := b
  subst e
  rfl

variable {i m : ℕ} {G'' : Valuation τ sig (Elt F) → Prop} {k : PR F}

/-- One more chunk. -/
theorem chunk (hJ : ∀ i, (J i).toNat < 8192) {p q : ℕ} {hs : S8192x2048.Slices ![0, p] S8192x64} {hs' : S32x16384.Slices ![q, 0] S1x16384}
    {hc : S1x16384.ShapeCasts S16384} {x : TRef sig ⟨S8192x64, .f32⟩} {b : TRef sig ⟨S1x16384, .i32⟩} {c : TRef sig ⟨S16384, .i32⟩}
    {φ : fn_take.Bufs} (hi : Nat.blt i 32 = true) (hp : Nat.beq p (64 * i) = true) (hq : Nat.beq q i = true)
    (hx : Pl (1043 + 26 * i) x = true) (hb : Pl (1044 + 26 * i) b = true) (hc' : Pl (1045 + 26 * i) c = true)
    (hφ : AtTake (1046 + 26 * i) φ = true)
    (hk : Solo (1043 + 26 * (i + 1)) m (Made A X J (i + 1)) G'' k) :
    Solo (1043 + 26 * i) m (Made A X J i) G''
      ((hlo rfl (TRef.unary rX x (extractStridedSlice S8192x64 ![0, p] · hs)) fun _ => .ret (⟨⟩ : PUnit) : PR F) >>= fun _ =>
        (hlo rfl (TRef.unary rJ b (extractStridedSlice S1x16384 ![q, 0] · hs')) fun _ => .ret (⟨⟩ : PUnit) : PR F) >>= fun _ =>
          (hlo rfl (TRef.reshape b c rfl hc) fun _ => .ret (⟨⟩ : PUnit) : PR F) >>= fun _ =>
            fn_take.body (F := F) x c φ >>= fun _ => k) := by
  refine solo_unary hx (Nat.blt_eq.mpr (by rw [rk_X]; omega)) ?_
  refine solo_unary (show Pl (1043 + 26 * i + 1) b = true by rw [show 1043 + 26 * i + 1 = 1044 + 26 * i by omega]; exact hb)
    (Nat.blt_eq.mpr (by rw [rk_J]; omega)) ?_
  refine solo_reshape (show Pl (1043 + 26 * i + 1 + 1) c = true by rw [show 1043 + 26 * i + 1 + 1 = 1045 + 26 * i by omega]; exact hc')
    (lo_of_pl hb (by omega)) ?_
  refine solo_bind (l := 1043 + 26 * (i + 1)) (G' := Made A X J (i + 1)) ?_ hk
  have ht := take_solo (F := F) (n := 1046 + 26 * i) (a0 := x) (a1 := c) (G := fun V => ((Made A X J i V ∧
      get x V = extractStridedSlice S8192x64 ![0, p] (get rX V) hs) ∧ get b V = extractStridedSlice S1x16384 ![q, 0] (get rJ V) hs')
      ∧ get c V = recast (Tx := ⟨S1x16384, .i32⟩) (Ty := ⟨S16384, .i32⟩) rfl hc (get b V)) hφ (lo_of_pl hx (by omega)) (lo_of_pl hc' (by omega))
  rw [show 1046 + 26 * i + 23 = 1043 + 26 * (i + 1) by omega] at ht
  rw [show 1043 + 26 * i + 1 + 1 + 1 = 1046 + 26 * i by omega]
  refine solo_post ht (fun _ => made_below (by omega)) ?_
  rintro V ⟨⟨⟨⟨hm, e1⟩, e2⟩, e3⟩, e4⟩
  refine ⟨hm.arg, hm.table, hm.index, fun l a hl ha => ?_⟩
  rcases Nat.lt_succ_iff_lt_or_eq.mp hl with hl | rfl
  · exact hm.pieces l a hl ha
  · have h16 : rk φ.v16.ref = 1068 + 26 * l := by
      unfold AtTake at hφ
      simp only [Bool.and_eq_true] at hφ
      have := Pl.eq hφ.2.2.2.2.2.2.2.2.2.2.2.2.2.2.2.2.2.2.2.2.2.2
      omega
    rw [tref_eq (ha.trans h16.symm) (by omega), e4, e3, e2, e1, hm.table, hm.index]
    exact take_slices X J hJ (Nat.blt_eq.mp hi) (Nat.eq_of_beq_eq_true hp) (Nat.eq_of_beq_eq_true hq) hs hs' hc

end Cert.Proof.Ref
-- ==== Proof.RefMain.lean ====
/-
  The reference's lines, with its buffers as typed references: the table sliced off the argument, the draw of the indices,
  thirty-two chunks and the two concatenations that join them.
-/
module

public import proofs.«01_k».proof.Proof.Chunk
public import proofs.«01_k».proof.Proof.Head
public import Idealize.ShloMosaic.Lib.Pointwise.SelectCore

@[expose] public section

noncomputable section

namespace Cert.Proof.Ref

open Cert.ReferenceIdeal Cert.ReferenceIdeal.Gen Cert.Proof.Sim
open Idealize.ShloMosaic Idealize.ShloMosaic.StableHlo Idealize.ShloMosaic.ValueIdx Idealize.SL.Sem

variable {F : FTy → Type} [FloatOps F]

/-- The reference's first line: the table sliced off the argument. -/
abbrev opX : HloOp τ sig (Elt F) :=
  TRef.unary rArg rX (extractStridedSlice S8192x2048 ![0, 0] · slices_S16384x2048_S8192x2048_0_0)

/-- The reference's last lines: the chunks joined. -/
def endR : PR F := do
  hlo rfl (nary ![main_v15, main_v19, main_v23, main_v27, main_v31, main_v35, main_v39, main_v43, main_v47, main_v51, main_v55, main_v59, main_v63, main_v67, main_v71, main_v75] main_v140 (fun u => (concatenate S16384x1024 1 [⟨S16384x64, (u 0 : (⟨S16384x64, .f32⟩ : BufTy).Contents (Elt F))⟩, ⟨S16384x64, (u 1 : (⟨S16384x64, .f32⟩ : BufTy).Contents (Elt F))⟩, ⟨S16384x64, (u 2 : (⟨S16384x64, .f32⟩ : BufTy).Contents (Elt F))⟩, ⟨S16384x64, (u 3 : (⟨S16384x64, .f32⟩ : BufTy).Contents (Elt F))⟩, ⟨S16384x64, (u 4 : (⟨S16384x64, .f32⟩ : BufTy).Contents (Elt F))⟩, ⟨S16384x64, (u 5 : (⟨S16384x64, .f32⟩ : BufTy).Contents (Elt F))⟩, ⟨S16384x64, (u 6 : (⟨S16384x64, .f32⟩ : BufTy).Contents (Elt F))⟩, ⟨S16384x64, (u 7 : (⟨S16384x64, .f32⟩ : BufTy).Contents (Elt F))⟩, ⟨S16384x64, (u 8 : (⟨S16384x64, .f32⟩ : BufTy).Contents (Elt F))⟩, ⟨S16384x64, (u 9 : (⟨S16384x64, .f32⟩ : BufTy).Contents (Elt F))⟩, ⟨S16384x64, (u 10 : (⟨S16384x64, .f32⟩ : BufTy).Contents (Elt F))⟩, ⟨S16384x64, (u 11 : (⟨S16384x64, .f32⟩ : BufTy).Contents (Elt F))⟩, ⟨S16384x64, (u 12 : (⟨S16384x64, .f32⟩ : BufTy).Contents (Elt F))⟩, ⟨S16384x64, (u 13 : (⟨S16384x64, .f32⟩ : BufTy).Contents (Elt F))⟩, ⟨S16384x64, (u 14 : (⟨S16384x64, .f32⟩ : BufTy).Contents (Elt F))⟩, ⟨S16384x64, (u 15 : (⟨S16384x64, .f32⟩ : BufTy).Contents (Elt F))⟩] concatenates_S16384x64_S16384x64_S16384x64_S16384x64_S16384x64_S16384x64_S16384x64_S16384x64_S16384x64_S16384x64_S16384x64_S16384x64_S16384x64_S16384x64_S16384x64_S16384x64_S16384x1024_d1 : (⟨S16384x1024, .f32⟩ : BufTy).Contents (Elt F)))) (fun _ => .ret ⟨⟩)
  hlo rfl (nary ![main_v79, main_v83, main_v87, main_v91, main_v95, main_v99, main_v103, main_v107, main_v111, main_v115, main_v119, main_v123, main_v127, main_v131, main_v135, main_v139] main_v141 (fun u => (concatenate S16384x1024 1 [⟨S16384x64, (u 0 : (⟨S16384x64, .f32⟩ : BufTy).Contents (Elt F))⟩, ⟨S16384x64, (u 1 : (⟨S16384x64, .f32⟩ : BufTy).Contents (Elt F))⟩, ⟨S16384x64, (u 2 : (⟨S16384x64, .f32⟩ : BufTy).Contents (Elt F))⟩, ⟨S16384x64, (u 3 : (⟨S16384x64, .f32⟩ : BufTy).Contents (Elt F))⟩, ⟨S16384x64, (u 4 : (⟨S16384x64, .f32⟩ : BufTy).Contents (Elt F))⟩, ⟨S16384x64, (u 5 : (⟨S16384x64, .f32⟩ : BufTy).Contents (Elt F))⟩, ⟨S16384x64, (u 6 : (⟨S16384x64, .f32⟩ : BufTy).Contents (Elt F))⟩, ⟨S16384x64, (u 7 : (⟨S16384x64, .f32⟩ : BufTy).Contents (Elt F))⟩, ⟨S16384x64, (u 8 : (⟨S16384x64, .f32⟩ : BufTy).Contents (Elt F))⟩, ⟨S16384x64, (u 9 : (⟨S16384x64, .f32⟩ : BufTy).Contents (Elt F))⟩, ⟨S16384x64, (u 10 : (⟨S16384x64, .f32⟩ : BufTy).Contents (Elt F))⟩, ⟨S16384x64, (u 11 : (⟨S16384x64, .f32⟩ : BufTy).Contents (Elt F))⟩, ⟨S16384x64, (u 12 : (⟨S16384x64, .f32⟩ : BufTy).Contents (Elt F))⟩, ⟨S16384x64, (u 13 : (⟨S16384x64, .f32⟩ : BufTy).Contents (Elt F))⟩, ⟨S16384x64, (u 14 : (⟨S16384x64, .f32⟩ : BufTy).Contents (Elt F))⟩, ⟨S16384x64, (u 15 : (⟨S16384x64, .f32⟩ : BufTy).Contents (Elt F))⟩] concatenates_S16384x64_S16384x64_S16384x64_S16384x64_S16384x64_S16384x64_S16384x64_S16384x64_S16384x64_S16384x64_S16384x64_S16384x64_S16384x64_S16384x64_S16384x64_S16384x64_S16384x1024_d1 : (⟨S16384x1024, .f32⟩ : BufTy).Contents (Elt F)))) (fun _ => .ret ⟨⟩)
  hlo rfl (TRef.binary (.of main_v140 : TRef sig ⟨S16384x1024, .f32⟩) (.of main_v141 : TRef sig ⟨S16384x1024, .f32⟩) (.of main_v142 : TRef sig ⟨S16384x2048, .f32⟩) ((fun a b => concatenate S16384x2048 1 [⟨S16384x1024, a⟩, ⟨S16384x1024, b⟩] concatenates_S16384x1024_S16384x1024_S16384x2048_d1) : (⟨S16384x1024, .f32⟩ : BufTy).Contents (Elt F) → (⟨S16384x1024, .f32⟩ : BufTy).Contents (Elt F) → (⟨S16384x2048, .f32⟩ : BufTy).Contents (Elt F))) (fun _ => .ret ⟨⟩)
  pure ⟨⟩

/-- The reference's lines after the draw. -/
def tailR : PR F := do
  hlo rfl (TRef.unary rX (.of main_v12 : TRef sig ⟨S8192x64, .f32⟩) (extractStridedSlice S8192x64 ![0, 0] · slices_S8192x2048_S8192x64_0_0)) (fun _ => .ret ⟨⟩)
  hlo rfl (TRef.unary rJ (.of main_v13 : TRef sig ⟨S1x16384, .i32⟩) (extractStridedSlice S1x16384 ![0, 0] · slices_S32x16384_S1x16384_0_0)) (fun _ => .ret ⟨⟩)
  hlo rfl (TRef.reshape (.of main_v13 : TRef sig ⟨S1x16384, .i32⟩) (.of main_v14 : TRef sig ⟨S16384, .i32⟩) rfl shapeCasts_S1x16384_S16384) (fun _ => .ret ⟨⟩)
  fn_take.body (.of main_v12) (.of main_v14) main_call2
  hlo rfl (TRef.unary rX (.of main_v16 : TRef sig ⟨S8192x64, .f32⟩) (extractStridedSlice S8192x64 ![0, 64] · slices_S8192x2048_S8192x64_0_64)) (fun _ => .ret ⟨⟩)
  hlo rfl (TRef.unary rJ (.of main_v17 : TRef sig ⟨S1x16384, .i32⟩) (extractStridedSlice S1x16384 ![1, 0] · slices_S32x16384_S1x16384_1_0)) (fun _ => .ret ⟨⟩)
  hlo rfl (TRef.reshape (.of main_v17 : TRef sig ⟨S1x16384, .i32⟩) (.of main_v18 : TRef sig ⟨S16384, .i32⟩) rfl shapeCasts_S1x16384_S16384) (fun _ => .ret ⟨⟩)
  fn_take.body (.of main_v16) (.of main_v18) main_call3
  hlo rfl (TRef.unary rX (.of main_v20 : TRef sig ⟨S8192x64, .f32⟩) (extractStridedSlice S8192x64 ![0, 128] · slices_S8192x2048_S8192x64_0_128)) (fun _ => .ret ⟨⟩)
  hlo rfl (TRef.unary rJ (.of main_v21 : TRef sig ⟨S1x16384, .i32⟩) (extractStridedSlice S1x16384 ![2, 0] · slices_S32x16384_S1x16384_2_0)) (fun _ => .ret ⟨⟩)
  hlo rfl (TRef.reshape (.of main_v21 : TRef sig ⟨S1x16384, .i32⟩) (.of main_v22 : TRef sig ⟨S16384, .i32⟩) rfl shapeCasts_S1x16384_S16384) (fun _ => .ret ⟨⟩)
  fn_take.body (.of main_v20) (.of main_v22) main_call4
  hlo rfl (TRef.unary rX (.of main_v24 : TRef sig ⟨S8192x64, .f32⟩) (extractStridedSlice S8192x64 ![0, 192] · slices_S8192x2048_S8192x64_0_192)) (fun _ => .ret ⟨⟩)
  hlo rfl (TRef.unary rJ (.of main_v25 : TRef sig ⟨S1x16384, .i32⟩) (extractStridedSlice S1x16384 ![3, 0] · slices_S32x16384_S1x16384_3_0)) (fun _ => .ret ⟨⟩)
  hlo rfl (TRef.reshape (.of main_v25 : TRef sig ⟨S1x16384, .i32⟩) (.of main_v26 : TRef sig ⟨S16384, .i32⟩) rfl shapeCasts_S1x16384_S16384) (fun _ => .ret ⟨⟩)
  fn_take.body (.of main_v24) (.of main_v26) main_call5
  hlo rfl (TRef.unary rX (.of main_v28 : TRef sig ⟨S8192x64, .f32⟩) (extractStridedSlice S8192x64 ![0, 256] · slices_S8192x2048_S8192x64_0_256)) (fun _ => .ret ⟨⟩)
  hlo rfl (TRef.unary rJ (.of main_v29 : TRef sig ⟨S1x16384, .i32⟩) (extractStridedSlice S1x16384 ![4, 0] · slices_S32x16384_S1x16384_4_0)) (fun _ => .ret ⟨⟩)
  hlo rfl (TRef.reshape (.of main_v29 : TRef sig ⟨S1x16384, .i32⟩) (.of main_v30 : TRef sig ⟨S16384, .i32⟩) rfl shapeCasts_S1x16384_S16384) (fun _ => .ret ⟨⟩)
  fn_take.body (.of main_v28) (.of main_v30) main_call6
  hlo rfl (TRef.unary rX (.of main_v32 : TRef sig ⟨S8192x64, .f32⟩) (extractStridedSlice S8192x64 ![0, 320] · slices_S8192x2048_S8192x64_0_320)) (fun _ => .ret ⟨⟩)
  hlo rfl (TRef.unary rJ (.of main_v33 : TRef sig ⟨S1x16384, .i32⟩) (extractStridedSlice S1x16384 ![5, 0] · slices_S32x16384_S1x16384_5_0)) (fun _ => .ret ⟨⟩)
  hlo rfl (TRef.reshape (.of main_v33 : TRef sig ⟨S1x16384, .i32⟩) (.of main_v34 : TRef sig ⟨S16384, .i32⟩) rfl shapeCasts_S1x16384_S16384) (fun _ => .ret ⟨⟩)
  fn_take.body (.of main_v32) (.of main_v34) main_call7
  hlo rfl (TRef.unary rX (.of main_v36 : TRef sig ⟨S8192x64, .f32⟩) (extractStridedSlice S8192x64 ![0, 384] · slices_S8192x2048_S8192x64_0_384)) (fun _ => .ret ⟨⟩)
  hlo rfl (TRef.unary rJ (.of main_v37 : TRef sig ⟨S1x16384, .i32⟩) (extractStridedSlice S1x16384 ![6, 0] · slices_S32x16384_S1x16384_6_0)) (fun _ => .ret ⟨⟩)
  hlo rfl (TRef.reshape (.of main_v37 : TRef sig ⟨S1x16384, .i32⟩) (.of main_v38 : TRef sig ⟨S16384, .i32⟩) rfl shapeCasts_S1x16384_S16384) (fun _ => .ret ⟨⟩)
  fn_take.body (.of main_v36) (.of main_v38) main_call8
  hlo rfl (TRef.unary rX (.of main_v40 : TRef sig ⟨S8192x64, .f32⟩) (extractStridedSlice S8192x64 ![0, 448] · slices_S8192x2048_S8192x64_0_448)) (fun _ => .ret ⟨⟩)
  hlo rfl (TRef.unary rJ (.of main_v41 : TRef sig ⟨S1x16384, .i32⟩) (extractStridedSlice S1x16384 ![7, 0] · slices_S32x16384_S1x16384_7_0)) (fun _ => .ret ⟨⟩)
  hlo rfl (TRef.reshape (.of main_v41 : TRef sig ⟨S1x16384, .i32⟩) (.of main_v42 : TRef sig ⟨S16384, .i32⟩) rfl shapeCasts_S1x16384_S16384) (fun _ => .ret ⟨⟩)
  fn_take.body (.of main_v40) (.of main_v42) main_call9
  hlo rfl (TRef.unary rX (.of main_v44 : TRef sig ⟨S8192x64, .f32⟩) (extractStridedSlice S8192x64 ![0, 512] · slices_S8192x2048_S8192x64_0_512)) (fun _ => .ret ⟨⟩)
  hlo rfl (TRef.unary rJ (.of main_v45 : TRef sig ⟨S1x16384, .i32⟩) (extractStridedSlice S1x16384 ![8, 0] · slices_S32x16384_S1x16384_8_0)) (fun _ => .ret ⟨⟩)
  hlo rfl (TRef.reshape (.of main_v45 : TRef sig ⟨S1x16384, .i32⟩) (.of main_v46 : TRef sig ⟨S16384, .i32⟩) rfl shapeCasts_S1x16384_S16384) (fun _ => .ret ⟨⟩)
  fn_take.body (.of main_v44) (.of main_v46) main_call10
  hlo rfl (TRef.unary rX (.of main_v48 : TRef sig ⟨S8192x64, .f32⟩) (extractStridedSlice S8192x64 ![0, 576] · slices_S8192x2048_S8192x64_0_576)) (fun _ => .ret ⟨⟩)
  hlo rfl (TRef.unary rJ (.of main_v49 : TRef sig ⟨S1x16384, .i32⟩) (extractStridedSlice S1x16384 ![9, 0] · slices_S32x16384_S1x16384_9_0)) (fun _ => .ret ⟨⟩)
  hlo rfl (TRef.reshape (.of main_v49 : TRef sig ⟨S1x16384, .i32⟩) (.of main_v50 : TRef sig ⟨S16384, .i32⟩) rfl shapeCasts_S1x16384_S16384) (fun _ => .ret ⟨⟩)
  fn_take.body (.of main_v48) (.of main_v50) main_call11
  hlo rfl (TRef.unary rX (.of main_v52 : TRef sig ⟨S8192x64, .f32⟩) (extractStridedSlice S8192x64 ![0, 640] · slices_S8192x2048_S8192x64_0_640)) (fun _ => .ret ⟨⟩)
  hlo rfl (TRef.unary rJ (.of main_v53 : TRef sig ⟨S1x16384, .i32⟩) (extractStridedSlice S1x16384 ![10, 0] · slices_S32x16384_S1x16384_10_0)) (fun _ => .ret ⟨⟩)
  hlo rfl (TRef.reshape (.of main_v53 : TRef sig ⟨S1x16384, .i32⟩) (.of main_v54 : TRef sig ⟨S16384, .i32⟩) rfl shapeCasts_S1x16384_S16384) (fun _ => .ret ⟨⟩)
  fn_take.body (.of main_v52) (.of main_v54) main_call12
  hlo rfl (TRef.unary rX (.of main_v56 : TRef sig ⟨S8192x64, .f32⟩) (extractStridedSlice S8192x64 ![0, 704] · slices_S8192x2048_S8192x64_0_704)) (fun _ => .ret ⟨⟩)
  hlo rfl (TRef.unary rJ (.of main_v57 : TRef sig ⟨S1x16384, .i32⟩) (extractStridedSlice S1x16384 ![11, 0] · slices_S32x16384_S1x16384_11_0)) (fun _ => .ret ⟨⟩)
  hlo rfl (TRef.reshape (.of main_v57 : TRef sig ⟨S1x16384, .i32⟩) (.of main_v58 : TRef sig ⟨S16384, .i32⟩) rfl shapeCasts_S1x16384_S16384) (fun _ => .ret ⟨⟩)
  fn_take.body (.of main_v56) (.of main_v58) main_call13
  hlo rfl (TRef.unary rX (.of main_v60 : TRef sig ⟨S8192x64, .f32⟩) (extractStridedSlice S8192x64 ![0, 768] · slices_S8192x2048_S8192x64_0_768)) (fun _ => .ret ⟨⟩)
  hlo rfl (TRef.unary rJ (.of main_v61 : TRef sig ⟨S1x16384, .i32⟩) (extractStridedSlice S1x16384 ![12, 0] · slices_S32x16384_S1x16384_12_0)) (fun _ => .ret ⟨⟩)
  hlo rfl (TRef.reshape (.of main_v61 : TRef sig ⟨S1x16384, .i32⟩) (.of main_v62 : TRef sig ⟨S16384, .i32⟩) rfl shapeCasts_S1x16384_S16384) (fun _ => .ret ⟨⟩)
  fn_take.body (.of main_v60) (.of main_v62) main_call14
  hlo rfl (TRef.unary rX (.of main_v64 : TRef sig ⟨S8192x64, .f32⟩) (extractStridedSlice S8192x64 ![0, 832] · slices_S8192x2048_S8192x64_0_832)) (fun _ => .ret ⟨⟩)
  hlo rfl (TRef.unary rJ (.of main_v65 : TRef sig ⟨S1x16384, .i32⟩) (extractStridedSlice S1x16384 ![13, 0] · slices_S32x16384_S1x16384_13_0)) (fun _ => .ret ⟨⟩)
  hlo rfl (TRef.reshape (.of main_v65 : TRef sig ⟨S1x16384, .i32⟩) (.of main_v66 : TRef sig ⟨S16384, .i32⟩) rfl shapeCasts_S1x16384_S16384) (fun _ => .ret ⟨⟩)
  fn_take.body (.of main_v64) (.of main_v66) main_call15
  hlo rfl (TRef.unary rX (.of main_v68 : TRef sig ⟨S8192x64, .f32⟩) (extractStridedSlice S8192x64 ![0, 896] · slices_S8192x2048_S8192x64_0_896)) (fun _ => .ret ⟨⟩)
  hlo rfl (TRef.unary rJ (.of main_v69 : TRef sig ⟨S1x16384, .i32⟩) (extractStridedSlice S1x16384 ![14, 0] · slices_S32x16384_S1x16384_14_0)) (fun _ => .ret ⟨⟩)
  hlo rfl (TRef.reshape (.of main_v69 : TRef sig ⟨S1x16384, .i32⟩) (.of main_v70 : TRef sig ⟨S16384, .i32⟩) rfl shapeCasts_S1x16384_S16384) (fun _ => .ret ⟨⟩)
  fn_take.body (.of main_v68) (.of main_v70) main_call16
  hlo rfl (TRef.unary rX (.of main_v72 : TRef sig ⟨S8192x64, .f32⟩) (extractStridedSlice S8192x64 ![0, 960] · slices_S8192x2048_S8192x64_0_960)) (fun _ => .ret ⟨⟩)
  hlo rfl (TRef.unary rJ (.of main_v73 : TRef sig ⟨S1x16384, .i32⟩) (extractStridedSlice S1x16384 ![15, 0] · slices_S32x16384_S1x16384_15_0)) (fun _ => .ret ⟨⟩)
  hlo rfl (TRef.reshape (.of main_v73 : TRef sig ⟨S1x16384, .i32⟩) (.of main_v74 : TRef sig ⟨S16384, .i32⟩) rfl shapeCasts_S1x16384_S16384) (fun _ => .ret ⟨⟩)
  fn_take.body (.of main_v72) (.of main_v74) main_call17
  hlo rfl (TRef.unary rX (.of main_v76 : TRef sig ⟨S8192x64, .f32⟩) (extractStridedSlice S8192x64 ![0, 1024] · slices_S8192x2048_S8192x64_0_1024)) (fun _ => .ret ⟨⟩)
  hlo rfl (TRef.unary rJ (.of main_v77 : TRef sig ⟨S1x16384, .i32⟩) (extractStridedSlice S1x16384 ![16, 0] · slices_S32x16384_S1x16384_16_0)) (fun _ => .ret ⟨⟩)
  hlo rfl (TRef.reshape (.of main_v77 : TRef sig ⟨S1x16384, .i32⟩) (.of main_v78 : TRef sig ⟨S16384, .i32⟩) rfl shapeCasts_S1x16384_S16384) (fun _ => .ret ⟨⟩)
  fn_take.body (.of main_v76) (.of main_v78) main_call18
  hlo rfl (TRef.unary rX (.of main_v80 : TRef sig ⟨S8192x64, .f32⟩) (extractStridedSlice S8192x64 ![0, 1088] · slices_S8192x2048_S8192x64_0_1088)) (fun _ => .ret ⟨⟩)
  hlo rfl (TRef.unary rJ (.of main_v81 : TRef sig ⟨S1x16384, .i32⟩) (extractStridedSlice S1x16384 ![17, 0] · slices_S32x16384_S1x16384_17_0)) (fun _ => .ret ⟨⟩)
  hlo rfl (TRef.reshape (.of main_v81 : TRef sig ⟨S1x16384, .i32⟩) (.of main_v82 : TRef sig ⟨S16384, .i32⟩) rfl shapeCasts_S1x16384_S16384) (fun _ => .ret ⟨⟩)
  fn_take.body (.of main_v80) (.of main_v82) main_call19
  hlo rfl (TRef.unary rX (.of main_v84 : TRef sig ⟨S8192x64, .f32⟩) (extractStridedSlice S8192x64 ![0, 1152] · slices_S8192x2048_S8192x64_0_1152)) (fun _ => .ret ⟨⟩)
  hlo rfl (TRef.unary rJ (.of main_v85 : TRef sig ⟨S1x16384, .i32⟩) (extractStridedSlice S1x16384 ![18, 0] · slices_S32x16384_S1x16384_18_0)) (fun _ => .ret ⟨⟩)
  hlo rfl (TRef.reshape (.of main_v85 : TRef sig ⟨S1x16384, .i32⟩) (.of main_v86 : TRef sig ⟨S16384, .i32⟩) rfl shapeCasts_S1x16384_S16384) (fun _ => .ret ⟨⟩)
  fn_take.body (.of main_v84) (.of main_v86) main_call20
  hlo rfl (TRef.unary rX (.of main_v88 : TRef sig ⟨S8192x64, .f32⟩) (extractStridedSlice S8192x64 ![0, 1216] · slices_S8192x2048_S8192x64_0_1216)) (fun _ => .ret ⟨⟩)
  hlo rfl (TRef.unary rJ (.of main_v89 : TRef sig ⟨S1x16384, .i32⟩) (extractStridedSlice S1x16384 ![19, 0] · slices_S32x16384_S1x16384_19_0)) (fun _ => .ret ⟨⟩)
  hlo rfl (TRef.reshape (.of main_v89 : TRef sig ⟨S1x16384, .i32⟩) (.of main_v90 : TRef sig ⟨S16384, .i32⟩) rfl shapeCasts_S1x16384_S16384) (fun _ => .ret ⟨⟩)
  fn_take.body (.of main_v88) (.of main_v90) main_call21
  hlo rfl (TRef.unary rX (.of main_v92 : TRef sig ⟨S8192x64, .f32⟩) (extractStridedSlice S8192x64 ![0, 1280] · slices_S8192x2048_S8192x64_0_1280)) (fun _ => .ret ⟨⟩)
  hlo rfl (TRef.unary rJ (.of main_v93 : TRef sig ⟨S1x16384, .i32⟩) (extractStridedSlice S1x16384 ![20, 0] · slices_S32x16384_S1x16384_20_0)) (fun _ => .ret ⟨⟩)
  hlo rfl (TRef.reshape (.of main_v93 : TRef sig ⟨S1x16384, .i32⟩) (.of main_v94 : TRef sig ⟨S16384, .i32⟩) rfl shapeCasts_S1x16384_S16384) (fun _ => .ret ⟨⟩)
  fn_take.body (.of main_v92) (.of main_v94) main_call22
  hlo rfl (TRef.unary rX (.of main_v96 : TRef sig ⟨S8192x64, .f32⟩) (extractStridedSlice S8192x64 ![0, 1344] · slices_S8192x2048_S8192x64_0_1344)) (fun _ => .ret ⟨⟩)
  hlo rfl (TRef.unary rJ (.of main_v97 : TRef sig ⟨S1x16384, .i32⟩) (extractStridedSlice S1x16384 ![21, 0] · slices_S32x16384_S1x16384_21_0)) (fun _ => .ret ⟨⟩)
  hlo rfl (TRef.reshape (.of main_v97 : TRef sig ⟨S1x16384, .i32⟩) (.of main_v98 : TRef sig ⟨S16384, .i32⟩) rfl shapeCasts_S1x16384_S16384) (fun _ => .ret ⟨⟩)
  fn_take.body (.of main_v96) (.of main_v98) main_call23
  hlo rfl (TRef.unary rX (.of main_v100 : TRef sig ⟨S8192x64, .f32⟩) (extractStridedSlice S8192x64 ![0, 1408] · slices_S8192x2048_S8192x64_0_1408)) (fun _ => .ret ⟨⟩)
  hlo rfl (TRef.unary rJ (.of main_v101 : TRef sig ⟨S1x16384, .i32⟩) (extractStridedSlice S1x16384 ![22, 0] · slices_S32x16384_S1x16384_22_0)) (fun _ => .ret ⟨⟩)
  hlo rfl (TRef.reshape (.of main_v101 : TRef sig ⟨S1x16384, .i32⟩) (.of main_v102 : TRef sig ⟨S16384, .i32⟩) rfl shapeCasts_S1x16384_S16384) (fun _ => .ret ⟨⟩)
  fn_take.body (.of main_v100) (.of main_v102) main_call24
  hlo rfl (TRef.unary rX (.of main_v104 : TRef sig ⟨S8192x64, .f32⟩) (extractStridedSlice S8192x64 ![0, 1472] · slices_S8192x2048_S8192x64_0_1472)) (fun _ => .ret ⟨⟩)
  hlo rfl (TRef.unary rJ (.of main_v105 : TRef sig ⟨S1x16384, .i32⟩) (extractStridedSlice S1x16384 ![23, 0] · slices_S32x16384_S1x16384_23_0)) (fun _ => .ret ⟨⟩)
  hlo rfl (TRef.reshape (.of main_v105 : TRef sig ⟨S1x16384, .i32⟩) (.of main_v106 : TRef sig ⟨S16384, .i32⟩) rfl shapeCasts_S1x16384_S16384) (fun _ => .ret ⟨⟩)
  fn_take.body (.of main_v104) (.of main_v106) main_call25
  hlo rfl (TRef.unary rX (.of main_v108 : TRef sig ⟨S8192x64, .f32⟩) (extractStridedSlice S8192x64 ![0, 1536] · slices_S8192x2048_S8192x64_0_1536)) (fun _ => .ret ⟨⟩)
  hlo rfl (TRef.unary rJ (.of main_v109 : TRef sig ⟨S1x16384, .i32⟩) (extractStridedSlice S1x16384 ![24, 0] · slices_S32x16384_S1x16384_24_0)) (fun _ => .ret ⟨⟩)
  hlo rfl (TRef.reshape (.of main_v109 : TRef sig ⟨S1x16384, .i32⟩) (.of main_v110 : TRef sig ⟨S16384, .i32⟩) rfl shapeCasts_S1x16384_S16384) (fun _ => .ret ⟨⟩)
  fn_take.body (.of main_v108) (.of main_v110) main_call26
  hlo rfl (TRef.unary rX (.of main_v112 : TRef sig ⟨S8192x64, .f32⟩) (extractStridedSlice S8192x64 ![0, 1600] · slices_S8192x2048_S8192x64_0_1600)) (fun _ => .ret ⟨⟩)
  hlo rfl (TRef.unary rJ (.of main_v113 : TRef sig ⟨S1x16384, .i32⟩) (extractStridedSlice S1x16384 ![25, 0] · slices_S32x16384_S1x16384_25_0)) (fun _ => .ret ⟨⟩)
  hlo rfl (TRef.reshape (.of main_v113 : TRef sig ⟨S1x16384, .i32⟩) (.of main_v114 : TRef sig ⟨S16384, .i32⟩) rfl shapeCasts_S1x16384_S16384) (fun _ => .ret ⟨⟩)
  fn_take.body (.of main_v112) (.of main_v114) main_call27
  hlo rfl (TRef.unary rX (.of main_v116 : TRef sig ⟨S8192x64, .f32⟩) (extractStridedSlice S8192x64 ![0, 1664] · slices_S8192x2048_S8192x64_0_1664)) (fun _ => .ret ⟨⟩)
  hlo rfl (TRef.unary rJ (.of main_v117 : TRef sig ⟨S1x16384, .i32⟩) (extractStridedSlice S1x16384 ![26, 0] · slices_S32x16384_S1x16384_26_0)) (fun _ => .ret ⟨⟩)
  hlo rfl (TRef.reshape (.of main_v117 : TRef sig ⟨S1x16384, .i32⟩) (.of main_v118 : TRef sig ⟨S16384, .i32⟩) rfl shapeCasts_S1x16384_S16384) (fun _ => .ret ⟨⟩)
  fn_take.body (.of main_v116) (.of main_v118) main_call28
  hlo rfl (TRef.unary rX (.of main_v120 : TRef sig ⟨S8192x64, .f32⟩) (extractStridedSlice S8192x64 ![0, 1728] · slices_S8192x2048_S8192x64_0_1728)) (fun _ => .ret ⟨⟩)
  hlo rfl (TRef.unary rJ (.of main_v121 : TRef sig ⟨S1x16384, .i32⟩) (extractStridedSlice S1x16384 ![27, 0] · slices_S32x16384_S1x16384_27_0)) (fun _ => .ret ⟨⟩)
  hlo rfl (TRef.reshape (.of main_v121 : TRef sig ⟨S1x16384, .i32⟩) (.of main_v122 : TRef sig ⟨S16384, .i32⟩) rfl shapeCasts_S1x16384_S16384) (fun _ => .ret ⟨⟩)
  fn_take.body (.of main_v120) (.of main_v122) main_call29
  hlo rfl (TRef.unary rX (.of main_v124 : TRef sig ⟨S8192x64, .f32⟩) (extractStridedSlice S8192x64 ![0, 1792] · slices_S8192x2048_S8192x64_0_1792)) (fun _ => .ret ⟨⟩)
  hlo rfl (TRef.unary rJ (.of main_v125 : TRef sig ⟨S1x16384, .i32⟩) (extractStridedSlice S1x16384 ![28, 0] · slices_S32x16384_S1x16384_28_0)) (fun _ => .ret ⟨⟩)
  hlo rfl (TRef.reshape (.of main_v125 : TRef sig ⟨S1x16384, .i32⟩) (.of main_v126 : TRef sig ⟨S16384, .i32⟩) rfl shapeCasts_S1x16384_S16384) (fun _ => .ret ⟨⟩)
  fn_take.body (.of main_v124) (.of main_v126) main_call30
  hlo rfl (TRef.unary rX (.of main_v128 : TRef sig ⟨S8192x64, .f32⟩) (extractStridedSlice S8192x64 ![0, 1856] · slices_S8192x2048_S8192x64_0_1856)) (fun _ => .ret ⟨⟩)
  hlo rfl (TRef.unary rJ (.of main_v129 : TRef sig ⟨S1x16384, .i32⟩) (extractStridedSlice S1x16384 ![29, 0] · slices_S32x16384_S1x16384_29_0)) (fun _ => .ret ⟨⟩)
  hlo rfl (TRef.reshape (.of main_v129 : TRef sig ⟨S1x16384, .i32⟩) (.of main_v130 : TRef sig ⟨S16384, .i32⟩) rfl shapeCasts_S1x16384_S16384) (fun _ => .ret ⟨⟩)
  fn_take.body (.of main_v128) (.of main_v130) main_call31
  hlo rfl (TRef.unary rX (.of main_v132 : TRef sig ⟨S8192x64, .f32⟩) (extractStridedSlice S8192x64 ![0, 1920] · slices_S8192x2048_S8192x64_0_1920)) (fun _ => .ret ⟨⟩)
  hlo rfl (TRef.unary rJ (.of main_v133 : TRef sig ⟨S1x16384, .i32⟩) (extractStridedSlice S1x16384 ![30, 0] · slices_S32x16384_S1x16384_30_0)) (fun _ => .ret ⟨⟩)
  hlo rfl (TRef.reshape (.of main_v133 : TRef sig ⟨S1x16384, .i32⟩) (.of main_v134 : TRef sig ⟨S16384, .i32⟩) rfl shapeCasts_S1x16384_S16384) (fun _ => .ret ⟨⟩)
  fn_take.body (.of main_v132) (.of main_v134) main_call32
  hlo rfl (TRef.unary rX (.of main_v136 : TRef sig ⟨S8192x64, .f32⟩) (extractStridedSlice S8192x64 ![0, 1984] · slices_S8192x2048_S8192x64_0_1984)) (fun _ => .ret ⟨⟩)
  hlo rfl (TRef.unary rJ (.of main_v137 : TRef sig ⟨S1x16384, .i32⟩) (extractStridedSlice S1x16384 ![31, 0] · slices_S32x16384_S1x16384_31_0)) (fun _ => .ret ⟨⟩)
  hlo rfl (TRef.reshape (.of main_v137 : TRef sig ⟨S1x16384, .i32⟩) (.of main_v138 : TRef sig ⟨S16384, .i32⟩) rfl shapeCasts_S1x16384_S16384) (fun _ => .ret ⟨⟩)
  fn_take.body (.of main_v136) (.of main_v138) main_call33
  endR

set_option maxRecDepth 16384 in
set_option maxHeartbeats 4000000 in
/-- The reference's @main: the slice, the draw, the rest. -/
theorem main_eq (d : Dev nD) :
    main (F := F) d = ((hlo rfl (opX (F := F)) fun _ => .ret (⟨⟩ : PUnit) : PR F) >>= fun _ => Pre.preR (F := F) >>= fun _ => tailR) := by
  rw [← Pre.preR_bind]
  unfold main main_part0 main_part1 main_part2 tailR endR
  simp only [bind_assoc]
  rfl

end Cert.Proof.Ref
-- ==== Proof.RefTail.lean ====
/-
  The reference's lines after it has drawn the indices: thirty-two chunks, joined along the columns. Its result's entry
  `(p, q)` is the table's entry in column `q` at the row that the index of chunk `q / 64` at `p` names.
-/
module

public import proofs.«01_k».proof.Proof.RefMain
public import Idealize.ShloMosaic.Lib.Pointwise.SelectCore

@[expose] public section

noncomputable section

namespace Cert.Proof.Ref

open Cert.ReferenceIdeal Cert.ReferenceIdeal.Gen Cert.Proof.Sim
open Idealize.ShloMosaic Idealize.ShloMosaic.StableHlo Idealize.ShloMosaic.ValueIdx Idealize.SL.Sem

variable {F : FTy → Type} [FloatOps F]

/-- The chunks of the left half of the result, and of the right. -/
def partsA : Fin 16 → TRef sig ⟨S16384x64, .f32⟩ :=
  ![.of main_v15, .of main_v19, .of main_v23, .of main_v27, .of main_v31, .of main_v35, .of main_v39, .of main_v43, .of main_v47, .of main_v51, .of main_v55, .of main_v59, .of main_v63, .of main_v67, .of main_v71, .of main_v75]
def partsB : Fin 16 → TRef sig ⟨S16384x64, .f32⟩ :=
  ![.of main_v79, .of main_v83, .of main_v87, .of main_v91, .of main_v95, .of main_v99, .of main_v103, .of main_v107, .of main_v111, .of main_v115, .of main_v119, .of main_v123, .of main_v127, .of main_v131, .of main_v135, .of main_v139]

theorem partsA_rk : ∀ k : Fin 16, rk (partsA k).ref = 1068 + 26 * k.val := by decide +kernel
theorem partsB_rk : ∀ k : Fin 16, rk (partsB k).ref = 1068 + 26 * (16 + k.val) := by decide +kernel

/-- Sixteen chunks side by side. -/
theorem half_apply (X : FVec F S8192x2048 .f32) (J : IVec S32x16384 32) (o : ℕ)
    (h : Shape.Concatenates ((List.ofFn fun k : Fin 16 => (⟨S16384x64, piece X J (o + k.val)⟩ : (s : Shape) × (s.Idx → F .f32))).map (·.1)) S16384x1024 1)
    (j : S16384x1024.Idx) :
    concatenate S16384x1024 1 (List.ofFn fun k : Fin 16 => (⟨S16384x64, piece X J (o + k.val)⟩ : (s : Shape) × (s.Idx → F .f32))) h j
      = entry X J (j 0) (64 * o + (j 1).val) := by
  have hj : (j 1).val < 1024 := (j 1).isLt
  rw [concatenate_ofFn_apply (t := S16384x1024) (s₁ := S16384x64) 1 (fun k : Fin 16 => piece X J (o + k.val)) h rfl 64 rfl j
    ⟨(j 1).val / 64, by omega⟩ rfl (ValueIdx.ix2 (j 0) ⟨(j 1).val % 64, by omega⟩) rfl (fun b hb => by
      match b with
      | ⟨0, _⟩ => rfl
      | ⟨1, _⟩ => exact absurd rfl hb)]
  show entry X J (j 0) (64 * (o + (j 1).val / 64) + (j 1).val % 64) = _
  rw [show 64 * (o + (j 1).val / 64) + (j 1).val % 64 = 64 * o + (j 1).val by omega]

/-- The two halves side by side. -/
theorem whole_apply (X : FVec F S8192x2048 .f32) (J : IVec S32x16384 32) (u v : FVec F S16384x1024 .f32)
    (hu : ∀ j, u j = entry X J (j 0) (j 1).val) (hv : ∀ j, v j = entry X J (j 0) (1024 + (j 1).val))
    (h : Shape.Concatenates [S16384x1024, S16384x1024] S16384x2048 1) (j : S16384x2048.Idx) :
    concatenate S16384x2048 1 [⟨S16384x1024, u⟩, ⟨S16384x1024, v⟩] h j = entry X J (j 0) (j 1).val := by
  have hj : (j 1).val < 2048 := (j 1).isLt
  by_cases hl : (j 1).val < 1024
  · rw [concatenate_pair_apply_left (t := S16384x2048) (s₁ := S16384x1024) (s₂ := S16384x1024) 1 u v h j rfl (ValueIdx.ix2 (j 0) ⟨(j 1).val, hl⟩) (fun b => by
      match b with
      | ⟨0, _⟩ => rfl
      | ⟨1, _⟩ => rfl), hu]
  · rw [concatenate_pair_apply_right (t := S16384x2048) (s₁ := S16384x1024) (s₂ := S16384x1024) 1 u v h j rfl rfl (ValueIdx.ix2 (j 0) ⟨(j 1).val - 1024, by omega⟩)
      (fun b hb => by
        match b with
        | ⟨0, _⟩ => rfl
        | ⟨1, _⟩ => exact absurd rfl hb)
      (by show (j 1).val - 1024 + 1024 = (j 1).val; omega), hv]
    show entry X J (j 0) (1024 + ((j 1).val - 1024)) = _
    rw [show 1024 + ((j 1).val - 1024) = (j 1).val by omega]

abbrev rOut : TRef sig ⟨S16384x2048, .f32⟩ := .of main_v142

/-- What the reference ends with. -/
structure Final (A : FVec F S16384x2048 .f32) (X : FVec F S8192x2048 .f32) (J : IVec S32x16384 32) (V : Valuation τ sig (Elt F)) : Prop where
  arg : get rArg V = A
  out : get rOut V = fun j => entry X J (j 0) (j 1).val

variable {A : FVec F S16384x2048 .f32} {X : FVec F S8192x2048 .f32} {J : IVec S32x16384 32}

theorem final_below : Below 1878 (Final (F := F) A X J) := fun V V' hv hg =>
  { arg := by rw [hv _ (by decide +kernel), hg.arg]
    out := by rw [hv _ (by decide +kernel), hg.out] }

/-- A list of sixteen. -/
theorem sixteen {α : Type} (f : Fin 16 → α) :
    [f 0, f 1, f 2, f 3, f 4, f 5, f 6, f 7, f 8, f 9, f 10, f 11, f 12, f 13, f 14, f 15] = List.ofFn f := by
  simp only [List.ofFn_succ, List.ofFn_zero]
  rfl

/-- The left half holds the first sixteen chunks. -/
theorem left_eq {V : Valuation τ sig (Elt F)} (hm : Made A X J 32 V)
    (h : Shape.Concatenates ((List.ofFn fun k : Fin 16 => (⟨S16384x64, get (partsA k) V⟩ : (s : Shape) × (s.Idx → F .f32))).map (·.1)) S16384x1024 1) (j : S16384x1024.Idx) :
    concatenate S16384x1024 1 (List.ofFn fun k : Fin 16 => (⟨S16384x64, get (partsA k) V⟩ : (s : Shape) × (s.Idx → F .f32))) h j = entry X J (j 0) (j 1).val := by
  have e : (List.ofFn fun k : Fin 16 => (⟨S16384x64, get (partsA k) V⟩ : (s : Shape) × (s.Idx → F .f32)))
      = List.ofFn fun k : Fin 16 => ⟨S16384x64, piece X J (0 + k.val)⟩ :=
    congrArg List.ofFn (funext fun k => by rw [hm.pieces k.val (partsA k) (by omega) (partsA_rk k), Nat.zero_add])
  rw [concatenate_congr S16384x1024 1 e h (e ▸ h), half_apply]
  rw [show 64 * 0 + (j 1).val = (j 1).val by omega]

/-- The right half holds the last sixteen. -/
theorem right_eq {V : Valuation τ sig (Elt F)} (hm : Made A X J 32 V)
    (h : Shape.Concatenates ((List.ofFn fun k : Fin 16 => (⟨S16384x64, get (partsB k) V⟩ : (s : Shape) × (s.Idx → F .f32))).map (·.1)) S16384x1024 1) (j : S16384x1024.Idx) :
    concatenate S16384x1024 1 (List.ofFn fun k : Fin 16 => (⟨S16384x64, get (partsB k) V⟩ : (s : Shape) × (s.Idx → F .f32))) h j = entry X J (j 0) (1024 + (j 1).val) := by
  have e : (List.ofFn fun k : Fin 16 => (⟨S16384x64, get (partsB k) V⟩ : (s : Shape) × (s.Idx → F .f32)))
      = List.ofFn fun k : Fin 16 => ⟨S16384x64, piece X J (16 + k.val)⟩ :=
    congrArg List.ofFn (funext fun k => by rw [hm.pieces (16 + k.val) (partsB k) (by omega) (partsB_rk k)])
  rw [concatenate_congr S16384x1024 1 e h (e ▸ h), half_apply]

abbrev rA : TRef sig ⟨S16384x1024, .f32⟩ := .of main_v140
abbrev rB : TRef sig ⟨S16384x1024, .f32⟩ := .of main_v141

set_option maxRecDepth 16384 in
set_option maxHeartbeats 4000000 in
/-- The chunks joined. -/
theorem end_solo : Solo 1875 1878 (Made A X J 32) (Final A X J) (endR (F := F)) := by
  unfold endR
  refine solo_nary (y := rA) (Eq.refl true) (by decide +kernel) ?_
  refine solo_nary (y := rB) (Eq.refl true) (by decide +kernel) ?_
  refine solo_binary (Eq.refl true) (Eq.refl true) (Eq.refl true) ?_
  refine solo_post solo_pure (fun _ => final_below) ?_
  rintro V ⟨⟨⟨hm, ea⟩, eb⟩, eo⟩
  refine ⟨hm.arg, eo.trans (funext fun j => ?_)⟩
  have fa := sixteen fun k : Fin 16 => (⟨S16384x64, get (partsA k) V⟩ : (s : Shape) × (s.Idx → F .f32))
  have fb := sixteen fun k : Fin 16 => (⟨S16384x64, get (partsB k) V⟩ : (s : Shape) × (s.Idx → F .f32))
  have ha := concatenates_S16384x64_S16384x64_S16384x64_S16384x64_S16384x64_S16384x64_S16384x64_S16384x64_S16384x64_S16384x64_S16384x64_S16384x64_S16384x64_S16384x64_S16384x64_S16384x64_S16384x1024_d1
  have ga := concatenate_congr S16384x1024 1 fa ha (fa ▸ ha)
  have gb := concatenate_congr S16384x1024 1 fb ha (fb ▸ ha)
  have ea' := ea.trans ga
  have eb' := eb.trans gb
  exact whole_apply X J _ _ (fun i => (congrFun ea' i).trans (left_eq hm _ i)) (fun i => (congrFun eb' i).trans (right_eq hm _ i)) _ j

set_option maxRecDepth 16384 in
set_option maxHeartbeats 8000000 in
/-- The reference's lines after the draw, from the table and the indices, all below 8192. -/
theorem tail_solo (hJ : ∀ i, (J i).toNat < 8192) : Solo 1043 1878 (Made A X J 0) (Final A X J) (tailR (F := F)) := by
  unfold tailR
  refine (?_ : Solo (1043 + 26 * 0) 1878 (Made A X J 0) (Final A X J) _)
  repeat' (first | with_reducible refine chunk hJ ?_ ?_ ?_ ?_ ?_ ?_ ?_ ?_ | exact end_solo)
  all_goals exact Eq.refl true

end Cert.Proof.Ref
-- ==== Proof.RefRun.lean ====
/-
  The reference's whole run: the slice, the draw, the chunks. The machine comes to rest with the gathered table in the
  result's buffer and the argument as it was.
-/
module

public import proofs.«01_k».proof.Proof.RefTail

@[expose] public section

noncomputable section

namespace Cert.Proof.Ref

open Cert.ReferenceIdeal Cert.ReferenceIdeal.Gen Cert.Proof.Sim
open Idealize.ShloMosaic Idealize.ShloMosaic.StableHlo Idealize.ShloMosaic.ValueIdx Idealize.SL.Sem

variable {F : FTy → Type} [FloatOps F]

/-- The reference's program has no buffer of a scope, and no semaphore. -/
theorem no_scoped : (Finset.univ.filter fun b : Ref sig .tc => b.isScoped) = ∅ :=
  Finset.filter_eq_empty_iff.2 fun b _ => by
    obtain ⟨sp, i, h⟩ := b
    cases sp <;> first | exact Bool.noConfusion h | simp [Ref.isScoped, sig, RefSig.ofTc]

theorem no_sems : (Finset.univ.filter fun sm : SemLoc sig => sm.isScoped .tc) = ∅ := by decide

section Run

variable (m : (ℓ : Loc nD τ sig) → Buf (Elt F) ℓ) (ρ : Dev nD → PrngReg) (l' : Dev nD → List (HloOp τ sig (Elt F)))
variable (A : Dev nD → FVec F S16384x2048 .f32) (X : Dev nD → FVec F S8192x2048 .f32) (J : Dev nD → IVec S32x16384 32)

/-- What the reference's run ends with. -/
def QR : PUnit × MemSt nD τ sig (Elt F) → Prop := fun r =>
  (∀ c : Dev nD, r.2.mem ((c.tc : Thread nD τ).loc main_arg0) = A c
    ∧ r.2.mem ((c.tc : Thread nD τ).loc main_v142) = fun j : S16384x2048.Idx => entry (X c) (J c) (j 0) (j 1).val) ∧ r.2.sem = fun _ => 0

set_option maxRecDepth 16384 in
/-- The reference's run, from the operations of its draw, which leave the argument and the table as they are and draw
indices below 8192. -/
theorem run_ref (hl' : ∀ d, Line (Pre.preR (F := F)) (l' d))
    (hm : ∀ d, Made (A d) (X d) (J d) 0 (after (l' d) ((opX (F := F)).result (launchContents m d))))
    (hJ : ∀ d i, (J d i).toNat < 8192) :
    θ_run (Cert.ReferenceIdeal.defs (F := F)) (onTc (τ := τ) (main (F := F))) ⟨m, fun _ => 0, ρ⟩ (QR A X J) := by
  have ht : ∀ d, ∃ lt, Line (tailR (F := F)) lt ∧ ∀ V, Made (A d) (X d) (J d) 0 V → Final (A d) (X d) (J d) (after lt V) :=
    fun d => (tail_solo (F := F) (A := A d) (X := X d) (hJ d) (made_below (by decide))).2
  choose lt hlt hfin using ht
  have hall : ∀ d, Line (main (F := F) d) (opX (F := F) :: (l' d ++ lt d)) := fun d => by
    rw [main_eq]
    exact line_cons (unary_bufs_sub ..) rfl (line_append (hl' d) (hlt d))
  have run := run_seq no_scoped no_sems (Cert.ReferenceIdeal.defs (F := F)) (main (F := F)) (fun d => opX (F := F) :: (l' d ++ lt d))
    (fun d => (hall d).eq) (fun d => List.forall_iff_forall_mem.2 (hall d).bufs) m ρ (fun d => (hall d).fresh)
  refine (θ_run _ _ _).mono (fun r h => ?_) run
  refine ⟨fun c => ?_, sem_eq_zero_of_no_sems (by decide) r.2⟩
  have hF := hfin c _ (hm c)
  rw [← Sim.after_append] at hF
  exact ⟨(h c main_arg0).trans hF.arg, (h c main_v142).trans hF.out⟩

end Run

end Cert.Proof.Ref
-- ==== Proof.Top.lean ====
/-
  The claims: the kernel's run and the reference's end at rest, with the argument as it was, and with the same result.
-/
module

public import proofs.«01_k».proof.Defs
public import proofs.«01_k».proof.Proof.Main
public import proofs.«01_k».proof.Proof.RefRun
public import proofs.«01_k».proof.Proof.Gen.Kernel

@[expose] public section

noncomputable section

namespace Cert.Proof

open Idealize.ShloMosaic Idealize.ShloMosaic.StableHlo Idealize.SL.Sem
open Cert.Proof.Sim (get Line recast does_reshape does_unary rk Inv)

variable {F : FTy → Type} [FloatOps F]

abbrev kArg : TRef KernelIdeal.sig ⟨KernelIdeal.S16384x2048, .f32⟩ := .of KernelIdeal.main_arg0
abbrev kJ : TRef KernelIdeal.sig ⟨KernelIdeal.S32x16384, .i32⟩ := .of KernelIdeal.main_v10
abbrev kJ3 : TRef KernelIdeal.sig ⟨KernelIdeal.S32x128x128, .i32⟩ := .of KernelIdeal.main_v11

/-- The indices as the kernel reads them: thirty-two rows of 16384, each as 128 rows of 128. -/
abbrev fold3 (J : IVec KernelIdeal.S32x16384 32) : IVec KernelIdeal.S32x128x128 32 :=
  shapeCast KernelIdeal.S32x128x128 J KernelIdeal.Gen.shapeCasts_S32x16384_S32x128x128

theorem fold3_lt {J : IVec KernelIdeal.S32x16384 32} (h : ∀ i, (J i).toNat < 8192) : K.InRows (F := F) (fold3 J) :=
  fun _ => by unfold fold3 shapeCast; exact h _

/-- The table of the reference: the argument's first 8192 rows. -/
abbrev table (A : FVec F ReferenceIdeal.S16384x2048 .f32) : FVec F ReferenceIdeal.S8192x2048 .f32 :=
  extractStridedSlice ReferenceIdeal.S8192x2048 ![0, 0] A ReferenceIdeal.Gen.slices_S16384x2048_S8192x2048_0_0

/-- The kernel's gathered entry is the reference's. -/
theorem out_eq_entry (A : FVec F KernelIdeal.S16384x2048 .f32) (J : IVec KernelIdeal.S32x16384 32) (h : ∀ i, (J i).toNat < 8192)
    (p : Fin 16384) (q : Fin 2048) : K.out A (fold3 J) p.val q.val = Ref.entry (table A) J p q.val := by
  have hp := p.isLt
  have hq := q.isLt
  have e : fold3 J (ValueIdx.ix3 (Fin.ofNat 32 (q.val / 64)) (Fin.ofNat 128 (p.val / 128)) (Fin.ofNat 128 (p.val % 128)))
      = J (ValueIdx.ix2 (Fin.ofNat 32 (q.val / 64)) p) := by
    refine shapeCast_apply (s := KernelIdeal.S32x16384) (t := KernelIdeal.S32x128x128) J _ _ _ ?_
    rw [Shape.rowMajor_val_two, Shape.rowMajor_val_three]
    show q.val / 64 % 32 * 16384 + p.val = (q.val / 64 % 32 * 128 + p.val / 128 % 128) * 128 + p.val % 128 % 128
    omega
  unfold K.out K.X K.I Ref.entry
  rw [e]
  unfold table extractStridedSlice
  have hr := h (ValueIdx.ix2 (Fin.ofNat 32 (q.val / 64)) p)
  refine congrArg A (funext fun a => Fin.ext ?_)
  match a with
  | ⟨0, _⟩ =>
    show (J (ValueIdx.ix2 (Fin.ofNat 32 (q.val / 64)) p)).toNat % 16384 = 0 + (J (ValueIdx.ix2 (Fin.ofNat 32 (q.val / 64)) p)).toNat % 8192
    omega
  | ⟨1, _⟩ => exact (Nat.zero_add _).symm

theorem same_entries (A A' : FVec F KernelIdeal.S16384x2048 .f32) (e : A' = A) (J : IVec KernelIdeal.S32x16384 32) (h : ∀ i, (J i).toNat < 8192) :
    (fun i : KernelIdeal.S16384x2048.Idx => K.out A (fold3 J) (i 0).val (i 1).val)
      = fun j : ReferenceIdeal.S16384x2048.Idx => Ref.entry (table A') J (j 0) (j 1).val :=
  funext fun j => e ▸ out_eq_entry A J h (j 0) (j 1)

section Both

variable (m : (ℓ : Loc KernelIdeal.nD KernelIdeal.τ KernelIdeal.sig) → Buf (Elt F) ℓ)
variable (m' : (ℓ : Loc ReferenceIdeal.nD ReferenceIdeal.τ ReferenceIdeal.sig) → Buf (Elt F) ℓ)

/-- What the reference's buffers hold when its draw begins. -/
abbrev W0 (d : Dev ReferenceIdeal.nD) : Valuation ReferenceIdeal.τ ReferenceIdeal.sig (Elt F) :=
  (Ref.opX (F := F)).result (launchContents m' d)

/-- Both programs' runs: to rest, the arguments as they were, and the kernel's result gathered from its argument, the
reference's from its own, with the same indices. -/
theorem runs [∀ e, Nonempty (Elt F e)] (ρ : Dev KernelIdeal.nD → PrngReg) (ρ' : Dev ReferenceIdeal.nD → PrngReg) :
    ∃ J : Dev 1 → IVec KernelIdeal.S32x16384 32, (∀ d i, (J d i).toNat < 8192)
      ∧ θ_run (KernelIdeal.defs (F := F)) (KernelIdeal.threads (F := F)) ⟨m, fun _ => 0, ρ⟩ (fun r =>
          (∀ c, r.2.mem (K.xLoc c) = m (K.xLoc c) ∧ r.2.mem (K.uLoc c) = K.res (K.xV m) (fun d => fold3 (J d)) c) ∧ r.2.sem = fun _ => 0)
      ∧ θ_run (ReferenceIdeal.defs (F := F)) (onTc (τ := ReferenceIdeal.τ) (ReferenceIdeal.main (F := F))) ⟨m', fun _ => 0, ρ'⟩
          (Ref.QR (fun d => get Ref.rArg (launchContents m' d)) (fun d => table (get Ref.rArg (launchContents m' d))) J) := by
  have hh : ∀ d : Dev 1, ∃ l l', Line (Pre.preK (F := F)) l ∧ Line (Pre.preR (F := F)) l'
      ∧ Inv (launchContents m d) (W0 m' d) 1042 (Pre.Drawn Pre.Any) (after l (launchContents m d)) (after l' (W0 m' d)) :=
    fun d => Pre.heads_run _ _
  choose l l' hl hl' hi using hh
  have hd := does_reshape (τ := KernelIdeal.τ) (Val := Elt F) kJ kJ3 rfl KernelIdeal.Gen.shapeCasts_S32x16384_S32x128x128
  have hu := does_unary (τ := ReferenceIdeal.τ) (Val := Elt F) Ref.rArg Ref.rX
    (extractStridedSlice ReferenceIdeal.S8192x2048 ![0, 0] · ReferenceIdeal.Gen.slices_S16384x2048_S8192x2048_0_0)
  let J : Dev 1 → IVec KernelIdeal.S32x16384 32 := fun d => get kJ (after (l d) (launchContents m d))
  have hJ : ∀ d i, (J d i).toNat < 8192 := fun d => (hi d).holds.2
  have hj : K.jV' m l = fun d => fold3 (J d) := funext fun d => by
    show get kJ3 (after (l d ++ [K.rop]) (launchContents m d)) = _
    rw [Sim.after_append]
    exact hd.here _
  have hx : ∀ d, K.VF m l d (Proc.devRef .tc KernelIdeal.main_arg0) = m (K.xLoc d) := fun d => by
    show get kArg (after (l d ++ [K.rop]) (launchContents m d)) = get kArg (launchContents m d)
    rw [Sim.after_append]
    exact (hd.off kArg _ (by decide +kernel)).trans ((hi d).left kArg (by decide +kernel))
  refine ⟨J, hJ, ?_, ?_⟩
  · have run := K.run_main m ρ l hl hx (fun d => by rw [hj]; exact fold3_lt (F := F) (hJ d))
    unfold K.QC at run
    rw [hj] at run
    exact run
  · refine Ref.run_ref m' ρ' l' _ _ _ hl' (fun d => ?_) hJ
    exact
      { arg := ((hi d).right Ref.rArg (by decide +kernel)).trans (hu.off Ref.rArg _ (by decide +kernel))
        table := ((hi d).right Ref.rX (by decide +kernel)).trans (hu.here _)
        index := ((hi d).rel kJ Ref.rJ (by decide +kernel) (by decide +kernel) (by decide +kernel)).symm
        pieces := fun k _ hk => absurd hk (Nat.not_lt_zero k) }

end Both

/-! ## The claims -/

section Claims

variable [∀ e, Nonempty (Elt F e)]

/-- Some contents of every buffer. -/
def some' (nD : ℕ) (τ : Topo) (sig : RefSig) (ℓ : Loc nD τ sig) : Buf (Elt F) ℓ := fun _ => Classical.choice inferInstance

/-- The kernel ends at rest with its argument as it was, whatever its floats. -/
theorem kernel_frame (m : (ℓ : Loc KernelIdeal.nD KernelIdeal.τ KernelIdeal.sig) → Buf (Elt F) ℓ) (ρ : Dev KernelIdeal.nD → PrngReg) :
    θ_run (KernelIdeal.defs (F := F)) (KernelIdeal.threads (F := F)) ⟨m, fun _ => 0, ρ⟩ fun r =>
      (∀ c, r.2.mem (K.xLoc c) = m (K.xLoc c)) ∧ r.2.sem = fun _ => 0 := by
  obtain ⟨J, -, h, -⟩ := runs m (some' ReferenceIdeal.nD ReferenceIdeal.τ ReferenceIdeal.sig) ρ fun _ => Classical.choice inferInstance
  exact (θ_run _ _ _).mono (fun r h => ⟨fun c => (h.1 c).1, h.2⟩) h

set_option maxRecDepth 16384 in
set_option maxHeartbeats 8000000 in
theorem frame_Kernel : @quiescent_Kernel Kernel.Gen.facts := fun m g _ => kernel_frame (F := Bits) m g

theorem frame_KernelIdeal : @quiescent_KernelIdeal KernelIdeal.Gen.facts := fun m g _ => kernel_frame (F := Ideal) m g

theorem frame_ReferenceIdeal : @quiescent_ReferenceIdeal ReferenceIdeal.Gen.facts := fun m g _ => by
  obtain ⟨J, -, -, h⟩ := runs (F := Ideal) (some' KernelIdeal.nD KernelIdeal.τ KernelIdeal.sig) m (fun _ => Classical.choice inferInstance) g
  exact (θ_run _ _ _).mono (fun r h => ⟨fun c => (h.1 c).1, h.2⟩) h

/-- The kernel's result is the reference's. -/
theorem same_result : @algebraic_KernelIdeal_ReferenceIdeal KernelIdeal.Gen.facts ReferenceIdeal.Gen.facts := fun m g m' g' _ harg => by
  obtain ⟨J, hJ, h, h'⟩ := runs (F := Ideal) m m' g g'
  refine ⟨fun c => K.res (K.xV m) (fun d => fold3 (J d)) c, (θ_run _ _ _).mono (fun r h c => ⟨(h.1 c).2, (h.1 c).1⟩) h,
    (θ_run _ _ _).mono (fun r h c => ⟨(h.1 c).2.trans ?_, (h.1 c).1⟩) h'⟩
  have e : get Ref.rArg (launchContents m' c) = K.xV m c := harg c
  exact (same_entries _ _ e (J c) (hJ c)).symm

end Claims

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal

public import proofs.«01_k».proof.Proof.Top
public import Idealize.ShloMosaic.Adequacy
public import Idealize.ShloMosaic.Init

@[expose] public section

noncomputable section

namespace Cert.Proof

open Idealize.ShloMosaic Idealize.SL.Sem Cert.Kernel

/-- Every claim: the three frames, the idealised kernel preserved with no rewrite, and the kernel's result equal to the reference's. -/
theorem claim : Cert.Claim := ⟨Cert.Kernel.Gen.facts, Cert.KernelIdeal.Gen.facts, Cert.ReferenceIdeal.Gen.facts,
  frame_Kernel, frame_KernelIdeal, frame_ReferenceIdeal, trivial, same_result⟩

end Cert.Proof

end
